-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_1)) (v1 : (c : Dev Cert.Kernel4Ideal.nD) → Buf (Elt Ideal) ((c.tc : Thread Cert.Kernel4Ideal.nD Cert.Kernel4Ideal.τ).loc Cert.Kernel4Ideal.main_v0_2)) (v2 : (c : Dev Cert.Kernel4Ideal.nD) → Buf (Elt Ideal) ((c.tc : Thread Cert.Kernel4Ideal.nD Cert.Kernel4Ideal.τ).loc Cert.Kernel4Ideal.main_v0_3)) (v3 : (c : Dev Cert.Kernel4Ideal.nD) → Buf (Elt Ideal) ((c.tc : Thread Cert.Kernel4Ideal.nD Cert.Kernel4Ideal.τ).loc Cert.Kernel4Ideal.main_v0_4)) (v4 : (c : Dev Cert.Kernel4Ideal.nD) → Buf (Elt Ideal) ((c.tc : Thread Cert.Kernel4Ideal.nD Cert.Kernel4Ideal.τ).loc Cert.Kernel4Ideal.main_v0_5)) (v5 : (c : Dev Cert.Kernel4Ideal.nD) → Buf (Elt Ideal) ((c.tc : Thread Cert.Kernel4Ideal.nD Cert.Kernel4Ideal.τ).loc Cert.Kernel4Ideal.main_v0_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_1) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_v0_3) = v2 c
          ∧ r.2.mem ((c.tc : Thread Cert.Kernel4Ideal.nD Cert.Kernel4Ideal.τ).loc Cert.Kernel4Ideal.main_v0_4) = v3 c
          ∧ r.2.mem ((c.tc : Thread Cert.Kernel4Ideal.nD Cert.Kernel4Ideal.τ).loc Cert.Kernel4Ideal.main_v0_5) = v4 c
          ∧ r.2.mem ((c.tc : Thread Cert.Kernel4Ideal.nD Cert.Kernel4Ideal.τ).loc Cert.Kernel4Ideal.main_v0_6) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_v59) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_args.lean ====
abbrev S1 : Shape := ⟨1, ![1]⟩
abbrev S8x16x512x512 : Shape := ⟨4, ![8, 16, 512, 512]⟩
abbrev S8x8192x512 : Shape := ⟨3, ![8, 8192, 512]⟩
abbrev S8x32x512x256 : Shape := ⟨4, ![8, 32, 512, 256]⟩
abbrev S_ : Shape := ⟨0, ![]⟩

class Facts : Prop where
  bcast_S_S1 : S_.BroadcastsInDim S1 (![] : Fin 0 → Fin S1.rank)
  bitsLt_bf16_f32 : FTy.bits .bf16 < FTy.bits .f32
  bcast_S_S8x16x512x512 : S_.BroadcastsInDim S8x16x512x512 (![] : Fin 0 → Fin S8x16x512x512.rank)
  bcast_S_S8x8192x512 : S_.BroadcastsInDim S8x8192x512 (![] : Fin 0 → Fin S8x8192x512.rank)
  bcast_S_S8x32x512x256 : S_.BroadcastsInDim S8x32x512x256 (![] : Fin 0 → Fin S8x32x512x256.rank)

variable [Facts]

def fn {F : FTy → Type} [FloatOps F] (main_arg0 : FVec F S1 .f32) (main_arg1 : FVec F S8x16x512x512 .bf16) (main_arg2 : FVec F S8x8192x512 .bf16) (main_arg3 : FVec F S8x32x512x256 .bf16) : IVec S1 1 × IVec S8x16x512x512 1 × IVec S8x8192x512 1 × IVec S8x32x512x256 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S8x16x512x512 .f32 := (extf .f32 · bitsLt_bf16_f32) main_arg1
  let main_v4 : FVec F S8x16x512x512 .f32 := Host.absf main_v3
  let main_cst_0 : FVec F S_ .f32 := constant S_ .f32 0x7F800000#32
  let main_v5 : FVec F S8x16x512x512 .f32 := broadcastInDim S8x16x512x512 ![] bcast_S_S8x16x512x512 main_cst_0
  let main_v6 : IVec S8x16x512x512 1 := cmpf .olt main_v4 main_v5
  let main_v7 : FVec F S8x8192x512 .f32 := (extf .f32 · bitsLt_bf16_f32) main_arg2
  let main_v8 : FVec F S8x8192x512 .f32 := Host.absf main_v7
  let main_cst_1 : FVec F S_ .f32 := constant S_ .f32 0x7F800000#32
  let main_v9 : FVec F S8x8192x512 .f32 := broadcastInDim S8x8192x512 ![] bcast_S_S8x8192x512 main_cst_1
  let main_v10 : IVec S8x8192x512 1 := cmpf .olt main_v8 main_v9
  let main_v11 : FVec F S8x32x512x256 .f32 := (extf .f32 · bitsLt_bf16_f32) main_arg3
  let main_v12 : FVec F S8x32x512x256 .f32 := Host.absf main_v11
  let main_cst_2 : FVec F S_ .f32 := constant S_ .f32 0x7F800000#32
  let main_v13 : FVec F S8x32x512x256 .f32 := broadcastInDim S8x32x512x256 ![] bcast_S_S8x32x512x256 main_cst_2
  let main_v14 : IVec S8x32x512x256 1 := cmpf .olt main_v12 main_v13
  (main_v2, main_v6, main_v10, main_v14)
-- ==== Kernel.lean ====
abbrev S1 : Shape := ⟨1, ![1]⟩
abbrev S8x16x512x512 : Shape := ⟨4, ![8, 16, 512, 512]⟩
abbrev S8x8192x512 : Shape := ⟨3, ![8, 8192, 512]⟩
abbrev S8x32x512x256 : Shape := ⟨4, ![8, 32, 512, 256]⟩
abbrev S8x512x8192 : Shape := ⟨3, ![8, 512, 8192]⟩
abbrev S1x16x512x512 : Shape := ⟨4, ![1, 16, 512, 512]⟩
abbrev S1x8192x512 : Shape := ⟨3, ![1, 8192, 512]⟩
abbrev S1x32x512x256 : Shape := ⟨4, ![1, 32, 512, 256]⟩
abbrev S1x512x512 : Shape := ⟨3, ![1, 512, 512]⟩
abbrev S4x1x1024 : Shape := ⟨3, ![4, 1, 1024]⟩
abbrev S4x144x1024 : Shape := ⟨3, ![4, 144, 1024]⟩
abbrev S4x256x1024 : Shape := ⟨3, ![4, 256, 1024]⟩
abbrev S4x128x1024 : Shape := ⟨3, ![4, 128, 1024]⟩
abbrev S16x256 : Shape := ⟨2, ![16, 256]⟩
abbrev S1x1x128x512 : Shape := ⟨4, ![1, 1, 128, 512]⟩
abbrev S128x512 : Shape := ⟨2, ![128, 512]⟩
abbrev S128x1024 : Shape := ⟨2, ![128, 1024]⟩
abbrev S1x128x1024 : Shape := ⟨3, ![1, 128, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1x1x1024 : Shape := ⟨3, ![1, 1, 1024]⟩
abbrev S1x1024 : Shape := ⟨2, ![1, 1024]⟩
abbrev S1024 : Shape := ⟨1, ![1024]⟩
abbrev S1x1x128x256 : Shape := ⟨4, ![1, 1, 128, 256]⟩
abbrev S128x256 : Shape := ⟨2, ![128, 256]⟩
abbrev S144x256 : Shape := ⟨2, ![144, 256]⟩
abbrev S1x144x1024 : Shape := ⟨3, ![1, 144, 1024]⟩
abbrev S144x1024 : Shape := ⟨2, ![144, 1024]⟩
abbrev S1x128x256 : Shape := ⟨3, ![1, 128, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S512 : Shape := ⟨1, ![512]⟩
abbrev S1x512 : Shape := ⟨2, ![1, 512]⟩
abbrev S1x128x512 : Shape := ⟨3, ![1, 128, 512]⟩

abbrev nBuf : Space → Nat
  | .hbm => 5
  | .vmem => 10
  | .smem => 1
  | _ => 0

abbrev bufTy : (tb : Table) → Fin (tcTables nBuf tb) → BufTy
  | .hbm, ⟨0, _⟩ => ⟨S1, .f32⟩
  | .hbm, ⟨1, _⟩ => ⟨S8x16x512x512, .bf16⟩
  | .hbm, ⟨2, _⟩ => ⟨S8x8192x512, .bf16⟩
  | .hbm, ⟨3, _⟩ => ⟨S8x32x512x256, .bf16⟩
  | .hbm, ⟨4, _⟩ => ⟨S8x512x8192, .bf16⟩
  | .local _ .vmem, ⟨0, _⟩ => ⟨S1x16x512x512, .bf16⟩
  | .local _ .vmem, ⟨1, _⟩ => ⟨S1x8192x512, .bf16⟩
  | .local _ .vmem, ⟨2, _⟩ => ⟨S1x32x512x256, .bf16⟩
  | .local _ .vmem, ⟨3, _⟩ => ⟨S1x512x512, .bf16⟩
  | .local _ .vmem, ⟨4, _⟩ => ⟨S1x512x512, .bf16⟩
  | .local _ .vmem, ⟨5, _⟩ => ⟨S4x1x1024, .f32⟩
  | .local _ .vmem, ⟨6, _⟩ => ⟨S4x144x1024, .f32⟩
  | .local _ .vmem, ⟨7, _⟩ => ⟨S4x256x1024, .f32⟩
  | .local _ .vmem, ⟨8, _⟩ => ⟨S4x256x1024, .f32⟩
  | .local _ .vmem, ⟨9, _⟩ => ⟨S4x128x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨3, ![8, 1, 16], ![false, false, false]⟩

@[reducible] def k0_t1_loop (i : grid0.Coords) : Scf.Loop 32 :=
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_16 : BitVec 32 := 1#32
  ⟨c0_i32_14, v33, c1_i32_16⟩
def k0_mult1 (i : grid0.Coords) (k0_t1 : Fin (k0_t1_loop i).trips) : BitVec 32 :=
  let c2_i32_522 : BitVec 32 := 2#32
  let c4_i32_520 : BitVec 32 := 4#32
  let c0_i32_14 : BitVec 32 := 0#32
  let c1_i32_16 : BitVec 32 := 1#32
  let arg13 : BitVec 32 := Scf.iv c0_i32_14 c1_i32_16 k0_t1
  let v804 : BitVec 32 := Scalar.muli c4_i32_520 arg13
  let c0_i32_521 : BitVec 32 := 0#32
  let v805 : BitVec 32 := Scalar.addi v804 c0_i32_521
  let v806 : BitVec 32 := Scalar.muli c2_i32_522 v805
  let c1_i32_523 : BitVec 32 := 1#32
  let v807 : BitVec 32 := Scalar.addi v806 c1_i32_523
  let c256_i32_524 : BitVec 32 := 256#32
  let v808 : BitVec 32 := Scalar.muli v807 c256_i32_524
  v808
def k0_off1 (i : grid0.Coords) (k0_t1 : Fin (k0_t1_loop i).trips) (c0_i32_521 : BitVec 32) (c1_i32_523 : BitVec 32) : Fin 3 → Nat :=
  let c0_525 : Index := 0#32
  let c2_i32_522 : BitVec 32 := 2#32
  let c4_i32_520 : BitVec 32 := 4#32
  let c0_i32_14 : BitVec 32 := 0#32
  let c1_i32_16 : BitVec 32 := 1#32
  let arg13 : BitVec 32 := Scf.iv c0_i32_14 c1_i32_16 k0_t1
  let v804 : BitVec 32 := Scalar.muli c4_i32_520 arg13
  let v805 : BitVec 32 := Scalar.addi v804 c0_i32_521
  let v806 : BitVec 32 := Scalar.muli c2_i32_522 v805
  let v807 : BitVec 32 := Scalar.addi v806 c1_i32_523
  let c256_i32_524 : BitVec 32 := 256#32
  let v808 : BitVec 32 := Scalar.muli v807 c256_i32_524
  let v809 : BitVec 32 := v808
  let v810 : Index := Scalar.indexCast v809
  let c0_526 : Index := 0#32
  ![0, v810.toNat, 0]
def k0_off2 (i : grid0.Coords) (k0_t1 : Fin (k0_t1_loop i).trips) (c0_i32_521 : BitVec 32) : Fin 4 → Nat :=
  let c0_542 : Index := 0#32
  let c2_i32_534 : BitVec 32 := 2#32
  let c4_i32_520 : BitVec 32 := 4#32
  let c0_i32_14 : BitVec 32 := 0#32
  let c1_i32_16 : BitVec 32 := 1#32
  let arg13 : BitVec 32 := Scf.iv c0_i32_14 c1_i32_16 k0_t1
  let v804 : BitVec 32 := Scalar.muli c4_i32_520 arg13
  let v805 : BitVec 32 := Scalar.addi v804 c0_i32_521
  let v819 : BitVec 32 := Scalar.muli c2_i32_534 v805
  let v833 : Index := Scalar.indexCast v819
  let c0_543 : Index := 0#32
  let c0_544 : Index := 0#32
  ![0, v833.toNat, 0, 0]
def k0_mult2 (i : grid0.Coords) (k0_t1 : Fin (k0_t1_loop i).trips) : BitVec 32 :=
  let c2_i32_555 : BitVec 32 := 2#32
  let c4_i32_520 : BitVec 32 := 4#32
  let c0_i32_14 : BitVec 32 := 0#32
  let c1_i32_16 : BitVec 32 := 1#32
  let arg13 : BitVec 32 := Scf.iv c0_i32_14 c1_i32_16 k0_t1
  let v804 : BitVec 32 := Scalar.muli c4_i32_520 arg13
  let c0_i32_521 : BitVec 32 := 0#32
  let v805 : BitVec 32 := Scalar.addi v804 c0_i32_521
  let v849 : BitVec 32 := Scalar.muli c2_i32_555 v805
  let c2_i32_556 : BitVec 32 := 2#32
  let v850 : BitVec 32 := Scalar.addi v849 c2_i32_556
  let c256_i32_557 : BitVec 32 := 256#32
  let v851 : BitVec 32 := Scalar.muli v850 c256_i32_557
  v851
def k0_off3 (i : grid0.Coords) (k0_t1 : Fin (k0_t1_loop i).trips) (c0_i32_521 : BitVec 32) : Fin 4 → Nat :=
  let c0_576 : Index := 0#32
  let c2_i32_567 : BitVec 32 := 2#32
  let c4_i32_520 : BitVec 32 := 4#32
  let c0_i32_14 : BitVec 32 := 0#32
  let c1_i32_16 : BitVec 32 := 1#32
  let arg13 : BitVec 32 := Scf.iv c0_i32_14 c1_i32_16 k0_t1
  let v804 : BitVec 32 := Scalar.muli c4_i32_520 arg13
  let v805 : BitVec 32 := Scalar.addi v804 c0_i32_521
  let v862 : BitVec 32 := Scalar.muli c2_i32_567 v805
  let c1_i32_568 : BitVec 32 := 1#32
  let v863 : BitVec 32 := Scalar.addi v862 c1_i32_568
  let v877 : Index := Scalar.indexCast v863
  let c0_577 : Index := 0#32
  let c0_578 : Index := 0#32
  ![0, v877.toNat, 0, 0]
def k0_mult3 (i : grid0.Coords) (k0_t1 : Fin (k0_t1_loop i).trips) : BitVec 32 :=
  let c2_i32_591 : BitVec 32 := 2#32
  let c4_i32_589 : BitVec 32 := 4#32
  let c0_i32_14 : BitVec 32 := 0#32
  let c1_i32_16 : BitVec 32 := 1#32
  let arg13 : BitVec 32 := Scf.iv c0_i32_14 c1_i32_16 k0_t1
  let v893 : BitVec 32 := Scalar.muli c4_i32_589 arg13
  let c1_i32_590 : BitVec 32 := 1#32
  let v894 : BitVec 32 := Scalar.addi v893 c1_i32_590
  let v895 : BitVec 32 := Scalar.muli c2_i32_591 v894
  let c1_i32_592 : BitVec 32 := 1#32
  let v896 : BitVec 32 := Scalar.addi v895 c1_i32_592
  let c256_i32_593 : BitVec 32 := 256#32
  let v897 : BitVec 32 := Scalar.muli v896 c256_i32_593
  v897
def k0_mult4 (i : grid0.Coords) (k0_t1 : Fin (k0_t1_loop i).trips) : BitVec 32 :=
  let c2_i32_624 : BitVec 32 := 2#32
  let c4_i32_589 : BitVec 32 := 4#32
  let c0_i32_14 : BitVec 32 := 0#32
  let c1_i32_16 : BitVec 32 := 1#32
  let arg13 : BitVec 32 := Scf.iv c0_i32_14 c1_i32_16 k0_t1
  let v893 : BitVec 32 := Scalar.muli c4_i32_589 arg13
  let c1_i32_590 : BitVec 32 := 1#32
  let v894 : BitVec 32 := Scalar.addi v893 c1_i32_590
  let v938 : BitVec 32 := Scalar.muli c2_i32_624 v894
  let c2_i32_625 : BitVec 32 := 2#32
  let v939 : BitVec 32 := Scalar.addi v938 c2_i32_625
  let c256_i32_626 : BitVec 32 := 256#32
  let v940 : BitVec 32 := Scalar.muli v939 c256_i32_626
  v940
def k0_mult5 (i : grid0.Coords) (k0_t1 : Fin (k0_t1_loop i).trips) : BitVec 32 :=
  let c2_i32_660 : BitVec 32 := 2#32
  let c4_i32_658 : BitVec 32 := 4#32
  let c0_i32_14 : BitVec 32 := 0#32
  let c1_i32_16 : BitVec 32 := 1#32
  let arg13 : BitVec 32 := Scf.iv c0_i32_14 c1_i32_16 k0_t1
  let v982 : BitVec 32 := Scalar.muli c4_i32_658 arg13
  let c2_i32_659 : BitVec 32 := 2#32
  let v983 : BitVec 32 := Scalar.addi v982 c2_i32_659
  let v984 : BitVec 32 := Scalar.muli c2_i32_660 v983
  let c1_i32_661 : BitVec 32 := 1#32
  let v985 : BitVec 32 := Scalar.addi v984 c1_i32_661
  let c256_i32_662 : BitVec 32 := 256#32
  let v986 : BitVec 32 := Scalar.muli v985 c256_i32_662
  v986
def k0_mult6 (i : grid0.Coords) (k0_t1 : Fin (k0_t1_loop i).trips) : BitVec 32 :=
  let c2_i32_693 : BitVec 32 := 2#32
  let c4_i32_658 : BitVec 32 := 4#32
  let c0_i32_14 : BitVec 32 := 0#32
  let c1_i32_16 : BitVec 32 := 1#32
  let arg13 : BitVec 32 := Scf.iv c0_i32_14 c1_i32_16 k0_t1
  let v982 : BitVec 32 := Scalar.muli c4_i32_658 arg13
  let c2_i32_659 : BitVec 32 := 2#32
  let v983 : BitVec 32 := Scalar.addi v982 c2_i32_659
  let v1027 : BitVec 32 := Scalar.muli c2_i32_693 v983
  let c2_i32_694 : BitVec 32 := 2#32
  let v1028 : BitVec 32 := Scalar.addi v1027 c2_i32_694
  let c256_i32_695 : BitVec 32 := 256#32
  let v1029 : BitVec 32 := Scalar.muli v1028 c256_i32_695
  v1029
def k0_mult7 (i : grid0.Coords) (k0_t1 : Fin (k0_t1_loop i).trips) : BitVec 32 :=
  let c2_i32_728 : BitVec 32 := 2#32
  let c4_i32_727 : BitVec 32 := 4#32
  let c0_i32_14 : BitVec 32 := 0#32
  let c1_i32_16 : BitVec 32 := 1#32
  let arg13 : BitVec 32 := Scf.iv c0_i32_14 c1_i32_16 k0_t1
  let v1071 : BitVec 32 := Scalar.muli c4_i32_727 arg13
  let c3_i32 : BitVec 32 := 3#32
  let v1072 : BitVec 32 := Scalar.addi v1071 c3_i32
  let v1073 : BitVec 32 := Scalar.muli c2_i32_728 v1072
  let c1_i32_729 : BitVec 32 := 1#32
  let v1074 : BitVec 32 := Scalar.addi v1073 c1_i32_729
  let c256_i32_730 : BitVec 32 := 256#32
  let v1075 : BitVec 32 := Scalar.muli v1074 c256_i32_730
  v1075
def k0_mult8 (i : grid0.Coords) (k0_t1 : Fin (k0_t1_loop i).trips) : BitVec 32 :=
  let c2_i32_761 : BitVec 32 := 2#32
  let c4_i32_727 : BitVec 32 := 4#32
  let c0_i32_14 : BitVec 32 := 0#32
  let c1_i32_16 : BitVec 32 := 1#32
  let arg13 : BitVec 32 := Scf.iv c0_i32_14 c1_i32_16 k0_t1
  let v1071 : BitVec 32 := Scalar.muli c4_i32_727 arg13
  let c3_i32 : BitVec 32 := 3#32
  let v1072 : BitVec 32 := Scalar.addi v1071 c3_i32
  let v1116 : BitVec 32 := Scalar.muli c2_i32_761 v1072
  let c2_i32_762 : BitVec 32 := 2#32
  let v1117 : BitVec 32 := Scalar.addi v1116 c2_i32_762
  let c256_i32_763 : BitVec 32 := 256#32
  let v1118 : BitVec 32 := Scalar.muli v1117 c256_i32_763
  v1118
def k0_mult9 (i : grid0.Coords) (k0_t1 : Fin (k0_t1_loop i).trips) : BitVec 32 :=
  let c2_i32_797 : BitVec 32 := 2#32
  let c4_i32_795 : BitVec 32 := 4#32
  let c0_i32_14 : BitVec 32 := 0#32
  let c1_i32_16 : BitVec 32 := 1#32
  let arg13 : BitVec 32 := Scf.iv c0_i32_14 c1_i32_16 k0_t1
  let v1160 : BitVec 32 := Scalar.muli c4_i32_795 arg13
  let c0_i32_796 : BitVec 32 := 0#32
  let v1161 : BitVec 32 := Scalar.addi v1160 c0_i32_796
  let v1162 : BitVec 32 := Scalar.muli c2_i32_797 v1161
  let c1_i32_798 : BitVec 32 := 1#32
  let v1163 : BitVec 32 := Scalar.addi v1162 c1_i32_798
  let c256_i32_799 : BitVec 32 := 256#32
  let v1164 : BitVec 32 := Scalar.muli v1163 c256_i32_799
  v1164
def k0_off4 (i : grid0.Coords) (k0_t1 : Fin (k0_t1_loop i).trips) (c0_i32_796 : BitVec 32) (c1_i32_798 : BitVec 32) : Fin 3 → Nat :=
  let c0_800 : Index := 0#32
  let c2_i32_797 : BitVec 32 := 2#32
  let c4_i32_795 : BitVec 32 := 4#32
  let c0_i32_14 : BitVec 32 := 0#32
  let c1_i32_16 : BitVec 32 := 1#32
  let arg13 : BitVec 32 := Scf.iv c0_i32_14 c1_i32_16 k0_t1
  let v1160 : BitVec 32 := Scalar.muli c4_i32_795 arg13
  let v1161 : BitVec 32 := Scalar.addi v1160 c0_i32_796
  let v1162 : BitVec 32 := Scalar.muli c2_i32_797 v1161
  let v1163 : BitVec 32 := Scalar.addi v1162 c1_i32_798
  let c256_i32_799 : BitVec 32 := 256#32
  let v1164 : BitVec 32 := Scalar.muli v1163 c256_i32_799
  let v1165 : BitVec 32 := v1164
  let v1166 : Index := Scalar.indexCast v1165
  let c128_801 : Index := 128#32
  ![0, v1166.toNat, 128]
def k0_off5 (i : grid0.Coords) (k0_t1 : Fin (k0_t1_loop i).trips) (c0_i32_796 : BitVec 32) : Fin 4 → Nat :=
  let c0_817 : Index := 0#32
  let c2_i32_809 : BitVec 32 := 2#32
  let c4_i32_795 : BitVec 32 := 4#32
  let c0_i32_14 : BitVec 32 := 0#32
  let c1_i32_16 : BitVec 32 := 1#32
  let arg13 : BitVec 32 := Scf.iv c0_i32_14 c1_i32_16 k0_t1
  let v1160 : BitVec 32 := Scalar.muli c4_i32_795 arg13
  let v1161 : BitVec 32 := Scalar.addi v1160 c0_i32_796
  let v1175 : BitVec 32 := Scalar.muli c2_i32_809 v1161
  let v1189 : Index := Scalar.indexCast v1175
  let c128_818 : Index := 128#32
  let c0_819 : Index := 0#32
  ![0, v1189.toNat, 128, 0]
def k0_mult10 (i : grid0.Coords) (k0_t1 : Fin (k0_t1_loop i).trips) : BitVec 32 :=
  let c2_i32_830 : BitVec 32 := 2#32
  let c4_i32_795 : BitVec 32 := 4#32
  let c0_i32_14 : BitVec 32 := 0#32
  let c1_i32_16 : BitVec 32 := 1#32
  let arg13 : BitVec 32 := Scf.iv c0_i32_14 c1_i32_16 k0_t1
  let v1160 : BitVec 32 := Scalar.muli c4_i32_795 arg13
  let c0_i32_796 : BitVec 32 := 0#32
  let v1161 : BitVec 32 := Scalar.addi v1160 c0_i32_796
  let v1205 : BitVec 32 := Scalar.muli c2_i32_830 v1161
  let c2_i32_831 : BitVec 32 := 2#32
  let v1206 : BitVec 32 := Scalar.addi v1205 c2_i32_831
  let c256_i32_832 : BitVec 32 := 256#32
  let v1207 : BitVec 32 := Scalar.muli v1206 c256_i32_832
  v1207
def k0_off6 (i : grid0.Coords) (k0_t1 : Fin (k0_t1_loop i).trips) (c0_i32_796 : BitVec 32) : Fin 4 → Nat :=
  let c0_851 : Index := 0#32
  let c2_i32_842 : BitVec 32 := 2#32
  let c4_i32_795 : BitVec 32 := 4#32
  let c0_i32_14 : BitVec 32 := 0#32
  let c1_i32_16 : BitVec 32 := 1#32
  let arg13 : BitVec 32 := Scf.iv c0_i32_14 c1_i32_16 k0_t1
  let v1160 : BitVec 32 := Scalar.muli c4_i32_795 arg13
  let v1161 : BitVec 32 := Scalar.addi v1160 c0_i32_796
  let v1218 : BitVec 32 := Scalar.muli c2_i32_842 v1161
  let c1_i32_843 : BitVec 32 := 1#32
  let v1219 : BitVec 32 := Scalar.addi v1218 c1_i32_843
  let v1233 : Index := Scalar.indexCast v1219
  let c128_852 : Index := 128#32
  let c0_853 : Index := 0#32
  ![0, v1233.toNat, 128, 0]
def k0_mult11 (i : grid0.Coords) (k0_t1 : Fin (k0_t1_loop i).trips) : BitVec 32 :=
  let c2_i32_866 : BitVec 32 := 2#32
  let c4_i32_864 : BitVec 32 := 4#32
  let c0_i32_14 : BitVec 32 := 0#32
  let c1_i32_16 : BitVec 32 := 1#32
  let arg13 : BitVec 32 := Scf.iv c0_i32_14 c1_i32_16 k0_t1
  let v1249 : BitVec 32 := Scalar.muli c4_i32_864 arg13
  let c1_i32_865 : BitVec 32 := 1#32
  let v1250 : BitVec 32 := Scalar.addi v1249 c1_i32_865
  let v1251 : BitVec 32 := Scalar.muli c2_i32_866 v1250
  let c1_i32_867 : BitVec 32 := 1#32
  let v1252 : BitVec 32 := Scalar.addi v1251 c1_i32_867
  let c256_i32_868 : BitVec 32 := 256#32
  let v1253 : BitVec 32 := Scalar.muli v1252 c256_i32_868
  v1253
def k0_mult12 (i : grid0.Coords) (k0_t1 : Fin (k0_t1_loop i).trips) : BitVec 32 :=
  let c2_i32_899 : BitVec 32 := 2#32
  let c4_i32_864 : BitVec 32 := 4#32
  let c0_i32_14 : BitVec 32 := 0#32
  let c1_i32_16 : BitVec 32 := 1#32
  let arg13 : BitVec 32 := Scf.iv c0_i32_14 c1_i32_16 k0_t1
  let v1249 : BitVec 32 := Scalar.muli c4_i32_864 arg13
  let c1_i32_865 : BitVec 32 := 1#32
  let v1250 : BitVec 32 := Scalar.addi v1249 c1_i32_865
  let v1294 : BitVec 32 := Scalar.muli c2_i32_899 v1250
  let c2_i32_900 : BitVec 32 := 2#32
  let v1295 : BitVec 32 := Scalar.addi v1294 c2_i32_900
  let c256_i32_901 : BitVec 32 := 256#32
  let v1296 : BitVec 32 := Scalar.muli v1295 c256_i32_901
  v1296
def k0_mult13 (i : grid0.Coords) (k0_t1 : Fin (k0_t1_loop i).trips) : BitVec 32 :=
  let c2_i32_935 : BitVec 32 := 2#32
  let c4_i32_933 : BitVec 32 := 4#32
  let c0_i32_14 : BitVec 32 := 0#32
  let c1_i32_16 : BitVec 32 := 1#32
  let arg13 : BitVec 32 := Scf.iv c0_i32_14 c1_i32_16 k0_t1
  let v1338 : BitVec 32 := Scalar.muli c4_i32_933 arg13
  let c2_i32_934 : BitVec 32 := 2#32
  let v1339 : BitVec 32 := Scalar.addi v1338 c2_i32_934
  let v1340 : BitVec 32 := Scalar.muli c2_i32_935 v1339
  let c1_i32_936 : BitVec 32 := 1#32
  let v1341 : BitVec 32 := Scalar.addi v1340 c1_i32_936
  let c256_i32_937 : BitVec 32 := 256#32
  let v1342 : BitVec 32 := Scalar.muli v1341 c256_i32_937
  v1342
def k0_mult14 (i : grid0.Coords) (k0_t1 : Fin (k0_t1_loop i).trips) : BitVec 32 :=
  let c2_i32_968 : BitVec 32 := 2#32
  let c4_i32_933 : BitVec 32 := 4#32
  let c0_i32_14 : BitVec 32 := 0#32
  let c1_i32_16 : BitVec 32 := 1#32
  let arg13 : BitVec 32 := Scf.iv c0_i32_14 c1_i32_16 k0_t1
  let v1338 : BitVec 32 := Scalar.muli c4_i32_933 arg13
  let c2_i32_934 : BitVec 32 := 2#32
  let v1339 : BitVec 32 := Scalar.addi v1338 c2_i32_934
  let v1383 : BitVec 32 := Scalar.muli c2_i32_968 v1339
  let c2_i32_969 : BitVec 32 := 2#32
  let v1384 : BitVec 32 := Scalar.addi v1383 c2_i32_969
  let c256_i32_970 : BitVec 32 := 256#32
  let v1385 : BitVec 32 := Scalar.muli v1384 c256_i32_970
  v1385
def k0_mult15 (i : grid0.Coords) (k0_t1 : Fin (k0_t1_loop i).trips) : BitVec 32 :=
  let c2_i32_1004 : BitVec 32 := 2#32
  let c4_i32_1002 : BitVec 32 := 4#32
  let c0_i32_14 : BitVec 32 := 0#32
  let c1_i32_16 : BitVec 32 := 1#32
  let arg13 : BitVec 32 := Scf.iv c0_i32_14 c1_i32_16 k0_t1
  let v1427 : BitVec 32 := Scalar.muli c4_i32_1002 arg13
  let c3_i32_1003 : BitVec 32 := 3#32
  let v1428 : BitVec 32 := Scalar.addi v1427 c3_i32_1003
  let v1429 : BitVec 32 := Scalar.muli c2_i32_1004 v1428
  let c1_i32_1005 : BitVec 32 := 1#32
  let v1430 : BitVec 32 := Scalar.addi v1429 c1_i32_1005
  let c256_i32_1006 : BitVec 32 := 256#32
  let v1431 : BitVec 32 := Scalar.muli v1430 c256_i32_1006
  v1431
def k0_mult16 (i : grid0.Coords) (k0_t1 : Fin (k0_t1_loop i).trips) : BitVec 32 :=
  let c2_i32_1037 : BitVec 32 := 2#32
  let c4_i32_1002 : BitVec 32 := 4#32
  let c0_i32_14 : BitVec 32 := 0#32
  let c1_i32_16 : BitVec 32 := 1#32
  let arg13 : BitVec 32 := Scf.iv c0_i32_14 c1_i32_16 k0_t1
  let v1427 : BitVec 32 := Scalar.muli c4_i32_1002 arg13
  let c3_i32_1003 : BitVec 32 := 3#32
  let v1428 : BitVec 32 := Scalar.addi v1427 c3_i32_1003
  let v1472 : BitVec 32 := Scalar.muli c2_i32_1037 v1428
  let c2_i32_1038 : BitVec 32 := 2#32
  let v1473 : BitVec 32 := Scalar.addi v1472 c2_i32_1038
  let c256_i32_1039 : BitVec 32 := 256#32
  let v1474 : BitVec 32 := Scalar.muli v1473 c256_i32_1039
  v1474
def k0_mult17 (i : grid0.Coords) (k0_t1 : Fin (k0_t1_loop i).trips) : BitVec 32 :=
  let c2_i32_1073 : BitVec 32 := 2#32
  let c4_i32_1071 : BitVec 32 := 4#32
  let c0_i32_14 : BitVec 32 := 0#32
  let c1_i32_16 : BitVec 32 := 1#32
  let arg13 : BitVec 32 := Scf.iv c0_i32_14 c1_i32_16 k0_t1
  let v1516 : BitVec 32 := Scalar.muli c4_i32_1071 arg13
  let c0_i32_1072 : BitVec 32 := 0#32
  let v1517 : BitVec 32 := Scalar.addi v1516 c0_i32_1072
  let v1518 : BitVec 32 := Scalar.muli c2_i32_1073 v1517
  let c1_i32_1074 : BitVec 32 := 1#32
  let v1519 : BitVec 32 := Scalar.addi v1518 c1_i32_1074
  let c256_i32_1075 : BitVec 32 := 256#32
  let v1520 : BitVec 32 := Scalar.muli v1519 c256_i32_1075
  v1520
def k0_off7 (i : grid0.Coords) (k0_t1 : Fin (k0_t1_loop i).trips) (c0_i32_1072 : BitVec 32) (c1_i32_1074 : BitVec 32) : Fin 3 → Nat :=
  let c0_1076 : Index := 0#32
  let c2_i32_1073 : BitVec 32 := 2#32
  let c4_i32_1071 : BitVec 32 := 4#32
  let c0_i32_14 : BitVec 32 := 0#32
  let c1_i32_16 : BitVec 32 := 1#32
  let arg13 : BitVec 32 := Scf.iv c0_i32_14 c1_i32_16 k0_t1
  let v1516 : BitVec 32 := Scalar.muli c4_i32_1071 arg13
  let v1517 : BitVec 32 := Scalar.addi v1516 c0_i32_1072
  let v1518 : BitVec 32 := Scalar.muli c2_i32_1073 v1517
  let v1519 : BitVec 32 := Scalar.addi v1518 c1_i32_1074
  let c256_i32_1075 : BitVec 32 := 256#32
  let v1520 : BitVec 32 := Scalar.muli v1519 c256_i32_1075
  let v1521 : BitVec 32 := v1520
  let v1522 : Index := Scalar.indexCast v1521
  let c256_1077 : Index := 256#32
  ![0, v1522.toNat, 256]
def k0_off8 (i : grid0.Coords) (k0_t1 : Fin (k0_t1_loop i).trips) (c0_i32_1072 : BitVec 32) : Fin 4 → Nat :=
  let c0_1093 : Index := 0#32
  let c2_i32_1085 : BitVec 32 := 2#32
  let c4_i32_1071 : BitVec 32 := 4#32
  let c0_i32_14 : BitVec 32 := 0#32
  let c1_i32_16 : BitVec 32 := 1#32
  let arg13 : BitVec 32 := Scf.iv c0_i32_14 c1_i32_16 k0_t1
  let v1516 : BitVec 32 := Scalar.muli c4_i32_1071 arg13
  let v1517 : BitVec 32 := Scalar.addi v1516 c0_i32_1072
  let v1531 : BitVec 32 := Scalar.muli c2_i32_1085 v1517
  let v1545 : Index := Scalar.indexCast v1531
  let c256_1094 : Index := 256#32
  let c0_1095 : Index := 0#32
  ![0, v1545.toNat, 256, 0]
def k0_mult18 (i : grid0.Coords) (k0_t1 : Fin (k0_t1_loop i).trips) : BitVec 32 :=
  let c2_i32_1106 : BitVec 32 := 2#32
  let c4_i32_1071 : BitVec 32 := 4#32
  let c0_i32_14 : BitVec 32 := 0#32
  let c1_i32_16 : BitVec 32 := 1#32
  let arg13 : BitVec 32 := Scf.iv c0_i32_14 c1_i32_16 k0_t1
  let v1516 : BitVec 32 := Scalar.muli c4_i32_1071 arg13
  let c0_i32_1072 : BitVec 32 := 0#32
  let v1517 : BitVec 32 := Scalar.addi v1516 c0_i32_1072
  let v1561 : BitVec 32 := Scalar.muli c2_i32_1106 v1517
  let c2_i32_1107 : BitVec 32 := 2#32
  let v1562 : BitVec 32 := Scalar.addi v1561 c2_i32_1107
  let c256_i32_1108 : BitVec 32 := 256#32
  let v1563 : BitVec 32 := Scalar.muli v1562 c256_i32_1108
  v1563
def k0_off9 (i : grid0.Coords) (k0_t1 : Fin (k0_t1_loop i).trips) (c0_i32_1072 : BitVec 32) : Fin 4 → Nat :=
  let c0_1127 : Index := 0#32
  let c2_i32_1118 : BitVec 32 := 2#32
  let c4_i32_1071 : BitVec 32 := 4#32
  let c0_i32_14 : BitVec 32 := 0#32
  let c1_i32_16 : BitVec 32 := 1#32
  let arg13 : BitVec 32 := Scf.iv c0_i32_14 c1_i32_16 k0_t1
  let v1516 : BitVec 32 := Scalar.muli c4_i32_1071 arg13
  let v1517 : BitVec 32 := Scalar.addi v1516 c0_i32_1072
  let v1574 : BitVec 32 := Scalar.muli c2_i32_1118 v1517
  let c1_i32_1119 : BitVec 32 := 1#32
  let v1575 : BitVec 32 := Scalar.addi v1574 c1_i32_1119
  let v1589 : Index := Scalar.indexCast v1575
  let c256_1128 : Index := 256#32
  let c0_1129 : Index := 0#32
  ![0, v1589.toNat, 256, 0]
def k0_mult19 (i : grid0.Coords) (k0_t1 : Fin (k0_t1_loop i).trips) : BitVec 32 :=
  let c2_i32_1142 : BitVec 32 := 2#32
  let c4_i32_1140 : BitVec 32 := 4#32
  let c0_i32_14 : BitVec 32 := 0#32
  let c1_i32_16 : BitVec 32 := 1#32
  let arg13 : BitVec 32 := Scf.iv c0_i32_14 c1_i32_16 k0_t1
  let v1605 : BitVec 32 := Scalar.muli c4_i32_1140 arg13
  let c1_i32_1141 : BitVec 32 := 1#32
  let v1606 : BitVec 32 := Scalar.addi v1605 c1_i32_1141
  let v1607 : BitVec 32 := Scalar.muli c2_i32_1142 v1606
  let c1_i32_1143 : BitVec 32 := 1#32
  let v1608 : BitVec 32 := Scalar.addi v1607 c1_i32_1143
  let c256_i32_1144 : BitVec 32 := 256#32
  let v1609 : BitVec 32 := Scalar.muli v1608 c256_i32_1144
  v1609
def k0_mult20 (i : grid0.Coords) (k0_t1 : Fin (k0_t1_loop i).trips) : BitVec 32 :=
  let c2_i32_1175 : BitVec 32 := 2#32
  let c4_i32_1140 : BitVec 32 := 4#32
  let c0_i32_14 : BitVec 32 := 0#32
  let c1_i32_16 : BitVec 32 := 1#32
  let arg13 : BitVec 32 := Scf.iv c0_i32_14 c1_i32_16 k0_t1
  let v1605 : BitVec 32 := Scalar.muli c4_i32_1140 arg13
  let c1_i32_1141 : BitVec 32 := 1#32
  let v1606 : BitVec 32 := Scalar.addi v1605 c1_i32_1141
  let v1650 : BitVec 32 := Scalar.muli c2_i32_1175 v1606
  let c2_i32_1176 : BitVec 32 := 2#32
  let v1651 : BitVec 32 := Scalar.addi v1650 c2_i32_1176
  let c256_i32_1177 : BitVec 32 := 256#32
  let v1652 : BitVec 32 := Scalar.muli v1651 c256_i32_1177
  v1652
def k0_mult21 (i : grid0.Coords) (k0_t1 : Fin (k0_t1_loop i).trips) : BitVec 32 :=
  let c2_i32_1211 : BitVec 32 := 2#32
  let c4_i32_1209 : BitVec 32 := 4#32
  let c0_i32_14 : BitVec 32 := 0#32
  let c1_i32_16 : BitVec 32 := 1#32
  let arg13 : BitVec 32 := Scf.iv c0_i32_14 c1_i32_16 k0_t1
  let v1694 : BitVec 32 := Scalar.muli c4_i32_1209 arg13
  let c2_i32_1210 : BitVec 32 := 2#32
  let v1695 : BitVec 32 := Scalar.addi v1694 c2_i32_1210
  let v1696 : BitVec 32 := Scalar.muli c2_i32_1211 v1695
  let c1_i32_1212 : BitVec 32 := 1#32
  let v1697 : BitVec 32 := Scalar.addi v1696 c1_i32_1212
  let c256_i32_1213 : BitVec 32 := 256#32
  let v1698 : BitVec 32 := Scalar.muli v1697 c256_i32_1213
  v1698
def k0_mult22 (i : grid0.Coords) (k0_t1 : Fin (k0_t1_loop i).trips) : BitVec 32 :=
  let c2_i32_1244 : BitVec 32 := 2#32
  let c4_i32_1209 : BitVec 32 := 4#32
  let c0_i32_14 : BitVec 32 := 0#32
  let c1_i32_16 : BitVec 32 := 1#32
  let arg13 : BitVec 32 := Scf.iv c0_i32_14 c1_i32_16 k0_t1
  let v1694 : BitVec 32 := Scalar.muli c4_i32_1209 arg13
  let c2_i32_1210 : BitVec 32 := 2#32
  let v1695 : BitVec 32 := Scalar.addi v1694 c2_i32_1210
  let v1739 : BitVec 32 := Scalar.muli c2_i32_1244 v1695
  let c2_i32_1245 : BitVec 32 := 2#32
  let v1740 : BitVec 32 := Scalar.addi v1739 c2_i32_1245
  let c256_i32_1246 : BitVec 32 := 256#32
  let v1741 : BitVec 32 := Scalar.muli v1740 c256_i32_1246
  v1741
def k0_mult23 (i : grid0.Coords) (k0_t1 : Fin (k0_t1_loop i).trips) : BitVec 32 :=
  let c2_i32_1280 : BitVec 32 := 2#32
  let c4_i32_1278 : BitVec 32 := 4#32
  let c0_i32_14 : BitVec 32 := 0#32
  let c1_i32_16 : BitVec 32 := 1#32
  let arg13 : BitVec 32 := Scf.iv c0_i32_14 c1_i32_16 k0_t1
  let v1783 : BitVec 32 := Scalar.muli c4_i32_1278 arg13
  let c3_i32_1279 : BitVec 32 := 3#32
  let v1784 : BitVec 32 := Scalar.addi v1783 c3_i32_1279
  let v1785 : BitVec 32 := Scalar.muli c2_i32_1280 v1784
  let c1_i32_1281 : BitVec 32 := 1#32
  let v1786 : BitVec 32 := Scalar.addi v1785 c1_i32_1281
  let c256_i32_1282 : BitVec 32 := 256#32
  let v1787 : BitVec 32 := Scalar.muli v1786 c256_i32_1282
  v1787
def k0_mult24 (i : grid0.Coords) (k0_t1 : Fin (k0_t1_loop i).trips) : BitVec 32 :=
  let c2_i32_1313 : BitVec 32 := 2#32
  let c4_i32_1278 : BitVec 32 := 4#32
  let c0_i32_14 : BitVec 32 := 0#32
  let c1_i32_16 : BitVec 32 := 1#32
  let arg13 : BitVec 32 := Scf.iv c0_i32_14 c1_i32_16 k0_t1
  let v1783 : BitVec 32 := Scalar.muli c4_i32_1278 arg13
  let c3_i32_1279 : BitVec 32 := 3#32
  let v1784 : BitVec 32 := Scalar.addi v1783 c3_i32_1279
  let v1828 : BitVec 32 := Scalar.muli c2_i32_1313 v1784
  let c2_i32_1314 : BitVec 32 := 2#32
  let v1829 : BitVec 32 := Scalar.addi v1828 c2_i32_1314
  let c256_i32_1315 : BitVec 32 := 256#32
  let v1830 : BitVec 32 := Scalar.muli v1829 c256_i32_1315
  v1830
def k0_mult25 (i : grid0.Coords) (k0_t1 : Fin (k0_t1_loop i).trips) : BitVec 32 :=
  let c2_i32_1349 : BitVec 32 := 2#32
  let c4_i32_1347 : BitVec 32 := 4#32
  let c0_i32_14 : BitVec 32 := 0#32
  let c1_i32_16 : BitVec 32 := 1#32
  let arg13 : BitVec 32 := Scf.iv c0_i32_14 c1_i32_16 k0_t1
  let v1872 : BitVec 32 := Scalar.muli c4_i32_1347 arg13
  let c0_i32_1348 : BitVec 32 := 0#32
  let v1873 : BitVec 32 := Scalar.addi v1872 c0_i32_1348
  let v1874 : BitVec 32 := Scalar.muli c2_i32_1349 v1873
  let c1_i32_1350 : BitVec 32 := 1#32
  let v1875 : BitVec 32 := Scalar.addi v1874 c1_i32_1350
  let c256_i32_1351 : BitVec 32 := 256#32
  let v1876 : BitVec 32 := Scalar.muli v1875 c256_i32_1351
  v1876
def k0_off10 (i : grid0.Coords) (k0_t1 : Fin (k0_t1_loop i).trips) (c0_i32_1348 : BitVec 32) (c1_i32_1350 : BitVec 32) : Fin 3 → Nat :=
  let c0_1352 : Index := 0#32
  let c2_i32_1349 : BitVec 32 := 2#32
  let c4_i32_1347 : BitVec 32 := 4#32
  let c0_i32_14 : BitVec 32 := 0#32
  let c1_i32_16 : BitVec 32 := 1#32
  let arg13 : BitVec 32 := Scf.iv c0_i32_14 c1_i32_16 k0_t1
  let v1872 : BitVec 32 := Scalar.muli c4_i32_1347 arg13
  let v1873 : BitVec 32 := Scalar.addi v1872 c0_i32_1348
  let v1874 : BitVec 32 := Scalar.muli c2_i32_1349 v1873
  let v1875 : BitVec 32 := Scalar.addi v1874 c1_i32_1350
  let c256_i32_1351 : BitVec 32 := 256#32
  let v1876 : BitVec 32 := Scalar.muli v1875 c256_i32_1351
  let v1877 : BitVec 32 := v1876
  let v1878 : Index := Scalar.indexCast v1877
  let c384_1353 : Index := 384#32
  ![0, v1878.toNat, 384]
def k0_off11 (i : grid0.Coords) (k0_t1 : Fin (k0_t1_loop i).trips) (c0_i32_1348 : BitVec 32) : Fin 4 → Nat :=
  let c0_1369 : Index := 0#32
  let c2_i32_1361 : BitVec 32 := 2#32
  let c4_i32_1347 : BitVec 32 := 4#32
  let c0_i32_14 : BitVec 32 := 0#32
  let c1_i32_16 : BitVec 32 := 1#32
  let arg13 : BitVec 32 := Scf.iv c0_i32_14 c1_i32_16 k0_t1
  let v1872 : BitVec 32 := Scalar.muli c4_i32_1347 arg13
  let v1873 : BitVec 32 := Scalar.addi v1872 c0_i32_1348
  let v1887 : BitVec 32 := Scalar.muli c2_i32_1361 v1873
  let v1901 : Index := Scalar.indexCast v1887
  let c384_1370 : Index := 384#32
  let c0_1371 : Index := 0#32
  ![0, v1901.toNat, 384, 0]
def k0_mult26 (i : grid0.Coords) (k0_t1 : Fin (k0_t1_loop i).trips) : BitVec 32 :=
  let c2_i32_1382 : BitVec 32 := 2#32
  let c4_i32_1347 : BitVec 32 := 4#32
  let c0_i32_14 : BitVec 32 := 0#32
  let c1_i32_16 : BitVec 32 := 1#32
  let arg13 : BitVec 32 := Scf.iv c0_i32_14 c1_i32_16 k0_t1
  let v1872 : BitVec 32 := Scalar.muli c4_i32_1347 arg13
  let c0_i32_1348 : BitVec 32 := 0#32
  let v1873 : BitVec 32 := Scalar.addi v1872 c0_i32_1348
  let v1917 : BitVec 32 := Scalar.muli c2_i32_1382 v1873
  let c2_i32_1383 : BitVec 32 := 2#32
  let v1918 : BitVec 32 := Scalar.addi v1917 c2_i32_1383
  let c256_i32_1384 : BitVec 32 := 256#32
  let v1919 : BitVec 32 := Scalar.muli v1918 c256_i32_1384
  v1919
def k0_off12 (i : grid0.Coords) (k0_t1 : Fin (k0_t1_loop i).trips) (c0_i32_1348 : BitVec 32) : Fin 4 → Nat :=
  let c0_1403 : Index := 0#32
  let c2_i32_1394 : BitVec 32 := 2#32
  let c4_i32_1347 : BitVec 32 := 4#32
  let c0_i32_14 : BitVec 32 := 0#32
  let c1_i32_16 : BitVec 32 := 1#32
  let arg13 : BitVec 32 := Scf.iv c0_i32_14 c1_i32_16 k0_t1
  let v1872 : BitVec 32 := Scalar.muli c4_i32_1347 arg13
  let v1873 : BitVec 32 := Scalar.addi v1872 c0_i32_1348
  let v1930 : BitVec 32 := Scalar.muli c2_i32_1394 v1873
  let c1_i32_1395 : BitVec 32 := 1#32
  let v1931 : BitVec 32 := Scalar.addi v1930 c1_i32_1395
  let v1945 : Index := Scalar.indexCast v1931
  let c384_1404 : Index := 384#32
  let c0_1405 : Index := 0#32
  ![0, v1945.toNat, 384, 0]
def k0_mult27 (i : grid0.Coords) (k0_t1 : Fin (k0_t1_loop i).trips) : BitVec 32 :=
  let c2_i32_1418 : BitVec 32 := 2#32
  let c4_i32_1416 : BitVec 32 := 4#32
  let c0_i32_14 : BitVec 32 := 0#32
  let c1_i32_16 : BitVec 32 := 1#32
  let arg13 : BitVec 32 := Scf.iv c0_i32_14 c1_i32_16 k0_t1
  let v1961 : BitVec 32 := Scalar.muli c4_i32_1416 arg13
  let c1_i32_1417 : BitVec 32 := 1#32
  let v1962 : BitVec 32 := Scalar.addi v1961 c1_i32_1417
  let v1963 : BitVec 32 := Scalar.muli c2_i32_1418 v1962
  let c1_i32_1419 : BitVec 32 := 1#32
  let v1964 : BitVec 32 := Scalar.addi v1963 c1_i32_1419
  let c256_i32_1420 : BitVec 32 := 256#32
  let v1965 : BitVec 32 := Scalar.muli v1964 c256_i32_1420
  v1965
def k0_mult28 (i : grid0.Coords) (k0_t1 : Fin (k0_t1_loop i).trips) : BitVec 32 :=
  let c2_i32_1451 : BitVec 32 := 2#32
  let c4_i32_1416 : BitVec 32 := 4#32
  let c0_i32_14 : BitVec 32 := 0#32
  let c1_i32_16 : BitVec 32 := 1#32
  let arg13 : BitVec 32 := Scf.iv c0_i32_14 c1_i32_16 k0_t1
  let v1961 : BitVec 32 := Scalar.muli c4_i32_1416 arg13
  let c1_i32_1417 : BitVec 32 := 1#32
  let v1962 : BitVec 32 := Scalar.addi v1961 c1_i32_1417
  let v2006 : BitVec 32 := Scalar.muli c2_i32_1451 v1962
  let c2_i32_1452 : BitVec 32 := 2#32
  let v2007 : BitVec 32 := Scalar.addi v2006 c2_i32_1452
  let c256_i32_1453 : BitVec 32 := 256#32
  let v2008 : BitVec 32 := Scalar.muli v2007 c256_i32_1453
  v2008
def k0_mult29 (i : grid0.Coords) (k0_t1 : Fin (k0_t1_loop i).trips) : BitVec 32 :=
  let c2_i32_1487 : BitVec 32 := 2#32
  let c4_i32_1485 : BitVec 32 := 4#32
  let c0_i32_14 : BitVec 32 := 0#32
  let c1_i32_16 : BitVec 32 := 1#32
  let arg13 : BitVec 32 := Scf.iv c0_i32_14 c1_i32_16 k0_t1
  let v2050 : BitVec 32 := Scalar.muli c4_i32_1485 arg13
  let c2_i32_1486 : BitVec 32 := 2#32
  let v2051 : BitVec 32 := Scalar.addi v2050 c2_i32_1486
  let v2052 : BitVec 32 := Scalar.muli c2_i32_1487 v2051
  let c1_i32_1488 : BitVec 32 := 1#32
  let v2053 : BitVec 32 := Scalar.addi v2052 c1_i32_1488
  let c256_i32_1489 : BitVec 32 := 256#32
  let v2054 : BitVec 32 := Scalar.muli v2053 c256_i32_1489
  v2054
def k0_mult30 (i : grid0.Coords) (k0_t1 : Fin (k0_t1_loop i).trips) : BitVec 32 :=
  let c2_i32_1520 : BitVec 32 := 2#32
  let c4_i32_1485 : BitVec 32 := 4#32
  let c0_i32_14 : BitVec 32 := 0#32
  let c1_i32_16 : BitVec 32 := 1#32
  let arg13 : BitVec 32 := Scf.iv c0_i32_14 c1_i32_16 k0_t1
  let v2050 : BitVec 32 := Scalar.muli c4_i32_1485 arg13
  let c2_i32_1486 : BitVec 32 := 2#32
  let v2051 : BitVec 32 := Scalar.addi v2050 c2_i32_1486
  let v2095 : BitVec 32 := Scalar.muli c2_i32_1520 v2051
  let c2_i32_1521 : BitVec 32 := 2#32
  let v2096 : BitVec 32 := Scalar.addi v2095 c2_i32_1521
  let c256_i32_1522 : BitVec 32 := 256#32
  let v2097 : BitVec 32 := Scalar.muli v2096 c256_i32_1522
  v2097
def k0_mult31 (i : grid0.Coords) (k0_t1 : Fin (k0_t1_loop i).trips) : BitVec 32 :=
  let c2_i32_1556 : BitVec 32 := 2#32
  let c4_i32_1554 : BitVec 32 := 4#32
  let c0_i32_14 : BitVec 32 := 0#32
  let c1_i32_16 : BitVec 32 := 1#32
  let arg13 : BitVec 32 := Scf.iv c0_i32_14 c1_i32_16 k0_t1
  let v2139 : BitVec 32 := Scalar.muli c4_i32_1554 arg13
  let c3_i32_1555 : BitVec 32 := 3#32
  let v2140 : BitVec 32 := Scalar.addi v2139 c3_i32_1555
  let v2141 : BitVec 32 := Scalar.muli c2_i32_1556 v2140
  let c1_i32_1557 : BitVec 32 := 1#32
  let v2142 : BitVec 32 := Scalar.addi v2141 c1_i32_1557
  let c256_i32_1558 : BitVec 32 := 256#32
  let v2143 : BitVec 32 := Scalar.muli v2142 c256_i32_1558
  v2143
def k0_mult32 (i : grid0.Coords) (k0_t1 : Fin (k0_t1_loop i).trips) : BitVec 32 :=
  let c2_i32_1589 : BitVec 32 := 2#32
  let c4_i32_1554 : BitVec 32 := 4#32
  let c0_i32_14 : BitVec 32 := 0#32
  let c1_i32_16 : BitVec 32 := 1#32
  let arg13 : BitVec 32 := Scf.iv c0_i32_14 c1_i32_16 k0_t1
  let v2139 : BitVec 32 := Scalar.muli c4_i32_1554 arg13
  let c3_i32_1555 : BitVec 32 := 3#32
  let v2140 : BitVec 32 := Scalar.addi v2139 c3_i32_1555
  let v2184 : BitVec 32 := Scalar.muli c2_i32_1589 v2140
  let c2_i32_1590 : BitVec 32 := 2#32
  let v2185 : BitVec 32 := Scalar.addi v2184 c2_i32_1590
  let c256_i32_1591 : BitVec 32 := 256#32
  let v2186 : BitVec 32 := Scalar.muli v2185 c256_i32_1591
  v2186
@[reducible] def k0_t2_loop (i : grid0.Coords) : Scf.Loop 32 :=
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let v30 : BitVec 32 := Scalar.addi c0_i32_14 v29
  let c1_i32_17 : BitVec 32 := 1#32
  ⟨v33, v30, c1_i32_17⟩
def k0_mult33 (i : grid0.Coords) (k0_t2 : Fin (k0_t2_loop i).trips) : BitVec 32 :=
  let c2_i32_522 : BitVec 32 := 2#32
  let c4_i32_520 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v804 : BitVec 32 := Scalar.muli c4_i32_520 arg13
  let c0_i32_521 : BitVec 32 := 0#32
  let v805 : BitVec 32 := Scalar.addi v804 c0_i32_521
  let v806 : BitVec 32 := Scalar.muli c2_i32_522 v805
  let c1_i32_523 : BitVec 32 := 1#32
  let v807 : BitVec 32 := Scalar.addi v806 c1_i32_523
  let c256_i32_524 : BitVec 32 := 256#32
  let v808 : BitVec 32 := Scalar.muli v807 c256_i32_524
  v808
def k0_off13 (i : grid0.Coords) (k0_t2 : Fin (k0_t2_loop i).trips) (c0_i32_521 : BitVec 32) (c1_i32_523 : BitVec 32) : Fin 3 → Nat :=
  let c0_525 : Index := 0#32
  let c2_i32_522 : BitVec 32 := 2#32
  let c4_i32_520 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v804 : BitVec 32 := Scalar.muli c4_i32_520 arg13
  let v805 : BitVec 32 := Scalar.addi v804 c0_i32_521
  let v806 : BitVec 32 := Scalar.muli c2_i32_522 v805
  let v807 : BitVec 32 := Scalar.addi v806 c1_i32_523
  let c256_i32_524 : BitVec 32 := 256#32
  let v808 : BitVec 32 := Scalar.muli v807 c256_i32_524
  let v809 : BitVec 32 := v808
  let v810 : Index := Scalar.indexCast v809
  let c0_526 : Index := 0#32
  ![0, v810.toNat, 0]
def k0_off14 (i : grid0.Coords) (k0_t2 : Fin (k0_t2_loop i).trips) (c0_i32_521 : BitVec 32) : Fin 4 → Nat :=
  let c0_542 : Index := 0#32
  let c2_i32_534 : BitVec 32 := 2#32
  let c4_i32_520 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v804 : BitVec 32 := Scalar.muli c4_i32_520 arg13
  let v805 : BitVec 32 := Scalar.addi v804 c0_i32_521
  let v819 : BitVec 32 := Scalar.muli c2_i32_534 v805
  let v833 : Index := Scalar.indexCast v819
  let c0_543 : Index := 0#32
  let c0_544 : Index := 0#32
  ![0, v833.toNat, 0, 0]
def k0_mult34 (i : grid0.Coords) (k0_t2 : Fin (k0_t2_loop i).trips) : BitVec 32 :=
  let c2_i32_555 : BitVec 32 := 2#32
  let c4_i32_520 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v804 : BitVec 32 := Scalar.muli c4_i32_520 arg13
  let c0_i32_521 : BitVec 32 := 0#32
  let v805 : BitVec 32 := Scalar.addi v804 c0_i32_521
  let v849 : BitVec 32 := Scalar.muli c2_i32_555 v805
  let c2_i32_556 : BitVec 32 := 2#32
  let v850 : BitVec 32 := Scalar.addi v849 c2_i32_556
  let c256_i32_557 : BitVec 32 := 256#32
  let v851 : BitVec 32 := Scalar.muli v850 c256_i32_557
  v851
def k0_off15 (i : grid0.Coords) (k0_t2 : Fin (k0_t2_loop i).trips) (c0_i32_521 : BitVec 32) : Fin 4 → Nat :=
  let c0_576 : Index := 0#32
  let c2_i32_567 : BitVec 32 := 2#32
  let c4_i32_520 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v804 : BitVec 32 := Scalar.muli c4_i32_520 arg13
  let v805 : BitVec 32 := Scalar.addi v804 c0_i32_521
  let v862 : BitVec 32 := Scalar.muli c2_i32_567 v805
  let c1_i32_568 : BitVec 32 := 1#32
  let v863 : BitVec 32 := Scalar.addi v862 c1_i32_568
  let v877 : Index := Scalar.indexCast v863
  let c0_577 : Index := 0#32
  let c0_578 : Index := 0#32
  ![0, v877.toNat, 0, 0]
def k0_mult35 (i : grid0.Coords) (k0_t2 : Fin (k0_t2_loop i).trips) : BitVec 32 :=
  let c2_i32_591 : BitVec 32 := 2#32
  let c4_i32_589 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v893 : BitVec 32 := Scalar.muli c4_i32_589 arg13
  let c1_i32_590 : BitVec 32 := 1#32
  let v894 : BitVec 32 := Scalar.addi v893 c1_i32_590
  let v895 : BitVec 32 := Scalar.muli c2_i32_591 v894
  let c1_i32_592 : BitVec 32 := 1#32
  let v896 : BitVec 32 := Scalar.addi v895 c1_i32_592
  let c256_i32_593 : BitVec 32 := 256#32
  let v897 : BitVec 32 := Scalar.muli v896 c256_i32_593
  v897
def k0_mult36 (i : grid0.Coords) (k0_t2 : Fin (k0_t2_loop i).trips) : BitVec 32 :=
  let c2_i32_624 : BitVec 32 := 2#32
  let c4_i32_589 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v893 : BitVec 32 := Scalar.muli c4_i32_589 arg13
  let c1_i32_590 : BitVec 32 := 1#32
  let v894 : BitVec 32 := Scalar.addi v893 c1_i32_590
  let v938 : BitVec 32 := Scalar.muli c2_i32_624 v894
  let c2_i32_625 : BitVec 32 := 2#32
  let v939 : BitVec 32 := Scalar.addi v938 c2_i32_625
  let c256_i32_626 : BitVec 32 := 256#32
  let v940 : BitVec 32 := Scalar.muli v939 c256_i32_626
  v940
def k0_mult37 (i : grid0.Coords) (k0_t2 : Fin (k0_t2_loop i).trips) : BitVec 32 :=
  let c2_i32_660 : BitVec 32 := 2#32
  let c4_i32_658 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v982 : BitVec 32 := Scalar.muli c4_i32_658 arg13
  let c2_i32_659 : BitVec 32 := 2#32
  let v983 : BitVec 32 := Scalar.addi v982 c2_i32_659
  let v984 : BitVec 32 := Scalar.muli c2_i32_660 v983
  let c1_i32_661 : BitVec 32 := 1#32
  let v985 : BitVec 32 := Scalar.addi v984 c1_i32_661
  let c256_i32_662 : BitVec 32 := 256#32
  let v986 : BitVec 32 := Scalar.muli v985 c256_i32_662
  v986
def k0_mult38 (i : grid0.Coords) (k0_t2 : Fin (k0_t2_loop i).trips) : BitVec 32 :=
  let c2_i32_693 : BitVec 32 := 2#32
  let c4_i32_658 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v982 : BitVec 32 := Scalar.muli c4_i32_658 arg13
  let c2_i32_659 : BitVec 32 := 2#32
  let v983 : BitVec 32 := Scalar.addi v982 c2_i32_659
  let v1027 : BitVec 32 := Scalar.muli c2_i32_693 v983
  let c2_i32_694 : BitVec 32 := 2#32
  let v1028 : BitVec 32 := Scalar.addi v1027 c2_i32_694
  let c256_i32_695 : BitVec 32 := 256#32
  let v1029 : BitVec 32 := Scalar.muli v1028 c256_i32_695
  v1029
def k0_mult39 (i : grid0.Coords) (k0_t2 : Fin (k0_t2_loop i).trips) : BitVec 32 :=
  let c2_i32_728 : BitVec 32 := 2#32
  let c4_i32_727 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1071 : BitVec 32 := Scalar.muli c4_i32_727 arg13
  let c3_i32 : BitVec 32 := 3#32
  let v1072 : BitVec 32 := Scalar.addi v1071 c3_i32
  let v1073 : BitVec 32 := Scalar.muli c2_i32_728 v1072
  let c1_i32_729 : BitVec 32 := 1#32
  let v1074 : BitVec 32 := Scalar.addi v1073 c1_i32_729
  let c256_i32_730 : BitVec 32 := 256#32
  let v1075 : BitVec 32 := Scalar.muli v1074 c256_i32_730
  v1075
def k0_mult40 (i : grid0.Coords) (k0_t2 : Fin (k0_t2_loop i).trips) : BitVec 32 :=
  let c2_i32_761 : BitVec 32 := 2#32
  let c4_i32_727 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1071 : BitVec 32 := Scalar.muli c4_i32_727 arg13
  let c3_i32 : BitVec 32 := 3#32
  let v1072 : BitVec 32 := Scalar.addi v1071 c3_i32
  let v1116 : BitVec 32 := Scalar.muli c2_i32_761 v1072
  let c2_i32_762 : BitVec 32 := 2#32
  let v1117 : BitVec 32 := Scalar.addi v1116 c2_i32_762
  let c256_i32_763 : BitVec 32 := 256#32
  let v1118 : BitVec 32 := Scalar.muli v1117 c256_i32_763
  v1118
def k0_mult41 (i : grid0.Coords) (k0_t2 : Fin (k0_t2_loop i).trips) : BitVec 32 :=
  let c2_i32_797 : BitVec 32 := 2#32
  let c4_i32_795 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1160 : BitVec 32 := Scalar.muli c4_i32_795 arg13
  let c0_i32_796 : BitVec 32 := 0#32
  let v1161 : BitVec 32 := Scalar.addi v1160 c0_i32_796
  let v1162 : BitVec 32 := Scalar.muli c2_i32_797 v1161
  let c1_i32_798 : BitVec 32 := 1#32
  let v1163 : BitVec 32 := Scalar.addi v1162 c1_i32_798
  let c256_i32_799 : BitVec 32 := 256#32
  let v1164 : BitVec 32 := Scalar.muli v1163 c256_i32_799
  v1164
def k0_off16 (i : grid0.Coords) (k0_t2 : Fin (k0_t2_loop i).trips) (c0_i32_796 : BitVec 32) (c1_i32_798 : BitVec 32) : Fin 3 → Nat :=
  let c0_800 : Index := 0#32
  let c2_i32_797 : BitVec 32 := 2#32
  let c4_i32_795 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1160 : BitVec 32 := Scalar.muli c4_i32_795 arg13
  let v1161 : BitVec 32 := Scalar.addi v1160 c0_i32_796
  let v1162 : BitVec 32 := Scalar.muli c2_i32_797 v1161
  let v1163 : BitVec 32 := Scalar.addi v1162 c1_i32_798
  let c256_i32_799 : BitVec 32 := 256#32
  let v1164 : BitVec 32 := Scalar.muli v1163 c256_i32_799
  let v1165 : BitVec 32 := v1164
  let v1166 : Index := Scalar.indexCast v1165
  let c128_801 : Index := 128#32
  ![0, v1166.toNat, 128]
def k0_off17 (i : grid0.Coords) (k0_t2 : Fin (k0_t2_loop i).trips) (c0_i32_796 : BitVec 32) : Fin 4 → Nat :=
  let c0_817 : Index := 0#32
  let c2_i32_809 : BitVec 32 := 2#32
  let c4_i32_795 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1160 : BitVec 32 := Scalar.muli c4_i32_795 arg13
  let v1161 : BitVec 32 := Scalar.addi v1160 c0_i32_796
  let v1175 : BitVec 32 := Scalar.muli c2_i32_809 v1161
  let v1189 : Index := Scalar.indexCast v1175
  let c128_818 : Index := 128#32
  let c0_819 : Index := 0#32
  ![0, v1189.toNat, 128, 0]
def k0_mult42 (i : grid0.Coords) (k0_t2 : Fin (k0_t2_loop i).trips) : BitVec 32 :=
  let c2_i32_830 : BitVec 32 := 2#32
  let c4_i32_795 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1160 : BitVec 32 := Scalar.muli c4_i32_795 arg13
  let c0_i32_796 : BitVec 32 := 0#32
  let v1161 : BitVec 32 := Scalar.addi v1160 c0_i32_796
  let v1205 : BitVec 32 := Scalar.muli c2_i32_830 v1161
  let c2_i32_831 : BitVec 32 := 2#32
  let v1206 : BitVec 32 := Scalar.addi v1205 c2_i32_831
  let c256_i32_832 : BitVec 32 := 256#32
  let v1207 : BitVec 32 := Scalar.muli v1206 c256_i32_832
  v1207
def k0_off18 (i : grid0.Coords) (k0_t2 : Fin (k0_t2_loop i).trips) (c0_i32_796 : BitVec 32) : Fin 4 → Nat :=
  let c0_851 : Index := 0#32
  let c2_i32_842 : BitVec 32 := 2#32
  let c4_i32_795 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1160 : BitVec 32 := Scalar.muli c4_i32_795 arg13
  let v1161 : BitVec 32 := Scalar.addi v1160 c0_i32_796
  let v1218 : BitVec 32 := Scalar.muli c2_i32_842 v1161
  let c1_i32_843 : BitVec 32 := 1#32
  let v1219 : BitVec 32 := Scalar.addi v1218 c1_i32_843
  let v1233 : Index := Scalar.indexCast v1219
  let c128_852 : Index := 128#32
  let c0_853 : Index := 0#32
  ![0, v1233.toNat, 128, 0]
def k0_mult43 (i : grid0.Coords) (k0_t2 : Fin (k0_t2_loop i).trips) : BitVec 32 :=
  let c2_i32_866 : BitVec 32 := 2#32
  let c4_i32_864 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1249 : BitVec 32 := Scalar.muli c4_i32_864 arg13
  let c1_i32_865 : BitVec 32 := 1#32
  let v1250 : BitVec 32 := Scalar.addi v1249 c1_i32_865
  let v1251 : BitVec 32 := Scalar.muli c2_i32_866 v1250
  let c1_i32_867 : BitVec 32 := 1#32
  let v1252 : BitVec 32 := Scalar.addi v1251 c1_i32_867
  let c256_i32_868 : BitVec 32 := 256#32
  let v1253 : BitVec 32 := Scalar.muli v1252 c256_i32_868
  v1253
def k0_mult44 (i : grid0.Coords) (k0_t2 : Fin (k0_t2_loop i).trips) : BitVec 32 :=
  let c2_i32_899 : BitVec 32 := 2#32
  let c4_i32_864 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1249 : BitVec 32 := Scalar.muli c4_i32_864 arg13
  let c1_i32_865 : BitVec 32 := 1#32
  let v1250 : BitVec 32 := Scalar.addi v1249 c1_i32_865
  let v1294 : BitVec 32 := Scalar.muli c2_i32_899 v1250
  let c2_i32_900 : BitVec 32 := 2#32
  let v1295 : BitVec 32 := Scalar.addi v1294 c2_i32_900
  let c256_i32_901 : BitVec 32 := 256#32
  let v1296 : BitVec 32 := Scalar.muli v1295 c256_i32_901
  v1296
def k0_mult45 (i : grid0.Coords) (k0_t2 : Fin (k0_t2_loop i).trips) : BitVec 32 :=
  let c2_i32_935 : BitVec 32 := 2#32
  let c4_i32_933 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1338 : BitVec 32 := Scalar.muli c4_i32_933 arg13
  let c2_i32_934 : BitVec 32 := 2#32
  let v1339 : BitVec 32 := Scalar.addi v1338 c2_i32_934
  let v1340 : BitVec 32 := Scalar.muli c2_i32_935 v1339
  let c1_i32_936 : BitVec 32 := 1#32
  let v1341 : BitVec 32 := Scalar.addi v1340 c1_i32_936
  let c256_i32_937 : BitVec 32 := 256#32
  let v1342 : BitVec 32 := Scalar.muli v1341 c256_i32_937
  v1342
def k0_mult46 (i : grid0.Coords) (k0_t2 : Fin (k0_t2_loop i).trips) : BitVec 32 :=
  let c2_i32_968 : BitVec 32 := 2#32
  let c4_i32_933 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1338 : BitVec 32 := Scalar.muli c4_i32_933 arg13
  let c2_i32_934 : BitVec 32 := 2#32
  let v1339 : BitVec 32 := Scalar.addi v1338 c2_i32_934
  let v1383 : BitVec 32 := Scalar.muli c2_i32_968 v1339
  let c2_i32_969 : BitVec 32 := 2#32
  let v1384 : BitVec 32 := Scalar.addi v1383 c2_i32_969
  let c256_i32_970 : BitVec 32 := 256#32
  let v1385 : BitVec 32 := Scalar.muli v1384 c256_i32_970
  v1385
def k0_mult47 (i : grid0.Coords) (k0_t2 : Fin (k0_t2_loop i).trips) : BitVec 32 :=
  let c2_i32_1004 : BitVec 32 := 2#32
  let c4_i32_1002 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1427 : BitVec 32 := Scalar.muli c4_i32_1002 arg13
  let c3_i32_1003 : BitVec 32 := 3#32
  let v1428 : BitVec 32 := Scalar.addi v1427 c3_i32_1003
  let v1429 : BitVec 32 := Scalar.muli c2_i32_1004 v1428
  let c1_i32_1005 : BitVec 32 := 1#32
  let v1430 : BitVec 32 := Scalar.addi v1429 c1_i32_1005
  let c256_i32_1006 : BitVec 32 := 256#32
  let v1431 : BitVec 32 := Scalar.muli v1430 c256_i32_1006
  v1431
def k0_mult48 (i : grid0.Coords) (k0_t2 : Fin (k0_t2_loop i).trips) : BitVec 32 :=
  let c2_i32_1037 : BitVec 32 := 2#32
  let c4_i32_1002 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1427 : BitVec 32 := Scalar.muli c4_i32_1002 arg13
  let c3_i32_1003 : BitVec 32 := 3#32
  let v1428 : BitVec 32 := Scalar.addi v1427 c3_i32_1003
  let v1472 : BitVec 32 := Scalar.muli c2_i32_1037 v1428
  let c2_i32_1038 : BitVec 32 := 2#32
  let v1473 : BitVec 32 := Scalar.addi v1472 c2_i32_1038
  let c256_i32_1039 : BitVec 32 := 256#32
  let v1474 : BitVec 32 := Scalar.muli v1473 c256_i32_1039
  v1474
def k0_mult49 (i : grid0.Coords) (k0_t2 : Fin (k0_t2_loop i).trips) : BitVec 32 :=
  let c2_i32_1073 : BitVec 32 := 2#32
  let c4_i32_1071 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1516 : BitVec 32 := Scalar.muli c4_i32_1071 arg13
  let c0_i32_1072 : BitVec 32 := 0#32
  let v1517 : BitVec 32 := Scalar.addi v1516 c0_i32_1072
  let v1518 : BitVec 32 := Scalar.muli c2_i32_1073 v1517
  let c1_i32_1074 : BitVec 32 := 1#32
  let v1519 : BitVec 32 := Scalar.addi v1518 c1_i32_1074
  let c256_i32_1075 : BitVec 32 := 256#32
  let v1520 : BitVec 32 := Scalar.muli v1519 c256_i32_1075
  v1520
def k0_off19 (i : grid0.Coords) (k0_t2 : Fin (k0_t2_loop i).trips) (c0_i32_1072 : BitVec 32) (c1_i32_1074 : BitVec 32) : Fin 3 → Nat :=
  let c0_1076 : Index := 0#32
  let c2_i32_1073 : BitVec 32 := 2#32
  let c4_i32_1071 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1516 : BitVec 32 := Scalar.muli c4_i32_1071 arg13
  let v1517 : BitVec 32 := Scalar.addi v1516 c0_i32_1072
  let v1518 : BitVec 32 := Scalar.muli c2_i32_1073 v1517
  let v1519 : BitVec 32 := Scalar.addi v1518 c1_i32_1074
  let c256_i32_1075 : BitVec 32 := 256#32
  let v1520 : BitVec 32 := Scalar.muli v1519 c256_i32_1075
  let v1521 : BitVec 32 := v1520
  let v1522 : Index := Scalar.indexCast v1521
  let c256_1077 : Index := 256#32
  ![0, v1522.toNat, 256]
def k0_off20 (i : grid0.Coords) (k0_t2 : Fin (k0_t2_loop i).trips) (c0_i32_1072 : BitVec 32) : Fin 4 → Nat :=
  let c0_1093 : Index := 0#32
  let c2_i32_1085 : BitVec 32 := 2#32
  let c4_i32_1071 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1516 : BitVec 32 := Scalar.muli c4_i32_1071 arg13
  let v1517 : BitVec 32 := Scalar.addi v1516 c0_i32_1072
  let v1531 : BitVec 32 := Scalar.muli c2_i32_1085 v1517
  let v1545 : Index := Scalar.indexCast v1531
  let c256_1094 : Index := 256#32
  let c0_1095 : Index := 0#32
  ![0, v1545.toNat, 256, 0]
def k0_mult50 (i : grid0.Coords) (k0_t2 : Fin (k0_t2_loop i).trips) : BitVec 32 :=
  let c2_i32_1106 : BitVec 32 := 2#32
  let c4_i32_1071 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1516 : BitVec 32 := Scalar.muli c4_i32_1071 arg13
  let c0_i32_1072 : BitVec 32 := 0#32
  let v1517 : BitVec 32 := Scalar.addi v1516 c0_i32_1072
  let v1561 : BitVec 32 := Scalar.muli c2_i32_1106 v1517
  let c2_i32_1107 : BitVec 32 := 2#32
  let v1562 : BitVec 32 := Scalar.addi v1561 c2_i32_1107
  let c256_i32_1108 : BitVec 32 := 256#32
  let v1563 : BitVec 32 := Scalar.muli v1562 c256_i32_1108
  v1563
def k0_off21 (i : grid0.Coords) (k0_t2 : Fin (k0_t2_loop i).trips) (c0_i32_1072 : BitVec 32) : Fin 4 → Nat :=
  let c0_1127 : Index := 0#32
  let c2_i32_1118 : BitVec 32 := 2#32
  let c4_i32_1071 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1516 : BitVec 32 := Scalar.muli c4_i32_1071 arg13
  let v1517 : BitVec 32 := Scalar.addi v1516 c0_i32_1072
  let v1574 : BitVec 32 := Scalar.muli c2_i32_1118 v1517
  let c1_i32_1119 : BitVec 32 := 1#32
  let v1575 : BitVec 32 := Scalar.addi v1574 c1_i32_1119
  let v1589 : Index := Scalar.indexCast v1575
  let c256_1128 : Index := 256#32
  let c0_1129 : Index := 0#32
  ![0, v1589.toNat, 256, 0]
def k0_mult51 (i : grid0.Coords) (k0_t2 : Fin (k0_t2_loop i).trips) : BitVec 32 :=
  let c2_i32_1142 : BitVec 32 := 2#32
  let c4_i32_1140 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1605 : BitVec 32 := Scalar.muli c4_i32_1140 arg13
  let c1_i32_1141 : BitVec 32 := 1#32
  let v1606 : BitVec 32 := Scalar.addi v1605 c1_i32_1141
  let v1607 : BitVec 32 := Scalar.muli c2_i32_1142 v1606
  let c1_i32_1143 : BitVec 32 := 1#32
  let v1608 : BitVec 32 := Scalar.addi v1607 c1_i32_1143
  let c256_i32_1144 : BitVec 32 := 256#32
  let v1609 : BitVec 32 := Scalar.muli v1608 c256_i32_1144
  v1609
def k0_mult52 (i : grid0.Coords) (k0_t2 : Fin (k0_t2_loop i).trips) : BitVec 32 :=
  let c2_i32_1175 : BitVec 32 := 2#32
  let c4_i32_1140 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1605 : BitVec 32 := Scalar.muli c4_i32_1140 arg13
  let c1_i32_1141 : BitVec 32 := 1#32
  let v1606 : BitVec 32 := Scalar.addi v1605 c1_i32_1141
  let v1650 : BitVec 32 := Scalar.muli c2_i32_1175 v1606
  let c2_i32_1176 : BitVec 32 := 2#32
  let v1651 : BitVec 32 := Scalar.addi v1650 c2_i32_1176
  let c256_i32_1177 : BitVec 32 := 256#32
  let v1652 : BitVec 32 := Scalar.muli v1651 c256_i32_1177
  v1652
def k0_mult53 (i : grid0.Coords) (k0_t2 : Fin (k0_t2_loop i).trips) : BitVec 32 :=
  let c2_i32_1211 : BitVec 32 := 2#32
  let c4_i32_1209 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1694 : BitVec 32 := Scalar.muli c4_i32_1209 arg13
  let c2_i32_1210 : BitVec 32 := 2#32
  let v1695 : BitVec 32 := Scalar.addi v1694 c2_i32_1210
  let v1696 : BitVec 32 := Scalar.muli c2_i32_1211 v1695
  let c1_i32_1212 : BitVec 32 := 1#32
  let v1697 : BitVec 32 := Scalar.addi v1696 c1_i32_1212
  let c256_i32_1213 : BitVec 32 := 256#32
  let v1698 : BitVec 32 := Scalar.muli v1697 c256_i32_1213
  v1698
def k0_mult54 (i : grid0.Coords) (k0_t2 : Fin (k0_t2_loop i).trips) : BitVec 32 :=
  let c2_i32_1244 : BitVec 32 := 2#32
  let c4_i32_1209 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1694 : BitVec 32 := Scalar.muli c4_i32_1209 arg13
  let c2_i32_1210 : BitVec 32 := 2#32
  let v1695 : BitVec 32 := Scalar.addi v1694 c2_i32_1210
  let v1739 : BitVec 32 := Scalar.muli c2_i32_1244 v1695
  let c2_i32_1245 : BitVec 32 := 2#32
  let v1740 : BitVec 32 := Scalar.addi v1739 c2_i32_1245
  let c256_i32_1246 : BitVec 32 := 256#32
  let v1741 : BitVec 32 := Scalar.muli v1740 c256_i32_1246
  v1741
def k0_mult55 (i : grid0.Coords) (k0_t2 : Fin (k0_t2_loop i).trips) : BitVec 32 :=
  let c2_i32_1280 : BitVec 32 := 2#32
  let c4_i32_1278 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1783 : BitVec 32 := Scalar.muli c4_i32_1278 arg13
  let c3_i32_1279 : BitVec 32 := 3#32
  let v1784 : BitVec 32 := Scalar.addi v1783 c3_i32_1279
  let v1785 : BitVec 32 := Scalar.muli c2_i32_1280 v1784
  let c1_i32_1281 : BitVec 32 := 1#32
  let v1786 : BitVec 32 := Scalar.addi v1785 c1_i32_1281
  let c256_i32_1282 : BitVec 32 := 256#32
  let v1787 : BitVec 32 := Scalar.muli v1786 c256_i32_1282
  v1787
def k0_mult56 (i : grid0.Coords) (k0_t2 : Fin (k0_t2_loop i).trips) : BitVec 32 :=
  let c2_i32_1313 : BitVec 32 := 2#32
  let c4_i32_1278 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1783 : BitVec 32 := Scalar.muli c4_i32_1278 arg13
  let c3_i32_1279 : BitVec 32 := 3#32
  let v1784 : BitVec 32 := Scalar.addi v1783 c3_i32_1279
  let v1828 : BitVec 32 := Scalar.muli c2_i32_1313 v1784
  let c2_i32_1314 : BitVec 32 := 2#32
  let v1829 : BitVec 32 := Scalar.addi v1828 c2_i32_1314
  let c256_i32_1315 : BitVec 32 := 256#32
  let v1830 : BitVec 32 := Scalar.muli v1829 c256_i32_1315
  v1830
def k0_mult57 (i : grid0.Coords) (k0_t2 : Fin (k0_t2_loop i).trips) : BitVec 32 :=
  let c2_i32_1349 : BitVec 32 := 2#32
  let c4_i32_1347 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1872 : BitVec 32 := Scalar.muli c4_i32_1347 arg13
  let c0_i32_1348 : BitVec 32 := 0#32
  let v1873 : BitVec 32 := Scalar.addi v1872 c0_i32_1348
  let v1874 : BitVec 32 := Scalar.muli c2_i32_1349 v1873
  let c1_i32_1350 : BitVec 32 := 1#32
  let v1875 : BitVec 32 := Scalar.addi v1874 c1_i32_1350
  let c256_i32_1351 : BitVec 32 := 256#32
  let v1876 : BitVec 32 := Scalar.muli v1875 c256_i32_1351
  v1876
def k0_off22 (i : grid0.Coords) (k0_t2 : Fin (k0_t2_loop i).trips) (c0_i32_1348 : BitVec 32) (c1_i32_1350 : BitVec 32) : Fin 3 → Nat :=
  let c0_1352 : Index := 0#32
  let c2_i32_1349 : BitVec 32 := 2#32
  let c4_i32_1347 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1872 : BitVec 32 := Scalar.muli c4_i32_1347 arg13
  let v1873 : BitVec 32 := Scalar.addi v1872 c0_i32_1348
  let v1874 : BitVec 32 := Scalar.muli c2_i32_1349 v1873
  let v1875 : BitVec 32 := Scalar.addi v1874 c1_i32_1350
  let c256_i32_1351 : BitVec 32 := 256#32
  let v1876 : BitVec 32 := Scalar.muli v1875 c256_i32_1351
  let v1877 : BitVec 32 := v1876
  let v1878 : Index := Scalar.indexCast v1877
  let c384_1353 : Index := 384#32
  ![0, v1878.toNat, 384]
def k0_off23 (i : grid0.Coords) (k0_t2 : Fin (k0_t2_loop i).trips) (c0_i32_1348 : BitVec 32) : Fin 4 → Nat :=
  let c0_1369 : Index := 0#32
  let c2_i32_1361 : BitVec 32 := 2#32
  let c4_i32_1347 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1872 : BitVec 32 := Scalar.muli c4_i32_1347 arg13
  let v1873 : BitVec 32 := Scalar.addi v1872 c0_i32_1348
  let v1887 : BitVec 32 := Scalar.muli c2_i32_1361 v1873
  let v1901 : Index := Scalar.indexCast v1887
  let c384_1370 : Index := 384#32
  let c0_1371 : Index := 0#32
  ![0, v1901.toNat, 384, 0]
def k0_mult58 (i : grid0.Coords) (k0_t2 : Fin (k0_t2_loop i).trips) : BitVec 32 :=
  let c2_i32_1382 : BitVec 32 := 2#32
  let c4_i32_1347 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1872 : BitVec 32 := Scalar.muli c4_i32_1347 arg13
  let c0_i32_1348 : BitVec 32 := 0#32
  let v1873 : BitVec 32 := Scalar.addi v1872 c0_i32_1348
  let v1917 : BitVec 32 := Scalar.muli c2_i32_1382 v1873
  let c2_i32_1383 : BitVec 32 := 2#32
  let v1918 : BitVec 32 := Scalar.addi v1917 c2_i32_1383
  let c256_i32_1384 : BitVec 32 := 256#32
  let v1919 : BitVec 32 := Scalar.muli v1918 c256_i32_1384
  v1919
def k0_off24 (i : grid0.Coords) (k0_t2 : Fin (k0_t2_loop i).trips) (c0_i32_1348 : BitVec 32) : Fin 4 → Nat :=
  let c0_1403 : Index := 0#32
  let c2_i32_1394 : BitVec 32 := 2#32
  let c4_i32_1347 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1872 : BitVec 32 := Scalar.muli c4_i32_1347 arg13
  let v1873 : BitVec 32 := Scalar.addi v1872 c0_i32_1348
  let v1930 : BitVec 32 := Scalar.muli c2_i32_1394 v1873
  let c1_i32_1395 : BitVec 32 := 1#32
  let v1931 : BitVec 32 := Scalar.addi v1930 c1_i32_1395
  let v1945 : Index := Scalar.indexCast v1931
  let c384_1404 : Index := 384#32
  let c0_1405 : Index := 0#32
  ![0, v1945.toNat, 384, 0]
def k0_mult59 (i : grid0.Coords) (k0_t2 : Fin (k0_t2_loop i).trips) : BitVec 32 :=
  let c2_i32_1418 : BitVec 32 := 2#32
  let c4_i32_1416 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1961 : BitVec 32 := Scalar.muli c4_i32_1416 arg13
  let c1_i32_1417 : BitVec 32 := 1#32
  let v1962 : BitVec 32 := Scalar.addi v1961 c1_i32_1417
  let v1963 : BitVec 32 := Scalar.muli c2_i32_1418 v1962
  let c1_i32_1419 : BitVec 32 := 1#32
  let v1964 : BitVec 32 := Scalar.addi v1963 c1_i32_1419
  let c256_i32_1420 : BitVec 32 := 256#32
  let v1965 : BitVec 32 := Scalar.muli v1964 c256_i32_1420
  v1965
def k0_mult60 (i : grid0.Coords) (k0_t2 : Fin (k0_t2_loop i).trips) : BitVec 32 :=
  let c2_i32_1451 : BitVec 32 := 2#32
  let c4_i32_1416 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v1961 : BitVec 32 := Scalar.muli c4_i32_1416 arg13
  let c1_i32_1417 : BitVec 32 := 1#32
  let v1962 : BitVec 32 := Scalar.addi v1961 c1_i32_1417
  let v2006 : BitVec 32 := Scalar.muli c2_i32_1451 v1962
  let c2_i32_1452 : BitVec 32 := 2#32
  let v2007 : BitVec 32 := Scalar.addi v2006 c2_i32_1452
  let c256_i32_1453 : BitVec 32 := 256#32
  let v2008 : BitVec 32 := Scalar.muli v2007 c256_i32_1453
  v2008
def k0_mult61 (i : grid0.Coords) (k0_t2 : Fin (k0_t2_loop i).trips) : BitVec 32 :=
  let c2_i32_1487 : BitVec 32 := 2#32
  let c4_i32_1485 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v2050 : BitVec 32 := Scalar.muli c4_i32_1485 arg13
  let c2_i32_1486 : BitVec 32 := 2#32
  let v2051 : BitVec 32 := Scalar.addi v2050 c2_i32_1486
  let v2052 : BitVec 32 := Scalar.muli c2_i32_1487 v2051
  let c1_i32_1488 : BitVec 32 := 1#32
  let v2053 : BitVec 32 := Scalar.addi v2052 c1_i32_1488
  let c256_i32_1489 : BitVec 32 := 256#32
  let v2054 : BitVec 32 := Scalar.muli v2053 c256_i32_1489
  v2054
def k0_mult62 (i : grid0.Coords) (k0_t2 : Fin (k0_t2_loop i).trips) : BitVec 32 :=
  let c2_i32_1520 : BitVec 32 := 2#32
  let c4_i32_1485 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v2050 : BitVec 32 := Scalar.muli c4_i32_1485 arg13
  let c2_i32_1486 : BitVec 32 := 2#32
  let v2051 : BitVec 32 := Scalar.addi v2050 c2_i32_1486
  let v2095 : BitVec 32 := Scalar.muli c2_i32_1520 v2051
  let c2_i32_1521 : BitVec 32 := 2#32
  let v2096 : BitVec 32 := Scalar.addi v2095 c2_i32_1521
  let c256_i32_1522 : BitVec 32 := 256#32
  let v2097 : BitVec 32 := Scalar.muli v2096 c256_i32_1522
  v2097
def k0_mult63 (i : grid0.Coords) (k0_t2 : Fin (k0_t2_loop i).trips) : BitVec 32 :=
  let c2_i32_1556 : BitVec 32 := 2#32
  let c4_i32_1554 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v2139 : BitVec 32 := Scalar.muli c4_i32_1554 arg13
  let c3_i32_1555 : BitVec 32 := 3#32
  let v2140 : BitVec 32 := Scalar.addi v2139 c3_i32_1555
  let v2141 : BitVec 32 := Scalar.muli c2_i32_1556 v2140
  let c1_i32_1557 : BitVec 32 := 1#32
  let v2142 : BitVec 32 := Scalar.addi v2141 c1_i32_1557
  let c256_i32_1558 : BitVec 32 := 256#32
  let v2143 : BitVec 32 := Scalar.muli v2142 c256_i32_1558
  v2143
def k0_mult64 (i : grid0.Coords) (k0_t2 : Fin (k0_t2_loop i).trips) : BitVec 32 :=
  let c2_i32_1589 : BitVec 32 := 2#32
  let c4_i32_1554 : BitVec 32 := 4#32
  let c0_i32_14 : BitVec 32 := 0#32
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .slt arg2 c0_i32_9
  let v16 : BitVec 32 := Scalar.extui v15
  let v17 : BitVec 32 := Scalar.subi v14 v16
  let c4_i32 : BitVec 32 := 4#32
  let c0_i32_10 : BitVec 32 := 0#32
  let v18 : BitVec 1 := Scalar.cmpi .sgt c4_i32 c0_i32_10
  let v19 : BitVec 32 := Scalar.extui v18
  let c0_i32_11 : BitVec 32 := 0#32
  let v20 : BitVec 1 := Scalar.cmpi .slt c4_i32 c0_i32_11
  let v21 : BitVec 32 := Scalar.extui v20
  let v22 : BitVec 32 := Scalar.subi v19 v21
  let v23 : BitVec 1 := Scalar.cmpi .ne v17 v22
  let v24 : BitVec 32 := Scalar.remsi arg2 c4_i32
  let c0_i32_12 : BitVec 32 := 0#32
  let v25 : BitVec 1 := Scalar.cmpi .ne v24 c0_i32_12
  let v26 : BitVec 1 := Scalar.andi v23 v25
  let v12 : BitVec 32 := Scalar.divsi arg2 c4_i32
  let c1_i32 : BitVec 32 := 1#32
  let v27 : BitVec 32 := Scalar.subi v12 c1_i32
  let v28 : BitVec 32 := Scalar.select v26 v27 v12
  let v29 : BitVec 32 := Scalar.subi v28 c0_i32_14
  let c1_i32_15 : BitVec 32 := 1#32
  let v31 : BitVec 32 := Scalar.divsi v29 c1_i32_15
  let v32 : BitVec 32 := Scalar.muli v31 c1_i32_15
  let v33 : BitVec 32 := Scalar.addi c0_i32_14 v32
  let c1_i32_17 : BitVec 32 := 1#32
  let arg13 : BitVec 32 := Scf.iv v33 c1_i32_17 k0_t2
  let v2139 : BitVec 32 := Scalar.muli c4_i32_1554 arg13
  let c3_i32_1555 : BitVec 32 := 3#32
  let v2140 : BitVec 32 := Scalar.addi v2139 c3_i32_1555
  let v2184 : BitVec 32 := Scalar.muli c2_i32_1589 v2140
  let c2_i32_1590 : BitVec 32 := 2#32
  let v2185 : BitVec 32 := Scalar.addi v2184 c2_i32_1590
  let c256_i32_1591 : BitVec 32 := 256#32
  let v2186 : BitVec 32 := Scalar.muli v2185 c256_i32_1591
  v2186
@[reducible] def k0_t3_loop (i : grid0.Coords) : Scf.Loop 32 :=
  let c0_i32_31 : BitVec 32 := 0#32
  let arg2 : BitVec 32 := BitVec.ofNat 32 (i 2).val
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi arg2 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32 : BitVec 32 := 2#32
  let c0_i32_26 : BitVec 32 := 0#32
  let v50 : BitVec 1 := Scalar.cmpi .sgt c2_i32 c0_i32_26
  let v51 : BitVec 32 := Scalar.extui v50
  let c0_i32_27 : BitVec 32 := 0#32
  let v52 : BitVec 1 := Scalar.cmpi .slt c2_i32 c0_i32_27
  let v53 : BitVec 32 := Scalar.extui v52
  let v54 : BitVec 32 := Scalar.subi v51 v53
  let v55 : BitVec 1 := Scalar.cmpi .ne v49 v54
  let v56 : BitVec 32 := Scalar.remsi v43 c2_i32
  let c0_i32_28 : BitVec 32 := 0#32
  let v57 : BitVec 1 := Scalar.cmpi .ne v56 c0_i32_28
  let v58 : BitVec 1 := Scalar.andi v55 v57
  let v44 : BitVec 32 := Scalar.divsi v43 c2_i32
  let c1_i32_29 : BitVec 32 := 1#32
  let v59 : BitVec 32 := Scalar.subi v44 c1_i32_29
  let v60 : BitVec 32 := Scalar.select v58 v59 v44
  let v61 : BitVec 32 := Scalar.subi v60 c0_i32_31
  let c1_i32_32 : BitVec 32 := 1#32
  let v63 : BitVec 32 := Scalar.divsi v61 c1_i32_32
  let v64 : BitVec 32 := Scalar.muli v63 c1_i32_32
  let v65 : BitVec 32 := Scalar.addi c0_i32_31 v64
  let c1_i32_33 : BitVec 32 := 1#32
  ⟨c0_i32_31, v65, c1_i32_33⟩
def k0_mult65 (i : grid0.Coords) : BitVec 32 :=
  let c2_i32_528 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v822 : BitVec 32 := Scalar.muli c2_i32_528 v821
  let c1_i32_529 : BitVec 32 := 1#32
  let v823 : BitVec 32 := Scalar.addi v822 c1_i32_529
  let c256_i32_530 : BitVec 32 := 256#32
  let v824 : BitVec 32 := Scalar.muli v823 c256_i32_530
  v824
def k0_off25 (i : grid0.Coords) (c1_i32_529 : BitVec 32) : Fin 3 → Nat :=
  let c0_531 : Index := 0#32
  let c2_i32_528 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v822 : BitVec 32 := Scalar.muli c2_i32_528 v821
  let v823 : BitVec 32 := Scalar.addi v822 c1_i32_529
  let c256_i32_530 : BitVec 32 := 256#32
  let v824 : BitVec 32 := Scalar.muli v823 c256_i32_530
  let v825 : BitVec 32 := v824
  let v826 : Index := Scalar.indexCast v825
  let c0_532 : Index := 0#32
  ![0, v826.toNat, 0]
def k0_off26 (i : grid0.Coords) : Fin 4 → Nat :=
  let c0_548 : Index := 0#32
  let c2_i32_540 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v835 : BitVec 32 := Scalar.muli c2_i32_540 v821
  let v849 : Index := Scalar.indexCast v835
  let c0_549 : Index := 0#32
  let c0_550 : Index := 0#32
  ![0, v849.toNat, 0, 0]
def k0_mult66 (i : grid0.Coords) : BitVec 32 :=
  let c2_i32_561 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v865 : BitVec 32 := Scalar.muli c2_i32_561 v821
  let c2_i32_562 : BitVec 32 := 2#32
  let v866 : BitVec 32 := Scalar.addi v865 c2_i32_562
  let c256_i32_563 : BitVec 32 := 256#32
  let v867 : BitVec 32 := Scalar.muli v866 c256_i32_563
  v867
def k0_off27 (i : grid0.Coords) : Fin 4 → Nat :=
  let c0_582 : Index := 0#32
  let c2_i32_573 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v878 : BitVec 32 := Scalar.muli c2_i32_573 v821
  let c1_i32_574 : BitVec 32 := 1#32
  let v879 : BitVec 32 := Scalar.addi v878 c1_i32_574
  let v893 : Index := Scalar.indexCast v879
  let c0_583 : Index := 0#32
  let c0_584 : Index := 0#32
  ![0, v893.toNat, 0, 0]
def k0_mult67 (i : grid0.Coords) : BitVec 32 :=
  let c2_i32_604 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v928 : BitVec 32 := Scalar.muli c2_i32_604 v927
  let c1_i32_605 : BitVec 32 := 1#32
  let v929 : BitVec 32 := Scalar.addi v928 c1_i32_605
  let c256_i32_606 : BitVec 32 := 256#32
  let v930 : BitVec 32 := Scalar.muli v929 c256_i32_606
  v930
def k0_off28 (i : grid0.Coords) (c1_i32_605 : BitVec 32) : Fin 3 → Nat :=
  let c0_607 : Index := 0#32
  let c2_i32_604 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v928 : BitVec 32 := Scalar.muli c2_i32_604 v927
  let v929 : BitVec 32 := Scalar.addi v928 c1_i32_605
  let c256_i32_606 : BitVec 32 := 256#32
  let v930 : BitVec 32 := Scalar.muli v929 c256_i32_606
  let v931 : BitVec 32 := v930
  let v932 : Index := Scalar.indexCast v931
  let c0_608 : Index := 0#32
  ![0, v932.toNat, 0]
def k0_off29 (i : grid0.Coords) : Fin 4 → Nat :=
  let c0_624 : Index := 0#32
  let c2_i32_616 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v941 : BitVec 32 := Scalar.muli c2_i32_616 v927
  let v955 : Index := Scalar.indexCast v941
  let c0_625 : Index := 0#32
  let c0_626 : Index := 0#32
  ![0, v955.toNat, 0, 0]
def k0_mult68 (i : grid0.Coords) : BitVec 32 :=
  let c2_i32_637 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v971 : BitVec 32 := Scalar.muli c2_i32_637 v927
  let c2_i32_638 : BitVec 32 := 2#32
  let v972 : BitVec 32 := Scalar.addi v971 c2_i32_638
  let c256_i32_639 : BitVec 32 := 256#32
  let v973 : BitVec 32 := Scalar.muli v972 c256_i32_639
  v973
def k0_off30 (i : grid0.Coords) : Fin 4 → Nat :=
  let c0_658 : Index := 0#32
  let c2_i32_649 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v984 : BitVec 32 := Scalar.muli c2_i32_649 v927
  let c1_i32_650 : BitVec 32 := 1#32
  let v985 : BitVec 32 := Scalar.addi v984 c1_i32_650
  let v999 : Index := Scalar.indexCast v985
  let c0_659 : Index := 0#32
  let c0_660 : Index := 0#32
  ![0, v999.toNat, 0, 0]
def k0_mult69 (i : grid0.Coords) : BitVec 32 :=
  let c2_i32_679 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1033 : BitVec 32 := Scalar.muli c2_i32_679 v1032
  let c1_i32_680 : BitVec 32 := 1#32
  let v1034 : BitVec 32 := Scalar.addi v1033 c1_i32_680
  let c256_i32_681 : BitVec 32 := 256#32
  let v1035 : BitVec 32 := Scalar.muli v1034 c256_i32_681
  v1035
def k0_off31 (i : grid0.Coords) (c1_i32_680 : BitVec 32) : Fin 3 → Nat :=
  let c0_682 : Index := 0#32
  let c2_i32_679 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1033 : BitVec 32 := Scalar.muli c2_i32_679 v1032
  let v1034 : BitVec 32 := Scalar.addi v1033 c1_i32_680
  let c256_i32_681 : BitVec 32 := 256#32
  let v1035 : BitVec 32 := Scalar.muli v1034 c256_i32_681
  let v1036 : BitVec 32 := v1035
  let v1037 : Index := Scalar.indexCast v1036
  let c128_683 : Index := 128#32
  ![0, v1037.toNat, 128]
def k0_off32 (i : grid0.Coords) : Fin 4 → Nat :=
  let c0_699 : Index := 0#32
  let c2_i32_691 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1046 : BitVec 32 := Scalar.muli c2_i32_691 v1032
  let v1060 : Index := Scalar.indexCast v1046
  let c128_700 : Index := 128#32
  let c0_701 : Index := 0#32
  ![0, v1060.toNat, 128, 0]
def k0_mult70 (i : grid0.Coords) : BitVec 32 :=
  let c2_i32_712 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1076 : BitVec 32 := Scalar.muli c2_i32_712 v1032
  let c2_i32_713 : BitVec 32 := 2#32
  let v1077 : BitVec 32 := Scalar.addi v1076 c2_i32_713
  let c256_i32_714 : BitVec 32 := 256#32
  let v1078 : BitVec 32 := Scalar.muli v1077 c256_i32_714
  v1078
def k0_off33 (i : grid0.Coords) : Fin 4 → Nat :=
  let c0_733 : Index := 0#32
  let c2_i32_724 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1089 : BitVec 32 := Scalar.muli c2_i32_724 v1032
  let c1_i32_725 : BitVec 32 := 1#32
  let v1090 : BitVec 32 := Scalar.addi v1089 c1_i32_725
  let v1104 : Index := Scalar.indexCast v1090
  let c128_734 : Index := 128#32
  let c0_735 : Index := 0#32
  ![0, v1104.toNat, 128, 0]
def k0_mult71 (i : grid0.Coords) : BitVec 32 :=
  let c2_i32_755 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1139 : BitVec 32 := Scalar.muli c2_i32_755 v1138
  let c1_i32_756 : BitVec 32 := 1#32
  let v1140 : BitVec 32 := Scalar.addi v1139 c1_i32_756
  let c256_i32_757 : BitVec 32 := 256#32
  let v1141 : BitVec 32 := Scalar.muli v1140 c256_i32_757
  v1141
def k0_off34 (i : grid0.Coords) (c1_i32_756 : BitVec 32) : Fin 3 → Nat :=
  let c0_758 : Index := 0#32
  let c2_i32_755 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1139 : BitVec 32 := Scalar.muli c2_i32_755 v1138
  let v1140 : BitVec 32 := Scalar.addi v1139 c1_i32_756
  let c256_i32_757 : BitVec 32 := 256#32
  let v1141 : BitVec 32 := Scalar.muli v1140 c256_i32_757
  let v1142 : BitVec 32 := v1141
  let v1143 : Index := Scalar.indexCast v1142
  let c128_759 : Index := 128#32
  ![0, v1143.toNat, 128]
def k0_off35 (i : grid0.Coords) : Fin 4 → Nat :=
  let c0_775 : Index := 0#32
  let c2_i32_767 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1152 : BitVec 32 := Scalar.muli c2_i32_767 v1138
  let v1166 : Index := Scalar.indexCast v1152
  let c128_776 : Index := 128#32
  let c0_777 : Index := 0#32
  ![0, v1166.toNat, 128, 0]
def k0_mult72 (i : grid0.Coords) : BitVec 32 :=
  let c2_i32_788 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1182 : BitVec 32 := Scalar.muli c2_i32_788 v1138
  let c2_i32_789 : BitVec 32 := 2#32
  let v1183 : BitVec 32 := Scalar.addi v1182 c2_i32_789
  let c256_i32_790 : BitVec 32 := 256#32
  let v1184 : BitVec 32 := Scalar.muli v1183 c256_i32_790
  v1184
def k0_off36 (i : grid0.Coords) : Fin 4 → Nat :=
  let c0_809 : Index := 0#32
  let c2_i32_800 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1195 : BitVec 32 := Scalar.muli c2_i32_800 v1138
  let c1_i32_801 : BitVec 32 := 1#32
  let v1196 : BitVec 32 := Scalar.addi v1195 c1_i32_801
  let v1210 : Index := Scalar.indexCast v1196
  let c128_810 : Index := 128#32
  let c0_811 : Index := 0#32
  ![0, v1210.toNat, 128, 0]
def k0_mult73 (i : grid0.Coords) : BitVec 32 :=
  let c2_i32_830 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1244 : BitVec 32 := Scalar.muli c2_i32_830 v1243
  let c1_i32_831 : BitVec 32 := 1#32
  let v1245 : BitVec 32 := Scalar.addi v1244 c1_i32_831
  let c256_i32_832 : BitVec 32 := 256#32
  let v1246 : BitVec 32 := Scalar.muli v1245 c256_i32_832
  v1246
def k0_off37 (i : grid0.Coords) (c1_i32_831 : BitVec 32) : Fin 3 → Nat :=
  let c0_833 : Index := 0#32
  let c2_i32_830 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1244 : BitVec 32 := Scalar.muli c2_i32_830 v1243
  let v1245 : BitVec 32 := Scalar.addi v1244 c1_i32_831
  let c256_i32_832 : BitVec 32 := 256#32
  let v1246 : BitVec 32 := Scalar.muli v1245 c256_i32_832
  let v1247 : BitVec 32 := v1246
  let v1248 : Index := Scalar.indexCast v1247
  let c256_834 : Index := 256#32
  ![0, v1248.toNat, 256]
def k0_off38 (i : grid0.Coords) : Fin 4 → Nat :=
  let c0_850 : Index := 0#32
  let c2_i32_842 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1257 : BitVec 32 := Scalar.muli c2_i32_842 v1243
  let v1271 : Index := Scalar.indexCast v1257
  let c256_851 : Index := 256#32
  let c0_852 : Index := 0#32
  ![0, v1271.toNat, 256, 0]
def k0_mult74 (i : grid0.Coords) : BitVec 32 :=
  let c2_i32_863 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1287 : BitVec 32 := Scalar.muli c2_i32_863 v1243
  let c2_i32_864 : BitVec 32 := 2#32
  let v1288 : BitVec 32 := Scalar.addi v1287 c2_i32_864
  let c256_i32_865 : BitVec 32 := 256#32
  let v1289 : BitVec 32 := Scalar.muli v1288 c256_i32_865
  v1289
def k0_off39 (i : grid0.Coords) : Fin 4 → Nat :=
  let c0_884 : Index := 0#32
  let c2_i32_875 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1300 : BitVec 32 := Scalar.muli c2_i32_875 v1243
  let c1_i32_876 : BitVec 32 := 1#32
  let v1301 : BitVec 32 := Scalar.addi v1300 c1_i32_876
  let v1315 : Index := Scalar.indexCast v1301
  let c256_885 : Index := 256#32
  let c0_886 : Index := 0#32
  ![0, v1315.toNat, 256, 0]
def k0_mult75 (i : grid0.Coords) : BitVec 32 :=
  let c2_i32_906 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1350 : BitVec 32 := Scalar.muli c2_i32_906 v1349
  let c1_i32_907 : BitVec 32 := 1#32
  let v1351 : BitVec 32 := Scalar.addi v1350 c1_i32_907
  let c256_i32_908 : BitVec 32 := 256#32
  let v1352 : BitVec 32 := Scalar.muli v1351 c256_i32_908
  v1352
def k0_off40 (i : grid0.Coords) (c1_i32_907 : BitVec 32) : Fin 3 → Nat :=
  let c0_909 : Index := 0#32
  let c2_i32_906 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1350 : BitVec 32 := Scalar.muli c2_i32_906 v1349
  let v1351 : BitVec 32 := Scalar.addi v1350 c1_i32_907
  let c256_i32_908 : BitVec 32 := 256#32
  let v1352 : BitVec 32 := Scalar.muli v1351 c256_i32_908
  let v1353 : BitVec 32 := v1352
  let v1354 : Index := Scalar.indexCast v1353
  let c256_910 : Index := 256#32
  ![0, v1354.toNat, 256]
def k0_off41 (i : grid0.Coords) : Fin 4 → Nat :=
  let c0_926 : Index := 0#32
  let c2_i32_918 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1363 : BitVec 32 := Scalar.muli c2_i32_918 v1349
  let v1377 : Index := Scalar.indexCast v1363
  let c256_927 : Index := 256#32
  let c0_928 : Index := 0#32
  ![0, v1377.toNat, 256, 0]
def k0_mult76 (i : grid0.Coords) : BitVec 32 :=
  let c2_i32_939 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1393 : BitVec 32 := Scalar.muli c2_i32_939 v1349
  let c2_i32_940 : BitVec 32 := 2#32
  let v1394 : BitVec 32 := Scalar.addi v1393 c2_i32_940
  let c256_i32_941 : BitVec 32 := 256#32
  let v1395 : BitVec 32 := Scalar.muli v1394 c256_i32_941
  v1395
def k0_off42 (i : grid0.Coords) : Fin 4 → Nat :=
  let c0_960 : Index := 0#32
  let c2_i32_951 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1406 : BitVec 32 := Scalar.muli c2_i32_951 v1349
  let c1_i32_952 : BitVec 32 := 1#32
  let v1407 : BitVec 32 := Scalar.addi v1406 c1_i32_952
  let v1421 : Index := Scalar.indexCast v1407
  let c256_961 : Index := 256#32
  let c0_962 : Index := 0#32
  ![0, v1421.toNat, 256, 0]
def k0_mult77 (i : grid0.Coords) : BitVec 32 :=
  let c2_i32_981 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1455 : BitVec 32 := Scalar.muli c2_i32_981 v1454
  let c1_i32_982 : BitVec 32 := 1#32
  let v1456 : BitVec 32 := Scalar.addi v1455 c1_i32_982
  let c256_i32_983 : BitVec 32 := 256#32
  let v1457 : BitVec 32 := Scalar.muli v1456 c256_i32_983
  v1457
def k0_off43 (i : grid0.Coords) (c1_i32_982 : BitVec 32) : Fin 3 → Nat :=
  let c0_984 : Index := 0#32
  let c2_i32_981 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1455 : BitVec 32 := Scalar.muli c2_i32_981 v1454
  let v1456 : BitVec 32 := Scalar.addi v1455 c1_i32_982
  let c256_i32_983 : BitVec 32 := 256#32
  let v1457 : BitVec 32 := Scalar.muli v1456 c256_i32_983
  let v1458 : BitVec 32 := v1457
  let v1459 : Index := Scalar.indexCast v1458
  let c384_985 : Index := 384#32
  ![0, v1459.toNat, 384]
def k0_off44 (i : grid0.Coords) : Fin 4 → Nat :=
  let c0_1001 : Index := 0#32
  let c2_i32_993 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1468 : BitVec 32 := Scalar.muli c2_i32_993 v1454
  let v1482 : Index := Scalar.indexCast v1468
  let c384_1002 : Index := 384#32
  let c0_1003 : Index := 0#32
  ![0, v1482.toNat, 384, 0]
def k0_mult78 (i : grid0.Coords) : BitVec 32 :=
  let c2_i32_1014 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1498 : BitVec 32 := Scalar.muli c2_i32_1014 v1454
  let c2_i32_1015 : BitVec 32 := 2#32
  let v1499 : BitVec 32 := Scalar.addi v1498 c2_i32_1015
  let c256_i32_1016 : BitVec 32 := 256#32
  let v1500 : BitVec 32 := Scalar.muli v1499 c256_i32_1016
  v1500
def k0_off45 (i : grid0.Coords) : Fin 4 → Nat :=
  let c0_1035 : Index := 0#32
  let c2_i32_1026 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1511 : BitVec 32 := Scalar.muli c2_i32_1026 v1454
  let c1_i32_1027 : BitVec 32 := 1#32
  let v1512 : BitVec 32 := Scalar.addi v1511 c1_i32_1027
  let v1526 : Index := Scalar.indexCast v1512
  let c384_1036 : Index := 384#32
  let c0_1037 : Index := 0#32
  ![0, v1526.toNat, 384, 0]
def k0_mult79 (i : grid0.Coords) : BitVec 32 :=
  let c2_i32_1057 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1561 : BitVec 32 := Scalar.muli c2_i32_1057 v1560
  let c1_i32_1058 : BitVec 32 := 1#32
  let v1562 : BitVec 32 := Scalar.addi v1561 c1_i32_1058
  let c256_i32_1059 : BitVec 32 := 256#32
  let v1563 : BitVec 32 := Scalar.muli v1562 c256_i32_1059
  v1563
def k0_off46 (i : grid0.Coords) (c1_i32_1058 : BitVec 32) : Fin 3 → Nat :=
  let c0_1060 : Index := 0#32
  let c2_i32_1057 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1561 : BitVec 32 := Scalar.muli c2_i32_1057 v1560
  let v1562 : BitVec 32 := Scalar.addi v1561 c1_i32_1058
  let c256_i32_1059 : BitVec 32 := 256#32
  let v1563 : BitVec 32 := Scalar.muli v1562 c256_i32_1059
  let v1564 : BitVec 32 := v1563
  let v1565 : Index := Scalar.indexCast v1564
  let c384_1061 : Index := 384#32
  ![0, v1565.toNat, 384]
def k0_off47 (i : grid0.Coords) : Fin 4 → Nat :=
  let c0_1077 : Index := 0#32
  let c2_i32_1069 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1574 : BitVec 32 := Scalar.muli c2_i32_1069 v1560
  let v1588 : Index := Scalar.indexCast v1574
  let c384_1078 : Index := 384#32
  let c0_1079 : Index := 0#32
  ![0, v1588.toNat, 384, 0]
def k0_mult80 (i : grid0.Coords) : BitVec 32 :=
  let c2_i32_1090 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1604 : BitVec 32 := Scalar.muli c2_i32_1090 v1560
  let c2_i32_1091 : BitVec 32 := 2#32
  let v1605 : BitVec 32 := Scalar.addi v1604 c2_i32_1091
  let c256_i32_1092 : BitVec 32 := 256#32
  let v1606 : BitVec 32 := Scalar.muli v1605 c256_i32_1092
  v1606
def k0_off48 (i : grid0.Coords) : Fin 4 → Nat :=
  let c0_1111 : Index := 0#32
  let c2_i32_1102 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1617 : BitVec 32 := Scalar.muli c2_i32_1102 v1560
  let c1_i32_1103 : BitVec 32 := 1#32
  let v1618 : BitVec 32 := Scalar.addi v1617 c1_i32_1103
  let v1632 : Index := Scalar.indexCast v1618
  let c384_1112 : Index := 384#32
  let c0_1113 : Index := 0#32
  ![0, v1632.toNat, 384, 0]
@[reducible] def k0_t4_loop (i : grid0.Coords) : Scf.Loop 32 :=
  let c0_i32_31 : BitVec 32 := 0#32
  let arg2 : BitVec 32 := BitVec.ofNat 32 (i 2).val
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi arg2 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c0_i32_24 : BitVec 32 := 0#32
  let v45 : BitVec 1 := Scalar.cmpi .sgt v43 c0_i32_24
  let v46 : BitVec 32 := Scalar.extui v45
  let c0_i32_25 : BitVec 32 := 0#32
  let v47 : BitVec 1 := Scalar.cmpi .slt v43 c0_i32_25
  let v48 : BitVec 32 := Scalar.extui v47
  let v49 : BitVec 32 := Scalar.subi v46 v48
  let c2_i32 : BitVec 32 := 2#32
  let c0_i32_26 : BitVec 32 := 0#32
  let v50 : BitVec 1 := Scalar.cmpi .sgt c2_i32 c0_i32_26
  let v51 : BitVec 32 := Scalar.extui v50
  let c0_i32_27 : BitVec 32 := 0#32
  let v52 : BitVec 1 := Scalar.cmpi .slt c2_i32 c0_i32_27
  let v53 : BitVec 32 := Scalar.extui v52
  let v54 : BitVec 32 := Scalar.subi v51 v53
  let v55 : BitVec 1 := Scalar.cmpi .ne v49 v54
  let v56 : BitVec 32 := Scalar.remsi v43 c2_i32
  let c0_i32_28 : BitVec 32 := 0#32
  let v57 : BitVec 1 := Scalar.cmpi .ne v56 c0_i32_28
  let v58 : BitVec 1 := Scalar.andi v55 v57
  let v44 : BitVec 32 := Scalar.divsi v43 c2_i32
  let c1_i32_29 : BitVec 32 := 1#32
  let v59 : BitVec 32 := Scalar.subi v44 c1_i32_29
  let v60 : BitVec 32 := Scalar.select v58 v59 v44
  let v61 : BitVec 32 := Scalar.subi v60 c0_i32_31
  let c1_i32_32 : BitVec 32 := 1#32
  let v63 : BitVec 32 := Scalar.divsi v61 c1_i32_32
  let v64 : BitVec 32 := Scalar.muli v63 c1_i32_32
  let v65 : BitVec 32 := Scalar.addi c0_i32_31 v64
  let v62 : BitVec 32 := Scalar.addi c0_i32_31 v61
  let c1_i32_34 : BitVec 32 := 1#32
  ⟨v65, v62, c1_i32_34⟩
def k0_mult81 (i : grid0.Coords) : BitVec 32 :=
  let c2_i32_528 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v822 : BitVec 32 := Scalar.muli c2_i32_528 v821
  let c1_i32_529 : BitVec 32 := 1#32
  let v823 : BitVec 32 := Scalar.addi v822 c1_i32_529
  let c256_i32_530 : BitVec 32 := 256#32
  let v824 : BitVec 32 := Scalar.muli v823 c256_i32_530
  v824
def k0_off49 (i : grid0.Coords) (c1_i32_529 : BitVec 32) : Fin 3 → Nat :=
  let c0_531 : Index := 0#32
  let c2_i32_528 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v822 : BitVec 32 := Scalar.muli c2_i32_528 v821
  let v823 : BitVec 32 := Scalar.addi v822 c1_i32_529
  let c256_i32_530 : BitVec 32 := 256#32
  let v824 : BitVec 32 := Scalar.muli v823 c256_i32_530
  let v825 : BitVec 32 := v824
  let v826 : Index := Scalar.indexCast v825
  let c0_532 : Index := 0#32
  ![0, v826.toNat, 0]
def k0_off50 (i : grid0.Coords) : Fin 4 → Nat :=
  let c0_548 : Index := 0#32
  let c2_i32_540 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v835 : BitVec 32 := Scalar.muli c2_i32_540 v821
  let v849 : Index := Scalar.indexCast v835
  let c0_549 : Index := 0#32
  let c0_550 : Index := 0#32
  ![0, v849.toNat, 0, 0]
def k0_mult82 (i : grid0.Coords) : BitVec 32 :=
  let c2_i32_561 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v865 : BitVec 32 := Scalar.muli c2_i32_561 v821
  let c2_i32_562 : BitVec 32 := 2#32
  let v866 : BitVec 32 := Scalar.addi v865 c2_i32_562
  let c256_i32_563 : BitVec 32 := 256#32
  let v867 : BitVec 32 := Scalar.muli v866 c256_i32_563
  v867
def k0_off51 (i : grid0.Coords) : Fin 4 → Nat :=
  let c0_582 : Index := 0#32
  let c2_i32_573 : BitVec 32 := 2#32
  let arg2 : BitVec 32 := BitVec.ofNat 32 (i 2).val
  let c0_i32_521 : BitVec 32 := 0#32
  let v805 : BitVec 1 := Scalar.cmpi .sgt arg2 c0_i32_521
  let v806 : BitVec 32 := Scalar.extui v805
  let c0_i32_522 : BitVec 32 := 0#32
  let v807 : BitVec 1 := Scalar.cmpi .slt arg2 c0_i32_522
  let v808 : BitVec 32 := Scalar.extui v807
  let v809 : BitVec 32 := Scalar.subi v806 v808
  let c4_i32_520 : BitVec 32 := 4#32
  let c0_i32_523 : BitVec 32 := 0#32
  let v810 : BitVec 1 := Scalar.cmpi .sgt c4_i32_520 c0_i32_523
  let v811 : BitVec 32 := Scalar.extui v810
  let c0_i32_524 : BitVec 32 := 0#32
  let v812 : BitVec 1 := Scalar.cmpi .slt c4_i32_520 c0_i32_524
  let v813 : BitVec 32 := Scalar.extui v812
  let v814 : BitVec 32 := Scalar.subi v811 v813
  let v815 : BitVec 1 := Scalar.cmpi .ne v809 v814
  let v816 : BitVec 32 := Scalar.remsi arg2 c4_i32_520
  let c0_i32_525 : BitVec 32 := 0#32
  let v817 : BitVec 1 := Scalar.cmpi .ne v816 c0_i32_525
  let v818 : BitVec 1 := Scalar.andi v815 v817
  let v804 : BitVec 32 := Scalar.divsi arg2 c4_i32_520
  let c1_i32_526 : BitVec 32 := 1#32
  let v819 : BitVec 32 := Scalar.subi v804 c1_i32_526
  let v820 : BitVec 32 := Scalar.select v818 v819 v804
  let c4_i32_527 : BitVec 32 := 4#32
  let v821 : BitVec 32 := Scalar.muli v820 c4_i32_527
  let v878 : BitVec 32 := Scalar.muli c2_i32_573 v821
  let c1_i32_574 : BitVec 32 := 1#32
  let v879 : BitVec 32 := Scalar.addi v878 c1_i32_574
  let v893 : Index := Scalar.indexCast v879
  let c0_583 : Index := 0#32
  let c0_584 : Index := 0#32
  ![0, v893.toNat, 0, 0]
def k0_mult83 (i : grid0.Coords) : BitVec 32 :=
  let c2_i32_604 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v928 : BitVec 32 := Scalar.muli c2_i32_604 v927
  let c1_i32_605 : BitVec 32 := 1#32
  let v929 : BitVec 32 := Scalar.addi v928 c1_i32_605
  let c256_i32_606 : BitVec 32 := 256#32
  let v930 : BitVec 32 := Scalar.muli v929 c256_i32_606
  v930
def k0_off52 (i : grid0.Coords) (c1_i32_605 : BitVec 32) : Fin 3 → Nat :=
  let c0_607 : Index := 0#32
  let c2_i32_604 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v928 : BitVec 32 := Scalar.muli c2_i32_604 v927
  let v929 : BitVec 32 := Scalar.addi v928 c1_i32_605
  let c256_i32_606 : BitVec 32 := 256#32
  let v930 : BitVec 32 := Scalar.muli v929 c256_i32_606
  let v931 : BitVec 32 := v930
  let v932 : Index := Scalar.indexCast v931
  let c0_608 : Index := 0#32
  ![0, v932.toNat, 0]
def k0_off53 (i : grid0.Coords) : Fin 4 → Nat :=
  let c0_624 : Index := 0#32
  let c2_i32_616 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v941 : BitVec 32 := Scalar.muli c2_i32_616 v927
  let v955 : Index := Scalar.indexCast v941
  let c0_625 : Index := 0#32
  let c0_626 : Index := 0#32
  ![0, v955.toNat, 0, 0]
def k0_mult84 (i : grid0.Coords) : BitVec 32 :=
  let c2_i32_637 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v971 : BitVec 32 := Scalar.muli c2_i32_637 v927
  let c2_i32_638 : BitVec 32 := 2#32
  let v972 : BitVec 32 := Scalar.addi v971 c2_i32_638
  let c256_i32_639 : BitVec 32 := 256#32
  let v973 : BitVec 32 := Scalar.muli v972 c256_i32_639
  v973
def k0_off54 (i : grid0.Coords) : Fin 4 → Nat :=
  let c0_658 : Index := 0#32
  let c2_i32_649 : BitVec 32 := 2#32
  let arg2 : BitVec 32 := BitVec.ofNat 32 (i 2).val
  let c0_i32_596 : BitVec 32 := 0#32
  let v910 : BitVec 1 := Scalar.cmpi .sgt arg2 c0_i32_596
  let v911 : BitVec 32 := Scalar.extui v910
  let c0_i32_597 : BitVec 32 := 0#32
  let v912 : BitVec 1 := Scalar.cmpi .slt arg2 c0_i32_597
  let v913 : BitVec 32 := Scalar.extui v912
  let v914 : BitVec 32 := Scalar.subi v911 v913
  let c4_i32_595 : BitVec 32 := 4#32
  let c0_i32_598 : BitVec 32 := 0#32
  let v915 : BitVec 1 := Scalar.cmpi .sgt c4_i32_595 c0_i32_598
  let v916 : BitVec 32 := Scalar.extui v915
  let c0_i32_599 : BitVec 32 := 0#32
  let v917 : BitVec 1 := Scalar.cmpi .slt c4_i32_595 c0_i32_599
  let v918 : BitVec 32 := Scalar.extui v917
  let v919 : BitVec 32 := Scalar.subi v916 v918
  let v920 : BitVec 1 := Scalar.cmpi .ne v914 v919
  let v921 : BitVec 32 := Scalar.remsi arg2 c4_i32_595
  let c0_i32_600 : BitVec 32 := 0#32
  let v922 : BitVec 1 := Scalar.cmpi .ne v921 c0_i32_600
  let v923 : BitVec 1 := Scalar.andi v920 v922
  let v909 : BitVec 32 := Scalar.divsi arg2 c4_i32_595
  let c1_i32_601 : BitVec 32 := 1#32
  let v924 : BitVec 32 := Scalar.subi v909 c1_i32_601
  let v925 : BitVec 32 := Scalar.select v923 v924 v909
  let c4_i32_602 : BitVec 32 := 4#32
  let v926 : BitVec 32 := Scalar.muli v925 c4_i32_602
  let c1_i32_603 : BitVec 32 := 1#32
  let v927 : BitVec 32 := Scalar.addi v926 c1_i32_603
  let v984 : BitVec 32 := Scalar.muli c2_i32_649 v927
  let c1_i32_650 : BitVec 32 := 1#32
  let v985 : BitVec 32 := Scalar.addi v984 c1_i32_650
  let v999 : Index := Scalar.indexCast v985
  let c0_659 : Index := 0#32
  let c0_660 : Index := 0#32
  ![0, v999.toNat, 0, 0]
def k0_mult85 (i : grid0.Coords) : BitVec 32 :=
  let c2_i32_679 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1033 : BitVec 32 := Scalar.muli c2_i32_679 v1032
  let c1_i32_680 : BitVec 32 := 1#32
  let v1034 : BitVec 32 := Scalar.addi v1033 c1_i32_680
  let c256_i32_681 : BitVec 32 := 256#32
  let v1035 : BitVec 32 := Scalar.muli v1034 c256_i32_681
  v1035
def k0_off55 (i : grid0.Coords) (c1_i32_680 : BitVec 32) : Fin 3 → Nat :=
  let c0_682 : Index := 0#32
  let c2_i32_679 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1033 : BitVec 32 := Scalar.muli c2_i32_679 v1032
  let v1034 : BitVec 32 := Scalar.addi v1033 c1_i32_680
  let c256_i32_681 : BitVec 32 := 256#32
  let v1035 : BitVec 32 := Scalar.muli v1034 c256_i32_681
  let v1036 : BitVec 32 := v1035
  let v1037 : Index := Scalar.indexCast v1036
  let c128_683 : Index := 128#32
  ![0, v1037.toNat, 128]
def k0_off56 (i : grid0.Coords) : Fin 4 → Nat :=
  let c0_699 : Index := 0#32
  let c2_i32_691 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1046 : BitVec 32 := Scalar.muli c2_i32_691 v1032
  let v1060 : Index := Scalar.indexCast v1046
  let c128_700 : Index := 128#32
  let c0_701 : Index := 0#32
  ![0, v1060.toNat, 128, 0]
def k0_mult86 (i : grid0.Coords) : BitVec 32 :=
  let c2_i32_712 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1076 : BitVec 32 := Scalar.muli c2_i32_712 v1032
  let c2_i32_713 : BitVec 32 := 2#32
  let v1077 : BitVec 32 := Scalar.addi v1076 c2_i32_713
  let c256_i32_714 : BitVec 32 := 256#32
  let v1078 : BitVec 32 := Scalar.muli v1077 c256_i32_714
  v1078
def k0_off57 (i : grid0.Coords) : Fin 4 → Nat :=
  let c0_733 : Index := 0#32
  let c2_i32_724 : BitVec 32 := 2#32
  let arg2 : BitVec 32 := BitVec.ofNat 32 (i 2).val
  let c0_i32_672 : BitVec 32 := 0#32
  let v1016 : BitVec 1 := Scalar.cmpi .sgt arg2 c0_i32_672
  let v1017 : BitVec 32 := Scalar.extui v1016
  let c0_i32_673 : BitVec 32 := 0#32
  let v1018 : BitVec 1 := Scalar.cmpi .slt arg2 c0_i32_673
  let v1019 : BitVec 32 := Scalar.extui v1018
  let v1020 : BitVec 32 := Scalar.subi v1017 v1019
  let c4_i32_671 : BitVec 32 := 4#32
  let c0_i32_674 : BitVec 32 := 0#32
  let v1021 : BitVec 1 := Scalar.cmpi .sgt c4_i32_671 c0_i32_674
  let v1022 : BitVec 32 := Scalar.extui v1021
  let c0_i32_675 : BitVec 32 := 0#32
  let v1023 : BitVec 1 := Scalar.cmpi .slt c4_i32_671 c0_i32_675
  let v1024 : BitVec 32 := Scalar.extui v1023
  let v1025 : BitVec 32 := Scalar.subi v1022 v1024
  let v1026 : BitVec 1 := Scalar.cmpi .ne v1020 v1025
  let v1027 : BitVec 32 := Scalar.remsi arg2 c4_i32_671
  let c0_i32_676 : BitVec 32 := 0#32
  let v1028 : BitVec 1 := Scalar.cmpi .ne v1027 c0_i32_676
  let v1029 : BitVec 1 := Scalar.andi v1026 v1028
  let v1015 : BitVec 32 := Scalar.divsi arg2 c4_i32_671
  let c1_i32_677 : BitVec 32 := 1#32
  let v1030 : BitVec 32 := Scalar.subi v1015 c1_i32_677
  let v1031 : BitVec 32 := Scalar.select v1029 v1030 v1015
  let c4_i32_678 : BitVec 32 := 4#32
  let v1032 : BitVec 32 := Scalar.muli v1031 c4_i32_678
  let v1089 : BitVec 32 := Scalar.muli c2_i32_724 v1032
  let c1_i32_725 : BitVec 32 := 1#32
  let v1090 : BitVec 32 := Scalar.addi v1089 c1_i32_725
  let v1104 : Index := Scalar.indexCast v1090
  let c128_734 : Index := 128#32
  let c0_735 : Index := 0#32
  ![0, v1104.toNat, 128, 0]
def k0_mult87 (i : grid0.Coords) : BitVec 32 :=
  let c2_i32_755 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1139 : BitVec 32 := Scalar.muli c2_i32_755 v1138
  let c1_i32_756 : BitVec 32 := 1#32
  let v1140 : BitVec 32 := Scalar.addi v1139 c1_i32_756
  let c256_i32_757 : BitVec 32 := 256#32
  let v1141 : BitVec 32 := Scalar.muli v1140 c256_i32_757
  v1141
def k0_off58 (i : grid0.Coords) (c1_i32_756 : BitVec 32) : Fin 3 → Nat :=
  let c0_758 : Index := 0#32
  let c2_i32_755 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1139 : BitVec 32 := Scalar.muli c2_i32_755 v1138
  let v1140 : BitVec 32 := Scalar.addi v1139 c1_i32_756
  let c256_i32_757 : BitVec 32 := 256#32
  let v1141 : BitVec 32 := Scalar.muli v1140 c256_i32_757
  let v1142 : BitVec 32 := v1141
  let v1143 : Index := Scalar.indexCast v1142
  let c128_759 : Index := 128#32
  ![0, v1143.toNat, 128]
def k0_off59 (i : grid0.Coords) : Fin 4 → Nat :=
  let c0_775 : Index := 0#32
  let c2_i32_767 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1152 : BitVec 32 := Scalar.muli c2_i32_767 v1138
  let v1166 : Index := Scalar.indexCast v1152
  let c128_776 : Index := 128#32
  let c0_777 : Index := 0#32
  ![0, v1166.toNat, 128, 0]
def k0_mult88 (i : grid0.Coords) : BitVec 32 :=
  let c2_i32_788 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1182 : BitVec 32 := Scalar.muli c2_i32_788 v1138
  let c2_i32_789 : BitVec 32 := 2#32
  let v1183 : BitVec 32 := Scalar.addi v1182 c2_i32_789
  let c256_i32_790 : BitVec 32 := 256#32
  let v1184 : BitVec 32 := Scalar.muli v1183 c256_i32_790
  v1184
def k0_off60 (i : grid0.Coords) : Fin 4 → Nat :=
  let c0_809 : Index := 0#32
  let c2_i32_800 : BitVec 32 := 2#32
  let arg2 : BitVec 32 := BitVec.ofNat 32 (i 2).val
  let c0_i32_747 : BitVec 32 := 0#32
  let v1121 : BitVec 1 := Scalar.cmpi .sgt arg2 c0_i32_747
  let v1122 : BitVec 32 := Scalar.extui v1121
  let c0_i32_748 : BitVec 32 := 0#32
  let v1123 : BitVec 1 := Scalar.cmpi .slt arg2 c0_i32_748
  let v1124 : BitVec 32 := Scalar.extui v1123
  let v1125 : BitVec 32 := Scalar.subi v1122 v1124
  let c4_i32_746 : BitVec 32 := 4#32
  let c0_i32_749 : BitVec 32 := 0#32
  let v1126 : BitVec 1 := Scalar.cmpi .sgt c4_i32_746 c0_i32_749
  let v1127 : BitVec 32 := Scalar.extui v1126
  let c0_i32_750 : BitVec 32 := 0#32
  let v1128 : BitVec 1 := Scalar.cmpi .slt c4_i32_746 c0_i32_750
  let v1129 : BitVec 32 := Scalar.extui v1128
  let v1130 : BitVec 32 := Scalar.subi v1127 v1129
  let v1131 : BitVec 1 := Scalar.cmpi .ne v1125 v1130
  let v1132 : BitVec 32 := Scalar.remsi arg2 c4_i32_746
  let c0_i32_751 : BitVec 32 := 0#32
  let v1133 : BitVec 1 := Scalar.cmpi .ne v1132 c0_i32_751
  let v1134 : BitVec 1 := Scalar.andi v1131 v1133
  let v1120 : BitVec 32 := Scalar.divsi arg2 c4_i32_746
  let c1_i32_752 : BitVec 32 := 1#32
  let v1135 : BitVec 32 := Scalar.subi v1120 c1_i32_752
  let v1136 : BitVec 32 := Scalar.select v1134 v1135 v1120
  let c4_i32_753 : BitVec 32 := 4#32
  let v1137 : BitVec 32 := Scalar.muli v1136 c4_i32_753
  let c1_i32_754 : BitVec 32 := 1#32
  let v1138 : BitVec 32 := Scalar.addi v1137 c1_i32_754
  let v1195 : BitVec 32 := Scalar.muli c2_i32_800 v1138
  let c1_i32_801 : BitVec 32 := 1#32
  let v1196 : BitVec 32 := Scalar.addi v1195 c1_i32_801
  let v1210 : Index := Scalar.indexCast v1196
  let c128_810 : Index := 128#32
  let c0_811 : Index := 0#32
  ![0, v1210.toNat, 128, 0]
def k0_mult89 (i : grid0.Coords) : BitVec 32 :=
  let c2_i32_830 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1244 : BitVec 32 := Scalar.muli c2_i32_830 v1243
  let c1_i32_831 : BitVec 32 := 1#32
  let v1245 : BitVec 32 := Scalar.addi v1244 c1_i32_831
  let c256_i32_832 : BitVec 32 := 256#32
  let v1246 : BitVec 32 := Scalar.muli v1245 c256_i32_832
  v1246
def k0_off61 (i : grid0.Coords) (c1_i32_831 : BitVec 32) : Fin 3 → Nat :=
  let c0_833 : Index := 0#32
  let c2_i32_830 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1244 : BitVec 32 := Scalar.muli c2_i32_830 v1243
  let v1245 : BitVec 32 := Scalar.addi v1244 c1_i32_831
  let c256_i32_832 : BitVec 32 := 256#32
  let v1246 : BitVec 32 := Scalar.muli v1245 c256_i32_832
  let v1247 : BitVec 32 := v1246
  let v1248 : Index := Scalar.indexCast v1247
  let c256_834 : Index := 256#32
  ![0, v1248.toNat, 256]
def k0_off62 (i : grid0.Coords) : Fin 4 → Nat :=
  let c0_850 : Index := 0#32
  let c2_i32_842 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1257 : BitVec 32 := Scalar.muli c2_i32_842 v1243
  let v1271 : Index := Scalar.indexCast v1257
  let c256_851 : Index := 256#32
  let c0_852 : Index := 0#32
  ![0, v1271.toNat, 256, 0]
def k0_mult90 (i : grid0.Coords) : BitVec 32 :=
  let c2_i32_863 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1287 : BitVec 32 := Scalar.muli c2_i32_863 v1243
  let c2_i32_864 : BitVec 32 := 2#32
  let v1288 : BitVec 32 := Scalar.addi v1287 c2_i32_864
  let c256_i32_865 : BitVec 32 := 256#32
  let v1289 : BitVec 32 := Scalar.muli v1288 c256_i32_865
  v1289
def k0_off63 (i : grid0.Coords) : Fin 4 → Nat :=
  let c0_884 : Index := 0#32
  let c2_i32_875 : BitVec 32 := 2#32
  let arg2 : BitVec 32 := BitVec.ofNat 32 (i 2).val
  let c0_i32_823 : BitVec 32 := 0#32
  let v1227 : BitVec 1 := Scalar.cmpi .sgt arg2 c0_i32_823
  let v1228 : BitVec 32 := Scalar.extui v1227
  let c0_i32_824 : BitVec 32 := 0#32
  let v1229 : BitVec 1 := Scalar.cmpi .slt arg2 c0_i32_824
  let v1230 : BitVec 32 := Scalar.extui v1229
  let v1231 : BitVec 32 := Scalar.subi v1228 v1230
  let c4_i32_822 : BitVec 32 := 4#32
  let c0_i32_825 : BitVec 32 := 0#32
  let v1232 : BitVec 1 := Scalar.cmpi .sgt c4_i32_822 c0_i32_825
  let v1233 : BitVec 32 := Scalar.extui v1232
  let c0_i32_826 : BitVec 32 := 0#32
  let v1234 : BitVec 1 := Scalar.cmpi .slt c4_i32_822 c0_i32_826
  let v1235 : BitVec 32 := Scalar.extui v1234
  let v1236 : BitVec 32 := Scalar.subi v1233 v1235
  let v1237 : BitVec 1 := Scalar.cmpi .ne v1231 v1236
  let v1238 : BitVec 32 := Scalar.remsi arg2 c4_i32_822
  let c0_i32_827 : BitVec 32 := 0#32
  let v1239 : BitVec 1 := Scalar.cmpi .ne v1238 c0_i32_827
  let v1240 : BitVec 1 := Scalar.andi v1237 v1239
  let v1226 : BitVec 32 := Scalar.divsi arg2 c4_i32_822
  let c1_i32_828 : BitVec 32 := 1#32
  let v1241 : BitVec 32 := Scalar.subi v1226 c1_i32_828
  let v1242 : BitVec 32 := Scalar.select v1240 v1241 v1226
  let c4_i32_829 : BitVec 32 := 4#32
  let v1243 : BitVec 32 := Scalar.muli v1242 c4_i32_829
  let v1300 : BitVec 32 := Scalar.muli c2_i32_875 v1243
  let c1_i32_876 : BitVec 32 := 1#32
  let v1301 : BitVec 32 := Scalar.addi v1300 c1_i32_876
  let v1315 : Index := Scalar.indexCast v1301
  let c256_885 : Index := 256#32
  let c0_886 : Index := 0#32
  ![0, v1315.toNat, 256, 0]
def k0_mult91 (i : grid0.Coords) : BitVec 32 :=
  let c2_i32_906 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1350 : BitVec 32 := Scalar.muli c2_i32_906 v1349
  let c1_i32_907 : BitVec 32 := 1#32
  let v1351 : BitVec 32 := Scalar.addi v1350 c1_i32_907
  let c256_i32_908 : BitVec 32 := 256#32
  let v1352 : BitVec 32 := Scalar.muli v1351 c256_i32_908
  v1352
def k0_off64 (i : grid0.Coords) (c1_i32_907 : BitVec 32) : Fin 3 → Nat :=
  let c0_909 : Index := 0#32
  let c2_i32_906 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1350 : BitVec 32 := Scalar.muli c2_i32_906 v1349
  let v1351 : BitVec 32 := Scalar.addi v1350 c1_i32_907
  let c256_i32_908 : BitVec 32 := 256#32
  let v1352 : BitVec 32 := Scalar.muli v1351 c256_i32_908
  let v1353 : BitVec 32 := v1352
  let v1354 : Index := Scalar.indexCast v1353
  let c256_910 : Index := 256#32
  ![0, v1354.toNat, 256]
def k0_off65 (i : grid0.Coords) : Fin 4 → Nat :=
  let c0_926 : Index := 0#32
  let c2_i32_918 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1363 : BitVec 32 := Scalar.muli c2_i32_918 v1349
  let v1377 : Index := Scalar.indexCast v1363
  let c256_927 : Index := 256#32
  let c0_928 : Index := 0#32
  ![0, v1377.toNat, 256, 0]
def k0_mult92 (i : grid0.Coords) : BitVec 32 :=
  let c2_i32_939 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1393 : BitVec 32 := Scalar.muli c2_i32_939 v1349
  let c2_i32_940 : BitVec 32 := 2#32
  let v1394 : BitVec 32 := Scalar.addi v1393 c2_i32_940
  let c256_i32_941 : BitVec 32 := 256#32
  let v1395 : BitVec 32 := Scalar.muli v1394 c256_i32_941
  v1395
def k0_off66 (i : grid0.Coords) : Fin 4 → Nat :=
  let c0_960 : Index := 0#32
  let c2_i32_951 : BitVec 32 := 2#32
  let arg2 : BitVec 32 := BitVec.ofNat 32 (i 2).val
  let c0_i32_898 : BitVec 32 := 0#32
  let v1332 : BitVec 1 := Scalar.cmpi .sgt arg2 c0_i32_898
  let v1333 : BitVec 32 := Scalar.extui v1332
  let c0_i32_899 : BitVec 32 := 0#32
  let v1334 : BitVec 1 := Scalar.cmpi .slt arg2 c0_i32_899
  let v1335 : BitVec 32 := Scalar.extui v1334
  let v1336 : BitVec 32 := Scalar.subi v1333 v1335
  let c4_i32_897 : BitVec 32 := 4#32
  let c0_i32_900 : BitVec 32 := 0#32
  let v1337 : BitVec 1 := Scalar.cmpi .sgt c4_i32_897 c0_i32_900
  let v1338 : BitVec 32 := Scalar.extui v1337
  let c0_i32_901 : BitVec 32 := 0#32
  let v1339 : BitVec 1 := Scalar.cmpi .slt c4_i32_897 c0_i32_901
  let v1340 : BitVec 32 := Scalar.extui v1339
  let v1341 : BitVec 32 := Scalar.subi v1338 v1340
  let v1342 : BitVec 1 := Scalar.cmpi .ne v1336 v1341
  let v1343 : BitVec 32 := Scalar.remsi arg2 c4_i32_897
  let c0_i32_902 : BitVec 32 := 0#32
  let v1344 : BitVec 1 := Scalar.cmpi .ne v1343 c0_i32_902
  let v1345 : BitVec 1 := Scalar.andi v1342 v1344
  let v1331 : BitVec 32 := Scalar.divsi arg2 c4_i32_897
  let c1_i32_903 : BitVec 32 := 1#32
  let v1346 : BitVec 32 := Scalar.subi v1331 c1_i32_903
  let v1347 : BitVec 32 := Scalar.select v1345 v1346 v1331
  let c4_i32_904 : BitVec 32 := 4#32
  let v1348 : BitVec 32 := Scalar.muli v1347 c4_i32_904
  let c1_i32_905 : BitVec 32 := 1#32
  let v1349 : BitVec 32 := Scalar.addi v1348 c1_i32_905
  let v1406 : BitVec 32 := Scalar.muli c2_i32_951 v1349
  let c1_i32_952 : BitVec 32 := 1#32
  let v1407 : BitVec 32 := Scalar.addi v1406 c1_i32_952
  let v1421 : Index := Scalar.indexCast v1407
  let c256_961 : Index := 256#32
  let c0_962 : Index := 0#32
  ![0, v1421.toNat, 256, 0]
def k0_mult93 (i : grid0.Coords) : BitVec 32 :=
  let c2_i32_981 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1455 : BitVec 32 := Scalar.muli c2_i32_981 v1454
  let c1_i32_982 : BitVec 32 := 1#32
  let v1456 : BitVec 32 := Scalar.addi v1455 c1_i32_982
  let c256_i32_983 : BitVec 32 := 256#32
  let v1457 : BitVec 32 := Scalar.muli v1456 c256_i32_983
  v1457
def k0_off67 (i : grid0.Coords) (c1_i32_982 : BitVec 32) : Fin 3 → Nat :=
  let c0_984 : Index := 0#32
  let c2_i32_981 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1455 : BitVec 32 := Scalar.muli c2_i32_981 v1454
  let v1456 : BitVec 32 := Scalar.addi v1455 c1_i32_982
  let c256_i32_983 : BitVec 32 := 256#32
  let v1457 : BitVec 32 := Scalar.muli v1456 c256_i32_983
  let v1458 : BitVec 32 := v1457
  let v1459 : Index := Scalar.indexCast v1458
  let c384_985 : Index := 384#32
  ![0, v1459.toNat, 384]
def k0_off68 (i : grid0.Coords) : Fin 4 → Nat :=
  let c0_1001 : Index := 0#32
  let c2_i32_993 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1468 : BitVec 32 := Scalar.muli c2_i32_993 v1454
  let v1482 : Index := Scalar.indexCast v1468
  let c384_1002 : Index := 384#32
  let c0_1003 : Index := 0#32
  ![0, v1482.toNat, 384, 0]
def k0_mult94 (i : grid0.Coords) : BitVec 32 :=
  let c2_i32_1014 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1498 : BitVec 32 := Scalar.muli c2_i32_1014 v1454
  let c2_i32_1015 : BitVec 32 := 2#32
  let v1499 : BitVec 32 := Scalar.addi v1498 c2_i32_1015
  let c256_i32_1016 : BitVec 32 := 256#32
  let v1500 : BitVec 32 := Scalar.muli v1499 c256_i32_1016
  v1500
def k0_off69 (i : grid0.Coords) : Fin 4 → Nat :=
  let c0_1035 : Index := 0#32
  let c2_i32_1026 : BitVec 32 := 2#32
  let arg2 : BitVec 32 := BitVec.ofNat 32 (i 2).val
  let c0_i32_974 : BitVec 32 := 0#32
  let v1438 : BitVec 1 := Scalar.cmpi .sgt arg2 c0_i32_974
  let v1439 : BitVec 32 := Scalar.extui v1438
  let c0_i32_975 : BitVec 32 := 0#32
  let v1440 : BitVec 1 := Scalar.cmpi .slt arg2 c0_i32_975
  let v1441 : BitVec 32 := Scalar.extui v1440
  let v1442 : BitVec 32 := Scalar.subi v1439 v1441
  let c4_i32_973 : BitVec 32 := 4#32
  let c0_i32_976 : BitVec 32 := 0#32
  let v1443 : BitVec 1 := Scalar.cmpi .sgt c4_i32_973 c0_i32_976
  let v1444 : BitVec 32 := Scalar.extui v1443
  let c0_i32_977 : BitVec 32 := 0#32
  let v1445 : BitVec 1 := Scalar.cmpi .slt c4_i32_973 c0_i32_977
  let v1446 : BitVec 32 := Scalar.extui v1445
  let v1447 : BitVec 32 := Scalar.subi v1444 v1446
  let v1448 : BitVec 1 := Scalar.cmpi .ne v1442 v1447
  let v1449 : BitVec 32 := Scalar.remsi arg2 c4_i32_973
  let c0_i32_978 : BitVec 32 := 0#32
  let v1450 : BitVec 1 := Scalar.cmpi .ne v1449 c0_i32_978
  let v1451 : BitVec 1 := Scalar.andi v1448 v1450
  let v1437 : BitVec 32 := Scalar.divsi arg2 c4_i32_973
  let c1_i32_979 : BitVec 32 := 1#32
  let v1452 : BitVec 32 := Scalar.subi v1437 c1_i32_979
  let v1453 : BitVec 32 := Scalar.select v1451 v1452 v1437
  let c4_i32_980 : BitVec 32 := 4#32
  let v1454 : BitVec 32 := Scalar.muli v1453 c4_i32_980
  let v1511 : BitVec 32 := Scalar.muli c2_i32_1026 v1454
  let c1_i32_1027 : BitVec 32 := 1#32
  let v1512 : BitVec 32 := Scalar.addi v1511 c1_i32_1027
  let v1526 : Index := Scalar.indexCast v1512
  let c384_1036 : Index := 384#32
  let c0_1037 : Index := 0#32
  ![0, v1526.toNat, 384, 0]
def k0_mult95 (i : grid0.Coords) : BitVec 32 :=
  let c2_i32_1057 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1561 : BitVec 32 := Scalar.muli c2_i32_1057 v1560
  let c1_i32_1058 : BitVec 32 := 1#32
  let v1562 : BitVec 32 := Scalar.addi v1561 c1_i32_1058
  let c256_i32_1059 : BitVec 32 := 256#32
  let v1563 : BitVec 32 := Scalar.muli v1562 c256_i32_1059
  v1563
def k0_off70 (i : grid0.Coords) (c1_i32_1058 : BitVec 32) : Fin 3 → Nat :=
  let c0_1060 : Index := 0#32
  let c2_i32_1057 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1561 : BitVec 32 := Scalar.muli c2_i32_1057 v1560
  let v1562 : BitVec 32 := Scalar.addi v1561 c1_i32_1058
  let c256_i32_1059 : BitVec 32 := 256#32
  let v1563 : BitVec 32 := Scalar.muli v1562 c256_i32_1059
  let v1564 : BitVec 32 := v1563
  let v1565 : Index := Scalar.indexCast v1564
  let c384_1061 : Index := 384#32
  ![0, v1565.toNat, 384]
def k0_off71 (i : grid0.Coords) : Fin 4 → Nat :=
  let c0_1077 : Index := 0#32
  let c2_i32_1069 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1574 : BitVec 32 := Scalar.muli c2_i32_1069 v1560
  let v1588 : Index := Scalar.indexCast v1574
  let c384_1078 : Index := 384#32
  let c0_1079 : Index := 0#32
  ![0, v1588.toNat, 384, 0]
def k0_mult96 (i : grid0.Coords) : BitVec 32 :=
  let c2_i32_1090 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1604 : BitVec 32 := Scalar.muli c2_i32_1090 v1560
  let c2_i32_1091 : BitVec 32 := 2#32
  let v1605 : BitVec 32 := Scalar.addi v1604 c2_i32_1091
  let c256_i32_1092 : BitVec 32 := 256#32
  let v1606 : BitVec 32 := Scalar.muli v1605 c256_i32_1092
  v1606
def k0_off72 (i : grid0.Coords) : Fin 4 → Nat :=
  let c0_1111 : Index := 0#32
  let c2_i32_1102 : BitVec 32 := 2#32
  let arg2 : BitVec 32 := BitVec.ofNat 32 (i 2).val
  let c0_i32_1049 : BitVec 32 := 0#32
  let v1543 : BitVec 1 := Scalar.cmpi .sgt arg2 c0_i32_1049
  let v1544 : BitVec 32 := Scalar.extui v1543
  let c0_i32_1050 : BitVec 32 := 0#32
  let v1545 : BitVec 1 := Scalar.cmpi .slt arg2 c0_i32_1050
  let v1546 : BitVec 32 := Scalar.extui v1545
  let v1547 : BitVec 32 := Scalar.subi v1544 v1546
  let c4_i32_1048 : BitVec 32 := 4#32
  let c0_i32_1051 : BitVec 32 := 0#32
  let v1548 : BitVec 1 := Scalar.cmpi .sgt c4_i32_1048 c0_i32_1051
  let v1549 : BitVec 32 := Scalar.extui v1548
  let c0_i32_1052 : BitVec 32 := 0#32
  let v1550 : BitVec 1 := Scalar.cmpi .slt c4_i32_1048 c0_i32_1052
  let v1551 : BitVec 32 := Scalar.extui v1550
  let v1552 : BitVec 32 := Scalar.subi v1549 v1551
  let v1553 : BitVec 1 := Scalar.cmpi .ne v1547 v1552
  let v1554 : BitVec 32 := Scalar.remsi arg2 c4_i32_1048
  let c0_i32_1053 : BitVec 32 := 0#32
  let v1555 : BitVec 1 := Scalar.cmpi .ne v1554 c0_i32_1053
  let v1556 : BitVec 1 := Scalar.andi v1553 v1555
  let v1542 : BitVec 32 := Scalar.divsi arg2 c4_i32_1048
  let c1_i32_1054 : BitVec 32 := 1#32
  let v1557 : BitVec 32 := Scalar.subi v1542 c1_i32_1054
  let v1558 : BitVec 32 := Scalar.select v1556 v1557 v1542
  let c4_i32_1055 : BitVec 32 := 4#32
  let v1559 : BitVec 32 := Scalar.muli v1558 c4_i32_1055
  let c1_i32_1056 : BitVec 32 := 1#32
  let v1560 : BitVec 32 := Scalar.addi v1559 c1_i32_1056
  let v1617 : BitVec 32 := Scalar.muli c2_i32_1102 v1560
  let c1_i32_1103 : BitVec 32 := 1#32
  let v1618 : BitVec 32 := Scalar.addi v1617 c1_i32_1103
  let v1632 : Index := Scalar.indexCast v1618
  let c384_1112 : Index := 384#32
  let c0_1113 : Index := 0#32
  ![0, v1632.toNat, 384, 0]
@[reducible] def k0_t5_loop (i : grid0.Coords) : Scf.Loop 32 :=
  let c0_i32_42 : BitVec 32 := 0#32
  let arg2 : BitVec 32 := BitVec.ofNat 32 (i 2).val
  let c2_i32_35 : BitVec 32 := 2#32
  let c0_i32_36 : BitVec 32 := 0#32
  let v66 : BitVec 1 := Scalar.cmpi .eq c2_i32_35 c0_i32_36
  let c1_i32_37 : BitVec 32 := 1#32
  let v67 : BitVec 32 := Scalar.select v66 c1_i32_37 c2_i32_35
  let v68 : BitVec 32 := Scalar.remsi arg2 v67
  let c0_i32_39 : BitVec 32 := 0#32
  let v70 : BitVec 1 := Scalar.cmpi .slt v68 c0_i32_39
  let c0_i32_40 : BitVec 32 := 0#32
  let v71 : BitVec 1 := Scalar.cmpi .slt v67 c0_i32_40
  let v72 : BitVec 1 := Scalar.xori v70 v71
  let c0_i32_38 : BitVec 32 := 0#32
  let v69 : BitVec 1 := Scalar.cmpi .ne v68 c0_i32_38
  let v73 : BitVec 1 := Scalar.andi v72 v69
  let v74 : BitVec 32 := Scalar.addi v68 v67
  let v75 : BitVec 32 := Scalar.select v73 v74 v68
  let v76 : BitVec 32 := Scalar.subi v75 c0_i32_42
  let c1_i32_43 : BitVec 32 := 1#32
  let v78 : BitVec 32 := Scalar.divsi v76 c1_i32_43
  let v79 : BitVec 32 := Scalar.muli v78 c1_i32_43
  let v80 : BitVec 32 := Scalar.addi c0_i32_42 v79
  let c1_i32_44 : BitVec 32 := 1#32
  ⟨c0_i32_42, v80, c1_i32_44⟩
def k0_mult97 (i : grid0.Coords) : BitVec 32 :=
  let c2_i32_521 : BitVec 32 := 2#32
  let arg2 : BitVec 32 := BitVec.ofNat 32 (i 2).val
  let c1_i32_520 : BitVec 32 := 1#32
  let v804 : BitVec 32 := Scalar.subi arg2 c1_i32_520
  let v805 : BitVec 32 := Scalar.muli c2_i32_521 v804
  let c1_i32_522 : BitVec 32 := 1#32
  let v806 : BitVec 32 := Scalar.addi v805 c1_i32_522
  let c256_i32_523 : BitVec 32 := 256#32
  let v807 : BitVec 32 := Scalar.muli v806 c256_i32_523
  v807
def k0_off73 (i : grid0.Coords) (c1_i32_522 : BitVec 32) : Fin 3 → Nat :=
  let c0_524 : Index := 0#32
  let c2_i32_521 : BitVec 32 := 2#32
  let arg2 : BitVec 32 := BitVec.ofNat 32 (i 2).val
  let c1_i32_520 : BitVec 32 := 1#32
  let v804 : BitVec 32 := Scalar.subi arg2 c1_i32_520
  let v805 : BitVec 32 := Scalar.muli c2_i32_521 v804
  let v806 : BitVec 32 := Scalar.addi v805 c1_i32_522
  let c256_i32_523 : BitVec 32 := 256#32
  let v807 : BitVec 32 := Scalar.muli v806 c256_i32_523
  let v808 : BitVec 32 := v807
  let v809 : Index := Scalar.indexCast v808
  let c0_525 : Index := 0#32
  ![0, v809.toNat, 0]
def k0_off74 (i : grid0.Coords) : Fin 4 → Nat :=
  let c0_541 : Index := 0#32
  let c2_i32_533 : BitVec 32 := 2#32
  let arg2 : BitVec 32 := BitVec.ofNat 32 (i 2).val
  let c1_i32_520 : BitVec 32 := 1#32
  let v804 : BitVec 32 := Scalar.subi arg2 c1_i32_520
  let v818 : BitVec 32 := Scalar.muli c2_i32_533 v804
  let v832 : Index := Scalar.indexCast v818
  let c0_542 : Index := 0#32
  let c0_543 : Index := 0#32
  ![0, v832.toNat, 0, 0]
def k0_mult98 (i : grid0.Coords) : BitVec 32 :=
  let c2_i32_554 : BitVec 32 := 2#32
  let arg2 : BitVec 32 := BitVec.ofNat 32 (i 2).val
  let c1_i32_520 : BitVec 32 := 1#32
  let v804 : BitVec 32 := Scalar.subi arg2 c1_i32_520
  let v848 : BitVec 32 := Scalar.muli c2_i32_554 v804
  let c2_i32_555 : BitVec 32 := 2#32
  let v849 : BitVec 32 := Scalar.addi v848 c2_i32_555
  let c256_i32_556 : BitVec 32 := 256#32
  let v850 : BitVec 32 := Scalar.muli v849 c256_i32_556
  v850
def k0_off75 (i : grid0.Coords) : Fin 4 → Nat :=
  let c0_575 : Index := 0#32
  let c2_i32_566 : BitVec 32 := 2#32
  let arg2 : BitVec 32 := BitVec.ofNat 32 (i 2).val
  let c1_i32_520 : BitVec 32 := 1#32
  let v804 : BitVec 32 := Scalar.subi arg2 c1_i32_520
  let v861 : BitVec 32 := Scalar.muli c2_i32_566 v804
  let c1_i32_567 : BitVec 32 := 1#32
  let v862 : BitVec 32 := Scalar.addi v861 c1_i32_567
  let v876 : Index := Scalar.indexCast v862
  let c0_576 : Index := 0#32
  let c0_577 : Index := 0#32
  ![0, v876.toNat, 0, 0]
def k0_mult99 (i : grid0.Coords) : BitVec 32 :=
  let c2_i32_589 : BitVec 32 := 2#32
  let arg2 : BitVec 32 := BitVec.ofNat 32 (i 2).val
  let c1_i32_588 : BitVec 32 := 1#32
  let v892 : BitVec 32 := Scalar.subi arg2 c1_i32_588
  let v893 : BitVec 32 := Scalar.muli c2_i32_589 v892
  let c1_i32_590 : BitVec 32 := 1#32
  let v894 : BitVec 32 := Scalar.addi v893 c1_i32_590
  let c256_i32_591 : BitVec 32 := 256#32
  let v895 : BitVec 32 := Scalar.muli v894 c256_i32_591
  v895
def k0_off76 (i : grid0.Coords) (c1_i32_590 : BitVec 32) : Fin 3 → Nat :=
  let c0_592 : Index := 0#32
  let c2_i32_589 : BitVec 32 := 2#32
  let arg2 : BitVec 32 := BitVec.ofNat 32 (i 2).val
  let c1_i32_588 : BitVec 32 := 1#32
  let v892 : BitVec 32 := Scalar.subi arg2 c1_i32_588
  let v893 : BitVec 32 := Scalar.muli c2_i32_589 v892
  let v894 : BitVec 32 := Scalar.addi v893 c1_i32_590
  let c256_i32_591 : BitVec 32 := 256#32
  let v895 : BitVec 32 := Scalar.muli v894 c256_i32_591
  let v896 : BitVec 32 := v895
  let v897 : Index := Scalar.indexCast v896
  let c128_593 : Index := 128#32
  ![0, v897.toNat, 128]
def k0_off77 (i : grid0.Coords) : Fin 4 → Nat :=
  let c0_609 : Index := 0#32
  let c2_i32_601 : BitVec 32 := 2#32
  let arg2 : BitVec 32 := BitVec.ofNat 32 (i 2).val
  let c1_i32_588 : BitVec 32 := 1#32
  let v892 : BitVec 32 := Scalar.subi arg2 c1_i32_588
  let v906 : BitVec 32 := Scalar.muli c2_i32_601 v892
  let v920 : Index := Scalar.indexCast v906
  let c128_610 : Index := 128#32
  let c0_611 : Index := 0#32
  ![0, v920.toNat, 128, 0]
def k0_mult100 (i : grid0.Coords) : BitVec 32 :=
  let c2_i32_622 : BitVec 32 := 2#32
  let arg2 : BitVec 32 := BitVec.ofNat 32 (i 2).val
  let c1_i32_588 : BitVec 32 := 1#32
  let v892 : BitVec 32 := Scalar.subi arg2 c1_i32_588
  let v936 : BitVec 32 := Scalar.muli c2_i32_622 v892
  let c2_i32_623 : BitVec 32 := 2#32
  let v937 : BitVec 32 := Scalar.addi v936 c2_i32_623
  let c256_i32_624 : BitVec 32 := 256#32
  let v938 : BitVec 32 := Scalar.muli v937 c256_i32_624
  v938
def k0_off78 (i : grid0.Coords) : Fin 4 → Nat :=
  let c0_643 : Index := 0#32
  let c2_i32_634 : BitVec 32 := 2#32
  let arg2 : BitVec 32 := BitVec.ofNat 32 (i 2).val
  let c1_i32_588 : BitVec 32 := 1#32
  let v892 : BitVec 32 := Scalar.subi arg2 c1_i32_588
  let v949 : BitVec 32 := Scalar.muli c2_i32_634 v892
  let c1_i32_635 : BitVec 32 := 1#32
  let v950 : BitVec 32 := Scalar.addi v949 c1_i32_635
  let v964 : Index := Scalar.indexCast v950
  let c128_644 : Index := 128#32
  let c0_645 : Index := 0#32
  ![0, v964.toNat, 128, 0]
def k0_mult101 (i : grid0.Coords) : BitVec 32 :=
  let c2_i32_657 : BitVec 32 := 2#32
  let arg2 : BitVec 32 := BitVec.ofNat 32 (i 2).val
  let c1_i32_656 : BitVec 32 := 1#32
  let v980 : BitVec 32 := Scalar.subi arg2 c1_i32_656
  let v981 : BitVec 32 := Scalar.muli c2_i32_657 v980
  let c1_i32_658 : BitVec 32 := 1#32
  let v982 : BitVec 32 := Scalar.addi v981 c1_i32_658
  let c256_i32_659 : BitVec 32 := 256#32
  let v983 : BitVec 32 := Scalar.muli v982 c256_i32_659
  v983
def k0_off79 (i : grid0.Coords) (c1_i32_658 : BitVec 32) : Fin 3 → Nat :=
  let c0_660 : Index := 0#32
  let c2_i32_657 : BitVec 32 := 2#32
  let arg2 : BitVec 32 := BitVec.ofNat 32 (i 2).val
  let c1_i32_656 : BitVec 32 := 1#32
  let v980 : BitVec 32 := Scalar.subi arg2 c1_i32_656
  let v981 : BitVec 32 := Scalar.muli c2_i32_657 v980
  let v982 : BitVec 32 := Scalar.addi v981 c1_i32_658
  let c256_i32_659 : BitVec 32 := 256#32
  let v983 : BitVec 32 := Scalar.muli v982 c256_i32_659
  let v984 : BitVec 32 := v983
  let v985 : Index := Scalar.indexCast v984
  let c256_661 : Index := 256#32
  ![0, v985.toNat, 256]
def k0_off80 (i : grid0.Coords) : Fin 4 → Nat :=
  let c0_677 : Index := 0#32
  let c2_i32_669 : BitVec 32 := 2#32
  let arg2 : BitVec 32 := BitVec.ofNat 32 (i 2).val
  let c1_i32_656 : BitVec 32 := 1#32
  let v980 : BitVec 32 := Scalar.subi arg2 c1_i32_656
  let v994 : BitVec 32 := Scalar.muli c2_i32_669 v980
  let v1008 : Index := Scalar.indexCast v994
  let c256_678 : Index := 256#32
  let c0_679 : Index := 0#32
  ![0, v1008.toNat, 256, 0]
def k0_mult102 (i : grid0.Coords) : BitVec 32 :=
  let c2_i32_690 : BitVec 32 := 2#32
  let arg2 : BitVec 32 := BitVec.ofNat 32 (i 2).val
  let c1_i32_656 : BitVec 32 := 1#32
  let v980 : BitVec 32 := Scalar.subi arg2 c1_i32_656
  let v1024 : BitVec 32 := Scalar.muli c2_i32_690 v980
  let c2_i32_691 : BitVec 32 := 2#32
  let v1025 : BitVec 32 := Scalar.addi v1024 c2_i32_691
  let c256_i32_692 : BitVec 32 := 256#32
  let v1026 : BitVec 32 := Scalar.muli v1025 c256_i32_692
  v1026
def k0_off81 (i : grid0.Coords) : Fin 4 → Nat :=
  let c0_711 : Index := 0#32
  let c2_i32_702 : BitVec 32 := 2#32
  let arg2 : BitVec 32 := BitVec.ofNat 32 (i 2).val
  let c1_i32_656 : BitVec 32 := 1#32
  let v980 : BitVec 32 := Scalar.subi arg2 c1_i32_656
  let v1037 : BitVec 32 := Scalar.muli c2_i32_702 v980
  let c1_i32_703 : BitVec 32 := 1#32
  let v1038 : BitVec 32 := Scalar.addi v1037 c1_i32_703
  let v1052 : Index := Scalar.indexCast v1038
  let c256_712 : Index := 256#32
  let c0_713 : Index := 0#32
  ![0, v1052.toNat, 256, 0]
def k0_mult103 (i : grid0.Coords) : BitVec 32 :=
  let c2_i32_725 : BitVec 32 := 2#32
  let arg2 : BitVec 32 := BitVec.ofNat 32 (i 2).val
  let c1_i32_724 : BitVec 32 := 1#32
  let v1068 : BitVec 32 := Scalar.subi arg2 c1_i32_724
  let v1069 : BitVec 32 := Scalar.muli c2_i32_725 v1068
  let c1_i32_726 : BitVec 32 := 1#32
  let v1070 : BitVec 32 := Scalar.addi v1069 c1_i32_726
  let c256_i32_727 : BitVec 32 := 256#32
  let v1071 : BitVec 32 := Scalar.muli v1070 c256_i32_727
  v1071
def k0_off82 (i : grid0.Coords) (c1_i32_726 : BitVec 32) : Fin 3 → Nat :=
  let c0_728 : Index := 0#32
  let c2_i32_725 : BitVec 32 := 2#32
  let arg2 : BitVec 32 := BitVec.ofNat 32 (i 2).val
  let c1_i32_724 : BitVec 32 := 1#32
  let v1068 : BitVec 32 := Scalar.subi arg2 c1_i32_724
  let v1069 : BitVec 32 := Scalar.muli c2_i32_725 v1068
  let v1070 : BitVec 32 := Scalar.addi v1069 c1_i32_726
  let c256_i32_727 : BitVec 32 := 256#32
  let v1071 : BitVec 32 := Scalar.muli v1070 c256_i32_727
  let v1072 : BitVec 32 := v1071
  let v1073 : Index := Scalar.indexCast v1072
  let c384_729 : Index := 384#32
  ![0, v1073.toNat, 384]
def k0_off83 (i : grid0.Coords) : Fin 4 → Nat :=
  let c0_745 : Index := 0#32
  let c2_i32_737 : BitVec 32 := 2#32
  let arg2 : BitVec 32 := BitVec.ofNat 32 (i 2).val
  let c1_i32_724 : BitVec 32 := 1#32
  let v1068 : BitVec 32 := Scalar.subi arg2 c1_i32_724
  let v1082 : BitVec 32 := Scalar.muli c2_i32_737 v1068
  let v1096 : Index := Scalar.indexCast v1082
  let c384_746 : Index := 384#32
  let c0_747 : Index := 0#32
  ![0, v1096.toNat, 384, 0]
def k0_mult104 (i : grid0.Coords) : BitVec 32 :=
  let c2_i32_758 : BitVec 32 := 2#32
  let arg2 : BitVec 32 := BitVec.ofNat 32 (i 2).val
  let c1_i32_724 : BitVec 32 := 1#32
  let v1068 : BitVec 32 := Scalar.subi arg2 c1_i32_724
  let v1112 : BitVec 32 := Scalar.muli c2_i32_758 v1068
  let c2_i32_759 : BitVec 32 := 2#32
  let v1113 : BitVec 32 := Scalar.addi v1112 c2_i32_759
  let c256_i32_760 : BitVec 32 := 256#32
  let v1114 : BitVec 32 := Scalar.muli v1113 c256_i32_760
  v1114
def k0_off84 (i : grid0.Coords) : Fin 4 → Nat :=
  let c0_779 : Index := 0#32
  let c2_i32_770 : BitVec 32 := 2#32
  let arg2 : BitVec 32 := BitVec.ofNat 32 (i 2).val
  let c1_i32_724 : BitVec 32 := 1#32
  let v1068 : BitVec 32 := Scalar.subi arg2 c1_i32_724
  let v1125 : BitVec 32 := Scalar.muli c2_i32_770 v1068
  let c1_i32_771 : BitVec 32 := 1#32
  let v1126 : BitVec 32 := Scalar.addi v1125 c1_i32_771
  let v1140 : Index := Scalar.indexCast v1126
  let c384_780 : Index := 384#32
  let c0_781 : Index := 0#32
  ![0, v1140.toNat, 384, 0]
@[reducible] def k0_t6_loop (i : grid0.Coords) : Scf.Loop 32 :=
  let c0_i32_42 : BitVec 32 := 0#32
  let arg2 : BitVec 32 := BitVec.ofNat 32 (i 2).val
  let c2_i32_35 : BitVec 32 := 2#32
  let c0_i32_36 : BitVec 32 := 0#32
  let v66 : BitVec 1 := Scalar.cmpi .eq c2_i32_35 c0_i32_36
  let c1_i32_37 : BitVec 32 := 1#32
  let v67 : BitVec 32 := Scalar.select v66 c1_i32_37 c2_i32_35
  let v68 : BitVec 32 := Scalar.remsi arg2 v67
  let c0_i32_39 : BitVec 32 := 0#32
  let v70 : BitVec 1 := Scalar.cmpi .slt v68 c0_i32_39
  let c0_i32_40 : BitVec 32 := 0#32
  let v71 : BitVec 1 := Scalar.cmpi .slt v67 c0_i32_40
  let v72 : BitVec 1 := Scalar.xori v70 v71
  let c0_i32_38 : BitVec 32 := 0#32
  let v69 : BitVec 1 := Scalar.cmpi .ne v68 c0_i32_38
  let v73 : BitVec 1 := Scalar.andi v72 v69
  let v74 : BitVec 32 := Scalar.addi v68 v67
  let v75 : BitVec 32 := Scalar.select v73 v74 v68
  let v76 : BitVec 32 := Scalar.subi v75 c0_i32_42
  let c1_i32_43 : BitVec 32 := 1#32
  let v78 : BitVec 32 := Scalar.divsi v76 c1_i32_43
  let v79 : BitVec 32 := Scalar.muli v78 c1_i32_43
  let v80 : BitVec 32 := Scalar.addi c0_i32_42 v79
  let v77 : BitVec 32 := Scalar.addi c0_i32_42 v76
  let c1_i32_45 : BitVec 32 := 1#32
  ⟨v80, v77, c1_i32_45⟩
def k0_mult105 (i : grid0.Coords) : BitVec 32 :=
  let c2_i32_521 : BitVec 32 := 2#32
  let arg2 : BitVec 32 := BitVec.ofNat 32 (i 2).val
  let c1_i32_520 : BitVec 32 := 1#32
  let v804 : BitVec 32 := Scalar.subi arg2 c1_i32_520
  let v805 : BitVec 32 := Scalar.muli c2_i32_521 v804
  let c1_i32_522 : BitVec 32 := 1#32
  let v806 : BitVec 32 := Scalar.addi v805 c1_i32_522
  let c256_i32_523 : BitVec 32 := 256#32
  let v807 : BitVec 32 := Scalar.muli v806 c256_i32_523
  v807
def k0_off85 (i : grid0.Coords) (c1_i32_522 : BitVec 32) : Fin 3 → Nat :=
  let c0_524 : Index := 0#32
  let c2_i32_521 : BitVec 32 := 2#32
  let arg2 : BitVec 32 := BitVec.ofNat 32 (i 2).val
  let c1_i32_520 : BitVec 32 := 1#32
  let v804 : BitVec 32 := Scalar.subi arg2 c1_i32_520
  let v805 : BitVec 32 := Scalar.muli c2_i32_521 v804
  let v806 : BitVec 32 := Scalar.addi v805 c1_i32_522
  let c256_i32_523 : BitVec 32 := 256#32
  let v807 : BitVec 32 := Scalar.muli v806 c256_i32_523
  let v808 : BitVec 32 := v807
  let v809 : Index := Scalar.indexCast v808
  let c0_525 : Index := 0#32
  ![0, v809.toNat, 0]
def k0_off86 (i : grid0.Coords) : Fin 4 → Nat :=
  let c0_541 : Index := 0#32
  let c2_i32_533 : BitVec 32 := 2#32
  let arg2 : BitVec 32 := BitVec.ofNat 32 (i 2).val
  let c1_i32_520 : BitVec 32 := 1#32
  let v804 : BitVec 32 := Scalar.subi arg2 c1_i32_520
  let v818 : BitVec 32 := Scalar.muli c2_i32_533 v804
  let v832 : Index := Scalar.indexCast v818
  let c0_542 : Index := 0#32
  let c0_543 : Index := 0#32
  ![0, v832.toNat, 0, 0]
def k0_mult106 (i : grid0.Coords) : BitVec 32 :=
  let c2_i32_554 : BitVec 32 := 2#32
  let arg2 : BitVec 32 := BitVec.ofNat 32 (i 2).val
  let c1_i32_520 : BitVec 32 := 1#32
  let v804 : BitVec 32 := Scalar.subi arg2 c1_i32_520
  let v848 : BitVec 32 := Scalar.muli c2_i32_554 v804
  let c2_i32_555 : BitVec 32 := 2#32
  let v849 : BitVec 32 := Scalar.addi v848 c2_i32_555
  let c256_i32_556 : BitVec 32 := 256#32
  let v850 : BitVec 32 := Scalar.muli v849 c256_i32_556
  v850
def k0_off87 (i : grid0.Coords) : Fin 4 → Nat :=
  let c0_575 : Index := 0#32
  let c2_i32_566 : BitVec 32 := 2#32
  let arg2 : BitVec 32 := BitVec.ofNat 32 (i 2).val
  let c1_i32_520 : BitVec 32 := 1#32
  let v804 : BitVec 32 := Scalar.subi arg2 c1_i32_520
  let v861 : BitVec 32 := Scalar.muli c2_i32_566 v804
  let c1_i32_567 : BitVec 32 := 1#32
  let v862 : BitVec 32 := Scalar.addi v861 c1_i32_567
  let v876 : Index := Scalar.indexCast v862
  let c0_576 : Index := 0#32
  let c0_577 : Index := 0#32
  ![0, v876.toNat, 0, 0]
def k0_mult107 (i : grid0.Coords) : BitVec 32 :=
  let c2_i32_589 : BitVec 32 := 2#32
  let arg2 : BitVec 32 := BitVec.ofNat 32 (i 2).val
  let c1_i32_588 : BitVec 32 := 1#32
  let v892 : BitVec 32 := Scalar.subi arg2 c1_i32_588
  let v893 : BitVec 32 := Scalar.muli c2_i32_589 v892
  let c1_i32_590 : BitVec 32 := 1#32
  let v894 : BitVec 32 := Scalar.addi v893 c1_i32_590
  let c256_i32_591 : BitVec 32 := 256#32
  let v895 : BitVec 32 := Scalar.muli v894 c256_i32_591
  v895
def k0_off88 (i : grid0.Coords) (c1_i32_590 : BitVec 32) : Fin 3 → Nat :=
  let c0_592 : Index := 0#32
  let c2_i32_589 : BitVec 32 := 2#32
  let arg2 : BitVec 32 := BitVec.ofNat 32 (i 2).val
  let c1_i32_588 : BitVec 32 := 1#32
  let v892 : BitVec 32 := Scalar.subi arg2 c1_i32_588
  let v893 : BitVec 32 := Scalar.muli c2_i32_589 v892
  let v894 : BitVec 32 := Scalar.addi v893 c1_i32_590
  let c256_i32_591 : BitVec 32 := 256#32
  let v895 : BitVec 32 := Scalar.muli v894 c256_i32_591
  let v896 : BitVec 32 := v895
  let v897 : Index := Scalar.indexCast v896
  let c128_593 : Index := 128#32
  ![0, v897.toNat, 128]
def k0_off89 (i : grid0.Coords) : Fin 4 → Nat :=
  let c0_609 : Index := 0#32
  let c2_i32_601 : BitVec 32 := 2#32
  let arg2 : BitVec 32 := BitVec.ofNat 32 (i 2).val
  let c1_i32_588 : BitVec 32 := 1#32
  let v892 : BitVec 32 := Scalar.subi arg2 c1_i32_588
  let v906 : BitVec 32 := Scalar.muli c2_i32_601 v892
  let v920 : Index := Scalar.indexCast v906
  let c128_610 : Index := 128#32
  let c0_611 : Index := 0#32
  ![0, v920.toNat, 128, 0]
def k0_mult108 (i : grid0.Coords) : BitVec 32 :=
  let c2_i32_622 : BitVec 32 := 2#32
  let arg2 : BitVec 32 := BitVec.ofNat 32 (i 2).val
  let c1_i32_588 : BitVec 32 := 1#32
  let v892 : BitVec 32 := Scalar.subi arg2 c1_i32_588
  let v936 : BitVec 32 := Scalar.muli c2_i32_622 v892
  let c2_i32_623 : BitVec 32 := 2#32
  let v937 : BitVec 32 := Scalar.addi v936 c2_i32_623
  let c256_i32_624 : BitVec 32 := 256#32
  let v938 : BitVec 32 := Scalar.muli v937 c256_i32_624
  v938
def k0_off90 (i : grid0.Coords) : Fin 4 → Nat :=
  let c0_643 : Index := 0#32
  let c2_i32_634 : BitVec 32 := 2#32
  let arg2 : BitVec 32 := BitVec.ofNat 32 (i 2).val
  let c1_i32_588 : BitVec 32 := 1#32
  let v892 : BitVec 32 := Scalar.subi arg2 c1_i32_588
  let v949 : BitVec 32 := Scalar.muli c2_i32_634 v892
  let c1_i32_635 : BitVec 32 := 1#32
  let v950 : BitVec 32 := Scalar.addi v949 c1_i32_635
  let v964 : Index := Scalar.indexCast v950
  let c128_644 : Index := 128#32
  let c0_645 : Index := 0#32
  ![0, v964.toNat, 128, 0]
def k0_mult109 (i : grid0.Coords) : BitVec 32 :=
  let c2_i32_657 : BitVec 32 := 2#32
  let arg2 : BitVec 32 := BitVec.ofNat 32 (i 2).val
  let c1_i32_656 : BitVec 32 := 1#32
  let v980 : BitVec 32 := Scalar.subi arg2 c1_i32_656
  let v981 : BitVec 32 := Scalar.muli c2_i32_657 v980
  let c1_i32_658 : BitVec 32 := 1#32
  let v982 : BitVec 32 := Scalar.addi v981 c1_i32_658
  let c256_i32_659 : BitVec 32 := 256#32
  let v983 : BitVec 32 := Scalar.muli v982 c256_i32_659
  v983
def k0_off91 (i : grid0.Coords) (c1_i32_658 : BitVec 32) : Fin 3 → Nat :=
  let c0_660 : Index := 0#32
  let c2_i32_657 : BitVec 32 := 2#32
  let arg2 : BitVec 32 := BitVec.ofNat 32 (i 2).val
  let c1_i32_656 : BitVec 32 := 1#32
  let v980 : BitVec 32 := Scalar.subi arg2 c1_i32_656
  let v981 : BitVec 32 := Scalar.muli c2_i32_657 v980
  let v982 : BitVec 32 := Scalar.addi v981 c1_i32_658
  let c256_i32_659 : BitVec 32 := 256#32
  let v983 : BitVec 32 := Scalar.muli v982 c256_i32_659
  let v984 : BitVec 32 := v983
  let v985 : Index := Scalar.indexCast v984
  let c256_661 : Index := 256#32
  ![0, v985.toNat, 256]
def k0_off92 (i : grid0.Coords) : Fin 4 → Nat :=
  let c0_677 : Index := 0#32
  let c2_i32_669 : BitVec 32 := 2#32
  let arg2 : BitVec 32 := BitVec.ofNat 32 (i 2).val
  let c1_i32_656 : BitVec 32 := 1#32
  let v980 : BitVec 32 := Scalar.subi arg2 c1_i32_656
  let v994 : BitVec 32 := Scalar.muli c2_i32_669 v980
  let v1008 : Index := Scalar.indexCast v994
  let c256_678 : Index := 256#32
  let c0_679 : Index := 0#32
  ![0, v1008.toNat, 256, 0]
def k0_mult110 (i : grid0.Coords) : BitVec 32 :=
  let c2_i32_690 : BitVec 32 := 2#32
  let arg2 : BitVec 32 := BitVec.ofNat 32 (i 2).val
  let c1_i32_656 : BitVec 32 := 1#32
  let v980 : BitVec 32 := Scalar.subi arg2 c1_i32_656
  let v1024 : BitVec 32 := Scalar.muli c2_i32_690 v980
  let c2_i32_691 : BitVec 32 := 2#32
  let v1025 : BitVec 32 := Scalar.addi v1024 c2_i32_691
  let c256_i32_692 : BitVec 32 := 256#32
  let v1026 : BitVec 32 := Scalar.muli v1025 c256_i32_692
  v1026
def k0_off93 (i : grid0.Coords) : Fin 4 → Nat :=
  let c0_711 : Index := 0#32
  let c2_i32_702 : BitVec 32 := 2#32
  let arg2 : BitVec 32 := BitVec.ofNat 32 (i 2).val
  let c1_i32_656 : BitVec 32 := 1#32
  let v980 : BitVec 32 := Scalar.subi arg2 c1_i32_656
  let v1037 : BitVec 32 := Scalar.muli c2_i32_702 v980
  let c1_i32_703 : BitVec 32 := 1#32
  let v1038 : BitVec 32 := Scalar.addi v1037 c1_i32_703
  let v1052 : Index := Scalar.indexCast v1038
  let c256_712 : Index := 256#32
  let c0_713 : Index := 0#32
  ![0, v1052.toNat, 256, 0]
def k0_mult111 (i : grid0.Coords) : BitVec 32 :=
  let c2_i32_725 : BitVec 32 := 2#32
  let arg2 : BitVec 32 := BitVec.ofNat 32 (i 2).val
  let c1_i32_724 : BitVec 32 := 1#32
  let v1068 : BitVec 32 := Scalar.subi arg2 c1_i32_724
  let v1069 : BitVec 32 := Scalar.muli c2_i32_725 v1068
  let c1_i32_726 : BitVec 32 := 1#32
  let v1070 : BitVec 32 := Scalar.addi v1069 c1_i32_726
  let c256_i32_727 : BitVec 32 := 256#32
  let v1071 : BitVec 32 := Scalar.muli v1070 c256_i32_727
  v1071
def k0_off94 (i : grid0.Coords) (c1_i32_726 : BitVec 32) : Fin 3 → Nat :=
  let c0_728 : Index := 0#32
  let c2_i32_725 : BitVec 32 := 2#32
  let arg2 : BitVec 32 := BitVec.ofNat 32 (i 2).val
  let c1_i32_724 : BitVec 32 := 1#32
  let v1068 : BitVec 32 := Scalar.subi arg2 c1_i32_724
  let v1069 : BitVec 32 := Scalar.muli c2_i32_725 v1068
  let v1070 : BitVec 32 := Scalar.addi v1069 c1_i32_726
  let c256_i32_727 : BitVec 32 := 256#32
  let v1071 : BitVec 32 := Scalar.muli v1070 c256_i32_727
  let v1072 : BitVec 32 := v1071
  let v1073 : Index := Scalar.indexCast v1072
  let c384_729 : Index := 384#32
  ![0, v1073.toNat, 384]
def k0_off95 (i : grid0.Coords) : Fin 4 → Nat :=
  let c0_745 : Index := 0#32
  let c2_i32_737 : BitVec 32 := 2#32
  let arg2 : BitVec 32 := BitVec.ofNat 32 (i 2).val
  let c1_i32_724 : BitVec 32 := 1#32
  let v1068 : BitVec 32 := Scalar.subi arg2 c1_i32_724
  let v1082 : BitVec 32 := Scalar.muli c2_i32_737 v1068
  let v1096 : Index := Scalar.indexCast v1082
  let c384_746 : Index := 384#32
  let c0_747 : Index := 0#32
  ![0, v1096.toNat, 384, 0]
def k0_mult112 (i : grid0.Coords) : BitVec 32 :=
  let c2_i32_758 : BitVec 32 := 2#32
  let arg2 : BitVec 32 := BitVec.ofNat 32 (i 2).val
  let c1_i32_724 : BitVec 32 := 1#32
  let v1068 : BitVec 32 := Scalar.subi arg2 c1_i32_724
  let v1112 : BitVec 32 := Scalar.muli c2_i32_758 v1068
  let c2_i32_759 : BitVec 32 := 2#32
  let v1113 : BitVec 32 := Scalar.addi v1112 c2_i32_759
  let c256_i32_760 : BitVec 32 := 256#32
  let v1114 : BitVec 32 := Scalar.muli v1113 c256_i32_760
  v1114
def k0_off96 (i : grid0.Coords) : Fin 4 → Nat :=
  let c0_779 : Index := 0#32
  let c2_i32_770 : BitVec 32 := 2#32
  let arg2 : BitVec 32 := BitVec.ofNat 32 (i 2).val
  let c1_i32_724 : BitVec 32 := 1#32
  let v1068 : BitVec 32 := Scalar.subi arg2 c1_i32_724
  let v1125 : BitVec 32 := Scalar.muli c2_i32_770 v1068
  let c1_i32_771 : BitVec 32 := 1#32
  let v1126 : BitVec 32 := Scalar.addi v1125 c1_i32_771
  let v1140 : Index := Scalar.indexCast v1126
  let c384_780 : Index := 384#32
  let c0_781 : Index := 0#32
  ![0, v1140.toNat, 384, 0]
def k0_mult113 (i : grid0.Coords) : BitVec 32 :=
  let c2_i32_46 : BitVec 32 := 2#32
  let arg2 : BitVec 32 := BitVec.ofNat 32 (i 2).val
  let v81 : BitVec 32 := Scalar.muli c2_i32_46 arg2
  let c1_i32_47 : BitVec 32 := 1#32
  let v82 : BitVec 32 := Scalar.addi v81 c1_i32_47
  let c256_i32 : BitVec 32 := 256#32
  let v83 : BitVec 32 := Scalar.muli v82 c256_i32
  v83
def k0_off97 (i : grid0.Coords) : Fin 3 → Nat :=
  let c0_48 : Index := 0#32
  let c2_i32_46 : BitVec 32 := 2#32
  let arg2 : BitVec 32 := BitVec.ofNat 32 (i 2).val
  let v81 : BitVec 32 := Scalar.muli c2_i32_46 arg2
  let c1_i32_47 : BitVec 32 := 1#32
  let v82 : BitVec 32 := Scalar.addi v81 c1_i32_47
  let c256_i32 : BitVec 32 := 256#32
  let v83 : BitVec 32 := Scalar.muli v82 c256_i32
  let v84 : BitVec 32 := v83
  let v85 : Index := Scalar.indexCast v84
  let c0_49 : Index := 0#32
  ![0, v85.toNat, 0]
def k0_mult114 (i : grid0.Coords) : BitVec 32 :=
  let c2_i32_62 : BitVec 32 := 2#32
  let arg2 : BitVec 32 := BitVec.ofNat 32 (i 2).val
  let v100 : BitVec 32 := Scalar.muli c2_i32_62 arg2
  let c1_i32_63 : BitVec 32 := 1#32
  let v101 : BitVec 32 := Scalar.addi v100 c1_i32_63
  let c256_i32_64 : BitVec 32 := 256#32
  let v102 : BitVec 32 := Scalar.muli v101 c256_i32_64
  v102
def k0_off98 (i : grid0.Coords) : Fin 3 → Nat :=
  let c0_65 : Index := 0#32
  let c2_i32_62 : BitVec 32 := 2#32
  let arg2 : BitVec 32 := BitVec.ofNat 32 (i 2).val
  let v100 : BitVec 32 := Scalar.muli c2_i32_62 arg2
  let c1_i32_63 : BitVec 32 := 1#32
  let v101 : BitVec 32 := Scalar.addi v100 c1_i32_63
  let c256_i32_64 : BitVec 32 := 256#32
  let v102 : BitVec 32 := Scalar.muli v101 c256_i32_64
  let v103 : BitVec 32 := v102
  let v104 : Index := Scalar.indexCast v103
  let c128 : Index := 128#32
  ![0, v104.toNat, 128]
def k0_mult115 (i : grid0.Coords) : BitVec 32 :=
  let c2_i32_79 : BitVec 32 := 2#32
  let arg2 : BitVec 32 := BitVec.ofNat 32 (i 2).val
  let v119 : BitVec 32 := Scalar.muli c2_i32_79 arg2
  let c1_i32_80 : BitVec 32 := 1#32
  let v120 : BitVec 32 := Scalar.addi v119 c1_i32_80
  let c256_i32_81 : BitVec 32 := 256#32
  let v121 : BitVec 32 := Scalar.muli v120 c256_i32_81
  v121
def k0_off99 (i : grid0.Coords) : Fin 3 → Nat :=
  let c0_82 : Index := 0#32
  let c2_i32_79 : BitVec 32 := 2#32
  let arg2 : BitVec 32 := BitVec.ofNat 32 (i 2).val
  let v119 : BitVec 32 := Scalar.muli c2_i32_79 arg2
  let c1_i32_80 : BitVec 32 := 1#32
  let v120 : BitVec 32 := Scalar.addi v119 c1_i32_80
  let c256_i32_81 : BitVec 32 := 256#32
  let v121 : BitVec 32 := Scalar.muli v120 c256_i32_81
  let v122 : BitVec 32 := v121
  let v123 : Index := Scalar.indexCast v122
  let c256_83 : Index := 256#32
  ![0, v123.toNat, 256]
def k0_mult116 (i : grid0.Coords) : BitVec 32 :=
  let c2_i32_97 : BitVec 32 := 2#32
  let arg2 : BitVec 32 := BitVec.ofNat 32 (i 2).val
  let v138 : BitVec 32 := Scalar.muli c2_i32_97 arg2
  let c1_i32_98 : BitVec 32 := 1#32
  let v139 : BitVec 32 := Scalar.addi v138 c1_i32_98
  let c256_i32_99 : BitVec 32 := 256#32
  let v140 : BitVec 32 := Scalar.muli v139 c256_i32_99
  v140
def k0_off100 (i : grid0.Coords) : Fin 3 → Nat :=
  let c0_100 : Index := 0#32
  let c2_i32_97 : BitVec 32 := 2#32
  let arg2 : BitVec 32 := BitVec.ofNat 32 (i 2).val
  let v138 : BitVec 32 := Scalar.muli c2_i32_97 arg2
  let c1_i32_98 : BitVec 32 := 1#32
  let v139 : BitVec 32 := Scalar.addi v138 c1_i32_98
  let c256_i32_99 : BitVec 32 := 256#32
  let v140 : BitVec 32 := Scalar.muli v139 c256_i32_99
  let v141 : BitVec 32 := v140
  let v142 : Index := Scalar.indexCast v141
  let c384 : Index := 384#32
  ![0, v142.toNat, 384]
def k0_off101 (i : grid0.Coords) : Fin 4 → Nat :=
  let c0_124 : Index := 0#32
  let c2_i32_119 : BitVec 32 := 2#32
  let arg2 : BitVec 32 := BitVec.ofNat 32 (i 2).val
  let v171 : BitVec 32 := Scalar.muli c2_i32_119 arg2
  let v183 : Index := Scalar.indexCast v171
  let c0_125 : Index := 0#32
  let c0_126 : Index := 0#32
  ![0, v183.toNat, 0, 0]
def k0_off102 (i : grid0.Coords) : Fin 4 → Nat :=
  let c0_138 : Index := 0#32
  let arg2 : BitVec 32 := BitVec.ofNat 32 (i 2).val
  let c1_i32_137 : BitVec 32 := 1#32
  let v199 : BitVec 32 := Scalar.addi arg2 c1_i32_137
  let c15_i32 : BitVec 32 := 15#32
  let v200 : BitVec 32 := Scalar.minsi v199 c15_i32
  let v201 : Index := Scalar.indexCast v200
  let c0_139 : Index := 0#32
  let c0_140 : Index := 0#32
  ![0, v201.toNat, 0, 0]
def k0_off103 (i : grid0.Coords) : Fin 4 → Nat :=
  let c0_167 : Index := 0#32
  let c2_i32_162 : BitVec 32 := 2#32
  let arg2 : BitVec 32 := BitVec.ofNat 32 (i 2).val
  let v238 : BitVec 32 := Scalar.muli c2_i32_162 arg2
  let v250 : Index := Scalar.indexCast v238
  let c128_168 : Index := 128#32
  let c0_169 : Index := 0#32
  ![0, v250.toNat, 128, 0]
def k0_off104 (i : grid0.Coords) : Fin 4 → Nat :=
  let c0_182 : Index := 0#32
  let arg2 : BitVec 32 := BitVec.ofNat 32 (i 2).val
  let c1_i32_180 : BitVec 32 := 1#32
  let v266 : BitVec 32 := Scalar.addi arg2 c1_i32_180
  let c15_i32_181 : BitVec 32 := 15#32
  let v267 : BitVec 32 := Scalar.minsi v266 c15_i32_181
  let v268 : Index := Scalar.indexCast v267
  let c128_183 : Index := 128#32
  let c0_184 : Index := 0#32
  ![0, v268.toNat, 128, 0]
def k0_off105 (i : grid0.Coords) : Fin 4 → Nat :=
  let c0_212 : Index := 0#32
  let c2_i32_207 : BitVec 32 := 2#32
  let arg2 : BitVec 32 := BitVec.ofNat 32 (i 2).val
  let v305 : BitVec 32 := Scalar.muli c2_i32_207 arg2
  let v317 : Index := Scalar.indexCast v305
  let c256_213 : Index := 256#32
  let c0_214 : Index := 0#32
  ![0, v317.toNat, 256, 0]
def k0_off106 (i : grid0.Coords) : Fin 4 → Nat :=
  let c0_227 : Index := 0#32
  let arg2 : BitVec 32 := BitVec.ofNat 32 (i 2).val
  let c1_i32_225 : BitVec 32 := 1#32
  let v333 : BitVec 32 := Scalar.addi arg2 c1_i32_225
  let c15_i32_226 : BitVec 32 := 15#32
  let v334 : BitVec 32 := Scalar.minsi v333 c15_i32_226
  let v335 : Index := Scalar.indexCast v334
  let c256_228 : Index := 256#32
  let c0_229 : Index := 0#32
  ![0, v335.toNat, 256, 0]
def k0_off107 (i : grid0.Coords) : Fin 4 → Nat :=
  let c0_257 : Index := 0#32
  let c2_i32_252 : BitVec 32 := 2#32
  let arg2 : BitVec 32 := BitVec.ofNat 32 (i 2).val
  let v372 : BitVec 32 := Scalar.muli c2_i32_252 arg2
  let v384 : Index := Scalar.indexCast v372
  let c384_258 : Index := 384#32
  let c0_259 : Index := 0#32
  ![0, v384.toNat, 384, 0]
def k0_off108 (i : grid0.Coords) : Fin 4 → Nat :=
  let c0_272 : Index := 0#32
  let arg2 : BitVec 32 := BitVec.ofNat 32 (i 2).val
  let c1_i32_270 : BitVec 32 := 1#32
  let v400 : BitVec 32 := Scalar.addi arg2 c1_i32_270
  let c15_i32_271 : BitVec 32 := 15#32
  let v401 : BitVec 32 := Scalar.minsi v400 c15_i32_271
  let v402 : Index := Scalar.indexCast v401
  let c384_273 : Index := 384#32
  let c0_274 : Index := 0#32
  ![0, v402.toNat, 384, 0]
def k0_off109 (i : grid0.Coords) : Fin 4 → Nat :=
  let c0_302 : Index := 0#32
  let c2_i32_292 : BitVec 32 := 2#32
  let arg2 : BitVec 32 := BitVec.ofNat 32 (i 2).val
  let v428 : BitVec 32 := Scalar.muli c2_i32_292 arg2
  let c1_i32_293 : BitVec 32 := 1#32
  let v429 : BitVec 32 := Scalar.addi v428 c1_i32_293
  let v445 : Index := Scalar.indexCast v429
  let c0_303 : Index := 0#32
  let c0_304 : Index := 0#32
  ![0, v445.toNat, 0, 0]
def k0_off110 (i : grid0.Coords) : Fin 4 → Nat :=
  let c0_348 : Index := 0#32
  let c2_i32_338 : BitVec 32 := 2#32
  let arg2 : BitVec 32 := BitVec.ofNat 32 (i 2).val
  let v494 : BitVec 32 := Scalar.muli c2_i32_338 arg2
  let c1_i32_339 : BitVec 32 := 1#32
  let v495 : BitVec 32 := Scalar.addi v494 c1_i32_339
  let v511 : Index := Scalar.indexCast v495
  let c128_349 : Index := 128#32
  let c0_350 : Index := 0#32
  ![0, v511.toNat, 128, 0]
def k0_off111 (i : grid0.Coords) : Fin 4 → Nat :=
  let c0_394 : Index := 0#32
  let c2_i32_384 : BitVec 32 := 2#32
  let arg2 : BitVec 32 := BitVec.ofNat 32 (i 2).val
  let v560 : BitVec 32 := Scalar.muli c2_i32_384 arg2
  let c1_i32_385 : BitVec 32 := 1#32
  let v561 : BitVec 32 := Scalar.addi v560 c1_i32_385
  let v577 : Index := Scalar.indexCast v561
  let c256_395 : Index := 256#32
  let c0_396 : Index := 0#32
  ![0, v577.toNat, 256, 0]
def k0_off112 (i : grid0.Coords) : Fin 4 → Nat :=
  let c0_440 : Index := 0#32
  let c2_i32_430 : BitVec 32 := 2#32
  let arg2 : BitVec 32 := BitVec.ofNat 32 (i 2).val
  let v626 : BitVec 32 := Scalar.muli c2_i32_430 arg2
  let c1_i32_431 : BitVec 32 := 1#32
  let v627 : BitVec 32 := Scalar.addi v626 c1_i32_431
  let v643 : Index := Scalar.indexCast v627
  let c384_441 : Index := 384#32
  let c0_442 : Index := 0#32
  ![0, v643.toNat, 384, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x16x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x32x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S1 : Shape := ⟨1, ![1]⟩
abbrev S8x16x512x512 : Shape := ⟨4, ![8, 16, 512, 512]⟩
abbrev S8x8192x512 : Shape := ⟨3, ![8, 8192, 512]⟩
abbrev S8x32x512x256 : Shape := ⟨4, ![8, 32, 512, 256]⟩
abbrev S8x512x16x512 : Shape := ⟨4, ![8, 512, 16, 512]⟩
abbrev S8x4x128x8192 : Shape := ⟨4, ![8, 4, 128, 8192]⟩
abbrev S8x8192x4x128 : Shape := ⟨4, ![8, 8192, 4, 128]⟩
abbrev S8x512x32x256 : Shape := ⟨4, ![8, 512, 32, 256]⟩
abbrev S8x4x64x8192 : Shape := ⟨4, ![8, 4, 64, 8192]⟩
abbrev S8x8192x4x64 : Shape := ⟨4, ![8, 8192, 4, 64]⟩
abbrev S8x4x8192x8192 : Shape := ⟨4, ![8, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x4x8192 : Shape := ⟨3, ![8, 4, 8192]⟩
abbrev S8x4x8192x1 : Shape := ⟨4, ![8, 4, 8192, 1]⟩
abbrev S8x4x1x8192 : Shape := ⟨4, ![8, 4, 1, 8192]⟩
abbrev S8x512x8192 : Shape := ⟨3, ![8, 512, 8192]⟩

abbrev nBuf : Space → Nat
  | .hbm => 86
  | .vmem => 0
  | .smem => 0
  | _ => 0

abbrev bufTy : (tb : Table) → Fin (tcTables nBuf tb) → BufTy
  | .hbm, ⟨0, _⟩ => ⟨S1, .f32⟩
  | .hbm, ⟨1, _⟩ => ⟨S8x16x512x512, .bf16⟩
  | .hbm, ⟨2, _⟩ => ⟨S8x8192x512, .bf16⟩
  | .hbm, ⟨3, _⟩ => ⟨S8x32x512x256, .bf16⟩
  | .hbm, ⟨4, _⟩ => ⟨S8x16x512x512, .f32⟩
  | .hbm, ⟨5, _⟩ => ⟨S8x512x16x512, .f32⟩
  | .hbm, ⟨6, _⟩ => ⟨S8x4x128x8192, .f32⟩
  | .hbm, ⟨7, _⟩ => ⟨S8x8192x512, .f32⟩
  | .hbm, ⟨8, _⟩ => ⟨S8x8192x4x128, .f32⟩
  | .hbm, ⟨9, _⟩ => ⟨S8x32x512x256, .f32⟩
  | .hbm, ⟨10, _⟩ => ⟨S8x512x32x256, .f32⟩
  | .hbm, ⟨11, _⟩ => ⟨S8x4x128x8192, .f32⟩
  | .hbm, ⟨12, _⟩ => ⟨S8x4x64x8192, .f32⟩
  | .hbm, ⟨13, _⟩ => ⟨S8x8192x4x64, .f32⟩
  | .hbm, ⟨14, _⟩ => ⟨S8x4x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x4x8192x8192, .i1⟩
  | .hbm, ⟨24, _⟩ => ⟨S8x4x8192x8192, .f32⟩
  | .hbm, ⟨25, _⟩ => ⟨S8x4x8192x8192, .f32⟩
  | .hbm, ⟨26, _⟩ => ⟨S_, .f32⟩
  | .hbm, ⟨27, _⟩ => ⟨S8x4x8192, .f32⟩
  | .hbm, ⟨28, _⟩ => ⟨S8x4x8192x1, .f32⟩
  | .hbm, ⟨29, _⟩ => ⟨S8x4x8192x8192, .f32⟩
  | .hbm, ⟨30, _⟩ => ⟨S8x4x8192x8192, .f32⟩
  | .hbm, ⟨31, _⟩ => ⟨S_, .f32⟩
  | .hbm, ⟨32, _⟩ => ⟨S8x4x8192x8192, .f32⟩
  | .hbm, ⟨33, _⟩ => ⟨S8x4x8192x8192, .f32⟩
  | .hbm, ⟨34, _⟩ => ⟨S_, .f32⟩
  | .hbm, ⟨35, _⟩ => ⟨S8x4x8192, .f32⟩
  | .hbm, ⟨36, _⟩ => ⟨S8x4x8192x1, .f32⟩
  | .hbm, ⟨37, _⟩ => ⟨S8x4x8192x8192, .f32⟩
  | .hbm, ⟨38, _⟩ => ⟨S8x4x8192x8192, .f32⟩
  | .hbm, ⟨39, _⟩ => ⟨S_, .f32⟩
  | .hbm, ⟨40, _⟩ => ⟨S8x4x64x8192, .f32⟩
  | .hbm, ⟨41, _⟩ => ⟨S8x8192x4x64, .f32⟩
  | .hbm, ⟨42, _⟩ => ⟨S8x4x8192x8192, .f32⟩
  | .hbm, ⟨43, _⟩ => ⟨S8192, .i32⟩
  | .hbm, ⟨44, _⟩ => ⟨S1x8192, .i32⟩
  | .hbm, ⟨45, _⟩ => ⟨S8192x1, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8x4x8192x8192, .i1⟩
  | .hbm, ⟨52, _⟩ => ⟨S8x4x8192x8192, .f32⟩
  | .hbm, ⟨53, _⟩ => ⟨S8x4x8192x8192, .f32⟩
  | .hbm, ⟨54, _⟩ => ⟨S_, .f32⟩
  | .hbm, ⟨55, _⟩ => ⟨S8x4x8192, .f32⟩
  | .hbm, ⟨56, _⟩ => ⟨S8x4x8192x1, .f32⟩
  | .hbm, ⟨57, _⟩ => ⟨S8x4x8192x8192, .f32⟩
  | .hbm, ⟨58, _⟩ => ⟨S8x4x8192x8192, .f32⟩
  | .hbm, ⟨59, _⟩ => ⟨S_, .f32⟩
  | .hbm, ⟨60, _⟩ => ⟨S8x4x8192x8192, .f32⟩
  | .hbm, ⟨61, _⟩ => ⟨S8x4x8192x8192, .f32⟩
  | .hbm, ⟨62, _⟩ => ⟨S_, .f32⟩
  | .hbm, ⟨63, _⟩ => ⟨S8x4x8192, .f32⟩
  | .hbm, ⟨64, _⟩ => ⟨S8x4x8192x1, .f32⟩
  | .hbm, ⟨65, _⟩ => ⟨S8x4x8192x8192, .f32⟩
  | .hbm, ⟨66, _⟩ => ⟨S8x4x8192x8192, .f32⟩
  | .hbm, ⟨67, _⟩ => ⟨S8x4x8192x8192, .f32⟩
  | .hbm, ⟨68, _⟩ => ⟨S8x4x8192x8192, .f32⟩
  | .hbm, ⟨69, _⟩ => ⟨S8x4x8192x8192, .f32⟩
  | .hbm, ⟨70, _⟩ => ⟨S8x4x128x8192, .f32⟩
  | .hbm, ⟨71, _⟩ => ⟨S8x4x128x8192, .f32⟩
  | .hbm, ⟨72, _⟩ => ⟨S_, .f32⟩
  | .hbm, ⟨73, _⟩ => ⟨S8x4x8192, .f32⟩
  | .hbm, ⟨74, _⟩ => ⟨S8x4x1x8192, .f32⟩
  | .hbm, ⟨75, _⟩ => ⟨S_, .f32⟩
  | .hbm, ⟨76, _⟩ => ⟨S8x4x1x8192, .f32⟩
  | .hbm, ⟨77, _⟩ => ⟨S8x4x1x8192, .f32⟩
  | .hbm, ⟨78, _⟩ => ⟨S_, .f32⟩
  | .hbm, ⟨79, _⟩ => ⟨S8x4x1x8192, .f32⟩
  | .hbm, ⟨80, _⟩ => ⟨S8x4x1x8192, .f32⟩
  | .hbm, ⟨81, _⟩ => ⟨S8x4x1x8192, .f32⟩
  | .hbm, ⟨82, _⟩ => ⟨S8x4x128x8192, .f32⟩
  | .hbm, ⟨83, _⟩ => ⟨S8x4x128x8192, .f32⟩
  | .hbm, ⟨84, _⟩ => ⟨S8x512x8192, .f32⟩
  | .hbm, ⟨85, _⟩ => ⟨S8x512x8192, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel2.lean ====
abbrev S8x8192x512 : Shape := ⟨3, ![8, 8192, 512]⟩
abbrev S8x512x8192 : Shape := ⟨3, ![8, 512, 8192]⟩
abbrev S1x512 : Shape := ⟨2, ![1, 512]⟩
abbrev S8x8192x1024 : Shape := ⟨3, ![8, 8192, 1024]⟩
abbrev S8x3x1024 : Shape := ⟨3, ![8, 3, 1024]⟩
abbrev S1x1024 : Shape := ⟨2, ![1, 1024]⟩
abbrev S512x1024 : Shape := ⟨2, ![512, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1x3x1024 : Shape := ⟨3, ![1, 3, 1024]⟩
abbrev S1x256x512 : Shape := ⟨3, ![1, 256, 512]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S1x256x1024 : Shape := ⟨3, ![1, 256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 13
  | .vmem => 21
  | .smem => 0
  | _ => 0

abbrev bufTy : (tb : Table) → Fin (tcTables nBuf tb) → BufTy
  | .hbm, ⟨0, _⟩ => ⟨S8x8192x512, .bf16⟩
  | .hbm, ⟨1, _⟩ => ⟨S8x512x8192, .bf16⟩
  | .hbm, ⟨2, _⟩ => ⟨S8x8192x512, .bf16⟩
  | .hbm, ⟨3, _⟩ => ⟨S1x512, .f32⟩
  | .hbm, ⟨4, _⟩ => ⟨S8x8192x1024, .bf16⟩
  | .hbm, ⟨5, _⟩ => ⟨S8x8192x1024, .bf16⟩
  | .hbm, ⟨6, _⟩ => ⟨S8x8192x1024, .f32⟩
  | .hbm, ⟨7, _⟩ => ⟨S8x3x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S8x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024x1024, .f32⟩
  | .local _ .vmem, ⟨20, _⟩ => ⟨S1x1024x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x8192x512 : Shape := ⟨3, ![8, 8192, 512]⟩
abbrev S8x512x8192 : Shape := ⟨3, ![8, 512, 8192]⟩
abbrev S1x512 : Shape := ⟨2, ![1, 512]⟩
abbrev S8x8192x1024 : Shape := ⟨3, ![8, 8192, 1024]⟩
abbrev S8x3x1024 : Shape := ⟨3, ![8, 3, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S1x1x512 : Shape := ⟨3, ![1, 1, 512]⟩
abbrev S_ : Shape := ⟨0, ![]⟩
abbrev S8x1x1024 : Shape := ⟨3, ![8, 1, 1024]⟩
abbrev S8x1024 : Shape := ⟨2, ![8, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x512x8192, .bf16⟩
  | .hbm, ⟨2, _⟩ => ⟨S8x8192x512, .bf16⟩
  | .hbm, ⟨3, _⟩ => ⟨S1x512, .f32⟩
  | .hbm, ⟨4, _⟩ => ⟨S8x8192x1024, .bf16⟩
  | .hbm, ⟨5, _⟩ => ⟨S8x8192x1024, .bf16⟩
  | .hbm, ⟨6, _⟩ => ⟨S8x8192x1024, .f32⟩
  | .hbm, ⟨7, _⟩ => ⟨S8x3x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S8x8192x512, .f32⟩
  | .hbm, ⟨13, _⟩ => ⟨S8x512x8192, .f32⟩
  | .hbm, ⟨14, _⟩ => ⟨S8x8192x512, .f32⟩
  | .hbm, ⟨15, _⟩ => ⟨S512, .f32⟩
  | .hbm, ⟨16, _⟩ => ⟨S1x1x512, .f32⟩
  | .hbm, ⟨17, _⟩ => ⟨S8x8192x512, .f32⟩
  | .hbm, ⟨18, _⟩ => ⟨S8x8192x512, .f32⟩
  | .hbm, ⟨19, _⟩ => ⟨S_, .f32⟩
  | .hbm, ⟨20, _⟩ => ⟨S8x8192x512, .f32⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S8x8192x1024, .f32⟩
  | .hbm, ⟨25, _⟩ => ⟨S512x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S512x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S1024x1024, .f32⟩
  | .hbm, ⟨34, _⟩ => ⟨S8x8192x1024, .f32⟩
  | .hbm, ⟨35, _⟩ => ⟨S8x1x1024, .f32⟩
  | .hbm, ⟨36, _⟩ => ⟨S8x1024, .f32⟩
  | .hbm, ⟨37, _⟩ => ⟨S8x1x1024, .f32⟩
  | .hbm, ⟨38, _⟩ => ⟨S1024, .f32⟩
  | .hbm, ⟨39, _⟩ => ⟨S8x8192x1024, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel3.lean ====
abbrev S8x1024 : Shape := ⟨2, ![8, 1024]⟩
abbrev S1024x3072 : Shape := ⟨2, ![1024, 3072]⟩
abbrev S1x3072 : Shape := ⟨2, ![1, 3072]⟩
abbrev S2x512 : Shape := ⟨2, ![2, 512]⟩
abbrev S1x64 : Shape := ⟨2, ![1, 64]⟩
abbrev S8x3072 : Shape := ⟨2, ![8, 3072]⟩
abbrev S1x128 : Shape := ⟨2, ![1, 128]⟩
abbrev S1024x1024 : Shape := ⟨2, ![1024, 1024]⟩
abbrev S1x1024 : Shape := ⟨2, ![1, 1024]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1x3072, .f32⟩
  | .hbm, ⟨3, _⟩ => ⟨S2x512, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S8x3072, .f32⟩
  | .hbm, ⟨9, _⟩ => ⟨S2x512, .f32⟩
  | .hbm, ⟨10, _⟩ => ⟨S1x128, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S2x512, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S8x1024, .f32⟩
  | .local _ .vmem, ⟨11, _⟩ => ⟨S8x1024, .f32⟩
  | .local _ .vmem, ⟨12, _⟩ => ⟨S2x512, .f32⟩
  | .local _ .vmem, ⟨13, _⟩ => ⟨S1x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S8x1024 : Shape := ⟨2, ![8, 1024]⟩
abbrev S1024x3072 : Shape := ⟨2, ![1024, 3072]⟩
abbrev S1x3072 : Shape := ⟨2, ![1, 3072]⟩
abbrev S2x512 : Shape := ⟨2, ![2, 512]⟩
abbrev S1x64 : Shape := ⟨2, ![1, 64]⟩
abbrev S_ : Shape := ⟨0, ![]⟩
abbrev S8x3072 : Shape := ⟨2, ![8, 3072]⟩
abbrev S3072 : Shape := ⟨1, ![3072]⟩
abbrev S512 : Shape := ⟨1, ![512]⟩
abbrev S1x512 : Shape := ⟨2, ![1, 512]⟩
abbrev S64 : Shape := ⟨1, ![64]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1x3072, .f32⟩
  | .hbm, ⟨3, _⟩ => ⟨S2x512, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x3072, .f32⟩
  | .hbm, ⟨18, _⟩ => ⟨S3072, .f32⟩
  | .hbm, ⟨19, _⟩ => ⟨S1x3072, .f32⟩
  | .hbm, ⟨20, _⟩ => ⟨S8x3072, .f32⟩
  | .hbm, ⟨21, _⟩ => ⟨S8x3072, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S2x512, .f32⟩
  | .hbm, ⟨35, _⟩ => ⟨S2x512, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x3x1024 : Shape := ⟨3, ![8, 3, 1024]⟩
abbrev S1x1024 : Shape := ⟨2, ![1, 1024]⟩
abbrev S2x512 : Shape := ⟨2, ![2, 512]⟩
abbrev S1024x6144 : Shape := ⟨2, ![1024, 6144]⟩
abbrev S1x512 : Shape := ⟨2, ![1, 512]⟩
abbrev S128x128 : Shape := ⟨2, ![128, 128]⟩
abbrev S8x8192x512 : Shape := ⟨3, ![8, 8192, 512]⟩
abbrev S8x16x512x512 : Shape := ⟨4, ![8, 16, 512, 512]⟩
abbrev S8x32x512x256 : Shape := ⟨4, ![8, 32, 512, 256]⟩
abbrev S1x512x1024 : Shape := ⟨3, ![1, 512, 1024]⟩
abbrev S1x3x1024 : Shape := ⟨3, ![1, 3, 1024]⟩
abbrev S1x512x512 : Shape := ⟨3, ![1, 512, 512]⟩
abbrev S1x1x512x512 : Shape := ⟨4, ![1, 1, 512, 512]⟩
abbrev S1x2x512x256 : Shape := ⟨4, ![1, 2, 512, 256]⟩
abbrev S512x512 : Shape := ⟨2, ![512, 512]⟩
abbrev S4x128x128 : Shape := ⟨3, ![4, 128, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S128x512 : Shape := ⟨2, ![128, 512]⟩
abbrev S1x128 : Shape := ⟨2, ![1, 128]⟩
abbrev S16x8x128 : Shape := ⟨3, ![16, 8, 128]⟩
abbrev S16x1x128 : Shape := ⟨3, ![16, 1, 128]⟩
abbrev S8x16x128 : Shape := ⟨3, ![8, 16, 128]⟩
abbrev S8x1x128 : Shape := ⟨3, ![8, 1, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩
abbrev S1x128x128 : Shape := ⟨3, ![1, 128, 128]⟩
abbrev S1x1x128 : Shape := ⟨3, ![1, 1, 128]⟩
abbrev S128 : Shape := ⟨1, ![128]⟩
abbrev S128x1 : Shape := ⟨2, ![128, 1]⟩
abbrev S512x256 : Shape := ⟨2, ![512, 256]⟩
abbrev S1x1x512x256 : Shape := ⟨4, ![1, 1, 512, 256]⟩

abbrev nBuf : Space → Nat
  | .hbm => 15
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S8x3x1024, .f32⟩
  | .hbm, ⟨2, _⟩ => ⟨S1x1024, .f32⟩
  | .hbm, ⟨3, _⟩ => ⟨S2x512, .f32⟩
  | .hbm, ⟨4, _⟩ => ⟨S1024x6144, .bf16⟩
  | .hbm, ⟨5, _⟩ => ⟨S1x512, .f32⟩
  | .hbm, ⟨6, _⟩ => ⟨S128x128, .bf16⟩
  | .hbm, ⟨7, _⟩ => ⟨S128x128, .i32⟩
  | .hbm, ⟨8, _⟩ => ⟨S8x8192x512, .bf16⟩
  | .hbm, ⟨9, _⟩ => ⟨S8x16x512x512, .bf16⟩
  | .hbm, ⟨10, _⟩ => ⟨S8x8192x512, .bf16⟩
  | .hbm, ⟨11, _⟩ => ⟨S8x32x512x256, .bf16⟩
  | .hbm, ⟨12, _⟩ => ⟨S8x8192x512, .bf16⟩
  | .hbm, ⟨13, _⟩ => ⟨S8x8192x1024, .bf16⟩
  | .hbm, ⟨14, _⟩ => ⟨S8x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S2x512, .f32⟩
  | .local _ .vmem, ⟨6, _⟩ => ⟨S1024x6144, .bf16⟩
  | .local _ .vmem, ⟨7, _⟩ => ⟨S1x512, .f32⟩
  | .local _ .vmem, ⟨8, _⟩ => ⟨S128x128, .bf16⟩
  | .local _ .vmem, ⟨9, _⟩ => ⟨S128x128, .i32⟩
  | .local _ .vmem, ⟨10, _⟩ => ⟨S1x512x512, .bf16⟩
  | .local _ .vmem, ⟨11, _⟩ => ⟨S1x512x512, .bf16⟩
  | .local _ .vmem, ⟨12, _⟩ => ⟨S1x1x512x512, .bf16⟩
  | .local _ .vmem, ⟨13, _⟩ => ⟨S1x1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x2x512x256, .bf16⟩
  | .local _ .vmem, ⟨17, _⟩ => ⟨S1x2x512x256, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S4x128x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x8192x1024 : Shape := ⟨3, ![8, 8192, 1024]⟩
abbrev S8x3x1024 : Shape := ⟨3, ![8, 3, 1024]⟩
abbrev S1x1024 : Shape := ⟨2, ![1, 1024]⟩
abbrev S2x512 : Shape := ⟨2, ![2, 512]⟩
abbrev S1024x6144 : Shape := ⟨2, ![1024, 6144]⟩
abbrev S1x512 : Shape := ⟨2, ![1, 512]⟩
abbrev S_ : Shape := ⟨0, ![]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S8x1x1024 : Shape := ⟨3, ![8, 1, 1024]⟩
abbrev S1024x512 : Shape := ⟨2, ![1024, 512]⟩
abbrev S8x8192x512 : Shape := ⟨3, ![8, 8192, 512]⟩
abbrev S1024x1024 : Shape := ⟨2, ![1024, 1024]⟩
abbrev S8x16x512x512 : Shape := ⟨4, ![8, 16, 512, 512]⟩
abbrev S8x32x256x512 : Shape := ⟨4, ![8, 32, 256, 512]⟩
abbrev S8x32x512x256 : Shape := ⟨4, ![8, 32, 512, 256]⟩

abbrev nBuf : Space → Nat
  | .hbm => 83
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x3x1024, .f32⟩
  | .hbm, ⟨2, _⟩ => ⟨S1x1024, .f32⟩
  | .hbm, ⟨3, _⟩ => ⟨S2x512, .f32⟩
  | .hbm, ⟨4, _⟩ => ⟨S1024x6144, .bf16⟩
  | .hbm, ⟨5, _⟩ => ⟨S1x512, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x1x1024, .f32⟩
  | .hbm, ⟨30, _⟩ => ⟨S8x8192x1024, .f32⟩
  | .hbm, ⟨31, _⟩ => ⟨S8x8192x1024, .f32⟩
  | .hbm, ⟨32, _⟩ => ⟨S1024x6144, .f32⟩
  | .hbm, ⟨33, _⟩ => ⟨S1024x512, .f32⟩
  | .hbm, ⟨34, _⟩ => ⟨S8x8192x512, .f32⟩
  | .hbm, ⟨35, _⟩ => ⟨S1024x512, .f32⟩
  | .hbm, ⟨36, _⟩ => ⟨S8x8192x512, .f32⟩
  | .hbm, ⟨37, _⟩ => ⟨S1024x512, .f32⟩
  | .hbm, ⟨38, _⟩ => ⟨S8x8192x512, .f32⟩
  | .hbm, ⟨39, _⟩ => ⟨S1024x512, .f32⟩
  | .hbm, ⟨40, _⟩ => ⟨S8x8192x512, .f32⟩
  | .hbm, ⟨41, _⟩ => ⟨S1024x1024, .f32⟩
  | .hbm, ⟨42, _⟩ => ⟨S8x8192x1024, .f32⟩
  | .hbm, ⟨43, _⟩ => ⟨S1024x1024, .f32⟩
  | .hbm, ⟨44, _⟩ => ⟨S8x8192x1024, .f32⟩
  | .hbm, ⟨45, _⟩ => ⟨S_, .f32⟩
  | .hbm, ⟨46, _⟩ => ⟨S8x8192x512, .f32⟩
  | .hbm, ⟨47, _⟩ => ⟨S8x8192x512, .f32⟩
  | .hbm, ⟨48, _⟩ => ⟨S8x16x512x512, .f32⟩
  | .hbm, ⟨49, _⟩ => ⟨S8x16x512x512, .f32⟩
  | .hbm, ⟨50, _⟩ => ⟨S8x16x512x512, .bf16⟩
  | .hbm, ⟨51, _⟩ => ⟨S8x8192x512, .bf16⟩
  | .hbm, ⟨52, _⟩ => ⟨S8x32x256x512, .f32⟩
  | .hbm, ⟨53, _⟩ => ⟨S8x32x512x256, .f32⟩
  | .hbm, ⟨54, _⟩ => ⟨S8x32x512x256, .bf16⟩
  | .hbm, ⟨55, _⟩ => ⟨S8x8192x512, .f32⟩
  | .hbm, ⟨56, _⟩ => ⟨S8x8192x512, .f32⟩
  | .hbm, ⟨57, _⟩ => ⟨S_, .f32⟩
  | .hbm, ⟨58, _⟩ => ⟨S8x8192x512, .f32⟩
  | .hbm, ⟨59, _⟩ => ⟨S8x8192x512, .f32⟩
  | .hbm, ⟨60, _⟩ => ⟨S_, .f32⟩
  | .hbm, ⟨61, _⟩ => ⟨S8x8192x512, .f32⟩
  | .hbm, ⟨62, _⟩ => ⟨S8x8192x512, .f32⟩
  | .hbm, ⟨63, _⟩ => ⟨S8x8192x512, .f32⟩
  | .hbm, ⟨64, _⟩ => ⟨S8x8192x512, .bf16⟩
  | .hbm, ⟨65, _⟩ => ⟨S8x8192x1024, .f32⟩
  | .hbm, ⟨66, _⟩ => ⟨S8x8192x1024, .f32⟩
  | .hbm, ⟨67, _⟩ => ⟨S_, .f32⟩
  | .hbm, ⟨68, _⟩ => ⟨S8x8192x1024, .f32⟩
  | .hbm, ⟨69, _⟩ => ⟨S8x8192x1024, .f32⟩
  | .hbm, ⟨70, _⟩ => ⟨S_, .f32⟩
  | .hbm, ⟨71, _⟩ => ⟨S8x8192x1024, .f32⟩
  | .hbm, ⟨72, _⟩ => ⟨S8x8192x1024, .f32⟩
  | .hbm, ⟨73, _⟩ => ⟨S8x8192x1024, .bf16⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x8192x1024, .f32⟩
  | .hbm, ⟨78, _⟩ => ⟨S8x8192x1024, .f32⟩
  | .hbm, ⟨79, _⟩ => ⟨S_, .f32⟩
  | .hbm, ⟨80, _⟩ => ⟨S8x8192x1024, .f32⟩
  | .hbm, ⟨81, _⟩ => ⟨S8x8192x1024, .f32⟩
  | .hbm, ⟨82, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.FrameKernel.lean ====
/- The attention call's frame: at every grid point the body runs to its end on whatever the scratch holds, leaving every input
   block as it was; the run of the whole grid leaves the four argument arrays as they were. Nothing is said of the output. -/
module

public import proofs.«01_k».proof.Proof.RunKernel
public import Idealize.ShloMosaic.Lib.Pipeline.Quiescent

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, each input block left in place, the output's contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
  Φ _ := ΦA spec0 c
  q _ := fullShare
  owed _ := 0

/-- The window the proof says nothing of: the output's. -/
abbrev forgets : Fin cfg0.W → Bool := fun
  | ⟨4, _⟩ => true
  | _ => false

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A scratch buffer held whole, as the body's memref on it holds it. -/
theorem whole_pt (c : Dev nD) (b : Ref sig .tc) (f : Buf (Elt F) ((c : Thread nD τ).loc b)) :
    (((c : Thread nD τ).loc b ↦{fullShare} f) : sProp 𝕄)
      = ((Memref.whole b : Memref sig .tc _ _ _).view.loc (c : Thread nD τ) ↦[(Memref.whole b : Memref sig .tc _ _ _).view.set]{fullShare} f) := by
  simp only [Memref.view_whole, View.set_whole]

/-- The body run on any contents, with the inputs left and something left in the output and the scratch. -/
theorem runAny (c : Dev nD) (i : grid0.Coords) (arg3 : Memref sig .tc .smem S1 .f32) (harg3 : arg3.IsWhole) (arg4 : Memref sig .tc .vmem S1x16x512x512 .bf16) (harg4 : arg4.IsWhole) (arg5 : Memref sig .tc .vmem S1x8192x512 .bf16) (harg5 : arg5.IsWhole) (arg6 : Memref sig .tc .vmem S1x32x512x256 .bf16) (harg6 : arg6.IsWhole) (arg7 : Memref sig .tc .vmem S1x512x512 .bf16) (harg7 : arg7.IsWhole) (arg8 : Memref sig .tc .vmem S4x1x1024 .f32) (harg8 : arg8.IsWhole) (arg9 : Memref sig .tc .vmem S4x144x1024 .f32) (harg9 : arg9.IsWhole) (arg10 : Memref sig .tc .vmem S4x256x1024 .f32) (harg10 : arg10.IsWhole) (arg11 : Memref sig .tc .vmem S4x256x1024 .f32) (harg11 : arg11.IsWhole) (arg12 : Memref sig .tc .vmem S4x128x1024 .bf16) (harg12 : arg12.IsWhole)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱₀ (c : Thread nD τ) none) E (cc0_attn i arg3 harg3 arg4 harg4 arg5 harg5 arg6 harg6 arg7 harg7 arg8 harg8 arg9 harg9 arg10 harg10 arg11 harg11 arg12 harg12) fun _ =>
        iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) := by
  by_cases hc : isFirst i
  · iintro H
    iapply (wp_wand_r Idealize.ShloMosaic.frame (wpE (defs₀ (F := F)) 𝒱₀ (c : Thread nD τ) none) E)
    isplitl [H]
    · iapply ((runFirst (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.2 E)
      iexact H
    · iintro %_ ⟨H3, H4, H5, H6, H7, H8, H9, H10, H11, H12⟩
      isplitl [H3]
      · iexact H3
      isplitl [H4]
      · iexact H4
      isplitl [H5]
      · iexact H5
      isplitl [H6]
      · iexact H6
      isplitl [H7]
      · iexists _; iexact H7
      isplitl [H8]
      · iexists _; iexact H8
      isplitl [H9]
      · iexists _; iexact H9
      isplitl [H10]
      · iexists _; iexact H10
      isplitl [H11]
      · iexists _; iexact H11
      iexists _; iexact H12
  · iintro H
    iapply (wp_wand_r Idealize.ShloMosaic.frame (wpE (defs₀ (F := F)) 𝒱₀ (c : Thread nD τ) none) E)
    isplitl [H]
    · iapply ((runNext (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.2 E)
      iexact H
    · iintro %_ ⟨H3, H4, H5, H6, H7, H8, H9, H10, H11, H12⟩
      isplitl [H3]
      · iexact H3
      isplitl [H4]
      · iexact H4
      isplitl [H5]
      · iexact H5
      isplitl [H6]
      · iexact H6
      isplitl [H7]
      · iexists _; iexact H7
      isplitl [H8]
      · iexists _; iexact H8
      isplitl [H9]
      · iexists _; iexact H9
      isplitl [H10]
      · iexists _; iexact H10
      isplitl [H11]
      · iexists _; iexact H11
      iexists _; iexact H12

/-- The body at a point, on any contents of the scratch. -/
theorem body_obligation (c : Dev nD) :
    BodyObligation (dats (F := F) m 0 c) (defs₀ (F := F)) 𝒱₀ () Set.univ forgets := fun (t : Fin cfg0.N) => by
  rw [bigSep_W0, bigSep_W0, defs₀_row]
  simp only [before0_0, before0_1, before0_2, before0_3]
  rw [show (dats (F := F) m 0 c).Φ t.succ = ΦA spec0 c from rfl, show (dats (F := F) m 0 c).Φ t.castSucc = ΦA spec0 c from rfl,
    show (dats m 0 c).owesAt () t.succ = (dats m 0 c).owesAt () t.castSucc from rfl]
  unfold ΦA
  rw [scopedRest0_eq]
  simp only [whole_pt]
  show iprop(_ ∗ _ ∗ (∃ d, owns (c : Thread nD τ) (st0_0 t) fullShare (iblk m c 0 t)) ∗ (∃ d, owns (c : Thread nD τ) (st0_1 t) fullShare (iblk m c 1 t))
      ∗ (∃ d, owns (c : Thread nD τ) (st0_2 t) fullShare (iblk m c 2 t)) ∗ (∃ d, owns (c : Thread nD τ) (st0_3 t) fullShare (iblk m c 3 t))
      ∗ (∃ X, owns (c : Thread nD τ) (st0_4 t) fullShare X))
    ⊢ wp frame (wpE (defs₀ (F := F)) 𝒱₀ (c : Thread nD τ) none) Set.univ (bodyAt0 t) fun _ =>
      iprop(_ ∗ _ ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ (∃ X, owns (c : Thread nD τ) (st0_4 t) fullShare X))
  unfold owns
  iintro ⟨⟨⟨⟨%f8, H8⟩, ⟨%f9, H9⟩, ⟨%f10, H10⟩, ⟨%f11, H11⟩, ⟨%f12, H12⟩⟩, Hr⟩, Ho, ⟨%d0, %f3, %h3, H3⟩, ⟨%d1, %f4, %h4, H4⟩, ⟨%d2, %f5, %h5, H5⟩, ⟨%d3, %f6, %h6, H6⟩, ⟨%X, %f7, %h7, H7⟩⟩
  iapply (wp_wand_r Idealize.ShloMosaic.frame (wpE (defs₀ (F := F)) 𝒱₀ (c : Thread nD τ) none) Set.univ)
  isplitl [H3 H4 H5 H6 H7 H8 H9 H10 H11 H12]
  · iapply (runAny (F := F) c (grid0.coords t) (st0_0 t) _ (st0_1 t) _ (st0_2 t) _ (st0_3 t) _ (st0_4 t) _ (Memref.whole cc0_scratch0) _ (Memref.whole cc0_scratch1) _ (Memref.whole cc0_scratch2) _ (Memref.whole cc0_scratch3) _ (Memref.whole cc0_scratch4) _ f3 f4 f5 f6 f7 f8 f9 f10 f11 f12 Set.univ)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12
  · iintro %_ ⟨H3, H4, H5, H6, ⟨%g7, H7⟩, ⟨%g8, H8⟩, ⟨%g9, H9⟩, ⟨%g10, H10⟩, ⟨%g11, H11⟩, ⟨%g12, H12⟩⟩
    isplitl [H8 H9 H10 H11 H12 Hr]
    · isplitr [Hr]
      · isplitl [H8]
        · iexists g8; iexact H8
        isplitl [H9]
        · iexists g9; iexact H9
        isplitl [H10]
        · iexists g10; iexact H10
        isplitl [H11]
        · iexists g11; iexact H11
        iexists g12; iexact H12
      · iexact Hr
    isplitl [Ho]
    · iexact Ho
    isplitl [H3]
    · iexists f3; isplitr
      · ipureintro; exact h3
      · iexact H3
    isplitl [H4]
    · iexists f4; isplitr
      · ipureintro; exact h4
      · iexact H4
    isplitl [H5]
    · iexists f5; isplitr
      · ipureintro; exact h5
      · iexact H5
    isplitl [H6]
    · iexists f6; isplitr
      · ipureintro; exact h6
      · iexact H6
    iexists _; iexists g7; isplitr
    · ipureintro; rfl
    · iexact H7

-- the launch theorem's implicit arguments are found by unifying its conclusion with this one, which takes unfolding plain
-- definitions in a metavariable's type
set_option backward.isDefEq.respectTransparency.types false in
/-- The run of the whole grid. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame claim's post. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1.arr_in c 0 rfl, h.1.arr_in c 1 rfl, h.1.arr_in c 2 rfl, h.1.arr_in c 3 rfl⟩, h.2⟩)
    (run_main (F := F) m ρ)

end Cert.Kernel.Att

end
-- ==== Proof.AttSem.lean ====
/- The attention body's block step, and what a load of one head's slab reads after stores to slabs.

   For one head: the scores of a key block (`SC`), the running maximum after it (`MF`), the running numerator and
   denominator after it (`AF`), and the two sequences they make over the key blocks (`MM`, `AA`). -/
module

public import proofs.«01_k».proof.Proof.Gen.KernelIdeal.Skeleton
public import Idealize.ShloMosaic.Lib.WritesUnit
public import Idealize.ShloMosaic.Lib.Pipeline.ValueKit

@[expose] public section

noncomputable section

namespace Cert.KernelIdeal.Att

open Cert.KernelIdeal Cert.KernelIdeal.Gen Idealize.ShloMosaic Idealize.ShloMosaic.View

section Slabs

variable {sig : RefSig} {κ : Kind} {sp : Space} {d : Fin 3 → ℕ} {e : EltTy} {Val : EltTy → Type}

/-- A load of the box last stored reads the stored value. -/
theorem ra_hit (v : View sig κ sp (⟨3, d⟩ : Shape) e) (f : v.ty.Contents Val) {off sz : Fin 3 → ℕ}
    (inb inb' : ∀ a, off a + sz a ≤ d a) (w : (Rect.unit (s := ⟨3, d⟩) off sz inb).shape.Idx → Val e) (L : List (Piece Val (⟨3, d⟩ : Shape) e)) :
    v.readAt Val (Rect.unit (s := ⟨3, d⟩) off sz inb').toLoadRect (v.writes Val f (⟨Rect.unit (s := ⟨3, d⟩) off sz inb, w⟩ :: L)) = w :=
  funext fun j => read_writes_cons_unit_of_mem v f inb w L _ j rfl fun a => Rect.idx_unit_val off sz inb' j a

/-- A load of a slab passes a store to another slab. -/
theorem ra_miss (v : View sig κ sp (⟨3, d⟩ : Shape) e) (f : v.ty.Contents Val) {h h' x x' y y' : ℕ} {sz sz' : Fin 3 → ℕ}
    (inb : ∀ a, (![h, x, y] : Fin 3 → ℕ) a + sz a ≤ d a) (inb' : ∀ a, (![h', x', y'] : Fin 3 → ℕ) a + sz' a ≤ d a)
    (w : (Rect.unit (s := ⟨3, d⟩) ![h, x, y] sz inb).shape.Idx → Val e) (L : List (Piece Val (⟨3, d⟩ : Shape) e))
    (hs : sz 0 = 1) (hs' : sz' 0 = 1) (hne : h ≠ h') :
    v.readAt Val (Rect.unit (s := ⟨3, d⟩) ![h', x', y'] sz' inb').toLoadRect (v.writes Val f (⟨Rect.unit (s := ⟨3, d⟩) ![h, x, y] sz inb, w⟩ :: L))
      = v.readAt Val (Rect.unit (s := ⟨3, d⟩) ![h', x', y'] sz' inb').toLoadRect (v.writes Val f L) :=
  funext fun j => read_writes_cons_unit_of_not_mem v f inb w L _ rfl (0 : Fin 3) (by
    have e1 := Rect.idx_unit_val (s := ⟨3, d⟩) ![h', x', y'] sz' inb' j (0 : Fin 3)
    have e2 : (j (0 : Fin 3)).val < sz' 0 := (j (0 : Fin 3)).isLt
    have e3 : (![h', x', y'] : Fin 3 → ℕ) 0 = h' := rfl
    have e4 : (![h, x, y] : Fin 3 → ℕ) 0 = h := rfl
    rw [e3] at e1
    show ((Rect.unit (s := ⟨3, d⟩) ![h', x', y'] sz' inb').idx j (0 : Fin 3)).val < (![h, x, y] : Fin 3 → ℕ) 0 ∨ (![h, x, y] : Fin 3 → ℕ) 0 + sz 0 ≤ _
    rw [e4, e1]; omega)

theorem rc_hit [∀ e, Nonempty (Val e)] (v : View sig κ sp (⟨3, d⟩ : Shape) e) {off sz : Fin 3 → ℕ}
    (inb inb' : ∀ a, off a + sz a ≤ d a) (w : (Rect.unit (s := ⟨3, d⟩) off sz inb).shape.Idx → Val e) (L : List (Piece Val (⟨3, d⟩ : Shape) e)) :
    v.readCov (⟨Rect.unit (s := ⟨3, d⟩) off sz inb, w⟩ :: L) (Rect.unit (s := ⟨3, d⟩) off sz inb').toLoadRect = w :=
  ra_hit v v.junk inb inb' w L

theorem rc_miss [∀ e, Nonempty (Val e)] (v : View sig κ sp (⟨3, d⟩ : Shape) e) {h h' x x' y y' : ℕ} {sz sz' : Fin 3 → ℕ}
    (inb : ∀ a, (![h, x, y] : Fin 3 → ℕ) a + sz a ≤ d a) (inb' : ∀ a, (![h', x', y'] : Fin 3 → ℕ) a + sz' a ≤ d a)
    (w : (Rect.unit (s := ⟨3, d⟩) ![h, x, y] sz inb).shape.Idx → Val e) (L : List (Piece Val (⟨3, d⟩ : Shape) e))
    (hs : sz 0 = 1) (hs' : sz' 0 = 1) (hne : h ≠ h') :
    v.readCov (⟨Rect.unit (s := ⟨3, d⟩) ![h, x, y] sz inb, w⟩ :: L) (Rect.unit (s := ⟨3, d⟩) ![h', x', y'] sz' inb').toLoadRect
      = v.readCov L (Rect.unit (s := ⟨3, d⟩) ![h', x', y'] sz' inb').toLoadRect :=
  ra_miss v v.junk inb inb' w L hs hs' hne

end Slabs

variable {F : FTy → Type} [FloatOps F]

/-- The scores of a key block against the masked queries. -/
def SC (kb : Vec F S1x256x128 .bf16) (q : Vec F S1x128x1024 .bf16) : Vec F S1x256x1024 .f32 := k0_pay707 kb q
/-- The running maximum after a block's scores. -/
def MF (s : Vec F S1x256x1024 .f32) (m : Vec F S1x1x1024 .f32) : Vec F S1x1x1024 .f32 := k0_pay715 (k0_pay710 s m)
/-- The running sums after a block. -/
def AF (v0 : FVec F S16x256 .bf16) (s : Vec F S1x256x1024 .f32) (m : Vec F S1x1x1024 .f32) (vb : Vec F S1x1x128x256 .bf16)
    (a : Vec F S1x144x1024 .f32) : Vec F S1x144x1024 .f32 :=
  k0_pay714 (k0_pay711 s m) (k0_pay712 s m) (k0_pay713 v0 vb) a

/-- The running maximum after `n` key blocks. -/
def MM (kb : ℕ → Vec F S1x256x128 .bf16) (q : Vec F S1x128x1024 .bf16) : ℕ → Vec F S1x1x1024 .f32
  | 0 => fun _ => FloatOps.ofBits .f32 0xFF800000#32
  | n + 1 => MF (SC (kb n) q) (MM kb q n)
/-- The running sums after `n` key blocks. -/
def AA (v0 : FVec F S16x256 .bf16) (kb : ℕ → Vec F S1x256x128 .bf16) (vb : ℕ → Vec F S1x1x128x256 .bf16) (q : Vec F S1x128x1024 .bf16) :
    ℕ → Vec F S1x144x1024 .f32
  | 0 => fun _ => FloatOps.ofBits .f32 0x00000000#32
  | n + 1 => AF v0 (SC (kb n) q) (MM kb q n) (vb n) (AA v0 kb vb q n)

theorem MM_succ (kb : ℕ → Vec F S1x256x128 .bf16) (q : Vec F S1x128x1024 .bf16) (n : ℕ) : MM kb q (n + 1) = MF (SC (kb n) q) (MM kb q n) := rfl
theorem AA_succ (v0 : FVec F S16x256 .bf16) (kb : ℕ → Vec F S1x256x128 .bf16) (vb : ℕ → Vec F S1x1x128x256 .bf16) (q : Vec F S1x128x1024 .bf16) (n : ℕ) :
    AA v0 kb vb q (n + 1) = AF v0 (SC (kb n) q) (MM kb q n) (vb n) (AA v0 kb vb q n) := rfl

section Held
variable (arg5 : Memref sig .tc .vmem S1x8192x512 .bf16) (arg6 : Memref sig .tc .vmem S1x32x512x256 .bf16)
  (arg8 : Memref sig .tc .vmem S4x1x1024 .f32) (arg9 : Memref sig .tc .vmem S4x144x1024 .f32)
  (arg10 : Memref sig .tc .vmem S4x256x1024 .f32) (arg12 : Memref sig .tc .vmem S4x128x1024 .bf16)

/-- The keys are these blocks, per head. -/
def Keys (X : arg5.view.ty.Contents (Elt F)) (kb : ℕ → ℕ → Vec F S1x256x128 .bf16) : Prop :=
  ∀ (hh n off0 off1 : ℕ) (e0 : off0 = 256 * n) (e1 : off1 = 128 * hh) (inb : ∀ a, (![0, off0, off1] : Fin 3 → ℕ) a + S1x256x128.size a ≤ S1x8192x512.size a),
    View.readAt (Elt F) arg5.view (Rect.unit (s := S1x8192x512) ![0, off0, off1] S1x256x128.size inb).toLoadRect X = kb hh n
/-- The values are these blocks, per head. -/
def Vals (X : arg6.view.ty.Contents (Elt F)) (vb : ℕ → ℕ → Vec F S1x1x128x256 .bf16) : Prop :=
  ∀ (hh n off0 off1 : ℕ) (e0 : off0 = n) (e1 : off1 = 128 * hh) (inb : ∀ a, (![0, off0, off1, 0] : Fin 4 → ℕ) a + S1x1x128x256.size a ≤ S1x32x512x256.size a),
    View.readAt (Elt F) arg6.view (Rect.unit (s := S1x32x512x256) ![0, off0, off1, 0] S1x1x128x256.size inb).toLoadRect X = vb hh n
/-- The masked queries, per head. -/
def Qs (X : arg12.view.ty.Contents (Elt F)) (q : ℕ → Vec F S1x128x1024 .bf16) : Prop :=
  ∀ (hh : ℕ) (inb : ∀ a, (![hh, 0, 0] : Fin 3 → ℕ) a + S1x128x1024.size a ≤ S4x128x1024.size a),
    View.readAt (Elt F) arg12.view (Rect.unit (s := S4x128x1024) ![hh, 0, 0] S1x128x1024.size inb).toLoadRect X = q hh
/-- The maxima, per head. -/
def Ms (X : arg8.view.ty.Contents (Elt F)) (g : ℕ → Vec F S1x1x1024 .f32) : Prop :=
  ∀ (hh : ℕ) (inb : ∀ a, (![hh, 0, 0] : Fin 3 → ℕ) a + S1x1x1024.size a ≤ S4x1x1024.size a),
    View.readAt (Elt F) arg8.view (Rect.unit (s := S4x1x1024) ![hh, 0, 0] S1x1x1024.size inb).toLoadRect X = g hh
/-- The sums, per head. -/
def As (X : arg9.view.ty.Contents (Elt F)) (g : ℕ → Vec F S1x144x1024 .f32) : Prop :=
  ∀ (hh : ℕ) (inb : ∀ a, (![hh, 0, 0] : Fin 3 → ℕ) a + S1x144x1024.size a ≤ S4x144x1024.size a),
    View.readAt (Elt F) arg9.view (Rect.unit (s := S4x144x1024) ![hh, 0, 0] S1x144x1024.size inb).toLoadRect X = g hh
/-- The prefetched scores, per head. -/
def Ss (X : arg10.view.ty.Contents (Elt F)) (g : ℕ → Vec F S1x256x1024 .f32) : Prop :=
  ∀ (hh : ℕ) (inb : ∀ a, (![hh, 0, 0] : Fin 3 → ℕ) a + S1x256x1024.size a ≤ S4x256x1024.size a),
    View.readAt (Elt F) arg10.view (Rect.unit (s := S4x256x1024) ![hh, 0, 0] S1x256x1024.size inb).toLoadRect X = g hh
end Held

end Cert.KernelIdeal.Att

end
-- ==== Proof.AttTrip1.lean ====
/- One trip of the body's key-block loop `k0_t1_loop`: 4 pair(s) of key blocks per head. Head by head. -/
module

public import proofs.«01_k».proof.Proof.AttSem
public import proofs.«01_k».proof.Proof.Gen.KernelIdeal.Loops

@[expose] public section

set_option maxRecDepth 16384

noncomputable section

namespace Cert.KernelIdeal.Att.T1

open Cert.KernelIdeal Cert.KernelIdeal.Gen Cert.KernelIdeal.Att Idealize.ShloMosaic Idealize.ShloMosaic.View

variable {F : FTy → Type} [FloatOps F]

theorem lt3 (i : grid0.Coords) {k : ℕ} (hk : k < (k0_t1_loop i).trips) : k < 3 := Nat.lt_of_lt_of_le hk (k0_t1_abs i).2.1

theorem o_t1_off1_i_k_3_1 (i : grid0.Coords) (k : Fin (k0_t1_loop i).trips) : k0_off1 i k 3#32 1#32 = ![0, 256 * (8 * k.val + 7), 0] := by
  obtain ⟨k, hk⟩ := k
  have hk3 := lt3 i hk
  unfold k0_off1
  dsimp only
  interval_cases k <;> rfl

theorem o_t1_off1_i_k_3_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 3#32 1#32) a + S1x256x128.size a ≤ S1x8192x512.size a) :
    View.readAt (Elt F) arg5.view (Rect.unit (s := S1x8192x512) (k0_off1 i k 3#32 1#32) S1x256x128.size inb).toLoadRect X_arg5 = kb 0 (8 * k.val + 7) :=
  (View.readAt_unit_eq_of_eq arg5.view inb (o_t1_off1_i_k_3_1 i k) X_arg5).trans (hX 0 (8 * k.val + 7) _ _ rfl rfl _)

theorem o_t1_off1_i_k_2_2 (i : grid0.Coords) (k : Fin (k0_t1_loop i).trips) : k0_off1 i k 2#32 2#32 = ![0, 256 * (8 * k.val + 6), 0] := by
  obtain ⟨k, hk⟩ := k
  have hk3 := lt3 i hk
  unfold k0_off1
  dsimp only
  interval_cases k <;> rfl

theorem o_t1_off1_i_k_2_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 2#32 2#32) a + S1x256x128.size a ≤ S1x8192x512.size a) :
    View.readAt (Elt F) arg5.view (Rect.unit (s := S1x8192x512) (k0_off1 i k 2#32 2#32) S1x256x128.size inb).toLoadRect X_arg5 = kb 0 (8 * k.val + 6) :=
  (View.readAt_unit_eq_of_eq arg5.view inb (o_t1_off1_i_k_2_2 i k) X_arg5).trans (hX 0 (8 * k.val + 6) _ _ rfl rfl _)

theorem o_t1_off1_i_k_2_1 (i : grid0.Coords) (k : Fin (k0_t1_loop i).trips) : k0_off1 i k 2#32 1#32 = ![0, 256 * (8 * k.val + 5), 0] := by
  obtain ⟨k, hk⟩ := k
  have hk3 := lt3 i hk
  unfold k0_off1
  dsimp only
  interval_cases k <;> rfl

theorem o_t1_off1_i_k_2_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 2#32 1#32) a + S1x256x128.size a ≤ S1x8192x512.size a) :
    View.readAt (Elt F) arg5.view (Rect.unit (s := S1x8192x512) (k0_off1 i k 2#32 1#32) S1x256x128.size inb).toLoadRect X_arg5 = kb 0 (8 * k.val + 5) :=
  (View.readAt_unit_eq_of_eq arg5.view inb (o_t1_off1_i_k_2_1 i k) X_arg5).trans (hX 0 (8 * k.val + 5) _ _ rfl rfl _)

theorem o_t1_off1_i_k_1_2 (i : grid0.Coords) (k : Fin (k0_t1_loop i).trips) : k0_off1 i k 1#32 2#32 = ![0, 256 * (8 * k.val + 4), 0] := by
  obtain ⟨k, hk⟩ := k
  have hk3 := lt3 i hk
  unfold k0_off1
  dsimp only
  interval_cases k <;> rfl

theorem o_t1_off1_i_k_1_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 1#32 2#32) a + S1x256x128.size a ≤ S1x8192x512.size a) :
    View.readAt (Elt F) arg5.view (Rect.unit (s := S1x8192x512) (k0_off1 i k 1#32 2#32) S1x256x128.size inb).toLoadRect X_arg5 = kb 0 (8 * k.val + 4) :=
  (View.readAt_unit_eq_of_eq arg5.view inb (o_t1_off1_i_k_1_2 i k) X_arg5).trans (hX 0 (8 * k.val + 4) _ _ rfl rfl _)

theorem o_t1_off1_i_k_1_1 (i : grid0.Coords) (k : Fin (k0_t1_loop i).trips) : k0_off1 i k 1#32 1#32 = ![0, 256 * (8 * k.val + 3), 0] := by
  obtain ⟨k, hk⟩ := k
  have hk3 := lt3 i hk
  unfold k0_off1
  dsimp only
  interval_cases k <;> rfl

theorem o_t1_off1_i_k_1_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 1#32 1#32) a + S1x256x128.size a ≤ S1x8192x512.size a) :
    View.readAt (Elt F) arg5.view (Rect.unit (s := S1x8192x512) (k0_off1 i k 1#32 1#32) S1x256x128.size inb).toLoadRect X_arg5 = kb 0 (8 * k.val + 3) :=
  (View.readAt_unit_eq_of_eq arg5.view inb (o_t1_off1_i_k_1_1 i k) X_arg5).trans (hX 0 (8 * k.val + 3) _ _ rfl rfl _)

theorem o_t1_off1_i_k_0_2 (i : grid0.Coords) (k : Fin (k0_t1_loop i).trips) : k0_off1 i k 0#32 2#32 = ![0, 256 * (8 * k.val + 2), 0] := by
  obtain ⟨k, hk⟩ := k
  have hk3 := lt3 i hk
  unfold k0_off1
  dsimp only
  interval_cases k <;> rfl

theorem o_t1_off1_i_k_0_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 0#32 2#32) a + S1x256x128.size a ≤ S1x8192x512.size a) :
    View.readAt (Elt F) arg5.view (Rect.unit (s := S1x8192x512) (k0_off1 i k 0#32 2#32) S1x256x128.size inb).toLoadRect X_arg5 = kb 0 (8 * k.val + 2) :=
  (View.readAt_unit_eq_of_eq arg5.view inb (o_t1_off1_i_k_0_2 i k) X_arg5).trans (hX 0 (8 * k.val + 2) _ _ rfl rfl _)

theorem o_t1_off1_i_k_0_1 (i : grid0.Coords) (k : Fin (k0_t1_loop i).trips) : k0_off1 i k 0#32 1#32 = ![0, 256 * (8 * k.val + 1), 0] := by
  obtain ⟨k, hk⟩ := k
  have hk3 := lt3 i hk
  unfold k0_off1
  dsimp only
  interval_cases k <;> rfl

theorem o_t1_off1_i_k_0_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 0#32 1#32) a + S1x256x128.size a ≤ S1x8192x512.size a) :
    View.readAt (Elt F) arg5.view (Rect.unit (s := S1x8192x512) (k0_off1 i k 0#32 1#32) S1x256x128.size inb).toLoadRect X_arg5 = kb 0 (8 * k.val + 1) :=
  (View.readAt_unit_eq_of_eq arg5.view inb (o_t1_off1_i_k_0_1 i k) X_arg5).trans (hX 0 (8 * k.val + 1) _ _ rfl rfl _)

theorem o_t1_off4_i_k_3_1 (i : grid0.Coords) (k : Fin (k0_t1_loop i).trips) : k0_off4 i k 3#32 1#32 = ![0, 256 * (8 * k.val + 7), 128] := by
  obtain ⟨k, hk⟩ := k
  have hk3 := lt3 i hk
  unfold k0_off4
  dsimp only
  interval_cases k <;> rfl

theorem o_t1_off4_i_k_3_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 3#32 1#32) a + S1x256x128.size a ≤ S1x8192x512.size a) :
    View.readAt (Elt F) arg5.view (Rect.unit (s := S1x8192x512) (k0_off4 i k 3#32 1#32) S1x256x128.size inb).toLoadRect X_arg5 = kb 1 (8 * k.val + 7) :=
  (View.readAt_unit_eq_of_eq arg5.view inb (o_t1_off4_i_k_3_1 i k) X_arg5).trans (hX 1 (8 * k.val + 7) _ _ rfl rfl _)

theorem o_t1_off4_i_k_2_2 (i : grid0.Coords) (k : Fin (k0_t1_loop i).trips) : k0_off4 i k 2#32 2#32 = ![0, 256 * (8 * k.val + 6), 128] := by
  obtain ⟨k, hk⟩ := k
  have hk3 := lt3 i hk
  unfold k0_off4
  dsimp only
  interval_cases k <;> rfl

theorem o_t1_off4_i_k_2_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 2#32 2#32) a + S1x256x128.size a ≤ S1x8192x512.size a) :
    View.readAt (Elt F) arg5.view (Rect.unit (s := S1x8192x512) (k0_off4 i k 2#32 2#32) S1x256x128.size inb).toLoadRect X_arg5 = kb 1 (8 * k.val + 6) :=
  (View.readAt_unit_eq_of_eq arg5.view inb (o_t1_off4_i_k_2_2 i k) X_arg5).trans (hX 1 (8 * k.val + 6) _ _ rfl rfl _)

theorem o_t1_off4_i_k_2_1 (i : grid0.Coords) (k : Fin (k0_t1_loop i).trips) : k0_off4 i k 2#32 1#32 = ![0, 256 * (8 * k.val + 5), 128] := by
  obtain ⟨k, hk⟩ := k
  have hk3 := lt3 i hk
  unfold k0_off4
  dsimp only
  interval_cases k <;> rfl

theorem o_t1_off4_i_k_2_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 2#32 1#32) a + S1x256x128.size a ≤ S1x8192x512.size a) :
    View.readAt (Elt F) arg5.view (Rect.unit (s := S1x8192x512) (k0_off4 i k 2#32 1#32) S1x256x128.size inb).toLoadRect X_arg5 = kb 1 (8 * k.val + 5) :=
  (View.readAt_unit_eq_of_eq arg5.view inb (o_t1_off4_i_k_2_1 i k) X_arg5).trans (hX 1 (8 * k.val + 5) _ _ rfl rfl _)

theorem o_t1_off4_i_k_1_2 (i : grid0.Coords) (k : Fin (k0_t1_loop i).trips) : k0_off4 i k 1#32 2#32 = ![0, 256 * (8 * k.val + 4), 128] := by
  obtain ⟨k, hk⟩ := k
  have hk3 := lt3 i hk
  unfold k0_off4
  dsimp only
  interval_cases k <;> rfl

theorem o_t1_off4_i_k_1_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 1#32 2#32) a + S1x256x128.size a ≤ S1x8192x512.size a) :
    View.readAt (Elt F) arg5.view (Rect.unit (s := S1x8192x512) (k0_off4 i k 1#32 2#32) S1x256x128.size inb).toLoadRect X_arg5 = kb 1 (8 * k.val + 4) :=
  (View.readAt_unit_eq_of_eq arg5.view inb (o_t1_off4_i_k_1_2 i k) X_arg5).trans (hX 1 (8 * k.val + 4) _ _ rfl rfl _)

theorem o_t1_off4_i_k_1_1 (i : grid0.Coords) (k : Fin (k0_t1_loop i).trips) : k0_off4 i k 1#32 1#32 = ![0, 256 * (8 * k.val + 3), 128] := by
  obtain ⟨k, hk⟩ := k
  have hk3 := lt3 i hk
  unfold k0_off4
  dsimp only
  interval_cases k <;> rfl

theorem o_t1_off4_i_k_1_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 1#32 1#32) a + S1x256x128.size a ≤ S1x8192x512.size a) :
    View.readAt (Elt F) arg5.view (Rect.unit (s := S1x8192x512) (k0_off4 i k 1#32 1#32) S1x256x128.size inb).toLoadRect X_arg5 = kb 1 (8 * k.val + 3) :=
  (View.readAt_unit_eq_of_eq arg5.view inb (o_t1_off4_i_k_1_1 i k) X_arg5).trans (hX 1 (8 * k.val + 3) _ _ rfl rfl _)

theorem o_t1_off4_i_k_0_2 (i : grid0.Coords) (k : Fin (k0_t1_loop i).trips) : k0_off4 i k 0#32 2#32 = ![0, 256 * (8 * k.val + 2), 128] := by
  obtain ⟨k, hk⟩ := k
  have hk3 := lt3 i hk
  unfold k0_off4
  dsimp only
  interval_cases k <;> rfl

theorem o_t1_off4_i_k_0_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 0#32 2#32) a + S1x256x128.size a ≤ S1x8192x512.size a) :
    View.readAt (Elt F) arg5.view (Rect.unit (s := S1x8192x512) (k0_off4 i k 0#32 2#32) S1x256x128.size inb).toLoadRect X_arg5 = kb 1 (8 * k.val + 2) :=
  (View.readAt_unit_eq_of_eq arg5.view inb (o_t1_off4_i_k_0_2 i k) X_arg5).trans (hX 1 (8 * k.val + 2) _ _ rfl rfl _)

theorem o_t1_off4_i_k_0_1 (i : grid0.Coords) (k : Fin (k0_t1_loop i).trips) : k0_off4 i k 0#32 1#32 = ![0, 256 * (8 * k.val + 1), 128] := by
  obtain ⟨k, hk⟩ := k
  have hk3 := lt3 i hk
  unfold k0_off4
  dsimp only
  interval_cases k <;> rfl

theorem o_t1_off4_i_k_0_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 0#32 1#32) a + S1x256x128.size a ≤ S1x8192x512.size a) :
    View.readAt (Elt F) arg5.view (Rect.unit (s := S1x8192x512) (k0_off4 i k 0#32 1#32) S1x256x128.size inb).toLoadRect X_arg5 = kb 1 (8 * k.val + 1) :=
  (View.readAt_unit_eq_of_eq arg5.view inb (o_t1_off4_i_k_0_1 i k) X_arg5).trans (hX 1 (8 * k.val + 1) _ _ rfl rfl _)

theorem o_t1_off7_i_k_3_1 (i : grid0.Coords) (k : Fin (k0_t1_loop i).trips) : k0_off7 i k 3#32 1#32 = ![0, 256 * (8 * k.val + 7), 256] := by
  obtain ⟨k, hk⟩ := k
  have hk3 := lt3 i hk
  unfold k0_off7
  dsimp only
  interval_cases k <;> rfl

theorem o_t1_off7_i_k_3_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 3#32 1#32) a + S1x256x128.size a ≤ S1x8192x512.size a) :
    View.readAt (Elt F) arg5.view (Rect.unit (s := S1x8192x512) (k0_off7 i k 3#32 1#32) S1x256x128.size inb).toLoadRect X_arg5 = kb 2 (8 * k.val + 7) :=
  (View.readAt_unit_eq_of_eq arg5.view inb (o_t1_off7_i_k_3_1 i k) X_arg5).trans (hX 2 (8 * k.val + 7) _ _ rfl rfl _)

theorem o_t1_off7_i_k_2_2 (i : grid0.Coords) (k : Fin (k0_t1_loop i).trips) : k0_off7 i k 2#32 2#32 = ![0, 256 * (8 * k.val + 6), 256] := by
  obtain ⟨k, hk⟩ := k
  have hk3 := lt3 i hk
  unfold k0_off7
  dsimp only
  interval_cases k <;> rfl

theorem o_t1_off7_i_k_2_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 2#32 2#32) a + S1x256x128.size a ≤ S1x8192x512.size a) :
    View.readAt (Elt F) arg5.view (Rect.unit (s := S1x8192x512) (k0_off7 i k 2#32 2#32) S1x256x128.size inb).toLoadRect X_arg5 = kb 2 (8 * k.val + 6) :=
  (View.readAt_unit_eq_of_eq arg5.view inb (o_t1_off7_i_k_2_2 i k) X_arg5).trans (hX 2 (8 * k.val + 6) _ _ rfl rfl _)

theorem o_t1_off7_i_k_2_1 (i : grid0.Coords) (k : Fin (k0_t1_loop i).trips) : k0_off7 i k 2#32 1#32 = ![0, 256 * (8 * k.val + 5), 256] := by
  obtain ⟨k, hk⟩ := k
  have hk3 := lt3 i hk
  unfold k0_off7
  dsimp only
  interval_cases k <;> rfl

theorem o_t1_off7_i_k_2_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 2#32 1#32) a + S1x256x128.size a ≤ S1x8192x512.size a) :
    View.readAt (Elt F) arg5.view (Rect.unit (s := S1x8192x512) (k0_off7 i k 2#32 1#32) S1x256x128.size inb).toLoadRect X_arg5 = kb 2 (8 * k.val + 5) :=
  (View.readAt_unit_eq_of_eq arg5.view inb (o_t1_off7_i_k_2_1 i k) X_arg5).trans (hX 2 (8 * k.val + 5) _ _ rfl rfl _)

theorem o_t1_off7_i_k_1_1 (i : grid0.Coords) (k : Fin (k0_t1_loop i).trips) : k0_off7 i k 1#32 1#32 = ![0, 256 * (8 * k.val + 3), 256] := by
  obtain ⟨k, hk⟩ := k
  have hk3 := lt3 i hk
  unfold k0_off7
  dsimp only
  interval_cases k <;> rfl

theorem o_t1_off7_i_k_1_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 1#32 1#32) a + S1x256x128.size a ≤ S1x8192x512.size a) :
    View.readAt (Elt F) arg5.view (Rect.unit (s := S1x8192x512) (k0_off7 i k 1#32 1#32) S1x256x128.size inb).toLoadRect X_arg5 = kb 2 (8 * k.val + 3) :=
  (View.readAt_unit_eq_of_eq arg5.view inb (o_t1_off7_i_k_1_1 i k) X_arg5).trans (hX 2 (8 * k.val + 3) _ _ rfl rfl _)

theorem o_t1_off7_i_k_0_2 (i : grid0.Coords) (k : Fin (k0_t1_loop i).trips) : k0_off7 i k 0#32 2#32 = ![0, 256 * (8 * k.val + 2), 256] := by
  obtain ⟨k, hk⟩ := k
  have hk3 := lt3 i hk
  unfold k0_off7
  dsimp only
  interval_cases k <;> rfl

theorem o_t1_off7_i_k_0_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 0#32 2#32) a + S1x256x128.size a ≤ S1x8192x512.size a) :
    View.readAt (Elt F) arg5.view (Rect.unit (s := S1x8192x512) (k0_off7 i k 0#32 2#32) S1x256x128.size inb).toLoadRect X_arg5 = kb 2 (8 * k.val + 2) :=
  (View.readAt_unit_eq_of_eq arg5.view inb (o_t1_off7_i_k_0_2 i k) X_arg5).trans (hX 2 (8 * k.val + 2) _ _ rfl rfl _)

theorem o_t1_off7_i_k_0_1 (i : grid0.Coords) (k : Fin (k0_t1_loop i).trips) : k0_off7 i k 0#32 1#32 = ![0, 256 * (8 * k.val + 1), 256] := by
  obtain ⟨k, hk⟩ := k
  have hk3 := lt3 i hk
  unfold k0_off7
  dsimp only
  interval_cases k <;> rfl

theorem o_t1_off7_i_k_0_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 0#32 1#32) a + S1x256x128.size a ≤ S1x8192x512.size a) :
    View.readAt (Elt F) arg5.view (Rect.unit (s := S1x8192x512) (k0_off7 i k 0#32 1#32) S1x256x128.size inb).toLoadRect X_arg5 = kb 2 (8 * k.val + 1) :=
  (View.readAt_unit_eq_of_eq arg5.view inb (o_t1_off7_i_k_0_1 i k) X_arg5).trans (hX 2 (8 * k.val + 1) _ _ rfl rfl _)

theorem o_t1_off7_i_k_1_2 (i : grid0.Coords) (k : Fin (k0_t1_loop i).trips) : k0_off7 i k 1#32 2#32 = ![0, 256 * (8 * k.val + 4), 256] := by
  obtain ⟨k, hk⟩ := k
  have hk3 := lt3 i hk
  unfold k0_off7
  dsimp only
  interval_cases k <;> rfl

theorem o_t1_off7_i_k_1_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 1#32 2#32) a + S1x256x128.size a ≤ S1x8192x512.size a) :
    View.readAt (Elt F) arg5.view (Rect.unit (s := S1x8192x512) (k0_off7 i k 1#32 2#32) S1x256x128.size inb).toLoadRect X_arg5 = kb 2 (8 * k.val + 4) :=
  (View.readAt_unit_eq_of_eq arg5.view inb (o_t1_off7_i_k_1_2 i k) X_arg5).trans (hX 2 (8 * k.val + 4) _ _ rfl rfl _)

theorem o_t1_off10_i_k_2_2 (i : grid0.Coords) (k : Fin (k0_t1_loop i).trips) : k0_off10 i k 2#32 2#32 = ![0, 256 * (8 * k.val + 6), 384] := by
  obtain ⟨k, hk⟩ := k
  have hk3 := lt3 i hk
  unfold k0_off10
  dsimp only
  interval_cases k <;> rfl

theorem o_t1_off10_i_k_2_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 2#32 2#32) a + S1x256x128.size a ≤ S1x8192x512.size a) :
    View.readAt (Elt F) arg5.view (Rect.unit (s := S1x8192x512) (k0_off10 i k 2#32 2#32) S1x256x128.size inb).toLoadRect X_arg5 = kb 3 (8 * k.val + 6) :=
  (View.readAt_unit_eq_of_eq arg5.view inb (o_t1_off10_i_k_2_2 i k) X_arg5).trans (hX 3 (8 * k.val + 6) _ _ rfl rfl _)

theorem o_t1_off10_i_k_2_1 (i : grid0.Coords) (k : Fin (k0_t1_loop i).trips) : k0_off10 i k 2#32 1#32 = ![0, 256 * (8 * k.val + 5), 384] := by
  obtain ⟨k, hk⟩ := k
  have hk3 := lt3 i hk
  unfold k0_off10
  dsimp only
  interval_cases k <;> rfl

theorem o_t1_off10_i_k_2_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 2#32 1#32) a + S1x256x128.size a ≤ S1x8192x512.size a) :
    View.readAt (Elt F) arg5.view (Rect.unit (s := S1x8192x512) (k0_off10 i k 2#32 1#32) S1x256x128.size inb).toLoadRect X_arg5 = kb 3 (8 * k.val + 5) :=
  (View.readAt_unit_eq_of_eq arg5.view inb (o_t1_off10_i_k_2_1 i k) X_arg5).trans (hX 3 (8 * k.val + 5) _ _ rfl rfl _)

theorem o_t1_off10_i_k_1_1 (i : grid0.Coords) (k : Fin (k0_t1_loop i).trips) : k0_off10 i k 1#32 1#32 = ![0, 256 * (8 * k.val + 3), 384] := by
  obtain ⟨k, hk⟩ := k
  have hk3 := lt3 i hk
  unfold k0_off10
  dsimp only
  interval_cases k <;> rfl

theorem o_t1_off10_i_k_1_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 1#32 1#32) a + S1x256x128.size a ≤ S1x8192x512.size a) :
    View.readAt (Elt F) arg5.view (Rect.unit (s := S1x8192x512) (k0_off10 i k 1#32 1#32) S1x256x128.size inb).toLoadRect X_arg5 = kb 3 (8 * k.val + 3) :=
  (View.readAt_unit_eq_of_eq arg5.view inb (o_t1_off10_i_k_1_1 i k) X_arg5).trans (hX 3 (8 * k.val + 3) _ _ rfl rfl _)

theorem o_t1_off10_i_k_0_2 (i : grid0.Coords) (k : Fin (k0_t1_loop i).trips) : k0_off10 i k 0#32 2#32 = ![0, 256 * (8 * k.val + 2), 384] := by
  obtain ⟨k, hk⟩ := k
  have hk3 := lt3 i hk
  unfold k0_off10
  dsimp only
  interval_cases k <;> rfl

theorem o_t1_off10_i_k_0_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 0#32 2#32) a + S1x256x128.size a ≤ S1x8192x512.size a) :
    View.readAt (Elt F) arg5.view (Rect.unit (s := S1x8192x512) (k0_off10 i k 0#32 2#32) S1x256x128.size inb).toLoadRect X_arg5 = kb 3 (8 * k.val + 2) :=
  (View.readAt_unit_eq_of_eq arg5.view inb (o_t1_off10_i_k_0_2 i k) X_arg5).trans (hX 3 (8 * k.val + 2) _ _ rfl rfl _)

theorem o_t1_off10_i_k_0_1 (i : grid0.Coords) (k : Fin (k0_t1_loop i).trips) : k0_off10 i k 0#32 1#32 = ![0, 256 * (8 * k.val + 1), 384] := by
  obtain ⟨k, hk⟩ := k
  have hk3 := lt3 i hk
  unfold k0_off10
  dsimp only
  interval_cases k <;> rfl

theorem o_t1_off10_i_k_0_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 0#32 1#32) a + S1x256x128.size a ≤ S1x8192x512.size a) :
    View.readAt (Elt F) arg5.view (Rect.unit (s := S1x8192x512) (k0_off10 i k 0#32 1#32) S1x256x128.size inb).toLoadRect X_arg5 = kb 3 (8 * k.val + 1) :=
  (View.readAt_unit_eq_of_eq arg5.view inb (o_t1_off10_i_k_0_1 i k) X_arg5).trans (hX 3 (8 * k.val + 1) _ _ rfl rfl _)

theorem o_t1_off10_i_k_1_2 (i : grid0.Coords) (k : Fin (k0_t1_loop i).trips) : k0_off10 i k 1#32 2#32 = ![0, 256 * (8 * k.val + 4), 384] := by
  obtain ⟨k, hk⟩ := k
  have hk3 := lt3 i hk
  unfold k0_off10
  dsimp only
  interval_cases k <;> rfl

theorem o_t1_off10_i_k_1_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 1#32 2#32) a + S1x256x128.size a ≤ S1x8192x512.size a) :
    View.readAt (Elt F) arg5.view (Rect.unit (s := S1x8192x512) (k0_off10 i k 1#32 2#32) S1x256x128.size inb).toLoadRect X_arg5 = kb 3 (8 * k.val + 4) :=
  (View.readAt_unit_eq_of_eq arg5.view inb (o_t1_off10_i_k_1_2 i k) X_arg5).trans (hX 3 (8 * k.val + 4) _ _ rfl rfl _)

theorem o_t1_off10_i_k_3_1 (i : grid0.Coords) (k : Fin (k0_t1_loop i).trips) : k0_off10 i k 3#32 1#32 = ![0, 256 * (8 * k.val + 7), 384] := by
  obtain ⟨k, hk⟩ := k
  have hk3 := lt3 i hk
  unfold k0_off10
  dsimp only
  interval_cases k <;> rfl

theorem o_t1_off10_i_k_3_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 3#32 1#32) a + S1x256x128.size a ≤ S1x8192x512.size a) :
    View.readAt (Elt F) arg5.view (Rect.unit (s := S1x8192x512) (k0_off10 i k 3#32 1#32) S1x256x128.size inb).toLoadRect X_arg5 = kb 3 (8 * k.val + 7) :=
  (View.readAt_unit_eq_of_eq arg5.view inb (o_t1_off10_i_k_3_1 i k) X_arg5).trans (hX 3 (8 * k.val + 7) _ _ rfl rfl _)

theorem o_t1_off2_i_k_0 (i : grid0.Coords) (k : Fin (k0_t1_loop i).trips) : k0_off2 i k 0#32 = ![0, (8 * k.val), 0, 0] := by
  obtain ⟨k, hk⟩ := k
  have hk3 := lt3 i hk
  unfold k0_off2
  dsimp only
  interval_cases k <;> rfl

theorem o_t1_off2_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off2 i k 0#32) a + S1x1x128x256.size a ≤ S1x32x512x256.size a) :
    View.readAt (Elt F) arg6.view (Rect.unit (s := S1x32x512x256) (k0_off2 i k 0#32) S1x1x128x256.size inb).toLoadRect X_arg6 = vb 0 (8 * k.val) :=
  (View.readAt_unit_eq_of_eq arg6.view inb (o_t1_off2_i_k_0 i k) X_arg6).trans (hX 0 (8 * k.val) _ _ rfl rfl _)

theorem o_t1_off3_i_k_0 (i : grid0.Coords) (k : Fin (k0_t1_loop i).trips) : k0_off3 i k 0#32 = ![0, (8 * k.val + 1), 0, 0] := by
  obtain ⟨k, hk⟩ := k
  have hk3 := lt3 i hk
  unfold k0_off3
  dsimp only
  interval_cases k <;> rfl

theorem o_t1_off3_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off3 i k 0#32) a + S1x1x128x256.size a ≤ S1x32x512x256.size a) :
    View.readAt (Elt F) arg6.view (Rect.unit (s := S1x32x512x256) (k0_off3 i k 0#32) S1x1x128x256.size inb).toLoadRect X_arg6 = vb 0 (8 * k.val + 1) :=
  (View.readAt_unit_eq_of_eq arg6.view inb (o_t1_off3_i_k_0 i k) X_arg6).trans (hX 0 (8 * k.val + 1) _ _ rfl rfl _)

theorem o_t1_off2_i_k_1 (i : grid0.Coords) (k : Fin (k0_t1_loop i).trips) : k0_off2 i k 1#32 = ![0, (8 * k.val + 2), 0, 0] := by
  obtain ⟨k, hk⟩ := k
  have hk3 := lt3 i hk
  unfold k0_off2
  dsimp only
  interval_cases k <;> rfl

theorem o_t1_off2_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off2 i k 1#32) a + S1x1x128x256.size a ≤ S1x32x512x256.size a) :
    View.readAt (Elt F) arg6.view (Rect.unit (s := S1x32x512x256) (k0_off2 i k 1#32) S1x1x128x256.size inb).toLoadRect X_arg6 = vb 0 (8 * k.val + 2) :=
  (View.readAt_unit_eq_of_eq arg6.view inb (o_t1_off2_i_k_1 i k) X_arg6).trans (hX 0 (8 * k.val + 2) _ _ rfl rfl _)

theorem o_t1_off3_i_k_1 (i : grid0.Coords) (k : Fin (k0_t1_loop i).trips) : k0_off3 i k 1#32 = ![0, (8 * k.val + 3), 0, 0] := by
  obtain ⟨k, hk⟩ := k
  have hk3 := lt3 i hk
  unfold k0_off3
  dsimp only
  interval_cases k <;> rfl

theorem o_t1_off3_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off3 i k 1#32) a + S1x1x128x256.size a ≤ S1x32x512x256.size a) :
    View.readAt (Elt F) arg6.view (Rect.unit (s := S1x32x512x256) (k0_off3 i k 1#32) S1x1x128x256.size inb).toLoadRect X_arg6 = vb 0 (8 * k.val + 3) :=
  (View.readAt_unit_eq_of_eq arg6.view inb (o_t1_off3_i_k_1 i k) X_arg6).trans (hX 0 (8 * k.val + 3) _ _ rfl rfl _)

theorem o_t1_off2_i_k_2 (i : grid0.Coords) (k : Fin (k0_t1_loop i).trips) : k0_off2 i k 2#32 = ![0, (8 * k.val + 4), 0, 0] := by
  obtain ⟨k, hk⟩ := k
  have hk3 := lt3 i hk
  unfold k0_off2
  dsimp only
  interval_cases k <;> rfl

theorem o_t1_off2_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off2 i k 2#32) a + S1x1x128x256.size a ≤ S1x32x512x256.size a) :
    View.readAt (Elt F) arg6.view (Rect.unit (s := S1x32x512x256) (k0_off2 i k 2#32) S1x1x128x256.size inb).toLoadRect X_arg6 = vb 0 (8 * k.val + 4) :=
  (View.readAt_unit_eq_of_eq arg6.view inb (o_t1_off2_i_k_2 i k) X_arg6).trans (hX 0 (8 * k.val + 4) _ _ rfl rfl _)

theorem o_t1_off3_i_k_2 (i : grid0.Coords) (k : Fin (k0_t1_loop i).trips) : k0_off3 i k 2#32 = ![0, (8 * k.val + 5), 0, 0] := by
  obtain ⟨k, hk⟩ := k
  have hk3 := lt3 i hk
  unfold k0_off3
  dsimp only
  interval_cases k <;> rfl

theorem o_t1_off3_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off3 i k 2#32) a + S1x1x128x256.size a ≤ S1x32x512x256.size a) :
    View.readAt (Elt F) arg6.view (Rect.unit (s := S1x32x512x256) (k0_off3 i k 2#32) S1x1x128x256.size inb).toLoadRect X_arg6 = vb 0 (8 * k.val + 5) :=
  (View.readAt_unit_eq_of_eq arg6.view inb (o_t1_off3_i_k_2 i k) X_arg6).trans (hX 0 (8 * k.val + 5) _ _ rfl rfl _)

theorem o_t1_off2_i_k_3 (i : grid0.Coords) (k : Fin (k0_t1_loop i).trips) : k0_off2 i k 3#32 = ![0, (8 * k.val + 6), 0, 0] := by
  obtain ⟨k, hk⟩ := k
  have hk3 := lt3 i hk
  unfold k0_off2
  dsimp only
  interval_cases k <;> rfl

theorem o_t1_off2_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off2 i k 3#32) a + S1x1x128x256.size a ≤ S1x32x512x256.size a) :
    View.readAt (Elt F) arg6.view (Rect.unit (s := S1x32x512x256) (k0_off2 i k 3#32) S1x1x128x256.size inb).toLoadRect X_arg6 = vb 0 (8 * k.val + 6) :=
  (View.readAt_unit_eq_of_eq arg6.view inb (o_t1_off2_i_k_3 i k) X_arg6).trans (hX 0 (8 * k.val + 6) _ _ rfl rfl _)

theorem o_t1_off3_i_k_3 (i : grid0.Coords) (k : Fin (k0_t1_loop i).trips) : k0_off3 i k 3#32 = ![0, (8 * k.val + 7), 0, 0] := by
  obtain ⟨k, hk⟩ := k
  have hk3 := lt3 i hk
  unfold k0_off3
  dsimp only
  interval_cases k <;> rfl

theorem o_t1_off3_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off3 i k 3#32) a + S1x1x128x256.size a ≤ S1x32x512x256.size a) :
    View.readAt (Elt F) arg6.view (Rect.unit (s := S1x32x512x256) (k0_off3 i k 3#32) S1x1x128x256.size inb).toLoadRect X_arg6 = vb 0 (8 * k.val + 7) :=
  (View.readAt_unit_eq_of_eq arg6.view inb (o_t1_off3_i_k_3 i k) X_arg6).trans (hX 0 (8 * k.val + 7) _ _ rfl rfl _)

theorem o_t1_off5_i_k_0 (i : grid0.Coords) (k : Fin (k0_t1_loop i).trips) : k0_off5 i k 0#32 = ![0, (8 * k.val), 128, 0] := by
  obtain ⟨k, hk⟩ := k
  have hk3 := lt3 i hk
  unfold k0_off5
  dsimp only
  interval_cases k <;> rfl

theorem o_t1_off5_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off5 i k 0#32) a + S1x1x128x256.size a ≤ S1x32x512x256.size a) :
    View.readAt (Elt F) arg6.view (Rect.unit (s := S1x32x512x256) (k0_off5 i k 0#32) S1x1x128x256.size inb).toLoadRect X_arg6 = vb 1 (8 * k.val) :=
  (View.readAt_unit_eq_of_eq arg6.view inb (o_t1_off5_i_k_0 i k) X_arg6).trans (hX 1 (8 * k.val) _ _ rfl rfl _)

theorem o_t1_off6_i_k_0 (i : grid0.Coords) (k : Fin (k0_t1_loop i).trips) : k0_off6 i k 0#32 = ![0, (8 * k.val + 1), 128, 0] := by
  obtain ⟨k, hk⟩ := k
  have hk3 := lt3 i hk
  unfold k0_off6
  dsimp only
  interval_cases k <;> rfl

theorem o_t1_off6_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off6 i k 0#32) a + S1x1x128x256.size a ≤ S1x32x512x256.size a) :
    View.readAt (Elt F) arg6.view (Rect.unit (s := S1x32x512x256) (k0_off6 i k 0#32) S1x1x128x256.size inb).toLoadRect X_arg6 = vb 1 (8 * k.val + 1) :=
  (View.readAt_unit_eq_of_eq arg6.view inb (o_t1_off6_i_k_0 i k) X_arg6).trans (hX 1 (8 * k.val + 1) _ _ rfl rfl _)

theorem o_t1_off5_i_k_1 (i : grid0.Coords) (k : Fin (k0_t1_loop i).trips) : k0_off5 i k 1#32 = ![0, (8 * k.val + 2), 128, 0] := by
  obtain ⟨k, hk⟩ := k
  have hk3 := lt3 i hk
  unfold k0_off5
  dsimp only
  interval_cases k <;> rfl

theorem o_t1_off5_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off5 i k 1#32) a + S1x1x128x256.size a ≤ S1x32x512x256.size a) :
    View.readAt (Elt F) arg6.view (Rect.unit (s := S1x32x512x256) (k0_off5 i k 1#32) S1x1x128x256.size inb).toLoadRect X_arg6 = vb 1 (8 * k.val + 2) :=
  (View.readAt_unit_eq_of_eq arg6.view inb (o_t1_off5_i_k_1 i k) X_arg6).trans (hX 1 (8 * k.val + 2) _ _ rfl rfl _)

theorem o_t1_off6_i_k_1 (i : grid0.Coords) (k : Fin (k0_t1_loop i).trips) : k0_off6 i k 1#32 = ![0, (8 * k.val + 3), 128, 0] := by
  obtain ⟨k, hk⟩ := k
  have hk3 := lt3 i hk
  unfold k0_off6
  dsimp only
  interval_cases k <;> rfl

theorem o_t1_off6_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off6 i k 1#32) a + S1x1x128x256.size a ≤ S1x32x512x256.size a) :
    View.readAt (Elt F) arg6.view (Rect.unit (s := S1x32x512x256) (k0_off6 i k 1#32) S1x1x128x256.size inb).toLoadRect X_arg6 = vb 1 (8 * k.val + 3) :=
  (View.readAt_unit_eq_of_eq arg6.view inb (o_t1_off6_i_k_1 i k) X_arg6).trans (hX 1 (8 * k.val + 3) _ _ rfl rfl _)

theorem o_t1_off5_i_k_2 (i : grid0.Coords) (k : Fin (k0_t1_loop i).trips) : k0_off5 i k 2#32 = ![0, (8 * k.val + 4), 128, 0] := by
  obtain ⟨k, hk⟩ := k
  have hk3 := lt3 i hk
  unfold k0_off5
  dsimp only
  interval_cases k <;> rfl

theorem o_t1_off5_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off5 i k 2#32) a + S1x1x128x256.size a ≤ S1x32x512x256.size a) :
    View.readAt (Elt F) arg6.view (Rect.unit (s := S1x32x512x256) (k0_off5 i k 2#32) S1x1x128x256.size inb).toLoadRect X_arg6 = vb 1 (8 * k.val + 4) :=
  (View.readAt_unit_eq_of_eq arg6.view inb (o_t1_off5_i_k_2 i k) X_arg6).trans (hX 1 (8 * k.val + 4) _ _ rfl rfl _)

theorem o_t1_off6_i_k_2 (i : grid0.Coords) (k : Fin (k0_t1_loop i).trips) : k0_off6 i k 2#32 = ![0, (8 * k.val + 5), 128, 0] := by
  obtain ⟨k, hk⟩ := k
  have hk3 := lt3 i hk
  unfold k0_off6
  dsimp only
  interval_cases k <;> rfl

theorem o_t1_off6_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off6 i k 2#32) a + S1x1x128x256.size a ≤ S1x32x512x256.size a) :
    View.readAt (Elt F) arg6.view (Rect.unit (s := S1x32x512x256) (k0_off6 i k 2#32) S1x1x128x256.size inb).toLoadRect X_arg6 = vb 1 (8 * k.val + 5) :=
  (View.readAt_unit_eq_of_eq arg6.view inb (o_t1_off6_i_k_2 i k) X_arg6).trans (hX 1 (8 * k.val + 5) _ _ rfl rfl _)

theorem o_t1_off5_i_k_3 (i : grid0.Coords) (k : Fin (k0_t1_loop i).trips) : k0_off5 i k 3#32 = ![0, (8 * k.val + 6), 128, 0] := by
  obtain ⟨k, hk⟩ := k
  have hk3 := lt3 i hk
  unfold k0_off5
  dsimp only
  interval_cases k <;> rfl

theorem o_t1_off5_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off5 i k 3#32) a + S1x1x128x256.size a ≤ S1x32x512x256.size a) :
    View.readAt (Elt F) arg6.view (Rect.unit (s := S1x32x512x256) (k0_off5 i k 3#32) S1x1x128x256.size inb).toLoadRect X_arg6 = vb 1 (8 * k.val + 6) :=
  (View.readAt_unit_eq_of_eq arg6.view inb (o_t1_off5_i_k_3 i k) X_arg6).trans (hX 1 (8 * k.val + 6) _ _ rfl rfl _)

theorem o_t1_off6_i_k_3 (i : grid0.Coords) (k : Fin (k0_t1_loop i).trips) : k0_off6 i k 3#32 = ![0, (8 * k.val + 7), 128, 0] := by
  obtain ⟨k, hk⟩ := k
  have hk3 := lt3 i hk
  unfold k0_off6
  dsimp only
  interval_cases k <;> rfl

theorem o_t1_off6_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off6 i k 3#32) a + S1x1x128x256.size a ≤ S1x32x512x256.size a) :
    View.readAt (Elt F) arg6.view (Rect.unit (s := S1x32x512x256) (k0_off6 i k 3#32) S1x1x128x256.size inb).toLoadRect X_arg6 = vb 1 (8 * k.val + 7) :=
  (View.readAt_unit_eq_of_eq arg6.view inb (o_t1_off6_i_k_3 i k) X_arg6).trans (hX 1 (8 * k.val + 7) _ _ rfl rfl _)

theorem o_t1_off8_i_k_0 (i : grid0.Coords) (k : Fin (k0_t1_loop i).trips) : k0_off8 i k 0#32 = ![0, (8 * k.val), 256, 0] := by
  obtain ⟨k, hk⟩ := k
  have hk3 := lt3 i hk
  unfold k0_off8
  dsimp only
  interval_cases k <;> rfl

theorem o_t1_off8_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off8 i k 0#32) a + S1x1x128x256.size a ≤ S1x32x512x256.size a) :
    View.readAt (Elt F) arg6.view (Rect.unit (s := S1x32x512x256) (k0_off8 i k 0#32) S1x1x128x256.size inb).toLoadRect X_arg6 = vb 2 (8 * k.val) :=
  (View.readAt_unit_eq_of_eq arg6.view inb (o_t1_off8_i_k_0 i k) X_arg6).trans (hX 2 (8 * k.val) _ _ rfl rfl _)

theorem o_t1_off9_i_k_0 (i : grid0.Coords) (k : Fin (k0_t1_loop i).trips) : k0_off9 i k 0#32 = ![0, (8 * k.val + 1), 256, 0] := by
  obtain ⟨k, hk⟩ := k
  have hk3 := lt3 i hk
  unfold k0_off9
  dsimp only
  interval_cases k <;> rfl

theorem o_t1_off9_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off9 i k 0#32) a + S1x1x128x256.size a ≤ S1x32x512x256.size a) :
    View.readAt (Elt F) arg6.view (Rect.unit (s := S1x32x512x256) (k0_off9 i k 0#32) S1x1x128x256.size inb).toLoadRect X_arg6 = vb 2 (8 * k.val + 1) :=
  (View.readAt_unit_eq_of_eq arg6.view inb (o_t1_off9_i_k_0 i k) X_arg6).trans (hX 2 (8 * k.val + 1) _ _ rfl rfl _)

theorem o_t1_off8_i_k_1 (i : grid0.Coords) (k : Fin (k0_t1_loop i).trips) : k0_off8 i k 1#32 = ![0, (8 * k.val + 2), 256, 0] := by
  obtain ⟨k, hk⟩ := k
  have hk3 := lt3 i hk
  unfold k0_off8
  dsimp only
  interval_cases k <;> rfl

theorem o_t1_off8_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off8 i k 1#32) a + S1x1x128x256.size a ≤ S1x32x512x256.size a) :
    View.readAt (Elt F) arg6.view (Rect.unit (s := S1x32x512x256) (k0_off8 i k 1#32) S1x1x128x256.size inb).toLoadRect X_arg6 = vb 2 (8 * k.val + 2) :=
  (View.readAt_unit_eq_of_eq arg6.view inb (o_t1_off8_i_k_1 i k) X_arg6).trans (hX 2 (8 * k.val + 2) _ _ rfl rfl _)

theorem o_t1_off9_i_k_1 (i : grid0.Coords) (k : Fin (k0_t1_loop i).trips) : k0_off9 i k 1#32 = ![0, (8 * k.val + 3), 256, 0] := by
  obtain ⟨k, hk⟩ := k
  have hk3 := lt3 i hk
  unfold k0_off9
  dsimp only
  interval_cases k <;> rfl

theorem o_t1_off9_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off9 i k 1#32) a + S1x1x128x256.size a ≤ S1x32x512x256.size a) :
    View.readAt (Elt F) arg6.view (Rect.unit (s := S1x32x512x256) (k0_off9 i k 1#32) S1x1x128x256.size inb).toLoadRect X_arg6 = vb 2 (8 * k.val + 3) :=
  (View.readAt_unit_eq_of_eq arg6.view inb (o_t1_off9_i_k_1 i k) X_arg6).trans (hX 2 (8 * k.val + 3) _ _ rfl rfl _)

theorem o_t1_off8_i_k_2 (i : grid0.Coords) (k : Fin (k0_t1_loop i).trips) : k0_off8 i k 2#32 = ![0, (8 * k.val + 4), 256, 0] := by
  obtain ⟨k, hk⟩ := k
  have hk3 := lt3 i hk
  unfold k0_off8
  dsimp only
  interval_cases k <;> rfl

theorem o_t1_off8_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off8 i k 2#32) a + S1x1x128x256.size a ≤ S1x32x512x256.size a) :
    View.readAt (Elt F) arg6.view (Rect.unit (s := S1x32x512x256) (k0_off8 i k 2#32) S1x1x128x256.size inb).toLoadRect X_arg6 = vb 2 (8 * k.val + 4) :=
  (View.readAt_unit_eq_of_eq arg6.view inb (o_t1_off8_i_k_2 i k) X_arg6).trans (hX 2 (8 * k.val + 4) _ _ rfl rfl _)

theorem o_t1_off9_i_k_2 (i : grid0.Coords) (k : Fin (k0_t1_loop i).trips) : k0_off9 i k 2#32 = ![0, (8 * k.val + 5), 256, 0] := by
  obtain ⟨k, hk⟩ := k
  have hk3 := lt3 i hk
  unfold k0_off9
  dsimp only
  interval_cases k <;> rfl

theorem o_t1_off9_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off9 i k 2#32) a + S1x1x128x256.size a ≤ S1x32x512x256.size a) :
    View.readAt (Elt F) arg6.view (Rect.unit (s := S1x32x512x256) (k0_off9 i k 2#32) S1x1x128x256.size inb).toLoadRect X_arg6 = vb 2 (8 * k.val + 5) :=
  (View.readAt_unit_eq_of_eq arg6.view inb (o_t1_off9_i_k_2 i k) X_arg6).trans (hX 2 (8 * k.val + 5) _ _ rfl rfl _)

theorem o_t1_off8_i_k_3 (i : grid0.Coords) (k : Fin (k0_t1_loop i).trips) : k0_off8 i k 3#32 = ![0, (8 * k.val + 6), 256, 0] := by
  obtain ⟨k, hk⟩ := k
  have hk3 := lt3 i hk
  unfold k0_off8
  dsimp only
  interval_cases k <;> rfl

theorem o_t1_off8_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off8 i k 3#32) a + S1x1x128x256.size a ≤ S1x32x512x256.size a) :
    View.readAt (Elt F) arg6.view (Rect.unit (s := S1x32x512x256) (k0_off8 i k 3#32) S1x1x128x256.size inb).toLoadRect X_arg6 = vb 2 (8 * k.val + 6) :=
  (View.readAt_unit_eq_of_eq arg6.view inb (o_t1_off8_i_k_3 i k) X_arg6).trans (hX 2 (8 * k.val + 6) _ _ rfl rfl _)

theorem o_t1_off9_i_k_3 (i : grid0.Coords) (k : Fin (k0_t1_loop i).trips) : k0_off9 i k 3#32 = ![0, (8 * k.val + 7), 256, 0] := by
  obtain ⟨k, hk⟩ := k
  have hk3 := lt3 i hk
  unfold k0_off9
  dsimp only
  interval_cases k <;> rfl

theorem o_t1_off9_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off9 i k 3#32) a + S1x1x128x256.size a ≤ S1x32x512x256.size a) :
    View.readAt (Elt F) arg6.view (Rect.unit (s := S1x32x512x256) (k0_off9 i k 3#32) S1x1x128x256.size inb).toLoadRect X_arg6 = vb 2 (8 * k.val + 7) :=
  (View.readAt_unit_eq_of_eq arg6.view inb (o_t1_off9_i_k_3 i k) X_arg6).trans (hX 2 (8 * k.val + 7) _ _ rfl rfl _)

theorem o_t1_off11_i_k_0 (i : grid0.Coords) (k : Fin (k0_t1_loop i).trips) : k0_off11 i k 0#32 = ![0, (8 * k.val), 384, 0] := by
  obtain ⟨k, hk⟩ := k
  have hk3 := lt3 i hk
  unfold k0_off11
  dsimp only
  interval_cases k <;> rfl

theorem o_t1_off11_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off11 i k 0#32) a + S1x1x128x256.size a ≤ S1x32x512x256.size a) :
    View.readAt (Elt F) arg6.view (Rect.unit (s := S1x32x512x256) (k0_off11 i k 0#32) S1x1x128x256.size inb).toLoadRect X_arg6 = vb 3 (8 * k.val) :=
  (View.readAt_unit_eq_of_eq arg6.view inb (o_t1_off11_i_k_0 i k) X_arg6).trans (hX 3 (8 * k.val) _ _ rfl rfl _)

theorem o_t1_off12_i_k_0 (i : grid0.Coords) (k : Fin (k0_t1_loop i).trips) : k0_off12 i k 0#32 = ![0, (8 * k.val + 1), 384, 0] := by
  obtain ⟨k, hk⟩ := k
  have hk3 := lt3 i hk
  unfold k0_off12
  dsimp only
  interval_cases k <;> rfl

theorem o_t1_off12_i_k_0_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off12 i k 0#32) a + S1x1x128x256.size a ≤ S1x32x512x256.size a) :
    View.readAt (Elt F) arg6.view (Rect.unit (s := S1x32x512x256) (k0_off12 i k 0#32) S1x1x128x256.size inb).toLoadRect X_arg6 = vb 3 (8 * k.val + 1) :=
  (View.readAt_unit_eq_of_eq arg6.view inb (o_t1_off12_i_k_0 i k) X_arg6).trans (hX 3 (8 * k.val + 1) _ _ rfl rfl _)

theorem o_t1_off11_i_k_1 (i : grid0.Coords) (k : Fin (k0_t1_loop i).trips) : k0_off11 i k 1#32 = ![0, (8 * k.val + 2), 384, 0] := by
  obtain ⟨k, hk⟩ := k
  have hk3 := lt3 i hk
  unfold k0_off11
  dsimp only
  interval_cases k <;> rfl

theorem o_t1_off11_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off11 i k 1#32) a + S1x1x128x256.size a ≤ S1x32x512x256.size a) :
    View.readAt (Elt F) arg6.view (Rect.unit (s := S1x32x512x256) (k0_off11 i k 1#32) S1x1x128x256.size inb).toLoadRect X_arg6 = vb 3 (8 * k.val + 2) :=
  (View.readAt_unit_eq_of_eq arg6.view inb (o_t1_off11_i_k_1 i k) X_arg6).trans (hX 3 (8 * k.val + 2) _ _ rfl rfl _)

theorem o_t1_off12_i_k_1 (i : grid0.Coords) (k : Fin (k0_t1_loop i).trips) : k0_off12 i k 1#32 = ![0, (8 * k.val + 3), 384, 0] := by
  obtain ⟨k, hk⟩ := k
  have hk3 := lt3 i hk
  unfold k0_off12
  dsimp only
  interval_cases k <;> rfl

theorem o_t1_off12_i_k_1_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off12 i k 1#32) a + S1x1x128x256.size a ≤ S1x32x512x256.size a) :
    View.readAt (Elt F) arg6.view (Rect.unit (s := S1x32x512x256) (k0_off12 i k 1#32) S1x1x128x256.size inb).toLoadRect X_arg6 = vb 3 (8 * k.val + 3) :=
  (View.readAt_unit_eq_of_eq arg6.view inb (o_t1_off12_i_k_1 i k) X_arg6).trans (hX 3 (8 * k.val + 3) _ _ rfl rfl _)

theorem o_t1_off11_i_k_2 (i : grid0.Coords) (k : Fin (k0_t1_loop i).trips) : k0_off11 i k 2#32 = ![0, (8 * k.val + 4), 384, 0] := by
  obtain ⟨k, hk⟩ := k
  have hk3 := lt3 i hk
  unfold k0_off11
  dsimp only
  interval_cases k <;> rfl

theorem o_t1_off11_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off11 i k 2#32) a + S1x1x128x256.size a ≤ S1x32x512x256.size a) :
    View.readAt (Elt F) arg6.view (Rect.unit (s := S1x32x512x256) (k0_off11 i k 2#32) S1x1x128x256.size inb).toLoadRect X_arg6 = vb 3 (8 * k.val + 4) :=
  (View.readAt_unit_eq_of_eq arg6.view inb (o_t1_off11_i_k_2 i k) X_arg6).trans (hX 3 (8 * k.val + 4) _ _ rfl rfl _)

theorem o_t1_off12_i_k_2 (i : grid0.Coords) (k : Fin (k0_t1_loop i).trips) : k0_off12 i k 2#32 = ![0, (8 * k.val + 5), 384, 0] := by
  obtain ⟨k, hk⟩ := k
  have hk3 := lt3 i hk
  unfold k0_off12
  dsimp only
  interval_cases k <;> rfl

theorem o_t1_off12_i_k_2_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off12 i k 2#32) a + S1x1x128x256.size a ≤ S1x32x512x256.size a) :
    View.readAt (Elt F) arg6.view (Rect.unit (s := S1x32x512x256) (k0_off12 i k 2#32) S1x1x128x256.size inb).toLoadRect X_arg6 = vb 3 (8 * k.val + 5) :=
  (View.readAt_unit_eq_of_eq arg6.view inb (o_t1_off12_i_k_2 i k) X_arg6).trans (hX 3 (8 * k.val + 5) _ _ rfl rfl _)

theorem o_t1_off11_i_k_3 (i : grid0.Coords) (k : Fin (k0_t1_loop i).trips) : k0_off11 i k 3#32 = ![0, (8 * k.val + 6), 384, 0] := by
  obtain ⟨k, hk⟩ := k
  have hk3 := lt3 i hk
  unfold k0_off11
  dsimp only
  interval_cases k <;> rfl

theorem o_t1_off11_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off11 i k 3#32) a + S1x1x128x256.size a ≤ S1x32x512x256.size a) :
    View.readAt (Elt F) arg6.view (Rect.unit (s := S1x32x512x256) (k0_off11 i k 3#32) S1x1x128x256.size inb).toLoadRect X_arg6 = vb 3 (8 * k.val + 6) :=
  (View.readAt_unit_eq_of_eq arg6.view inb (o_t1_off11_i_k_3 i k) X_arg6).trans (hX 3 (8 * k.val + 6) _ _ rfl rfl _)

theorem o_t1_off12_i_k_3 (i : grid0.Coords) (k : Fin (k0_t1_loop i).trips) : k0_off12 i k 3#32 = ![0, (8 * k.val + 7), 384, 0] := by
  obtain ⟨k, hk⟩ := k
  have hk3 := lt3 i hk
  unfold k0_off12
  dsimp only
  interval_cases k <;> rfl

theorem o_t1_off12_i_k_3_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t1_loop i).trips} (inb : ∀ a, (k0_off12 i k 3#32) a + S1x1x128x256.size a ≤ S1x32x512x256.size a) :
    View.readAt (Elt F) arg6.view (Rect.unit (s := S1x32x512x256) (k0_off12 i k 3#32) S1x1x128x256.size inb).toLoadRect X_arg6 = vb 3 (8 * k.val + 7) :=
  (View.readAt_unit_eq_of_eq arg6.view inb (o_t1_off12_i_k_3 i k) X_arg6).trans (hX 3 (8 * k.val + 7) _ _ rfl rfl _)

theorem o_t1_off1_i_k_3_2 (i : grid0.Coords) (k : Fin (k0_t1_loop i).trips) : k0_off1 i k 3#32 2#32 = ![0, 256 * (8 * k.val + 8), 0] := by
  obtain ⟨k, hk⟩ := k
  have hk3 := lt3 i hk
  unfold k0_off1
  dsimp only
  interval_cases k <;> rfl

theorem o_t1_off1_i_k_3_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off1 i k 3#32 2#32) a + S1x256x128.size a ≤ S1x8192x512.size a) :
    View.readAt (Elt F) arg5.view (Rect.unit (s := S1x8192x512) (k0_off1 i k 3#32 2#32) S1x256x128.size inb).toLoadRect X_arg5 = kb 0 (8 * k.val + 8) :=
  (View.readAt_unit_eq_of_eq arg5.view inb (o_t1_off1_i_k_3_2 i k) X_arg5).trans (hX 0 (8 * k.val + 8) _ _ rfl rfl _)

theorem o_t1_off4_i_k_3_2 (i : grid0.Coords) (k : Fin (k0_t1_loop i).trips) : k0_off4 i k 3#32 2#32 = ![0, 256 * (8 * k.val + 8), 128] := by
  obtain ⟨k, hk⟩ := k
  have hk3 := lt3 i hk
  unfold k0_off4
  dsimp only
  interval_cases k <;> rfl

theorem o_t1_off4_i_k_3_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off4 i k 3#32 2#32) a + S1x256x128.size a ≤ S1x8192x512.size a) :
    View.readAt (Elt F) arg5.view (Rect.unit (s := S1x8192x512) (k0_off4 i k 3#32 2#32) S1x256x128.size inb).toLoadRect X_arg5 = kb 1 (8 * k.val + 8) :=
  (View.readAt_unit_eq_of_eq arg5.view inb (o_t1_off4_i_k_3_2 i k) X_arg5).trans (hX 1 (8 * k.val + 8) _ _ rfl rfl _)

theorem o_t1_off7_i_k_3_2 (i : grid0.Coords) (k : Fin (k0_t1_loop i).trips) : k0_off7 i k 3#32 2#32 = ![0, 256 * (8 * k.val + 8), 256] := by
  obtain ⟨k, hk⟩ := k
  have hk3 := lt3 i hk
  unfold k0_off7
  dsimp only
  interval_cases k <;> rfl

theorem o_t1_off7_i_k_3_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off7 i k 3#32 2#32) a + S1x256x128.size a ≤ S1x8192x512.size a) :
    View.readAt (Elt F) arg5.view (Rect.unit (s := S1x8192x512) (k0_off7 i k 3#32 2#32) S1x256x128.size inb).toLoadRect X_arg5 = kb 2 (8 * k.val + 8) :=
  (View.readAt_unit_eq_of_eq arg5.view inb (o_t1_off7_i_k_3_2 i k) X_arg5).trans (hX 2 (8 * k.val + 8) _ _ rfl rfl _)

theorem o_t1_off10_i_k_3_2 (i : grid0.Coords) (k : Fin (k0_t1_loop i).trips) : k0_off10 i k 3#32 2#32 = ![0, 256 * (8 * k.val + 8), 384] := by
  obtain ⟨k, hk⟩ := k
  have hk3 := lt3 i hk
  unfold k0_off10
  dsimp only
  interval_cases k <;> rfl

theorem o_t1_off10_i_k_3_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t1_loop i).trips} (inb : ∀ a, (k0_off10 i k 3#32 2#32) a + S1x256x128.size a ≤ S1x8192x512.size a) :
    View.readAt (Elt F) arg5.view (Rect.unit (s := S1x8192x512) (k0_off10 i k 3#32 2#32) S1x256x128.size inb).toLoadRect X_arg5 = kb 3 (8 * k.val + 8) :=
  (View.readAt_unit_eq_of_eq arg5.view inb (o_t1_off10_i_k_3_2 i k) X_arg5).trans (hX 3 (8 * k.val + 8) _ _ rfl rfl _)

section
variable {i : grid0.Coords} {arg5 : Memref sig .tc .vmem S1x8192x512 .bf16} {arg6 : Memref sig .tc .vmem S1x32x512x256 .bf16}
  {arg8 : Memref sig .tc .vmem S4x1x1024 .f32} {arg9 : Memref sig .tc .vmem S4x144x1024 .f32} {arg10 : Memref sig .tc .vmem S4x256x1024 .f32}
  {arg11 : Memref sig .tc .vmem S4x256x1024 .f32} {arg12 : Memref sig .tc .vmem S4x128x1024 .bf16} {v0 : FVec F S16x256 .bf16}
  {X_arg5 : arg5.view.ty.Contents (Elt F)} {X_arg6 : arg6.view.ty.Contents (Elt F)} {X_arg12 : arg12.view.ty.Contents (Elt F)}
  {k : Fin (k0_t1_loop i).trips}
  {f_arg8 : arg8.view.ty.Contents (Elt F)} {f_arg9 : arg9.view.ty.Contents (Elt F)} {f_arg10 : arg10.view.ty.Contents (Elt F)}
  {f_arg11 : arg11.view.ty.Contents (Elt F)}
  {kb : ℕ → ℕ → Vec F S1x256x128 .bf16} {vb : ℕ → ℕ → Vec F S1x1x128x256 .bf16} {q : ℕ → Vec F S1x128x1024 .bf16}
  (h5 : Keys arg5 X_arg5 kb) (h6 : Vals arg6 X_arg6 vb) (h12 : Qs arg12 X_arg12 q)
  (h8 : Ms arg8 f_arg8 fun hh => MM (kb hh) (q hh) (8 * k.val))
  (h9 : As arg9 f_arg9 fun hh => AA v0 (kb hh) (vb hh) (q hh) (8 * k.val))
  (h10 : Ss arg10 f_arg10 fun hh => SC (kb hh (8 * k.val)) (q hh))
include h5 h6 h12 h8 h9 h10

theorem v1131_eq : trip_k0_t1.sl.v1131 i arg5 arg11 arg12 X_arg5 X_arg12 k = SC (kb 0 (8 * k.val + 7)) (q 0) := by
  unfold trip_k0_t1.sl.v1131 trip_k0_t1.sl.HW_arg11_4
  refine (rc_hit _ _ _ _ _).trans ?_
  refine Eq.trans ?_ (show SC (kb 0 (8 * k.val + 7)) (q 0) = SC (kb 0 (8 * k.val + 7)) (q 0) from rfl)
  rw [o_t1_off1_i_k_3_1_eq (k := k) h5, h12 0]
  rfl

theorem v1087_eq : trip_k0_t1.sl.v1087 i arg5 arg10 arg12 X_arg5 X_arg12 k = SC (kb 0 (8 * k.val + 6)) (q 0) := by
  unfold trip_k0_t1.sl.v1087 trip_k0_t1.sl.HW_arg10_3
  refine (rc_hit _ _ _ _ _).trans ?_
  refine Eq.trans ?_ (show SC (kb 0 (8 * k.val + 6)) (q 0) = SC (kb 0 (8 * k.val + 6)) (q 0) from rfl)
  rw [o_t1_off1_i_k_2_2_eq (k := k) h5, h12 0]
  rfl

theorem v1042_eq : trip_k0_t1.sl.v1042 i arg5 arg11 arg12 X_arg5 X_arg12 k = SC (kb 0 (8 * k.val + 5)) (q 0) := by
  unfold trip_k0_t1.sl.v1042 trip_k0_t1.sl.HW_arg11_3
  refine (rc_hit _ _ _ _ _).trans ?_
  refine Eq.trans ?_ (show SC (kb 0 (8 * k.val + 5)) (q 0) = SC (kb 0 (8 * k.val + 5)) (q 0) from rfl)
  rw [o_t1_off1_i_k_2_1_eq (k := k) h5, h12 0]
  rfl

theorem v998_eq : trip_k0_t1.sl.v998 i arg5 arg10 arg12 X_arg5 X_arg12 k = SC (kb 0 (8 * k.val + 4)) (q 0) := by
  unfold trip_k0_t1.sl.v998 trip_k0_t1.sl.HW_arg10_2
  refine (rc_hit _ _ _ _ _).trans ?_
  refine Eq.trans ?_ (show SC (kb 0 (8 * k.val + 4)) (q 0) = SC (kb 0 (8 * k.val + 4)) (q 0) from rfl)
  rw [o_t1_off1_i_k_1_2_eq (k := k) h5, h12 0]
  rfl

theorem v953_eq : trip_k0_t1.sl.v953 i arg5 arg11 arg12 X_arg5 X_arg12 k = SC (kb 0 (8 * k.val + 3)) (q 0) := by
  unfold trip_k0_t1.sl.v953 trip_k0_t1.sl.HW_arg11_2
  refine (rc_hit _ _ _ _ _).trans ?_
  refine Eq.trans ?_ (show SC (kb 0 (8 * k.val + 3)) (q 0) = SC (kb 0 (8 * k.val + 3)) (q 0) from rfl)
  unfold trip_k0_t1.sl.r_5
  rw [o_t1_off1_i_k_1_1_eq (k := k) h5, h12 0]
  rfl

theorem v909_eq : trip_k0_t1.sl.v909 i arg5 arg10 arg12 X_arg5 X_arg12 k = SC (kb 0 (8 * k.val + 2)) (q 0) := by
  unfold trip_k0_t1.sl.v909 trip_k0_t1.sl.HW_arg10_1
  refine (rc_hit _ _ _ _ _).trans ?_
  refine Eq.trans ?_ (show SC (kb 0 (8 * k.val + 2)) (q 0) = SC (kb 0 (8 * k.val + 2)) (q 0) from rfl)
  rw [o_t1_off1_i_k_0_2_eq (k := k) h5, h12 0]
  rfl

theorem v866_eq : trip_k0_t1.sl.v866 arg8 arg10 f_arg8 f_arg10 = MM (kb 0) (q 0) (8 * k.val + 1) := by
  unfold trip_k0_t1.sl.v866 trip_k0_t1.sl.HW_arg8_1
  refine (rc_hit _ _ _ _ _).trans ?_
  refine Eq.trans ?_ (show MF (SC (kb 0 (8 * k.val)) (q 0)) (MM (kb 0) (q 0) (8 * k.val)) = MM (kb 0) (q 0) (8 * k.val + 1) from rfl)
  unfold trip_k0_t1.sl.r
  rw [h10 0, h8 0]
  rfl

theorem v864_eq : trip_k0_t1.sl.v864 i arg5 arg11 arg12 X_arg5 X_arg12 k = SC (kb 0 (8 * k.val + 1)) (q 0) := by
  unfold trip_k0_t1.sl.v864 trip_k0_t1.sl.HW_arg11_1
  refine (rc_hit _ _ _ _ _).trans ?_
  refine Eq.trans ?_ (show SC (kb 0 (8 * k.val + 1)) (q 0) = SC (kb 0 (8 * k.val + 1)) (q 0) from rfl)
  rw [o_t1_off1_i_k_0_1_eq (k := k) h5, h12 0]
  rfl

theorem v911_eq : trip_k0_t1.sl.v911 i arg5 arg8 arg10 arg11 arg12 X_arg5 X_arg12 k f_arg8 f_arg10 = MM (kb 0) (q 0) (8 * k.val + 2) := by
  unfold trip_k0_t1.sl.v911 trip_k0_t1.sl.HW_arg8_2
  refine (rc_hit _ _ _ _ _).trans ?_
  refine Eq.trans ?_ (show MF (SC (kb 0 (8 * k.val + 1)) (q 0)) (MM (kb 0) (q 0) (8 * k.val + 1)) = MM (kb 0) (q 0) (8 * k.val + 2) from rfl)
  unfold trip_k0_t1.sl.r_4
  rw [v866_eq h5 h6 h12 h8 h9 h10, v864_eq h5 h6 h12 h8 h9 h10]
  rfl

theorem v955_eq : trip_k0_t1.sl.v955 i arg5 arg8 arg10 arg11 arg12 X_arg5 X_arg12 k f_arg8 f_arg10 = MM (kb 0) (q 0) (8 * k.val + 3) := by
  unfold trip_k0_t1.sl.v955 trip_k0_t1.sl.HW_arg8_3
  refine (rc_hit _ _ _ _ _).trans ?_
  refine Eq.trans ?_ (show MF (SC (kb 0 (8 * k.val + 2)) (q 0)) (MM (kb 0) (q 0) (8 * k.val + 2)) = MM (kb 0) (q 0) (8 * k.val + 3) from rfl)
  unfold trip_k0_t1.sl.r_6
  rw [v909_eq h5 h6 h12 h8 h9 h10, v911_eq h5 h6 h12 h8 h9 h10]
  rfl

theorem v1000_eq : trip_k0_t1.sl.v1000 i arg5 arg8 arg10 arg11 arg12 X_arg5 X_arg12 k f_arg8 f_arg10 = MM (kb 0) (q 0) (8 * k.val + 4) := by
  unfold trip_k0_t1.sl.v1000 trip_k0_t1.sl.HW_arg8_4
  refine (rc_hit _ _ _ _ _).trans ?_
  refine Eq.trans ?_ (show MF (SC (kb 0 (8 * k.val + 3)) (q 0)) (MM (kb 0) (q 0) (8 * k.val + 3)) = MM (kb 0) (q 0) (8 * k.val + 4) from rfl)
  unfold trip_k0_t1.sl.r_8
  rw [v953_eq h5 h6 h12 h8 h9 h10, v955_eq h5 h6 h12 h8 h9 h10]
  rfl

theorem v1044_eq : trip_k0_t1.sl.v1044 i arg5 arg8 arg10 arg11 arg12 X_arg5 X_arg12 k f_arg8 f_arg10 = MM (kb 0) (q 0) (8 * k.val + 5) := by
  unfold trip_k0_t1.sl.v1044 trip_k0_t1.sl.HW_arg8_5
  refine (rc_hit _ _ _ _ _).trans ?_
  refine Eq.trans ?_ (show MF (SC (kb 0 (8 * k.val + 4)) (q 0)) (MM (kb 0) (q 0) (8 * k.val + 4)) = MM (kb 0) (q 0) (8 * k.val + 5) from rfl)
  rw [v998_eq h5 h6 h12 h8 h9 h10, v1000_eq h5 h6 h12 h8 h9 h10]
  rfl

theorem v1089_eq : trip_k0_t1.sl.v1089 i arg5 arg8 arg10 arg11 arg12 X_arg5 X_arg12 k f_arg8 f_arg10 = MM (kb 0) (q 0) (8 * k.val + 6) := by
  unfold trip_k0_t1.sl.v1089 trip_k0_t1.sl.HW_arg8_6
  refine (rc_hit _ _ _ _ _).trans ?_
  refine Eq.trans ?_ (show MF (SC (kb 0 (8 * k.val + 5)) (q 0)) (MM (kb 0) (q 0) (8 * k.val + 5)) = MM (kb 0) (q 0) (8 * k.val + 6) from rfl)
  unfold trip_k0_t1.sl.r_11
  rw [v1042_eq h5 h6 h12 h8 h9 h10, v1044_eq h5 h6 h12 h8 h9 h10]
  rfl

theorem v1133_eq : trip_k0_t1.sl.v1133 i arg5 arg8 arg10 arg11 arg12 X_arg5 X_arg12 k f_arg8 f_arg10 = MM (kb 0) (q 0) (8 * k.val + 7) := by
  unfold trip_k0_t1.sl.v1133 trip_k0_t1.sl.HW_arg8_7
  refine (rc_hit _ _ _ _ _).trans ?_
  refine Eq.trans ?_ (show MF (SC (kb 0 (8 * k.val + 6)) (q 0)) (MM (kb 0) (q 0) (8 * k.val + 6)) = MM (kb 0) (q 0) (8 * k.val + 7) from rfl)
  unfold trip_k0_t1.sl.r_14
  rw [v1087_eq h5 h6 h12 h8 h9 h10, v1089_eq h5 h6 h12 h8 h9 h10]
  rfl

theorem v1487_eq : trip_k0_t1.sl.v1487 i arg5 arg11 arg12 X_arg5 X_arg12 k = SC (kb 1 (8 * k.val + 7)) (q 1) := by
  unfold trip_k0_t1.sl.v1487 trip_k0_t1.sl.HW_arg11_8
  refine (rc_hit _ _ _ _ _).trans ?_
  refine Eq.trans ?_ (show SC (kb 1 (8 * k.val + 7)) (q 1) = SC (kb 1 (8 * k.val + 7)) (q 1) from rfl)
  rw [o_t1_off4_i_k_3_1_eq (k := k) h5, h12 1]
  rfl

theorem v1443_eq : trip_k0_t1.sl.v1443 i arg5 arg10 arg12 X_arg5 X_arg12 k = SC (kb 1 (8 * k.val + 6)) (q 1) := by
  unfold trip_k0_t1.sl.v1443 trip_k0_t1.sl.HW_arg10_7
  refine (rc_hit _ _ _ _ _).trans ?_
  refine Eq.trans ?_ (show SC (kb 1 (8 * k.val + 6)) (q 1) = SC (kb 1 (8 * k.val + 6)) (q 1) from rfl)
  unfold trip_k0_t1.sl.r_29
  rw [o_t1_off4_i_k_2_2_eq (k := k) h5, h12 1]
  rfl

theorem v1398_eq : trip_k0_t1.sl.v1398 i arg5 arg11 arg12 X_arg5 X_arg12 k = SC (kb 1 (8 * k.val + 5)) (q 1) := by
  unfold trip_k0_t1.sl.v1398 trip_k0_t1.sl.HW_arg11_7
  refine (rc_hit _ _ _ _ _).trans ?_
  refine Eq.trans ?_ (show SC (kb 1 (8 * k.val + 5)) (q 1) = SC (kb 1 (8 * k.val + 5)) (q 1) from rfl)
  rw [o_t1_off4_i_k_2_1_eq (k := k) h5, h12 1]
  rfl

theorem v1354_eq : trip_k0_t1.sl.v1354 i arg5 arg10 arg12 X_arg5 X_arg12 k = SC (kb 1 (8 * k.val + 4)) (q 1) := by
  unfold trip_k0_t1.sl.v1354 trip_k0_t1.sl.HW_arg10_6
  refine (rc_hit _ _ _ _ _).trans ?_
  refine Eq.trans ?_ (show SC (kb 1 (8 * k.val + 4)) (q 1) = SC (kb 1 (8 * k.val + 4)) (q 1) from rfl)
  rw [o_t1_off4_i_k_1_2_eq (k := k) h5, h12 1]
  rfl

theorem v1309_eq : trip_k0_t1.sl.v1309 i arg5 arg11 arg12 X_arg5 X_arg12 k = SC (kb 1 (8 * k.val + 3)) (q 1) := by
  unfold trip_k0_t1.sl.v1309 trip_k0_t1.sl.HW_arg11_6
  refine (rc_hit _ _ _ _ _).trans ?_
  refine Eq.trans ?_ (show SC (kb 1 (8 * k.val + 3)) (q 1) = SC (kb 1 (8 * k.val + 3)) (q 1) from rfl)
  unfold trip_k0_t1.sl.r_23
  rw [o_t1_off4_i_k_1_1_eq (k := k) h5, h12 1]
  rfl

theorem v1265_eq : trip_k0_t1.sl.v1265 i arg5 arg10 arg12 X_arg5 X_arg12 k = SC (kb 1 (8 * k.val + 2)) (q 1) := by
  unfold trip_k0_t1.sl.v1265 trip_k0_t1.sl.HW_arg10_5
  refine (rc_hit _ _ _ _ _).trans ?_
  refine Eq.trans ?_ (show SC (kb 1 (8 * k.val + 2)) (q 1) = SC (kb 1 (8 * k.val + 2)) (q 1) from rfl)
  rw [o_t1_off4_i_k_0_2_eq (k := k) h5, h12 1]
  rfl

theorem v1176_eq : trip_k0_t1.sl.v1176 arg10 f_arg10 = SC (kb 1 (8 * k.val)) (q 1) := by
  unfold trip_k0_t1.sl.v1176
  exact h10 _ _

theorem v1178_eq : trip_k0_t1.sl.v1178 arg8 f_arg8 = MM (kb 1) (q 1) (8 * k.val) := by
  unfold trip_k0_t1.sl.v1178
  exact h8 _ _

theorem v1222_eq : trip_k0_t1.sl.v1222 i arg5 arg8 arg10 arg11 arg12 X_arg5 X_arg12 k f_arg8 f_arg10 = MM (kb 1) (q 1) (8 * k.val + 1) := by
  unfold trip_k0_t1.sl.v1222 trip_k0_t1.sl.HW_arg8_9
  refine (rc_hit _ _ _ _ _).trans ?_
  refine Eq.trans ?_ (show MF (SC (kb 1 (8 * k.val)) (q 1)) (MM (kb 1) (q 1) (8 * k.val)) = MM (kb 1) (q 1) (8 * k.val + 1) from rfl)
  unfold trip_k0_t1.sl.r_17
  rw [v1176_eq h5 h6 h12 h8 h9 h10, v1178_eq h5 h6 h12 h8 h9 h10]
  rfl

theorem v1220_eq : trip_k0_t1.sl.v1220 i arg5 arg11 arg12 X_arg5 X_arg12 k = SC (kb 1 (8 * k.val + 1)) (q 1) := by
  unfold trip_k0_t1.sl.v1220 trip_k0_t1.sl.HW_arg11_5
  refine (rc_hit _ _ _ _ _).trans ?_
  refine Eq.trans ?_ (show SC (kb 1 (8 * k.val + 1)) (q 1) = SC (kb 1 (8 * k.val + 1)) (q 1) from rfl)
  rw [o_t1_off4_i_k_0_1_eq (k := k) h5, h12 1]
  rfl

theorem v1267_eq : trip_k0_t1.sl.v1267 i arg5 arg8 arg10 arg11 arg12 X_arg5 X_arg12 k f_arg8 f_arg10 = MM (kb 1) (q 1) (8 * k.val + 2) := by
  unfold trip_k0_t1.sl.v1267 trip_k0_t1.sl.HW_arg8_10
  refine (rc_hit _ _ _ _ _).trans ?_
  refine Eq.trans ?_ (show MF (SC (kb 1 (8 * k.val + 1)) (q 1)) (MM (kb 1) (q 1) (8 * k.val + 1)) = MM (kb 1) (q 1) (8 * k.val + 2) from rfl)
  unfold trip_k0_t1.sl.r_22 trip_k0_t1.sl.r_21
  rw [v1222_eq h5 h6 h12 h8 h9 h10, v1220_eq h5 h6 h12 h8 h9 h10]
  rfl

theorem v1311_eq : trip_k0_t1.sl.v1311 i arg5 arg8 arg10 arg11 arg12 X_arg5 X_arg12 k f_arg8 f_arg10 = MM (kb 1) (q 1) (8 * k.val + 3) := by
  unfold trip_k0_t1.sl.v1311 trip_k0_t1.sl.HW_arg8_11
  refine (rc_hit _ _ _ _ _).trans ?_
  refine Eq.trans ?_ (show MF (SC (kb 1 (8 * k.val + 2)) (q 1)) (MM (kb 1) (q 1) (8 * k.val + 2)) = MM (kb 1) (q 1) (8 * k.val + 3) from rfl)
  unfold trip_k0_t1.sl.r_24
  rw [v1265_eq h5 h6 h12 h8 h9 h10, v1267_eq h5 h6 h12 h8 h9 h10]
  rfl

theorem v1356_eq : trip_k0_t1.sl.v1356 i arg5 arg8 arg10 arg11 arg12 X_arg5 X_arg12 k f_arg8 f_arg10 = MM (kb 1) (q 1) (8 * k.val + 4) := by
  unfold trip_k0_t1.sl.v1356 trip_k0_t1.sl.HW_arg8_12
  refine (rc_hit _ _ _ _ _).trans ?_
  refine Eq.trans ?_ (show MF (SC (kb 1 (8 * k.val + 3)) (q 1)) (MM (kb 1) (q 1) (8 * k.val + 3)) = MM (kb 1) (q 1) (8 * k.val + 4) from rfl)
  unfold trip_k0_t1.sl.r_25
  rw [v1309_eq h5 h6 h12 h8 h9 h10, v1311_eq h5 h6 h12 h8 h9 h10]
  rfl

theorem v1400_eq : trip_k0_t1.sl.v1400 i arg5 arg8 arg10 arg11 arg12 X_arg5 X_arg12 k f_arg8 f_arg10 = MM (kb 1) (q 1) (8 * k.val + 5) := by
  unfold trip_k0_t1.sl.v1400 trip_k0_t1.sl.HW_arg8_13
  refine (rc_hit _ _ _ _ _).trans ?_
  refine Eq.trans ?_ (show MF (SC (kb 1 (8 * k.val + 4)) (q 1)) (MM (kb 1) (q 1) (8 * k.val + 4)) = MM (kb 1) (q 1) (8 * k.val + 5) from rfl)
  rw [v1354_eq h5 h6 h12 h8 h9 h10, v1356_eq h5 h6 h12 h8 h9 h10]
  rfl

theorem v1445_eq : trip_k0_t1.sl.v1445 i arg5 arg8 arg10 arg11 arg12 X_arg5 X_arg12 k f_arg8 f_arg10 = MM (kb 1) (q 1) (8 * k.val + 6) := by
  unfold trip_k0_t1.sl.v1445 trip_k0_t1.sl.HW_arg8_14
  refine (rc_hit _ _ _ _ _).trans ?_
  refine Eq.trans ?_ (show MF (SC (kb 1 (8 * k.val + 5)) (q 1)) (MM (kb 1) (q 1) (8 * k.val + 5)) = MM (kb 1) (q 1) (8 * k.val + 6) from rfl)
  unfold trip_k0_t1.sl.r_30
  rw [v1398_eq h5 h6 h12 h8 h9 h10, v1400_eq h5 h6 h12 h8 h9 h10]
  rfl

theorem v1489_eq : trip_k0_t1.sl.v1489 i arg5 arg8 arg10 arg11 arg12 X_arg5 X_arg12 k f_arg8 f_arg10 = MM (kb 1) (q 1) (8 * k.val + 7) := by
  unfold trip_k0_t1.sl.v1489 trip_k0_t1.sl.HW_arg8_15
  refine (rc_hit _ _ _ _ _).trans ?_
  refine Eq.trans ?_ (show MF (SC (kb 1 (8 * k.val + 6)) (q 1)) (MM (kb 1) (q 1) (8 * k.val + 6)) = MM (kb 1) (q 1) (8 * k.val + 7) from rfl)
  unfold trip_k0_t1.sl.r_32
  rw [v1443_eq h5 h6 h12 h8 h9 h10, v1445_eq h5 h6 h12 h8 h9 h10]
  rfl

theorem v1843_eq : trip_k0_t1.sl.v1843 i arg5 arg11 arg12 X_arg5 X_arg12 k = SC (kb 2 (8 * k.val + 7)) (q 2) := by
  unfold trip_k0_t1.sl.v1843 trip_k0_t1.sl.HW_arg11_12
  refine (rc_hit _ _ _ _ _).trans ?_
  refine Eq.trans ?_ (show SC (kb 2 (8 * k.val + 7)) (q 2) = SC (kb 2 (8 * k.val + 7)) (q 2) from rfl)
  rw [o_t1_off7_i_k_3_1_eq (k := k) h5, h12 2]
  rfl

theorem v1799_eq : trip_k0_t1.sl.v1799 i arg5 arg10 arg12 X_arg5 X_arg12 k = SC (kb 2 (8 * k.val + 6)) (q 2) := by
  unfold trip_k0_t1.sl.v1799 trip_k0_t1.sl.HW_arg10_11
  refine (rc_hit _ _ _ _ _).trans ?_
  refine Eq.trans ?_ (show SC (kb 2 (8 * k.val + 6)) (q 2) = SC (kb 2 (8 * k.val + 6)) (q 2) from rfl)
  unfold trip_k0_t1.sl.r_49 trip_k0_t1.sl.r_48
  rw [o_t1_off7_i_k_2_2_eq (k := k) h5, h12 2]
  rfl

theorem v1754_eq : trip_k0_t1.sl.v1754 i arg5 arg11 arg12 X_arg5 X_arg12 k = SC (kb 2 (8 * k.val + 5)) (q 2) := by
  unfold trip_k0_t1.sl.v1754 trip_k0_t1.sl.HW_arg11_11
  refine (rc_hit _ _ _ _ _).trans ?_
  refine Eq.trans ?_ (show SC (kb 2 (8 * k.val + 5)) (q 2) = SC (kb 2 (8 * k.val + 5)) (q 2) from rfl)
  rw [o_t1_off7_i_k_2_1_eq (k := k) h5, h12 2]
  rfl

theorem v1665_eq : trip_k0_t1.sl.v1665 i arg5 arg11 arg12 X_arg5 X_arg12 k = SC (kb 2 (8 * k.val + 3)) (q 2) := by
  unfold trip_k0_t1.sl.v1665 trip_k0_t1.sl.HW_arg11_10
  refine (rc_hit _ _ _ _ _).trans ?_
  refine Eq.trans ?_ (show SC (kb 2 (8 * k.val + 3)) (q 2) = SC (kb 2 (8 * k.val + 3)) (q 2) from rfl)
  unfold trip_k0_t1.sl.r_42
  rw [o_t1_off7_i_k_1_1_eq (k := k) h5, h12 2]
  rfl

theorem v1621_eq : trip_k0_t1.sl.v1621 i arg5 arg10 arg12 X_arg5 X_arg12 k = SC (kb 2 (8 * k.val + 2)) (q 2) := by
  unfold trip_k0_t1.sl.v1621 trip_k0_t1.sl.HW_arg10_9
  refine (rc_hit _ _ _ _ _).trans ?_
  refine Eq.trans ?_ (show SC (kb 2 (8 * k.val + 2)) (q 2) = SC (kb 2 (8 * k.val + 2)) (q 2) from rfl)
  rw [o_t1_off7_i_k_0_2_eq (k := k) h5, h12 2]
  rfl

theorem v1576_eq : trip_k0_t1.sl.v1576 i arg5 arg11 arg12 X_arg5 X_arg12 k = SC (kb 2 (8 * k.val + 1)) (q 2) := by
  unfold trip_k0_t1.sl.v1576 trip_k0_t1.sl.HW_arg11_9
  refine (rc_hit _ _ _ _ _).trans ?_
  refine Eq.trans ?_ (show SC (kb 2 (8 * k.val + 1)) (q 2) = SC (kb 2 (8 * k.val + 1)) (q 2) from rfl)
  rw [o_t1_off7_i_k_0_1_eq (k := k) h5, h12 2]
  rfl

theorem v1532_eq : trip_k0_t1.sl.v1532 arg10 f_arg10 = SC (kb 2 (8 * k.val)) (q 2) := by
  unfold trip_k0_t1.sl.v1532
  exact h10 _ _

theorem v1534_eq : trip_k0_t1.sl.v1534 arg8 f_arg8 = MM (kb 2) (q 2) (8 * k.val) := by
  unfold trip_k0_t1.sl.v1534
  exact h8 _ _

theorem v1578_eq : trip_k0_t1.sl.v1578 i arg5 arg8 arg10 arg11 arg12 X_arg5 X_arg12 k f_arg8 f_arg10 = MM (kb 2) (q 2) (8 * k.val + 1) := by
  unfold trip_k0_t1.sl.v1578 trip_k0_t1.sl.HW_arg8_17
  refine (rc_hit _ _ _ _ _).trans ?_
  refine Eq.trans ?_ (show MF (SC (kb 2 (8 * k.val)) (q 2)) (MM (kb 2) (q 2) (8 * k.val)) = MM (kb 2) (q 2) (8 * k.val + 1) from rfl)
  unfold trip_k0_t1.sl.r_35
  rw [v1532_eq h5 h6 h12 h8 h9 h10, v1534_eq h5 h6 h12 h8 h9 h10]
  rfl

theorem v1623_eq : trip_k0_t1.sl.v1623 i arg5 arg8 arg10 arg11 arg12 X_arg5 X_arg12 k f_arg8 f_arg10 = MM (kb 2) (q 2) (8 * k.val + 2) := by
  unfold trip_k0_t1.sl.v1623 trip_k0_t1.sl.HW_arg8_18
  refine (rc_hit _ _ _ _ _).trans ?_
  refine Eq.trans ?_ (show MF (SC (kb 2 (8 * k.val + 1)) (q 2)) (MM (kb 2) (q 2) (8 * k.val + 1)) = MM (kb 2) (q 2) (8 * k.val + 2) from rfl)
  unfold trip_k0_t1.sl.r_41
  rw [v1576_eq h5 h6 h12 h8 h9 h10, v1578_eq h5 h6 h12 h8 h9 h10]
  rfl

theorem v1667_eq : trip_k0_t1.sl.v1667 i arg5 arg8 arg10 arg11 arg12 X_arg5 X_arg12 k f_arg8 f_arg10 = MM (kb 2) (q 2) (8 * k.val + 3) := by
  unfold trip_k0_t1.sl.v1667 trip_k0_t1.sl.HW_arg8_19
  refine (rc_hit _ _ _ _ _).trans ?_
  refine Eq.trans ?_ (show MF (SC (kb 2 (8 * k.val + 2)) (q 2)) (MM (kb 2) (q 2) (8 * k.val + 2)) = MM (kb 2) (q 2) (8 * k.val + 3) from rfl)
  rw [v1621_eq h5 h6 h12 h8 h9 h10, v1623_eq h5 h6 h12 h8 h9 h10]
  rfl

theorem v1712_eq : trip_k0_t1.sl.v1712 i arg5 arg8 arg10 arg11 arg12 X_arg5 X_arg12 k f_arg8 f_arg10 = MM (kb 2) (q 2) (8 * k.val + 4) := by
  unfold trip_k0_t1.sl.v1712 trip_k0_t1.sl.HW_arg8_20
  refine (rc_hit _ _ _ _ _).trans ?_
  refine Eq.trans ?_ (show MF (SC (kb 2 (8 * k.val + 3)) (q 2)) (MM (kb 2) (q 2) (8 * k.val + 3)) = MM (kb 2) (q 2) (8 * k.val + 4) from rfl)
  unfold trip_k0_t1.sl.r_43
  rw [v1665_eq h5 h6 h12 h8 h9 h10, v1667_eq h5 h6 h12 h8 h9 h10]
  rfl

theorem v1710_eq : trip_k0_t1.sl.v1710 i arg5 arg10 arg12 X_arg5 X_arg12 k = SC (kb 2 (8 * k.val + 4)) (q 2) := by
  unfold trip_k0_t1.sl.v1710 trip_k0_t1.sl.HW_arg10_10
  refine (rc_hit _ _ _ _ _).trans ?_
  refine Eq.trans ?_ (show SC (kb 2 (8 * k.val + 4)) (q 2) = SC (kb 2 (8 * k.val + 4)) (q 2) from rfl)
  rw [o_t1_off7_i_k_1_2_eq (k := k) h5, h12 2]
  rfl

theorem v1756_eq : trip_k0_t1.sl.v1756 i arg5 arg8 arg10 arg11 arg12 X_arg5 X_arg12 k f_arg8 f_arg10 = MM (kb 2) (q 2) (8 * k.val + 5) := by
  unfold trip_k0_t1.sl.v1756 trip_k0_t1.sl.HW_arg8_21
  refine (rc_hit _ _ _ _ _).trans ?_
  refine Eq.trans ?_ (show MF (SC (kb 2 (8 * k.val + 4)) (q 2)) (MM (kb 2) (q 2) (8 * k.val + 4)) = MM (kb 2) (q 2) (8 * k.val + 5) from rfl)
  unfold trip_k0_t1.sl.r_47
  rw [v1712_eq h5 h6 h12 h8 h9 h10, v1710_eq h5 h6 h12 h8 h9 h10]
  rfl

theorem v1801_eq : trip_k0_t1.sl.v1801 i arg5 arg8 arg10 arg11 arg12 X_arg5 X_arg12 k f_arg8 f_arg10 = MM (kb 2) (q 2) (8 * k.val + 6) := by
  unfold trip_k0_t1.sl.v1801 trip_k0_t1.sl.HW_arg8_22
  refine (rc_hit _ _ _ _ _).trans ?_
  refine Eq.trans ?_ (show MF (SC (kb 2 (8 * k.val + 5)) (q 2)) (MM (kb 2) (q 2) (8 * k.val + 5)) = MM (kb 2) (q 2) (8 * k.val + 6) from rfl)
  unfold trip_k0_t1.sl.r_50
  rw [v1754_eq h5 h6 h12 h8 h9 h10, v1756_eq h5 h6 h12 h8 h9 h10]
  rfl

theorem v1845_eq : trip_k0_t1.sl.v1845 i arg5 arg8 arg10 arg11 arg12 X_arg5 X_arg12 k f_arg8 f_arg10 = MM (kb 2) (q 2) (8 * k.val + 7) := by
  unfold trip_k0_t1.sl.v1845 trip_k0_t1.sl.HW_arg8_23
  refine (rc_hit _ _ _ _ _).trans ?_
  refine Eq.trans ?_ (show MF (SC (kb 2 (8 * k.val + 6)) (q 2)) (MM (kb 2) (q 2) (8 * k.val + 6)) = MM (kb 2) (q 2) (8 * k.val + 7) from rfl)
  unfold trip_k0_t1.sl.r_51
  rw [v1799_eq h5 h6 h12 h8 h9 h10, v1801_eq h5 h6 h12 h8 h9 h10]
  rfl

theorem v2155_eq : trip_k0_t1.sl.v2155 i arg5 arg10 arg12 X_arg5 X_arg12 k = SC (kb 3 (8 * k.val + 6)) (q 3) := by
  unfold trip_k0_t1.sl.v2155 trip_k0_t1.sl.HW_arg10_15
  refine (rc_hit _ _ _ _ _).trans ?_
  refine Eq.trans ?_ (show SC (kb 3 (8 * k.val + 6)) (q 3) = SC (kb 3 (8 * k.val + 6)) (q 3) from rfl)
  unfold trip_k0_t1.sl.r_66
  rw [o_t1_off10_i_k_2_2_eq (k := k) h5, h12 3]
  rfl

theorem v2110_eq : trip_k0_t1.sl.v2110 i arg5 arg11 arg12 X_arg5 X_arg12 k = SC (kb 3 (8 * k.val + 5)) (q 3) := by
  unfold trip_k0_t1.sl.v2110 trip_k0_t1.sl.HW_arg11_15
  refine (rc_hit _ _ _ _ _).trans ?_
  refine Eq.trans ?_ (show SC (kb 3 (8 * k.val + 5)) (q 3) = SC (kb 3 (8 * k.val + 5)) (q 3) from rfl)
  rw [o_t1_off10_i_k_2_1_eq (k := k) h5, h12 3]
  rfl

theorem v2021_eq : trip_k0_t1.sl.v2021 i arg5 arg11 arg12 X_arg5 X_arg12 k = SC (kb 3 (8 * k.val + 3)) (q 3) := by
  unfold trip_k0_t1.sl.v2021 trip_k0_t1.sl.HW_arg11_14
  refine (rc_hit _ _ _ _ _).trans ?_
  refine Eq.trans ?_ (show SC (kb 3 (8 * k.val + 3)) (q 3) = SC (kb 3 (8 * k.val + 3)) (q 3) from rfl)
  unfold trip_k0_t1.sl.r_59
  rw [o_t1_off10_i_k_1_1_eq (k := k) h5, h12 3]
  rfl

theorem v1977_eq : trip_k0_t1.sl.v1977 i arg5 arg10 arg12 X_arg5 X_arg12 k = SC (kb 3 (8 * k.val + 2)) (q 3) := by
  unfold trip_k0_t1.sl.v1977 trip_k0_t1.sl.HW_arg10_13
  refine (rc_hit _ _ _ _ _).trans ?_
  refine Eq.trans ?_ (show SC (kb 3 (8 * k.val + 2)) (q 3) = SC (kb 3 (8 * k.val + 2)) (q 3) from rfl)
  rw [o_t1_off10_i_k_0_2_eq (k := k) h5, h12 3]
  rfl

theorem v1932_eq : trip_k0_t1.sl.v1932 i arg5 arg11 arg12 X_arg5 X_arg12 k = SC (kb 3 (8 * k.val + 1)) (q 3) := by
  unfold trip_k0_t1.sl.v1932 trip_k0_t1.sl.HW_arg11_13
  refine (rc_hit _ _ _ _ _).trans ?_
  refine Eq.trans ?_ (show SC (kb 3 (8 * k.val + 1)) (q 3) = SC (kb 3 (8 * k.val + 1)) (q 3) from rfl)
  rw [o_t1_off10_i_k_0_1_eq (k := k) h5, h12 3]
  rfl

theorem v1888_eq : trip_k0_t1.sl.v1888 arg10 f_arg10 = SC (kb 3 (8 * k.val)) (q 3) := by
  unfold trip_k0_t1.sl.v1888
  exact h10 _ _

theorem v1890_eq : trip_k0_t1.sl.v1890 arg8 f_arg8 = MM (kb 3) (q 3) (8 * k.val) := by
  unfold trip_k0_t1.sl.v1890
  exact h8 _ _

theorem v1934_eq : trip_k0_t1.sl.v1934 i arg5 arg8 arg10 arg11 arg12 X_arg5 X_arg12 k f_arg8 f_arg10 = MM (kb 3) (q 3) (8 * k.val + 1) := by
  unfold trip_k0_t1.sl.v1934 trip_k0_t1.sl.HW_arg8_25
  refine (rc_hit _ _ _ _ _).trans ?_
  refine Eq.trans ?_ (show MF (SC (kb 3 (8 * k.val)) (q 3)) (MM (kb 3) (q 3) (8 * k.val)) = MM (kb 3) (q 3) (8 * k.val + 1) from rfl)
  unfold trip_k0_t1.sl.r_54
  rw [v1888_eq h5 h6 h12 h8 h9 h10, v1890_eq h5 h6 h12 h8 h9 h10]
  rfl

theorem v1979_eq : trip_k0_t1.sl.v1979 i arg5 arg8 arg10 arg11 arg12 X_arg5 X_arg12 k f_arg8 f_arg10 = MM (kb 3) (q 3) (8 * k.val + 2) := by
  unfold trip_k0_t1.sl.v1979 trip_k0_t1.sl.HW_arg8_26
  refine (rc_hit _ _ _ _ _).trans ?_
  refine Eq.trans ?_ (show MF (SC (kb 3 (8 * k.val + 1)) (q 3)) (MM (kb 3) (q 3) (8 * k.val + 1)) = MM (kb 3) (q 3) (8 * k.val + 2) from rfl)
  unfold trip_k0_t1.sl.r_56
  rw [v1932_eq h5 h6 h12 h8 h9 h10, v1934_eq h5 h6 h12 h8 h9 h10]
  rfl

theorem v2023_eq : trip_k0_t1.sl.v2023 i arg5 arg8 arg10 arg11 arg12 X_arg5 X_arg12 k f_arg8 f_arg10 = MM (kb 3) (q 3) (8 * k.val + 3) := by
  unfold trip_k0_t1.sl.v2023 trip_k0_t1.sl.HW_arg8_27
  refine (rc_hit _ _ _ _ _).trans ?_
  refine Eq.trans ?_ (show MF (SC (kb 3 (8 * k.val + 2)) (q 3)) (MM (kb 3) (q 3) (8 * k.val + 2)) = MM (kb 3) (q 3) (8 * k.val + 3) from rfl)
  rw [v1977_eq h5 h6 h12 h8 h9 h10, v1979_eq h5 h6 h12 h8 h9 h10]
  rfl

theorem v2068_eq : trip_k0_t1.sl.v2068 i arg5 arg8 arg10 arg11 arg12 X_arg5 X_arg12 k f_arg8 f_arg10 = MM (kb 3) (q 3) (8 * k.val + 4) := by
  unfold trip_k0_t1.sl.v2068 trip_k0_t1.sl.HW_arg8_28
  refine (rc_hit _ _ _ _ _).trans ?_
  refine Eq.trans ?_ (show MF (SC (kb 3 (8 * k.val + 3)) (q 3)) (MM (kb 3) (q 3) (8 * k.val + 3)) = MM (kb 3) (q 3) (8 * k.val + 4) from rfl)
  unfold trip_k0_t1.sl.r_60
  rw [v2021_eq h5 h6 h12 h8 h9 h10, v2023_eq h5 h6 h12 h8 h9 h10]
  rfl

theorem v2066_eq : trip_k0_t1.sl.v2066 i arg5 arg10 arg12 X_arg5 X_arg12 k = SC (kb 3 (8 * k.val + 4)) (q 3) := by
  unfold trip_k0_t1.sl.v2066 trip_k0_t1.sl.HW_arg10_14
  refine (rc_hit _ _ _ _ _).trans ?_
  refine Eq.trans ?_ (show SC (kb 3 (8 * k.val + 4)) (q 3) = SC (kb 3 (8 * k.val + 4)) (q 3) from rfl)
  rw [o_t1_off10_i_k_1_2_eq (k := k) h5, h12 3]
  rfl

theorem v2112_eq : trip_k0_t1.sl.v2112 i arg5 arg8 arg10 arg11 arg12 X_arg5 X_arg12 k f_arg8 f_arg10 = MM (kb 3) (q 3) (8 * k.val + 5) := by
  unfold trip_k0_t1.sl.v2112 trip_k0_t1.sl.HW_arg8_29
  refine (rc_hit _ _ _ _ _).trans ?_
  refine Eq.trans ?_ (show MF (SC (kb 3 (8 * k.val + 4)) (q 3)) (MM (kb 3) (q 3) (8 * k.val + 4)) = MM (kb 3) (q 3) (8 * k.val + 5) from rfl)
  unfold trip_k0_t1.sl.r_65 trip_k0_t1.sl.r_64
  rw [v2068_eq h5 h6 h12 h8 h9 h10, v2066_eq h5 h6 h12 h8 h9 h10]
  rfl

theorem v2157_eq : trip_k0_t1.sl.v2157 i arg5 arg8 arg10 arg11 arg12 X_arg5 X_arg12 k f_arg8 f_arg10 = MM (kb 3) (q 3) (8 * k.val + 6) := by
  unfold trip_k0_t1.sl.v2157 trip_k0_t1.sl.HW_arg8_30
  refine (rc_hit _ _ _ _ _).trans ?_
  refine Eq.trans ?_ (show MF (SC (kb 3 (8 * k.val + 5)) (q 3)) (MM (kb 3) (q 3) (8 * k.val + 5)) = MM (kb 3) (q 3) (8 * k.val + 6) from rfl)
  unfold trip_k0_t1.sl.r_67
  rw [v2110_eq h5 h6 h12 h8 h9 h10, v2112_eq h5 h6 h12 h8 h9 h10]
  rfl

theorem v2201_eq : trip_k0_t1.sl.v2201 i arg5 arg8 arg10 arg11 arg12 X_arg5 X_arg12 k f_arg8 f_arg10 = MM (kb 3) (q 3) (8 * k.val + 7) := by
  unfold trip_k0_t1.sl.v2201 trip_k0_t1.sl.HW_arg8_31
  refine (rc_hit _ _ _ _ _).trans ?_
  refine Eq.trans ?_ (show MF (SC (kb 3 (8 * k.val + 6)) (q 3)) (MM (kb 3) (q 3) (8 * k.val + 6)) = MM (kb 3) (q 3) (8 * k.val + 7) from rfl)
  unfold trip_k0_t1.sl.r_68
  rw [v2155_eq h5 h6 h12 h8 h9 h10, v2157_eq h5 h6 h12 h8 h9 h10]
  rfl

theorem v2199_eq : trip_k0_t1.sl.v2199 i arg5 arg11 arg12 X_arg5 X_arg12 k = SC (kb 3 (8 * k.val + 7)) (q 3) := by
  unfold trip_k0_t1.sl.v2199 trip_k0_t1.sl.HW_arg11_16
  refine (rc_hit _ _ _ _ _).trans ?_
  refine Eq.trans ?_ (show SC (kb 3 (8 * k.val + 7)) (q 3) = SC (kb 3 (8 * k.val + 7)) (q 3) from rfl)
  rw [o_t1_off10_i_k_3_1_eq (k := k) h5, h12 3]
  rfl

theorem v881_eq : trip_k0_t1.sl.v881 i arg6 arg8 arg9 arg10 v0 X_arg6 k f_arg8 f_arg9 f_arg10 = AA v0 (kb 0) (vb 0) (q 0) (8 * k.val + 1) := by
  unfold trip_k0_t1.sl.v881 trip_k0_t1.sl.HW_arg9_1
  refine (rc_hit _ _ _ _ _).trans ?_
  refine Eq.trans ?_ (show AF v0 (SC (kb 0 (8 * k.val)) (q 0)) (MM (kb 0) (q 0) (8 * k.val)) (vb 0 (8 * k.val)) (AA v0 (kb 0) (vb 0) (q 0) (8 * k.val)) = AA v0 (kb 0) (vb 0) (q 0) (8 * k.val + 1) from rfl)
  unfold trip_k0_t1.sl.r_3 trip_k0_t1.sl.r_2 trip_k0_t1.sl.r_1
  rw [o_t1_off2_i_k_0_eq (k := k) h6, h9 0, h10 0, h8 0]
  rfl

theorem v926_eq : trip_k0_t1.sl.v926 i arg5 arg6 arg8 arg9 arg10 arg11 arg12 v0 X_arg5 X_arg6 X_arg12 k f_arg8 f_arg9 f_arg10 = AA v0 (kb 0) (vb 0) (q 0) (8 * k.val + 2) := by
  unfold trip_k0_t1.sl.v926 trip_k0_t1.sl.HW_arg9_2
  refine (rc_hit _ _ _ _ _).trans ?_
  refine Eq.trans ?_ (show AF v0 (SC (kb 0 (8 * k.val + 1)) (q 0)) (MM (kb 0) (q 0) (8 * k.val + 1)) (vb 0 (8 * k.val + 1)) (AA v0 (kb 0) (vb 0) (q 0) (8 * k.val + 1)) = AA v0 (kb 0) (vb 0) (q 0) (8 * k.val + 2) from rfl)
  unfold trip_k0_t1.sl.r_4
  rw [v866_eq h5 h6 h12 h8 h9 h10, v881_eq h5 h6 h12 h8 h9 h10, v864_eq h5 h6 h12 h8 h9 h10, o_t1_off3_i_k_0_eq (k := k) h6]
  rfl

theorem v970_eq : trip_k0_t1.sl.v970 i arg5 arg6 arg8 arg9 arg10 arg11 arg12 v0 X_arg5 X_arg6 X_arg12 k f_arg8 f_arg9 f_arg10 = AA v0 (kb 0) (vb 0) (q 0) (8 * k.val + 3) := by
  unfold trip_k0_t1.sl.v970 trip_k0_t1.sl.HW_arg9_3
  refine (rc_hit _ _ _ _ _).trans ?_
  refine Eq.trans ?_ (show AF v0 (SC (kb 0 (8 * k.val + 2)) (q 0)) (MM (kb 0) (q 0) (8 * k.val + 2)) (vb 0 (8 * k.val + 2)) (AA v0 (kb 0) (vb 0) (q 0) (8 * k.val + 2)) = AA v0 (kb 0) (vb 0) (q 0) (8 * k.val + 3) from rfl)
  unfold trip_k0_t1.sl.r_7
  rw [v909_eq h5 h6 h12 h8 h9 h10, v911_eq h5 h6 h12 h8 h9 h10, v926_eq h5 h6 h12 h8 h9 h10, o_t1_off2_i_k_1_eq (k := k) h6]
  rfl

theorem v1015_eq : trip_k0_t1.sl.v1015 i arg5 arg6 arg8 arg9 arg10 arg11 arg12 v0 X_arg5 X_arg6 X_arg12 k f_arg8 f_arg9 f_arg10 = AA v0 (kb 0) (vb 0) (q 0) (8 * k.val + 4) := by
  unfold trip_k0_t1.sl.v1015 trip_k0_t1.sl.HW_arg9_4
  refine (rc_hit _ _ _ _ _).trans ?_
  refine Eq.trans ?_ (show AF v0 (SC (kb 0 (8 * k.val + 3)) (q 0)) (MM (kb 0) (q 0) (8 * k.val + 3)) (vb 0 (8 * k.val + 3)) (AA v0 (kb 0) (vb 0) (q 0) (8 * k.val + 3)) = AA v0 (kb 0) (vb 0) (q 0) (8 * k.val + 4) from rfl)
  unfold trip_k0_t1.sl.r_10 trip_k0_t1.sl.r_9
  rw [v970_eq h5 h6 h12 h8 h9 h10, v953_eq h5 h6 h12 h8 h9 h10, v955_eq h5 h6 h12 h8 h9 h10, o_t1_off3_i_k_1_eq (k := k) h6]
  rfl

theorem v1059_eq : trip_k0_t1.sl.v1059 i arg5 arg6 arg8 arg9 arg10 arg11 arg12 v0 X_arg5 X_arg6 X_arg12 k f_arg8 f_arg9 f_arg10 = AA v0 (kb 0) (vb 0) (q 0) (8 * k.val + 5) := by
  unfold trip_k0_t1.sl.v1059 trip_k0_t1.sl.HW_arg9_5
  refine (rc_hit _ _ _ _ _).trans ?_
  refine Eq.trans ?_ (show AF v0 (SC (kb 0 (8 * k.val + 4)) (q 0)) (MM (kb 0) (q 0) (8 * k.val + 4)) (vb 0 (8 * k.val + 4)) (AA v0 (kb 0) (vb 0) (q 0) (8 * k.val + 4)) = AA v0 (kb 0) (vb 0) (q 0) (8 * k.val + 5) from rfl)
  rw [v998_eq h5 h6 h12 h8 h9 h10, v1000_eq h5 h6 h12 h8 h9 h10, v1015_eq h5 h6 h12 h8 h9 h10, o_t1_off2_i_k_2_eq (k := k) h6]
  rfl

theorem v1104_eq : trip_k0_t1.sl.v1104 i arg5 arg6 arg8 arg9 arg10 arg11 arg12 v0 X_arg5 X_arg6 X_arg12 k f_arg8 f_arg9 f_arg10 = AA v0 (kb 0) (vb 0) (q 0) (8 * k.val + 6) := by
  unfold trip_k0_t1.sl.v1104 trip_k0_t1.sl.HW_arg9_6
  refine (rc_hit _ _ _ _ _).trans ?_
  refine Eq.trans ?_ (show AF v0 (SC (kb 0 (8 * k.val + 5)) (q 0)) (MM (kb 0) (q 0) (8 * k.val + 5)) (vb 0 (8 * k.val + 5)) (AA v0 (kb 0) (vb 0) (q 0) (8 * k.val + 5)) = AA v0 (kb 0) (vb 0) (q 0) (8 * k.val + 6) from rfl)
  unfold trip_k0_t1.sl.r_12
  rw [v1042_eq h5 h6 h12 h8 h9 h10, v1044_eq h5 h6 h12 h8 h9 h10, v1059_eq h5 h6 h12 h8 h9 h10, o_t1_off3_i_k_2_eq (k := k) h6]
  rfl

theorem v1148_eq : trip_k0_t1.sl.v1148 i arg5 arg6 arg8 arg9 arg10 arg11 arg12 v0 X_arg5 X_arg6 X_arg12 k f_arg8 f_arg9 f_arg10 = AA v0 (kb 0) (vb 0) (q 0) (8 * k.val + 7) := by
  unfold trip_k0_t1.sl.v1148 trip_k0_t1.sl.HW_arg9_7
  refine (rc_hit _ _ _ _ _).trans ?_
  refine Eq.trans ?_ (show AF v0 (SC (kb 0 (8 * k.val + 6)) (q 0)) (MM (kb 0) (q 0) (8 * k.val + 6)) (vb 0 (8 * k.val + 6)) (AA v0 (kb 0) (vb 0) (q 0) (8 * k.val + 6)) = AA v0 (kb 0) (vb 0) (q 0) (8 * k.val + 7) from rfl)
  unfold trip_k0_t1.sl.r_15 trip_k0_t1.sl.r_14 trip_k0_t1.sl.r_13
  rw [v1104_eq h5 h6 h12 h8 h9 h10, v1087_eq h5 h6 h12 h8 h9 h10, v1089_eq h5 h6 h12 h8 h9 h10, o_t1_off2_i_k_3_eq (k := k) h6]
  rfl

theorem v1193_eq : trip_k0_t1.sl.v1193 arg9 f_arg9 = AA v0 (kb 1) (vb 1) (q 1) (8 * k.val) := by
  unfold trip_k0_t1.sl.v1193
  exact h9 _ _

theorem v1237_eq : trip_k0_t1.sl.v1237 i arg5 arg6 arg8 arg9 arg10 arg11 arg12 v0 X_arg5 X_arg6 X_arg12 k f_arg8 f_arg9 f_arg10 = AA v0 (kb 1) (vb 1) (q 1) (8 * k.val + 1) := by
  unfold trip_k0_t1.sl.v1237 trip_k0_t1.sl.HW_arg9_9
  refine (rc_hit _ _ _ _ _).trans ?_
  refine Eq.trans ?_ (show AF v0 (SC (kb 1 (8 * k.val)) (q 1)) (MM (kb 1) (q 1) (8 * k.val)) (vb 1 (8 * k.val)) (AA v0 (kb 1) (vb 1) (q 1) (8 * k.val)) = AA v0 (kb 1) (vb 1) (q 1) (8 * k.val + 1) from rfl)
  unfold trip_k0_t1.sl.r_20 trip_k0_t1.sl.r_19 trip_k0_t1.sl.r_18
  rw [v1193_eq h5 h6 h12 h8 h9 h10, v1176_eq h5 h6 h12 h8 h9 h10, v1178_eq h5 h6 h12 h8 h9 h10, o_t1_off5_i_k_0_eq (k := k) h6]
  rfl

theorem v1282_eq : trip_k0_t1.sl.v1282 i arg5 arg6 arg8 arg9 arg10 arg11 arg12 v0 X_arg5 X_arg6 X_arg12 k f_arg8 f_arg9 f_arg10 = AA v0 (kb 1) (vb 1) (q 1) (8 * k.val + 2) := by
  unfold trip_k0_t1.sl.v1282 trip_k0_t1.sl.HW_arg9_10
  refine (rc_hit _ _ _ _ _).trans ?_
  refine Eq.trans ?_ (show AF v0 (SC (kb 1 (8 * k.val + 1)) (q 1)) (MM (kb 1) (q 1) (8 * k.val + 1)) (vb 1 (8 * k.val + 1)) (AA v0 (kb 1) (vb 1) (q 1) (8 * k.val + 1)) = AA v0 (kb 1) (vb 1) (q 1) (8 * k.val + 2) from rfl)
  unfold trip_k0_t1.sl.r_22 trip_k0_t1.sl.r_21
  rw [v1237_eq h5 h6 h12 h8 h9 h10, v1222_eq h5 h6 h12 h8 h9 h10, v1220_eq h5 h6 h12 h8 h9 h10, o_t1_off6_i_k_0_eq (k := k) h6]
  rfl

theorem v1326_eq : trip_k0_t1.sl.v1326 i arg5 arg6 arg8 arg9 arg10 arg11 arg12 v0 X_arg5 X_arg6 X_arg12 k f_arg8 f_arg9 f_arg10 = AA v0 (kb 1) (vb 1) (q 1) (8 * k.val + 3) := by
  unfold trip_k0_t1.sl.v1326 trip_k0_t1.sl.HW_arg9_11
  refine (rc_hit _ _ _ _ _).trans ?_
  refine Eq.trans ?_ (show AF v0 (SC (kb 1 (8 * k.val + 2)) (q 1)) (MM (kb 1) (q 1) (8 * k.val + 2)) (vb 1 (8 * k.val + 2)) (AA v0 (kb 1) (vb 1) (q 1) (8 * k.val + 2)) = AA v0 (kb 1) (vb 1) (q 1) (8 * k.val + 3) from rfl)
  rw [v1265_eq h5 h6 h12 h8 h9 h10, v1267_eq h5 h6 h12 h8 h9 h10, v1282_eq h5 h6 h12 h8 h9 h10, o_t1_off5_i_k_1_eq (k := k) h6]
  rfl

theorem v1371_eq : trip_k0_t1.sl.v1371 i arg5 arg6 arg8 arg9 arg10 arg11 arg12 v0 X_arg5 X_arg6 X_arg12 k f_arg8 f_arg9 f_arg10 = AA v0 (kb 1) (vb 1) (q 1) (8 * k.val + 4) := by
  unfold trip_k0_t1.sl.v1371 trip_k0_t1.sl.HW_arg9_12
  refine (rc_hit _ _ _ _ _).trans ?_
  refine Eq.trans ?_ (show AF v0 (SC (kb 1 (8 * k.val + 3)) (q 1)) (MM (kb 1) (q 1) (8 * k.val + 3)) (vb 1 (8 * k.val + 3)) (AA v0 (kb 1) (vb 1) (q 1) (8 * k.val + 3)) = AA v0 (kb 1) (vb 1) (q 1) (8 * k.val + 4) from rfl)
  unfold trip_k0_t1.sl.r_28 trip_k0_t1.sl.r_27 trip_k0_t1.sl.r_26
  rw [v1326_eq h5 h6 h12 h8 h9 h10, v1309_eq h5 h6 h12 h8 h9 h10, v1311_eq h5 h6 h12 h8 h9 h10, o_t1_off6_i_k_1_eq (k := k) h6]
  rfl

theorem v1415_eq : trip_k0_t1.sl.v1415 i arg5 arg6 arg8 arg9 arg10 arg11 arg12 v0 X_arg5 X_arg6 X_arg12 k f_arg8 f_arg9 f_arg10 = AA v0 (kb 1) (vb 1) (q 1) (8 * k.val + 5) := by
  unfold trip_k0_t1.sl.v1415 trip_k0_t1.sl.HW_arg9_13
  refine (rc_hit _ _ _ _ _).trans ?_
  refine Eq.trans ?_ (show AF v0 (SC (kb 1 (8 * k.val + 4)) (q 1)) (MM (kb 1) (q 1) (8 * k.val + 4)) (vb 1 (8 * k.val + 4)) (AA v0 (kb 1) (vb 1) (q 1) (8 * k.val + 4)) = AA v0 (kb 1) (vb 1) (q 1) (8 * k.val + 5) from rfl)
  rw [v1354_eq h5 h6 h12 h8 h9 h10, v1356_eq h5 h6 h12 h8 h9 h10, v1371_eq h5 h6 h12 h8 h9 h10, o_t1_off5_i_k_2_eq (k := k) h6]
  rfl

theorem v1460_eq : trip_k0_t1.sl.v1460 i arg5 arg6 arg8 arg9 arg10 arg11 arg12 v0 X_arg5 X_arg6 X_arg12 k f_arg8 f_arg9 f_arg10 = AA v0 (kb 1) (vb 1) (q 1) (8 * k.val + 6) := by
  unfold trip_k0_t1.sl.v1460 trip_k0_t1.sl.HW_arg9_14
  refine (rc_hit _ _ _ _ _).trans ?_
  refine Eq.trans ?_ (show AF v0 (SC (kb 1 (8 * k.val + 5)) (q 1)) (MM (kb 1) (q 1) (8 * k.val + 5)) (vb 1 (8 * k.val + 5)) (AA v0 (kb 1) (vb 1) (q 1) (8 * k.val + 5)) = AA v0 (kb 1) (vb 1) (q 1) (8 * k.val + 6) from rfl)
  unfold trip_k0_t1.sl.r_31
  rw [v1398_eq h5 h6 h12 h8 h9 h10, v1400_eq h5 h6 h12 h8 h9 h10, v1415_eq h5 h6 h12 h8 h9 h10, o_t1_off6_i_k_2_eq (k := k) h6]
  rfl

theorem v1504_eq : trip_k0_t1.sl.v1504 i arg5 arg6 arg8 arg9 arg10 arg11 arg12 v0 X_arg5 X_arg6 X_arg12 k f_arg8 f_arg9 f_arg10 = AA v0 (kb 1) (vb 1) (q 1) (8 * k.val + 7) := by
  unfold trip_k0_t1.sl.v1504 trip_k0_t1.sl.HW_arg9_15
  refine (rc_hit _ _ _ _ _).trans ?_
  refine Eq.trans ?_ (show AF v0 (SC (kb 1 (8 * k.val + 6)) (q 1)) (MM (kb 1) (q 1) (8 * k.val + 6)) (vb 1 (8 * k.val + 6)) (AA v0 (kb 1) (vb 1) (q 1) (8 * k.val + 6)) = AA v0 (kb 1) (vb 1) (q 1) (8 * k.val + 7) from rfl)
  unfold trip_k0_t1.sl.r_34 trip_k0_t1.sl.r_33
  rw [v1460_eq h5 h6 h12 h8 h9 h10, v1443_eq h5 h6 h12 h8 h9 h10, v1445_eq h5 h6 h12 h8 h9 h10, o_t1_off5_i_k_3_eq (k := k) h6]
  rfl

theorem v1549_eq : trip_k0_t1.sl.v1549 arg9 f_arg9 = AA v0 (kb 2) (vb 2) (q 2) (8 * k.val) := by
  unfold trip_k0_t1.sl.v1549
  exact h9 _ _

theorem v1593_eq : trip_k0_t1.sl.v1593 i arg5 arg6 arg8 arg9 arg10 arg11 arg12 v0 X_arg5 X_arg6 X_arg12 k f_arg8 f_arg9 f_arg10 = AA v0 (kb 2) (vb 2) (q 2) (8 * k.val + 1) := by
  unfold trip_k0_t1.sl.v1593 trip_k0_t1.sl.HW_arg9_17
  refine (rc_hit _ _ _ _ _).trans ?_
  refine Eq.trans ?_ (show AF v0 (SC (kb 2 (8 * k.val)) (q 2)) (MM (kb 2) (q 2) (8 * k.val)) (vb 2 (8 * k.val)) (AA v0 (kb 2) (vb 2) (q 2) (8 * k.val)) = AA v0 (kb 2) (vb 2) (q 2) (8 * k.val + 1) from rfl)
  unfold trip_k0_t1.sl.r_38 trip_k0_t1.sl.r_37 trip_k0_t1.sl.r_36 trip_k0_t1.sl.cst_1099
  rw [v1532_eq h5 h6 h12 h8 h9 h10, v1534_eq h5 h6 h12 h8 h9 h10, v1549_eq h5 h6 h12 h8 h9 h10, o_t1_off8_i_k_0_eq (k := k) h6]
  rfl

theorem v1638_eq : trip_k0_t1.sl.v1638 i arg5 arg6 arg8 arg9 arg10 arg11 arg12 v0 X_arg5 X_arg6 X_arg12 k f_arg8 f_arg9 f_arg10 = AA v0 (kb 2) (vb 2) (q 2) (8 * k.val + 2) := by
  unfold trip_k0_t1.sl.v1638 trip_k0_t1.sl.HW_arg9_18
  refine (rc_hit _ _ _ _ _).trans ?_
  refine Eq.trans ?_ (show AF v0 (SC (kb 2 (8 * k.val + 1)) (q 2)) (MM (kb 2) (q 2) (8 * k.val + 1)) (vb 2 (8 * k.val + 1)) (AA v0 (kb 2) (vb 2) (q 2) (8 * k.val + 1)) = AA v0 (kb 2) (vb 2) (q 2) (8 * k.val + 2) from rfl)
  unfold trip_k0_t1.sl.r_41 trip_k0_t1.sl.r_40 trip_k0_t1.sl.r_39
  rw [v1593_eq h5 h6 h12 h8 h9 h10, v1576_eq h5 h6 h12 h8 h9 h10, v1578_eq h5 h6 h12 h8 h9 h10, o_t1_off9_i_k_0_eq (k := k) h6]
  rfl

theorem v1682_eq : trip_k0_t1.sl.v1682 i arg5 arg6 arg8 arg9 arg10 arg11 arg12 v0 X_arg5 X_arg6 X_arg12 k f_arg8 f_arg9 f_arg10 = AA v0 (kb 2) (vb 2) (q 2) (8 * k.val + 3) := by
  unfold trip_k0_t1.sl.v1682 trip_k0_t1.sl.HW_arg9_19
  refine (rc_hit _ _ _ _ _).trans ?_
  refine Eq.trans ?_ (show AF v0 (SC (kb 2 (8 * k.val + 2)) (q 2)) (MM (kb 2) (q 2) (8 * k.val + 2)) (vb 2 (8 * k.val + 2)) (AA v0 (kb 2) (vb 2) (q 2) (8 * k.val + 2)) = AA v0 (kb 2) (vb 2) (q 2) (8 * k.val + 3) from rfl)
  rw [v1621_eq h5 h6 h12 h8 h9 h10, v1623_eq h5 h6 h12 h8 h9 h10, v1638_eq h5 h6 h12 h8 h9 h10, o_t1_off8_i_k_1_eq (k := k) h6]
  rfl

theorem v1727_eq : trip_k0_t1.sl.v1727 i arg5 arg6 arg8 arg9 arg10 arg11 arg12 v0 X_arg5 X_arg6 X_arg12 k f_arg8 f_arg9 f_arg10 = AA v0 (kb 2) (vb 2) (q 2) (8 * k.val + 4) := by
  unfold trip_k0_t1.sl.v1727 trip_k0_t1.sl.HW_arg9_20
  refine (rc_hit _ _ _ _ _).trans ?_
  refine Eq.trans ?_ (show AF v0 (SC (kb 2 (8 * k.val + 3)) (q 2)) (MM (kb 2) (q 2) (8 * k.val + 3)) (vb 2 (8 * k.val + 3)) (AA v0 (kb 2) (vb 2) (q 2) (8 * k.val + 3)) = AA v0 (kb 2) (vb 2) (q 2) (8 * k.val + 4) from rfl)
  unfold trip_k0_t1.sl.r_46 trip_k0_t1.sl.r_45 trip_k0_t1.sl.r_44
  rw [v1682_eq h5 h6 h12 h8 h9 h10, v1665_eq h5 h6 h12 h8 h9 h10, v1667_eq h5 h6 h12 h8 h9 h10, o_t1_off9_i_k_1_eq (k := k) h6]
  rfl

theorem v1771_eq : trip_k0_t1.sl.v1771 i arg5 arg6 arg8 arg9 arg10 arg11 arg12 v0 X_arg5 X_arg6 X_arg12 k f_arg8 f_arg9 f_arg10 = AA v0 (kb 2) (vb 2) (q 2) (8 * k.val + 5) := by
  unfold trip_k0_t1.sl.v1771 trip_k0_t1.sl.HW_arg9_21
  refine (rc_hit _ _ _ _ _).trans ?_
  refine Eq.trans ?_ (show AF v0 (SC (kb 2 (8 * k.val + 4)) (q 2)) (MM (kb 2) (q 2) (8 * k.val + 4)) (vb 2 (8 * k.val + 4)) (AA v0 (kb 2) (vb 2) (q 2) (8 * k.val + 4)) = AA v0 (kb 2) (vb 2) (q 2) (8 * k.val + 5) from rfl)
  unfold trip_k0_t1.sl.r_47
  rw [v1712_eq h5 h6 h12 h8 h9 h10, v1727_eq h5 h6 h12 h8 h9 h10, v1710_eq h5 h6 h12 h8 h9 h10, o_t1_off8_i_k_2_eq (k := k) h6]
  rfl

theorem v1816_eq : trip_k0_t1.sl.v1816 i arg5 arg6 arg8 arg9 arg10 arg11 arg12 v0 X_arg5 X_arg6 X_arg12 k f_arg8 f_arg9 f_arg10 = AA v0 (kb 2) (vb 2) (q 2) (8 * k.val + 6) := by
  unfold trip_k0_t1.sl.v1816 trip_k0_t1.sl.HW_arg9_22
  refine (rc_hit _ _ _ _ _).trans ?_
  refine Eq.trans ?_ (show AF v0 (SC (kb 2 (8 * k.val + 5)) (q 2)) (MM (kb 2) (q 2) (8 * k.val + 5)) (vb 2 (8 * k.val + 5)) (AA v0 (kb 2) (vb 2) (q 2) (8 * k.val + 5)) = AA v0 (kb 2) (vb 2) (q 2) (8 * k.val + 6) from rfl)
  rw [v1754_eq h5 h6 h12 h8 h9 h10, v1756_eq h5 h6 h12 h8 h9 h10, v1771_eq h5 h6 h12 h8 h9 h10, o_t1_off9_i_k_2_eq (k := k) h6]
  rfl

theorem v1860_eq : trip_k0_t1.sl.v1860 i arg5 arg6 arg8 arg9 arg10 arg11 arg12 v0 X_arg5 X_arg6 X_arg12 k f_arg8 f_arg9 f_arg10 = AA v0 (kb 2) (vb 2) (q 2) (8 * k.val + 7) := by
  unfold trip_k0_t1.sl.v1860 trip_k0_t1.sl.HW_arg9_23
  refine (rc_hit _ _ _ _ _).trans ?_
  refine Eq.trans ?_ (show AF v0 (SC (kb 2 (8 * k.val + 6)) (q 2)) (MM (kb 2) (q 2) (8 * k.val + 6)) (vb 2 (8 * k.val + 6)) (AA v0 (kb 2) (vb 2) (q 2) (8 * k.val + 6)) = AA v0 (kb 2) (vb 2) (q 2) (8 * k.val + 7) from rfl)
  unfold trip_k0_t1.sl.r_53 trip_k0_t1.sl.r_52
  rw [v1816_eq h5 h6 h12 h8 h9 h10, v1799_eq h5 h6 h12 h8 h9 h10, v1801_eq h5 h6 h12 h8 h9 h10, o_t1_off8_i_k_3_eq (k := k) h6]
  rfl

theorem v1905_eq : trip_k0_t1.sl.v1905 arg9 f_arg9 = AA v0 (kb 3) (vb 3) (q 3) (8 * k.val) := by
  unfold trip_k0_t1.sl.v1905
  exact h9 _ _

theorem v1949_eq : trip_k0_t1.sl.v1949 i arg5 arg6 arg8 arg9 arg10 arg11 arg12 v0 X_arg5 X_arg6 X_arg12 k f_arg8 f_arg9 f_arg10 = AA v0 (kb 3) (vb 3) (q 3) (8 * k.val + 1) := by
  unfold trip_k0_t1.sl.v1949 trip_k0_t1.sl.HW_arg9_25
  refine (rc_hit _ _ _ _ _).trans ?_
  refine Eq.trans ?_ (show AF v0 (SC (kb 3 (8 * k.val)) (q 3)) (MM (kb 3) (q 3) (8 * k.val)) (vb 3 (8 * k.val)) (AA v0 (kb 3) (vb 3) (q 3) (8 * k.val)) = AA v0 (kb 3) (vb 3) (q 3) (8 * k.val + 1) from rfl)
  unfold trip_k0_t1.sl.r_55
  rw [v1888_eq h5 h6 h12 h8 h9 h10, v1890_eq h5 h6 h12 h8 h9 h10, v1905_eq h5 h6 h12 h8 h9 h10, o_t1_off11_i_k_0_eq (k := k) h6]
  rfl

theorem v1994_eq : trip_k0_t1.sl.v1994 i arg5 arg6 arg8 arg9 arg10 arg11 arg12 v0 X_arg5 X_arg6 X_arg12 k f_arg8 f_arg9 f_arg10 = AA v0 (kb 3) (vb 3) (q 3) (8 * k.val + 2) := by
  unfold trip_k0_t1.sl.v1994 trip_k0_t1.sl.HW_arg9_26
  refine (rc_hit _ _ _ _ _).trans ?_
  refine Eq.trans ?_ (show AF v0 (SC (kb 3 (8 * k.val + 1)) (q 3)) (MM (kb 3) (q 3) (8 * k.val + 1)) (vb 3 (8 * k.val + 1)) (AA v0 (kb 3) (vb 3) (q 3) (8 * k.val + 1)) = AA v0 (kb 3) (vb 3) (q 3) (8 * k.val + 2) from rfl)
  unfold trip_k0_t1.sl.r_58 trip_k0_t1.sl.r_57
  rw [v1949_eq h5 h6 h12 h8 h9 h10, v1932_eq h5 h6 h12 h8 h9 h10, v1934_eq h5 h6 h12 h8 h9 h10, o_t1_off12_i_k_0_eq (k := k) h6]
  rfl

theorem v2038_eq : trip_k0_t1.sl.v2038 i arg5 arg6 arg8 arg9 arg10 arg11 arg12 v0 X_arg5 X_arg6 X_arg12 k f_arg8 f_arg9 f_arg10 = AA v0 (kb 3) (vb 3) (q 3) (8 * k.val + 3) := by
  unfold trip_k0_t1.sl.v2038 trip_k0_t1.sl.HW_arg9_27
  refine (rc_hit _ _ _ _ _).trans ?_
  refine Eq.trans ?_ (show AF v0 (SC (kb 3 (8 * k.val + 2)) (q 3)) (MM (kb 3) (q 3) (8 * k.val + 2)) (vb 3 (8 * k.val + 2)) (AA v0 (kb 3) (vb 3) (q 3) (8 * k.val + 2)) = AA v0 (kb 3) (vb 3) (q 3) (8 * k.val + 3) from rfl)
  rw [v1977_eq h5 h6 h12 h8 h9 h10, v1979_eq h5 h6 h12 h8 h9 h10, v1994_eq h5 h6 h12 h8 h9 h10, o_t1_off11_i_k_1_eq (k := k) h6]
  rfl

theorem v2083_eq : trip_k0_t1.sl.v2083 i arg5 arg6 arg8 arg9 arg10 arg11 arg12 v0 X_arg5 X_arg6 X_arg12 k f_arg8 f_arg9 f_arg10 = AA v0 (kb 3) (vb 3) (q 3) (8 * k.val + 4) := by
  unfold trip_k0_t1.sl.v2083 trip_k0_t1.sl.HW_arg9_28
  refine (rc_hit _ _ _ _ _).trans ?_
  refine Eq.trans ?_ (show AF v0 (SC (kb 3 (8 * k.val + 3)) (q 3)) (MM (kb 3) (q 3) (8 * k.val + 3)) (vb 3 (8 * k.val + 3)) (AA v0 (kb 3) (vb 3) (q 3) (8 * k.val + 3)) = AA v0 (kb 3) (vb 3) (q 3) (8 * k.val + 4) from rfl)
  unfold trip_k0_t1.sl.r_63 trip_k0_t1.sl.r_62 trip_k0_t1.sl.r_61
  rw [v2021_eq h5 h6 h12 h8 h9 h10, v2023_eq h5 h6 h12 h8 h9 h10, v2038_eq h5 h6 h12 h8 h9 h10, o_t1_off12_i_k_1_eq (k := k) h6]
  rfl

theorem v2127_eq : trip_k0_t1.sl.v2127 i arg5 arg6 arg8 arg9 arg10 arg11 arg12 v0 X_arg5 X_arg6 X_arg12 k f_arg8 f_arg9 f_arg10 = AA v0 (kb 3) (vb 3) (q 3) (8 * k.val + 5) := by
  unfold trip_k0_t1.sl.v2127 trip_k0_t1.sl.HW_arg9_29
  refine (rc_hit _ _ _ _ _).trans ?_
  refine Eq.trans ?_ (show AF v0 (SC (kb 3 (8 * k.val + 4)) (q 3)) (MM (kb 3) (q 3) (8 * k.val + 4)) (vb 3 (8 * k.val + 4)) (AA v0 (kb 3) (vb 3) (q 3) (8 * k.val + 4)) = AA v0 (kb 3) (vb 3) (q 3) (8 * k.val + 5) from rfl)
  unfold trip_k0_t1.sl.r_65 trip_k0_t1.sl.r_64
  rw [v2083_eq h5 h6 h12 h8 h9 h10, v2068_eq h5 h6 h12 h8 h9 h10, v2066_eq h5 h6 h12 h8 h9 h10, o_t1_off11_i_k_2_eq (k := k) h6]
  rfl

theorem v2172_eq : trip_k0_t1.sl.v2172 i arg5 arg6 arg8 arg9 arg10 arg11 arg12 v0 X_arg5 X_arg6 X_arg12 k f_arg8 f_arg9 f_arg10 = AA v0 (kb 3) (vb 3) (q 3) (8 * k.val + 6) := by
  unfold trip_k0_t1.sl.v2172 trip_k0_t1.sl.HW_arg9_30
  refine (rc_hit _ _ _ _ _).trans ?_
  refine Eq.trans ?_ (show AF v0 (SC (kb 3 (8 * k.val + 5)) (q 3)) (MM (kb 3) (q 3) (8 * k.val + 5)) (vb 3 (8 * k.val + 5)) (AA v0 (kb 3) (vb 3) (q 3) (8 * k.val + 5)) = AA v0 (kb 3) (vb 3) (q 3) (8 * k.val + 6) from rfl)
  rw [v2110_eq h5 h6 h12 h8 h9 h10, v2112_eq h5 h6 h12 h8 h9 h10, v2127_eq h5 h6 h12 h8 h9 h10, o_t1_off12_i_k_2_eq (k := k) h6]
  rfl

theorem v2216_eq : trip_k0_t1.sl.v2216 i arg5 arg6 arg8 arg9 arg10 arg11 arg12 v0 X_arg5 X_arg6 X_arg12 k f_arg8 f_arg9 f_arg10 = AA v0 (kb 3) (vb 3) (q 3) (8 * k.val + 7) := by
  unfold trip_k0_t1.sl.v2216 trip_k0_t1.sl.HW_arg9_31
  refine (rc_hit _ _ _ _ _).trans ?_
  refine Eq.trans ?_ (show AF v0 (SC (kb 3 (8 * k.val + 6)) (q 3)) (MM (kb 3) (q 3) (8 * k.val + 6)) (vb 3 (8 * k.val + 6)) (AA v0 (kb 3) (vb 3) (q 3) (8 * k.val + 6)) = AA v0 (kb 3) (vb 3) (q 3) (8 * k.val + 7) from rfl)
  unfold trip_k0_t1.sl.r_71 trip_k0_t1.sl.r_70 trip_k0_t1.sl.r_69
  rw [v2172_eq h5 h6 h12 h8 h9 h10, v2155_eq h5 h6 h12 h8 h9 h10, v2157_eq h5 h6 h12 h8 h9 h10, o_t1_off11_i_k_3_eq (k := k) h6]
  rfl

theorem trip8 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : Ms arg8 (arg8.view.writes (Elt F) f_arg8 ((tripL_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).1)) (fun hh => MM (kb hh) (q hh) (8 * k.val + 8)) := by
  intro hh inb
  have hlt : hh < 4 := by have := inb 0; exact Nat.lt_of_succ_le this
  unfold tripL_k0_t1 trip_k0_t1 trip_k0_t1.sl.HW_arg8_31 trip_k0_t1.sl.HW_arg8_30 trip_k0_t1.sl.HW_arg8_29 trip_k0_t1.sl.HW_arg8_28 trip_k0_t1.sl.HW_arg8_27 trip_k0_t1.sl.HW_arg8_26 trip_k0_t1.sl.HW_arg8_25 trip_k0_t1.sl.HW_arg8_23 trip_k0_t1.sl.HW_arg8_22 trip_k0_t1.sl.HW_arg8_21 trip_k0_t1.sl.HW_arg8_20 trip_k0_t1.sl.HW_arg8_19 trip_k0_t1.sl.HW_arg8_18 trip_k0_t1.sl.HW_arg8_17 trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_7 trip_k0_t1.sl.HW_arg8_6 trip_k0_t1.sl.HW_arg8_5 trip_k0_t1.sl.HW_arg8_4 trip_k0_t1.sl.HW_arg8_3 trip_k0_t1.sl.HW_arg8_2 trip_k0_t1.sl.HW_arg8_1
  dsimp only
  obtain rfl | rfl | rfl | rfl : hh = 0 ∨ hh = 1 ∨ hh = 2 ∨ hh = 3 := by omega
  · refine (ra_miss _ _ _ _ _ _ rfl rfl (by decide)).trans ?_
    iterate 23 refine (ra_miss _ _ _ _ _ _ rfl rfl (by decide)).trans ?_
    refine (ra_hit _ _ _ _ _ _).trans ?_
    refine Eq.trans ?_ (show MF (SC (kb 0 (8 * k.val + 7)) (q 0)) (MM (kb 0) (q 0) (8 * k.val + 7)) = MM (kb 0) (q 0) (8 * k.val + 8) from rfl)
    rw [v1131_eq h5 h6 h12 h8 h9 h10, v1133_eq h5 h6 h12 h8 h9 h10]
    rfl
  · refine (ra_miss _ _ _ _ _ _ rfl rfl (by decide)).trans ?_
    iterate 15 refine (ra_miss _ _ _ _ _ _ rfl rfl (by decide)).trans ?_
    refine (ra_hit _ _ _ _ _ _).trans ?_
    refine Eq.trans ?_ (show MF (SC (kb 1 (8 * k.val + 7)) (q 1)) (MM (kb 1) (q 1) (8 * k.val + 7)) = MM (kb 1) (q 1) (8 * k.val + 8) from rfl)
    rw [v1487_eq h5 h6 h12 h8 h9 h10, v1489_eq h5 h6 h12 h8 h9 h10]
    rfl
  · refine (ra_miss _ _ _ _ _ _ rfl rfl (by decide)).trans ?_
    iterate 7 refine (ra_miss _ _ _ _ _ _ rfl rfl (by decide)).trans ?_
    refine (ra_hit _ _ _ _ _ _).trans ?_
    refine Eq.trans ?_ (show MF (SC (kb 2 (8 * k.val + 7)) (q 2)) (MM (kb 2) (q 2) (8 * k.val + 7)) = MM (kb 2) (q 2) (8 * k.val + 8) from rfl)
    rw [v1843_eq h5 h6 h12 h8 h9 h10, v1845_eq h5 h6 h12 h8 h9 h10]
    rfl
  · refine (ra_hit _ _ _ _ _ _).trans ?_
    refine Eq.trans ?_ (show MF (SC (kb 3 (8 * k.val + 7)) (q 3)) (MM (kb 3) (q 3) (8 * k.val + 7)) = MM (kb 3) (q 3) (8 * k.val + 8) from rfl)
    unfold trip_k0_t1.sl.r_73 trip_k0_t1.sl.r_72
    rw [v2201_eq h5 h6 h12 h8 h9 h10, v2199_eq h5 h6 h12 h8 h9 h10]
    rfl

theorem trip9 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : As arg9 (arg9.view.writes (Elt F) f_arg9 ((tripL_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).2.1)) (fun hh => AA v0 (kb hh) (vb hh) (q hh) (8 * k.val + 8)) := by
  intro hh inb
  have hlt : hh < 4 := by have := inb 0; exact Nat.lt_of_succ_le this
  unfold tripL_k0_t1 trip_k0_t1 trip_k0_t1.sl.HW_arg9_31 trip_k0_t1.sl.HW_arg9_30 trip_k0_t1.sl.HW_arg9_29 trip_k0_t1.sl.HW_arg9_28 trip_k0_t1.sl.HW_arg9_27 trip_k0_t1.sl.HW_arg9_26 trip_k0_t1.sl.HW_arg9_25 trip_k0_t1.sl.HW_arg9_23 trip_k0_t1.sl.HW_arg9_22 trip_k0_t1.sl.HW_arg9_21 trip_k0_t1.sl.HW_arg9_20 trip_k0_t1.sl.HW_arg9_19 trip_k0_t1.sl.HW_arg9_18 trip_k0_t1.sl.HW_arg9_17 trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_7 trip_k0_t1.sl.HW_arg9_6 trip_k0_t1.sl.HW_arg9_5 trip_k0_t1.sl.HW_arg9_4 trip_k0_t1.sl.HW_arg9_3 trip_k0_t1.sl.HW_arg9_2 trip_k0_t1.sl.HW_arg9_1
  dsimp only
  obtain rfl | rfl | rfl | rfl : hh = 0 ∨ hh = 1 ∨ hh = 2 ∨ hh = 3 := by omega
  · refine (ra_miss _ _ _ _ _ _ rfl rfl (by decide)).trans ?_
    iterate 23 refine (ra_miss _ _ _ _ _ _ rfl rfl (by decide)).trans ?_
    refine (ra_hit _ _ _ _ _ _).trans ?_
    refine Eq.trans ?_ (show AF v0 (SC (kb 0 (8 * k.val + 7)) (q 0)) (MM (kb 0) (q 0) (8 * k.val + 7)) (vb 0 (8 * k.val + 7)) (AA v0 (kb 0) (vb 0) (q 0) (8 * k.val + 7)) = AA v0 (kb 0) (vb 0) (q 0) (8 * k.val + 8) from rfl)
    rw [v1131_eq h5 h6 h12 h8 h9 h10, v1133_eq h5 h6 h12 h8 h9 h10, v1148_eq h5 h6 h12 h8 h9 h10, o_t1_off3_i_k_3_eq (k := k) h6]
    rfl
  · refine (ra_miss _ _ _ _ _ _ rfl rfl (by decide)).trans ?_
    iterate 15 refine (ra_miss _ _ _ _ _ _ rfl rfl (by decide)).trans ?_
    refine (ra_hit _ _ _ _ _ _).trans ?_
    refine Eq.trans ?_ (show AF v0 (SC (kb 1 (8 * k.val + 7)) (q 1)) (MM (kb 1) (q 1) (8 * k.val + 7)) (vb 1 (8 * k.val + 7)) (AA v0 (kb 1) (vb 1) (q 1) (8 * k.val + 7)) = AA v0 (kb 1) (vb 1) (q 1) (8 * k.val + 8) from rfl)
    rw [v1487_eq h5 h6 h12 h8 h9 h10, v1489_eq h5 h6 h12 h8 h9 h10, v1504_eq h5 h6 h12 h8 h9 h10, o_t1_off6_i_k_3_eq (k := k) h6]
    rfl
  · refine (ra_miss _ _ _ _ _ _ rfl rfl (by decide)).trans ?_
    iterate 7 refine (ra_miss _ _ _ _ _ _ rfl rfl (by decide)).trans ?_
    refine (ra_hit _ _ _ _ _ _).trans ?_
    refine Eq.trans ?_ (show AF v0 (SC (kb 2 (8 * k.val + 7)) (q 2)) (MM (kb 2) (q 2) (8 * k.val + 7)) (vb 2 (8 * k.val + 7)) (AA v0 (kb 2) (vb 2) (q 2) (8 * k.val + 7)) = AA v0 (kb 2) (vb 2) (q 2) (8 * k.val + 8) from rfl)
    rw [v1843_eq h5 h6 h12 h8 h9 h10, v1845_eq h5 h6 h12 h8 h9 h10, v1860_eq h5 h6 h12 h8 h9 h10, o_t1_off9_i_k_3_eq (k := k) h6]
    rfl
  · refine (ra_hit _ _ _ _ _ _).trans ?_
    refine Eq.trans ?_ (show AF v0 (SC (kb 3 (8 * k.val + 7)) (q 3)) (MM (kb 3) (q 3) (8 * k.val + 7)) (vb 3 (8 * k.val + 7)) (AA v0 (kb 3) (vb 3) (q 3) (8 * k.val + 7)) = AA v0 (kb 3) (vb 3) (q 3) (8 * k.val + 8) from rfl)
    unfold trip_k0_t1.sl.r_75 trip_k0_t1.sl.r_74 trip_k0_t1.sl.r_72
    rw [v2216_eq h5 h6 h12 h8 h9 h10, v2201_eq h5 h6 h12 h8 h9 h10, v2199_eq h5 h6 h12 h8 h9 h10, o_t1_off12_i_k_3_eq (k := k) h6]
    rfl

theorem trip10 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : Ss arg10 (arg10.view.writes (Elt F) f_arg10 ((tripL_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).2.2.1)) (fun hh => SC (kb hh (8 * k.val + 8)) (q hh)) := by
  intro hh inb
  have hlt : hh < 4 := by have := inb 0; exact Nat.lt_of_succ_le this
  unfold tripL_k0_t1 trip_k0_t1 trip_k0_t1.sl.HW_arg10_15 trip_k0_t1.sl.HW_arg10_14 trip_k0_t1.sl.HW_arg10_13 trip_k0_t1.sl.HW_arg10_11 trip_k0_t1.sl.HW_arg10_10 trip_k0_t1.sl.HW_arg10_9 trip_k0_t1.sl.HW_arg10_7 trip_k0_t1.sl.HW_arg10_6 trip_k0_t1.sl.HW_arg10_5 trip_k0_t1.sl.HW_arg10_3 trip_k0_t1.sl.HW_arg10_2 trip_k0_t1.sl.HW_arg10_1
  dsimp only
  obtain rfl | rfl | rfl | rfl : hh = 0 ∨ hh = 1 ∨ hh = 2 ∨ hh = 3 := by omega
  · refine (ra_miss _ _ _ _ _ _ rfl rfl (by decide)).trans ?_
    iterate 11 refine (ra_miss _ _ _ _ _ _ rfl rfl (by decide)).trans ?_
    refine (ra_hit _ _ _ _ _ _).trans ?_
    refine Eq.trans ?_ (show SC (kb 0 (8 * k.val + 8)) (q 0) = SC (kb 0 (8 * k.val + 8)) (q 0) from rfl)
    unfold trip_k0_t1.sl.r_16
    rw [o_t1_off1_i_k_3_2_eq (k := k) h5, h12 0]
    rfl
  · refine (ra_miss _ _ _ _ _ _ rfl rfl (by decide)).trans ?_
    iterate 7 refine (ra_miss _ _ _ _ _ _ rfl rfl (by decide)).trans ?_
    refine (ra_hit _ _ _ _ _ _).trans ?_
    refine Eq.trans ?_ (show SC (kb 1 (8 * k.val + 8)) (q 1) = SC (kb 1 (8 * k.val + 8)) (q 1) from rfl)
    rw [o_t1_off4_i_k_3_2_eq (k := k) h5, h12 1]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show SC (kb 2 (8 * k.val + 8)) (q 2) = SC (kb 2 (8 * k.val + 8)) (q 2) from rfl)
    rw [o_t1_off7_i_k_3_2_eq (k := k) h5, h12 2]
    rfl
  · refine (ra_hit _ _ _ _ _ _).trans ?_
    refine Eq.trans ?_ (show SC (kb 3 (8 * k.val + 8)) (q 3) = SC (kb 3 (8 * k.val + 8)) (q 3) from rfl)
    rw [o_t1_off10_i_k_3_2_eq (k := k) h5, h12 3]
    rfl

end

end Cert.KernelIdeal.Att.T1

end
-- ==== Proof.AttTrip3.lean ====
/- One trip of the body's key-block loop `k0_t3_loop`: 2 pair(s) of key blocks per head. Head by head. -/
module

public import proofs.«01_k».proof.Proof.AttSem
public import proofs.«01_k».proof.Proof.Gen.KernelIdeal.Loops

@[expose] public section

set_option maxRecDepth 16384

noncomputable section

namespace Cert.KernelIdeal.Att.T3

open Cert.KernelIdeal Cert.KernelIdeal.Gen Cert.KernelIdeal.Att Idealize.ShloMosaic Idealize.ShloMosaic.View

variable {F : FTy → Type} [FloatOps F]

theorem o_t3_off28_i_1 (i : grid0.Coords) : k0_off28 i 1#32 = ![0, 256 * (8 * ((i 2).val / 4) + 3), 0] := by
  have hi : (i 2).val < 16 := (i 2).isLt
  unfold k0_off28
  dsimp only
  generalize (i 2).val = n at hi ⊢
  interval_cases n <;> rfl

theorem o_t3_off28_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off28 i 1#32) a + S1x256x128.size a ≤ S1x8192x512.size a) :
    View.readAt (Elt F) arg5.view (Rect.unit (s := S1x8192x512) (k0_off28 i 1#32) S1x256x128.size inb).toLoadRect X_arg5 = kb 0 (8 * ((i 2).val / 4) + 3) :=
  (View.readAt_unit_eq_of_eq arg5.view inb (o_t3_off28_i_1 i) X_arg5).trans (hX 0 (8 * ((i 2).val / 4) + 3) _ _ rfl rfl _)

theorem o_t3_off25_i_2 (i : grid0.Coords) : k0_off25 i 2#32 = ![0, 256 * (8 * ((i 2).val / 4) + 2), 0] := by
  have hi : (i 2).val < 16 := (i 2).isLt
  unfold k0_off25
  dsimp only
  generalize (i 2).val = n at hi ⊢
  interval_cases n <;> rfl

theorem o_t3_off25_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off25 i 2#32) a + S1x256x128.size a ≤ S1x8192x512.size a) :
    View.readAt (Elt F) arg5.view (Rect.unit (s := S1x8192x512) (k0_off25 i 2#32) S1x256x128.size inb).toLoadRect X_arg5 = kb 0 (8 * ((i 2).val / 4) + 2) :=
  (View.readAt_unit_eq_of_eq arg5.view inb (o_t3_off25_i_2 i) X_arg5).trans (hX 0 (8 * ((i 2).val / 4) + 2) _ _ rfl rfl _)

theorem o_t3_off25_i_1 (i : grid0.Coords) : k0_off25 i 1#32 = ![0, 256 * (8 * ((i 2).val / 4) + 1), 0] := by
  have hi : (i 2).val < 16 := (i 2).isLt
  unfold k0_off25
  dsimp only
  generalize (i 2).val = n at hi ⊢
  interval_cases n <;> rfl

theorem o_t3_off25_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off25 i 1#32) a + S1x256x128.size a ≤ S1x8192x512.size a) :
    View.readAt (Elt F) arg5.view (Rect.unit (s := S1x8192x512) (k0_off25 i 1#32) S1x256x128.size inb).toLoadRect X_arg5 = kb 0 (8 * ((i 2).val / 4) + 1) :=
  (View.readAt_unit_eq_of_eq arg5.view inb (o_t3_off25_i_1 i) X_arg5).trans (hX 0 (8 * ((i 2).val / 4) + 1) _ _ rfl rfl _)

theorem o_t3_off34_i_1 (i : grid0.Coords) : k0_off34 i 1#32 = ![0, 256 * (8 * ((i 2).val / 4) + 3), 128] := by
  have hi : (i 2).val < 16 := (i 2).isLt
  unfold k0_off34
  dsimp only
  generalize (i 2).val = n at hi ⊢
  interval_cases n <;> rfl

theorem o_t3_off34_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off34 i 1#32) a + S1x256x128.size a ≤ S1x8192x512.size a) :
    View.readAt (Elt F) arg5.view (Rect.unit (s := S1x8192x512) (k0_off34 i 1#32) S1x256x128.size inb).toLoadRect X_arg5 = kb 1 (8 * ((i 2).val / 4) + 3) :=
  (View.readAt_unit_eq_of_eq arg5.view inb (o_t3_off34_i_1 i) X_arg5).trans (hX 1 (8 * ((i 2).val / 4) + 3) _ _ rfl rfl _)

theorem o_t3_off31_i_2 (i : grid0.Coords) : k0_off31 i 2#32 = ![0, 256 * (8 * ((i 2).val / 4) + 2), 128] := by
  have hi : (i 2).val < 16 := (i 2).isLt
  unfold k0_off31
  dsimp only
  generalize (i 2).val = n at hi ⊢
  interval_cases n <;> rfl

theorem o_t3_off31_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off31 i 2#32) a + S1x256x128.size a ≤ S1x8192x512.size a) :
    View.readAt (Elt F) arg5.view (Rect.unit (s := S1x8192x512) (k0_off31 i 2#32) S1x256x128.size inb).toLoadRect X_arg5 = kb 1 (8 * ((i 2).val / 4) + 2) :=
  (View.readAt_unit_eq_of_eq arg5.view inb (o_t3_off31_i_2 i) X_arg5).trans (hX 1 (8 * ((i 2).val / 4) + 2) _ _ rfl rfl _)

theorem o_t3_off31_i_1 (i : grid0.Coords) : k0_off31 i 1#32 = ![0, 256 * (8 * ((i 2).val / 4) + 1), 128] := by
  have hi : (i 2).val < 16 := (i 2).isLt
  unfold k0_off31
  dsimp only
  generalize (i 2).val = n at hi ⊢
  interval_cases n <;> rfl

theorem o_t3_off31_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off31 i 1#32) a + S1x256x128.size a ≤ S1x8192x512.size a) :
    View.readAt (Elt F) arg5.view (Rect.unit (s := S1x8192x512) (k0_off31 i 1#32) S1x256x128.size inb).toLoadRect X_arg5 = kb 1 (8 * ((i 2).val / 4) + 1) :=
  (View.readAt_unit_eq_of_eq arg5.view inb (o_t3_off31_i_1 i) X_arg5).trans (hX 1 (8 * ((i 2).val / 4) + 1) _ _ rfl rfl _)

theorem o_t3_off37_i_2 (i : grid0.Coords) : k0_off37 i 2#32 = ![0, 256 * (8 * ((i 2).val / 4) + 2), 256] := by
  have hi : (i 2).val < 16 := (i 2).isLt
  unfold k0_off37
  dsimp only
  generalize (i 2).val = n at hi ⊢
  interval_cases n <;> rfl

theorem o_t3_off37_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off37 i 2#32) a + S1x256x128.size a ≤ S1x8192x512.size a) :
    View.readAt (Elt F) arg5.view (Rect.unit (s := S1x8192x512) (k0_off37 i 2#32) S1x256x128.size inb).toLoadRect X_arg5 = kb 2 (8 * ((i 2).val / 4) + 2) :=
  (View.readAt_unit_eq_of_eq arg5.view inb (o_t3_off37_i_2 i) X_arg5).trans (hX 2 (8 * ((i 2).val / 4) + 2) _ _ rfl rfl _)

theorem o_t3_off37_i_1 (i : grid0.Coords) : k0_off37 i 1#32 = ![0, 256 * (8 * ((i 2).val / 4) + 1), 256] := by
  have hi : (i 2).val < 16 := (i 2).isLt
  unfold k0_off37
  dsimp only
  generalize (i 2).val = n at hi ⊢
  interval_cases n <;> rfl

theorem o_t3_off37_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off37 i 1#32) a + S1x256x128.size a ≤ S1x8192x512.size a) :
    View.readAt (Elt F) arg5.view (Rect.unit (s := S1x8192x512) (k0_off37 i 1#32) S1x256x128.size inb).toLoadRect X_arg5 = kb 2 (8 * ((i 2).val / 4) + 1) :=
  (View.readAt_unit_eq_of_eq arg5.view inb (o_t3_off37_i_1 i) X_arg5).trans (hX 2 (8 * ((i 2).val / 4) + 1) _ _ rfl rfl _)

theorem o_t3_off40_i_1 (i : grid0.Coords) : k0_off40 i 1#32 = ![0, 256 * (8 * ((i 2).val / 4) + 3), 256] := by
  have hi : (i 2).val < 16 := (i 2).isLt
  unfold k0_off40
  dsimp only
  generalize (i 2).val = n at hi ⊢
  interval_cases n <;> rfl

theorem o_t3_off40_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off40 i 1#32) a + S1x256x128.size a ≤ S1x8192x512.size a) :
    View.readAt (Elt F) arg5.view (Rect.unit (s := S1x8192x512) (k0_off40 i 1#32) S1x256x128.size inb).toLoadRect X_arg5 = kb 2 (8 * ((i 2).val / 4) + 3) :=
  (View.readAt_unit_eq_of_eq arg5.view inb (o_t3_off40_i_1 i) X_arg5).trans (hX 2 (8 * ((i 2).val / 4) + 3) _ _ rfl rfl _)

theorem o_t3_off46_i_1 (i : grid0.Coords) : k0_off46 i 1#32 = ![0, 256 * (8 * ((i 2).val / 4) + 3), 384] := by
  have hi : (i 2).val < 16 := (i 2).isLt
  unfold k0_off46
  dsimp only
  generalize (i 2).val = n at hi ⊢
  interval_cases n <;> rfl

theorem o_t3_off46_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off46 i 1#32) a + S1x256x128.size a ≤ S1x8192x512.size a) :
    View.readAt (Elt F) arg5.view (Rect.unit (s := S1x8192x512) (k0_off46 i 1#32) S1x256x128.size inb).toLoadRect X_arg5 = kb 3 (8 * ((i 2).val / 4) + 3) :=
  (View.readAt_unit_eq_of_eq arg5.view inb (o_t3_off46_i_1 i) X_arg5).trans (hX 3 (8 * ((i 2).val / 4) + 3) _ _ rfl rfl _)

theorem o_t3_off43_i_2 (i : grid0.Coords) : k0_off43 i 2#32 = ![0, 256 * (8 * ((i 2).val / 4) + 2), 384] := by
  have hi : (i 2).val < 16 := (i 2).isLt
  unfold k0_off43
  dsimp only
  generalize (i 2).val = n at hi ⊢
  interval_cases n <;> rfl

theorem o_t3_off43_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off43 i 2#32) a + S1x256x128.size a ≤ S1x8192x512.size a) :
    View.readAt (Elt F) arg5.view (Rect.unit (s := S1x8192x512) (k0_off43 i 2#32) S1x256x128.size inb).toLoadRect X_arg5 = kb 3 (8 * ((i 2).val / 4) + 2) :=
  (View.readAt_unit_eq_of_eq arg5.view inb (o_t3_off43_i_2 i) X_arg5).trans (hX 3 (8 * ((i 2).val / 4) + 2) _ _ rfl rfl _)

theorem o_t3_off43_i_1 (i : grid0.Coords) : k0_off43 i 1#32 = ![0, 256 * (8 * ((i 2).val / 4) + 1), 384] := by
  have hi : (i 2).val < 16 := (i 2).isLt
  unfold k0_off43
  dsimp only
  generalize (i 2).val = n at hi ⊢
  interval_cases n <;> rfl

theorem o_t3_off43_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off43 i 1#32) a + S1x256x128.size a ≤ S1x8192x512.size a) :
    View.readAt (Elt F) arg5.view (Rect.unit (s := S1x8192x512) (k0_off43 i 1#32) S1x256x128.size inb).toLoadRect X_arg5 = kb 3 (8 * ((i 2).val / 4) + 1) :=
  (View.readAt_unit_eq_of_eq arg5.view inb (o_t3_off43_i_1 i) X_arg5).trans (hX 3 (8 * ((i 2).val / 4) + 1) _ _ rfl rfl _)

theorem o_t3_off26_i (i : grid0.Coords) : k0_off26 i = ![0, (8 * ((i 2).val / 4)), 0, 0] := by
  have hi : (i 2).val < 16 := (i 2).isLt
  unfold k0_off26
  dsimp only
  generalize (i 2).val = n at hi ⊢
  interval_cases n <;> rfl

theorem o_t3_off26_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off26 i) a + S1x1x128x256.size a ≤ S1x32x512x256.size a) :
    View.readAt (Elt F) arg6.view (Rect.unit (s := S1x32x512x256) (k0_off26 i) S1x1x128x256.size inb).toLoadRect X_arg6 = vb 0 (8 * ((i 2).val / 4)) :=
  (View.readAt_unit_eq_of_eq arg6.view inb (o_t3_off26_i i) X_arg6).trans (hX 0 (8 * ((i 2).val / 4)) _ _ rfl rfl _)

theorem o_t3_off27_i (i : grid0.Coords) : k0_off27 i = ![0, (8 * ((i 2).val / 4) + 1), 0, 0] := by
  have hi : (i 2).val < 16 := (i 2).isLt
  unfold k0_off27
  dsimp only
  generalize (i 2).val = n at hi ⊢
  interval_cases n <;> rfl

theorem o_t3_off27_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off27 i) a + S1x1x128x256.size a ≤ S1x32x512x256.size a) :
    View.readAt (Elt F) arg6.view (Rect.unit (s := S1x32x512x256) (k0_off27 i) S1x1x128x256.size inb).toLoadRect X_arg6 = vb 0 (8 * ((i 2).val / 4) + 1) :=
  (View.readAt_unit_eq_of_eq arg6.view inb (o_t3_off27_i i) X_arg6).trans (hX 0 (8 * ((i 2).val / 4) + 1) _ _ rfl rfl _)

theorem o_t3_off29_i (i : grid0.Coords) : k0_off29 i = ![0, (8 * ((i 2).val / 4) + 2), 0, 0] := by
  have hi : (i 2).val < 16 := (i 2).isLt
  unfold k0_off29
  dsimp only
  generalize (i 2).val = n at hi ⊢
  interval_cases n <;> rfl

theorem o_t3_off29_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off29 i) a + S1x1x128x256.size a ≤ S1x32x512x256.size a) :
    View.readAt (Elt F) arg6.view (Rect.unit (s := S1x32x512x256) (k0_off29 i) S1x1x128x256.size inb).toLoadRect X_arg6 = vb 0 (8 * ((i 2).val / 4) + 2) :=
  (View.readAt_unit_eq_of_eq arg6.view inb (o_t3_off29_i i) X_arg6).trans (hX 0 (8 * ((i 2).val / 4) + 2) _ _ rfl rfl _)

theorem o_t3_off30_i (i : grid0.Coords) : k0_off30 i = ![0, (8 * ((i 2).val / 4) + 3), 0, 0] := by
  have hi : (i 2).val < 16 := (i 2).isLt
  unfold k0_off30
  dsimp only
  generalize (i 2).val = n at hi ⊢
  interval_cases n <;> rfl

theorem o_t3_off30_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off30 i) a + S1x1x128x256.size a ≤ S1x32x512x256.size a) :
    View.readAt (Elt F) arg6.view (Rect.unit (s := S1x32x512x256) (k0_off30 i) S1x1x128x256.size inb).toLoadRect X_arg6 = vb 0 (8 * ((i 2).val / 4) + 3) :=
  (View.readAt_unit_eq_of_eq arg6.view inb (o_t3_off30_i i) X_arg6).trans (hX 0 (8 * ((i 2).val / 4) + 3) _ _ rfl rfl _)

theorem o_t3_off32_i (i : grid0.Coords) : k0_off32 i = ![0, (8 * ((i 2).val / 4)), 128, 0] := by
  have hi : (i 2).val < 16 := (i 2).isLt
  unfold k0_off32
  dsimp only
  generalize (i 2).val = n at hi ⊢
  interval_cases n <;> rfl

theorem o_t3_off32_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off32 i) a + S1x1x128x256.size a ≤ S1x32x512x256.size a) :
    View.readAt (Elt F) arg6.view (Rect.unit (s := S1x32x512x256) (k0_off32 i) S1x1x128x256.size inb).toLoadRect X_arg6 = vb 1 (8 * ((i 2).val / 4)) :=
  (View.readAt_unit_eq_of_eq arg6.view inb (o_t3_off32_i i) X_arg6).trans (hX 1 (8 * ((i 2).val / 4)) _ _ rfl rfl _)

theorem o_t3_off33_i (i : grid0.Coords) : k0_off33 i = ![0, (8 * ((i 2).val / 4) + 1), 128, 0] := by
  have hi : (i 2).val < 16 := (i 2).isLt
  unfold k0_off33
  dsimp only
  generalize (i 2).val = n at hi ⊢
  interval_cases n <;> rfl

theorem o_t3_off33_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off33 i) a + S1x1x128x256.size a ≤ S1x32x512x256.size a) :
    View.readAt (Elt F) arg6.view (Rect.unit (s := S1x32x512x256) (k0_off33 i) S1x1x128x256.size inb).toLoadRect X_arg6 = vb 1 (8 * ((i 2).val / 4) + 1) :=
  (View.readAt_unit_eq_of_eq arg6.view inb (o_t3_off33_i i) X_arg6).trans (hX 1 (8 * ((i 2).val / 4) + 1) _ _ rfl rfl _)

theorem o_t3_off35_i (i : grid0.Coords) : k0_off35 i = ![0, (8 * ((i 2).val / 4) + 2), 128, 0] := by
  have hi : (i 2).val < 16 := (i 2).isLt
  unfold k0_off35
  dsimp only
  generalize (i 2).val = n at hi ⊢
  interval_cases n <;> rfl

theorem o_t3_off35_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off35 i) a + S1x1x128x256.size a ≤ S1x32x512x256.size a) :
    View.readAt (Elt F) arg6.view (Rect.unit (s := S1x32x512x256) (k0_off35 i) S1x1x128x256.size inb).toLoadRect X_arg6 = vb 1 (8 * ((i 2).val / 4) + 2) :=
  (View.readAt_unit_eq_of_eq arg6.view inb (o_t3_off35_i i) X_arg6).trans (hX 1 (8 * ((i 2).val / 4) + 2) _ _ rfl rfl _)

theorem o_t3_off36_i (i : grid0.Coords) : k0_off36 i = ![0, (8 * ((i 2).val / 4) + 3), 128, 0] := by
  have hi : (i 2).val < 16 := (i 2).isLt
  unfold k0_off36
  dsimp only
  generalize (i 2).val = n at hi ⊢
  interval_cases n <;> rfl

theorem o_t3_off36_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off36 i) a + S1x1x128x256.size a ≤ S1x32x512x256.size a) :
    View.readAt (Elt F) arg6.view (Rect.unit (s := S1x32x512x256) (k0_off36 i) S1x1x128x256.size inb).toLoadRect X_arg6 = vb 1 (8 * ((i 2).val / 4) + 3) :=
  (View.readAt_unit_eq_of_eq arg6.view inb (o_t3_off36_i i) X_arg6).trans (hX 1 (8 * ((i 2).val / 4) + 3) _ _ rfl rfl _)

theorem o_t3_off38_i (i : grid0.Coords) : k0_off38 i = ![0, (8 * ((i 2).val / 4)), 256, 0] := by
  have hi : (i 2).val < 16 := (i 2).isLt
  unfold k0_off38
  dsimp only
  generalize (i 2).val = n at hi ⊢
  interval_cases n <;> rfl

theorem o_t3_off38_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off38 i) a + S1x1x128x256.size a ≤ S1x32x512x256.size a) :
    View.readAt (Elt F) arg6.view (Rect.unit (s := S1x32x512x256) (k0_off38 i) S1x1x128x256.size inb).toLoadRect X_arg6 = vb 2 (8 * ((i 2).val / 4)) :=
  (View.readAt_unit_eq_of_eq arg6.view inb (o_t3_off38_i i) X_arg6).trans (hX 2 (8 * ((i 2).val / 4)) _ _ rfl rfl _)

theorem o_t3_off39_i (i : grid0.Coords) : k0_off39 i = ![0, (8 * ((i 2).val / 4) + 1), 256, 0] := by
  have hi : (i 2).val < 16 := (i 2).isLt
  unfold k0_off39
  dsimp only
  generalize (i 2).val = n at hi ⊢
  interval_cases n <;> rfl

theorem o_t3_off39_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off39 i) a + S1x1x128x256.size a ≤ S1x32x512x256.size a) :
    View.readAt (Elt F) arg6.view (Rect.unit (s := S1x32x512x256) (k0_off39 i) S1x1x128x256.size inb).toLoadRect X_arg6 = vb 2 (8 * ((i 2).val / 4) + 1) :=
  (View.readAt_unit_eq_of_eq arg6.view inb (o_t3_off39_i i) X_arg6).trans (hX 2 (8 * ((i 2).val / 4) + 1) _ _ rfl rfl _)

theorem o_t3_off41_i (i : grid0.Coords) : k0_off41 i = ![0, (8 * ((i 2).val / 4) + 2), 256, 0] := by
  have hi : (i 2).val < 16 := (i 2).isLt
  unfold k0_off41
  dsimp only
  generalize (i 2).val = n at hi ⊢
  interval_cases n <;> rfl

theorem o_t3_off41_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off41 i) a + S1x1x128x256.size a ≤ S1x32x512x256.size a) :
    View.readAt (Elt F) arg6.view (Rect.unit (s := S1x32x512x256) (k0_off41 i) S1x1x128x256.size inb).toLoadRect X_arg6 = vb 2 (8 * ((i 2).val / 4) + 2) :=
  (View.readAt_unit_eq_of_eq arg6.view inb (o_t3_off41_i i) X_arg6).trans (hX 2 (8 * ((i 2).val / 4) + 2) _ _ rfl rfl _)

theorem o_t3_off42_i (i : grid0.Coords) : k0_off42 i = ![0, (8 * ((i 2).val / 4) + 3), 256, 0] := by
  have hi : (i 2).val < 16 := (i 2).isLt
  unfold k0_off42
  dsimp only
  generalize (i 2).val = n at hi ⊢
  interval_cases n <;> rfl

theorem o_t3_off42_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off42 i) a + S1x1x128x256.size a ≤ S1x32x512x256.size a) :
    View.readAt (Elt F) arg6.view (Rect.unit (s := S1x32x512x256) (k0_off42 i) S1x1x128x256.size inb).toLoadRect X_arg6 = vb 2 (8 * ((i 2).val / 4) + 3) :=
  (View.readAt_unit_eq_of_eq arg6.view inb (o_t3_off42_i i) X_arg6).trans (hX 2 (8 * ((i 2).val / 4) + 3) _ _ rfl rfl _)

theorem o_t3_off44_i (i : grid0.Coords) : k0_off44 i = ![0, (8 * ((i 2).val / 4)), 384, 0] := by
  have hi : (i 2).val < 16 := (i 2).isLt
  unfold k0_off44
  dsimp only
  generalize (i 2).val = n at hi ⊢
  interval_cases n <;> rfl

theorem o_t3_off44_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off44 i) a + S1x1x128x256.size a ≤ S1x32x512x256.size a) :
    View.readAt (Elt F) arg6.view (Rect.unit (s := S1x32x512x256) (k0_off44 i) S1x1x128x256.size inb).toLoadRect X_arg6 = vb 3 (8 * ((i 2).val / 4)) :=
  (View.readAt_unit_eq_of_eq arg6.view inb (o_t3_off44_i i) X_arg6).trans (hX 3 (8 * ((i 2).val / 4)) _ _ rfl rfl _)

theorem o_t3_off45_i (i : grid0.Coords) : k0_off45 i = ![0, (8 * ((i 2).val / 4) + 1), 384, 0] := by
  have hi : (i 2).val < 16 := (i 2).isLt
  unfold k0_off45
  dsimp only
  generalize (i 2).val = n at hi ⊢
  interval_cases n <;> rfl

theorem o_t3_off45_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off45 i) a + S1x1x128x256.size a ≤ S1x32x512x256.size a) :
    View.readAt (Elt F) arg6.view (Rect.unit (s := S1x32x512x256) (k0_off45 i) S1x1x128x256.size inb).toLoadRect X_arg6 = vb 3 (8 * ((i 2).val / 4) + 1) :=
  (View.readAt_unit_eq_of_eq arg6.view inb (o_t3_off45_i i) X_arg6).trans (hX 3 (8 * ((i 2).val / 4) + 1) _ _ rfl rfl _)

theorem o_t3_off47_i (i : grid0.Coords) : k0_off47 i = ![0, (8 * ((i 2).val / 4) + 2), 384, 0] := by
  have hi : (i 2).val < 16 := (i 2).isLt
  unfold k0_off47
  dsimp only
  generalize (i 2).val = n at hi ⊢
  interval_cases n <;> rfl

theorem o_t3_off47_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off47 i) a + S1x1x128x256.size a ≤ S1x32x512x256.size a) :
    View.readAt (Elt F) arg6.view (Rect.unit (s := S1x32x512x256) (k0_off47 i) S1x1x128x256.size inb).toLoadRect X_arg6 = vb 3 (8 * ((i 2).val / 4) + 2) :=
  (View.readAt_unit_eq_of_eq arg6.view inb (o_t3_off47_i i) X_arg6).trans (hX 3 (8 * ((i 2).val / 4) + 2) _ _ rfl rfl _)

theorem o_t3_off48_i (i : grid0.Coords) : k0_off48 i = ![0, (8 * ((i 2).val / 4) + 3), 384, 0] := by
  have hi : (i 2).val < 16 := (i 2).isLt
  unfold k0_off48
  dsimp only
  generalize (i 2).val = n at hi ⊢
  interval_cases n <;> rfl

theorem o_t3_off48_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords}  (inb : ∀ a, (k0_off48 i) a + S1x1x128x256.size a ≤ S1x32x512x256.size a) :
    View.readAt (Elt F) arg6.view (Rect.unit (s := S1x32x512x256) (k0_off48 i) S1x1x128x256.size inb).toLoadRect X_arg6 = vb 3 (8 * ((i 2).val / 4) + 3) :=
  (View.readAt_unit_eq_of_eq arg6.view inb (o_t3_off48_i i) X_arg6).trans (hX 3 (8 * ((i 2).val / 4) + 3) _ _ rfl rfl _)

theorem o_t3_off28_i_2 (i : grid0.Coords) : k0_off28 i 2#32 = ![0, 256 * (8 * ((i 2).val / 4) + 4), 0] := by
  have hi : (i 2).val < 16 := (i 2).isLt
  unfold k0_off28
  dsimp only
  generalize (i 2).val = n at hi ⊢
  interval_cases n <;> rfl

theorem o_t3_off28_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off28 i 2#32) a + S1x256x128.size a ≤ S1x8192x512.size a) :
    View.readAt (Elt F) arg5.view (Rect.unit (s := S1x8192x512) (k0_off28 i 2#32) S1x256x128.size inb).toLoadRect X_arg5 = kb 0 (8 * ((i 2).val / 4) + 4) :=
  (View.readAt_unit_eq_of_eq arg5.view inb (o_t3_off28_i_2 i) X_arg5).trans (hX 0 (8 * ((i 2).val / 4) + 4) _ _ rfl rfl _)

theorem o_t3_off34_i_2 (i : grid0.Coords) : k0_off34 i 2#32 = ![0, 256 * (8 * ((i 2).val / 4) + 4), 128] := by
  have hi : (i 2).val < 16 := (i 2).isLt
  unfold k0_off34
  dsimp only
  generalize (i 2).val = n at hi ⊢
  interval_cases n <;> rfl

theorem o_t3_off34_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off34 i 2#32) a + S1x256x128.size a ≤ S1x8192x512.size a) :
    View.readAt (Elt F) arg5.view (Rect.unit (s := S1x8192x512) (k0_off34 i 2#32) S1x256x128.size inb).toLoadRect X_arg5 = kb 1 (8 * ((i 2).val / 4) + 4) :=
  (View.readAt_unit_eq_of_eq arg5.view inb (o_t3_off34_i_2 i) X_arg5).trans (hX 1 (8 * ((i 2).val / 4) + 4) _ _ rfl rfl _)

theorem o_t3_off40_i_2 (i : grid0.Coords) : k0_off40 i 2#32 = ![0, 256 * (8 * ((i 2).val / 4) + 4), 256] := by
  have hi : (i 2).val < 16 := (i 2).isLt
  unfold k0_off40
  dsimp only
  generalize (i 2).val = n at hi ⊢
  interval_cases n <;> rfl

theorem o_t3_off40_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off40 i 2#32) a + S1x256x128.size a ≤ S1x8192x512.size a) :
    View.readAt (Elt F) arg5.view (Rect.unit (s := S1x8192x512) (k0_off40 i 2#32) S1x256x128.size inb).toLoadRect X_arg5 = kb 2 (8 * ((i 2).val / 4) + 4) :=
  (View.readAt_unit_eq_of_eq arg5.view inb (o_t3_off40_i_2 i) X_arg5).trans (hX 2 (8 * ((i 2).val / 4) + 4) _ _ rfl rfl _)

theorem o_t3_off46_i_2 (i : grid0.Coords) : k0_off46 i 2#32 = ![0, 256 * (8 * ((i 2).val / 4) + 4), 384] := by
  have hi : (i 2).val < 16 := (i 2).isLt
  unfold k0_off46
  dsimp only
  generalize (i 2).val = n at hi ⊢
  interval_cases n <;> rfl

theorem o_t3_off46_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords}  (inb : ∀ a, (k0_off46 i 2#32) a + S1x256x128.size a ≤ S1x8192x512.size a) :
    View.readAt (Elt F) arg5.view (Rect.unit (s := S1x8192x512) (k0_off46 i 2#32) S1x256x128.size inb).toLoadRect X_arg5 = kb 3 (8 * ((i 2).val / 4) + 4) :=
  (View.readAt_unit_eq_of_eq arg5.view inb (o_t3_off46_i_2 i) X_arg5).trans (hX 3 (8 * ((i 2).val / 4) + 4) _ _ rfl rfl _)

section
variable {i : grid0.Coords} {arg5 : Memref sig .tc .vmem S1x8192x512 .bf16} {arg6 : Memref sig .tc .vmem S1x32x512x256 .bf16}
  {arg8 : Memref sig .tc .vmem S4x1x1024 .f32} {arg9 : Memref sig .tc .vmem S4x144x1024 .f32} {arg10 : Memref sig .tc .vmem S4x256x1024 .f32}
  {arg11 : Memref sig .tc .vmem S4x256x1024 .f32} {arg12 : Memref sig .tc .vmem S4x128x1024 .bf16} {v0 : FVec F S16x256 .bf16}
  {X_arg5 : arg5.view.ty.Contents (Elt F)} {X_arg6 : arg6.view.ty.Contents (Elt F)} {X_arg12 : arg12.view.ty.Contents (Elt F)}
  {k : Fin (k0_t3_loop i).trips}
  {f_arg8 : arg8.view.ty.Contents (Elt F)} {f_arg9 : arg9.view.ty.Contents (Elt F)} {f_arg10 : arg10.view.ty.Contents (Elt F)}
  {f_arg11 : arg11.view.ty.Contents (Elt F)}
  {kb : ℕ → ℕ → Vec F S1x256x128 .bf16} {vb : ℕ → ℕ → Vec F S1x1x128x256 .bf16} {q : ℕ → Vec F S1x128x1024 .bf16}
  (h5 : Keys arg5 X_arg5 kb) (h6 : Vals arg6 X_arg6 vb) (h12 : Qs arg12 X_arg12 q)
  (h8 : Ms arg8 f_arg8 fun hh => MM (kb hh) (q hh) (8 * ((i 2).val / 4)))
  (h9 : As arg9 f_arg9 fun hh => AA v0 (kb hh) (vb hh) (q hh) (8 * ((i 2).val / 4)))
  (h10 : Ss arg10 f_arg10 fun hh => SC (kb hh (8 * ((i 2).val / 4))) (q hh))
include h5 h6 h12 h8 h9 h10

theorem v986_eq : trip_k0_t3.sl.v986 i arg5 arg11 arg12 X_arg5 X_arg12 = SC (kb 0 (8 * ((i 2).val / 4) + 3)) (q 0) := by
  unfold trip_k0_t3.sl.v986 trip_k0_t3.sl.HW_arg11_2
  refine (rc_hit _ _ _ _ _).trans ?_
  refine Eq.trans ?_ (show SC (kb 0 (8 * ((i 2).val / 4) + 3)) (q 0) = SC (kb 0 (8 * ((i 2).val / 4) + 3)) (q 0) from rfl)
  unfold trip_k0_t3.sl.r_3
  rw [o_t3_off28_i_1_eq  h5, h12 0]
  rfl

theorem v942_eq : trip_k0_t3.sl.v942 i arg5 arg10 arg12 X_arg5 X_arg12 = SC (kb 0 (8 * ((i 2).val / 4) + 2)) (q 0) := by
  unfold trip_k0_t3.sl.v942 trip_k0_t3.sl.HW_arg10_1
  refine (rc_hit _ _ _ _ _).trans ?_
  refine Eq.trans ?_ (show SC (kb 0 (8 * ((i 2).val / 4) + 2)) (q 0) = SC (kb 0 (8 * ((i 2).val / 4) + 2)) (q 0) from rfl)
  unfold trip_k0_t3.sl.r_1
  rw [o_t3_off25_i_2_eq  h5, h12 0]
  rfl

theorem v880_eq : trip_k0_t3.sl.v880 i arg5 arg11 arg12 X_arg5 X_arg12 = SC (kb 0 (8 * ((i 2).val / 4) + 1)) (q 0) := by
  unfold trip_k0_t3.sl.v880 trip_k0_t3.sl.HW_arg11_1
  refine (rc_hit _ _ _ _ _).trans ?_
  refine Eq.trans ?_ (show SC (kb 0 (8 * ((i 2).val / 4) + 1)) (q 0) = SC (kb 0 (8 * ((i 2).val / 4) + 1)) (q 0) from rfl)
  rw [o_t3_off25_i_1_eq  h5, h12 0]
  rfl

theorem v882_eq : trip_k0_t3.sl.v882 arg8 arg10 f_arg8 f_arg10 = MM (kb 0) (q 0) (8 * ((i 2).val / 4) + 1) := by
  unfold trip_k0_t3.sl.v882 trip_k0_t3.sl.HW_arg8_1
  refine (rc_hit _ _ _ _ _).trans ?_
  refine Eq.trans ?_ (show MF (SC (kb 0 (8 * ((i 2).val / 4))) (q 0)) (MM (kb 0) (q 0) (8 * ((i 2).val / 4))) = MM (kb 0) (q 0) (8 * ((i 2).val / 4) + 1) from rfl)
  unfold trip_k0_t3.sl.r
  rw [h8 0, h10 0]
  rfl

theorem v944_eq : trip_k0_t3.sl.v944 i arg5 arg8 arg10 arg11 arg12 X_arg5 X_arg12 f_arg8 f_arg10 = MM (kb 0) (q 0) (8 * ((i 2).val / 4) + 2) := by
  unfold trip_k0_t3.sl.v944 trip_k0_t3.sl.HW_arg8_2
  refine (rc_hit _ _ _ _ _).trans ?_
  refine Eq.trans ?_ (show MF (SC (kb 0 (8 * ((i 2).val / 4) + 1)) (q 0)) (MM (kb 0) (q 0) (8 * ((i 2).val / 4) + 1)) = MM (kb 0) (q 0) (8 * ((i 2).val / 4) + 2) from rfl)
  unfold trip_k0_t3.sl.r_2
  rw [v880_eq h5 h6 h12 h8 h9 h10, v882_eq h5 h6 h12 h8 h9 h10]
  rfl

theorem v988_eq : trip_k0_t3.sl.v988 i arg5 arg8 arg10 arg11 arg12 X_arg5 X_arg12 f_arg8 f_arg10 = MM (kb 0) (q 0) (8 * ((i 2).val / 4) + 3) := by
  unfold trip_k0_t3.sl.v988 trip_k0_t3.sl.HW_arg8_3
  refine (rc_hit _ _ _ _ _).trans ?_
  refine Eq.trans ?_ (show MF (SC (kb 0 (8 * ((i 2).val / 4) + 2)) (q 0)) (MM (kb 0) (q 0) (8 * ((i 2).val / 4) + 2)) = MM (kb 0) (q 0) (8 * ((i 2).val / 4) + 3) from rfl)
  rw [v942_eq h5 h6 h12 h8 h9 h10, v944_eq h5 h6 h12 h8 h9 h10]
  rfl

theorem v1197_eq : trip_k0_t3.sl.v1197 i arg5 arg11 arg12 X_arg5 X_arg12 = SC (kb 1 (8 * ((i 2).val / 4) + 3)) (q 1) := by
  unfold trip_k0_t3.sl.v1197 trip_k0_t3.sl.HW_arg11_4
  refine (rc_hit _ _ _ _ _).trans ?_
  refine Eq.trans ?_ (show SC (kb 1 (8 * ((i 2).val / 4) + 3)) (q 1) = SC (kb 1 (8 * ((i 2).val / 4) + 3)) (q 1) from rfl)
  unfold trip_k0_t3.sl.r_12
  rw [o_t3_off34_i_1_eq  h5, h12 1]
  rfl

theorem v1153_eq : trip_k0_t3.sl.v1153 i arg5 arg10 arg12 X_arg5 X_arg12 = SC (kb 1 (8 * ((i 2).val / 4) + 2)) (q 1) := by
  unfold trip_k0_t3.sl.v1153 trip_k0_t3.sl.HW_arg10_3
  refine (rc_hit _ _ _ _ _).trans ?_
  refine Eq.trans ?_ (show SC (kb 1 (8 * ((i 2).val / 4) + 2)) (q 1) = SC (kb 1 (8 * ((i 2).val / 4) + 2)) (q 1) from rfl)
  rw [o_t3_off31_i_2_eq  h5, h12 1]
  rfl

theorem v1091_eq : trip_k0_t3.sl.v1091 i arg5 arg11 arg12 X_arg5 X_arg12 = SC (kb 1 (8 * ((i 2).val / 4) + 1)) (q 1) := by
  unfold trip_k0_t3.sl.v1091 trip_k0_t3.sl.HW_arg11_3
  refine (rc_hit _ _ _ _ _).trans ?_
  refine Eq.trans ?_ (show SC (kb 1 (8 * ((i 2).val / 4) + 1)) (q 1) = SC (kb 1 (8 * ((i 2).val / 4) + 1)) (q 1) from rfl)
  unfold trip_k0_t3.sl.r_7
  rw [o_t3_off31_i_1_eq  h5, h12 1]
  rfl

theorem v1047_eq : trip_k0_t3.sl.v1047 arg10 f_arg10 = SC (kb 1 (8 * ((i 2).val / 4))) (q 1) := by
  unfold trip_k0_t3.sl.v1047
  exact h10 _ _

theorem v1049_eq : trip_k0_t3.sl.v1049 arg8 f_arg8 = MM (kb 1) (q 1) (8 * ((i 2).val / 4)) := by
  unfold trip_k0_t3.sl.v1049
  exact h8 _ _

theorem v1093_eq : trip_k0_t3.sl.v1093 i arg5 arg8 arg10 arg11 arg12 X_arg5 X_arg12 f_arg8 f_arg10 = MM (kb 1) (q 1) (8 * ((i 2).val / 4) + 1) := by
  unfold trip_k0_t3.sl.v1093 trip_k0_t3.sl.HW_arg8_5
  refine (rc_hit _ _ _ _ _).trans ?_
  refine Eq.trans ?_ (show MF (SC (kb 1 (8 * ((i 2).val / 4))) (q 1)) (MM (kb 1) (q 1) (8 * ((i 2).val / 4))) = MM (kb 1) (q 1) (8 * ((i 2).val / 4) + 1) from rfl)
  rw [v1047_eq h5 h6 h12 h8 h9 h10, v1049_eq h5 h6 h12 h8 h9 h10]
  rfl

theorem v1155_eq : trip_k0_t3.sl.v1155 i arg5 arg8 arg10 arg11 arg12 X_arg5 X_arg12 f_arg8 f_arg10 = MM (kb 1) (q 1) (8 * ((i 2).val / 4) + 2) := by
  unfold trip_k0_t3.sl.v1155 trip_k0_t3.sl.HW_arg8_6
  refine (rc_hit _ _ _ _ _).trans ?_
  refine Eq.trans ?_ (show MF (SC (kb 1 (8 * ((i 2).val / 4) + 1)) (q 1)) (MM (kb 1) (q 1) (8 * ((i 2).val / 4) + 1)) = MM (kb 1) (q 1) (8 * ((i 2).val / 4) + 2) from rfl)
  unfold trip_k0_t3.sl.r_8
  rw [v1091_eq h5 h6 h12 h8 h9 h10, v1093_eq h5 h6 h12 h8 h9 h10]
  rfl

theorem v1199_eq : trip_k0_t3.sl.v1199 i arg5 arg8 arg10 arg11 arg12 X_arg5 X_arg12 f_arg8 f_arg10 = MM (kb 1) (q 1) (8 * ((i 2).val / 4) + 3) := by
  unfold trip_k0_t3.sl.v1199 trip_k0_t3.sl.HW_arg8_7
  refine (rc_hit _ _ _ _ _).trans ?_
  refine Eq.trans ?_ (show MF (SC (kb 1 (8 * ((i 2).val / 4) + 2)) (q 1)) (MM (kb 1) (q 1) (8 * ((i 2).val / 4) + 2)) = MM (kb 1) (q 1) (8 * ((i 2).val / 4) + 3) from rfl)
  unfold trip_k0_t3.sl.r_13
  rw [v1153_eq h5 h6 h12 h8 h9 h10, v1155_eq h5 h6 h12 h8 h9 h10]
  rfl

theorem v1364_eq : trip_k0_t3.sl.v1364 i arg5 arg10 arg12 X_arg5 X_arg12 = SC (kb 2 (8 * ((i 2).val / 4) + 2)) (q 2) := by
  unfold trip_k0_t3.sl.v1364 trip_k0_t3.sl.HW_arg10_5
  refine (rc_hit _ _ _ _ _).trans ?_
  refine Eq.trans ?_ (show SC (kb 2 (8 * ((i 2).val / 4) + 2)) (q 2) = SC (kb 2 (8 * ((i 2).val / 4) + 2)) (q 2) from rfl)
  rw [o_t3_off37_i_2_eq  h5, h12 2]
  rfl

theorem v1302_eq : trip_k0_t3.sl.v1302 i arg5 arg11 arg12 X_arg5 X_arg12 = SC (kb 2 (8 * ((i 2).val / 4) + 1)) (q 2) := by
  unfold trip_k0_t3.sl.v1302 trip_k0_t3.sl.HW_arg11_5
  refine (rc_hit _ _ _ _ _).trans ?_
  refine Eq.trans ?_ (show SC (kb 2 (8 * ((i 2).val / 4) + 1)) (q 2) = SC (kb 2 (8 * ((i 2).val / 4) + 1)) (q 2) from rfl)
  rw [o_t3_off37_i_1_eq  h5, h12 2]
  rfl

theorem v1258_eq : trip_k0_t3.sl.v1258 arg10 f_arg10 = SC (kb 2 (8 * ((i 2).val / 4))) (q 2) := by
  unfold trip_k0_t3.sl.v1258
  exact h10 _ _

theorem v1260_eq : trip_k0_t3.sl.v1260 arg8 f_arg8 = MM (kb 2) (q 2) (8 * ((i 2).val / 4)) := by
  unfold trip_k0_t3.sl.v1260
  exact h8 _ _

theorem v1304_eq : trip_k0_t3.sl.v1304 i arg5 arg8 arg10 arg11 arg12 X_arg5 X_arg12 f_arg8 f_arg10 = MM (kb 2) (q 2) (8 * ((i 2).val / 4) + 1) := by
  unfold trip_k0_t3.sl.v1304 trip_k0_t3.sl.HW_arg8_9
  refine (rc_hit _ _ _ _ _).trans ?_
  refine Eq.trans ?_ (show MF (SC (kb 2 (8 * ((i 2).val / 4))) (q 2)) (MM (kb 2) (q 2) (8 * ((i 2).val / 4))) = MM (kb 2) (q 2) (8 * ((i 2).val / 4) + 1) from rfl)
  unfold trip_k0_t3.sl.r_18
  rw [v1258_eq h5 h6 h12 h8 h9 h10, v1260_eq h5 h6 h12 h8 h9 h10]
  rfl

theorem v1366_eq : trip_k0_t3.sl.v1366 i arg5 arg8 arg10 arg11 arg12 X_arg5 X_arg12 f_arg8 f_arg10 = MM (kb 2) (q 2) (8 * ((i 2).val / 4) + 2) := by
  unfold trip_k0_t3.sl.v1366 trip_k0_t3.sl.HW_arg8_10
  refine (rc_hit _ _ _ _ _).trans ?_
  refine Eq.trans ?_ (show MF (SC (kb 2 (8 * ((i 2).val / 4) + 1)) (q 2)) (MM (kb 2) (q 2) (8 * ((i 2).val / 4) + 1)) = MM (kb 2) (q 2) (8 * ((i 2).val / 4) + 2) from rfl)
  unfold trip_k0_t3.sl.r_21
  rw [v1302_eq h5 h6 h12 h8 h9 h10, v1304_eq h5 h6 h12 h8 h9 h10]
  rfl

theorem v1410_eq : trip_k0_t3.sl.v1410 i arg5 arg8 arg10 arg11 arg12 X_arg5 X_arg12 f_arg8 f_arg10 = MM (kb 2) (q 2) (8 * ((i 2).val / 4) + 3) := by
  unfold trip_k0_t3.sl.v1410 trip_k0_t3.sl.HW_arg8_11
  refine (rc_hit _ _ _ _ _).trans ?_
  refine Eq.trans ?_ (show MF (SC (kb 2 (8 * ((i 2).val / 4) + 2)) (q 2)) (MM (kb 2) (q 2) (8 * ((i 2).val / 4) + 2)) = MM (kb 2) (q 2) (8 * ((i 2).val / 4) + 3) from rfl)
  unfold trip_k0_t3.sl.r_23
  rw [v1364_eq h5 h6 h12 h8 h9 h10, v1366_eq h5 h6 h12 h8 h9 h10]
  rfl

theorem v1408_eq : trip_k0_t3.sl.v1408 i arg5 arg11 arg12 X_arg5 X_arg12 = SC (kb 2 (8 * ((i 2).val / 4) + 3)) (q 2) := by
  unfold trip_k0_t3.sl.v1408 trip_k0_t3.sl.HW_arg11_6
  refine (rc_hit _ _ _ _ _).trans ?_
  refine Eq.trans ?_ (show SC (kb 2 (8 * ((i 2).val / 4) + 3)) (q 2) = SC (kb 2 (8 * ((i 2).val / 4) + 3)) (q 2) from rfl)
  rw [o_t3_off40_i_1_eq  h5, h12 2]
  rfl

theorem v1619_eq : trip_k0_t3.sl.v1619 i arg5 arg11 arg12 X_arg5 X_arg12 = SC (kb 3 (8 * ((i 2).val / 4) + 3)) (q 3) := by
  unfold trip_k0_t3.sl.v1619 trip_k0_t3.sl.HW_arg11_8
  refine (rc_hit _ _ _ _ _).trans ?_
  refine Eq.trans ?_ (show SC (kb 3 (8 * ((i 2).val / 4) + 3)) (q 3) = SC (kb 3 (8 * ((i 2).val / 4) + 3)) (q 3) from rfl)
  rw [o_t3_off46_i_1_eq  h5, h12 3]
  rfl

theorem v1575_eq : trip_k0_t3.sl.v1575 i arg5 arg10 arg12 X_arg5 X_arg12 = SC (kb 3 (8 * ((i 2).val / 4) + 2)) (q 3) := by
  unfold trip_k0_t3.sl.v1575 trip_k0_t3.sl.HW_arg10_7
  refine (rc_hit _ _ _ _ _).trans ?_
  refine Eq.trans ?_ (show SC (kb 3 (8 * ((i 2).val / 4) + 2)) (q 3) = SC (kb 3 (8 * ((i 2).val / 4) + 2)) (q 3) from rfl)
  rw [o_t3_off43_i_2_eq  h5, h12 3]
  rfl

theorem v1513_eq : trip_k0_t3.sl.v1513 i arg5 arg11 arg12 X_arg5 X_arg12 = SC (kb 3 (8 * ((i 2).val / 4) + 1)) (q 3) := by
  unfold trip_k0_t3.sl.v1513 trip_k0_t3.sl.HW_arg11_7
  refine (rc_hit _ _ _ _ _).trans ?_
  refine Eq.trans ?_ (show SC (kb 3 (8 * ((i 2).val / 4) + 1)) (q 3) = SC (kb 3 (8 * ((i 2).val / 4) + 1)) (q 3) from rfl)
  rw [o_t3_off43_i_1_eq  h5, h12 3]
  rfl

theorem v1469_eq : trip_k0_t3.sl.v1469 arg10 f_arg10 = SC (kb 3 (8 * ((i 2).val / 4))) (q 3) := by
  unfold trip_k0_t3.sl.v1469
  exact h10 _ _

theorem v1471_eq : trip_k0_t3.sl.v1471 arg8 f_arg8 = MM (kb 3) (q 3) (8 * ((i 2).val / 4)) := by
  unfold trip_k0_t3.sl.v1471
  exact h8 _ _

theorem v1515_eq : trip_k0_t3.sl.v1515 i arg5 arg8 arg10 arg11 arg12 X_arg5 X_arg12 f_arg8 f_arg10 = MM (kb 3) (q 3) (8 * ((i 2).val / 4) + 1) := by
  unfold trip_k0_t3.sl.v1515 trip_k0_t3.sl.HW_arg8_13
  refine (rc_hit _ _ _ _ _).trans ?_
  refine Eq.trans ?_ (show MF (SC (kb 3 (8 * ((i 2).val / 4))) (q 3)) (MM (kb 3) (q 3) (8 * ((i 2).val / 4))) = MM (kb 3) (q 3) (8 * ((i 2).val / 4) + 1) from rfl)
  unfold trip_k0_t3.sl.r_28
  rw [v1469_eq h5 h6 h12 h8 h9 h10, v1471_eq h5 h6 h12 h8 h9 h10]
  rfl

theorem v1577_eq : trip_k0_t3.sl.v1577 i arg5 arg8 arg10 arg11 arg12 X_arg5 X_arg12 f_arg8 f_arg10 = MM (kb 3) (q 3) (8 * ((i 2).val / 4) + 2) := by
  unfold trip_k0_t3.sl.v1577 trip_k0_t3.sl.HW_arg8_14
  refine (rc_hit _ _ _ _ _).trans ?_
  refine Eq.trans ?_ (show MF (SC (kb 3 (8 * ((i 2).val / 4) + 1)) (q 3)) (MM (kb 3) (q 3) (8 * ((i 2).val / 4) + 1)) = MM (kb 3) (q 3) (8 * ((i 2).val / 4) + 2) from rfl)
  rw [v1513_eq h5 h6 h12 h8 h9 h10, v1515_eq h5 h6 h12 h8 h9 h10]
  rfl

theorem v1621_eq : trip_k0_t3.sl.v1621 i arg5 arg8 arg10 arg11 arg12 X_arg5 X_arg12 f_arg8 f_arg10 = MM (kb 3) (q 3) (8 * ((i 2).val / 4) + 3) := by
  unfold trip_k0_t3.sl.v1621 trip_k0_t3.sl.HW_arg8_15
  refine (rc_hit _ _ _ _ _).trans ?_
  refine Eq.trans ?_ (show MF (SC (kb 3 (8 * ((i 2).val / 4) + 2)) (q 3)) (MM (kb 3) (q 3) (8 * ((i 2).val / 4) + 2)) = MM (kb 3) (q 3) (8 * ((i 2).val / 4) + 3) from rfl)
  unfold trip_k0_t3.sl.r_32
  rw [v1575_eq h5 h6 h12 h8 h9 h10, v1577_eq h5 h6 h12 h8 h9 h10]
  rfl

theorem v897_eq : trip_k0_t3.sl.v897 i arg6 arg8 arg9 arg10 v0 X_arg6 f_arg8 f_arg9 f_arg10 = AA v0 (kb 0) (vb 0) (q 0) (8 * ((i 2).val / 4) + 1) := by
  unfold trip_k0_t3.sl.v897 trip_k0_t3.sl.HW_arg9_1
  refine (rc_hit _ _ _ _ _).trans ?_
  refine Eq.trans ?_ (show AF v0 (SC (kb 0 (8 * ((i 2).val / 4))) (q 0)) (MM (kb 0) (q 0) (8 * ((i 2).val / 4))) (vb 0 (8 * ((i 2).val / 4))) (AA v0 (kb 0) (vb 0) (q 0) (8 * ((i 2).val / 4))) = AA v0 (kb 0) (vb 0) (q 0) (8 * ((i 2).val / 4) + 1) from rfl)
  unfold trip_k0_t3.sl.r
  rw [o_t3_off26_i_eq  h6, h8 0, h9 0, h10 0]
  rfl

theorem v959_eq : trip_k0_t3.sl.v959 i arg5 arg6 arg8 arg9 arg10 arg11 arg12 v0 X_arg5 X_arg6 X_arg12 f_arg8 f_arg9 f_arg10 = AA v0 (kb 0) (vb 0) (q 0) (8 * ((i 2).val / 4) + 2) := by
  unfold trip_k0_t3.sl.v959 trip_k0_t3.sl.HW_arg9_2
  refine (rc_hit _ _ _ _ _).trans ?_
  refine Eq.trans ?_ (show AF v0 (SC (kb 0 (8 * ((i 2).val / 4) + 1)) (q 0)) (MM (kb 0) (q 0) (8 * ((i 2).val / 4) + 1)) (vb 0 (8 * ((i 2).val / 4) + 1)) (AA v0 (kb 0) (vb 0) (q 0) (8 * ((i 2).val / 4) + 1)) = AA v0 (kb 0) (vb 0) (q 0) (8 * ((i 2).val / 4) + 2) from rfl)
  rw [v880_eq h5 h6 h12 h8 h9 h10, v882_eq h5 h6 h12 h8 h9 h10, v897_eq h5 h6 h12 h8 h9 h10, o_t3_off27_i_eq  h6]
  rfl

theorem v1003_eq : trip_k0_t3.sl.v1003 i arg5 arg6 arg8 arg9 arg10 arg11 arg12 v0 X_arg5 X_arg6 X_arg12 f_arg8 f_arg9 f_arg10 = AA v0 (kb 0) (vb 0) (q 0) (8 * ((i 2).val / 4) + 3) := by
  unfold trip_k0_t3.sl.v1003 trip_k0_t3.sl.HW_arg9_3
  refine (rc_hit _ _ _ _ _).trans ?_
  refine Eq.trans ?_ (show AF v0 (SC (kb 0 (8 * ((i 2).val / 4) + 2)) (q 0)) (MM (kb 0) (q 0) (8 * ((i 2).val / 4) + 2)) (vb 0 (8 * ((i 2).val / 4) + 2)) (AA v0 (kb 0) (vb 0) (q 0) (8 * ((i 2).val / 4) + 2)) = AA v0 (kb 0) (vb 0) (q 0) (8 * ((i 2).val / 4) + 3) from rfl)
  rw [v942_eq h5 h6 h12 h8 h9 h10, v944_eq h5 h6 h12 h8 h9 h10, v959_eq h5 h6 h12 h8 h9 h10, o_t3_off29_i_eq  h6]
  rfl

theorem v1064_eq : trip_k0_t3.sl.v1064 arg9 f_arg9 = AA v0 (kb 1) (vb 1) (q 1) (8 * ((i 2).val / 4)) := by
  unfold trip_k0_t3.sl.v1064
  exact h9 _ _

theorem v1108_eq : trip_k0_t3.sl.v1108 i arg5 arg6 arg8 arg9 arg10 arg11 arg12 v0 X_arg5 X_arg6 X_arg12 f_arg8 f_arg9 f_arg10 = AA v0 (kb 1) (vb 1) (q 1) (8 * ((i 2).val / 4) + 1) := by
  unfold trip_k0_t3.sl.v1108 trip_k0_t3.sl.HW_arg9_5
  refine (rc_hit _ _ _ _ _).trans ?_
  refine Eq.trans ?_ (show AF v0 (SC (kb 1 (8 * ((i 2).val / 4))) (q 1)) (MM (kb 1) (q 1) (8 * ((i 2).val / 4))) (vb 1 (8 * ((i 2).val / 4))) (AA v0 (kb 1) (vb 1) (q 1) (8 * ((i 2).val / 4))) = AA v0 (kb 1) (vb 1) (q 1) (8 * ((i 2).val / 4) + 1) from rfl)
  rw [v1047_eq h5 h6 h12 h8 h9 h10, v1049_eq h5 h6 h12 h8 h9 h10, v1064_eq h5 h6 h12 h8 h9 h10, o_t3_off32_i_eq  h6]
  rfl

theorem v1170_eq : trip_k0_t3.sl.v1170 i arg5 arg6 arg8 arg9 arg10 arg11 arg12 v0 X_arg5 X_arg6 X_arg12 f_arg8 f_arg9 f_arg10 = AA v0 (kb 1) (vb 1) (q 1) (8 * ((i 2).val / 4) + 2) := by
  unfold trip_k0_t3.sl.v1170 trip_k0_t3.sl.HW_arg9_6
  refine (rc_hit _ _ _ _ _).trans ?_
  refine Eq.trans ?_ (show AF v0 (SC (kb 1 (8 * ((i 2).val / 4) + 1)) (q 1)) (MM (kb 1) (q 1) (8 * ((i 2).val / 4) + 1)) (vb 1 (8 * ((i 2).val / 4) + 1)) (AA v0 (kb 1) (vb 1) (q 1) (8 * ((i 2).val / 4) + 1)) = AA v0 (kb 1) (vb 1) (q 1) (8 * ((i 2).val / 4) + 2) from rfl)
  unfold trip_k0_t3.sl.r_11 trip_k0_t3.sl.r_10 trip_k0_t3.sl.r_9
  rw [v1108_eq h5 h6 h12 h8 h9 h10, v1091_eq h5 h6 h12 h8 h9 h10, v1093_eq h5 h6 h12 h8 h9 h10, o_t3_off33_i_eq  h6]
  rfl

theorem v1214_eq : trip_k0_t3.sl.v1214 i arg5 arg6 arg8 arg9 arg10 arg11 arg12 v0 X_arg5 X_arg6 X_arg12 f_arg8 f_arg9 f_arg10 = AA v0 (kb 1) (vb 1) (q 1) (8 * ((i 2).val / 4) + 3) := by
  unfold trip_k0_t3.sl.v1214 trip_k0_t3.sl.HW_arg9_7
  refine (rc_hit _ _ _ _ _).trans ?_
  refine Eq.trans ?_ (show AF v0 (SC (kb 1 (8 * ((i 2).val / 4) + 2)) (q 1)) (MM (kb 1) (q 1) (8 * ((i 2).val / 4) + 2)) (vb 1 (8 * ((i 2).val / 4) + 2)) (AA v0 (kb 1) (vb 1) (q 1) (8 * ((i 2).val / 4) + 2)) = AA v0 (kb 1) (vb 1) (q 1) (8 * ((i 2).val / 4) + 3) from rfl)
  unfold trip_k0_t3.sl.r_14
  rw [v1153_eq h5 h6 h12 h8 h9 h10, v1155_eq h5 h6 h12 h8 h9 h10, v1170_eq h5 h6 h12 h8 h9 h10, o_t3_off35_i_eq  h6]
  rfl

theorem v1275_eq : trip_k0_t3.sl.v1275 arg9 f_arg9 = AA v0 (kb 2) (vb 2) (q 2) (8 * ((i 2).val / 4)) := by
  unfold trip_k0_t3.sl.v1275
  exact h9 _ _

theorem v1319_eq : trip_k0_t3.sl.v1319 i arg5 arg6 arg8 arg9 arg10 arg11 arg12 v0 X_arg5 X_arg6 X_arg12 f_arg8 f_arg9 f_arg10 = AA v0 (kb 2) (vb 2) (q 2) (8 * ((i 2).val / 4) + 1) := by
  unfold trip_k0_t3.sl.v1319 trip_k0_t3.sl.HW_arg9_9
  refine (rc_hit _ _ _ _ _).trans ?_
  refine Eq.trans ?_ (show AF v0 (SC (kb 2 (8 * ((i 2).val / 4))) (q 2)) (MM (kb 2) (q 2) (8 * ((i 2).val / 4))) (vb 2 (8 * ((i 2).val / 4))) (AA v0 (kb 2) (vb 2) (q 2) (8 * ((i 2).val / 4))) = AA v0 (kb 2) (vb 2) (q 2) (8 * ((i 2).val / 4) + 1) from rfl)
  unfold trip_k0_t3.sl.r_19
  rw [v1258_eq h5 h6 h12 h8 h9 h10, v1260_eq h5 h6 h12 h8 h9 h10, v1275_eq h5 h6 h12 h8 h9 h10, o_t3_off38_i_eq  h6]
  rfl

theorem v1381_eq : trip_k0_t3.sl.v1381 i arg5 arg6 arg8 arg9 arg10 arg11 arg12 v0 X_arg5 X_arg6 X_arg12 f_arg8 f_arg9 f_arg10 = AA v0 (kb 2) (vb 2) (q 2) (8 * ((i 2).val / 4) + 2) := by
  unfold trip_k0_t3.sl.v1381 trip_k0_t3.sl.HW_arg9_10
  refine (rc_hit _ _ _ _ _).trans ?_
  refine Eq.trans ?_ (show AF v0 (SC (kb 2 (8 * ((i 2).val / 4) + 1)) (q 2)) (MM (kb 2) (q 2) (8 * ((i 2).val / 4) + 1)) (vb 2 (8 * ((i 2).val / 4) + 1)) (AA v0 (kb 2) (vb 2) (q 2) (8 * ((i 2).val / 4) + 1)) = AA v0 (kb 2) (vb 2) (q 2) (8 * ((i 2).val / 4) + 2) from rfl)
  unfold trip_k0_t3.sl.r_22 trip_k0_t3.sl.r_21 trip_k0_t3.sl.r_20
  rw [v1319_eq h5 h6 h12 h8 h9 h10, v1302_eq h5 h6 h12 h8 h9 h10, v1304_eq h5 h6 h12 h8 h9 h10, o_t3_off39_i_eq  h6]
  rfl

theorem v1425_eq : trip_k0_t3.sl.v1425 i arg5 arg6 arg8 arg9 arg10 arg11 arg12 v0 X_arg5 X_arg6 X_arg12 f_arg8 f_arg9 f_arg10 = AA v0 (kb 2) (vb 2) (q 2) (8 * ((i 2).val / 4) + 3) := by
  unfold trip_k0_t3.sl.v1425 trip_k0_t3.sl.HW_arg9_11
  refine (rc_hit _ _ _ _ _).trans ?_
  refine Eq.trans ?_ (show AF v0 (SC (kb 2 (8 * ((i 2).val / 4) + 2)) (q 2)) (MM (kb 2) (q 2) (8 * ((i 2).val / 4) + 2)) (vb 2 (8 * ((i 2).val / 4) + 2)) (AA v0 (kb 2) (vb 2) (q 2) (8 * ((i 2).val / 4) + 2)) = AA v0 (kb 2) (vb 2) (q 2) (8 * ((i 2).val / 4) + 3) from rfl)
  unfold trip_k0_t3.sl.r_26 trip_k0_t3.sl.r_25 trip_k0_t3.sl.r_24
  rw [v1381_eq h5 h6 h12 h8 h9 h10, v1364_eq h5 h6 h12 h8 h9 h10, v1366_eq h5 h6 h12 h8 h9 h10, o_t3_off41_i_eq  h6]
  rfl

theorem v1486_eq : trip_k0_t3.sl.v1486 arg9 f_arg9 = AA v0 (kb 3) (vb 3) (q 3) (8 * ((i 2).val / 4)) := by
  unfold trip_k0_t3.sl.v1486
  exact h9 _ _

theorem v1530_eq : trip_k0_t3.sl.v1530 i arg5 arg6 arg8 arg9 arg10 arg11 arg12 v0 X_arg5 X_arg6 X_arg12 f_arg8 f_arg9 f_arg10 = AA v0 (kb 3) (vb 3) (q 3) (8 * ((i 2).val / 4) + 1) := by
  unfold trip_k0_t3.sl.v1530 trip_k0_t3.sl.HW_arg9_13
  refine (rc_hit _ _ _ _ _).trans ?_
  refine Eq.trans ?_ (show AF v0 (SC (kb 3 (8 * ((i 2).val / 4))) (q 3)) (MM (kb 3) (q 3) (8 * ((i 2).val / 4))) (vb 3 (8 * ((i 2).val / 4))) (AA v0 (kb 3) (vb 3) (q 3) (8 * ((i 2).val / 4))) = AA v0 (kb 3) (vb 3) (q 3) (8 * ((i 2).val / 4) + 1) from rfl)
  unfold trip_k0_t3.sl.r_30 trip_k0_t3.sl.r_29
  rw [v1486_eq h5 h6 h12 h8 h9 h10, v1469_eq h5 h6 h12 h8 h9 h10, v1471_eq h5 h6 h12 h8 h9 h10, o_t3_off44_i_eq  h6]
  rfl

theorem v1592_eq : trip_k0_t3.sl.v1592 i arg5 arg6 arg8 arg9 arg10 arg11 arg12 v0 X_arg5 X_arg6 X_arg12 f_arg8 f_arg9 f_arg10 = AA v0 (kb 3) (vb 3) (q 3) (8 * ((i 2).val / 4) + 2) := by
  unfold trip_k0_t3.sl.v1592 trip_k0_t3.sl.HW_arg9_14
  refine (rc_hit _ _ _ _ _).trans ?_
  refine Eq.trans ?_ (show AF v0 (SC (kb 3 (8 * ((i 2).val / 4) + 1)) (q 3)) (MM (kb 3) (q 3) (8 * ((i 2).val / 4) + 1)) (vb 3 (8 * ((i 2).val / 4) + 1)) (AA v0 (kb 3) (vb 3) (q 3) (8 * ((i 2).val / 4) + 1)) = AA v0 (kb 3) (vb 3) (q 3) (8 * ((i 2).val / 4) + 2) from rfl)
  rw [v1513_eq h5 h6 h12 h8 h9 h10, v1515_eq h5 h6 h12 h8 h9 h10, v1530_eq h5 h6 h12 h8 h9 h10, o_t3_off45_i_eq  h6]
  rfl

theorem v1636_eq : trip_k0_t3.sl.v1636 i arg5 arg6 arg8 arg9 arg10 arg11 arg12 v0 X_arg5 X_arg6 X_arg12 f_arg8 f_arg9 f_arg10 = AA v0 (kb 3) (vb 3) (q 3) (8 * ((i 2).val / 4) + 3) := by
  unfold trip_k0_t3.sl.v1636 trip_k0_t3.sl.HW_arg9_15
  refine (rc_hit _ _ _ _ _).trans ?_
  refine Eq.trans ?_ (show AF v0 (SC (kb 3 (8 * ((i 2).val / 4) + 2)) (q 3)) (MM (kb 3) (q 3) (8 * ((i 2).val / 4) + 2)) (vb 3 (8 * ((i 2).val / 4) + 2)) (AA v0 (kb 3) (vb 3) (q 3) (8 * ((i 2).val / 4) + 2)) = AA v0 (kb 3) (vb 3) (q 3) (8 * ((i 2).val / 4) + 3) from rfl)
  unfold trip_k0_t3.sl.r_33 trip_k0_t3.sl.r_32 trip_k0_t3.sl.r_31
  rw [v1592_eq h5 h6 h12 h8 h9 h10, v1575_eq h5 h6 h12 h8 h9 h10, v1577_eq h5 h6 h12 h8 h9 h10, o_t3_off47_i_eq  h6]
  rfl

theorem trip8 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : Ms arg8 (arg8.view.writes (Elt F) f_arg8 ((tripL_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).1)) (fun hh => MM (kb hh) (q hh) (8 * ((i 2).val / 4) + 4)) := by
  intro hh inb
  have hlt : hh < 4 := by have := inb 0; exact Nat.lt_of_succ_le this
  unfold tripL_k0_t3 trip_k0_t3 trip_k0_t3.sl.HW_arg8_15 trip_k0_t3.sl.HW_arg8_14 trip_k0_t3.sl.HW_arg8_13 trip_k0_t3.sl.HW_arg8_11 trip_k0_t3.sl.HW_arg8_10 trip_k0_t3.sl.HW_arg8_9 trip_k0_t3.sl.HW_arg8_7 trip_k0_t3.sl.HW_arg8_6 trip_k0_t3.sl.HW_arg8_5 trip_k0_t3.sl.HW_arg8_3 trip_k0_t3.sl.HW_arg8_2 trip_k0_t3.sl.HW_arg8_1
  dsimp only
  obtain rfl | rfl | rfl | rfl : hh = 0 ∨ hh = 1 ∨ hh = 2 ∨ hh = 3 := by omega
  · refine (ra_miss _ _ _ _ _ _ rfl rfl (by decide)).trans ?_
    iterate 11 refine (ra_miss _ _ _ _ _ _ rfl rfl (by decide)).trans ?_
    refine (ra_hit _ _ _ _ _ _).trans ?_
    refine Eq.trans ?_ (show MF (SC (kb 0 (8 * ((i 2).val / 4) + 3)) (q 0)) (MM (kb 0) (q 0) (8 * ((i 2).val / 4) + 3)) = MM (kb 0) (q 0) (8 * ((i 2).val / 4) + 4) from rfl)
    unfold trip_k0_t3.sl.r_4
    rw [v986_eq h5 h6 h12 h8 h9 h10, v988_eq h5 h6 h12 h8 h9 h10]
    rfl
  · refine (ra_miss _ _ _ _ _ _ rfl rfl (by decide)).trans ?_
    iterate 7 refine (ra_miss _ _ _ _ _ _ rfl rfl (by decide)).trans ?_
    refine (ra_hit _ _ _ _ _ _).trans ?_
    refine Eq.trans ?_ (show MF (SC (kb 1 (8 * ((i 2).val / 4) + 3)) (q 1)) (MM (kb 1) (q 1) (8 * ((i 2).val / 4) + 3)) = MM (kb 1) (q 1) (8 * ((i 2).val / 4) + 4) from rfl)
    unfold trip_k0_t3.sl.r_15
    rw [v1197_eq h5 h6 h12 h8 h9 h10, v1199_eq h5 h6 h12 h8 h9 h10]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show MF (SC (kb 2 (8 * ((i 2).val / 4) + 3)) (q 2)) (MM (kb 2) (q 2) (8 * ((i 2).val / 4) + 3)) = MM (kb 2) (q 2) (8 * ((i 2).val / 4) + 4) from rfl)
    unfold trip_k0_t3.sl.r_27
    rw [v1410_eq h5 h6 h12 h8 h9 h10, v1408_eq h5 h6 h12 h8 h9 h10]
    rfl
  · refine (ra_hit _ _ _ _ _ _).trans ?_
    refine Eq.trans ?_ (show MF (SC (kb 3 (8 * ((i 2).val / 4) + 3)) (q 3)) (MM (kb 3) (q 3) (8 * ((i 2).val / 4) + 3)) = MM (kb 3) (q 3) (8 * ((i 2).val / 4) + 4) from rfl)
    unfold trip_k0_t3.sl.r_35
    rw [v1619_eq h5 h6 h12 h8 h9 h10, v1621_eq h5 h6 h12 h8 h9 h10]
    rfl

theorem trip9 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : As arg9 (arg9.view.writes (Elt F) f_arg9 ((tripL_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).2.1)) (fun hh => AA v0 (kb hh) (vb hh) (q hh) (8 * ((i 2).val / 4) + 4)) := by
  intro hh inb
  have hlt : hh < 4 := by have := inb 0; exact Nat.lt_of_succ_le this
  unfold tripL_k0_t3 trip_k0_t3 trip_k0_t3.sl.HW_arg9_15 trip_k0_t3.sl.HW_arg9_14 trip_k0_t3.sl.HW_arg9_13 trip_k0_t3.sl.HW_arg9_11 trip_k0_t3.sl.HW_arg9_10 trip_k0_t3.sl.HW_arg9_9 trip_k0_t3.sl.HW_arg9_7 trip_k0_t3.sl.HW_arg9_6 trip_k0_t3.sl.HW_arg9_5 trip_k0_t3.sl.HW_arg9_3 trip_k0_t3.sl.HW_arg9_2 trip_k0_t3.sl.HW_arg9_1
  dsimp only
  obtain rfl | rfl | rfl | rfl : hh = 0 ∨ hh = 1 ∨ hh = 2 ∨ hh = 3 := by omega
  · refine (ra_miss _ _ _ _ _ _ rfl rfl (by decide)).trans ?_
    iterate 11 refine (ra_miss _ _ _ _ _ _ rfl rfl (by decide)).trans ?_
    refine (ra_hit _ _ _ _ _ _).trans ?_
    refine Eq.trans ?_ (show AF v0 (SC (kb 0 (8 * ((i 2).val / 4) + 3)) (q 0)) (MM (kb 0) (q 0) (8 * ((i 2).val / 4) + 3)) (vb 0 (8 * ((i 2).val / 4) + 3)) (AA v0 (kb 0) (vb 0) (q 0) (8 * ((i 2).val / 4) + 3)) = AA v0 (kb 0) (vb 0) (q 0) (8 * ((i 2).val / 4) + 4) from rfl)
    unfold trip_k0_t3.sl.r_6 trip_k0_t3.sl.r_5
    rw [v986_eq h5 h6 h12 h8 h9 h10, v988_eq h5 h6 h12 h8 h9 h10, v1003_eq h5 h6 h12 h8 h9 h10, o_t3_off30_i_eq  h6]
    rfl
  · refine (ra_miss _ _ _ _ _ _ rfl rfl (by decide)).trans ?_
    iterate 7 refine (ra_miss _ _ _ _ _ _ rfl rfl (by decide)).trans ?_
    refine (ra_hit _ _ _ _ _ _).trans ?_
    refine Eq.trans ?_ (show AF v0 (SC (kb 1 (8 * ((i 2).val / 4) + 3)) (q 1)) (MM (kb 1) (q 1) (8 * ((i 2).val / 4) + 3)) (vb 1 (8 * ((i 2).val / 4) + 3)) (AA v0 (kb 1) (vb 1) (q 1) (8 * ((i 2).val / 4) + 3)) = AA v0 (kb 1) (vb 1) (q 1) (8 * ((i 2).val / 4) + 4) from rfl)
    unfold trip_k0_t3.sl.r_17 trip_k0_t3.sl.r_16
    rw [v1214_eq h5 h6 h12 h8 h9 h10, v1197_eq h5 h6 h12 h8 h9 h10, v1199_eq h5 h6 h12 h8 h9 h10, o_t3_off36_i_eq  h6]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show AF v0 (SC (kb 2 (8 * ((i 2).val / 4) + 3)) (q 2)) (MM (kb 2) (q 2) (8 * ((i 2).val / 4) + 3)) (vb 2 (8 * ((i 2).val / 4) + 3)) (AA v0 (kb 2) (vb 2) (q 2) (8 * ((i 2).val / 4) + 3)) = AA v0 (kb 2) (vb 2) (q 2) (8 * ((i 2).val / 4) + 4) from rfl)
    unfold trip_k0_t3.sl.r_27
    rw [v1410_eq h5 h6 h12 h8 h9 h10, v1425_eq h5 h6 h12 h8 h9 h10, v1408_eq h5 h6 h12 h8 h9 h10, o_t3_off42_i_eq  h6]
    rfl
  · refine (ra_hit _ _ _ _ _ _).trans ?_
    refine Eq.trans ?_ (show AF v0 (SC (kb 3 (8 * ((i 2).val / 4) + 3)) (q 3)) (MM (kb 3) (q 3) (8 * ((i 2).val / 4) + 3)) (vb 3 (8 * ((i 2).val / 4) + 3)) (AA v0 (kb 3) (vb 3) (q 3) (8 * ((i 2).val / 4) + 3)) = AA v0 (kb 3) (vb 3) (q 3) (8 * ((i 2).val / 4) + 4) from rfl)
    unfold trip_k0_t3.sl.r_38 trip_k0_t3.sl.r_37 trip_k0_t3.sl.r_36
    rw [v1636_eq h5 h6 h12 h8 h9 h10, v1619_eq h5 h6 h12 h8 h9 h10, v1621_eq h5 h6 h12 h8 h9 h10, o_t3_off48_i_eq  h6]
    rfl

theorem trip10 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c0_i32_14 : BitVec 32) (v32 : BitVec 32) : Ss arg10 (arg10.view.writes (Elt F) f_arg10 ((tripL_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 k f_arg8 f_arg9 f_arg10 f_arg11).2.2.1)) (fun hh => SC (kb hh (8 * ((i 2).val / 4) + 4)) (q hh)) := by
  intro hh inb
  have hlt : hh < 4 := by have := inb 0; exact Nat.lt_of_succ_le this
  unfold tripL_k0_t3 trip_k0_t3 trip_k0_t3.sl.HW_arg10_7 trip_k0_t3.sl.HW_arg10_5 trip_k0_t3.sl.HW_arg10_3 trip_k0_t3.sl.HW_arg10_1
  dsimp only
  obtain rfl | rfl | rfl | rfl : hh = 0 ∨ hh = 1 ∨ hh = 2 ∨ hh = 3 := by omega
  · refine (ra_miss _ _ _ _ _ _ rfl rfl (by decide)).trans ?_
    iterate 5 refine (ra_miss _ _ _ _ _ _ rfl rfl (by decide)).trans ?_
    refine (ra_hit _ _ _ _ _ _).trans ?_
    refine Eq.trans ?_ (show SC (kb 0 (8 * ((i 2).val / 4) + 4)) (q 0) = SC (kb 0 (8 * ((i 2).val / 4) + 4)) (q 0) from rfl)
    rw [o_t3_off28_i_2_eq  h5, h12 0]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show SC (kb 1 (8 * ((i 2).val / 4) + 4)) (q 1) = SC (kb 1 (8 * ((i 2).val / 4) + 4)) (q 1) from rfl)
    rw [o_t3_off34_i_2_eq  h5, h12 1]
    rfl
  · refine (ra_miss _ _ _ _ _ _ rfl rfl (by decide)).trans ?_
    refine (ra_miss _ _ _ _ _ _ rfl rfl (by decide)).trans ?_
    refine (ra_hit _ _ _ _ _ _).trans ?_
    refine Eq.trans ?_ (show SC (kb 2 (8 * ((i 2).val / 4) + 4)) (q 2) = SC (kb 2 (8 * ((i 2).val / 4) + 4)) (q 2) from rfl)
    rw [o_t3_off40_i_2_eq  h5, h12 2]
    rfl
  · refine (ra_hit _ _ _ _ _ _).trans ?_
    refine Eq.trans ?_ (show SC (kb 3 (8 * ((i 2).val / 4) + 4)) (q 3) = SC (kb 3 (8 * ((i 2).val / 4) + 4)) (q 3) from rfl)
    unfold trip_k0_t3.sl.r_34
    rw [o_t3_off46_i_2_eq  h5, h12 3]
    rfl

end

end Cert.KernelIdeal.Att.T3

end
-- ==== Proof.AttTrip5.lean ====
/- One trip of the body's key-block loop `k0_t5_loop`: 1 pair(s) of key blocks per head. Head by head. -/
module

public import proofs.«01_k».proof.Proof.AttSem
public import proofs.«01_k».proof.Proof.Gen.KernelIdeal.Loops

@[expose] public section

set_option maxRecDepth 16384

noncomputable section

namespace Cert.KernelIdeal.Att.T5

open Cert.KernelIdeal Cert.KernelIdeal.Gen Cert.KernelIdeal.Att Idealize.ShloMosaic Idealize.ShloMosaic.View

variable {F : FTy → Type} [FloatOps F]

theorem o_t5_off73_i_1 (i : grid0.Coords) (k : Fin (k0_t5_loop i).trips) : k0_off73 i 1#32 = ![0, 256 * (2 * ((i 2).val - 1) + 1), 0] := by
  have hi : (i 2).val < 16 := (i 2).isLt
  have hp : 0 < (k0_t5_loop i).trips := Nat.lt_of_le_of_lt (Nat.zero_le _) k.isLt
  clear k
  unfold k0_t5_loop at hp
  unfold k0_off73
  dsimp only at hp ⊢
  generalize (i 2).val = n at hi hp ⊢
  interval_cases n <;> first | rfl | exact absurd hp (by decide)

theorem o_t5_off73_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off73 i 1#32) a + S1x256x128.size a ≤ S1x8192x512.size a) :
    View.readAt (Elt F) arg5.view (Rect.unit (s := S1x8192x512) (k0_off73 i 1#32) S1x256x128.size inb).toLoadRect X_arg5 = kb 0 (2 * ((i 2).val - 1) + 1) :=
  (View.readAt_unit_eq_of_eq arg5.view inb (o_t5_off73_i_1 i k) X_arg5).trans (hX 0 (2 * ((i 2).val - 1) + 1) _ _ rfl rfl _)

theorem o_t5_off76_i_1 (i : grid0.Coords) (k : Fin (k0_t5_loop i).trips) : k0_off76 i 1#32 = ![0, 256 * (2 * ((i 2).val - 1) + 1), 128] := by
  have hi : (i 2).val < 16 := (i 2).isLt
  have hp : 0 < (k0_t5_loop i).trips := Nat.lt_of_le_of_lt (Nat.zero_le _) k.isLt
  clear k
  unfold k0_t5_loop at hp
  unfold k0_off76
  dsimp only at hp ⊢
  generalize (i 2).val = n at hi hp ⊢
  interval_cases n <;> first | rfl | exact absurd hp (by decide)

theorem o_t5_off76_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off76 i 1#32) a + S1x256x128.size a ≤ S1x8192x512.size a) :
    View.readAt (Elt F) arg5.view (Rect.unit (s := S1x8192x512) (k0_off76 i 1#32) S1x256x128.size inb).toLoadRect X_arg5 = kb 1 (2 * ((i 2).val - 1) + 1) :=
  (View.readAt_unit_eq_of_eq arg5.view inb (o_t5_off76_i_1 i k) X_arg5).trans (hX 1 (2 * ((i 2).val - 1) + 1) _ _ rfl rfl _)

theorem o_t5_off79_i_1 (i : grid0.Coords) (k : Fin (k0_t5_loop i).trips) : k0_off79 i 1#32 = ![0, 256 * (2 * ((i 2).val - 1) + 1), 256] := by
  have hi : (i 2).val < 16 := (i 2).isLt
  have hp : 0 < (k0_t5_loop i).trips := Nat.lt_of_le_of_lt (Nat.zero_le _) k.isLt
  clear k
  unfold k0_t5_loop at hp
  unfold k0_off79
  dsimp only at hp ⊢
  generalize (i 2).val = n at hi hp ⊢
  interval_cases n <;> first | rfl | exact absurd hp (by decide)

theorem o_t5_off79_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off79 i 1#32) a + S1x256x128.size a ≤ S1x8192x512.size a) :
    View.readAt (Elt F) arg5.view (Rect.unit (s := S1x8192x512) (k0_off79 i 1#32) S1x256x128.size inb).toLoadRect X_arg5 = kb 2 (2 * ((i 2).val - 1) + 1) :=
  (View.readAt_unit_eq_of_eq arg5.view inb (o_t5_off79_i_1 i k) X_arg5).trans (hX 2 (2 * ((i 2).val - 1) + 1) _ _ rfl rfl _)

theorem o_t5_off82_i_1 (i : grid0.Coords) (k : Fin (k0_t5_loop i).trips) : k0_off82 i 1#32 = ![0, 256 * (2 * ((i 2).val - 1) + 1), 384] := by
  have hi : (i 2).val < 16 := (i 2).isLt
  have hp : 0 < (k0_t5_loop i).trips := Nat.lt_of_le_of_lt (Nat.zero_le _) k.isLt
  clear k
  unfold k0_t5_loop at hp
  unfold k0_off82
  dsimp only at hp ⊢
  generalize (i 2).val = n at hi hp ⊢
  interval_cases n <;> first | rfl | exact absurd hp (by decide)

theorem o_t5_off82_i_1_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off82 i 1#32) a + S1x256x128.size a ≤ S1x8192x512.size a) :
    View.readAt (Elt F) arg5.view (Rect.unit (s := S1x8192x512) (k0_off82 i 1#32) S1x256x128.size inb).toLoadRect X_arg5 = kb 3 (2 * ((i 2).val - 1) + 1) :=
  (View.readAt_unit_eq_of_eq arg5.view inb (o_t5_off82_i_1 i k) X_arg5).trans (hX 3 (2 * ((i 2).val - 1) + 1) _ _ rfl rfl _)

theorem o_t5_off74_i (i : grid0.Coords) (k : Fin (k0_t5_loop i).trips) : k0_off74 i = ![0, (2 * ((i 2).val - 1)), 0, 0] := by
  have hi : (i 2).val < 16 := (i 2).isLt
  have hp : 0 < (k0_t5_loop i).trips := Nat.lt_of_le_of_lt (Nat.zero_le _) k.isLt
  clear k
  unfold k0_t5_loop at hp
  unfold k0_off74
  dsimp only at hp ⊢
  generalize (i 2).val = n at hi hp ⊢
  interval_cases n <;> first | rfl | exact absurd hp (by decide)

theorem o_t5_off74_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off74 i) a + S1x1x128x256.size a ≤ S1x32x512x256.size a) :
    View.readAt (Elt F) arg6.view (Rect.unit (s := S1x32x512x256) (k0_off74 i) S1x1x128x256.size inb).toLoadRect X_arg6 = vb 0 (2 * ((i 2).val - 1)) :=
  (View.readAt_unit_eq_of_eq arg6.view inb (o_t5_off74_i i k) X_arg6).trans (hX 0 (2 * ((i 2).val - 1)) _ _ rfl rfl _)

theorem o_t5_off75_i (i : grid0.Coords) (k : Fin (k0_t5_loop i).trips) : k0_off75 i = ![0, (2 * ((i 2).val - 1) + 1), 0, 0] := by
  have hi : (i 2).val < 16 := (i 2).isLt
  have hp : 0 < (k0_t5_loop i).trips := Nat.lt_of_le_of_lt (Nat.zero_le _) k.isLt
  clear k
  unfold k0_t5_loop at hp
  unfold k0_off75
  dsimp only at hp ⊢
  generalize (i 2).val = n at hi hp ⊢
  interval_cases n <;> first | rfl | exact absurd hp (by decide)

theorem o_t5_off75_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off75 i) a + S1x1x128x256.size a ≤ S1x32x512x256.size a) :
    View.readAt (Elt F) arg6.view (Rect.unit (s := S1x32x512x256) (k0_off75 i) S1x1x128x256.size inb).toLoadRect X_arg6 = vb 0 (2 * ((i 2).val - 1) + 1) :=
  (View.readAt_unit_eq_of_eq arg6.view inb (o_t5_off75_i i k) X_arg6).trans (hX 0 (2 * ((i 2).val - 1) + 1) _ _ rfl rfl _)

theorem o_t5_off77_i (i : grid0.Coords) (k : Fin (k0_t5_loop i).trips) : k0_off77 i = ![0, (2 * ((i 2).val - 1)), 128, 0] := by
  have hi : (i 2).val < 16 := (i 2).isLt
  have hp : 0 < (k0_t5_loop i).trips := Nat.lt_of_le_of_lt (Nat.zero_le _) k.isLt
  clear k
  unfold k0_t5_loop at hp
  unfold k0_off77
  dsimp only at hp ⊢
  generalize (i 2).val = n at hi hp ⊢
  interval_cases n <;> first | rfl | exact absurd hp (by decide)

theorem o_t5_off77_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off77 i) a + S1x1x128x256.size a ≤ S1x32x512x256.size a) :
    View.readAt (Elt F) arg6.view (Rect.unit (s := S1x32x512x256) (k0_off77 i) S1x1x128x256.size inb).toLoadRect X_arg6 = vb 1 (2 * ((i 2).val - 1)) :=
  (View.readAt_unit_eq_of_eq arg6.view inb (o_t5_off77_i i k) X_arg6).trans (hX 1 (2 * ((i 2).val - 1)) _ _ rfl rfl _)

theorem o_t5_off78_i (i : grid0.Coords) (k : Fin (k0_t5_loop i).trips) : k0_off78 i = ![0, (2 * ((i 2).val - 1) + 1), 128, 0] := by
  have hi : (i 2).val < 16 := (i 2).isLt
  have hp : 0 < (k0_t5_loop i).trips := Nat.lt_of_le_of_lt (Nat.zero_le _) k.isLt
  clear k
  unfold k0_t5_loop at hp
  unfold k0_off78
  dsimp only at hp ⊢
  generalize (i 2).val = n at hi hp ⊢
  interval_cases n <;> first | rfl | exact absurd hp (by decide)

theorem o_t5_off78_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off78 i) a + S1x1x128x256.size a ≤ S1x32x512x256.size a) :
    View.readAt (Elt F) arg6.view (Rect.unit (s := S1x32x512x256) (k0_off78 i) S1x1x128x256.size inb).toLoadRect X_arg6 = vb 1 (2 * ((i 2).val - 1) + 1) :=
  (View.readAt_unit_eq_of_eq arg6.view inb (o_t5_off78_i i k) X_arg6).trans (hX 1 (2 * ((i 2).val - 1) + 1) _ _ rfl rfl _)

theorem o_t5_off80_i (i : grid0.Coords) (k : Fin (k0_t5_loop i).trips) : k0_off80 i = ![0, (2 * ((i 2).val - 1)), 256, 0] := by
  have hi : (i 2).val < 16 := (i 2).isLt
  have hp : 0 < (k0_t5_loop i).trips := Nat.lt_of_le_of_lt (Nat.zero_le _) k.isLt
  clear k
  unfold k0_t5_loop at hp
  unfold k0_off80
  dsimp only at hp ⊢
  generalize (i 2).val = n at hi hp ⊢
  interval_cases n <;> first | rfl | exact absurd hp (by decide)

theorem o_t5_off80_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off80 i) a + S1x1x128x256.size a ≤ S1x32x512x256.size a) :
    View.readAt (Elt F) arg6.view (Rect.unit (s := S1x32x512x256) (k0_off80 i) S1x1x128x256.size inb).toLoadRect X_arg6 = vb 2 (2 * ((i 2).val - 1)) :=
  (View.readAt_unit_eq_of_eq arg6.view inb (o_t5_off80_i i k) X_arg6).trans (hX 2 (2 * ((i 2).val - 1)) _ _ rfl rfl _)

theorem o_t5_off81_i (i : grid0.Coords) (k : Fin (k0_t5_loop i).trips) : k0_off81 i = ![0, (2 * ((i 2).val - 1) + 1), 256, 0] := by
  have hi : (i 2).val < 16 := (i 2).isLt
  have hp : 0 < (k0_t5_loop i).trips := Nat.lt_of_le_of_lt (Nat.zero_le _) k.isLt
  clear k
  unfold k0_t5_loop at hp
  unfold k0_off81
  dsimp only at hp ⊢
  generalize (i 2).val = n at hi hp ⊢
  interval_cases n <;> first | rfl | exact absurd hp (by decide)

theorem o_t5_off81_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off81 i) a + S1x1x128x256.size a ≤ S1x32x512x256.size a) :
    View.readAt (Elt F) arg6.view (Rect.unit (s := S1x32x512x256) (k0_off81 i) S1x1x128x256.size inb).toLoadRect X_arg6 = vb 2 (2 * ((i 2).val - 1) + 1) :=
  (View.readAt_unit_eq_of_eq arg6.view inb (o_t5_off81_i i k) X_arg6).trans (hX 2 (2 * ((i 2).val - 1) + 1) _ _ rfl rfl _)

theorem o_t5_off83_i (i : grid0.Coords) (k : Fin (k0_t5_loop i).trips) : k0_off83 i = ![0, (2 * ((i 2).val - 1)), 384, 0] := by
  have hi : (i 2).val < 16 := (i 2).isLt
  have hp : 0 < (k0_t5_loop i).trips := Nat.lt_of_le_of_lt (Nat.zero_le _) k.isLt
  clear k
  unfold k0_t5_loop at hp
  unfold k0_off83
  dsimp only at hp ⊢
  generalize (i 2).val = n at hi hp ⊢
  interval_cases n <;> first | rfl | exact absurd hp (by decide)

theorem o_t5_off83_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off83 i) a + S1x1x128x256.size a ≤ S1x32x512x256.size a) :
    View.readAt (Elt F) arg6.view (Rect.unit (s := S1x32x512x256) (k0_off83 i) S1x1x128x256.size inb).toLoadRect X_arg6 = vb 3 (2 * ((i 2).val - 1)) :=
  (View.readAt_unit_eq_of_eq arg6.view inb (o_t5_off83_i i k) X_arg6).trans (hX 3 (2 * ((i 2).val - 1)) _ _ rfl rfl _)

theorem o_t5_off84_i (i : grid0.Coords) (k : Fin (k0_t5_loop i).trips) : k0_off84 i = ![0, (2 * ((i 2).val - 1) + 1), 384, 0] := by
  have hi : (i 2).val < 16 := (i 2).isLt
  have hp : 0 < (k0_t5_loop i).trips := Nat.lt_of_le_of_lt (Nat.zero_le _) k.isLt
  clear k
  unfold k0_t5_loop at hp
  unfold k0_off84
  dsimp only at hp ⊢
  generalize (i 2).val = n at hi hp ⊢
  interval_cases n <;> first | rfl | exact absurd hp (by decide)

theorem o_t5_off84_i_eq {arg6 : Memref sig .tc .vmem S1x32x512x256 .bf16} {X_arg6 : arg6.view.ty.Contents (Elt F)}
    {vb : ℕ → ℕ → Vec F S1x1x128x256 .bf16} (hX : Vals arg6 X_arg6 vb) {i : grid0.Coords} {k : Fin (k0_t5_loop i).trips} (inb : ∀ a, (k0_off84 i) a + S1x1x128x256.size a ≤ S1x32x512x256.size a) :
    View.readAt (Elt F) arg6.view (Rect.unit (s := S1x32x512x256) (k0_off84 i) S1x1x128x256.size inb).toLoadRect X_arg6 = vb 3 (2 * ((i 2).val - 1) + 1) :=
  (View.readAt_unit_eq_of_eq arg6.view inb (o_t5_off84_i i k) X_arg6).trans (hX 3 (2 * ((i 2).val - 1) + 1) _ _ rfl rfl _)

theorem o_t5_off73_i_2 (i : grid0.Coords) (k : Fin (k0_t5_loop i).trips) : k0_off73 i 2#32 = ![0, 256 * (2 * ((i 2).val - 1) + 2), 0] := by
  have hi : (i 2).val < 16 := (i 2).isLt
  have hp : 0 < (k0_t5_loop i).trips := Nat.lt_of_le_of_lt (Nat.zero_le _) k.isLt
  clear k
  unfold k0_t5_loop at hp
  unfold k0_off73
  dsimp only at hp ⊢
  generalize (i 2).val = n at hi hp ⊢
  interval_cases n <;> first | rfl | exact absurd hp (by decide)

theorem o_t5_off73_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off73 i 2#32) a + S1x256x128.size a ≤ S1x8192x512.size a) :
    View.readAt (Elt F) arg5.view (Rect.unit (s := S1x8192x512) (k0_off73 i 2#32) S1x256x128.size inb).toLoadRect X_arg5 = kb 0 (2 * ((i 2).val - 1) + 2) :=
  (View.readAt_unit_eq_of_eq arg5.view inb (o_t5_off73_i_2 i k) X_arg5).trans (hX 0 (2 * ((i 2).val - 1) + 2) _ _ rfl rfl _)

theorem o_t5_off76_i_2 (i : grid0.Coords) (k : Fin (k0_t5_loop i).trips) : k0_off76 i 2#32 = ![0, 256 * (2 * ((i 2).val - 1) + 2), 128] := by
  have hi : (i 2).val < 16 := (i 2).isLt
  have hp : 0 < (k0_t5_loop i).trips := Nat.lt_of_le_of_lt (Nat.zero_le _) k.isLt
  clear k
  unfold k0_t5_loop at hp
  unfold k0_off76
  dsimp only at hp ⊢
  generalize (i 2).val = n at hi hp ⊢
  interval_cases n <;> first | rfl | exact absurd hp (by decide)

theorem o_t5_off76_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off76 i 2#32) a + S1x256x128.size a ≤ S1x8192x512.size a) :
    View.readAt (Elt F) arg5.view (Rect.unit (s := S1x8192x512) (k0_off76 i 2#32) S1x256x128.size inb).toLoadRect X_arg5 = kb 1 (2 * ((i 2).val - 1) + 2) :=
  (View.readAt_unit_eq_of_eq arg5.view inb (o_t5_off76_i_2 i k) X_arg5).trans (hX 1 (2 * ((i 2).val - 1) + 2) _ _ rfl rfl _)

theorem o_t5_off79_i_2 (i : grid0.Coords) (k : Fin (k0_t5_loop i).trips) : k0_off79 i 2#32 = ![0, 256 * (2 * ((i 2).val - 1) + 2), 256] := by
  have hi : (i 2).val < 16 := (i 2).isLt
  have hp : 0 < (k0_t5_loop i).trips := Nat.lt_of_le_of_lt (Nat.zero_le _) k.isLt
  clear k
  unfold k0_t5_loop at hp
  unfold k0_off79
  dsimp only at hp ⊢
  generalize (i 2).val = n at hi hp ⊢
  interval_cases n <;> first | rfl | exact absurd hp (by decide)

theorem o_t5_off79_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off79 i 2#32) a + S1x256x128.size a ≤ S1x8192x512.size a) :
    View.readAt (Elt F) arg5.view (Rect.unit (s := S1x8192x512) (k0_off79 i 2#32) S1x256x128.size inb).toLoadRect X_arg5 = kb 2 (2 * ((i 2).val - 1) + 2) :=
  (View.readAt_unit_eq_of_eq arg5.view inb (o_t5_off79_i_2 i k) X_arg5).trans (hX 2 (2 * ((i 2).val - 1) + 2) _ _ rfl rfl _)

theorem o_t5_off82_i_2 (i : grid0.Coords) (k : Fin (k0_t5_loop i).trips) : k0_off82 i 2#32 = ![0, 256 * (2 * ((i 2).val - 1) + 2), 384] := by
  have hi : (i 2).val < 16 := (i 2).isLt
  have hp : 0 < (k0_t5_loop i).trips := Nat.lt_of_le_of_lt (Nat.zero_le _) k.isLt
  clear k
  unfold k0_t5_loop at hp
  unfold k0_off82
  dsimp only at hp ⊢
  generalize (i 2).val = n at hi hp ⊢
  interval_cases n <;> first | rfl | exact absurd hp (by decide)

theorem o_t5_off82_i_2_eq {arg5 : Memref sig .tc .vmem S1x8192x512 .bf16} {X_arg5 : arg5.view.ty.Contents (Elt F)}
    {kb : ℕ → ℕ → Vec F S1x256x128 .bf16} (hX : Keys arg5 X_arg5 kb) {i : grid0.Coords} {k : Fin (k0_t5_loop i).trips} (inb : ∀ a, (k0_off82 i 2#32) a + S1x256x128.size a ≤ S1x8192x512.size a) :
    View.readAt (Elt F) arg5.view (Rect.unit (s := S1x8192x512) (k0_off82 i 2#32) S1x256x128.size inb).toLoadRect X_arg5 = kb 3 (2 * ((i 2).val - 1) + 2) :=
  (View.readAt_unit_eq_of_eq arg5.view inb (o_t5_off82_i_2 i k) X_arg5).trans (hX 3 (2 * ((i 2).val - 1) + 2) _ _ rfl rfl _)

section
variable {i : grid0.Coords} {arg5 : Memref sig .tc .vmem S1x8192x512 .bf16} {arg6 : Memref sig .tc .vmem S1x32x512x256 .bf16}
  {arg8 : Memref sig .tc .vmem S4x1x1024 .f32} {arg9 : Memref sig .tc .vmem S4x144x1024 .f32} {arg10 : Memref sig .tc .vmem S4x256x1024 .f32}
  {arg11 : Memref sig .tc .vmem S4x256x1024 .f32} {arg12 : Memref sig .tc .vmem S4x128x1024 .bf16} {v0 : FVec F S16x256 .bf16}
  {X_arg5 : arg5.view.ty.Contents (Elt F)} {X_arg6 : arg6.view.ty.Contents (Elt F)} {X_arg12 : arg12.view.ty.Contents (Elt F)}
  {k : Fin (k0_t5_loop i).trips}
  {f_arg8 : arg8.view.ty.Contents (Elt F)} {f_arg9 : arg9.view.ty.Contents (Elt F)} {f_arg10 : arg10.view.ty.Contents (Elt F)}
  {f_arg11 : arg11.view.ty.Contents (Elt F)}
  {kb : ℕ → ℕ → Vec F S1x256x128 .bf16} {vb : ℕ → ℕ → Vec F S1x1x128x256 .bf16} {q : ℕ → Vec F S1x128x1024 .bf16}
  (h5 : Keys arg5 X_arg5 kb) (h6 : Vals arg6 X_arg6 vb) (h12 : Qs arg12 X_arg12 q)
  (h8 : Ms arg8 f_arg8 fun hh => MM (kb hh) (q hh) (2 * ((i 2).val - 1)))
  (h9 : As arg9 f_arg9 fun hh => AA v0 (kb hh) (vb hh) (q hh) (2 * ((i 2).val - 1)))
  (h10 : Ss arg10 f_arg10 fun hh => SC (kb hh (2 * ((i 2).val - 1))) (q hh))
include h5 h6 h12 h8 h9 h10

theorem v865_eq : trip_k0_t5.sl.v865 arg8 arg10 f_arg8 f_arg10 = MM (kb 0) (q 0) (2 * ((i 2).val - 1) + 1) := by
  unfold trip_k0_t5.sl.v865 trip_k0_t5.sl.HW_arg8_1
  refine (rc_hit _ _ _ _ _).trans ?_
  refine Eq.trans ?_ (show MF (SC (kb 0 (2 * ((i 2).val - 1))) (q 0)) (MM (kb 0) (q 0) (2 * ((i 2).val - 1))) = MM (kb 0) (q 0) (2 * ((i 2).val - 1) + 1) from rfl)
  unfold trip_k0_t5.sl.r
  rw [h10 0, h8 0]
  rfl

theorem v863_eq : trip_k0_t5.sl.v863 i arg5 arg11 arg12 X_arg5 X_arg12 k = SC (kb 0 (2 * ((i 2).val - 1) + 1)) (q 0) := by
  unfold trip_k0_t5.sl.v863 trip_k0_t5.sl.HW_arg11_1
  refine (rc_hit _ _ _ _ _).trans ?_
  refine Eq.trans ?_ (show SC (kb 0 (2 * ((i 2).val - 1) + 1)) (q 0) = SC (kb 0 (2 * ((i 2).val - 1) + 1)) (q 0) from rfl)
  rw [o_t5_off73_i_1_eq (k := k) h5, h12 0]
  rfl

theorem v951_eq : trip_k0_t5.sl.v951 i arg5 arg11 arg12 X_arg5 X_arg12 k = SC (kb 1 (2 * ((i 2).val - 1) + 1)) (q 1) := by
  unfold trip_k0_t5.sl.v951 trip_k0_t5.sl.HW_arg11_2
  refine (rc_hit _ _ _ _ _).trans ?_
  refine Eq.trans ?_ (show SC (kb 1 (2 * ((i 2).val - 1) + 1)) (q 1) = SC (kb 1 (2 * ((i 2).val - 1) + 1)) (q 1) from rfl)
  unfold trip_k0_t5.sl.r_5
  rw [o_t5_off76_i_1_eq (k := k) h5, h12 1]
  rfl

theorem v907_eq : trip_k0_t5.sl.v907 arg10 f_arg10 = SC (kb 1 (2 * ((i 2).val - 1))) (q 1) := by
  unfold trip_k0_t5.sl.v907
  exact h10 _ _

theorem v909_eq : trip_k0_t5.sl.v909 arg8 f_arg8 = MM (kb 1) (q 1) (2 * ((i 2).val - 1)) := by
  unfold trip_k0_t5.sl.v909
  exact h8 _ _

theorem v953_eq : trip_k0_t5.sl.v953 i arg5 arg8 arg10 arg11 arg12 X_arg5 X_arg12 k f_arg8 f_arg10 = MM (kb 1) (q 1) (2 * ((i 2).val - 1) + 1) := by
  unfold trip_k0_t5.sl.v953 trip_k0_t5.sl.HW_arg8_3
  refine (rc_hit _ _ _ _ _).trans ?_
  refine Eq.trans ?_ (show MF (SC (kb 1 (2 * ((i 2).val - 1))) (q 1)) (MM (kb 1) (q 1) (2 * ((i 2).val - 1))) = MM (kb 1) (q 1) (2 * ((i 2).val - 1) + 1) from rfl)
  unfold trip_k0_t5.sl.r_6
  rw [v907_eq h5 h6 h12 h8 h9 h10, v909_eq h5 h6 h12 h8 h9 h10]
  rfl

theorem v1039_eq : trip_k0_t5.sl.v1039 i arg5 arg11 arg12 X_arg5 X_arg12 k = SC (kb 2 (2 * ((i 2).val - 1) + 1)) (q 2) := by
  unfold trip_k0_t5.sl.v1039 trip_k0_t5.sl.HW_arg11_3
  refine (rc_hit _ _ _ _ _).trans ?_
  refine Eq.trans ?_ (show SC (kb 2 (2 * ((i 2).val - 1) + 1)) (q 2) = SC (kb 2 (2 * ((i 2).val - 1) + 1)) (q 2) from rfl)
  rw [o_t5_off79_i_1_eq (k := k) h5, h12 2]
  rfl

theorem v997_eq : trip_k0_t5.sl.v997 arg8 f_arg8 = MM (kb 2) (q 2) (2 * ((i 2).val - 1)) := by
  unfold trip_k0_t5.sl.v997
  exact h8 _ _

theorem v995_eq : trip_k0_t5.sl.v995 arg10 f_arg10 = SC (kb 2 (2 * ((i 2).val - 1))) (q 2) := by
  unfold trip_k0_t5.sl.v995
  exact h10 _ _

theorem v1041_eq : trip_k0_t5.sl.v1041 i arg5 arg8 arg10 arg11 arg12 X_arg5 X_arg12 k f_arg8 f_arg10 = MM (kb 2) (q 2) (2 * ((i 2).val - 1) + 1) := by
  unfold trip_k0_t5.sl.v1041 trip_k0_t5.sl.HW_arg8_5
  refine (rc_hit _ _ _ _ _).trans ?_
  refine Eq.trans ?_ (show MF (SC (kb 2 (2 * ((i 2).val - 1))) (q 2)) (MM (kb 2) (q 2) (2 * ((i 2).val - 1))) = MM (kb 2) (q 2) (2 * ((i 2).val - 1) + 1) from rfl)
  unfold trip_k0_t5.sl.r_11
  rw [v997_eq h5 h6 h12 h8 h9 h10, v995_eq h5 h6 h12 h8 h9 h10]
  rfl

theorem v1127_eq : trip_k0_t5.sl.v1127 i arg5 arg11 arg12 X_arg5 X_arg12 k = SC (kb 3 (2 * ((i 2).val - 1) + 1)) (q 3) := by
  unfold trip_k0_t5.sl.v1127 trip_k0_t5.sl.HW_arg11_4
  refine (rc_hit _ _ _ _ _).trans ?_
  refine Eq.trans ?_ (show SC (kb 3 (2 * ((i 2).val - 1) + 1)) (q 3) = SC (kb 3 (2 * ((i 2).val - 1) + 1)) (q 3) from rfl)
  rw [o_t5_off82_i_1_eq (k := k) h5, h12 3]
  rfl

theorem v1083_eq : trip_k0_t5.sl.v1083 arg10 f_arg10 = SC (kb 3 (2 * ((i 2).val - 1))) (q 3) := by
  unfold trip_k0_t5.sl.v1083
  exact h10 _ _

theorem v1085_eq : trip_k0_t5.sl.v1085 arg8 f_arg8 = MM (kb 3) (q 3) (2 * ((i 2).val - 1)) := by
  unfold trip_k0_t5.sl.v1085
  exact h8 _ _

theorem v1129_eq : trip_k0_t5.sl.v1129 i arg5 arg8 arg10 arg11 arg12 X_arg5 X_arg12 k f_arg8 f_arg10 = MM (kb 3) (q 3) (2 * ((i 2).val - 1) + 1) := by
  unfold trip_k0_t5.sl.v1129 trip_k0_t5.sl.HW_arg8_7
  refine (rc_hit _ _ _ _ _).trans ?_
  refine Eq.trans ?_ (show MF (SC (kb 3 (2 * ((i 2).val - 1))) (q 3)) (MM (kb 3) (q 3) (2 * ((i 2).val - 1))) = MM (kb 3) (q 3) (2 * ((i 2).val - 1) + 1) from rfl)
  unfold trip_k0_t5.sl.r_14
  rw [v1083_eq h5 h6 h12 h8 h9 h10, v1085_eq h5 h6 h12 h8 h9 h10]
  rfl

theorem v880_eq : trip_k0_t5.sl.v880 i arg6 arg8 arg9 arg10 v0 X_arg6 k f_arg8 f_arg9 f_arg10 = AA v0 (kb 0) (vb 0) (q 0) (2 * ((i 2).val - 1) + 1) := by
  unfold trip_k0_t5.sl.v880 trip_k0_t5.sl.HW_arg9_1
  refine (rc_hit _ _ _ _ _).trans ?_
  refine Eq.trans ?_ (show AF v0 (SC (kb 0 (2 * ((i 2).val - 1))) (q 0)) (MM (kb 0) (q 0) (2 * ((i 2).val - 1))) (vb 0 (2 * ((i 2).val - 1))) (AA v0 (kb 0) (vb 0) (q 0) (2 * ((i 2).val - 1))) = AA v0 (kb 0) (vb 0) (q 0) (2 * ((i 2).val - 1) + 1) from rfl)
  unfold trip_k0_t5.sl.r_3 trip_k0_t5.sl.r_2 trip_k0_t5.sl.r_1
  rw [o_t5_off74_i_eq (k := k) h6, h9 0, h10 0, h8 0]
  rfl

theorem v924_eq : trip_k0_t5.sl.v924 arg9 f_arg9 = AA v0 (kb 1) (vb 1) (q 1) (2 * ((i 2).val - 1)) := by
  unfold trip_k0_t5.sl.v924
  exact h9 _ _

theorem v968_eq : trip_k0_t5.sl.v968 i arg5 arg6 arg8 arg9 arg10 arg11 arg12 v0 X_arg5 X_arg6 X_arg12 k f_arg8 f_arg9 f_arg10 = AA v0 (kb 1) (vb 1) (q 1) (2 * ((i 2).val - 1) + 1) := by
  unfold trip_k0_t5.sl.v968 trip_k0_t5.sl.HW_arg9_3
  refine (rc_hit _ _ _ _ _).trans ?_
  refine Eq.trans ?_ (show AF v0 (SC (kb 1 (2 * ((i 2).val - 1))) (q 1)) (MM (kb 1) (q 1) (2 * ((i 2).val - 1))) (vb 1 (2 * ((i 2).val - 1))) (AA v0 (kb 1) (vb 1) (q 1) (2 * ((i 2).val - 1))) = AA v0 (kb 1) (vb 1) (q 1) (2 * ((i 2).val - 1) + 1) from rfl)
  rw [v907_eq h5 h6 h12 h8 h9 h10, v909_eq h5 h6 h12 h8 h9 h10, v924_eq h5 h6 h12 h8 h9 h10, o_t5_off77_i_eq (k := k) h6]
  rfl

theorem v1012_eq : trip_k0_t5.sl.v1012 arg9 f_arg9 = AA v0 (kb 2) (vb 2) (q 2) (2 * ((i 2).val - 1)) := by
  unfold trip_k0_t5.sl.v1012
  exact h9 _ _

theorem v1056_eq : trip_k0_t5.sl.v1056 i arg5 arg6 arg8 arg9 arg10 arg11 arg12 v0 X_arg5 X_arg6 X_arg12 k f_arg8 f_arg9 f_arg10 = AA v0 (kb 2) (vb 2) (q 2) (2 * ((i 2).val - 1) + 1) := by
  unfold trip_k0_t5.sl.v1056 trip_k0_t5.sl.HW_arg9_5
  refine (rc_hit _ _ _ _ _).trans ?_
  refine Eq.trans ?_ (show AF v0 (SC (kb 2 (2 * ((i 2).val - 1))) (q 2)) (MM (kb 2) (q 2) (2 * ((i 2).val - 1))) (vb 2 (2 * ((i 2).val - 1))) (AA v0 (kb 2) (vb 2) (q 2) (2 * ((i 2).val - 1))) = AA v0 (kb 2) (vb 2) (q 2) (2 * ((i 2).val - 1) + 1) from rfl)
  unfold trip_k0_t5.sl.r_11
  rw [v997_eq h5 h6 h12 h8 h9 h10, v1012_eq h5 h6 h12 h8 h9 h10, v995_eq h5 h6 h12 h8 h9 h10, o_t5_off80_i_eq (k := k) h6]
  rfl

theorem v1100_eq : trip_k0_t5.sl.v1100 arg9 f_arg9 = AA v0 (kb 3) (vb 3) (q 3) (2 * ((i 2).val - 1)) := by
  unfold trip_k0_t5.sl.v1100
  exact h9 _ _

theorem v1144_eq : trip_k0_t5.sl.v1144 i arg5 arg6 arg8 arg9 arg10 arg11 arg12 v0 X_arg5 X_arg6 X_arg12 k f_arg8 f_arg9 f_arg10 = AA v0 (kb 3) (vb 3) (q 3) (2 * ((i 2).val - 1) + 1) := by
  unfold trip_k0_t5.sl.v1144 trip_k0_t5.sl.HW_arg9_7
  refine (rc_hit _ _ _ _ _).trans ?_
  refine Eq.trans ?_ (show AF v0 (SC (kb 3 (2 * ((i 2).val - 1))) (q 3)) (MM (kb 3) (q 3) (2 * ((i 2).val - 1))) (vb 3 (2 * ((i 2).val - 1))) (AA v0 (kb 3) (vb 3) (q 3) (2 * ((i 2).val - 1))) = AA v0 (kb 3) (vb 3) (q 3) (2 * ((i 2).val - 1) + 1) from rfl)
  unfold trip_k0_t5.sl.r_16 trip_k0_t5.sl.r_15
  rw [v1100_eq h5 h6 h12 h8 h9 h10, v1083_eq h5 h6 h12 h8 h9 h10, v1085_eq h5 h6 h12 h8 h9 h10, o_t5_off83_i_eq (k := k) h6]
  rfl

theorem trip8 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c2_i32_35 : BitVec 32) (v66 : BitVec 1) : Ms arg8 (arg8.view.writes (Elt F) f_arg8 ((tripL_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 k f_arg8 f_arg9 f_arg10 f_arg11).1)) (fun hh => MM (kb hh) (q hh) (2 * ((i 2).val - 1) + 2)) := by
  intro hh inb
  have hlt : hh < 4 := by have := inb 0; exact Nat.lt_of_succ_le this
  unfold tripL_k0_t5 trip_k0_t5 trip_k0_t5.sl.HW_arg8_7 trip_k0_t5.sl.HW_arg8_5 trip_k0_t5.sl.HW_arg8_3 trip_k0_t5.sl.HW_arg8_1
  dsimp only
  obtain rfl | rfl | rfl | rfl : hh = 0 ∨ hh = 1 ∨ hh = 2 ∨ hh = 3 := by omega
  · refine (ra_miss _ _ _ _ _ _ rfl rfl (by decide)).trans ?_
    iterate 5 refine (ra_miss _ _ _ _ _ _ rfl rfl (by decide)).trans ?_
    refine (ra_hit _ _ _ _ _ _).trans ?_
    refine Eq.trans ?_ (show MF (SC (kb 0 (2 * ((i 2).val - 1) + 1)) (q 0)) (MM (kb 0) (q 0) (2 * ((i 2).val - 1) + 1)) = MM (kb 0) (q 0) (2 * ((i 2).val - 1) + 2) from rfl)
    unfold trip_k0_t5.sl.r_4
    rw [v865_eq h5 h6 h12 h8 h9 h10, v863_eq h5 h6 h12 h8 h9 h10]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show MF (SC (kb 1 (2 * ((i 2).val - 1) + 1)) (q 1)) (MM (kb 1) (q 1) (2 * ((i 2).val - 1) + 1)) = MM (kb 1) (q 1) (2 * ((i 2).val - 1) + 2) from rfl)
    unfold trip_k0_t5.sl.r_7
    rw [v951_eq h5 h6 h12 h8 h9 h10, v953_eq h5 h6 h12 h8 h9 h10]
    rfl
  · refine (ra_miss _ _ _ _ _ _ rfl rfl (by decide)).trans ?_
    refine (ra_miss _ _ _ _ _ _ rfl rfl (by decide)).trans ?_
    refine (ra_hit _ _ _ _ _ _).trans ?_
    refine Eq.trans ?_ (show MF (SC (kb 2 (2 * ((i 2).val - 1) + 1)) (q 2)) (MM (kb 2) (q 2) (2 * ((i 2).val - 1) + 1)) = MM (kb 2) (q 2) (2 * ((i 2).val - 1) + 2) from rfl)
    unfold trip_k0_t5.sl.r_13
    rw [v1039_eq h5 h6 h12 h8 h9 h10, v1041_eq h5 h6 h12 h8 h9 h10]
    rfl
  · refine (ra_hit _ _ _ _ _ _).trans ?_
    refine Eq.trans ?_ (show MF (SC (kb 3 (2 * ((i 2).val - 1) + 1)) (q 3)) (MM (kb 3) (q 3) (2 * ((i 2).val - 1) + 1)) = MM (kb 3) (q 3) (2 * ((i 2).val - 1) + 2) from rfl)
    rw [v1127_eq h5 h6 h12 h8 h9 h10, v1129_eq h5 h6 h12 h8 h9 h10]
    rfl

theorem trip9 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c2_i32_35 : BitVec 32) (v66 : BitVec 1) : As arg9 (arg9.view.writes (Elt F) f_arg9 ((tripL_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 k f_arg8 f_arg9 f_arg10 f_arg11).2.1)) (fun hh => AA v0 (kb hh) (vb hh) (q hh) (2 * ((i 2).val - 1) + 2)) := by
  intro hh inb
  have hlt : hh < 4 := by have := inb 0; exact Nat.lt_of_succ_le this
  unfold tripL_k0_t5 trip_k0_t5 trip_k0_t5.sl.HW_arg9_7 trip_k0_t5.sl.HW_arg9_5 trip_k0_t5.sl.HW_arg9_3 trip_k0_t5.sl.HW_arg9_1
  dsimp only
  obtain rfl | rfl | rfl | rfl : hh = 0 ∨ hh = 1 ∨ hh = 2 ∨ hh = 3 := by omega
  · refine (ra_miss _ _ _ _ _ _ rfl rfl (by decide)).trans ?_
    iterate 5 refine (ra_miss _ _ _ _ _ _ rfl rfl (by decide)).trans ?_
    refine (ra_hit _ _ _ _ _ _).trans ?_
    refine Eq.trans ?_ (show AF v0 (SC (kb 0 (2 * ((i 2).val - 1) + 1)) (q 0)) (MM (kb 0) (q 0) (2 * ((i 2).val - 1) + 1)) (vb 0 (2 * ((i 2).val - 1) + 1)) (AA v0 (kb 0) (vb 0) (q 0) (2 * ((i 2).val - 1) + 1)) = AA v0 (kb 0) (vb 0) (q 0) (2 * ((i 2).val - 1) + 2) from rfl)
    unfold trip_k0_t5.sl.r_4
    rw [v865_eq h5 h6 h12 h8 h9 h10, v880_eq h5 h6 h12 h8 h9 h10, v863_eq h5 h6 h12 h8 h9 h10, o_t5_off75_i_eq (k := k) h6]
    rfl
  · refine (ra_miss _ _ _ _ _ _ rfl rfl (by decide)).trans ?_
    iterate 3 refine (ra_miss _ _ _ _ _ _ rfl rfl (by decide)).trans ?_
    refine (ra_hit _ _ _ _ _ _).trans ?_
    refine Eq.trans ?_ (show AF v0 (SC (kb 1 (2 * ((i 2).val - 1) + 1)) (q 1)) (MM (kb 1) (q 1) (2 * ((i 2).val - 1) + 1)) (vb 1 (2 * ((i 2).val - 1) + 1)) (AA v0 (kb 1) (vb 1) (q 1) (2 * ((i 2).val - 1) + 1)) = AA v0 (kb 1) (vb 1) (q 1) (2 * ((i 2).val - 1) + 2) from rfl)
    unfold trip_k0_t5.sl.r_10 trip_k0_t5.sl.r_9 trip_k0_t5.sl.r_8
    rw [v968_eq h5 h6 h12 h8 h9 h10, v951_eq h5 h6 h12 h8 h9 h10, v953_eq h5 h6 h12 h8 h9 h10, o_t5_off78_i_eq (k := k) h6]
    rfl
  · refine (ra_miss _ _ _ _ _ _ rfl rfl (by decide)).trans ?_
    refine (ra_miss _ _ _ _ _ _ rfl rfl (by decide)).trans ?_
    refine (ra_hit _ _ _ _ _ _).trans ?_
    refine Eq.trans ?_ (show AF v0 (SC (kb 2 (2 * ((i 2).val - 1) + 1)) (q 2)) (MM (kb 2) (q 2) (2 * ((i 2).val - 1) + 1)) (vb 2 (2 * ((i 2).val - 1) + 1)) (AA v0 (kb 2) (vb 2) (q 2) (2 * ((i 2).val - 1) + 1)) = AA v0 (kb 2) (vb 2) (q 2) (2 * ((i 2).val - 1) + 2) from rfl)
    rw [v1039_eq h5 h6 h12 h8 h9 h10, v1041_eq h5 h6 h12 h8 h9 h10, v1056_eq h5 h6 h12 h8 h9 h10, o_t5_off81_i_eq (k := k) h6]
    rfl
  · refine (ra_hit _ _ _ _ _ _).trans ?_
    refine Eq.trans ?_ (show AF v0 (SC (kb 3 (2 * ((i 2).val - 1) + 1)) (q 3)) (MM (kb 3) (q 3) (2 * ((i 2).val - 1) + 1)) (vb 3 (2 * ((i 2).val - 1) + 1)) (AA v0 (kb 3) (vb 3) (q 3) (2 * ((i 2).val - 1) + 1)) = AA v0 (kb 3) (vb 3) (q 3) (2 * ((i 2).val - 1) + 2) from rfl)
    rw [v1127_eq h5 h6 h12 h8 h9 h10, v1129_eq h5 h6 h12 h8 h9 h10, v1144_eq h5 h6 h12 h8 h9 h10, o_t5_off84_i_eq (k := k) h6]
    rfl

theorem trip10 (𝒱 : Variants) (c : Dev nD) (bd : Option 𝒱.V) (arg3 : Memref sig .tc .smem S1 .f32) (harg3 : arg3.IsWhole) (arg4 : Memref sig .tc .vmem S1x16x512x512 .bf16) (harg4 : arg4.IsWhole) (harg5 : arg5.IsWhole) (harg6 : arg6.IsWhole) (arg7 : Memref sig .tc .vmem S1x512x512 .bf16) (harg7 : arg7.IsWhole) (harg8 : arg8.IsWhole) (harg9 : arg9.IsWhole) (harg10 : arg10.IsWhole) (harg11 : arg11.IsWhole) (harg12 : arg12.IsWhole) (arg2 : BitVec 32) (c2_i32_35 : BitVec 32) (v66 : BitVec 1) : Ss arg10 (arg10.view.writes (Elt F) f_arg10 ((tripL_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 k f_arg8 f_arg9 f_arg10 f_arg11).2.2.1)) (fun hh => SC (kb hh (2 * ((i 2).val - 1) + 2)) (q hh)) := by
  intro hh inb
  have hlt : hh < 4 := by have := inb 0; exact Nat.lt_of_succ_le this
  unfold tripL_k0_t5 trip_k0_t5
  dsimp only
  obtain rfl | rfl | rfl | rfl : hh = 0 ∨ hh = 1 ∨ hh = 2 ∨ hh = 3 := by omega
  · refine (ra_miss _ _ _ _ _ _ rfl rfl (by decide)).trans ?_
    iterate 2 refine (ra_miss _ _ _ _ _ _ rfl rfl (by decide)).trans ?_
    refine (ra_hit _ _ _ _ _ _).trans ?_
    refine Eq.trans ?_ (show SC (kb 0 (2 * ((i 2).val - 1) + 2)) (q 0) = SC (kb 0 (2 * ((i 2).val - 1) + 2)) (q 0) from rfl)
    rw [o_t5_off73_i_2_eq (k := k) h5, h12 0]
    rfl
  · refine (ra_miss _ _ _ _ _ _ rfl rfl (by decide)).trans ?_
    refine (ra_miss _ _ _ _ _ _ rfl rfl (by decide)).trans ?_
    refine (ra_hit _ _ _ _ _ _).trans ?_
    refine Eq.trans ?_ (show SC (kb 1 (2 * ((i 2).val - 1) + 2)) (q 1) = SC (kb 1 (2 * ((i 2).val - 1) + 2)) (q 1) from rfl)
    rw [o_t5_off76_i_2_eq (k := k) h5, h12 1]
    rfl
  · refine (ra_miss _ _ _ _ _ _ rfl rfl (by decide)).trans ?_
    refine (ra_hit _ _ _ _ _ _).trans ?_
    refine Eq.trans ?_ (show SC (kb 2 (2 * ((i 2).val - 1) + 2)) (q 2) = SC (kb 2 (2 * ((i 2).val - 1) + 2)) (q 2) from rfl)
    unfold trip_k0_t5.sl.r_12
    rw [o_t5_off79_i_2_eq (k := k) h5, h12 2]
    rfl
  · refine (ra_hit _ _ _ _ _ _).trans ?_
    refine Eq.trans ?_ (show SC (kb 3 (2 * ((i 2).val - 1) + 2)) (q 3) = SC (kb 3 (2 * ((i 2).val - 1) + 2)) (q 3) from rfl)
    rw [o_t5_off82_i_2_eq (k := k) h5, h12 3]
    rfl

end

end Cert.KernelIdeal.Att.T5

end
-- ==== Proof.AttLoops.lean ====
/- The key-block loops one after the other: each carries the running maxima, sums and prefetched scores on. -/
module

public import proofs.«01_k».proof.Proof.AttTrip1
public import proofs.«01_k».proof.Proof.AttTrip3
public import proofs.«01_k».proof.Proof.AttTrip5
public import proofs.«01_k».proof.Proof.Gen.KernelIdeal.Loops

@[expose] public section

set_option maxRecDepth 16384

noncomputable section

namespace Cert.KernelIdeal.Att

open Cert.KernelIdeal Cert.KernelIdeal.Gen Idealize.ShloMosaic Idealize.ShloMosaic.View

variable {F : FTy → Type} [FloatOps F]

/-- The stores of three scratch buffers hold the running values before key block `n`, and that block's scores. -/
structure St (v0 : FVec F S16x256 .bf16) (kb : ℕ → ℕ → Vec F S1x256x128 .bf16) (vb : ℕ → ℕ → Vec F S1x1x128x256 .bf16) (q : ℕ → Vec F S1x128x1024 .bf16)
    (arg8 : Memref sig .tc .vmem S4x1x1024 .f32) (arg9 : Memref sig .tc .vmem S4x144x1024 .f32) (arg10 : Memref sig .tc .vmem S4x256x1024 .f32)
    (f8 : arg8.view.ty.Contents (Elt F)) (f9 : arg9.view.ty.Contents (Elt F)) (f10 : arg10.view.ty.Contents (Elt F))
    (L8 : List (View.Piece (Elt F) S4x1x1024 .f32)) (L9 : List (View.Piece (Elt F) S4x144x1024 .f32)) (L10 : List (View.Piece (Elt F) S4x256x1024 .f32))
    (n : ℕ) : Prop where
  h8 : Ms arg8 (arg8.view.writes (Elt F) f8 L8) (fun hh => MM (kb hh) (q hh) n)
  h9 : As arg9 (arg9.view.writes (Elt F) f9 L9) (fun hh => AA v0 (kb hh) (vb hh) (q hh) n)
  h10 : Ss arg10 (arg10.view.writes (Elt F) f10 L10) (fun hh => SC (kb hh n) (q hh))

/-- The loop of 4 pair(s) of key blocks carries the running values over its trips. -/
theorem loop1 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K ≤ (k0_t1_loop i).trips) (h : St v0 kb vb q arg8 arg9 arg10 f8 f9 f10 L8 L9 L10 (8 * 0)) :
    St v0 kb vb q arg8 arg9 arg10 f8 f9 f10 ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).1 ++ L8) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.1 ++ L9) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.2.1 ++ L10) (8 * K) := by
  induction K with
  | zero => exact h
  | succ K ih =>
    have ih := ih (Nat.le_of_lt hK)
    have e := pb_k0_t1_succ (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 ⟨K, hK⟩
    dsimp only at e
    have hk0 : True := by trivial
    have g8 := ih.h8; have g9 := ih.h9; have g10 := ih.h10
    rw [View.writes_append] at g8 g9 g10
    rw [e]
    skip
    refine ⟨?_, ?_, ?_⟩

    · dsimp only [Prod.fst, Prod.snd]
      rw [List.append_assoc, View.writes_append, View.writes_append]
      exact T1.trip8 (k := ⟨K, hK⟩) (kb := kb) (vb := vb) (q := q) h5 h6 h12 g8 g9 g10 𝒱 c bd arg3 harg3 arg4 harg4 harg5 harg6 arg7 harg7 harg8 harg9 harg10 harg11 harg12 arg2 c0_i32_14 v32

    · dsimp only [Prod.fst, Prod.snd]
      rw [List.append_assoc, View.writes_append, View.writes_append]
      exact T1.trip9 (k := ⟨K, hK⟩) (kb := kb) (vb := vb) (q := q) h5 h6 h12 g8 g9 g10 𝒱 c bd arg3 harg3 arg4 harg4 harg5 harg6 arg7 harg7 harg8 harg9 harg10 harg11 harg12 arg2 c0_i32_14 v32

    · dsimp only [Prod.fst, Prod.snd]
      rw [List.append_assoc, View.writes_append, View.writes_append]
      exact T1.trip10 (k := ⟨K, hK⟩) (kb := kb) (vb := vb) (q := q) h5 h6 h12 g8 g9 g10 𝒱 c bd arg3 harg3 arg4 harg4 harg5 harg6 arg7 harg7 harg8 harg9 harg10 harg11 harg12 arg2 c0_i32_14 v32

/-- A remainder loop of no trips carries everything on. -/
theorem loop2 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {v33 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    {n : ℕ} (K : ℕ) (hK : K = 0) (h : St v0 kb vb q arg8 arg9 arg10 f8 f9 f10 L8 L9 L10 n) :
    St v0 kb vb q arg8 arg9 arg10 f8 f9 f10 ((pb_k0_t2 (F := F) 𝒱 c bd i arg3 harg3 arg4 harg4 arg5 harg5 arg6 harg6 arg7 harg7 arg8 harg8 arg9 harg9 arg10 harg10 arg11 harg11 arg12 harg12 arg2 v0 c0_i32_14 v32 v33 X_arg5 X_arg6 X_arg12 (arg8.view.writes (Elt F) f8 L8) (arg9.view.writes (Elt F) f9 L9) (arg10.view.writes (Elt F) f10 L10) G11 K).1 ++ L8) ((pb_k0_t2 (F := F) 𝒱 c bd i arg3 harg3 arg4 harg4 arg5 harg5 arg6 harg6 arg7 harg7 arg8 harg8 arg9 harg9 arg10 harg10 arg11 harg11 arg12 harg12 arg2 v0 c0_i32_14 v32 v33 X_arg5 X_arg6 X_arg12 (arg8.view.writes (Elt F) f8 L8) (arg9.view.writes (Elt F) f9 L9) (arg10.view.writes (Elt F) f10 L10) G11 K).2.1 ++ L9) ((pb_k0_t2 (F := F) 𝒱 c bd i arg3 harg3 arg4 harg4 arg5 harg5 arg6 harg6 arg7 harg7 arg8 harg8 arg9 harg9 arg10 harg10 arg11 harg11 arg12 harg12 arg2 v0 c0_i32_14 v32 v33 X_arg5 X_arg6 X_arg12 (arg8.view.writes (Elt F) f8 L8) (arg9.view.writes (Elt F) f9 L9) (arg10.view.writes (Elt F) f10 L10) G11 K).2.2.1 ++ L10) n := by
  subst hK; exact h

/-- The loop of 2 pair(s) of key blocks carries the running values over its trips. -/
theorem loop3 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K ≤ (k0_t3_loop i).trips) (h : St v0 kb vb q arg8 arg9 arg10 f8 f9 f10 L8 L9 L10 (8 * ((i 2).val / 4) + 4 * 0)) :
    St v0 kb vb q arg8 arg9 arg10 f8 f9 f10 ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).1 ++ L8) ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.1 ++ L9) ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.2.1 ++ L10) (8 * ((i 2).val / 4) + 4 * K) := by
  induction K with
  | zero => exact h
  | succ K ih =>
    have ih := ih (Nat.le_of_lt hK)
    have e := pb_k0_t3_succ (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 ⟨K, hK⟩
    dsimp only at e
    have hk0 : K = 0 := by have := (k0_t3_abs i).2.1; omega
    have g8 := ih.h8; have g9 := ih.h9; have g10 := ih.h10
    rw [View.writes_append] at g8 g9 g10
    rw [e]
    subst hk0
    refine ⟨?_, ?_, ?_⟩

    · dsimp only [Prod.fst, Prod.snd]
      rw [List.append_assoc, View.writes_append, View.writes_append]
      exact T3.trip8 (k := ⟨0, hK⟩) (kb := kb) (vb := vb) (q := q) h5 h6 h12 g8 g9 g10 𝒱 c bd arg3 harg3 arg4 harg4 harg5 harg6 arg7 harg7 harg8 harg9 harg10 harg11 harg12 arg2 c0_i32_14 v32

    · dsimp only [Prod.fst, Prod.snd]
      rw [List.append_assoc, View.writes_append, View.writes_append]
      exact T3.trip9 (k := ⟨0, hK⟩) (kb := kb) (vb := vb) (q := q) h5 h6 h12 g8 g9 g10 𝒱 c bd arg3 harg3 arg4 harg4 harg5 harg6 arg7 harg7 harg8 harg9 harg10 harg11 harg12 arg2 c0_i32_14 v32

    · dsimp only [Prod.fst, Prod.snd]
      rw [List.append_assoc, View.writes_append, View.writes_append]
      exact T3.trip10 (k := ⟨0, hK⟩) (kb := kb) (vb := vb) (q := q) h5 h6 h12 g8 g9 g10 𝒱 c bd arg3 harg3 arg4 harg4 harg5 harg6 arg7 harg7 harg8 harg9 harg10 harg11 harg12 arg2 c0_i32_14 v32

/-- A remainder loop of no trips carries everything on. -/
theorem loop4 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {v65 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    {n : ℕ} (K : ℕ) (hK : K = 0) (h : St v0 kb vb q arg8 arg9 arg10 f8 f9 f10 L8 L9 L10 n) :
    St v0 kb vb q arg8 arg9 arg10 f8 f9 f10 ((pb_k0_t4 (F := F) 𝒱 c bd i arg3 harg3 arg4 harg4 arg5 harg5 arg6 harg6 arg7 harg7 arg8 harg8 arg9 harg9 arg10 harg10 arg11 harg11 arg12 harg12 arg2 v0 c0_i32_14 v32 v65 X_arg5 X_arg6 X_arg12 (arg8.view.writes (Elt F) f8 L8) (arg9.view.writes (Elt F) f9 L9) (arg10.view.writes (Elt F) f10 L10) G11 K).1 ++ L8) ((pb_k0_t4 (F := F) 𝒱 c bd i arg3 harg3 arg4 harg4 arg5 harg5 arg6 harg6 arg7 harg7 arg8 harg8 arg9 harg9 arg10 harg10 arg11 harg11 arg12 harg12 arg2 v0 c0_i32_14 v32 v65 X_arg5 X_arg6 X_arg12 (arg8.view.writes (Elt F) f8 L8) (arg9.view.writes (Elt F) f9 L9) (arg10.view.writes (Elt F) f10 L10) G11 K).2.1 ++ L9) ((pb_k0_t4 (F := F) 𝒱 c bd i arg3 harg3 arg4 harg4 arg5 harg5 arg6 harg6 arg7 harg7 arg8 harg8 arg9 harg9 arg10 harg10 arg11 harg11 arg12 harg12 arg2 v0 c0_i32_14 v32 v65 X_arg5 X_arg6 X_arg12 (arg8.view.writes (Elt F) f8 L8) (arg9.view.writes (Elt F) f9 L9) (arg10.view.writes (Elt F) f10 L10) G11 K).2.2.1 ++ L10) n := by
  subst hK; exact h

/-- The loop of 1 pair(s) of key blocks carries the running values over its trips. -/
theorem loop5 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c2_i32_35 : BitVec 32} {v66 : BitVec 1} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K ≤ (k0_t5_loop i).trips) (h : St v0 kb vb q arg8 arg9 arg10 f8 f9 f10 L8 L9 L10 (2 * ((i 2).val - 1) + 2 * 0)) :
    St v0 kb vb q arg8 arg9 arg10 f8 f9 f10 ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).1 ++ L8) ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).2.1 ++ L9) ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).2.2.1 ++ L10) (2 * ((i 2).val - 1) + 2 * K) := by
  induction K with
  | zero => exact h
  | succ K ih =>
    have ih := ih (Nat.le_of_lt hK)
    have e := pb_k0_t5_succ (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 ⟨K, hK⟩
    dsimp only at e
    have hk0 : K = 0 := by have := (k0_t5_abs i).2.1; omega
    have g8 := ih.h8; have g9 := ih.h9; have g10 := ih.h10
    rw [View.writes_append] at g8 g9 g10
    rw [e]
    subst hk0
    refine ⟨?_, ?_, ?_⟩

    · dsimp only [Prod.fst, Prod.snd]
      rw [List.append_assoc, View.writes_append, View.writes_append]
      exact T5.trip8 (k := ⟨0, hK⟩) (kb := kb) (vb := vb) (q := q) h5 h6 h12 g8 g9 g10 𝒱 c bd arg3 harg3 arg4 harg4 harg5 harg6 arg7 harg7 harg8 harg9 harg10 harg11 harg12 arg2 c2_i32_35 v66

    · dsimp only [Prod.fst, Prod.snd]
      rw [List.append_assoc, View.writes_append, View.writes_append]
      exact T5.trip9 (k := ⟨0, hK⟩) (kb := kb) (vb := vb) (q := q) h5 h6 h12 g8 g9 g10 𝒱 c bd arg3 harg3 arg4 harg4 harg5 harg6 arg7 harg7 harg8 harg9 harg10 harg11 harg12 arg2 c2_i32_35 v66

    · dsimp only [Prod.fst, Prod.snd]
      rw [List.append_assoc, View.writes_append, View.writes_append]
      exact T5.trip10 (k := ⟨0, hK⟩) (kb := kb) (vb := vb) (q := q) h5 h6 h12 g8 g9 g10 𝒱 c bd arg3 harg3 arg4 harg4 harg5 harg6 arg7 harg7 harg8 harg9 harg10 harg11 harg12 arg2 c2_i32_35 v66

/-- A remainder loop of no trips carries everything on. -/
theorem loop6 {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c2_i32_35 : BitVec 32} {v66 : BitVec 1} {v80 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    {n : ℕ} (K : ℕ) (hK : K = 0) (h : St v0 kb vb q arg8 arg9 arg10 f8 f9 f10 L8 L9 L10 n) :
    St v0 kb vb q arg8 arg9 arg10 f8 f9 f10 ((pb_k0_t6 (F := F) 𝒱 c bd i arg3 harg3 arg4 harg4 arg5 harg5 arg6 harg6 arg7 harg7 arg8 harg8 arg9 harg9 arg10 harg10 arg11 harg11 arg12 harg12 arg2 v0 c2_i32_35 v66 v80 X_arg5 X_arg6 X_arg12 (arg8.view.writes (Elt F) f8 L8) (arg9.view.writes (Elt F) f9 L9) (arg10.view.writes (Elt F) f10 L10) G11 K).1 ++ L8) ((pb_k0_t6 (F := F) 𝒱 c bd i arg3 harg3 arg4 harg4 arg5 harg5 arg6 harg6 arg7 harg7 arg8 harg8 arg9 harg9 arg10 harg10 arg11 harg11 arg12 harg12 arg2 v0 c2_i32_35 v66 v80 X_arg5 X_arg6 X_arg12 (arg8.view.writes (Elt F) f8 L8) (arg9.view.writes (Elt F) f9 L9) (arg10.view.writes (Elt F) f10 L10) G11 K).2.1 ++ L9) ((pb_k0_t6 (F := F) 𝒱 c bd i arg3 harg3 arg4 harg4 arg5 harg5 arg6 harg6 arg7 harg7 arg8 harg8 arg9 harg9 arg10 harg10 arg11 harg11 arg12 harg12 arg2 v0 c2_i32_35 v66 v80 X_arg5 X_arg6 X_arg12 (arg8.view.writes (Elt F) f8 L8) (arg9.view.writes (Elt F) f9 L9) (arg10.view.writes (Elt F) f10 L10) G11 K).2.2.1 ++ L10) n := by
  subst hK; exact h

end Cert.KernelIdeal.Att

end
-- ==== Proof.AttSem2.lean ====
/- Loads and stores of column ranges of one head's slab, and the values of the body's last phase: the diagonal
   key blocks, the next block's masked queries and scores, and the normalised output. -/
module

public import proofs.«01_k».proof.Proof.AttSem
public import Idealize.ShloMosaic.Lib.Pointwise

@[expose] public section

noncomputable section

namespace Cert.KernelIdeal.Att

open Cert.KernelIdeal Cert.KernelIdeal.Gen Idealize.ShloMosaic Idealize.ShloMosaic.View

/-- The 256 columns from `c` of a slab. -/
def sub {α : Type} {R : ℕ} (c : ℕ) (hc : c + 256 ≤ 1024) (w : (⟨3, ![1, R, 1024]⟩ : Shape).Idx → α) : (⟨3, ![1, R, 256]⟩ : Shape).Idx → α :=
  fun j => w (ix3 (j 0) (j 1) ⟨c + (j 2).val, by have := (j 2).isLt; exact lt_of_lt_of_le (Nat.add_lt_add_left this c) hc⟩)
/-- A slab with the 256 columns from `c` replaced. -/
def over {α : Type} {R : ℕ} (c : ℕ) (w : (⟨3, ![1, R, 256]⟩ : Shape).Idx → α) (a : (⟨3, ![1, R, 1024]⟩ : Shape).Idx → α) : (⟨3, ![1, R, 1024]⟩ : Shape).Idx → α :=
  fun j => if h : c ≤ (j 2).val ∧ (j 2).val < c + 256 then w (ix3 (j 0) (j 1) ⟨(j 2).val - c, by show _ < 256; omega⟩) else a j

section Cols

variable {sig : RefSig} {κ : Kind} {sp : Space} {d : Fin 3 → ℕ} {e : EltTy} {Val : EltTy → Type}

theorem ra_sub (v : View sig κ sp (⟨3, d⟩ : Shape) e) (X : v.ty.Contents Val) {h c R : ℕ} (hc : c + 256 ≤ 1024)
    (inb : ∀ a, (![h, 0, c] : Fin 3 → ℕ) a + (![1, R, 256] : Fin 3 → ℕ) a ≤ d a) (inb' : ∀ a, (![h, 0, 0] : Fin 3 → ℕ) a + (![1, R, 1024] : Fin 3 → ℕ) a ≤ d a) :
    v.readAt Val (Rect.unit (s := ⟨3, d⟩) ![h, 0, c] ![1, R, 256] inb).toLoadRect X
      = sub c hc (v.readAt Val (Rect.unit (s := ⟨3, d⟩) ![h, 0, 0] ![1, R, 1024] inb').toLoadRect X) :=
  funext fun j => congrArg (fun x => v.read Val X x) (funext fun a => Fin.ext (by
    have e1 := Rect.idx_unit_val (s := ⟨3, d⟩) ![h, 0, c] ![1, R, 256] inb j a
    have e2 := Rect.idx_unit_val (s := ⟨3, d⟩) ![h, 0, 0] ![1, R, 1024] inb' (ix3 (j 0) (j 1) ⟨c + (j 2).val, by have := (j 2).isLt; exact lt_of_lt_of_le (Nat.add_lt_add_left this c) hc⟩) a
    refine e1.trans (Eq.trans ?_ e2.symm)
    fin_cases a
    · rfl
    · rfl
    · show c + (j 2).val = 0 + (c + (j 2).val); omega))

theorem rc_sub [∀ e, Nonempty (Val e)] (v : View sig κ sp (⟨3, d⟩ : Shape) e) (L : List (Piece Val (⟨3, d⟩ : Shape) e)) {h c R : ℕ} (hc : c + 256 ≤ 1024)
    (inb : ∀ a, (![h, 0, c] : Fin 3 → ℕ) a + (![1, R, 256] : Fin 3 → ℕ) a ≤ d a) (inb' : ∀ a, (![h, 0, 0] : Fin 3 → ℕ) a + (![1, R, 1024] : Fin 3 → ℕ) a ≤ d a) :
    v.readCov L (Rect.unit (s := ⟨3, d⟩) ![h, 0, c] ![1, R, 256] inb).toLoadRect
      = sub c hc (v.readCov L (Rect.unit (s := ⟨3, d⟩) ![h, 0, 0] ![1, R, 1024] inb').toLoadRect) :=
  ra_sub v (v.writes Val v.junk L) hc inb inb'

/-- A load of columns passes a store to other columns. -/
theorem rc_missc [∀ e, Nonempty (Val e)] (v : View sig κ sp (⟨3, d⟩ : Shape) e) {h h' x x' y y' : ℕ} {sz sz' : Fin 3 → ℕ}
    (inb : ∀ a, (![h, x, y] : Fin 3 → ℕ) a + sz a ≤ d a) (inb' : ∀ a, (![h', x', y'] : Fin 3 → ℕ) a + sz' a ≤ d a)
    (w : (Rect.unit (s := ⟨3, d⟩) ![h, x, y] sz inb).shape.Idx → Val e) (L : List (Piece Val (⟨3, d⟩ : Shape) e))
    (hne : y + sz 2 ≤ y' ∨ y' + sz' 2 ≤ y) :
    v.readCov (⟨Rect.unit (s := ⟨3, d⟩) ![h, x, y] sz inb, w⟩ :: L) (Rect.unit (s := ⟨3, d⟩) ![h', x', y'] sz' inb').toLoadRect
      = v.readCov L (Rect.unit (s := ⟨3, d⟩) ![h', x', y'] sz' inb').toLoadRect :=
  funext fun j => read_writes_cons_unit_of_not_mem v v.junk inb w L _ rfl (2 : Fin 3) (by
    have e1 := Rect.idx_unit_val (s := ⟨3, d⟩) ![h', x', y'] sz' inb' j (2 : Fin 3)
    have e2 : (j (2 : Fin 3)).val < sz' 2 := (j (2 : Fin 3)).isLt
    have e3 : (![h', x', y'] : Fin 3 → ℕ) 2 = y' := rfl
    have e4 : (![h, x, y] : Fin 3 → ℕ) 2 = y := rfl
    rw [e3] at e1
    show ((Rect.unit (s := ⟨3, d⟩) ![h', x', y'] sz' inb').idx j (2 : Fin 3)).val < (![h, x, y] : Fin 3 → ℕ) 2 ∨ (![h, x, y] : Fin 3 → ℕ) 2 + sz 2 ≤ _
    rw [e4, e1]; omega)

/-- A load of a slab whose columns from `c` were stored last. -/
theorem rc_over [∀ e, Nonempty (Val e)] (v : View sig κ sp (⟨3, d⟩ : Shape) e) {h c R : ℕ}
    (inb : ∀ a, (![h, 0, c] : Fin 3 → ℕ) a + (![1, R, 256] : Fin 3 → ℕ) a ≤ d a) (inb' : ∀ a, (![h, 0, 0] : Fin 3 → ℕ) a + (![1, R, 1024] : Fin 3 → ℕ) a ≤ d a)
    (w : (Rect.unit (s := ⟨3, d⟩) ![h, 0, c] ![1, R, 256] inb).shape.Idx → Val e) (L : List (Piece Val (⟨3, d⟩ : Shape) e)) :
    v.readCov (⟨Rect.unit (s := ⟨3, d⟩) ![h, 0, c] ![1, R, 256] inb, w⟩ :: L) (Rect.unit (s := ⟨3, d⟩) ![h, 0, 0] ![1, R, 1024] inb').toLoadRect
      = over c w (v.readCov L (Rect.unit (s := ⟨3, d⟩) ![h, 0, 0] ![1, R, 1024] inb').toLoadRect) := by
  funext j
  have e1 : ∀ a, ((Rect.unit (s := ⟨3, d⟩) ![h, 0, 0] ![1, R, 1024] inb').idx j a).val = _ := fun a => Rect.idx_unit_val (s := ⟨3, d⟩) ![h, 0, 0] ![1, R, 1024] inb' j a
  have ej : (j 0).val = 0 := by have : (j 0).val < 1 := (j 0).isLt; omega
  unfold over
  split
  · rename_i hh
    refine read_writes_cons_unit_of_mem v v.junk inb w L _ (ix3 (j 0) (j 1) ⟨(j 2).val - c, by show _ < 256; omega⟩) rfl fun a => ?_
    refine (e1 a).trans ?_
    fin_cases a
    · rfl
    · rfl
    · show 0 + (j 2).val = c + ((j 2).val - c); omega
  · rename_i hh
    refine read_writes_cons_unit_of_not_mem v v.junk inb w L _ rfl (2 : Fin 3) ?_
    have e2 := e1 2
    have e3 : (![h, 0, 0] : Fin 3 → ℕ) 2 = 0 := rfl
    rw [e3] at e2
    show ((Rect.unit (s := ⟨3, d⟩) ![h, 0, 0] ![1, R, 1024] inb').idx j (2 : Fin 3)).val < c ∨ c + 256 ≤ _
    rw [e2]; omega

end Cols

variable {F : FTy → Type} [FloatOps F]

/-- Later queries' scores of the second diagonal block, first and second map. -/
def UL (kb : Vec F S1x256x128 .bf16) (q : Vec F S1x128x256 .bf16) : Vec F S1x256x256 .f32 := k0_pay836 kb q
/-- The running maximum and sums after the first diagonal block. -/
def MD (s : Vec F S1x256x1024 .f32) (m : Vec F S1x1x1024 .f32) : Vec F S1x1x1024 .f32 := k0_pay855 (k0_pay852 s m)
def AD (s : Vec F S1x256x1024 .f32) (m : Vec F S1x1x1024 .f32) (vb : Vec F S1x1x128x256 .bf16) (a : Vec F S1x144x1024 .f32) : Vec F S1x144x1024 .f32 :=
  k0_pay854 (k0_pay853 k0_pay813 s m vb a)
/-- The sums of 256 later queries after the second diagonal block. -/
def AU (s : Vec F S1x256x256 .f32) (m : Vec F S1x1x256 .f32) (vb : Vec F S1x1x128x256 .bf16) (a : Vec F S1x144x256 .f32) : Vec F S1x144x256 .f32 :=
  k0_pay883 k0_pay813 k0_pay849 s m vb a
/-- A query block's masked queries. -/
def QM (qb : Vec F S1x1x128x512 .bf16) : Vec F S1x128x1024 .bf16 := k0_pay856 qb
/-- One head's maxima, sums and output, at query block `i`. -/
def M1 (kb : ℕ → Vec F S1x256x128 .bf16) (q : Vec F S1x128x1024 .bf16) (i : ℕ) : Vec F S1x1x1024 .f32 := MD (SC (kb (2 * i)) q) (MM kb q (2 * i))
def A1 (kb : ℕ → Vec F S1x256x128 .bf16) (vb : ℕ → Vec F S1x1x128x256 .bf16) (q : Vec F S1x128x1024 .bf16) (i : ℕ) : Vec F S1x144x1024 .f32 :=
  AD (SC (kb (2 * i)) q) (MM kb q (2 * i)) (vb (2 * i)) (AA k0_pay813 kb vb q (2 * i))
def A2 (c : ℕ) (hc : c + 256 ≤ 1024) (kb : ℕ → Vec F S1x256x128 .bf16) (vb : ℕ → Vec F S1x1x128x256 .bf16) (q : Vec F S1x128x1024 .bf16) (i : ℕ) : Vec F S1x144x256 .f32 :=
  AU (UL (kb (2 * i + 1)) (sub (R := 128) c hc q)) (sub (R := 1) c hc (M1 kb q i)) (vb (2 * i + 1)) (sub (R := 144) c hc (A1 kb vb q i))
def AE (kb : ℕ → Vec F S1x256x128 .bf16) (vb : ℕ → Vec F S1x1x128x256 .bf16) (q : Vec F S1x128x1024 .bf16) (i : ℕ) : Vec F S1x144x1024 .f32 :=
  over (R := 144) 768 (A2 768 (by decide) kb vb q i) (over (R := 144) 256 (A2 256 (by decide) kb vb q i) (A1 kb vb q i))
def OH (a : Vec F S1x144x1024 .f32) (lam : F .f32) : Vec F S1x128x512 .bf16 := k0_pay925 (k0_pay923 a lam) (k0_pay924 a lam) (FloatOps.ofBits .f32 0x43000000#32)

/-- The queries are these blocks, per head. -/
def Qb (arg4 : Memref sig .tc .vmem S1x16x512x512 .bf16) (X : arg4.view.ty.Contents (Elt F)) (qb : ℕ → ℕ → Vec F S1x1x128x512 .bf16) : Prop :=
  ∀ (hh n off0 off1 : ℕ) (e0 : off0 = n) (e1 : off1 = 128 * hh) (inb : ∀ a, (![0, off0, off1, 0] : Fin 4 → ℕ) a + S1x1x128x512.size a ≤ S1x16x512x512.size a),
    View.readAt (Elt F) arg4.view (Rect.unit (s := S1x16x512x512) ![0, off0, off1, 0] S1x1x128x512.size inb).toLoadRect X = qb hh n
/-- The output block is these heads. -/
def Os (arg7 : Memref sig .tc .vmem S1x512x512 .bf16) (X : arg7.view.ty.Contents (Elt F)) (o : ℕ → Vec F S1x128x512 .bf16) : Prop :=
  ∀ (hh : ℕ) (inb : ∀ a, (![0, 128 * hh, 0] : Fin 3 → ℕ) a + S1x128x512.size a ≤ S1x512x512.size a),
    View.readAt (Elt F) arg7.view (Rect.unit (s := S1x512x512) ![0, 128 * hh, 0] S1x128x512.size inb).toLoadRect X = o hh

end Cert.KernelIdeal.Att

end
-- ==== Proof.RunKernelIdeal.lean ====
/- The attention call's body run once, part by part and loop by loop: at a query block past the first one of its batch the
   scores found in the scratch are the ones the point before left; at the first one the body computes them itself. What the
   run leaves in each buffer is what it finds, named but not spelt. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The body's condition: the query block is the batch's first. -/
abbrev isFirst (i : grid0.Coords) : Prop :=
  Scalar.cmpi .ne (Scalar.extui (Scalar.cmpi .eq (BitVec.ofNat 32 (i 2).val) 0#32) : BitVec 32) 0#32 = 1#1

/-- The body at a batch's first query block, from any scratch. -/
@[irreducible] def runFirst (c : Dev nD) (i : grid0.Coords) (arg3 : Memref sig .tc .smem S1 .f32) (harg3 : arg3.IsWhole) (arg4 : Memref sig .tc .vmem S1x16x512x512 .bf16) (harg4 : arg4.IsWhole) (arg5 : Memref sig .tc .vmem S1x8192x512 .bf16) (harg5 : arg5.IsWhole) (arg6 : Memref sig .tc .vmem S1x32x512x256 .bf16) (harg6 : arg6.IsWhole) (arg7 : Memref sig .tc .vmem S1x512x512 .bf16) (harg7 : arg7.IsWhole) (arg8 : Memref sig .tc .vmem S4x1x1024 .f32) (harg8 : arg8.IsWhole) (arg9 : Memref sig .tc .vmem S4x144x1024 .f32) (harg9 : arg9.IsWhole) (arg10 : Memref sig .tc .vmem S4x256x1024 .f32) (harg10 : arg10.IsWhole) (arg11 : Memref sig .tc .vmem S4x256x1024 .f32) (harg11 : arg11.IsWhole) (arg12 : Memref sig .tc .vmem S4x128x1024 .bf16) (harg12 : arg12.IsWhole)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (hc : isFirst i) :
    Σ' (Y7 : arg7.view.ty.Contents (Elt F)) (Y8 : arg8.view.ty.Contents (Elt F)) (Y9 : arg9.view.ty.Contents (Elt F)) (Y10 : arg10.view.ty.Contents (Elt F)) (Y11 : arg11.view.ty.Contents (Elt F)), { Y12 : arg12.view.ty.Contents (Elt F) //
      ∀ E : Set ℕ, (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
        ⊢ wp frame (wpE (defs₀ (F := F)) 𝒱₀ (c : Thread nD τ) none) E (cc0_attn (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} Y12))) } := by
  refine ⟨?_, ?_, ?_, ?_, ?_, ?_, fun E => ?run⟩
  case run =>
    unfold isFirst at hc
    iintro ⟨H3, H4, H5, H6, H7, H8, H9, H10, H11, H12⟩
    sl_unfold [cc0_attn]
    sl_exec
    sl_step
    sl_close

/-- The body at a later query block. -/
@[irreducible] def runNext (c : Dev nD) (i : grid0.Coords) (arg3 : Memref sig .tc .smem S1 .f32) (harg3 : arg3.IsWhole) (arg4 : Memref sig .tc .vmem S1x16x512x512 .bf16) (harg4 : arg4.IsWhole) (arg5 : Memref sig .tc .vmem S1x8192x512 .bf16) (harg5 : arg5.IsWhole) (arg6 : Memref sig .tc .vmem S1x32x512x256 .bf16) (harg6 : arg6.IsWhole) (arg7 : Memref sig .tc .vmem S1x512x512 .bf16) (harg7 : arg7.IsWhole) (arg8 : Memref sig .tc .vmem S4x1x1024 .f32) (harg8 : arg8.IsWhole) (arg9 : Memref sig .tc .vmem S4x144x1024 .f32) (harg9 : arg9.IsWhole) (arg10 : Memref sig .tc .vmem S4x256x1024 .f32) (harg10 : arg10.IsWhole) (arg11 : Memref sig .tc .vmem S4x256x1024 .f32) (harg11 : arg11.IsWhole) (arg12 : Memref sig .tc .vmem S4x128x1024 .bf16) (harg12 : arg12.IsWhole)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (hc : ¬ isFirst i) :
    Σ' (Y7 : arg7.view.ty.Contents (Elt F)) (Y8 : arg8.view.ty.Contents (Elt F)) (Y9 : arg9.view.ty.Contents (Elt F)) (Y10 : arg10.view.ty.Contents (Elt F)) (Y11 : arg11.view.ty.Contents (Elt F)), { Y12 : arg12.view.ty.Contents (Elt F) //
      ∀ E : Set ℕ, (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
        ⊢ wp frame (wpE (defs₀ (F := F)) 𝒱₀ (c : Thread nD τ) none) E (cc0_attn (F := F) i arg3 harg3 arg4 harg4 arg5 harg5 arg6 harg6 arg7 harg7 arg8 harg8 arg9 harg9 arg10 harg10 arg11 harg11 arg12 harg12)
          (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} Y12))) } := by
  refine ⟨?_, ?_, ?_, ?_, ?_, ?_, fun E => ?run⟩
  case run =>
    unfold isFirst at hc
    iintro ⟨H3, H4, H5, H6, H7, H8, H9, H10, H11, H12⟩
    sl_unfold [cc0_attn]
    sl_exec
    sl_step
    sl_close

end Cert.KernelIdeal.Att

end
-- ==== Proof.AttBase.lean ====
/- Where the last phase's loads fall, and the key-block loops' trip counts. -/
module

public import proofs.«01_k».proof.Proof.AttLoops
public import proofs.«01_k».proof.Proof.AttSem2
public import proofs.«01_k».proof.Proof.RunKernelIdeal

@[expose] public section

set_option maxRecDepth 16384

noncomputable section

namespace Cert.KernelIdeal.Att

open Cert.KernelIdeal Cert.KernelIdeal.Gen Idealize.ShloMosaic Idealize.ShloMosaic.View

variable {F : FTy → Type} [FloatOps F]

theorem tr1 (i : grid0.Coords) : (k0_t1_loop i).trips = (i 2).val / 4 := by
  have hi : (i 2).val < 16 := (i 2).isLt
  unfold k0_t1_loop
  dsimp only
  generalize (i 2).val = n at hi ⊢
  interval_cases n <;> rfl

theorem tr2 (i : grid0.Coords) : (k0_t2_loop i).trips = 0 := by
  have hi : (i 2).val < 16 := (i 2).isLt
  unfold k0_t2_loop
  dsimp only
  generalize (i 2).val = n at hi ⊢
  interval_cases n <;> rfl

theorem tr3 (i : grid0.Coords) : (k0_t3_loop i).trips = (i 2).val % 4 / 2 := by
  have hi : (i 2).val < 16 := (i 2).isLt
  unfold k0_t3_loop
  dsimp only
  generalize (i 2).val = n at hi ⊢
  interval_cases n <;> rfl

theorem tr4 (i : grid0.Coords) : (k0_t4_loop i).trips = 0 := by
  have hi : (i 2).val < 16 := (i 2).isLt
  unfold k0_t4_loop
  dsimp only
  generalize (i 2).val = n at hi ⊢
  interval_cases n <;> rfl

theorem tr5 (i : grid0.Coords) : (k0_t5_loop i).trips = (i 2).val % 2 := by
  have hi : (i 2).val < 16 := (i 2).isLt
  unfold k0_t5_loop
  dsimp only
  generalize (i 2).val = n at hi ⊢
  interval_cases n <;> rfl

theorem tr6 (i : grid0.Coords) : (k0_t6_loop i).trips = 0 := by
  have hi : (i 2).val < 16 := (i 2).isLt
  unfold k0_t6_loop
  dsimp only
  generalize (i 2).val = n at hi ⊢
  interval_cases n <;> rfl

theorem o97 (i : grid0.Coords) : k0_off97 i = ![0, 256 * (2 * (i 2).val + 1), 0] := by
  have hi : (i 2).val < 16 := (i 2).isLt
  unfold k0_off97
  dsimp only
  generalize (i 2).val = n at hi ⊢
  interval_cases n <;> rfl

theorem o97_eq {arg5 : Memref sig .tc .vmem S1x8192x512 .bf16} {X : arg5.view.ty.Contents (Elt F)}
    {kb : ℕ → ℕ → Vec F S1x256x128 .bf16} (hX : Keys arg5 X kb) {i : grid0.Coords} (inb : ∀ a, (k0_off97 i) a + S1x256x128.size a ≤ S1x8192x512.size a) :
    View.readAt (Elt F) arg5.view (Rect.unit (s := S1x8192x512) (k0_off97 i) S1x256x128.size inb).toLoadRect X = kb 0 (2 * (i 2).val + 1) :=
  (View.readAt_unit_eq_of_eq arg5.view inb (o97 i) X).trans (hX 0 _ _ _ rfl rfl _)

theorem o98 (i : grid0.Coords) : k0_off98 i = ![0, 256 * (2 * (i 2).val + 1), 128] := by
  have hi : (i 2).val < 16 := (i 2).isLt
  unfold k0_off98
  dsimp only
  generalize (i 2).val = n at hi ⊢
  interval_cases n <;> rfl

theorem o98_eq {arg5 : Memref sig .tc .vmem S1x8192x512 .bf16} {X : arg5.view.ty.Contents (Elt F)}
    {kb : ℕ → ℕ → Vec F S1x256x128 .bf16} (hX : Keys arg5 X kb) {i : grid0.Coords} (inb : ∀ a, (k0_off98 i) a + S1x256x128.size a ≤ S1x8192x512.size a) :
    View.readAt (Elt F) arg5.view (Rect.unit (s := S1x8192x512) (k0_off98 i) S1x256x128.size inb).toLoadRect X = kb 1 (2 * (i 2).val + 1) :=
  (View.readAt_unit_eq_of_eq arg5.view inb (o98 i) X).trans (hX 1 _ _ _ rfl rfl _)

theorem o99 (i : grid0.Coords) : k0_off99 i = ![0, 256 * (2 * (i 2).val + 1), 256] := by
  have hi : (i 2).val < 16 := (i 2).isLt
  unfold k0_off99
  dsimp only
  generalize (i 2).val = n at hi ⊢
  interval_cases n <;> rfl

theorem o99_eq {arg5 : Memref sig .tc .vmem S1x8192x512 .bf16} {X : arg5.view.ty.Contents (Elt F)}
    {kb : ℕ → ℕ → Vec F S1x256x128 .bf16} (hX : Keys arg5 X kb) {i : grid0.Coords} (inb : ∀ a, (k0_off99 i) a + S1x256x128.size a ≤ S1x8192x512.size a) :
    View.readAt (Elt F) arg5.view (Rect.unit (s := S1x8192x512) (k0_off99 i) S1x256x128.size inb).toLoadRect X = kb 2 (2 * (i 2).val + 1) :=
  (View.readAt_unit_eq_of_eq arg5.view inb (o99 i) X).trans (hX 2 _ _ _ rfl rfl _)

theorem o100 (i : grid0.Coords) : k0_off100 i = ![0, 256 * (2 * (i 2).val + 1), 384] := by
  have hi : (i 2).val < 16 := (i 2).isLt
  unfold k0_off100
  dsimp only
  generalize (i 2).val = n at hi ⊢
  interval_cases n <;> rfl

theorem o100_eq {arg5 : Memref sig .tc .vmem S1x8192x512 .bf16} {X : arg5.view.ty.Contents (Elt F)}
    {kb : ℕ → ℕ → Vec F S1x256x128 .bf16} (hX : Keys arg5 X kb) {i : grid0.Coords} (inb : ∀ a, (k0_off100 i) a + S1x256x128.size a ≤ S1x8192x512.size a) :
    View.readAt (Elt F) arg5.view (Rect.unit (s := S1x8192x512) (k0_off100 i) S1x256x128.size inb).toLoadRect X = kb 3 (2 * (i 2).val + 1) :=
  (View.readAt_unit_eq_of_eq arg5.view inb (o100 i) X).trans (hX 3 _ _ _ rfl rfl _)

theorem o101 (i : grid0.Coords) : k0_off101 i = ![0, 2 * (i 2).val, 0, 0] := by
  have hi : (i 2).val < 16 := (i 2).isLt
  unfold k0_off101
  dsimp only
  generalize (i 2).val = n at hi ⊢
  interval_cases n <;> rfl

theorem o101_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off101 i) a + S1x1x128x256.size a ≤ S1x32x512x256.size a) :
    View.readAt (Elt F) arg6.view (Rect.unit (s := S1x32x512x256) (k0_off101 i) S1x1x128x256.size inb).toLoadRect X = vb 0 (2 * (i 2).val) :=
  (View.readAt_unit_eq_of_eq arg6.view inb (o101 i) X).trans (hX 0 _ _ _ rfl rfl _)

theorem o102 (i : grid0.Coords) : k0_off102 i = ![0, min ((i 2).val + 1) 15, 0, 0] := by
  have hi : (i 2).val < 16 := (i 2).isLt
  unfold k0_off102
  dsimp only
  generalize (i 2).val = n at hi ⊢
  interval_cases n <;> rfl

theorem o102_eq {arg4 : Memref sig .tc .vmem S1x16x512x512 .bf16} {X : arg4.view.ty.Contents (Elt F)}
    {qb : ℕ → ℕ → Vec F S1x1x128x512 .bf16} (hX : Qb arg4 X qb) {i : grid0.Coords} (inb : ∀ a, (k0_off102 i) a + S1x1x128x512.size a ≤ S1x16x512x512.size a) :
    View.readAt (Elt F) arg4.view (Rect.unit (s := S1x16x512x512) (k0_off102 i) S1x1x128x512.size inb).toLoadRect X = qb 0 (min ((i 2).val + 1) 15) :=
  (View.readAt_unit_eq_of_eq arg4.view inb (o102 i) X).trans (hX 0 _ _ _ rfl rfl _)

theorem o103 (i : grid0.Coords) : k0_off103 i = ![0, 2 * (i 2).val, 128, 0] := by
  have hi : (i 2).val < 16 := (i 2).isLt
  unfold k0_off103
  dsimp only
  generalize (i 2).val = n at hi ⊢
  interval_cases n <;> rfl

theorem o103_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off103 i) a + S1x1x128x256.size a ≤ S1x32x512x256.size a) :
    View.readAt (Elt F) arg6.view (Rect.unit (s := S1x32x512x256) (k0_off103 i) S1x1x128x256.size inb).toLoadRect X = vb 1 (2 * (i 2).val) :=
  (View.readAt_unit_eq_of_eq arg6.view inb (o103 i) X).trans (hX 1 _ _ _ rfl rfl _)

theorem o104 (i : grid0.Coords) : k0_off104 i = ![0, min ((i 2).val + 1) 15, 128, 0] := by
  have hi : (i 2).val < 16 := (i 2).isLt
  unfold k0_off104
  dsimp only
  generalize (i 2).val = n at hi ⊢
  interval_cases n <;> rfl

theorem o104_eq {arg4 : Memref sig .tc .vmem S1x16x512x512 .bf16} {X : arg4.view.ty.Contents (Elt F)}
    {qb : ℕ → ℕ → Vec F S1x1x128x512 .bf16} (hX : Qb arg4 X qb) {i : grid0.Coords} (inb : ∀ a, (k0_off104 i) a + S1x1x128x512.size a ≤ S1x16x512x512.size a) :
    View.readAt (Elt F) arg4.view (Rect.unit (s := S1x16x512x512) (k0_off104 i) S1x1x128x512.size inb).toLoadRect X = qb 1 (min ((i 2).val + 1) 15) :=
  (View.readAt_unit_eq_of_eq arg4.view inb (o104 i) X).trans (hX 1 _ _ _ rfl rfl _)

theorem o105 (i : grid0.Coords) : k0_off105 i = ![0, 2 * (i 2).val, 256, 0] := by
  have hi : (i 2).val < 16 := (i 2).isLt
  unfold k0_off105
  dsimp only
  generalize (i 2).val = n at hi ⊢
  interval_cases n <;> rfl

theorem o105_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off105 i) a + S1x1x128x256.size a ≤ S1x32x512x256.size a) :
    View.readAt (Elt F) arg6.view (Rect.unit (s := S1x32x512x256) (k0_off105 i) S1x1x128x256.size inb).toLoadRect X = vb 2 (2 * (i 2).val) :=
  (View.readAt_unit_eq_of_eq arg6.view inb (o105 i) X).trans (hX 2 _ _ _ rfl rfl _)

theorem o106 (i : grid0.Coords) : k0_off106 i = ![0, min ((i 2).val + 1) 15, 256, 0] := by
  have hi : (i 2).val < 16 := (i 2).isLt
  unfold k0_off106
  dsimp only
  generalize (i 2).val = n at hi ⊢
  interval_cases n <;> rfl

theorem o106_eq {arg4 : Memref sig .tc .vmem S1x16x512x512 .bf16} {X : arg4.view.ty.Contents (Elt F)}
    {qb : ℕ → ℕ → Vec F S1x1x128x512 .bf16} (hX : Qb arg4 X qb) {i : grid0.Coords} (inb : ∀ a, (k0_off106 i) a + S1x1x128x512.size a ≤ S1x16x512x512.size a) :
    View.readAt (Elt F) arg4.view (Rect.unit (s := S1x16x512x512) (k0_off106 i) S1x1x128x512.size inb).toLoadRect X = qb 2 (min ((i 2).val + 1) 15) :=
  (View.readAt_unit_eq_of_eq arg4.view inb (o106 i) X).trans (hX 2 _ _ _ rfl rfl _)

theorem o107 (i : grid0.Coords) : k0_off107 i = ![0, 2 * (i 2).val, 384, 0] := by
  have hi : (i 2).val < 16 := (i 2).isLt
  unfold k0_off107
  dsimp only
  generalize (i 2).val = n at hi ⊢
  interval_cases n <;> rfl

theorem o107_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off107 i) a + S1x1x128x256.size a ≤ S1x32x512x256.size a) :
    View.readAt (Elt F) arg6.view (Rect.unit (s := S1x32x512x256) (k0_off107 i) S1x1x128x256.size inb).toLoadRect X = vb 3 (2 * (i 2).val) :=
  (View.readAt_unit_eq_of_eq arg6.view inb (o107 i) X).trans (hX 3 _ _ _ rfl rfl _)

theorem o108 (i : grid0.Coords) : k0_off108 i = ![0, min ((i 2).val + 1) 15, 384, 0] := by
  have hi : (i 2).val < 16 := (i 2).isLt
  unfold k0_off108
  dsimp only
  generalize (i 2).val = n at hi ⊢
  interval_cases n <;> rfl

theorem o108_eq {arg4 : Memref sig .tc .vmem S1x16x512x512 .bf16} {X : arg4.view.ty.Contents (Elt F)}
    {qb : ℕ → ℕ → Vec F S1x1x128x512 .bf16} (hX : Qb arg4 X qb) {i : grid0.Coords} (inb : ∀ a, (k0_off108 i) a + S1x1x128x512.size a ≤ S1x16x512x512.size a) :
    View.readAt (Elt F) arg4.view (Rect.unit (s := S1x16x512x512) (k0_off108 i) S1x1x128x512.size inb).toLoadRect X = qb 3 (min ((i 2).val + 1) 15) :=
  (View.readAt_unit_eq_of_eq arg4.view inb (o108 i) X).trans (hX 3 _ _ _ rfl rfl _)

theorem o109 (i : grid0.Coords) : k0_off109 i = ![0, 2 * (i 2).val + 1, 0, 0] := by
  have hi : (i 2).val < 16 := (i 2).isLt
  unfold k0_off109
  dsimp only
  generalize (i 2).val = n at hi ⊢
  interval_cases n <;> rfl

theorem o109_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off109 i) a + S1x1x128x256.size a ≤ S1x32x512x256.size a) :
    View.readAt (Elt F) arg6.view (Rect.unit (s := S1x32x512x256) (k0_off109 i) S1x1x128x256.size inb).toLoadRect X = vb 0 (2 * (i 2).val + 1) :=
  (View.readAt_unit_eq_of_eq arg6.view inb (o109 i) X).trans (hX 0 _ _ _ rfl rfl _)

theorem o110 (i : grid0.Coords) : k0_off110 i = ![0, 2 * (i 2).val + 1, 128, 0] := by
  have hi : (i 2).val < 16 := (i 2).isLt
  unfold k0_off110
  dsimp only
  generalize (i 2).val = n at hi ⊢
  interval_cases n <;> rfl

theorem o110_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off110 i) a + S1x1x128x256.size a ≤ S1x32x512x256.size a) :
    View.readAt (Elt F) arg6.view (Rect.unit (s := S1x32x512x256) (k0_off110 i) S1x1x128x256.size inb).toLoadRect X = vb 1 (2 * (i 2).val + 1) :=
  (View.readAt_unit_eq_of_eq arg6.view inb (o110 i) X).trans (hX 1 _ _ _ rfl rfl _)

theorem o111 (i : grid0.Coords) : k0_off111 i = ![0, 2 * (i 2).val + 1, 256, 0] := by
  have hi : (i 2).val < 16 := (i 2).isLt
  unfold k0_off111
  dsimp only
  generalize (i 2).val = n at hi ⊢
  interval_cases n <;> rfl

theorem o111_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off111 i) a + S1x1x128x256.size a ≤ S1x32x512x256.size a) :
    View.readAt (Elt F) arg6.view (Rect.unit (s := S1x32x512x256) (k0_off111 i) S1x1x128x256.size inb).toLoadRect X = vb 2 (2 * (i 2).val + 1) :=
  (View.readAt_unit_eq_of_eq arg6.view inb (o111 i) X).trans (hX 2 _ _ _ rfl rfl _)

theorem o112 (i : grid0.Coords) : k0_off112 i = ![0, 2 * (i 2).val + 1, 384, 0] := by
  have hi : (i 2).val < 16 := (i 2).isLt
  unfold k0_off112
  dsimp only
  generalize (i 2).val = n at hi ⊢
  interval_cases n <;> rfl

theorem o112_eq {arg6 : Memref sig .tc .vmem S1x32x512x256 .bf16} {X : arg6.view.ty.Contents (Elt F)}
    {vb : ℕ → ℕ → Vec F S1x1x128x256 .bf16} (hX : Vals arg6 X vb) {i : grid0.Coords} (inb : ∀ a, (k0_off112 i) a + S1x1x128x256.size a ≤ S1x32x512x256.size a) :
    View.readAt (Elt F) arg6.view (Rect.unit (s := S1x32x512x256) (k0_off112 i) S1x1x128x256.size inb).toLoadRect X = vb 3 (2 * (i 2).val + 1) :=
  (View.readAt_unit_eq_of_eq arg6.view inb (o112 i) X).trans (hX 3 _ _ _ rfl rfl _)

theorem k5_0 {arg5 : Memref sig .tc .vmem S1x8192x512 .bf16} {X : arg5.view.ty.Contents (Elt F)}
    {kb : ℕ → ℕ → Vec F S1x256x128 .bf16} (hX : Keys arg5 X kb) (inb : ∀ a, (![0, 0, 0] : Fin 3 → ℕ) a + S1x256x128.size a ≤ S1x8192x512.size a) :
    View.readAt (Elt F) arg5.view (Rect.unit (s := S1x8192x512) ![0, 0, 0] S1x256x128.size inb).toLoadRect X = kb 0 0 := hX 0 0 0 0 rfl rfl inb

theorem q4_0 {arg4 : Memref sig .tc .vmem S1x16x512x512 .bf16} {X : arg4.view.ty.Contents (Elt F)}
    {qb : ℕ → ℕ → Vec F S1x1x128x512 .bf16} (hX : Qb arg4 X qb) (inb : ∀ a, (![0, 0, 0, 0] : Fin 4 → ℕ) a + S1x1x128x512.size a ≤ S1x16x512x512.size a) :
    View.readAt (Elt F) arg4.view (Rect.unit (s := S1x16x512x512) ![0, 0, 0, 0] S1x1x128x512.size inb).toLoadRect X = qb 0 0 := hX 0 0 0 0 rfl rfl inb

theorem inb_q0 : ∀ a, (![0, 0, 0] : Fin 3 → ℕ) a + (![1, 128, 1024] : Fin 3 → ℕ) a ≤ (![4, 128, 1024] : Fin 3 → ℕ) a := by decide
theorem inb_8_0 : ∀ a, (![0, 0, 0] : Fin 3 → ℕ) a + (![1, 1, 1024] : Fin 3 → ℕ) a ≤ (![4, 1, 1024] : Fin 3 → ℕ) a := by decide
theorem inb_9_0 : ∀ a, (![0, 0, 0] : Fin 3 → ℕ) a + (![1, 144, 1024] : Fin 3 → ℕ) a ≤ (![4, 144, 1024] : Fin 3 → ℕ) a := by decide

theorem q12_0_256 {arg12 : Memref sig .tc .vmem S4x128x1024 .bf16} {X : arg12.view.ty.Contents (Elt F)}
    {q : ℕ → Vec F S1x128x1024 .bf16} (hX : Qs arg12 X q) (inb : ∀ a, (![0, 0, 256] : Fin 3 → ℕ) a + S1x128x256.size a ≤ S4x128x1024.size a) :
    View.readAt (Elt F) arg12.view (Rect.unit (s := S4x128x1024) ![0, 0, 256] S1x128x256.size inb).toLoadRect X = sub (R := 128) 256 (by decide) (q 0) :=
  (ra_sub _ _ (by decide) _ inb_q0).trans (congrArg (sub (R := 128) 256 (by decide)) (hX 0 inb_q0))

theorem q12_0_768 {arg12 : Memref sig .tc .vmem S4x128x1024 .bf16} {X : arg12.view.ty.Contents (Elt F)}
    {q : ℕ → Vec F S1x128x1024 .bf16} (hX : Qs arg12 X q) (inb : ∀ a, (![0, 0, 768] : Fin 3 → ℕ) a + S1x128x256.size a ≤ S4x128x1024.size a) :
    View.readAt (Elt F) arg12.view (Rect.unit (s := S4x128x1024) ![0, 0, 768] S1x128x256.size inb).toLoadRect X = sub (R := 128) 768 (by decide) (q 0) :=
  (ra_sub _ _ (by decide) _ inb_q0).trans (congrArg (sub (R := 128) 768 (by decide)) (hX 0 inb_q0))

theorem k5_1 {arg5 : Memref sig .tc .vmem S1x8192x512 .bf16} {X : arg5.view.ty.Contents (Elt F)}
    {kb : ℕ → ℕ → Vec F S1x256x128 .bf16} (hX : Keys arg5 X kb) (inb : ∀ a, (![0, 0, 128] : Fin 3 → ℕ) a + S1x256x128.size a ≤ S1x8192x512.size a) :
    View.readAt (Elt F) arg5.view (Rect.unit (s := S1x8192x512) ![0, 0, 128] S1x256x128.size inb).toLoadRect X = kb 1 0 := hX 1 0 0 128 rfl rfl inb

theorem q4_1 {arg4 : Memref sig .tc .vmem S1x16x512x512 .bf16} {X : arg4.view.ty.Contents (Elt F)}
    {qb : ℕ → ℕ → Vec F S1x1x128x512 .bf16} (hX : Qb arg4 X qb) (inb : ∀ a, (![0, 0, 128, 0] : Fin 4 → ℕ) a + S1x1x128x512.size a ≤ S1x16x512x512.size a) :
    View.readAt (Elt F) arg4.view (Rect.unit (s := S1x16x512x512) ![0, 0, 128, 0] S1x1x128x512.size inb).toLoadRect X = qb 1 0 := hX 1 0 0 128 rfl rfl inb

theorem inb_q1 : ∀ a, (![1, 0, 0] : Fin 3 → ℕ) a + (![1, 128, 1024] : Fin 3 → ℕ) a ≤ (![4, 128, 1024] : Fin 3 → ℕ) a := by decide
theorem inb_8_1 : ∀ a, (![1, 0, 0] : Fin 3 → ℕ) a + (![1, 1, 1024] : Fin 3 → ℕ) a ≤ (![4, 1, 1024] : Fin 3 → ℕ) a := by decide
theorem inb_9_1 : ∀ a, (![1, 0, 0] : Fin 3 → ℕ) a + (![1, 144, 1024] : Fin 3 → ℕ) a ≤ (![4, 144, 1024] : Fin 3 → ℕ) a := by decide

theorem q12_1_256 {arg12 : Memref sig .tc .vmem S4x128x1024 .bf16} {X : arg12.view.ty.Contents (Elt F)}
    {q : ℕ → Vec F S1x128x1024 .bf16} (hX : Qs arg12 X q) (inb : ∀ a, (![1, 0, 256] : Fin 3 → ℕ) a + S1x128x256.size a ≤ S4x128x1024.size a) :
    View.readAt (Elt F) arg12.view (Rect.unit (s := S4x128x1024) ![1, 0, 256] S1x128x256.size inb).toLoadRect X = sub (R := 128) 256 (by decide) (q 1) :=
  (ra_sub _ _ (by decide) _ inb_q1).trans (congrArg (sub (R := 128) 256 (by decide)) (hX 1 inb_q1))

theorem q12_1_768 {arg12 : Memref sig .tc .vmem S4x128x1024 .bf16} {X : arg12.view.ty.Contents (Elt F)}
    {q : ℕ → Vec F S1x128x1024 .bf16} (hX : Qs arg12 X q) (inb : ∀ a, (![1, 0, 768] : Fin 3 → ℕ) a + S1x128x256.size a ≤ S4x128x1024.size a) :
    View.readAt (Elt F) arg12.view (Rect.unit (s := S4x128x1024) ![1, 0, 768] S1x128x256.size inb).toLoadRect X = sub (R := 128) 768 (by decide) (q 1) :=
  (ra_sub _ _ (by decide) _ inb_q1).trans (congrArg (sub (R := 128) 768 (by decide)) (hX 1 inb_q1))

theorem k5_2 {arg5 : Memref sig .tc .vmem S1x8192x512 .bf16} {X : arg5.view.ty.Contents (Elt F)}
    {kb : ℕ → ℕ → Vec F S1x256x128 .bf16} (hX : Keys arg5 X kb) (inb : ∀ a, (![0, 0, 256] : Fin 3 → ℕ) a + S1x256x128.size a ≤ S1x8192x512.size a) :
    View.readAt (Elt F) arg5.view (Rect.unit (s := S1x8192x512) ![0, 0, 256] S1x256x128.size inb).toLoadRect X = kb 2 0 := hX 2 0 0 256 rfl rfl inb

theorem q4_2 {arg4 : Memref sig .tc .vmem S1x16x512x512 .bf16} {X : arg4.view.ty.Contents (Elt F)}
    {qb : ℕ → ℕ → Vec F S1x1x128x512 .bf16} (hX : Qb arg4 X qb) (inb : ∀ a, (![0, 0, 256, 0] : Fin 4 → ℕ) a + S1x1x128x512.size a ≤ S1x16x512x512.size a) :
    View.readAt (Elt F) arg4.view (Rect.unit (s := S1x16x512x512) ![0, 0, 256, 0] S1x1x128x512.size inb).toLoadRect X = qb 2 0 := hX 2 0 0 256 rfl rfl inb

theorem inb_q2 : ∀ a, (![2, 0, 0] : Fin 3 → ℕ) a + (![1, 128, 1024] : Fin 3 → ℕ) a ≤ (![4, 128, 1024] : Fin 3 → ℕ) a := by decide
theorem inb_8_2 : ∀ a, (![2, 0, 0] : Fin 3 → ℕ) a + (![1, 1, 1024] : Fin 3 → ℕ) a ≤ (![4, 1, 1024] : Fin 3 → ℕ) a := by decide
theorem inb_9_2 : ∀ a, (![2, 0, 0] : Fin 3 → ℕ) a + (![1, 144, 1024] : Fin 3 → ℕ) a ≤ (![4, 144, 1024] : Fin 3 → ℕ) a := by decide

theorem q12_2_256 {arg12 : Memref sig .tc .vmem S4x128x1024 .bf16} {X : arg12.view.ty.Contents (Elt F)}
    {q : ℕ → Vec F S1x128x1024 .bf16} (hX : Qs arg12 X q) (inb : ∀ a, (![2, 0, 256] : Fin 3 → ℕ) a + S1x128x256.size a ≤ S4x128x1024.size a) :
    View.readAt (Elt F) arg12.view (Rect.unit (s := S4x128x1024) ![2, 0, 256] S1x128x256.size inb).toLoadRect X = sub (R := 128) 256 (by decide) (q 2) :=
  (ra_sub _ _ (by decide) _ inb_q2).trans (congrArg (sub (R := 128) 256 (by decide)) (hX 2 inb_q2))

theorem q12_2_768 {arg12 : Memref sig .tc .vmem S4x128x1024 .bf16} {X : arg12.view.ty.Contents (Elt F)}
    {q : ℕ → Vec F S1x128x1024 .bf16} (hX : Qs arg12 X q) (inb : ∀ a, (![2, 0, 768] : Fin 3 → ℕ) a + S1x128x256.size a ≤ S4x128x1024.size a) :
    View.readAt (Elt F) arg12.view (Rect.unit (s := S4x128x1024) ![2, 0, 768] S1x128x256.size inb).toLoadRect X = sub (R := 128) 768 (by decide) (q 2) :=
  (ra_sub _ _ (by decide) _ inb_q2).trans (congrArg (sub (R := 128) 768 (by decide)) (hX 2 inb_q2))

theorem k5_3 {arg5 : Memref sig .tc .vmem S1x8192x512 .bf16} {X : arg5.view.ty.Contents (Elt F)}
    {kb : ℕ → ℕ → Vec F S1x256x128 .bf16} (hX : Keys arg5 X kb) (inb : ∀ a, (![0, 0, 384] : Fin 3 → ℕ) a + S1x256x128.size a ≤ S1x8192x512.size a) :
    View.readAt (Elt F) arg5.view (Rect.unit (s := S1x8192x512) ![0, 0, 384] S1x256x128.size inb).toLoadRect X = kb 3 0 := hX 3 0 0 384 rfl rfl inb

theorem q4_3 {arg4 : Memref sig .tc .vmem S1x16x512x512 .bf16} {X : arg4.view.ty.Contents (Elt F)}
    {qb : ℕ → ℕ → Vec F S1x1x128x512 .bf16} (hX : Qb arg4 X qb) (inb : ∀ a, (![0, 0, 384, 0] : Fin 4 → ℕ) a + S1x1x128x512.size a ≤ S1x16x512x512.size a) :
    View.readAt (Elt F) arg4.view (Rect.unit (s := S1x16x512x512) ![0, 0, 384, 0] S1x1x128x512.size inb).toLoadRect X = qb 3 0 := hX 3 0 0 384 rfl rfl inb

theorem inb_q3 : ∀ a, (![3, 0, 0] : Fin 3 → ℕ) a + (![1, 128, 1024] : Fin 3 → ℕ) a ≤ (![4, 128, 1024] : Fin 3 → ℕ) a := by decide
theorem inb_8_3 : ∀ a, (![3, 0, 0] : Fin 3 → ℕ) a + (![1, 1, 1024] : Fin 3 → ℕ) a ≤ (![4, 1, 1024] : Fin 3 → ℕ) a := by decide
theorem inb_9_3 : ∀ a, (![3, 0, 0] : Fin 3 → ℕ) a + (![1, 144, 1024] : Fin 3 → ℕ) a ≤ (![4, 144, 1024] : Fin 3 → ℕ) a := by decide

theorem q12_3_256 {arg12 : Memref sig .tc .vmem S4x128x1024 .bf16} {X : arg12.view.ty.Contents (Elt F)}
    {q : ℕ → Vec F S1x128x1024 .bf16} (hX : Qs arg12 X q) (inb : ∀ a, (![3, 0, 256] : Fin 3 → ℕ) a + S1x128x256.size a ≤ S4x128x1024.size a) :
    View.readAt (Elt F) arg12.view (Rect.unit (s := S4x128x1024) ![3, 0, 256] S1x128x256.size inb).toLoadRect X = sub (R := 128) 256 (by decide) (q 3) :=
  (ra_sub _ _ (by decide) _ inb_q3).trans (congrArg (sub (R := 128) 256 (by decide)) (hX 3 inb_q3))

theorem q12_3_768 {arg12 : Memref sig .tc .vmem S4x128x1024 .bf16} {X : arg12.view.ty.Contents (Elt F)}
    {q : ℕ → Vec F S1x128x1024 .bf16} (hX : Qs arg12 X q) (inb : ∀ a, (![3, 0, 768] : Fin 3 → ℕ) a + S1x128x256.size a ≤ S4x128x1024.size a) :
    View.readAt (Elt F) arg12.view (Rect.unit (s := S4x128x1024) ![3, 0, 768] S1x128x256.size inb).toLoadRect X = sub (R := 128) 768 (by decide) (q 3) :=
  (ra_sub _ _ (by decide) _ inb_q3).trans (congrArg (sub (R := 128) 768 (by decide)) (hX 3 inb_q3))

theorem loop1b {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K = (i 2).val / 4) (h : St v0 kb vb q arg8 arg9 arg10 f8 f9 f10 L8 L9 L10 0) :
    St v0 kb vb q arg8 arg9 arg10 f8 f9 f10 ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).1 ++ L8) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.1 ++ L9) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.2.1 ++ L10) (8 * ((i 2).val / 4)) := by
  have h1 := loop1 (𝒱 := 𝒱) (c := c) (bd := bd) (i := i) (harg3 := harg3) (harg4 := harg4) (harg5 := harg5) (harg6 := harg6) (harg7 := harg7) (harg8 := harg8) (harg9 := harg9) (harg10 := harg10) (harg11 := harg11) (harg12 := harg12) (arg2 := arg2) (c0_i32_14 := c0_i32_14) (v32 := v32) (G11 := G11) h5 h6 h12 K (by rw [tr1]; exact hK.le) h
  subst hK; exact h1

theorem loop3b {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K = (i 2).val % 4 / 2) (h : St v0 kb vb q arg8 arg9 arg10 f8 f9 f10 L8 L9 L10 (8 * ((i 2).val / 4))) :
    St v0 kb vb q arg8 arg9 arg10 f8 f9 f10 ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).1 ++ L8) ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.1 ++ L9) ((pb_k0_t3 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) (arg10.view.writes (Elt F) f10 L10) G11 K).2.2.1 ++ L10) (8 * ((i 2).val / 4) + 4 * ((i 2).val % 4 / 2)) := by
  have h1 := loop3 (𝒱 := 𝒱) (c := c) (bd := bd) (i := i) (harg3 := harg3) (harg4 := harg4) (harg5 := harg5) (harg6 := harg6) (harg7 := harg7) (harg8 := harg8) (harg9 := harg9) (harg10 := harg10) (harg11 := harg11) (harg12 := harg12) (arg2 := arg2) (c0_i32_14 := c0_i32_14) (v32 := v32) (G11 := G11) h5 h6 h12 K (by rw [tr3]; exact hK.le) h
  subst hK; exact h1

theorem loop5b {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c2_i32_35 : BitVec 32} {v66 : BitVec 1} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)} {L10 : List (View.Piece (Elt F) S4x256x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K = (i 2).val % 2) (h : St v0 kb vb q arg8 arg9 arg10 f8 f9 f10 L8 L9 L10 (8 * ((i 2).val / 4) + 4 * ((i 2).val % 4 / 2))) :
    St v0 kb vb q arg8 arg9 arg10 f8 f9 f10 ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).1 ++ L8) ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).2.1 ++ L9) ((pb_k0_t5 (F := F) 𝒱 c bd i arg3 harg3 arg4 harg4 arg5 harg5 arg6 harg6 arg7 harg7 arg8 harg8 arg9 harg9 arg10 harg10 arg11 harg11 arg12 harg12 arg2 v0 c2_i32_35 v66 X_arg5 X_arg6 X_arg12 (arg8.view.writes (Elt F) f8 L8) (arg9.view.writes (Elt F) f9 L9) (arg10.view.writes (Elt F) f10 L10) G11 K).2.2.1 ++ L10) (2 * (i 2).val) := by
  have hi : (i 2).val < 16 := (i 2).isLt
  rcases Nat.mod_two_eq_zero_or_one (i 2).val with e | e
  · have hK0 : K = 0 := hK.trans e
    subst hK0
    have e2 : 8 * ((i 2).val / 4) + 4 * ((i 2).val % 4 / 2) = 2 * (i 2).val := by omega
    rw [e2] at h
    exact h
  · have e2 : 8 * ((i 2).val / 4) + 4 * ((i 2).val % 4 / 2) = 2 * ((i 2).val - 1) + 2 * 0 := by omega
    have e3 : 2 * ((i 2).val - 1) + 2 * K = 2 * (i 2).val := by omega
    rw [e2] at h
    have h1 := loop5 (𝒱 := 𝒱) (c := c) (bd := bd) (i := i) (harg3 := harg3) (harg4 := harg4) (harg5 := harg5) (harg6 := harg6) (harg7 := harg7) (harg8 := harg8) (harg9 := harg9) (harg10 := harg10) (harg11 := harg11) (harg12 := harg12) (arg2 := arg2) (c2_i32_35 := c2_i32_35) (v66 := v66) (G11 := G11) h5 h6 h12 K (by rw [tr5]; exact hK.le) h
    rw [e3] at h1
    exact h1

/-- Before the loops: the maxima are −∞, the sums zero, and the first scores are given. -/
theorem st0 {kb : ℕ → ℕ → Vec F S1x256x128 .bf16} {vb : ℕ → ℕ → Vec F S1x1x128x256 .bf16} {q : ℕ → Vec F S1x128x1024 .bf16}
    {arg8 : Memref sig .tc .vmem S4x1x1024 .f32} {arg9 : Memref sig .tc .vmem S4x144x1024 .f32} {arg10 : Memref sig .tc .vmem S4x256x1024 .f32}
    (f8 : arg8.view.ty.Contents (Elt F)) (f9 : arg9.view.ty.Contents (Elt F)) {f10 : arg10.view.ty.Contents (Elt F)}
    {L10 : List (View.Piece (Elt F) S4x256x1024 .f32)}
    {inb8 : ∀ a, (![0, 0, 0] : Fin 3 → ℕ) a + S4x1x1024.size a ≤ S4x1x1024.size a} {inb9 : ∀ a, (![0, 0, 0] : Fin 3 → ℕ) a + S4x144x1024.size a ≤ S4x144x1024.size a}
    (h10 : Ss arg10 (arg10.view.writes (Elt F) f10 L10) (fun hh => SC (kb hh 0) (q hh))) :
    St k0_pay813 kb vb q arg8 arg9 arg10 f8 f9 f10 [⟨Rect.unit (s := S4x1x1024) ![0, 0, 0] S4x1x1024.size inb8, k0_pay815⟩]
      [⟨Rect.unit (s := S4x144x1024) ![0, 0, 0] S4x144x1024.size inb9, k0_pay816⟩] L10 0 where
  h8 := fun hh inb => funext fun j => read_writes_cons_unit_of_mem arg8.view f8 inb8 _ _ _ ((Rect.unit (s := S4x1x1024) ![hh, 0, 0] S1x1x1024.size inb).idx j) rfl
    fun a => by fin_cases a <;> exact (Nat.zero_add _).symm
  h9 := fun hh inb => funext fun j => read_writes_cons_unit_of_mem arg9.view f9 inb9 _ _ _ ((Rect.unit (s := S4x144x1024) ![hh, 0, 0] S1x144x1024.size inb).idx j) rfl
    fun a => by fin_cases a <;> exact (Nat.zero_add _).symm
  h10 := h10

/-- The one scalar the body loads. -/
def lamv (arg3 : Memref sig .tc .smem S1 .f32) (f3 : arg3.view.ty.Contents (Elt F)) : F .f32 :=
  View.readAt (Elt F) arg3.view (Rect.unit (s := S1) ![0] S1.size (by decide)).toLoadRect f3 (Shape.Idx.first (by decide))

/-- A load of rows passes a store to other rows. -/
theorem ra_missr {sig : RefSig} {κ : Kind} {sp : Space} {d : Fin 3 → ℕ} {e : EltTy} {Val : EltTy → Type} (v : View sig κ sp (⟨3, d⟩ : Shape) e) (f : v.ty.Contents Val) {h h' x x' y y' : ℕ} {sz sz' : Fin 3 → ℕ}
    (inb : ∀ a, (![h, x, y] : Fin 3 → ℕ) a + sz a ≤ d a) (inb' : ∀ a, (![h', x', y'] : Fin 3 → ℕ) a + sz' a ≤ d a)
    (w : (Rect.unit (s := ⟨3, d⟩) ![h, x, y] sz inb).shape.Idx → Val e) (L : List (Piece Val (⟨3, d⟩ : Shape) e)) (hs : sz' 1 = sz' 1)
    (hne : x + sz 1 ≤ x' ∨ x' + sz' 1 ≤ x) :
    v.readAt Val (Rect.unit (s := ⟨3, d⟩) ![h', x', y'] sz' inb').toLoadRect (v.writes Val f (⟨Rect.unit (s := ⟨3, d⟩) ![h, x, y] sz inb, w⟩ :: L))
      = v.readAt Val (Rect.unit (s := ⟨3, d⟩) ![h', x', y'] sz' inb').toLoadRect (v.writes Val f L) :=
  funext fun j => read_writes_cons_unit_of_not_mem v f inb w L _ rfl (1 : Fin 3) (by
    have e1 := Rect.idx_unit_val (s := ⟨3, d⟩) ![h', x', y'] sz' inb' j (1 : Fin 3)
    have e2 : (j (1 : Fin 3)).val < sz' 1 := (j (1 : Fin 3)).isLt
    have e3 : (![h', x', y'] : Fin 3 → ℕ) 1 = x' := rfl
    have e4 : (![h, x, y] : Fin 3 → ℕ) 1 = x := rfl
    rw [e3] at e1
    show ((Rect.unit (s := ⟨3, d⟩) ![h', x', y'] sz' inb').idx j (1 : Fin 3)).val < (![h, x, y] : Fin 3 → ℕ) 1 ∨ (![h, x, y] : Fin 3 → ℕ) 1 + sz 1 ≤ _
    rw [e4, e1]; omega)

end Cert.KernelIdeal.Att

end
-- ==== Proof.AttNext.lean ====
/- What the body's run leaves behind, read head by head: the output block, the next query block's masked queries and
   its first scores (at a later query block). -/
module

public import proofs.«01_k».proof.Proof.AttBase

@[expose] public section

set_option maxRecDepth 16384

noncomputable section

namespace Cert.KernelIdeal.Att

open Cert.KernelIdeal Cert.KernelIdeal.Gen Idealize.ShloMosaic Idealize.ShloMosaic.View

section Tail
variable {F : FTy → Type} [FloatOps F]
theorem loop1c {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K = (i 2).val / 4) (h : St v0 kb vb q arg8 arg9 arg10 f8 f9 f10 L8 L9 [] 0) :
    St v0 kb vb q arg8 arg9 arg10 f8 f9 f10 ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).1 ++ L8) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).2.1 ++ L9) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).2.2.1 ++ []) (8 * ((i 2).val / 4)) := by
  have h1 := loop1b (𝒱 := 𝒱) (c := c) (bd := bd) (i := i) (harg3 := harg3) (harg4 := harg4) (harg5 := harg5) (harg6 := harg6) (harg7 := harg7) (harg8 := harg8) (harg9 := harg9) (harg10 := harg10) (harg11 := harg11) (harg12 := harg12) (arg2 := arg2) (c0_i32_14 := c0_i32_14) (v32 := v32) (G11 := G11) h5 h6 h12 K hK h
  exact h1

theorem loop1d {𝒱 : Variants} {c : Dev nD} {bd : Option 𝒱.V} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole} {arg2 : BitVec 32} {v0 : FVec F S16x256 .bf16} {c0_i32_14 : BitVec 32} {v32 : BitVec 32} {X_arg5 : arg5.view.ty.Contents (Elt F)} {X_arg6 : arg6.view.ty.Contents (Elt F)} {X_arg12 : arg12.view.ty.Contents (Elt F)}
    {f8 : arg8.view.ty.Contents (Elt F)} {f9 : arg9.view.ty.Contents (Elt F)} {f10 : arg10.view.ty.Contents (Elt F)} {G11 : arg11.view.ty.Contents (Elt F)}
    {L8 : List (View.Piece (Elt F) S4x1x1024 .f32)} {L9 : List (View.Piece (Elt F) S4x144x1024 .f32)}
    {kb : ℕ → ℕ → Vec F S1x256x128 .bf16} {vb : ℕ → ℕ → Vec F S1x1x128x256 .bf16} {q : ℕ → Vec F S1x128x1024 .bf16}
    (h5 : Keys arg5 X_arg5 kb) (h6 : Vals arg6 X_arg6 vb) (h12 : Qs arg12 X_arg12 q)
    (K : ℕ) (hK : K = (i 2).val / 4) (h : St v0 kb vb q arg8 arg9 arg10 f8 f9 f10 L8 L9 [] 0) :
    St v0 kb vb q arg8 arg9 arg10 f8 f9 f10 ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).1 ++ L8) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).2.1 ++ L9) ((pb_k0_t1 (F := F) 𝒱 c bd i arg3 harg3 arg4 harg4 arg5 harg5 arg6 harg6 arg7 harg7 arg8 harg8 arg9 harg9 arg10 harg10 arg11 harg11 arg12 harg12 arg2 v0 c0_i32_14 v32 X_arg5 X_arg6 X_arg12 (arg8.view.writes (Elt F) f8 L8) (arg9.view.writes (Elt F) f9 L9) f10 G11 K).2.2.1 ) (8 * ((i 2).val / 4)) := by
  have h1 := loop1b (𝒱 := 𝒱) (c := c) (bd := bd) (i := i) (harg3 := harg3) (harg4 := harg4) (harg5 := harg5) (harg6 := harg6) (harg7 := harg7) (harg8 := harg8) (harg9 := harg9) (harg10 := harg10) (harg11 := harg11) (harg12 := harg12) (arg2 := arg2) (c0_i32_14 := c0_i32_14) (v32 := v32) (G11 := G11) h5 h6 h12 K hK h
  rw [List.append_nil] at h1
  exact h1

end Tail

section Held
variable {F : FTy → Type} [FloatOps F] {v0 : FVec F S16x256 .bf16} {kb : ℕ → ℕ → Vec F S1x256x128 .bf16} {vb : ℕ → ℕ → Vec F S1x1x128x256 .bf16} {q : ℕ → Vec F S1x128x1024 .bf16}
    {arg8 : Memref sig .tc .vmem S4x1x1024 .f32} {arg9 : Memref sig .tc .vmem S4x144x1024 .f32} {arg10 : Memref sig .tc .vmem S4x256x1024 .f32}
    {f8 : arg8.view.ty.Contents (Elt F)} {f9 : arg9.view.ty.Contents (Elt F)} {f10 : arg10.view.ty.Contents (Elt F)}
    {L8 : List (View.Piece (Elt F) S4x1x1024 .f32)} {L9 : List (View.Piece (Elt F) S4x144x1024 .f32)} {L10 : List (View.Piece (Elt F) S4x256x1024 .f32)}
    {n hh : ℕ}
theorem runNext_st8 {inb : ∀ a, (![hh, 0, 0] : Fin 3 → ℕ) a + S1x1x1024.size a ≤ S4x1x1024.size a} (h : St v0 kb vb q arg8 arg9 arg10 f8 f9 f10 L8 L9 L10 n) :
    View.readAt (Elt F) arg8.view (Rect.unit (s := S4x1x1024) ![hh, 0, 0] S1x1x1024.size inb).toLoadRect (arg8.view.writes (Elt F) f8 L8) = MM (kb hh) (q hh) n := h.h8 hh inb
theorem runNext_st9 {inb : ∀ a, (![hh, 0, 0] : Fin 3 → ℕ) a + S1x144x1024.size a ≤ S4x144x1024.size a} (h : St v0 kb vb q arg8 arg9 arg10 f8 f9 f10 L8 L9 L10 n) :
    View.readAt (Elt F) arg9.view (Rect.unit (s := S4x144x1024) ![hh, 0, 0] S1x144x1024.size inb).toLoadRect (arg9.view.writes (Elt F) f9 L9) = AA v0 (kb hh) (vb hh) (q hh) n := h.h9 hh inb
theorem runNext_st10 {inb : ∀ a, (![hh, 0, 0] : Fin 3 → ℕ) a + S1x256x1024.size a ≤ S4x256x1024.size a} (h : St v0 kb vb q arg8 arg9 arg10 f8 f9 f10 L8 L9 L10 n) :
    View.readAt (Elt F) arg10.view (Rect.unit (s := S4x256x1024) ![hh, 0, 0] S1x256x1024.size inb).toLoadRect (arg10.view.writes (Elt F) f10 L10) = SC (kb hh n) (q hh) := h.h10 hh inb
end Held

variable {F : FTy → Type} [FloatOps F]
variable {c : Dev nD} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole}
  {f3 : arg3.view.ty.Contents (Elt F)} {f4 : arg4.view.ty.Contents (Elt F)} {f5 : arg5.view.ty.Contents (Elt F)} {f6 : arg6.view.ty.Contents (Elt F)} {f7 : arg7.view.ty.Contents (Elt F)} {f8 : arg8.view.ty.Contents (Elt F)} {f9 : arg9.view.ty.Contents (Elt F)} {f10 : arg10.view.ty.Contents (Elt F)} {f11 : arg11.view.ty.Contents (Elt F)} {f12 : arg12.view.ty.Contents (Elt F)}
  {kb : ℕ → ℕ → Vec F S1x256x128 .bf16} {vb : ℕ → ℕ → Vec F S1x1x128x256 .bf16} {qb : ℕ → ℕ → Vec F S1x1x128x512 .bf16} {q : ℕ → Vec F S1x128x1024 .bf16}

theorem runNext_v172_eq (h4 : Qb arg4 f4 qb) (h5 : Keys arg5 f5 kb) (h6 : Vals arg6 f6 vb) (h10 : Ss arg10 f10 (fun hh => SC (kb hh 0) (q hh))) (h12 : Qs arg12 f12 q) : (runNext.sl.v172 (F := F) c i arg3 harg3 arg4 harg4 arg5 harg5 arg6 harg6 arg7 harg7 arg8 harg8 arg9 harg9 arg10 harg10 arg11 harg11 arg12 harg12 f5 f6 f10 f11 f12) = MM (kb 0) (q 0) (2 * (i 2).val) := by
  unfold runNext.sl.v172
  apply runNext_st8 (v0 := k0_pay813) (kb := kb) (vb := vb) (q := q) (n := 2 * (i 2).val) (hh := 0)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v239_eq (h4 : Qb arg4 f4 qb) (h5 : Keys arg5 f5 kb) (h6 : Vals arg6 f6 vb) (h10 : Ss arg10 f10 (fun hh => SC (kb hh 0) (q hh))) (h12 : Qs arg12 f12 q) : (runNext.sl.v239 (F := F) c i arg3 harg3 arg4 harg4 arg5 harg5 arg6 harg6 arg7 harg7 arg8 harg8 arg9 harg9 arg10 harg10 arg11 harg11 arg12 harg12 f5 f6 f10 f11 f12) = MM (kb 1) (q 1) (2 * (i 2).val) := by
  unfold runNext.sl.v239 runNext.sl.H8_1_1
  refine (rc_miss _ _ _ _ _ rfl rfl (by decide)).trans ?_
  apply runNext_st8 (v0 := k0_pay813) (kb := kb) (vb := vb) (q := q) (n := 2 * (i 2).val) (hh := 1)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v306_eq (h4 : Qb arg4 f4 qb) (h5 : Keys arg5 f5 kb) (h6 : Vals arg6 f6 vb) (h10 : Ss arg10 f10 (fun hh => SC (kb hh 0) (q hh))) (h12 : Qs arg12 f12 q) : (runNext.sl.v306 (F := F) c i arg3 harg3 arg4 harg4 arg5 harg5 arg6 harg6 arg7 harg7 arg8 harg8 arg9 harg9 arg10 harg10 arg11 harg11 arg12 harg12 f4 f5 f6 f10 f11 f12) = MM (kb 2) (q 2) (2 * (i 2).val) := by
  unfold runNext.sl.v306 runNext.sl.H8_2 runNext.sl.H8_1_1
  iterate 2 refine (rc_miss _ _ _ _ _ rfl rfl (by decide)).trans ?_
  apply runNext_st8 (v0 := k0_pay813) (kb := kb) (vb := vb) (q := q) (n := 2 * (i 2).val) (hh := 2)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v373_eq (h4 : Qb arg4 f4 qb) (h5 : Keys arg5 f5 kb) (h6 : Vals arg6 f6 vb) (h10 : Ss arg10 f10 (fun hh => SC (kb hh 0) (q hh))) (h12 : Qs arg12 f12 q) : (runNext.sl.v373 (F := F) c i arg3 harg3 arg4 harg4 arg5 harg5 arg6 harg6 arg7 harg7 arg8 harg8 arg9 harg9 arg10 harg10 arg11 harg11 arg12 harg12 f4 f5 f6 f10 f11 f12) = MM (kb 3) (q 3) (2 * (i 2).val) := by
  unfold runNext.sl.v373 runNext.sl.H8_3 runNext.sl.H8_2 runNext.sl.H8_1_1
  iterate 3 refine (rc_miss _ _ _ _ _ rfl rfl (by decide)).trans ?_
  apply runNext_st8 (v0 := k0_pay813) (kb := kb) (vb := vb) (q := q) (n := 2 * (i 2).val) (hh := 3)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v187_eq (h4 : Qb arg4 f4 qb) (h5 : Keys arg5 f5 kb) (h6 : Vals arg6 f6 vb) (h10 : Ss arg10 f10 (fun hh => SC (kb hh 0) (q hh))) (h12 : Qs arg12 f12 q) : (runNext.sl.v187 (F := F) c i arg3 harg3 arg4 harg4 arg5 harg5 arg6 harg6 arg7 harg7 arg8 harg8 arg9 harg9 arg10 harg10 arg11 harg11 arg12 harg12 f5 f6 f10 f11 f12) = AA k0_pay813 (kb 0) (vb 0) (q 0) (2 * (i 2).val) := by
  unfold runNext.sl.v187
  apply runNext_st9 (v0 := k0_pay813) (kb := kb) (vb := vb) (q := q) (n := 2 * (i 2).val) (hh := 0)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v254_eq (h4 : Qb arg4 f4 qb) (h5 : Keys arg5 f5 kb) (h6 : Vals arg6 f6 vb) (h10 : Ss arg10 f10 (fun hh => SC (kb hh 0) (q hh))) (h12 : Qs arg12 f12 q) : (runNext.sl.v254 (F := F) c i arg3 harg3 arg4 harg4 arg5 harg5 arg6 harg6 arg7 harg7 arg8 harg8 arg9 harg9 arg10 harg10 arg11 harg11 arg12 harg12 f5 f6 f10 f11 f12) = AA k0_pay813 (kb 1) (vb 1) (q 1) (2 * (i 2).val) := by
  unfold runNext.sl.v254 runNext.sl.H9_1_1
  refine (rc_miss _ _ _ _ _ rfl rfl (by decide)).trans ?_
  apply runNext_st9 (v0 := k0_pay813) (kb := kb) (vb := vb) (q := q) (n := 2 * (i 2).val) (hh := 1)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v321_eq (h4 : Qb arg4 f4 qb) (h5 : Keys arg5 f5 kb) (h6 : Vals arg6 f6 vb) (h10 : Ss arg10 f10 (fun hh => SC (kb hh 0) (q hh))) (h12 : Qs arg12 f12 q) : (runNext.sl.v321 (F := F) c i arg3 harg3 arg4 harg4 arg5 harg5 arg6 harg6 arg7 harg7 arg8 harg8 arg9 harg9 arg10 harg10 arg11 harg11 arg12 harg12 f4 f5 f6 f10 f11 f12) = AA k0_pay813 (kb 2) (vb 2) (q 2) (2 * (i 2).val) := by
  unfold runNext.sl.v321 runNext.sl.H9_2 runNext.sl.H9_1_1
  iterate 2 refine (rc_miss _ _ _ _ _ rfl rfl (by decide)).trans ?_
  apply runNext_st9 (v0 := k0_pay813) (kb := kb) (vb := vb) (q := q) (n := 2 * (i 2).val) (hh := 2)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v388_eq (h4 : Qb arg4 f4 qb) (h5 : Keys arg5 f5 kb) (h6 : Vals arg6 f6 vb) (h10 : Ss arg10 f10 (fun hh => SC (kb hh 0) (q hh))) (h12 : Qs arg12 f12 q) : (runNext.sl.v388 (F := F) c i arg3 harg3 arg4 harg4 arg5 harg5 arg6 harg6 arg7 harg7 arg8 harg8 arg9 harg9 arg10 harg10 arg11 harg11 arg12 harg12 f4 f5 f6 f10 f11 f12) = AA k0_pay813 (kb 3) (vb 3) (q 3) (2 * (i 2).val) := by
  unfold runNext.sl.v388 runNext.sl.H9_3 runNext.sl.H9_2 runNext.sl.H9_1_1
  iterate 3 refine (rc_miss _ _ _ _ _ rfl rfl (by decide)).trans ?_
  apply runNext_st9 (v0 := k0_pay813) (kb := kb) (vb := vb) (q := q) (n := 2 * (i 2).val) (hh := 3)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_v160_eq (h4 : Qb arg4 f4 qb) (h5 : Keys arg5 f5 kb) (h6 : Vals arg6 f6 vb) (h10 : Ss arg10 f10 (fun hh => SC (kb hh 0) (q hh))) (h12 : Qs arg12 f12 q) : (runNext.sl.v160 (F := F) c i arg3 harg3 arg4 harg4 arg5 harg5 arg6 harg6 arg7 harg7 arg8 harg8 arg9 harg9 arg10 harg10 arg11 harg11 arg12 harg12 f5 f6 f10 f11 f12) = SC (kb 0 (2 * (i 2).val)) (q 0) := by
  unfold runNext.sl.v160
  apply runNext_st10 (v0 := k0_pay813) (kb := kb) (vb := vb) (q := q) (n := 2 * (i 2).val) (hh := 0)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_s1_eq (h4 : Qb arg4 f4 qb) (h5 : Keys arg5 f5 kb) (h6 : Vals arg6 f6 vb) (h10 : Ss arg10 f10 (fun hh => SC (kb hh 0) (q hh))) (h12 : Qs arg12 f12 q) (inb : ∀ a, (![1, 0, 0] : Fin 3 → ℕ) a + S1x256x1024.size a ≤ S4x256x1024.size a) : View.readAt (Elt F) arg10.view (Rect.unit (s := S4x256x1024) ![1, 0, 0] S1x256x1024.size inb).toLoadRect (arg10.view.writes (Elt F) f10 (runNext.sl.H10_1 (F := F) c i arg3 harg3 arg4 harg4 arg5 harg5 arg6 harg6 arg7 harg7 arg8 harg8 arg9 harg9 arg10 harg10 arg11 harg11 arg12 harg12 f4 f5 f6 f10 f11 f12)) = SC (kb 1 (2 * (i 2).val)) (q 1) := by
  unfold runNext.sl.H10_1
  refine (ra_miss _ _ _ _ _ _ rfl rfl (by decide)).trans ?_
  apply runNext_st10 (v0 := k0_pay813) (kb := kb) (vb := vb) (q := q) (n := 2 * (i 2).val) (hh := 1)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_s2_eq (h4 : Qb arg4 f4 qb) (h5 : Keys arg5 f5 kb) (h6 : Vals arg6 f6 vb) (h10 : Ss arg10 f10 (fun hh => SC (kb hh 0) (q hh))) (h12 : Qs arg12 f12 q) (inb : ∀ a, (![2, 0, 0] : Fin 3 → ℕ) a + S1x256x1024.size a ≤ S4x256x1024.size a) : View.readAt (Elt F) arg10.view (Rect.unit (s := S4x256x1024) ![2, 0, 0] S1x256x1024.size inb).toLoadRect (arg10.view.writes (Elt F) f10 (runNext.sl.H10_2 (F := F) c i arg3 harg3 arg4 harg4 arg5 harg5 arg6 harg6 arg7 harg7 arg8 harg8 arg9 harg9 arg10 harg10 arg11 harg11 arg12 harg12 f4 f5 f6 f10 f11 f12)) = SC (kb 2 (2 * (i 2).val)) (q 2) := by
  unfold runNext.sl.H10_2 runNext.sl.H10_1
  iterate 2 refine (ra_miss _ _ _ _ _ _ rfl rfl (by decide)).trans ?_
  apply runNext_st10 (v0 := k0_pay813) (kb := kb) (vb := vb) (q := q) (n := 2 * (i 2).val) (hh := 2)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_s3_eq (h4 : Qb arg4 f4 qb) (h5 : Keys arg5 f5 kb) (h6 : Vals arg6 f6 vb) (h10 : Ss arg10 f10 (fun hh => SC (kb hh 0) (q hh))) (h12 : Qs arg12 f12 q) (inb : ∀ a, (![3, 0, 0] : Fin 3 → ℕ) a + S1x256x1024.size a ≤ S4x256x1024.size a) : View.readAt (Elt F) arg10.view (Rect.unit (s := S4x256x1024) ![3, 0, 0] S1x256x1024.size inb).toLoadRect (arg10.view.writes (Elt F) f10 (runNext.sl.H10_3 (F := F) c i arg3 harg3 arg4 harg4 arg5 harg5 arg6 harg6 arg7 harg7 arg8 harg8 arg9 harg9 arg10 harg10 arg11 harg11 arg12 harg12 f4 f5 f6 f10 f11 f12)) = SC (kb 3 (2 * (i 2).val)) (q 3) := by
  unfold runNext.sl.H10_3 runNext.sl.H10_2 runNext.sl.H10_1
  iterate 3 refine (ra_miss _ _ _ _ _ _ rfl rfl (by decide)).trans ?_
  apply runNext_st10 (v0 := k0_pay813) (kb := kb) (vb := vb) (q := q) (n := 2 * (i 2).val) (hh := 3)
  refine loop6 _ (tr6 i) ?_
  refine loop5b h5 h6 h12 _ (tr5 i) ?_
  refine loop4 _ (tr4 i) ?_
  refine loop3b h5 h6 h12 _ (tr3 i) ?_
  refine loop2 _ (tr2 i) ?_
  first | refine loop1d h5 h6 h12 _ (tr1 i) ?_ | refine loop1c h5 h6 h12 _ (tr1 i) ?_
  exact st0 _ _ h10

theorem runNext_t8_0 (h4 : Qb arg4 f4 qb) (h5 : Keys arg5 f5 kb) (h6 : Vals arg6 f6 vb) (h10 : Ss arg10 f10 (fun hh => SC (kb hh 0) (q hh))) (h12 : Qs arg12 f12 q) (inb : ∀ a, (![0, 0, 0] : Fin 3 → ℕ) a + S1x1x1024.size a ≤ S4x1x1024.size a) : arg8.view.readCov (runNext.sl.H8_4 (F := F) c i arg3 harg3 arg4 harg4 arg5 harg5 arg6 harg6 arg7 harg7 arg8 harg8 arg9 harg9 arg10 harg10 arg11 harg11 arg12 harg12 f4 f5 f6 f10 f11 f12) (Rect.unit (s := S4x1x1024) ![0, 0, 0] S1x1x1024.size inb).toLoadRect = M1 (kb 0) (q 0) (i 2).val := by
  unfold runNext.sl.H8_4 runNext.sl.H8_3 runNext.sl.H8_2 runNext.sl.H8_1_1
  iterate 3 refine (rc_miss _ _ _ _ _ rfl rfl (by decide)).trans ?_
  refine (rc_hit _ _ _ _ _).trans ?_
  unfold runNext.sl.r_3
  rw [runNext_v160_eq h4 h5 h6 h10 h12, runNext_v172_eq h4 h5 h6 h10 h12]
  rfl

theorem runNext_t8_1 (h4 : Qb arg4 f4 qb) (h5 : Keys arg5 f5 kb) (h6 : Vals arg6 f6 vb) (h10 : Ss arg10 f10 (fun hh => SC (kb hh 0) (q hh))) (h12 : Qs arg12 f12 q) (inb : ∀ a, (![1, 0, 0] : Fin 3 → ℕ) a + S1x1x1024.size a ≤ S4x1x1024.size a) : arg8.view.readCov (runNext.sl.H8_4 (F := F) c i arg3 harg3 arg4 harg4 arg5 harg5 arg6 harg6 arg7 harg7 arg8 harg8 arg9 harg9 arg10 harg10 arg11 harg11 arg12 harg12 f4 f5 f6 f10 f11 f12) (Rect.unit (s := S4x1x1024) ![1, 0, 0] S1x1x1024.size inb).toLoadRect = M1 (kb 1) (q 1) (i 2).val := by
  unfold runNext.sl.H8_4 runNext.sl.H8_3 runNext.sl.H8_2
  iterate 2 refine (rc_miss _ _ _ _ _ rfl rfl (by decide)).trans ?_
  refine (rc_hit _ _ _ _ _).trans ?_
  unfold runNext.sl.r_6
  rw [runNext_s1_eq h4 h5 h6 h10 h12, runNext_v239_eq h4 h5 h6 h10 h12]
  rfl

theorem runNext_t8_2 (h4 : Qb arg4 f4 qb) (h5 : Keys arg5 f5 kb) (h6 : Vals arg6 f6 vb) (h10 : Ss arg10 f10 (fun hh => SC (kb hh 0) (q hh))) (h12 : Qs arg12 f12 q) (inb : ∀ a, (![2, 0, 0] : Fin 3 → ℕ) a + S1x1x1024.size a ≤ S4x1x1024.size a) : arg8.view.readCov (runNext.sl.H8_4 (F := F) c i arg3 harg3 arg4 harg4 arg5 harg5 arg6 harg6 arg7 harg7 arg8 harg8 arg9 harg9 arg10 harg10 arg11 harg11 arg12 harg12 f4 f5 f6 f10 f11 f12) (Rect.unit (s := S4x1x1024) ![2, 0, 0] S1x1x1024.size inb).toLoadRect = M1 (kb 2) (q 2) (i 2).val := by
  unfold runNext.sl.H8_4 runNext.sl.H8_3
  refine (rc_miss _ _ _ _ _ rfl rfl (by decide)).trans ?_
  refine (rc_hit _ _ _ _ _).trans ?_
  unfold runNext.sl.r_8
  rw [runNext_s2_eq h4 h5 h6 h10 h12, runNext_v306_eq h4 h5 h6 h10 h12]
  rfl

theorem runNext_t8_3 (h4 : Qb arg4 f4 qb) (h5 : Keys arg5 f5 kb) (h6 : Vals arg6 f6 vb) (h10 : Ss arg10 f10 (fun hh => SC (kb hh 0) (q hh))) (h12 : Qs arg12 f12 q) (inb : ∀ a, (![3, 0, 0] : Fin 3 → ℕ) a + S1x1x1024.size a ≤ S4x1x1024.size a) : arg8.view.readCov (runNext.sl.H8_4 (F := F) c i arg3 harg3 arg4 harg4 arg5 harg5 arg6 harg6 arg7 harg7 arg8 harg8 arg9 harg9 arg10 harg10 arg11 harg11 arg12 harg12 f4 f5 f6 f10 f11 f12) (Rect.unit (s := S4x1x1024) ![3, 0, 0] S1x1x1024.size inb).toLoadRect = M1 (kb 3) (q 3) (i 2).val := by
  unfold runNext.sl.H8_4
  refine (rc_hit _ _ _ _ _).trans ?_
  unfold runNext.sl.r_9
  rw [runNext_s3_eq h4 h5 h6 h10 h12, runNext_v373_eq h4 h5 h6 h10 h12]
  rfl

theorem runNext_t9_0 (h4 : Qb arg4 f4 qb) (h5 : Keys arg5 f5 kb) (h6 : Vals arg6 f6 vb) (h10 : Ss arg10 f10 (fun hh => SC (kb hh 0) (q hh))) (h12 : Qs arg12 f12 q) (inb : ∀ a, (![0, 0, 0] : Fin 3 → ℕ) a + S1x144x1024.size a ≤ S4x144x1024.size a) : arg9.view.readCov (runNext.sl.H9_4 (F := F) c i arg3 harg3 arg4 harg4 arg5 harg5 arg6 harg6 arg7 harg7 arg8 harg8 arg9 harg9 arg10 harg10 arg11 harg11 arg12 harg12 f4 f5 f6 f10 f11 f12) (Rect.unit (s := S4x144x1024) ![0, 0, 0] S1x144x1024.size inb).toLoadRect = A1 (kb 0) (vb 0) (q 0) (i 2).val := by
  unfold runNext.sl.H9_4 runNext.sl.H9_3 runNext.sl.H9_2 runNext.sl.H9_1_1
  iterate 3 refine (rc_miss _ _ _ _ _ rfl rfl (by decide)).trans ?_
  refine (rc_hit _ _ _ _ _).trans ?_
  unfold runNext.sl.r_4
  rw [runNext_v160_eq h4 h5 h6 h10 h12, runNext_v172_eq h4 h5 h6 h10 h12, o101_eq h6, runNext_v187_eq h4 h5 h6 h10 h12]
  rfl

theorem runNext_t9_1 (h4 : Qb arg4 f4 qb) (h5 : Keys arg5 f5 kb) (h6 : Vals arg6 f6 vb) (h10 : Ss arg10 f10 (fun hh => SC (kb hh 0) (q hh))) (h12 : Qs arg12 f12 q) (inb : ∀ a, (![1, 0, 0] : Fin 3 → ℕ) a + S1x144x1024.size a ≤ S4x144x1024.size a) : arg9.view.readCov (runNext.sl.H9_4 (F := F) c i arg3 harg3 arg4 harg4 arg5 harg5 arg6 harg6 arg7 harg7 arg8 harg8 arg9 harg9 arg10 harg10 arg11 harg11 arg12 harg12 f4 f5 f6 f10 f11 f12) (Rect.unit (s := S4x144x1024) ![1, 0, 0] S1x144x1024.size inb).toLoadRect = A1 (kb 1) (vb 1) (q 1) (i 2).val := by
  unfold runNext.sl.H9_4 runNext.sl.H9_3 runNext.sl.H9_2
  iterate 2 refine (rc_miss _ _ _ _ _ rfl rfl (by decide)).trans ?_
  refine (rc_hit _ _ _ _ _).trans ?_
  unfold runNext.sl.r_7
  rw [runNext_s1_eq h4 h5 h6 h10 h12, runNext_v239_eq h4 h5 h6 h10 h12, o103_eq h6, runNext_v254_eq h4 h5 h6 h10 h12]
  rfl

theorem runNext_t9_2 (h4 : Qb arg4 f4 qb) (h5 : Keys arg5 f5 kb) (h6 : Vals arg6 f6 vb) (h10 : Ss arg10 f10 (fun hh => SC (kb hh 0) (q hh))) (h12 : Qs arg12 f12 q) (inb : ∀ a, (![2, 0, 0] : Fin 3 → ℕ) a + S1x144x1024.size a ≤ S4x144x1024.size a) : arg9.view.readCov (runNext.sl.H9_4 (F := F) c i arg3 harg3 arg4 harg4 arg5 harg5 arg6 harg6 arg7 harg7 arg8 harg8 arg9 harg9 arg10 harg10 arg11 harg11 arg12 harg12 f4 f5 f6 f10 f11 f12) (Rect.unit (s := S4x144x1024) ![2, 0, 0] S1x144x1024.size inb).toLoadRect = A1 (kb 2) (vb 2) (q 2) (i 2).val := by
  unfold runNext.sl.H9_4 runNext.sl.H9_3
  refine (rc_miss _ _ _ _ _ rfl rfl (by decide)).trans ?_
  refine (rc_hit _ _ _ _ _).trans ?_
  rw [runNext_s2_eq h4 h5 h6 h10 h12, runNext_v306_eq h4 h5 h6 h10 h12, o105_eq h6, runNext_v321_eq h4 h5 h6 h10 h12]
  rfl

theorem runNext_t9_3 (h4 : Qb arg4 f4 qb) (h5 : Keys arg5 f5 kb) (h6 : Vals arg6 f6 vb) (h10 : Ss arg10 f10 (fun hh => SC (kb hh 0) (q hh))) (h12 : Qs arg12 f12 q) (inb : ∀ a, (![3, 0, 0] : Fin 3 → ℕ) a + S1x144x1024.size a ≤ S4x144x1024.size a) : arg9.view.readCov (runNext.sl.H9_4 (F := F) c i arg3 harg3 arg4 harg4 arg5 harg5 arg6 harg6 arg7 harg7 arg8 harg8 arg9 harg9 arg10 harg10 arg11 harg11 arg12 harg12 f4 f5 f6 f10 f11 f12) (Rect.unit (s := S4x144x1024) ![3, 0, 0] S1x144x1024.size inb).toLoadRect = A1 (kb 3) (vb 3) (q 3) (i 2).val := by
  unfold runNext.sl.H9_4
  refine (rc_hit _ _ _ _ _).trans ?_
  unfold runNext.sl.r_9
  rw [runNext_s3_eq h4 h5 h6 h10 h12, runNext_v373_eq h4 h5 h6 h10 h12, o107_eq h6, runNext_v388_eq h4 h5 h6 h10 h12]
  rfl

theorem runNext_v430_eq (h4 : Qb arg4 f4 qb) (h5 : Keys arg5 f5 kb) (h6 : Vals arg6 f6 vb) (h10 : Ss arg10 f10 (fun hh => SC (kb hh 0) (q hh))) (h12 : Qs arg12 f12 q) : (runNext.sl.v430 (F := F) c i arg3 harg3 arg4 harg4 arg5 harg5 arg6 harg6 arg7 harg7 arg8 harg8 arg9 harg9 arg10 harg10 arg11 harg11 arg12 harg12 f5 f6 f10 f11 f12) = UL (kb 0 (2 * (i 2).val + 1)) (sub (R := 128) 256 (by decide) (q 0)) := by
  unfold runNext.sl.v430 runNext.sl.H11_8
  iterate 6 refine (rc_miss _ _ _ _ _ rfl rfl (by decide)).trans ?_
  refine (rc_missc _ _ _ _ _ (by decide)).trans ?_
  refine (rc_hit _ _ _ _ _).trans ?_
  rw [o97_eq h5, q12_0_256 h12]
  rfl

theorem runNext_v463_eq (h4 : Qb arg4 f4 qb) (h5 : Keys arg5 f5 kb) (h6 : Vals arg6 f6 vb) (h10 : Ss arg10 f10 (fun hh => SC (kb hh 0) (q hh))) (h12 : Qs arg12 f12 q) : (runNext.sl.v463 (F := F) c i arg3 harg3 arg4 harg4 arg5 harg5 arg6 harg6 arg7 harg7 arg8 harg8 arg9 harg9 arg10 harg10 arg11 harg11 arg12 harg12 f5 f6 f10 f11 f12) = UL (kb 0 (2 * (i 2).val + 1)) (sub (R := 128) 768 (by decide) (q 0)) := by
  unfold runNext.sl.v463 runNext.sl.H11_8
  iterate 6 refine (rc_miss _ _ _ _ _ rfl rfl (by decide)).trans ?_
  refine (rc_hit _ _ _ _ _).trans ?_
  unfold runNext.sl.r
  rw [o97_eq h5, q12_0_768 h12]
  rfl

theorem runNext_v496_eq (h4 : Qb arg4 f4 qb) (h5 : Keys arg5 f5 kb) (h6 : Vals arg6 f6 vb) (h10 : Ss arg10 f10 (fun hh => SC (kb hh 0) (q hh))) (h12 : Qs arg12 f12 q) : (runNext.sl.v496 (F := F) c i arg3 harg3 arg4 harg4 arg5 harg5 arg6 harg6 arg7 harg7 arg8 harg8 arg9 harg9 arg10 harg10 arg11 harg11 arg12 harg12 f5 f6 f10 f11 f12) = UL (kb 1 (2 * (i 2).val + 1)) (sub (R := 128) 256 (by decide) (q 1)) := by
  unfold runNext.sl.v496 runNext.sl.H11_8
  iterate 4 refine (rc_miss _ _ _ _ _ rfl rfl (by decide)).trans ?_
  refine (rc_missc _ _ _ _ _ (by decide)).trans ?_
  refine (rc_hit _ _ _ _ _).trans ?_
  rw [o98_eq h5, q12_1_256 h12]
  rfl

theorem runNext_v529_eq (h4 : Qb arg4 f4 qb) (h5 : Keys arg5 f5 kb) (h6 : Vals arg6 f6 vb) (h10 : Ss arg10 f10 (fun hh => SC (kb hh 0) (q hh))) (h12 : Qs arg12 f12 q) : (runNext.sl.v529 (F := F) c i arg3 harg3 arg4 harg4 arg5 harg5 arg6 harg6 arg7 harg7 arg8 harg8 arg9 harg9 arg10 harg10 arg11 harg11 arg12 harg12 f5 f6 f10 f11 f12) = UL (kb 1 (2 * (i 2).val + 1)) (sub (R := 128) 768 (by decide) (q 1)) := by
  unfold runNext.sl.v529 runNext.sl.H11_8
  iterate 4 refine (rc_miss _ _ _ _ _ rfl rfl (by decide)).trans ?_
  refine (rc_hit _ _ _ _ _).trans ?_
  rw [o98_eq h5, q12_1_768 h12]
  rfl

theorem runNext_v562_eq (h4 : Qb arg4 f4 qb) (h5 : Keys arg5 f5 kb) (h6 : Vals arg6 f6 vb) (h10 : Ss arg10 f10 (fun hh => SC (kb hh 0) (q hh))) (h12 : Qs arg12 f12 q) : (runNext.sl.v562 (F := F) c i arg3 harg3 arg4 harg4 arg5 harg5 arg6 harg6 arg7 harg7 arg8 harg8 arg9 harg9 arg10 harg10 arg11 harg11 arg12 harg12 f5 f6 f10 f11 f12) = UL (kb 2 (2 * (i 2).val + 1)) (sub (R := 128) 256 (by decide) (q 2)) := by
  unfold runNext.sl.v562 runNext.sl.H11_8
  iterate 2 refine (rc_miss _ _ _ _ _ rfl rfl (by decide)).trans ?_
  refine (rc_missc _ _ _ _ _ (by decide)).trans ?_
  refine (rc_hit _ _ _ _ _).trans ?_
  unfold runNext.sl.r_1
  rw [o99_eq h5, q12_2_256 h12]
  rfl

theorem runNext_v595_eq (h4 : Qb arg4 f4 qb) (h5 : Keys arg5 f5 kb) (h6 : Vals arg6 f6 vb) (h10 : Ss arg10 f10 (fun hh => SC (kb hh 0) (q hh))) (h12 : Qs arg12 f12 q) : (runNext.sl.v595 (F := F) c i arg3 harg3 arg4 harg4 arg5 harg5 arg6 harg6 arg7 harg7 arg8 harg8 arg9 harg9 arg10 harg10 arg11 harg11 arg12 harg12 f5 f6 f10 f11 f12) = UL (kb 2 (2 * (i 2).val + 1)) (sub (R := 128) 768 (by decide) (q 2)) := by
  unfold runNext.sl.v595 runNext.sl.H11_8
  iterate 2 refine (rc_miss _ _ _ _ _ rfl rfl (by decide)).trans ?_
  refine (rc_hit _ _ _ _ _).trans ?_
  unfold runNext.sl.r_1
  rw [o99_eq h5, q12_2_768 h12]
  rfl

theorem runNext_v628_eq (h4 : Qb arg4 f4 qb) (h5 : Keys arg5 f5 kb) (h6 : Vals arg6 f6 vb) (h10 : Ss arg10 f10 (fun hh => SC (kb hh 0) (q hh))) (h12 : Qs arg12 f12 q) : (runNext.sl.v628 (F := F) c i arg3 harg3 arg4 harg4 arg5 harg5 arg6 harg6 arg7 harg7 arg8 harg8 arg9 harg9 arg10 harg10 arg11 harg11 arg12 harg12 f5 f6 f10 f11 f12) = UL (kb 3 (2 * (i 2).val + 1)) (sub (R := 128) 256 (by decide) (q 3)) := by
  unfold runNext.sl.v628 runNext.sl.H11_8
  refine (rc_missc _ _ _ _ _ (by decide)).trans ?_
  refine (rc_hit _ _ _ _ _).trans ?_
  rw [o100_eq h5, q12_3_256 h12]
  rfl

theorem runNext_v661_eq (h4 : Qb arg4 f4 qb) (h5 : Keys arg5 f5 kb) (h6 : Vals arg6 f6 vb) (h10 : Ss arg10 f10 (fun hh => SC (kb hh 0) (q hh))) (h12 : Qs arg12 f12 q) : (runNext.sl.v661 (F := F) c i arg3 harg3 arg4 harg4 arg5 harg5 arg6 harg6 arg7 harg7 arg8 harg8 arg9 harg9 arg10 harg10 arg11 harg11 arg12 harg12 f5 f6 f10 f11 f12) = UL (kb 3 (2 * (i 2).val + 1)) (sub (R := 128) 768 (by decide) (q 3)) := by
  unfold runNext.sl.v661 runNext.sl.H11_8
  refine (rc_hit _ _ _ _ _).trans ?_
  unfold runNext.sl.r_2
  rw [o100_eq h5, q12_3_768 h12]
  rfl

theorem runNext_v434_eq (h4 : Qb arg4 f4 qb) (h5 : Keys arg5 f5 kb) (h6 : Vals arg6 f6 vb) (h10 : Ss arg10 f10 (fun hh => SC (kb hh 0) (q hh))) (h12 : Qs arg12 f12 q) : (runNext.sl.v434 (F := F) c i arg3 harg3 arg4 harg4 arg5 harg5 arg6 harg6 arg7 harg7 arg8 harg8 arg9 harg9 arg10 harg10 arg11 harg11 arg12 harg12 f4 f5 f6 f10 f11 f12) = sub (R := 1) 256 (by decide) (M1 (kb 0) (q 0) (i 2).val) := by
  unfold runNext.sl.v434
  exact (rc_sub _ _ (by decide) _ inb_8_0).trans (congrArg (sub (R := 1) 256 (by decide)) (runNext_t8_0 h4 h5 h6 h10 h12 inb_8_0))

theorem runNext_v467_eq (h4 : Qb arg4 f4 qb) (h5 : Keys arg5 f5 kb) (h6 : Vals arg6 f6 vb) (h10 : Ss arg10 f10 (fun hh => SC (kb hh 0) (q hh))) (h12 : Qs arg12 f12 q) : (runNext.sl.v467 (F := F) c i arg3 harg3 arg4 harg4 arg5 harg5 arg6 harg6 arg7 harg7 arg8 harg8 arg9 harg9 arg10 harg10 arg11 harg11 arg12 harg12 f4 f5 f6 f10 f11 f12) = sub (R := 1) 768 (by decide) (M1 (kb 0) (q 0) (i 2).val) := by
  unfold runNext.sl.v467 runNext.sl.H8_5
  refine (rc_missc _ _ _ _ _ (by decide)).trans ?_
  exact (rc_sub _ _ (by decide) _ inb_8_0).trans (congrArg (sub (R := 1) 768 (by decide)) (runNext_t8_0 h4 h5 h6 h10 h12 inb_8_0))

theorem runNext_v500_eq (h4 : Qb arg4 f4 qb) (h5 : Keys arg5 f5 kb) (h6 : Vals arg6 f6 vb) (h10 : Ss arg10 f10 (fun hh => SC (kb hh 0) (q hh))) (h12 : Qs arg12 f12 q) : (runNext.sl.v500 (F := F) c i arg3 harg3 arg4 harg4 arg5 harg5 arg6 harg6 arg7 harg7 arg8 harg8 arg9 harg9 arg10 harg10 arg11 harg11 arg12 harg12 f4 f5 f6 f10 f11 f12) = sub (R := 1) 256 (by decide) (M1 (kb 1) (q 1) (i 2).val) := by
  unfold runNext.sl.v500 runNext.sl.H8_6 runNext.sl.H8_5
  iterate 2 refine (rc_miss _ _ _ _ _ rfl rfl (by decide)).trans ?_
  exact (rc_sub _ _ (by decide) _ inb_8_1).trans (congrArg (sub (R := 1) 256 (by decide)) (runNext_t8_1 h4 h5 h6 h10 h12 inb_8_1))

theorem runNext_v533_eq (h4 : Qb arg4 f4 qb) (h5 : Keys arg5 f5 kb) (h6 : Vals arg6 f6 vb) (h10 : Ss arg10 f10 (fun hh => SC (kb hh 0) (q hh))) (h12 : Qs arg12 f12 q) : (runNext.sl.v533 (F := F) c i arg3 harg3 arg4 harg4 arg5 harg5 arg6 harg6 arg7 harg7 arg8 harg8 arg9 harg9 arg10 harg10 arg11 harg11 arg12 harg12 f4 f5 f6 f10 f11 f12) = sub (R := 1) 768 (by decide) (M1 (kb 1) (q 1) (i 2).val) := by
  unfold runNext.sl.v533 runNext.sl.H8_7 runNext.sl.H8_6 runNext.sl.H8_5
  refine (rc_missc _ _ _ _ _ (by decide)).trans ?_
  iterate 2 refine (rc_miss _ _ _ _ _ rfl rfl (by decide)).trans ?_
  exact (rc_sub _ _ (by decide) _ inb_8_1).trans (congrArg (sub (R := 1) 768 (by decide)) (runNext_t8_1 h4 h5 h6 h10 h12 inb_8_1))

theorem runNext_v566_eq (h4 : Qb arg4 f4 qb) (h5 : Keys arg5 f5 kb) (h6 : Vals arg6 f6 vb) (h10 : Ss arg10 f10 (fun hh => SC (kb hh 0) (q hh))) (h12 : Qs arg12 f12 q) : (runNext.sl.v566 (F := F) c i arg3 harg3 arg4 harg4 arg5 harg5 arg6 harg6 arg7 harg7 arg8 harg8 arg9 harg9 arg10 harg10 arg11 harg11 arg12 harg12 f4 f5 f6 f10 f11 f12) = sub (R := 1) 256 (by decide) (M1 (kb 2) (q 2) (i 2).val) := by
  unfold runNext.sl.v566 runNext.sl.H8_8 runNext.sl.H8_7 runNext.sl.H8_6 runNext.sl.H8_5
  iterate 4 refine (rc_miss _ _ _ _ _ rfl rfl (by decide)).trans ?_
  exact (rc_sub _ _ (by decide) _ inb_8_2).trans (congrArg (sub (R := 1) 256 (by decide)) (runNext_t8_2 h4 h5 h6 h10 h12 inb_8_2))

theorem runNext_v599_eq (h4 : Qb arg4 f4 qb) (h5 : Keys arg5 f5 kb) (h6 : Vals arg6 f6 vb) (h10 : Ss arg10 f10 (fun hh => SC (kb hh 0) (q hh))) (h12 : Qs arg12 f12 q) : (runNext.sl.v599 (F := F) c i arg3 harg3 arg4 harg4 arg5 harg5 arg6 harg6 arg7 harg7 arg8 harg8 arg9 harg9 arg10 harg10 arg11 harg11 arg12 harg12 f4 f5 f6 f10 f11 f12) = sub (R := 1) 768 (by decide) (M1 (kb 2) (q 2) (i 2).val) := by
  unfold runNext.sl.v599 runNext.sl.H8_9 runNext.sl.H8_8 runNext.sl.H8_7 runNext.sl.H8_6 runNext.sl.H8_5
  refine (rc_missc _ _ _ _ _ (by decide)).trans ?_
  iterate 4 refine (rc_miss _ _ _ _ _ rfl rfl (by decide)).trans ?_
  exact (rc_sub _ _ (by decide) _ inb_8_2).trans (congrArg (sub (R := 1) 768 (by decide)) (runNext_t8_2 h4 h5 h6 h10 h12 inb_8_2))

theorem runNext_v632_eq (h4 : Qb arg4 f4 qb) (h5 : Keys arg5 f5 kb) (h6 : Vals arg6 f6 vb) (h10 : Ss arg10 f10 (fun hh => SC (kb hh 0) (q hh))) (h12 : Qs arg12 f12 q) : (runNext.sl.v632 (F := F) c i arg3 harg3 arg4 harg4 arg5 harg5 arg6 harg6 arg7 harg7 arg8 harg8 arg9 harg9 arg10 harg10 arg11 harg11 arg12 harg12 f4 f5 f6 f10 f11 f12) = sub (R := 1) 256 (by decide) (M1 (kb 3) (q 3) (i 2).val) := by
  unfold runNext.sl.v632 runNext.sl.H8_10 runNext.sl.H8_9 runNext.sl.H8_8 runNext.sl.H8_7 runNext.sl.H8_6 runNext.sl.H8_5
  iterate 6 refine (rc_miss _ _ _ _ _ rfl rfl (by decide)).trans ?_
  exact (rc_sub _ _ (by decide) _ inb_8_3).trans (congrArg (sub (R := 1) 256 (by decide)) (runNext_t8_3 h4 h5 h6 h10 h12 inb_8_3))

theorem runNext_v665_eq (h4 : Qb arg4 f4 qb) (h5 : Keys arg5 f5 kb) (h6 : Vals arg6 f6 vb) (h10 : Ss arg10 f10 (fun hh => SC (kb hh 0) (q hh))) (h12 : Qs arg12 f12 q) : (runNext.sl.v665 (F := F) c i arg3 harg3 arg4 harg4 arg5 harg5 arg6 harg6 arg7 harg7 arg8 harg8 arg9 harg9 arg10 harg10 arg11 harg11 arg12 harg12 f4 f5 f6 f10 f11 f12) = sub (R := 1) 768 (by decide) (M1 (kb 3) (q 3) (i 2).val) := by
  unfold runNext.sl.v665 runNext.sl.H8_11 runNext.sl.H8_10 runNext.sl.H8_9 runNext.sl.H8_8 runNext.sl.H8_7 runNext.sl.H8_6 runNext.sl.H8_5
  refine (rc_missc _ _ _ _ _ (by decide)).trans ?_
  iterate 6 refine (rc_miss _ _ _ _ _ rfl rfl (by decide)).trans ?_
  exact (rc_sub _ _ (by decide) _ inb_8_3).trans (congrArg (sub (R := 1) 768 (by decide)) (runNext_t8_3 h4 h5 h6 h10 h12 inb_8_3))

theorem runNext_v449_eq (h4 : Qb arg4 f4 qb) (h5 : Keys arg5 f5 kb) (h6 : Vals arg6 f6 vb) (h10 : Ss arg10 f10 (fun hh => SC (kb hh 0) (q hh))) (h12 : Qs arg12 f12 q) : (runNext.sl.v449 (F := F) c i arg3 harg3 arg4 harg4 arg5 harg5 arg6 harg6 arg7 harg7 arg8 harg8 arg9 harg9 arg10 harg10 arg11 harg11 arg12 harg12 f4 f5 f6 f10 f11 f12) = sub (R := 144) 256 (by decide) (A1 (kb 0) (vb 0) (q 0) (i 2).val) := by
  unfold runNext.sl.v449
  exact (rc_sub _ _ (by decide) _ inb_9_0).trans (congrArg (sub (R := 144) 256 (by decide)) (runNext_t9_0 h4 h5 h6 h10 h12 inb_9_0))

theorem runNext_v482_eq (h4 : Qb arg4 f4 qb) (h5 : Keys arg5 f5 kb) (h6 : Vals arg6 f6 vb) (h10 : Ss arg10 f10 (fun hh => SC (kb hh 0) (q hh))) (h12 : Qs arg12 f12 q) : (runNext.sl.v482 (F := F) c i arg3 harg3 arg4 harg4 arg5 harg5 arg6 harg6 arg7 harg7 arg8 harg8 arg9 harg9 arg10 harg10 arg11 harg11 arg12 harg12 f4 f5 f6 f10 f11 f12) = sub (R := 144) 768 (by decide) (A1 (kb 0) (vb 0) (q 0) (i 2).val) := by
  unfold runNext.sl.v482 runNext.sl.H9_5
  refine (rc_missc _ _ _ _ _ (by decide)).trans ?_
  exact (rc_sub _ _ (by decide) _ inb_9_0).trans (congrArg (sub (R := 144) 768 (by decide)) (runNext_t9_0 h4 h5 h6 h10 h12 inb_9_0))

theorem runNext_v515_eq (h4 : Qb arg4 f4 qb) (h5 : Keys arg5 f5 kb) (h6 : Vals arg6 f6 vb) (h10 : Ss arg10 f10 (fun hh => SC (kb hh 0) (q hh))) (h12 : Qs arg12 f12 q) : (runNext.sl.v515 (F := F) c i arg3 harg3 arg4 harg4 arg5 harg5 arg6 harg6 arg7 harg7 arg8 harg8 arg9 harg9 arg10 harg10 arg11 harg11 arg12 harg12 f4 f5 f6 f10 f11 f12) = sub (R := 144) 256 (by decide) (A1 (kb 1) (vb 1) (q 1) (i 2).val) := by
  unfold runNext.sl.v515 runNext.sl.H9_6 runNext.sl.H9_5
  iterate 2 refine (rc_miss _ _ _ _ _ rfl rfl (by decide)).trans ?_
  exact (rc_sub _ _ (by decide) _ inb_9_1).trans (congrArg (sub (R := 144) 256 (by decide)) (runNext_t9_1 h4 h5 h6 h10 h12 inb_9_1))

theorem runNext_v548_eq (h4 : Qb arg4 f4 qb) (h5 : Keys arg5 f5 kb) (h6 : Vals arg6 f6 vb) (h10 : Ss arg10 f10 (fun hh => SC (kb hh 0) (q hh))) (h12 : Qs arg12 f12 q) : (runNext.sl.v548 (F := F) c i arg3 harg3 arg4 harg4 arg5 harg5 arg6 harg6 arg7 harg7 arg8 harg8 arg9 harg9 arg10 harg10 arg11 harg11 arg12 harg12 f4 f5 f6 f10 f11 f12) = sub (R := 144) 768 (by decide) (A1 (kb 1) (vb 1) (q 1) (i 2).val) := by
  unfold runNext.sl.v548 runNext.sl.H9_7 runNext.sl.H9_6 runNext.sl.H9_5
  refine (rc_missc _ _ _ _ _ (by decide)).trans ?_
  iterate 2 refine (rc_miss _ _ _ _ _ rfl rfl (by decide)).trans ?_
  exact (rc_sub _ _ (by decide) _ inb_9_1).trans (congrArg (sub (R := 144) 768 (by decide)) (runNext_t9_1 h4 h5 h6 h10 h12 inb_9_1))

theorem runNext_v581_eq (h4 : Qb arg4 f4 qb) (h5 : Keys arg5 f5 kb) (h6 : Vals arg6 f6 vb) (h10 : Ss arg10 f10 (fun hh => SC (kb hh 0) (q hh))) (h12 : Qs arg12 f12 q) : (runNext.sl.v581 (F := F) c i arg3 harg3 arg4 harg4 arg5 harg5 arg6 harg6 arg7 harg7 arg8 harg8 arg9 harg9 arg10 harg10 arg11 harg11 arg12 harg12 f4 f5 f6 f10 f11 f12) = sub (R := 144) 256 (by decide) (A1 (kb 2) (vb 2) (q 2) (i 2).val) := by
  unfold runNext.sl.v581 runNext.sl.H9_8 runNext.sl.H9_7 runNext.sl.H9_6 runNext.sl.H9_5
  iterate 4 refine (rc_miss _ _ _ _ _ rfl rfl (by decide)).trans ?_
  exact (rc_sub _ _ (by decide) _ inb_9_2).trans (congrArg (sub (R := 144) 256 (by decide)) (runNext_t9_2 h4 h5 h6 h10 h12 inb_9_2))

theorem runNext_v614_eq (h4 : Qb arg4 f4 qb) (h5 : Keys arg5 f5 kb) (h6 : Vals arg6 f6 vb) (h10 : Ss arg10 f10 (fun hh => SC (kb hh 0) (q hh))) (h12 : Qs arg12 f12 q) : (runNext.sl.v614 (F := F) c i arg3 harg3 arg4 harg4 arg5 harg5 arg6 harg6 arg7 harg7 arg8 harg8 arg9 harg9 arg10 harg10 arg11 harg11 arg12 harg12 f4 f5 f6 f10 f11 f12) = sub (R := 144) 768 (by decide) (A1 (kb 2) (vb 2) (q 2) (i 2).val) := by
  unfold runNext.sl.v614 runNext.sl.H9_9 runNext.sl.H9_8 runNext.sl.H9_7 runNext.sl.H9_6 runNext.sl.H9_5
  refine (rc_missc _ _ _ _ _ (by decide)).trans ?_
  iterate 4 refine (rc_miss _ _ _ _ _ rfl rfl (by decide)).trans ?_
  exact (rc_sub _ _ (by decide) _ inb_9_2).trans (congrArg (sub (R := 144) 768 (by decide)) (runNext_t9_2 h4 h5 h6 h10 h12 inb_9_2))

theorem runNext_v647_eq (h4 : Qb arg4 f4 qb) (h5 : Keys arg5 f5 kb) (h6 : Vals arg6 f6 vb) (h10 : Ss arg10 f10 (fun hh => SC (kb hh 0) (q hh))) (h12 : Qs arg12 f12 q) : (runNext.sl.v647 (F := F) c i arg3 harg3 arg4 harg4 arg5 harg5 arg6 harg6 arg7 harg7 arg8 harg8 arg9 harg9 arg10 harg10 arg11 harg11 arg12 harg12 f4 f5 f6 f10 f11 f12) = sub (R := 144) 256 (by decide) (A1 (kb 3) (vb 3) (q 3) (i 2).val) := by
  unfold runNext.sl.v647 runNext.sl.H9_10 runNext.sl.H9_9 runNext.sl.H9_8 runNext.sl.H9_7 runNext.sl.H9_6 runNext.sl.H9_5
  iterate 6 refine (rc_miss _ _ _ _ _ rfl rfl (by decide)).trans ?_
  exact (rc_sub _ _ (by decide) _ inb_9_3).trans (congrArg (sub (R := 144) 256 (by decide)) (runNext_t9_3 h4 h5 h6 h10 h12 inb_9_3))

theorem runNext_v680_eq (h4 : Qb arg4 f4 qb) (h5 : Keys arg5 f5 kb) (h6 : Vals arg6 f6 vb) (h10 : Ss arg10 f10 (fun hh => SC (kb hh 0) (q hh))) (h12 : Qs arg12 f12 q) : (runNext.sl.v680 (F := F) c i arg3 harg3 arg4 harg4 arg5 harg5 arg6 harg6 arg7 harg7 arg8 harg8 arg9 harg9 arg10 harg10 arg11 harg11 arg12 harg12 f4 f5 f6 f10 f11 f12) = sub (R := 144) 768 (by decide) (A1 (kb 3) (vb 3) (q 3) (i 2).val) := by
  unfold runNext.sl.v680 runNext.sl.H9_11 runNext.sl.H9_10 runNext.sl.H9_9 runNext.sl.H9_8 runNext.sl.H9_7 runNext.sl.H9_6 runNext.sl.H9_5
  refine (rc_missc _ _ _ _ _ (by decide)).trans ?_
  iterate 6 refine (rc_miss _ _ _ _ _ rfl rfl (by decide)).trans ?_
  exact (rc_sub _ _ (by decide) _ inb_9_3).trans (congrArg (sub (R := 144) 768 (by decide)) (runNext_t9_3 h4 h5 h6 h10 h12 inb_9_3))

theorem runNext_fin0 (h4 : Qb arg4 f4 qb) (h5 : Keys arg5 f5 kb) (h6 : Vals arg6 f6 vb) (h10 : Ss arg10 f10 (fun hh => SC (kb hh 0) (q hh))) (h12 : Qs arg12 f12 q) : (runNext.sl.v692 (F := F) c i arg3 harg3 arg4 harg4 arg5 harg5 arg6 harg6 arg7 harg7 arg8 harg8 arg9 harg9 arg10 harg10 arg11 harg11 arg12 harg12 f4 f5 f6 f10 f11 f12) = AE (kb 0) (vb 0) (q 0) (i 2).val := by
  unfold runNext.sl.v692 runNext.sl.H9_12 runNext.sl.H9_11 runNext.sl.H9_10 runNext.sl.H9_9 runNext.sl.H9_8 runNext.sl.H9_7 runNext.sl.H9_6 runNext.sl.H9_5
  iterate 6 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runNext.sl.r_10 runNext.sl.cst_320
    rw [runNext_v463_eq h4 h5 h6 h10 h12, runNext_v467_eq h4 h5 h6 h10 h12, o109_eq h6, runNext_v482_eq h4 h5 h6 h10 h12]
    rfl
  · rw [runNext_v430_eq h4 h5 h6 h10 h12, runNext_v434_eq h4 h5 h6 h10 h12, o109_eq h6, runNext_v449_eq h4 h5 h6 h10 h12]
    rfl
  · exact runNext_t9_0 h4 h5 h6 h10 h12 _

theorem runNext_fin1 (h4 : Qb arg4 f4 qb) (h5 : Keys arg5 f5 kb) (h6 : Vals arg6 f6 vb) (h10 : Ss arg10 f10 (fun hh => SC (kb hh 0) (q hh))) (h12 : Qs arg12 f12 q) : (runNext.sl.v720 (F := F) c i arg3 harg3 arg4 harg4 arg5 harg5 arg6 harg6 arg7 harg7 arg8 harg8 arg9 harg9 arg10 harg10 arg11 harg11 arg12 harg12 f4 f5 f6 f10 f11 f12) = AE (kb 1) (vb 1) (q 1) (i 2).val := by
  unfold runNext.sl.v720 runNext.sl.H9_12 runNext.sl.H9_11 runNext.sl.H9_10 runNext.sl.H9_9 runNext.sl.H9_8 runNext.sl.H9_7 runNext.sl.H9_6 runNext.sl.H9_5
  iterate 4 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runNext.sl.r_12
    rw [runNext_v529_eq h4 h5 h6 h10 h12, runNext_v533_eq h4 h5 h6 h10 h12, o110_eq h6, runNext_v548_eq h4 h5 h6 h10 h12]
    rfl
  · unfold runNext.sl.r_11
    rw [runNext_v496_eq h4 h5 h6 h10 h12, runNext_v500_eq h4 h5 h6 h10 h12, o110_eq h6, runNext_v515_eq h4 h5 h6 h10 h12]
    rfl
  · refine (rc_miss _ _ _ _ _ rfl rfl (by decide)).trans ?_
    refine (rc_miss _ _ _ _ _ rfl rfl (by decide)).trans ?_
    exact runNext_t9_1 h4 h5 h6 h10 h12 _

theorem runNext_fin2 (h4 : Qb arg4 f4 qb) (h5 : Keys arg5 f5 kb) (h6 : Vals arg6 f6 vb) (h10 : Ss arg10 f10 (fun hh => SC (kb hh 0) (q hh))) (h12 : Qs arg12 f12 q) : (runNext.sl.v (F := F) c i arg3 harg3 arg4 harg4 arg5 harg5 arg6 harg6 arg7 harg7 arg8 harg8 arg9 harg9 arg10 harg10 arg11 harg11 arg12 harg12 f4 f5 f6 f10 f11 f12) = AE (kb 2) (vb 2) (q 2) (i 2).val := by
  unfold runNext.sl.v runNext.sl.H9_12 runNext.sl.H9_11 runNext.sl.H9_10 runNext.sl.H9_9 runNext.sl.H9_8 runNext.sl.H9_7 runNext.sl.H9_6 runNext.sl.H9_5
  iterate 2 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runNext.sl.r_15 runNext.sl.r_14
    rw [runNext_v595_eq h4 h5 h6 h10 h12, runNext_v599_eq h4 h5 h6 h10 h12, o111_eq h6, runNext_v614_eq h4 h5 h6 h10 h12]
    rfl
  · unfold runNext.sl.r_13
    rw [runNext_v562_eq h4 h5 h6 h10 h12, runNext_v566_eq h4 h5 h6 h10 h12, o111_eq h6, runNext_v581_eq h4 h5 h6 h10 h12]
    rfl
  · refine (rc_miss _ _ _ _ _ rfl rfl (by decide)).trans ?_
    iterate 3 refine (rc_miss _ _ _ _ _ rfl rfl (by decide)).trans ?_
    exact runNext_t9_2 h4 h5 h6 h10 h12 _

theorem runNext_fin3 (h4 : Qb arg4 f4 qb) (h5 : Keys arg5 f5 kb) (h6 : Vals arg6 f6 vb) (h10 : Ss arg10 f10 (fun hh => SC (kb hh 0) (q hh))) (h12 : Qs arg12 f12 q) : (runNext.sl.v776 (F := F) c i arg3 harg3 arg4 harg4 arg5 harg5 arg6 harg6 arg7 harg7 arg8 harg8 arg9 harg9 arg10 harg10 arg11 harg11 arg12 harg12 f4 f5 f6 f10 f11 f12) = AE (kb 3) (vb 3) (q 3) (i 2).val := by
  unfold runNext.sl.v776 runNext.sl.H9_12 runNext.sl.H9_11 runNext.sl.H9_10 runNext.sl.H9_9 runNext.sl.H9_8 runNext.sl.H9_7 runNext.sl.H9_6 runNext.sl.H9_5
  refine (rc_over _ _ _ _ _).trans (congrArg₂ (over (R := 144) 768) ?_ ((rc_over _ _ _ _ _).trans (congrArg₂ (over (R := 144) 256) ?_ ?_)))
  · unfold runNext.sl.r_21 runNext.sl.r_20 runNext.sl.r_19
    rw [runNext_v661_eq h4 h5 h6 h10 h12, runNext_v665_eq h4 h5 h6 h10 h12, o112_eq h6, runNext_v680_eq h4 h5 h6 h10 h12]
    rfl
  · unfold runNext.sl.r_18 runNext.sl.r_17 runNext.sl.r_16
    rw [runNext_v628_eq h4 h5 h6 h10 h12, runNext_v632_eq h4 h5 h6 h10 h12, o112_eq h6, runNext_v647_eq h4 h5 h6 h10 h12]
    rfl
  · refine (rc_miss _ _ _ _ _ rfl rfl (by decide)).trans ?_
    iterate 5 refine (rc_miss _ _ _ _ _ rfl rfl (by decide)).trans ?_
    exact runNext_t9_3 h4 h5 h6 h10 h12 _

theorem runNext_n1_0 (h4 : Qb arg4 f4 qb) (inb : ∀ a, (![0, 0, 0] : Fin 3 → ℕ) a + S1x128x1024.size a ≤ S4x128x1024.size a) : arg12.view.readCov (runNext.sl.H12_1 (F := F) i arg4 f4) (Rect.unit (s := S4x128x1024) ![0, 0, 0] S1x128x1024.size inb).toLoadRect = QM (qb 0 (min ((i 2).val + 1) 15)) := by
  unfold runNext.sl.H12_1
  refine (rc_hit _ _ _ _ _).trans ?_
  rw [o102_eq h4]
  rfl

theorem runNext_n2_1 (h4 : Qb arg4 f4 qb) (inb : ∀ a, (![1, 0, 0] : Fin 3 → ℕ) a + S1x128x1024.size a ≤ S4x128x1024.size a) : arg12.view.readCov (runNext.sl.H12_2 (F := F) i arg4 f4) (Rect.unit (s := S4x128x1024) ![1, 0, 0] S1x128x1024.size inb).toLoadRect = QM (qb 1 (min ((i 2).val + 1) 15)) := by
  unfold runNext.sl.H12_2
  refine (rc_hit _ _ _ _ _).trans ?_
  rw [o104_eq h4]
  rfl

theorem runNext_n3_2 (h4 : Qb arg4 f4 qb) (inb : ∀ a, (![2, 0, 0] : Fin 3 → ℕ) a + S1x128x1024.size a ≤ S4x128x1024.size a) : arg12.view.readCov (runNext.sl.H12_3 (F := F) i arg4 f4) (Rect.unit (s := S4x128x1024) ![2, 0, 0] S1x128x1024.size inb).toLoadRect = QM (qb 2 (min ((i 2).val + 1) 15)) := by
  unfold runNext.sl.H12_3
  refine (rc_hit _ _ _ _ _).trans ?_
  rw [o106_eq h4]
  rfl

theorem runNext_n4_0 (h4 : Qb arg4 f4 qb) (inb : ∀ a, (![0, 0, 0] : Fin 3 → ℕ) a + S1x128x1024.size a ≤ S4x128x1024.size a) : View.readAt (Elt F) arg12.view (Rect.unit (s := S4x128x1024) ![0, 0, 0] S1x128x1024.size inb).toLoadRect (arg12.view.writes (Elt F) f12 (runNext.sl.H12_4 (F := F) i arg4 f4)) = QM (qb 0 (min ((i 2).val + 1) 15)) := by
  unfold runNext.sl.H12_4 runNext.sl.H12_3 runNext.sl.H12_2 runNext.sl.H12_1
  iterate 3 refine (ra_miss _ _ _ _ _ _ rfl rfl (by decide)).trans ?_
  refine (ra_hit _ _ _ _ _ _).trans ?_
  rw [o102_eq h4]
  rfl

theorem runNext_n4_1 (h4 : Qb arg4 f4 qb) (inb : ∀ a, (![1, 0, 0] : Fin 3 → ℕ) a + S1x128x1024.size a ≤ S4x128x1024.size a) : View.readAt (Elt F) arg12.view (Rect.unit (s := S4x128x1024) ![1, 0, 0] S1x128x1024.size inb).toLoadRect (arg12.view.writes (Elt F) f12 (runNext.sl.H12_4 (F := F) i arg4 f4)) = QM (qb 1 (min ((i 2).val + 1) 15)) := by
  unfold runNext.sl.H12_4 runNext.sl.H12_3 runNext.sl.H12_2
  iterate 2 refine (ra_miss _ _ _ _ _ _ rfl rfl (by decide)).trans ?_
  refine (ra_hit _ _ _ _ _ _).trans ?_
  rw [o104_eq h4]
  rfl

theorem runNext_n4_2 (h4 : Qb arg4 f4 qb) (inb : ∀ a, (![2, 0, 0] : Fin 3 → ℕ) a + S1x128x1024.size a ≤ S4x128x1024.size a) : View.readAt (Elt F) arg12.view (Rect.unit (s := S4x128x1024) ![2, 0, 0] S1x128x1024.size inb).toLoadRect (arg12.view.writes (Elt F) f12 (runNext.sl.H12_4 (F := F) i arg4 f4)) = QM (qb 2 (min ((i 2).val + 1) 15)) := by
  unfold runNext.sl.H12_4 runNext.sl.H12_3
  refine (ra_miss _ _ _ _ _ _ rfl rfl (by decide)).trans ?_
  refine (ra_hit _ _ _ _ _ _).trans ?_
  rw [o106_eq h4]
  rfl

theorem runNext_n4_3 (h4 : Qb arg4 f4 qb) (inb : ∀ a, (![3, 0, 0] : Fin 3 → ℕ) a + S1x128x1024.size a ≤ S4x128x1024.size a) : View.readAt (Elt F) arg12.view (Rect.unit (s := S4x128x1024) ![3, 0, 0] S1x128x1024.size inb).toLoadRect (arg12.view.writes (Elt F) f12 (runNext.sl.H12_4 (F := F) i arg4 f4)) = QM (qb 3 (min ((i 2).val + 1) 15)) := by
  unfold runNext.sl.H12_4
  refine (ra_hit _ _ _ _ _ _).trans ?_
  rw [o108_eq h4]
  rfl

theorem runNext_n5_3 (h4 : Qb arg4 f4 qb) (inb : ∀ a, (![3, 0, 0] : Fin 3 → ℕ) a + S1x128x1024.size a ≤ S4x128x1024.size a) : arg12.view.readCov (runNext.sl.H12_4 (F := F) i arg4 f4) (Rect.unit (s := S4x128x1024) ![3, 0, 0] S1x128x1024.size inb).toLoadRect = QM (qb 3 (min ((i 2).val + 1) 15)) := by
  unfold runNext.sl.H12_4
  refine (rc_hit _ _ _ _ _).trans ?_
  rw [o108_eq h4]
  rfl

theorem runNext_v221_eq (h4 : Qb arg4 f4 qb) : (runNext.sl.v221 (F := F) i arg4 arg12 f4) = QM (qb 0 (min ((i 2).val + 1) 15)) := by
  exact runNext_n1_0 h4 _

theorem runNext_v288_eq (h4 : Qb arg4 f4 qb) : (runNext.sl.v288 (F := F) i arg4 arg12 f4) = QM (qb 1 (min ((i 2).val + 1) 15)) := by
  exact runNext_n2_1 h4 _

theorem runNext_v355_eq (h4 : Qb arg4 f4 qb) : (runNext.sl.v355 (F := F) i arg4 arg12 f4) = QM (qb 2 (min ((i 2).val + 1) 15)) := by
  exact runNext_n3_2 h4 _

theorem runNext_v422_eq (h4 : Qb arg4 f4 qb) : (runNext.sl.v422 (F := F) i arg4 arg12 f4) = QM (qb 3 (min ((i 2).val + 1) 15)) := by
  exact runNext_n5_3 h4 _

theorem runNext_12 (h4 : Qb arg4 f4 qb) (hc : ¬ isFirst i) : Qs arg12 (runNext (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.1 (fun hh => QM (qb hh (min ((i 2).val + 1) 15))) := by
  unfold runNext
  dsimp only
  intro hh inb
  have hlt : hh < 4 := by have := inb 0; exact Nat.lt_of_succ_le this
  obtain rfl | rfl | rfl | rfl : hh = 0 ∨ hh = 1 ∨ hh = 2 ∨ hh = 3 := by omega
  · exact runNext_n4_0 h4 inb
  · exact runNext_n4_1 h4 inb
  · exact runNext_n4_2 h4 inb
  · exact runNext_n4_3 h4 inb

theorem runNext_10 (h4 : Qb arg4 f4 qb) (h5 : Keys arg5 f5 kb) (hc : ¬ isFirst i) : Ss arg10 (runNext (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.1 (fun hh => SC (kb hh 0) (QM (qb hh (min ((i 2).val + 1) 15)))) := by
  unfold runNext
  dsimp only
  intro hh inb
  have hlt : hh < 4 := by have := inb 0; exact Nat.lt_of_succ_le this
  obtain rfl | rfl | rfl | rfl : hh = 0 ∨ hh = 1 ∨ hh = 2 ∨ hh = 3 := by omega
  · unfold runNext.sl.H10_3 runNext.sl.H10_2 runNext.sl.H10_1
    iterate 3 refine (ra_miss _ _ _ _ _ _ rfl rfl (by decide)).trans ?_
    refine (ra_hit _ _ _ _ _ _).trans ?_
    unfold runNext.sl.r_5
    rw [k5_0 h5, runNext_v221_eq h4]
    rfl
  · unfold runNext.sl.H10_3 runNext.sl.H10_2
    iterate 2 refine (ra_miss _ _ _ _ _ _ rfl rfl (by decide)).trans ?_
    refine (ra_hit _ _ _ _ _ _).trans ?_
    rw [k5_1 h5, runNext_v288_eq h4]
    rfl
  · unfold runNext.sl.H10_3
    refine (ra_miss _ _ _ _ _ _ rfl rfl (by decide)).trans ?_
    refine (ra_hit _ _ _ _ _ _).trans ?_
    rw [k5_2 h5, runNext_v355_eq h4]
    rfl
  · refine (ra_hit _ _ _ _ _ _).trans ?_
    rw [k5_3 h5, runNext_v422_eq h4]
    rfl

end Cert.KernelIdeal.Att

end
-- ==== Proof.AttNext7.lean ====
/- The output block after the body at a later query block, head by head. -/
module

public import proofs.«01_k».proof.Proof.AttNext

@[expose] public section

set_option maxRecDepth 16384

noncomputable section

namespace Cert.KernelIdeal.Att

open Cert.KernelIdeal Cert.KernelIdeal.Gen Idealize.ShloMosaic Idealize.ShloMosaic.View

variable {F : FTy → Type} [FloatOps F]
variable {c : Dev nD} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole}
  {f3 : arg3.view.ty.Contents (Elt F)} {f4 : arg4.view.ty.Contents (Elt F)} {f5 : arg5.view.ty.Contents (Elt F)} {f6 : arg6.view.ty.Contents (Elt F)} {f7 : arg7.view.ty.Contents (Elt F)} {f8 : arg8.view.ty.Contents (Elt F)} {f9 : arg9.view.ty.Contents (Elt F)} {f10 : arg10.view.ty.Contents (Elt F)} {f11 : arg11.view.ty.Contents (Elt F)} {f12 : arg12.view.ty.Contents (Elt F)}
  {kb : ℕ → ℕ → Vec F S1x256x128 .bf16} {vb : ℕ → ℕ → Vec F S1x1x128x256 .bf16} {qb : ℕ → ℕ → Vec F S1x1x128x512 .bf16} {q : ℕ → Vec F S1x128x1024 .bf16}

theorem runNext_7 (h4 : Qb arg4 f4 qb) (h5 : Keys arg5 f5 kb) (h6 : Vals arg6 f6 vb) (h10 : Ss arg10 f10 (fun hh => SC (kb hh 0) (q hh))) (h12 : Qs arg12 f12 q) (hc : ¬ isFirst i) : Os arg7 (runNext (F := F) c i arg3 harg3 arg4 harg4 arg5 harg5 arg6 harg6 arg7 harg7 arg8 harg8 arg9 harg9 arg10 harg10 arg11 harg11 arg12 harg12 f3 f4 f5 f6 f7 f8 f9 f10 f11 f12 hc).1 (fun hh => OH (AE (kb hh) (vb hh) (q hh) (i 2).val) (lamv arg3 f3)) := by
  unfold runNext
  dsimp only
  intro hh inb
  have hlt : hh < 4 := by have := inb 1; have h2 : 128 * hh + 128 ≤ 512 := this; omega
  obtain rfl | rfl | rfl | rfl : hh = 0 ∨ hh = 1 ∨ hh = 2 ∨ hh = 3 := by omega
  · refine Eq.trans ?_ (congrArg (fun a => OH a (lamv arg3 f3)) (runNext_fin0 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f10 := f10) (f11 := f11) (f12 := f12) h4 h5 h6 h10 h12))
    iterate 3 refine (ra_missr _ _ _ _ _ _ rfl (by decide)).trans ?_
    refine (ra_hit _ _ _ _ _ _).trans ?_
    unfold runNext.sl.r_23 runNext.sl.r_24 runNext.sl.r_22 runNext.sl.cst_482
    rfl
  · refine Eq.trans ?_ (congrArg (fun a => OH a (lamv arg3 f3)) (runNext_fin1 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f10 := f10) (f11 := f11) (f12 := f12) h4 h5 h6 h10 h12))
    iterate 2 refine (ra_missr _ _ _ _ _ _ rfl (by decide)).trans ?_
    refine (ra_hit _ _ _ _ _ _).trans ?_
    unfold runNext.sl.r_22
    rfl
  · refine Eq.trans ?_ (congrArg (fun a => OH a (lamv arg3 f3)) (runNext_fin2 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f10 := f10) (f11 := f11) (f12 := f12) h4 h5 h6 h10 h12))
    refine (ra_missr _ _ _ _ _ _ rfl (by decide)).trans ?_
    refine (ra_hit _ _ _ _ _ _).trans ?_
    unfold runNext.sl.r_22
    rfl
  · refine Eq.trans ?_ (congrArg (fun a => OH a (lamv arg3 f3)) (runNext_fin3 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f10 := f10) (f11 := f11) (f12 := f12) h4 h5 h6 h10 h12))
    refine (ra_hit _ _ _ _ _ _).trans ?_
    unfold runNext.sl.r_25 runNext.sl.r_26 runNext.sl.r_22 runNext.sl.cst_482
    rfl

end Cert.KernelIdeal.Att

end
-- ==== Proof.AttFirst.lean ====
/- What the body's run leaves behind, read head by head: the output block, the next query block's masked queries and
   its first scores (at the first query block of a batch). -/
module

public import proofs.«01_k».proof.Proof.AttBase

@[expose] public section

set_option maxRecDepth 16384

noncomputable section

namespace Cert.KernelIdeal.Att

open Cert.KernelIdeal Cert.KernelIdeal.Gen Idealize.ShloMosaic Idealize.ShloMosaic.View

section Held
variable {F : FTy → Type} [FloatOps F] {v0 : FVec F S16x256 .bf16} {kb : ℕ → ℕ → Vec F S1x256x128 .bf16} {vb : ℕ → ℕ → Vec F S1x1x128x256 .bf16} {q : ℕ → Vec F S1x128x1024 .bf16}
    {arg8 : Memref sig .tc .vmem S4x1x1024 .f32} {arg9 : Memref sig .tc .vmem S4x144x1024 .f32} {arg10 : Memref sig .tc .vmem S4x256x1024 .f32}
    {f8 : arg8.view.ty.Contents (Elt F)} {f9 : arg9.view.ty.Contents (Elt F)} {f10 : arg10.view.ty.Contents (Elt F)}
    {L8 : List (View.Piece (Elt F) S4x1x1024 .f32)} {L9 : List (View.Piece (Elt F) S4x144x1024 .f32)} {L10 : List (View.Piece (Elt F) S4x256x1024 .f32)}
    {n hh : ℕ}
theorem runFirst_st8 {inb : ∀ a, (![hh, 0, 0] : Fin 3 → ℕ) a + S1x1x1024.size a ≤ S4x1x1024.size a} (h : St v0 kb vb q arg8 arg9 arg10 f8 f9 f10 L8 L9 L10 n) :
    View.readAt (Elt F) arg8.view (Rect.unit (s := S4x1x1024) ![hh, 0, 0] S1x1x1024.size inb).toLoadRect (arg8.view.writes (Elt F) f8 L8) = MM (kb hh) (q hh) n := h.h8 hh inb
theorem runFirst_st9 {inb : ∀ a, (![hh, 0, 0] : Fin 3 → ℕ) a + S1x144x1024.size a ≤ S4x144x1024.size a} (h : St v0 kb vb q arg8 arg9 arg10 f8 f9 f10 L8 L9 L10 n) :
    View.readAt (Elt F) arg9.view (Rect.unit (s := S4x144x1024) ![hh, 0, 0] S1x144x1024.size inb).toLoadRect (arg9.view.writes (Elt F) f9 L9) = AA v0 (kb hh) (vb hh) (q hh) n := h.h9 hh inb
theorem runFirst_st10 {inb : ∀ a, (![hh, 0, 0] : Fin 3 → ℕ) a + S1x256x1024.size a ≤ S4x256x1024.size a} (h : St v0 kb vb q arg8 arg9 arg10 f8 f9 f10 L8 L9 L10 n) :
    View.readAt (Elt F) arg10.view (Rect.unit (s := S4x256x1024) ![hh, 0, 0] S1x256x1024.size inb).toLoadRect (arg10.view.writes (Elt F) f10 L10) = SC (kb hh n) (q hh) := h.h10 hh inb
end Held

variable {F : FTy → Type} [FloatOps F]
variable {c : Dev nD} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole}
  {f3 : arg3.view.ty.Contents (Elt F)} {f4 : arg4.view.ty.Contents (Elt F)} {f5 : arg5.view.ty.Contents (Elt F)} {f6 : arg6.view.ty.Contents (Elt F)} {f7 : arg7.view.ty.Contents (Elt F)} {f8 : arg8.view.ty.Contents (Elt F)} {f9 : arg9.view.ty.Contents (Elt F)} {f10 : arg10.view.ty.Contents (Elt F)} {f11 : arg11.view.ty.Contents (Elt F)} {f12 : arg12.view.ty.Contents (Elt F)}
  {kb : ℕ → ℕ → Vec F S1x256x128 .bf16} {vb : ℕ → ℕ → Vec F S1x1x128x256 .bf16} {qb : ℕ → ℕ → Vec F S1x1x128x512 .bf16}

theorem runFirst_q1_0 (h4 : Qb arg4 f4 qb) (inb : ∀ a, (![0, 0, 0] : Fin 3 → ℕ) a + S1x128x1024.size a ≤ S4x128x1024.size a) : arg12.view.readCov (runFirst.sl.H12_1 (F := F) arg4 f4) (Rect.unit (s := S4x128x1024) ![0, 0, 0] S1x128x1024.size inb).toLoadRect = QM (qb 0 0) := by
  unfold runFirst.sl.H12_1
  refine (rc_hit _ _ _ _ _).trans ?_
  rw [q4_0 h4]
  rfl

theorem runFirst_q2_1 (h4 : Qb arg4 f4 qb) (inb : ∀ a, (![1, 0, 0] : Fin 3 → ℕ) a + S1x128x1024.size a ≤ S4x128x1024.size a) : arg12.view.readCov (runFirst.sl.H12_2 (F := F) arg4 f4) (Rect.unit (s := S4x128x1024) ![1, 0, 0] S1x128x1024.size inb).toLoadRect = QM (qb 1 0) := by
  unfold runFirst.sl.H12_2 runFirst.sl.H12_1
  refine (rc_hit _ _ _ _ _).trans ?_
  unfold runFirst.sl.r runFirst.sl.cst_546 runFirst.sl.v832
  rw [q4_1 h4]
  rfl

theorem runFirst_q3_2 (h4 : Qb arg4 f4 qb) (inb : ∀ a, (![2, 0, 0] : Fin 3 → ℕ) a + S1x128x1024.size a ≤ S4x128x1024.size a) : arg12.view.readCov (runFirst.sl.H12_3 (F := F) arg4 f4) (Rect.unit (s := S4x128x1024) ![2, 0, 0] S1x128x1024.size inb).toLoadRect = QM (qb 2 0) := by
  unfold runFirst.sl.H12_3 runFirst.sl.H12_2 runFirst.sl.H12_1
  refine (rc_hit _ _ _ _ _).trans ?_
  unfold runFirst.sl.r_1
  rw [q4_2 h4]
  rfl

theorem runFirst_q4_0 (h4 : Qb arg4 f4 qb) (inb : ∀ a, (![0, 0, 0] : Fin 3 → ℕ) a + S1x128x1024.size a ≤ S4x128x1024.size a) : arg12.view.readCov (runFirst.sl.H12_4 (F := F) arg4 f4) (Rect.unit (s := S4x128x1024) ![0, 0, 0] S1x128x1024.size inb).toLoadRect = QM (qb 0 0) := by
  unfold runFirst.sl.H12_4 runFirst.sl.H12_3 runFirst.sl.H12_2 runFirst.sl.H12_1
  iterate 3 refine (rc_miss _ _ _ _ _ rfl rfl (by decide)).trans ?_
  refine (rc_hit _ _ _ _ _).trans ?_
  rw [q4_0 h4]
  rfl

theorem runFirst_q4_1 (h4 : Qb arg4 f4 qb) (inb : ∀ a, (![1, 0, 0] : Fin 3 → ℕ) a + S1x128x1024.size a ≤ S4x128x1024.size a) : arg12.view.readCov (runFirst.sl.H12_4 (F := F) arg4 f4) (Rect.unit (s := S4x128x1024) ![1, 0, 0] S1x128x1024.size inb).toLoadRect = QM (qb 1 0) := by
  unfold runFirst.sl.H12_4 runFirst.sl.H12_3 runFirst.sl.H12_2 runFirst.sl.H12_1
  iterate 2 refine (rc_miss _ _ _ _ _ rfl rfl (by decide)).trans ?_
  refine (rc_hit _ _ _ _ _).trans ?_
  unfold runFirst.sl.r runFirst.sl.cst_546 runFirst.sl.v832
  rw [q4_1 h4]
  rfl

theorem runFirst_q4_2 (h4 : Qb arg4 f4 qb) (inb : ∀ a, (![2, 0, 0] : Fin 3 → ℕ) a + S1x128x1024.size a ≤ S4x128x1024.size a) : arg12.view.readCov (runFirst.sl.H12_4 (F := F) arg4 f4) (Rect.unit (s := S4x128x1024) ![2, 0, 0] S1x128x1024.size inb).toLoadRect = QM (qb 2 0) := by
  unfold runFirst.sl.H12_4 runFirst.sl.H12_3 runFirst.sl.H12_2 runFirst.sl.H12_1
  refine (rc_miss _ _ _ _ _ rfl rfl (by decide)).trans ?_
  refine (rc_hit _ _ _ _ _).trans ?_
  unfold runFirst.sl.r_1
  rw [q4_2 h4]
  rfl

theorem runFirst_q4_3 (h4 : Qb arg4 f4 qb) (inb : ∀ a, (![3, 0, 0] : Fin 3 → ℕ) a + S1x128x1024.size a ≤ S4x128x1024.size a) : arg12.view.readCov (runFirst.sl.H12_4 (F := F) arg4 f4) (Rect.unit (s := S4x128x1024) ![3, 0, 0] S1x128x1024.size inb).toLoadRect = QM (qb 3 0) := by
  unfold runFirst.sl.H12_4 runFirst.sl.H12_3 runFirst.sl.H12_2 runFirst.sl.H12_1
  refine (rc_hit _ _ _ _ _).trans ?_
  rw [q4_3 h4]
  rfl

theorem runFirst_qs (h4 : Qb arg4 f4 qb) : Qs arg12 (arg12.view.writes (Elt F) arg12.view.junk (runFirst.sl.H12_4 (F := F) arg4 f4)) (fun hh => QM (qb hh 0)) := by
  intro hh inb
  have hlt : hh < 4 := by have := inb 0; exact Nat.lt_of_succ_le this
  obtain rfl | rfl | rfl | rfl : hh = 0 ∨ hh = 1 ∨ hh = 2 ∨ hh = 3 := by omega
  · exact runFirst_q4_0 h4 inb
  · exact runFirst_q4_1 h4 inb
  · exact runFirst_q4_2 h4 inb
  · exact runFirst_q4_3 h4 inb

theorem runFirst_v823_eq (h4 : Qb arg4 f4 qb) : (runFirst.sl.v823 (F := F) arg4 arg12 f4) = QM (qb 0 0) := by
  exact runFirst_q1_0 h4 _

theorem runFirst_v848_eq (h4 : Qb arg4 f4 qb) : (runFirst.sl.v848 (F := F) arg4 arg12 f4) = QM (qb 1 0) := by
  exact runFirst_q2_1 h4 _

theorem runFirst_v873_eq (h4 : Qb arg4 f4 qb) : (runFirst.sl.v873 (F := F) arg4 arg12 f4) = QM (qb 2 0) := by
  exact runFirst_q3_2 h4 _

theorem runFirst_v898_eq (h4 : Qb arg4 f4 qb) : (runFirst.sl.v898 (F := F) arg4 arg12 f4) = QM (qb 3 0) := by
  exact runFirst_q4_3 h4 _

theorem runFirst_ss (h4 : Qb arg4 f4 qb) (h5 : Keys arg5 f5 kb) : Ss arg10 (arg10.view.writes (Elt F) arg10.view.junk (runFirst.sl.H10_4 (F := F) arg4 arg5 arg12 f4 f5)) (fun hh => SC (kb hh 0) (QM (qb hh 0))) := by
  intro hh inb
  have hlt : hh < 4 := by have := inb 0; exact Nat.lt_of_succ_le this
  unfold runFirst.sl.H10_4
  obtain rfl | rfl | rfl | rfl : hh = 0 ∨ hh = 1 ∨ hh = 2 ∨ hh = 3 := by omega
  · refine (ra_miss _ _ _ _ _ _ rfl rfl (by decide)).trans ?_
    iterate 2 refine (ra_miss _ _ _ _ _ _ rfl rfl (by decide)).trans ?_
    refine (ra_hit _ _ _ _ _ _).trans ?_
    rw [k5_0 h5, runFirst_v823_eq h4]
    rfl
  · refine (ra_miss _ _ _ _ _ _ rfl rfl (by decide)).trans ?_
    refine (ra_miss _ _ _ _ _ _ rfl rfl (by decide)).trans ?_
    refine (ra_hit _ _ _ _ _ _).trans ?_
    rw [k5_1 h5, runFirst_v848_eq h4]
    rfl
  · refine (ra_miss _ _ _ _ _ _ rfl rfl (by decide)).trans ?_
    refine (ra_hit _ _ _ _ _ _).trans ?_
    rw [k5_2 h5, runFirst_v873_eq h4]
    rfl
  · refine (ra_hit _ _ _ _ _ _).trans ?_
    unfold runFirst.sl.r_2
    rw [k5_3 h5, runFirst_v898_eq h4]
    rfl

theorem runFirst_v172_eq (h4 : Qb arg4 f4 qb) (h5 : Keys arg5 f5 kb) (h6 : Vals arg6 f6 vb) : (runFirst.sl.v172 (F := F) c i arg3 harg3 arg4 harg4 arg5 harg5 arg6 harg6 arg7 harg7 arg8 harg8 arg9 harg9 arg10 harg10 arg11 harg11 arg12 harg12 f4 f5 f6 f11) = MM (kb 0) (QM (qb 0 0)) (2 * (i 2).val) := by
  unfold runFirst.sl.v172
  apply runFirst_st8 (v0 := k0_pay813) (kb := kb) (vb := vb) (q := (fun hh => QM (qb hh 0))) (n := 2 * (i 2).val) (hh := 0)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v239_eq (h4 : Qb arg4 f4 qb) (h5 : Keys arg5 f5 kb) (h6 : Vals arg6 f6 vb) : (runFirst.sl.v239 (F := F) c i arg3 harg3 arg4 harg4 arg5 harg5 arg6 harg6 arg7 harg7 arg8 harg8 arg9 harg9 arg10 harg10 arg11 harg11 arg12 harg12 f4 f5 f6 f11) = MM (kb 1) (QM (qb 1 0)) (2 * (i 2).val) := by
  unfold runFirst.sl.v239 runFirst.sl.H8_1_1
  refine (rc_miss _ _ _ _ _ rfl rfl (by decide)).trans ?_
  apply runFirst_st8 (v0 := k0_pay813) (kb := kb) (vb := vb) (q := (fun hh => QM (qb hh 0))) (n := 2 * (i 2).val) (hh := 1)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v306_eq (h4 : Qb arg4 f4 qb) (h5 : Keys arg5 f5 kb) (h6 : Vals arg6 f6 vb) : (runFirst.sl.v306 (F := F) c i arg3 harg3 arg4 harg4 arg5 harg5 arg6 harg6 arg7 harg7 arg8 harg8 arg9 harg9 arg10 harg10 arg11 harg11 arg12 harg12 f4 f5 f6 f11) = MM (kb 2) (QM (qb 2 0)) (2 * (i 2).val) := by
  unfold runFirst.sl.v306 runFirst.sl.H8_2 runFirst.sl.H8_1_1
  iterate 2 refine (rc_miss _ _ _ _ _ rfl rfl (by decide)).trans ?_
  apply runFirst_st8 (v0 := k0_pay813) (kb := kb) (vb := vb) (q := (fun hh => QM (qb hh 0))) (n := 2 * (i 2).val) (hh := 2)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v373_eq (h4 : Qb arg4 f4 qb) (h5 : Keys arg5 f5 kb) (h6 : Vals arg6 f6 vb) : (runFirst.sl.v373 (F := F) c i arg3 harg3 arg4 harg4 arg5 harg5 arg6 harg6 arg7 harg7 arg8 harg8 arg9 harg9 arg10 harg10 arg11 harg11 arg12 harg12 f4 f5 f6 f11) = MM (kb 3) (QM (qb 3 0)) (2 * (i 2).val) := by
  unfold runFirst.sl.v373 runFirst.sl.H8_3 runFirst.sl.H8_2 runFirst.sl.H8_1_1
  iterate 3 refine (rc_miss _ _ _ _ _ rfl rfl (by decide)).trans ?_
  apply runFirst_st8 (v0 := k0_pay813) (kb := kb) (vb := vb) (q := (fun hh => QM (qb hh 0))) (n := 2 * (i 2).val) (hh := 3)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v187_eq (h4 : Qb arg4 f4 qb) (h5 : Keys arg5 f5 kb) (h6 : Vals arg6 f6 vb) : (runFirst.sl.v187 (F := F) c i arg3 harg3 arg4 harg4 arg5 harg5 arg6 harg6 arg7 harg7 arg8 harg8 arg9 harg9 arg10 harg10 arg11 harg11 arg12 harg12 f4 f5 f6 f11) = AA k0_pay813 (kb 0) (vb 0) (QM (qb 0 0)) (2 * (i 2).val) := by
  unfold runFirst.sl.v187
  apply runFirst_st9 (v0 := k0_pay813) (kb := kb) (vb := vb) (q := (fun hh => QM (qb hh 0))) (n := 2 * (i 2).val) (hh := 0)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v254_eq (h4 : Qb arg4 f4 qb) (h5 : Keys arg5 f5 kb) (h6 : Vals arg6 f6 vb) : (runFirst.sl.v254 (F := F) c i arg3 harg3 arg4 harg4 arg5 harg5 arg6 harg6 arg7 harg7 arg8 harg8 arg9 harg9 arg10 harg10 arg11 harg11 arg12 harg12 f4 f5 f6 f11) = AA k0_pay813 (kb 1) (vb 1) (QM (qb 1 0)) (2 * (i 2).val) := by
  unfold runFirst.sl.v254 runFirst.sl.H9_1_1
  refine (rc_miss _ _ _ _ _ rfl rfl (by decide)).trans ?_
  apply runFirst_st9 (v0 := k0_pay813) (kb := kb) (vb := vb) (q := (fun hh => QM (qb hh 0))) (n := 2 * (i 2).val) (hh := 1)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v321_eq (h4 : Qb arg4 f4 qb) (h5 : Keys arg5 f5 kb) (h6 : Vals arg6 f6 vb) : (runFirst.sl.v321 (F := F) c i arg3 harg3 arg4 harg4 arg5 harg5 arg6 harg6 arg7 harg7 arg8 harg8 arg9 harg9 arg10 harg10 arg11 harg11 arg12 harg12 f4 f5 f6 f11) = AA k0_pay813 (kb 2) (vb 2) (QM (qb 2 0)) (2 * (i 2).val) := by
  unfold runFirst.sl.v321 runFirst.sl.H9_2 runFirst.sl.H9_1_1
  iterate 2 refine (rc_miss _ _ _ _ _ rfl rfl (by decide)).trans ?_
  apply runFirst_st9 (v0 := k0_pay813) (kb := kb) (vb := vb) (q := (fun hh => QM (qb hh 0))) (n := 2 * (i 2).val) (hh := 2)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v388_eq (h4 : Qb arg4 f4 qb) (h5 : Keys arg5 f5 kb) (h6 : Vals arg6 f6 vb) : (runFirst.sl.v388 (F := F) c i arg3 harg3 arg4 harg4 arg5 harg5 arg6 harg6 arg7 harg7 arg8 harg8 arg9 harg9 arg10 harg10 arg11 harg11 arg12 harg12 f4 f5 f6 f11) = AA k0_pay813 (kb 3) (vb 3) (QM (qb 3 0)) (2 * (i 2).val) := by
  unfold runFirst.sl.v388 runFirst.sl.H9_3 runFirst.sl.H9_2 runFirst.sl.H9_1_1
  iterate 3 refine (rc_miss _ _ _ _ _ rfl rfl (by decide)).trans ?_
  apply runFirst_st9 (v0 := k0_pay813) (kb := kb) (vb := vb) (q := (fun hh => QM (qb hh 0))) (n := 2 * (i 2).val) (hh := 3)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v160_eq (h4 : Qb arg4 f4 qb) (h5 : Keys arg5 f5 kb) (h6 : Vals arg6 f6 vb) : (runFirst.sl.v160 (F := F) c i arg3 harg3 arg4 harg4 arg5 harg5 arg6 harg6 arg7 harg7 arg8 harg8 arg9 harg9 arg10 harg10 arg11 harg11 arg12 harg12 f4 f5 f6 f11) = SC (kb 0 (2 * (i 2).val)) (QM (qb 0 0)) := by
  unfold runFirst.sl.v160
  apply runFirst_st10 (v0 := k0_pay813) (kb := kb) (vb := vb) (q := (fun hh => QM (qb hh 0))) (n := 2 * (i 2).val) (hh := 0)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_s1_eq (h4 : Qb arg4 f4 qb) (h5 : Keys arg5 f5 kb) (h6 : Vals arg6 f6 vb) (inb : ∀ a, (![1, 0, 0] : Fin 3 → ℕ) a + S1x256x1024.size a ≤ S4x256x1024.size a) : arg10.view.readCov (runFirst.sl.H10_1 (F := F) c i arg3 harg3 arg4 harg4 arg5 harg5 arg6 harg6 arg7 harg7 arg8 harg8 arg9 harg9 arg10 harg10 arg11 harg11 arg12 harg12 f4 f5 f6 f11) (Rect.unit (s := S4x256x1024) ![1, 0, 0] S1x256x1024.size inb).toLoadRect = SC (kb 1 (2 * (i 2).val)) (QM (qb 1 0)) := by
  unfold runFirst.sl.H10_1
  refine (rc_miss _ _ _ _ _ rfl rfl (by decide)).trans ?_
  apply runFirst_st10 (v0 := k0_pay813) (kb := kb) (vb := vb) (q := (fun hh => QM (qb hh 0))) (n := 2 * (i 2).val) (hh := 1)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_s2_eq (h4 : Qb arg4 f4 qb) (h5 : Keys arg5 f5 kb) (h6 : Vals arg6 f6 vb) (inb : ∀ a, (![2, 0, 0] : Fin 3 → ℕ) a + S1x256x1024.size a ≤ S4x256x1024.size a) : arg10.view.readCov (runFirst.sl.H10_2 (F := F) c i arg3 harg3 arg4 harg4 arg5 harg5 arg6 harg6 arg7 harg7 arg8 harg8 arg9 harg9 arg10 harg10 arg11 harg11 arg12 harg12 f4 f5 f6 f11) (Rect.unit (s := S4x256x1024) ![2, 0, 0] S1x256x1024.size inb).toLoadRect = SC (kb 2 (2 * (i 2).val)) (QM (qb 2 0)) := by
  unfold runFirst.sl.H10_2 runFirst.sl.H10_1
  iterate 2 refine (rc_miss _ _ _ _ _ rfl rfl (by decide)).trans ?_
  apply runFirst_st10 (v0 := k0_pay813) (kb := kb) (vb := vb) (q := (fun hh => QM (qb hh 0))) (n := 2 * (i 2).val) (hh := 2)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_s3_eq (h4 : Qb arg4 f4 qb) (h5 : Keys arg5 f5 kb) (h6 : Vals arg6 f6 vb) (inb : ∀ a, (![3, 0, 0] : Fin 3 → ℕ) a + S1x256x1024.size a ≤ S4x256x1024.size a) : arg10.view.readCov (runFirst.sl.H10_3 (F := F) c i arg3 harg3 arg4 harg4 arg5 harg5 arg6 harg6 arg7 harg7 arg8 harg8 arg9 harg9 arg10 harg10 arg11 harg11 arg12 harg12 f4 f5 f6 f11) (Rect.unit (s := S4x256x1024) ![3, 0, 0] S1x256x1024.size inb).toLoadRect = SC (kb 3 (2 * (i 2).val)) (QM (qb 3 0)) := by
  unfold runFirst.sl.H10_3 runFirst.sl.H10_2 runFirst.sl.H10_1
  iterate 3 refine (rc_miss _ _ _ _ _ rfl rfl (by decide)).trans ?_
  apply runFirst_st10 (v0 := k0_pay813) (kb := kb) (vb := vb) (q := (fun hh => QM (qb hh 0))) (n := 2 * (i 2).val) (hh := 3)
  refine loop6 _ (tr6 i) ?_
  refine loop5b h5 h6 (runFirst_qs h4) _ (tr5 i) ?_
  refine loop4 _ (tr4 i) ?_
  refine loop3b h5 h6 (runFirst_qs h4) _ (tr3 i) ?_
  refine loop2 _ (tr2 i) ?_
  refine loop1b h5 h6 (runFirst_qs h4) _ (tr1 i) ?_
  exact st0 _ _ (runFirst_ss h4 h5)

theorem runFirst_v227_eq (h4 : Qb arg4 f4 qb) (h5 : Keys arg5 f5 kb) (h6 : Vals arg6 f6 vb) : (runFirst.sl.v227 (F := F) c i arg3 harg3 arg4 harg4 arg5 harg5 arg6 harg6 arg7 harg7 arg8 harg8 arg9 harg9 arg10 harg10 arg11 harg11 arg12 harg12 f4 f5 f6 f11) = SC (kb 1 (2 * (i 2).val)) (QM (qb 1 0)) := by
  exact runFirst_s1_eq h4 h5 h6 _

theorem runFirst_v_eq (h4 : Qb arg4 f4 qb) (h5 : Keys arg5 f5 kb) (h6 : Vals arg6 f6 vb) : (runFirst.sl.v (F := F) c i arg3 harg3 arg4 harg4 arg5 harg5 arg6 harg6 arg7 harg7 arg8 harg8 arg9 harg9 arg10 harg10 arg11 harg11 arg12 harg12 f4 f5 f6 f11) = SC (kb 3 (2 * (i 2).val)) (QM (qb 3 0)) := by
  exact runFirst_s3_eq h4 h5 h6 _

theorem runFirst_v294_eq (h4 : Qb arg4 f4 qb) (h5 : Keys arg5 f5 kb) (h6 : Vals arg6 f6 vb) : (runFirst.sl.v294 (F := F) c i arg3 harg3 arg4 harg4 arg5 harg5 arg6 harg6 arg7 harg7 arg8 harg8 arg9 harg9 arg10 harg10 arg11 harg11 arg12 harg12 f4 f5 f6 f11) = SC (kb 2 (2 * (i 2).val)) (QM (qb 2 0)) := by
  exact runFirst_s2_eq h4 h5 h6 _

theorem runFirst_t8_0 (h4 : Qb arg4 f4 qb) (h5 : Keys arg5 f5 kb) (h6 : Vals arg6 f6 vb) (inb : ∀ a, (![0, 0, 0] : Fin 3 → ℕ) a + S1x1x1024.size a ≤ S4x1x1024.size a) : arg8.view.readCov (runFirst.sl.H8_4 (F := F) c i arg3 harg3 arg4 harg4 arg5 harg5 arg6 harg6 arg7 harg7 arg8 harg8 arg9 harg9 arg10 harg10 arg11 harg11 arg12 harg12 f4 f5 f6 f11) (Rect.unit (s := S4x1x1024) ![0, 0, 0] S1x1x1024.size inb).toLoadRect = M1 (kb 0) (QM (qb 0 0)) (i 2).val := by
  unfold runFirst.sl.H8_4 runFirst.sl.H8_3 runFirst.sl.H8_2 runFirst.sl.H8_1_1
  iterate 3 refine (rc_miss _ _ _ _ _ rfl rfl (by decide)).trans ?_
  refine (rc_hit _ _ _ _ _).trans ?_
  unfold runFirst.sl.r_6
  rw [runFirst_v160_eq h4 h5 h6, runFirst_v172_eq h4 h5 h6]
  rfl

theorem runFirst_t8_1 (h4 : Qb arg4 f4 qb) (h5 : Keys arg5 f5 kb) (h6 : Vals arg6 f6 vb) (inb : ∀ a, (![1, 0, 0] : Fin 3 → ℕ) a + S1x1x1024.size a ≤ S4x1x1024.size a) : arg8.view.readCov (runFirst.sl.H8_4 (F := F) c i arg3 harg3 arg4 harg4 arg5 harg5 arg6 harg6 arg7 harg7 arg8 harg8 arg9 harg9 arg10 harg10 arg11 harg11 arg12 harg12 f4 f5 f6 f11) (Rect.unit (s := S4x1x1024) ![1, 0, 0] S1x1x1024.size inb).toLoadRect = M1 (kb 1) (QM (qb 1 0)) (i 2).val := by
  unfold runFirst.sl.H8_4 runFirst.sl.H8_3 runFirst.sl.H8_2
  iterate 2 refine (rc_miss _ _ _ _ _ rfl rfl (by decide)).trans ?_
  refine (rc_hit _ _ _ _ _).trans ?_
  unfold runFirst.sl.r_9
  rw [runFirst_v227_eq h4 h5 h6, runFirst_v239_eq h4 h5 h6]
  rfl

theorem runFirst_t8_2 (h4 : Qb arg4 f4 qb) (h5 : Keys arg5 f5 kb) (h6 : Vals arg6 f6 vb) (inb : ∀ a, (![2, 0, 0] : Fin 3 → ℕ) a + S1x1x1024.size a ≤ S4x1x1024.size a) : arg8.view.readCov (runFirst.sl.H8_4 (F := F) c i arg3 harg3 arg4 harg4 arg5 harg5 arg6 harg6 arg7 harg7 arg8 harg8 arg9 harg9 arg10 harg10 arg11 harg11 arg12 harg12 f4 f5 f6 f11) (Rect.unit (s := S4x1x1024) ![2, 0, 0] S1x1x1024.size inb).toLoadRect = M1 (kb 2) (QM (qb 2 0)) (i 2).val := by
  unfold runFirst.sl.H8_4 runFirst.sl.H8_3
  refine (rc_miss _ _ _ _ _ rfl rfl (by decide)).trans ?_
  refine (rc_hit _ _ _ _ _).trans ?_
  unfold runFirst.sl.r_11
  rw [runFirst_v294_eq h4 h5 h6, runFirst_v306_eq h4 h5 h6]
  rfl

theorem runFirst_t8_3 (h4 : Qb arg4 f4 qb) (h5 : Keys arg5 f5 kb) (h6 : Vals arg6 f6 vb) (inb : ∀ a, (![3, 0, 0] : Fin 3 → ℕ) a + S1x1x1024.size a ≤ S4x1x1024.size a) : arg8.view.readCov (runFirst.sl.H8_4 (F := F) c i arg3 harg3 arg4 harg4 arg5 harg5 arg6 harg6 arg7 harg7 arg8 harg8 arg9 harg9 arg10 harg10 arg11 harg11 arg12 harg12 f4 f5 f6 f11) (Rect.unit (s := S4x1x1024) ![3, 0, 0] S1x1x1024.size inb).toLoadRect = M1 (kb 3) (QM (qb 3 0)) (i 2).val := by
  unfold runFirst.sl.H8_4
  refine (rc_hit _ _ _ _ _).trans ?_
  rw [runFirst_v_eq h4 h5 h6, runFirst_v373_eq h4 h5 h6]
  rfl

theorem runFirst_t9_0 (h4 : Qb arg4 f4 qb) (h5 : Keys arg5 f5 kb) (h6 : Vals arg6 f6 vb) (inb : ∀ a, (![0, 0, 0] : Fin 3 → ℕ) a + S1x144x1024.size a ≤ S4x144x1024.size a) : arg9.view.readCov (runFirst.sl.H9_4 (F := F) c i arg3 harg3 arg4 harg4 arg5 harg5 arg6 harg6 arg7 harg7 arg8 harg8 arg9 harg9 arg10 harg10 arg11 harg11 arg12 harg12 f4 f5 f6 f11) (Rect.unit (s := S4x144x1024) ![0, 0, 0] S1x144x1024.size inb).toLoadRect = A1 (kb 0) (vb 0) (QM (qb 0 0)) (i 2).val := by
  unfold runFirst.sl.H9_4 runFirst.sl.H9_3 runFirst.sl.H9_2 runFirst.sl.H9_1_1
  iterate 3 refine (rc_miss _ _ _ _ _ rfl rfl (by decide)).trans ?_
  refine (rc_hit _ _ _ _ _).trans ?_
  unfold runFirst.sl.r_7
  rw [runFirst_v160_eq h4 h5 h6, runFirst_v172_eq h4 h5 h6, o101_eq h6, runFirst_v187_eq h4 h5 h6]
  rfl

theorem runFirst_t9_1 (h4 : Qb arg4 f4 qb) (h5 : Keys arg5 f5 kb) (h6 : Vals arg6 f6 vb) (inb : ∀ a, (![1, 0, 0] : Fin 3 → ℕ) a + S1x144x1024.size a ≤ S4x144x1024.size a) : arg9.view.readCov (runFirst.sl.H9_4 (F := F) c i arg3 harg3 arg4 harg4 arg5 harg5 arg6 harg6 arg7 harg7 arg8 harg8 arg9 harg9 arg10 harg10 arg11 harg11 arg12 harg12 f4 f5 f6 f11) (Rect.unit (s := S4x144x1024) ![1, 0, 0] S1x144x1024.size inb).toLoadRect = A1 (kb 1) (vb 1) (QM (qb 1 0)) (i 2).val := by
  unfold runFirst.sl.H9_4 runFirst.sl.H9_3 runFirst.sl.H9_2
  iterate 2 refine (rc_miss _ _ _ _ _ rfl rfl (by decide)).trans ?_
  refine (rc_hit _ _ _ _ _).trans ?_
  unfold runFirst.sl.r_10
  rw [runFirst_v227_eq h4 h5 h6, runFirst_v239_eq h4 h5 h6, o103_eq h6, runFirst_v254_eq h4 h5 h6]
  rfl

theorem runFirst_t9_2 (h4 : Qb arg4 f4 qb) (h5 : Keys arg5 f5 kb) (h6 : Vals arg6 f6 vb) (inb : ∀ a, (![2, 0, 0] : Fin 3 → ℕ) a + S1x144x1024.size a ≤ S4x144x1024.size a) : arg9.view.readCov (runFirst.sl.H9_4 (F := F) c i arg3 harg3 arg4 harg4 arg5 harg5 arg6 harg6 arg7 harg7 arg8 harg8 arg9 harg9 arg10 harg10 arg11 harg11 arg12 harg12 f4 f5 f6 f11) (Rect.unit (s := S4x144x1024) ![2, 0, 0] S1x144x1024.size inb).toLoadRect = A1 (kb 2) (vb 2) (QM (qb 2 0)) (i 2).val := by
  unfold runFirst.sl.H9_4 runFirst.sl.H9_3
  refine (rc_miss _ _ _ _ _ rfl rfl (by decide)).trans ?_
  refine (rc_hit _ _ _ _ _).trans ?_
  rw [runFirst_v294_eq h4 h5 h6, runFirst_v306_eq h4 h5 h6, o105_eq h6, runFirst_v321_eq h4 h5 h6]
  rfl

theorem runFirst_t9_3 (h4 : Qb arg4 f4 qb) (h5 : Keys arg5 f5 kb) (h6 : Vals arg6 f6 vb) (inb : ∀ a, (![3, 0, 0] : Fin 3 → ℕ) a + S1x144x1024.size a ≤ S4x144x1024.size a) : arg9.view.readCov (runFirst.sl.H9_4 (F := F) c i arg3 harg3 arg4 harg4 arg5 harg5 arg6 harg6 arg7 harg7 arg8 harg8 arg9 harg9 arg10 harg10 arg11 harg11 arg12 harg12 f4 f5 f6 f11) (Rect.unit (s := S4x144x1024) ![3, 0, 0] S1x144x1024.size inb).toLoadRect = A1 (kb 3) (vb 3) (QM (qb 3 0)) (i 2).val := by
  unfold runFirst.sl.H9_4
  refine (rc_hit _ _ _ _ _).trans ?_
  rw [runFirst_v_eq h4 h5 h6, runFirst_v373_eq h4 h5 h6, o107_eq h6, runFirst_v388_eq h4 h5 h6]
  rfl

theorem runFirst_v88_eq (h4 : Qb arg4 f4 qb) : (runFirst.sl.v88 (F := F) arg4 arg12 f4) = sub (R := 128) 256 (by decide) (QM (qb 0 0)) := by
  exact (rc_sub _ _ (by decide) _ inb_q0).trans (congrArg (sub (R := 128) 256 (by decide)) (runFirst_q4_0 h4 inb_q0))

theorem runFirst_v94_eq (h4 : Qb arg4 f4 qb) : (runFirst.sl.v94 (F := F) arg4 arg12 f4) = sub (R := 128) 768 (by decide) (QM (qb 0 0)) := by
  exact (rc_sub _ _ (by decide) _ inb_q0).trans (congrArg (sub (R := 128) 768 (by decide)) (runFirst_q4_0 h4 inb_q0))

theorem runFirst_v107_eq (h4 : Qb arg4 f4 qb) : (runFirst.sl.v107 (F := F) arg4 arg12 f4) = sub (R := 128) 256 (by decide) (QM (qb 1 0)) := by
  exact (rc_sub _ _ (by decide) _ inb_q1).trans (congrArg (sub (R := 128) 256 (by decide)) (runFirst_q4_1 h4 inb_q1))

theorem runFirst_v113_eq (h4 : Qb arg4 f4 qb) : (runFirst.sl.v113 (F := F) arg4 arg12 f4) = sub (R := 128) 768 (by decide) (QM (qb 1 0)) := by
  exact (rc_sub _ _ (by decide) _ inb_q1).trans (congrArg (sub (R := 128) 768 (by decide)) (runFirst_q4_1 h4 inb_q1))

theorem runFirst_v126_eq (h4 : Qb arg4 f4 qb) : (runFirst.sl.v126 (F := F) arg4 arg12 f4) = sub (R := 128) 256 (by decide) (QM (qb 2 0)) := by
  exact (rc_sub _ _ (by decide) _ inb_q2).trans (congrArg (sub (R := 128) 256 (by decide)) (runFirst_q4_2 h4 inb_q2))

theorem runFirst_v132_eq (h4 : Qb arg4 f4 qb) : (runFirst.sl.v132 (F := F) arg4 arg12 f4) = sub (R := 128) 768 (by decide) (QM (qb 2 0)) := by
  exact (rc_sub _ _ (by decide) _ inb_q2).trans (congrArg (sub (R := 128) 768 (by decide)) (runFirst_q4_2 h4 inb_q2))

theorem runFirst_v145_eq (h4 : Qb arg4 f4 qb) : (runFirst.sl.v145 (F := F) arg4 arg12 f4) = sub (R := 128) 256 (by decide) (QM (qb 3 0)) := by
  exact (rc_sub _ _ (by decide) _ inb_q3).trans (congrArg (sub (R := 128) 256 (by decide)) (runFirst_q4_3 h4 inb_q3))

theorem runFirst_v151_eq (h4 : Qb arg4 f4 qb) : (runFirst.sl.v151 (F := F) arg4 arg12 f4) = sub (R := 128) 768 (by decide) (QM (qb 3 0)) := by
  exact (rc_sub _ _ (by decide) _ inb_q3).trans (congrArg (sub (R := 128) 768 (by decide)) (runFirst_q4_3 h4 inb_q3))

theorem runFirst_v430_eq (h4 : Qb arg4 f4 qb) (h5 : Keys arg5 f5 kb) (h6 : Vals arg6 f6 vb) : (runFirst.sl.v430 (F := F) c i arg3 harg3 arg4 harg4 arg5 harg5 arg6 harg6 arg7 harg7 arg8 harg8 arg9 harg9 arg10 harg10 arg11 harg11 arg12 harg12 f4 f5 f6 f11) = UL (kb 0 (2 * (i 2).val + 1)) (sub (R := 128) 256 (by decide) (QM (qb 0 0))) := by
  unfold runFirst.sl.v430 runFirst.sl.H11_8
  iterate 6 refine (rc_miss _ _ _ _ _ rfl rfl (by decide)).trans ?_
  refine (rc_missc _ _ _ _ _ (by decide)).trans ?_
  refine (rc_hit _ _ _ _ _).trans ?_
  rw [o97_eq h5, runFirst_v88_eq h4]
  rfl

theorem runFirst_v463_eq (h4 : Qb arg4 f4 qb) (h5 : Keys arg5 f5 kb) (h6 : Vals arg6 f6 vb) : (runFirst.sl.v463 (F := F) c i arg3 harg3 arg4 harg4 arg5 harg5 arg6 harg6 arg7 harg7 arg8 harg8 arg9 harg9 arg10 harg10 arg11 harg11 arg12 harg12 f4 f5 f6 f11) = UL (kb 0 (2 * (i 2).val + 1)) (sub (R := 128) 768 (by decide) (QM (qb 0 0))) := by
  unfold runFirst.sl.v463 runFirst.sl.H11_8
  iterate 6 refine (rc_miss _ _ _ _ _ rfl rfl (by decide)).trans ?_
  refine (rc_hit _ _ _ _ _).trans ?_
  unfold runFirst.sl.r_3
  rw [o97_eq h5, runFirst_v94_eq h4]
  rfl

theorem runFirst_v496_eq (h4 : Qb arg4 f4 qb) (h5 : Keys arg5 f5 kb) (h6 : Vals arg6 f6 vb) : (runFirst.sl.v496 (F := F) c i arg3 harg3 arg4 harg4 arg5 harg5 arg6 harg6 arg7 harg7 arg8 harg8 arg9 harg9 arg10 harg10 arg11 harg11 arg12 harg12 f4 f5 f6 f11) = UL (kb 1 (2 * (i 2).val + 1)) (sub (R := 128) 256 (by decide) (QM (qb 1 0))) := by
  unfold runFirst.sl.v496 runFirst.sl.H11_8
  iterate 4 refine (rc_miss _ _ _ _ _ rfl rfl (by decide)).trans ?_
  refine (rc_missc _ _ _ _ _ (by decide)).trans ?_
  refine (rc_hit _ _ _ _ _).trans ?_
  rw [o98_eq h5, runFirst_v107_eq h4]
  rfl

theorem runFirst_v529_eq (h4 : Qb arg4 f4 qb) (h5 : Keys arg5 f5 kb) (h6 : Vals arg6 f6 vb) : (runFirst.sl.v529 (F := F) c i arg3 harg3 arg4 harg4 arg5 harg5 arg6 harg6 arg7 harg7 arg8 harg8 arg9 harg9 arg10 harg10 arg11 harg11 arg12 harg12 f4 f5 f6 f11) = UL (kb 1 (2 * (i 2).val + 1)) (sub (R := 128) 768 (by decide) (QM (qb 1 0))) := by
  unfold runFirst.sl.v529 runFirst.sl.H11_8
  iterate 4 refine (rc_miss _ _ _ _ _ rfl rfl (by decide)).trans ?_
  refine (rc_hit _ _ _ _ _).trans ?_
  rw [o98_eq h5, runFirst_v113_eq h4]
  rfl

theorem runFirst_v562_eq (h4 : Qb arg4 f4 qb) (h5 : Keys arg5 f5 kb) (h6 : Vals arg6 f6 vb) : (runFirst.sl.v562 (F := F) c i arg3 harg3 arg4 harg4 arg5 harg5 arg6 harg6 arg7 harg7 arg8 harg8 arg9 harg9 arg10 harg10 arg11 harg11 arg12 harg12 f4 f5 f6 f11) = UL (kb 2 (2 * (i 2).val + 1)) (sub (R := 128) 256 (by decide) (QM (qb 2 0))) := by
  unfold runFirst.sl.v562 runFirst.sl.H11_8
  iterate 2 refine (rc_miss _ _ _ _ _ rfl rfl (by decide)).trans ?_
  refine (rc_missc _ _ _ _ _ (by decide)).trans ?_
  refine (rc_hit _ _ _ _ _).trans ?_
  unfold runFirst.sl.r_4
  rw [o99_eq h5, runFirst_v126_eq h4]
  rfl

theorem runFirst_v595_eq (h4 : Qb arg4 f4 qb) (h5 : Keys arg5 f5 kb) (h6 : Vals arg6 f6 vb) : (runFirst.sl.v595 (F := F) c i arg3 harg3 arg4 harg4 arg5 harg5 arg6 harg6 arg7 harg7 arg8 harg8 arg9 harg9 arg10 harg10 arg11 harg11 arg12 harg12 f4 f5 f6 f11) = UL (kb 2 (2 * (i 2).val + 1)) (sub (R := 128) 768 (by decide) (QM (qb 2 0))) := by
  unfold runFirst.sl.v595 runFirst.sl.H11_8
  iterate 2 refine (rc_miss _ _ _ _ _ rfl rfl (by decide)).trans ?_
  refine (rc_hit _ _ _ _ _).trans ?_
  unfold runFirst.sl.r_4
  rw [o99_eq h5, runFirst_v132_eq h4]
  rfl

theorem runFirst_v628_eq (h4 : Qb arg4 f4 qb) (h5 : Keys arg5 f5 kb) (h6 : Vals arg6 f6 vb) : (runFirst.sl.v628 (F := F) c i arg3 harg3 arg4 harg4 arg5 harg5 arg6 harg6 arg7 harg7 arg8 harg8 arg9 harg9 arg10 harg10 arg11 harg11 arg12 harg12 f4 f5 f6 f11) = UL (kb 3 (2 * (i 2).val + 1)) (sub (R := 128) 256 (by decide) (QM (qb 3 0))) := by
  unfold runFirst.sl.v628 runFirst.sl.H11_8
  refine (rc_missc _ _ _ _ _ (by decide)).trans ?_
  refine (rc_hit _ _ _ _ _).trans ?_
  rw [o100_eq h5, runFirst_v145_eq h4]
  rfl

theorem runFirst_v661_eq (h4 : Qb arg4 f4 qb) (h5 : Keys arg5 f5 kb) (h6 : Vals arg6 f6 vb) : (runFirst.sl.v661 (F := F) c i arg3 harg3 arg4 harg4 arg5 harg5 arg6 harg6 arg7 harg7 arg8 harg8 arg9 harg9 arg10 harg10 arg11 harg11 arg12 harg12 f4 f5 f6 f11) = UL (kb 3 (2 * (i 2).val + 1)) (sub (R := 128) 768 (by decide) (QM (qb 3 0))) := by
  unfold runFirst.sl.v661 runFirst.sl.H11_8
  refine (rc_hit _ _ _ _ _).trans ?_
  unfold runFirst.sl.r_5
  rw [o100_eq h5, runFirst_v151_eq h4]
  rfl

theorem runFirst_v434_eq (h4 : Qb arg4 f4 qb) (h5 : Keys arg5 f5 kb) (h6 : Vals arg6 f6 vb) : (runFirst.sl.v434 (F := F) c i arg3 harg3 arg4 harg4 arg5 harg5 arg6 harg6 arg7 harg7 arg8 harg8 arg9 harg9 arg10 harg10 arg11 harg11 arg12 harg12 f4 f5 f6 f11) = sub (R := 1) 256 (by decide) (M1 (kb 0) (QM (qb 0 0)) (i 2).val) := by
  unfold runFirst.sl.v434
  exact (rc_sub _ _ (by decide) _ inb_8_0).trans (congrArg (sub (R := 1) 256 (by decide)) (runFirst_t8_0 h4 h5 h6 inb_8_0))

theorem runFirst_v467_eq (h4 : Qb arg4 f4 qb) (h5 : Keys arg5 f5 kb) (h6 : Vals arg6 f6 vb) : (runFirst.sl.v467 (F := F) c i arg3 harg3 arg4 harg4 arg5 harg5 arg6 harg6 arg7 harg7 arg8 harg8 arg9 harg9 arg10 harg10 arg11 harg11 arg12 harg12 f4 f5 f6 f11) = sub (R := 1) 768 (by decide) (M1 (kb 0) (QM (qb 0 0)) (i 2).val) := by
  unfold runFirst.sl.v467 runFirst.sl.H8_5
  refine (rc_missc _ _ _ _ _ (by decide)).trans ?_
  exact (rc_sub _ _ (by decide) _ inb_8_0).trans (congrArg (sub (R := 1) 768 (by decide)) (runFirst_t8_0 h4 h5 h6 inb_8_0))

theorem runFirst_v500_eq (h4 : Qb arg4 f4 qb) (h5 : Keys arg5 f5 kb) (h6 : Vals arg6 f6 vb) : (runFirst.sl.v500 (F := F) c i arg3 harg3 arg4 harg4 arg5 harg5 arg6 harg6 arg7 harg7 arg8 harg8 arg9 harg9 arg10 harg10 arg11 harg11 arg12 harg12 f4 f5 f6 f11) = sub (R := 1) 256 (by decide) (M1 (kb 1) (QM (qb 1 0)) (i 2).val) := by
  unfold runFirst.sl.v500 runFirst.sl.H8_6 runFirst.sl.H8_5
  iterate 2 refine (rc_miss _ _ _ _ _ rfl rfl (by decide)).trans ?_
  exact (rc_sub _ _ (by decide) _ inb_8_1).trans (congrArg (sub (R := 1) 256 (by decide)) (runFirst_t8_1 h4 h5 h6 inb_8_1))

theorem runFirst_v533_eq (h4 : Qb arg4 f4 qb) (h5 : Keys arg5 f5 kb) (h6 : Vals arg6 f6 vb) : (runFirst.sl.v533 (F := F) c i arg3 harg3 arg4 harg4 arg5 harg5 arg6 harg6 arg7 harg7 arg8 harg8 arg9 harg9 arg10 harg10 arg11 harg11 arg12 harg12 f4 f5 f6 f11) = sub (R := 1) 768 (by decide) (M1 (kb 1) (QM (qb 1 0)) (i 2).val) := by
  unfold runFirst.sl.v533 runFirst.sl.H8_7 runFirst.sl.H8_6 runFirst.sl.H8_5
  refine (rc_missc _ _ _ _ _ (by decide)).trans ?_
  iterate 2 refine (rc_miss _ _ _ _ _ rfl rfl (by decide)).trans ?_
  exact (rc_sub _ _ (by decide) _ inb_8_1).trans (congrArg (sub (R := 1) 768 (by decide)) (runFirst_t8_1 h4 h5 h6 inb_8_1))

theorem runFirst_v566_eq (h4 : Qb arg4 f4 qb) (h5 : Keys arg5 f5 kb) (h6 : Vals arg6 f6 vb) : (runFirst.sl.v566 (F := F) c i arg3 harg3 arg4 harg4 arg5 harg5 arg6 harg6 arg7 harg7 arg8 harg8 arg9 harg9 arg10 harg10 arg11 harg11 arg12 harg12 f4 f5 f6 f11) = sub (R := 1) 256 (by decide) (M1 (kb 2) (QM (qb 2 0)) (i 2).val) := by
  unfold runFirst.sl.v566 runFirst.sl.H8_8 runFirst.sl.H8_7 runFirst.sl.H8_6 runFirst.sl.H8_5
  iterate 4 refine (rc_miss _ _ _ _ _ rfl rfl (by decide)).trans ?_
  exact (rc_sub _ _ (by decide) _ inb_8_2).trans (congrArg (sub (R := 1) 256 (by decide)) (runFirst_t8_2 h4 h5 h6 inb_8_2))

theorem runFirst_v599_eq (h4 : Qb arg4 f4 qb) (h5 : Keys arg5 f5 kb) (h6 : Vals arg6 f6 vb) : (runFirst.sl.v599 (F := F) c i arg3 harg3 arg4 harg4 arg5 harg5 arg6 harg6 arg7 harg7 arg8 harg8 arg9 harg9 arg10 harg10 arg11 harg11 arg12 harg12 f4 f5 f6 f11) = sub (R := 1) 768 (by decide) (M1 (kb 2) (QM (qb 2 0)) (i 2).val) := by
  unfold runFirst.sl.v599 runFirst.sl.H8_9 runFirst.sl.H8_8 runFirst.sl.H8_7 runFirst.sl.H8_6 runFirst.sl.H8_5
  refine (rc_missc _ _ _ _ _ (by decide)).trans ?_
  iterate 4 refine (rc_miss _ _ _ _ _ rfl rfl (by decide)).trans ?_
  exact (rc_sub _ _ (by decide) _ inb_8_2).trans (congrArg (sub (R := 1) 768 (by decide)) (runFirst_t8_2 h4 h5 h6 inb_8_2))

theorem runFirst_v632_eq (h4 : Qb arg4 f4 qb) (h5 : Keys arg5 f5 kb) (h6 : Vals arg6 f6 vb) : (runFirst.sl.v632 (F := F) c i arg3 harg3 arg4 harg4 arg5 harg5 arg6 harg6 arg7 harg7 arg8 harg8 arg9 harg9 arg10 harg10 arg11 harg11 arg12 harg12 f4 f5 f6 f11) = sub (R := 1) 256 (by decide) (M1 (kb 3) (QM (qb 3 0)) (i 2).val) := by
  unfold runFirst.sl.v632 runFirst.sl.H8_10 runFirst.sl.H8_9 runFirst.sl.H8_8 runFirst.sl.H8_7 runFirst.sl.H8_6 runFirst.sl.H8_5
  iterate 6 refine (rc_miss _ _ _ _ _ rfl rfl (by decide)).trans ?_
  exact (rc_sub _ _ (by decide) _ inb_8_3).trans (congrArg (sub (R := 1) 256 (by decide)) (runFirst_t8_3 h4 h5 h6 inb_8_3))

theorem runFirst_v665_eq (h4 : Qb arg4 f4 qb) (h5 : Keys arg5 f5 kb) (h6 : Vals arg6 f6 vb) : (runFirst.sl.v665 (F := F) c i arg3 harg3 arg4 harg4 arg5 harg5 arg6 harg6 arg7 harg7 arg8 harg8 arg9 harg9 arg10 harg10 arg11 harg11 arg12 harg12 f4 f5 f6 f11) = sub (R := 1) 768 (by decide) (M1 (kb 3) (QM (qb 3 0)) (i 2).val) := by
  unfold runFirst.sl.v665 runFirst.sl.H8_11 runFirst.sl.H8_10 runFirst.sl.H8_9 runFirst.sl.H8_8 runFirst.sl.H8_7 runFirst.sl.H8_6 runFirst.sl.H8_5
  refine (rc_missc _ _ _ _ _ (by decide)).trans ?_
  iterate 6 refine (rc_miss _ _ _ _ _ rfl rfl (by decide)).trans ?_
  exact (rc_sub _ _ (by decide) _ inb_8_3).trans (congrArg (sub (R := 1) 768 (by decide)) (runFirst_t8_3 h4 h5 h6 inb_8_3))

theorem runFirst_v449_eq (h4 : Qb arg4 f4 qb) (h5 : Keys arg5 f5 kb) (h6 : Vals arg6 f6 vb) : (runFirst.sl.v449 (F := F) c i arg3 harg3 arg4 harg4 arg5 harg5 arg6 harg6 arg7 harg7 arg8 harg8 arg9 harg9 arg10 harg10 arg11 harg11 arg12 harg12 f4 f5 f6 f11) = sub (R := 144) 256 (by decide) (A1 (kb 0) (vb 0) (QM (qb 0 0)) (i 2).val) := by
  unfold runFirst.sl.v449
  exact (rc_sub _ _ (by decide) _ inb_9_0).trans (congrArg (sub (R := 144) 256 (by decide)) (runFirst_t9_0 h4 h5 h6 inb_9_0))

theorem runFirst_v482_eq (h4 : Qb arg4 f4 qb) (h5 : Keys arg5 f5 kb) (h6 : Vals arg6 f6 vb) : (runFirst.sl.v482 (F := F) c i arg3 harg3 arg4 harg4 arg5 harg5 arg6 harg6 arg7 harg7 arg8 harg8 arg9 harg9 arg10 harg10 arg11 harg11 arg12 harg12 f4 f5 f6 f11) = sub (R := 144) 768 (by decide) (A1 (kb 0) (vb 0) (QM (qb 0 0)) (i 2).val) := by
  unfold runFirst.sl.v482 runFirst.sl.H9_5
  refine (rc_missc _ _ _ _ _ (by decide)).trans ?_
  exact (rc_sub _ _ (by decide) _ inb_9_0).trans (congrArg (sub (R := 144) 768 (by decide)) (runFirst_t9_0 h4 h5 h6 inb_9_0))

theorem runFirst_v515_eq (h4 : Qb arg4 f4 qb) (h5 : Keys arg5 f5 kb) (h6 : Vals arg6 f6 vb) : (runFirst.sl.v515 (F := F) c i arg3 harg3 arg4 harg4 arg5 harg5 arg6 harg6 arg7 harg7 arg8 harg8 arg9 harg9 arg10 harg10 arg11 harg11 arg12 harg12 f4 f5 f6 f11) = sub (R := 144) 256 (by decide) (A1 (kb 1) (vb 1) (QM (qb 1 0)) (i 2).val) := by
  unfold runFirst.sl.v515 runFirst.sl.H9_6 runFirst.sl.H9_5
  iterate 2 refine (rc_miss _ _ _ _ _ rfl rfl (by decide)).trans ?_
  exact (rc_sub _ _ (by decide) _ inb_9_1).trans (congrArg (sub (R := 144) 256 (by decide)) (runFirst_t9_1 h4 h5 h6 inb_9_1))

theorem runFirst_v548_eq (h4 : Qb arg4 f4 qb) (h5 : Keys arg5 f5 kb) (h6 : Vals arg6 f6 vb) : (runFirst.sl.v548 (F := F) c i arg3 harg3 arg4 harg4 arg5 harg5 arg6 harg6 arg7 harg7 arg8 harg8 arg9 harg9 arg10 harg10 arg11 harg11 arg12 harg12 f4 f5 f6 f11) = sub (R := 144) 768 (by decide) (A1 (kb 1) (vb 1) (QM (qb 1 0)) (i 2).val) := by
  unfold runFirst.sl.v548 runFirst.sl.H9_7 runFirst.sl.H9_6 runFirst.sl.H9_5
  refine (rc_missc _ _ _ _ _ (by decide)).trans ?_
  iterate 2 refine (rc_miss _ _ _ _ _ rfl rfl (by decide)).trans ?_
  exact (rc_sub _ _ (by decide) _ inb_9_1).trans (congrArg (sub (R := 144) 768 (by decide)) (runFirst_t9_1 h4 h5 h6 inb_9_1))

theorem runFirst_v581_eq (h4 : Qb arg4 f4 qb) (h5 : Keys arg5 f5 kb) (h6 : Vals arg6 f6 vb) : (runFirst.sl.v581 (F := F) c i arg3 harg3 arg4 harg4 arg5 harg5 arg6 harg6 arg7 harg7 arg8 harg8 arg9 harg9 arg10 harg10 arg11 harg11 arg12 harg12 f4 f5 f6 f11) = sub (R := 144) 256 (by decide) (A1 (kb 2) (vb 2) (QM (qb 2 0)) (i 2).val) := by
  unfold runFirst.sl.v581 runFirst.sl.H9_8 runFirst.sl.H9_7 runFirst.sl.H9_6 runFirst.sl.H9_5
  iterate 4 refine (rc_miss _ _ _ _ _ rfl rfl (by decide)).trans ?_
  exact (rc_sub _ _ (by decide) _ inb_9_2).trans (congrArg (sub (R := 144) 256 (by decide)) (runFirst_t9_2 h4 h5 h6 inb_9_2))

theorem runFirst_v614_eq (h4 : Qb arg4 f4 qb) (h5 : Keys arg5 f5 kb) (h6 : Vals arg6 f6 vb) : (runFirst.sl.v614 (F := F) c i arg3 harg3 arg4 harg4 arg5 harg5 arg6 harg6 arg7 harg7 arg8 harg8 arg9 harg9 arg10 harg10 arg11 harg11 arg12 harg12 f4 f5 f6 f11) = sub (R := 144) 768 (by decide) (A1 (kb 2) (vb 2) (QM (qb 2 0)) (i 2).val) := by
  unfold runFirst.sl.v614 runFirst.sl.H9_9 runFirst.sl.H9_8 runFirst.sl.H9_7 runFirst.sl.H9_6 runFirst.sl.H9_5
  refine (rc_missc _ _ _ _ _ (by decide)).trans ?_
  iterate 4 refine (rc_miss _ _ _ _ _ rfl rfl (by decide)).trans ?_
  exact (rc_sub _ _ (by decide) _ inb_9_2).trans (congrArg (sub (R := 144) 768 (by decide)) (runFirst_t9_2 h4 h5 h6 inb_9_2))

theorem runFirst_v647_eq (h4 : Qb arg4 f4 qb) (h5 : Keys arg5 f5 kb) (h6 : Vals arg6 f6 vb) : (runFirst.sl.v647 (F := F) c i arg3 harg3 arg4 harg4 arg5 harg5 arg6 harg6 arg7 harg7 arg8 harg8 arg9 harg9 arg10 harg10 arg11 harg11 arg12 harg12 f4 f5 f6 f11) = sub (R := 144) 256 (by decide) (A1 (kb 3) (vb 3) (QM (qb 3 0)) (i 2).val) := by
  unfold runFirst.sl.v647 runFirst.sl.H9_10 runFirst.sl.H9_9 runFirst.sl.H9_8 runFirst.sl.H9_7 runFirst.sl.H9_6 runFirst.sl.H9_5
  iterate 6 refine (rc_miss _ _ _ _ _ rfl rfl (by decide)).trans ?_
  exact (rc_sub _ _ (by decide) _ inb_9_3).trans (congrArg (sub (R := 144) 256 (by decide)) (runFirst_t9_3 h4 h5 h6 inb_9_3))

theorem runFirst_v680_eq (h4 : Qb arg4 f4 qb) (h5 : Keys arg5 f5 kb) (h6 : Vals arg6 f6 vb) : (runFirst.sl.v680 (F := F) c i arg3 harg3 arg4 harg4 arg5 harg5 arg6 harg6 arg7 harg7 arg8 harg8 arg9 harg9 arg10 harg10 arg11 harg11 arg12 harg12 f4 f5 f6 f11) = sub (R := 144) 768 (by decide) (A1 (kb 3) (vb 3) (QM (qb 3 0)) (i 2).val) := by
  unfold runFirst.sl.v680 runFirst.sl.H9_11 runFirst.sl.H9_10 runFirst.sl.H9_9 runFirst.sl.H9_8 runFirst.sl.H9_7 runFirst.sl.H9_6 runFirst.sl.H9_5
  refine (rc_missc _ _ _ _ _ (by decide)).trans ?_
  iterate 6 refine (rc_miss _ _ _ _ _ rfl rfl (by decide)).trans ?_
  exact (rc_sub _ _ (by decide) _ inb_9_3).trans (congrArg (sub (R := 144) 768 (by decide)) (runFirst_t9_3 h4 h5 h6 inb_9_3))

theorem runFirst_fin0 (h4 : Qb arg4 f4 qb) (h5 : Keys arg5 f5 kb) (h6 : Vals arg6 f6 vb) : (runFirst.sl.v692 (F := F) c i arg3 harg3 arg4 harg4 arg5 harg5 arg6 harg6 arg7 harg7 arg8 harg8 arg9 harg9 arg10 harg10 arg11 harg11 arg12 harg12 f4 f5 f6 f11) = AE (kb 0) (vb 0) (QM (qb 0 0)) (i 2).val := by
  unfold runFirst.sl.v692 runFirst.sl.H9_12 runFirst.sl.H9_11 runFirst.sl.H9_10 runFirst.sl.H9_9 runFirst.sl.H9_8 runFirst.sl.H9_7 runFirst.sl.H9_6 runFirst.sl.H9_5
  iterate 6 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runFirst.sl.r_12 runFirst.sl.cst_320
    rw [runFirst_v463_eq h4 h5 h6, runFirst_v467_eq h4 h5 h6, o109_eq h6, runFirst_v482_eq h4 h5 h6]
    rfl
  · rw [runFirst_v430_eq h4 h5 h6, runFirst_v434_eq h4 h5 h6, o109_eq h6, runFirst_v449_eq h4 h5 h6]
    rfl
  · exact runFirst_t9_0 h4 h5 h6 _

theorem runFirst_fin1 (h4 : Qb arg4 f4 qb) (h5 : Keys arg5 f5 kb) (h6 : Vals arg6 f6 vb) : (runFirst.sl.v720 (F := F) c i arg3 harg3 arg4 harg4 arg5 harg5 arg6 harg6 arg7 harg7 arg8 harg8 arg9 harg9 arg10 harg10 arg11 harg11 arg12 harg12 f4 f5 f6 f11) = AE (kb 1) (vb 1) (QM (qb 1 0)) (i 2).val := by
  unfold runFirst.sl.v720 runFirst.sl.H9_12 runFirst.sl.H9_11 runFirst.sl.H9_10 runFirst.sl.H9_9 runFirst.sl.H9_8 runFirst.sl.H9_7 runFirst.sl.H9_6 runFirst.sl.H9_5
  iterate 4 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runFirst.sl.r_14
    rw [runFirst_v529_eq h4 h5 h6, runFirst_v533_eq h4 h5 h6, o110_eq h6, runFirst_v548_eq h4 h5 h6]
    rfl
  · unfold runFirst.sl.r_13
    rw [runFirst_v496_eq h4 h5 h6, runFirst_v500_eq h4 h5 h6, o110_eq h6, runFirst_v515_eq h4 h5 h6]
    rfl
  · refine (rc_miss _ _ _ _ _ rfl rfl (by decide)).trans ?_
    refine (rc_miss _ _ _ _ _ rfl rfl (by decide)).trans ?_
    exact runFirst_t9_1 h4 h5 h6 _

theorem runFirst_fin2 (h4 : Qb arg4 f4 qb) (h5 : Keys arg5 f5 kb) (h6 : Vals arg6 f6 vb) : (runFirst.sl.v_1 (F := F) c i arg3 harg3 arg4 harg4 arg5 harg5 arg6 harg6 arg7 harg7 arg8 harg8 arg9 harg9 arg10 harg10 arg11 harg11 arg12 harg12 f4 f5 f6 f11) = AE (kb 2) (vb 2) (QM (qb 2 0)) (i 2).val := by
  unfold runFirst.sl.v_1 runFirst.sl.H9_12 runFirst.sl.H9_11 runFirst.sl.H9_10 runFirst.sl.H9_9 runFirst.sl.H9_8 runFirst.sl.H9_7 runFirst.sl.H9_6 runFirst.sl.H9_5
  iterate 2 refine (rc_miss _ _ _ _ _ rfl rfl (by decide)).trans ?_
  refine (rc_over _ _ _ _ _).trans (congrArg₂ (over (R := 144) 768) ?_ ((rc_over _ _ _ _ _).trans (congrArg₂ (over (R := 144) 256) ?_ ?_)))
  · unfold runFirst.sl.r_17 runFirst.sl.r_16
    rw [runFirst_v595_eq h4 h5 h6, runFirst_v599_eq h4 h5 h6, o111_eq h6, runFirst_v614_eq h4 h5 h6]
    rfl
  · unfold runFirst.sl.r_15
    rw [runFirst_v562_eq h4 h5 h6, runFirst_v566_eq h4 h5 h6, o111_eq h6, runFirst_v581_eq h4 h5 h6]
    rfl
  · refine (rc_miss _ _ _ _ _ rfl rfl (by decide)).trans ?_
    iterate 3 refine (rc_miss _ _ _ _ _ rfl rfl (by decide)).trans ?_
    exact runFirst_t9_2 h4 h5 h6 _

theorem runFirst_fin3 (h4 : Qb arg4 f4 qb) (h5 : Keys arg5 f5 kb) (h6 : Vals arg6 f6 vb) : (runFirst.sl.v776 (F := F) c i arg3 harg3 arg4 harg4 arg5 harg5 arg6 harg6 arg7 harg7 arg8 harg8 arg9 harg9 arg10 harg10 arg11 harg11 arg12 harg12 f4 f5 f6 f11) = AE (kb 3) (vb 3) (QM (qb 3 0)) (i 2).val := by
  unfold runFirst.sl.v776 runFirst.sl.H9_12 runFirst.sl.H9_11 runFirst.sl.H9_10 runFirst.sl.H9_9 runFirst.sl.H9_8 runFirst.sl.H9_7 runFirst.sl.H9_6 runFirst.sl.H9_5
  refine (rc_over _ _ _ _ _).trans (congrArg₂ (over (R := 144) 768) ?_ ((rc_over _ _ _ _ _).trans (congrArg₂ (over (R := 144) 256) ?_ ?_)))
  · unfold runFirst.sl.r_23 runFirst.sl.r_22 runFirst.sl.r_21
    rw [runFirst_v661_eq h4 h5 h6, runFirst_v665_eq h4 h5 h6, o112_eq h6, runFirst_v680_eq h4 h5 h6]
    rfl
  · unfold runFirst.sl.r_20 runFirst.sl.r_19 runFirst.sl.r_18
    rw [runFirst_v628_eq h4 h5 h6, runFirst_v632_eq h4 h5 h6, o112_eq h6, runFirst_v647_eq h4 h5 h6]
    rfl
  · refine (rc_miss _ _ _ _ _ rfl rfl (by decide)).trans ?_
    iterate 5 refine (rc_miss _ _ _ _ _ rfl rfl (by decide)).trans ?_
    exact runFirst_t9_3 h4 h5 h6 _

theorem runFirst_n1_0 (h4 : Qb arg4 f4 qb) (inb : ∀ a, (![0, 0, 0] : Fin 3 → ℕ) a + S1x128x1024.size a ≤ S4x128x1024.size a) : arg12.view.readCov (runFirst.sl.H12_5 (F := F) i arg4 f4) (Rect.unit (s := S4x128x1024) ![0, 0, 0] S1x128x1024.size inb).toLoadRect = QM (qb 0 (min ((i 2).val + 1) 15)) := by
  unfold runFirst.sl.H12_5
  refine (rc_hit _ _ _ _ _).trans ?_
  rw [o102_eq h4]
  rfl

theorem runFirst_n2_1 (h4 : Qb arg4 f4 qb) (inb : ∀ a, (![1, 0, 0] : Fin 3 → ℕ) a + S1x128x1024.size a ≤ S4x128x1024.size a) : arg12.view.readCov (runFirst.sl.H12_6 (F := F) i arg4 f4) (Rect.unit (s := S4x128x1024) ![1, 0, 0] S1x128x1024.size inb).toLoadRect = QM (qb 1 (min ((i 2).val + 1) 15)) := by
  unfold runFirst.sl.H12_6
  refine (rc_hit _ _ _ _ _).trans ?_
  rw [o104_eq h4]
  rfl

theorem runFirst_n3_2 (h4 : Qb arg4 f4 qb) (inb : ∀ a, (![2, 0, 0] : Fin 3 → ℕ) a + S1x128x1024.size a ≤ S4x128x1024.size a) : arg12.view.readCov (runFirst.sl.H12_7 (F := F) i arg4 f4) (Rect.unit (s := S4x128x1024) ![2, 0, 0] S1x128x1024.size inb).toLoadRect = QM (qb 2 (min ((i 2).val + 1) 15)) := by
  unfold runFirst.sl.H12_7
  refine (rc_hit _ _ _ _ _).trans ?_
  rw [o106_eq h4]
  rfl

theorem runFirst_n4_0 (h4 : Qb arg4 f4 qb) (inb : ∀ a, (![0, 0, 0] : Fin 3 → ℕ) a + S1x128x1024.size a ≤ S4x128x1024.size a) : arg12.view.readCov (runFirst.sl.H12_8 (F := F) i arg4 f4) (Rect.unit (s := S4x128x1024) ![0, 0, 0] S1x128x1024.size inb).toLoadRect = QM (qb 0 (min ((i 2).val + 1) 15)) := by
  unfold runFirst.sl.H12_8 runFirst.sl.H12_7 runFirst.sl.H12_6 runFirst.sl.H12_5
  iterate 3 refine (rc_miss _ _ _ _ _ rfl rfl (by decide)).trans ?_
  refine (rc_hit _ _ _ _ _).trans ?_
  rw [o102_eq h4]
  rfl

theorem runFirst_n4_1 (h4 : Qb arg4 f4 qb) (inb : ∀ a, (![1, 0, 0] : Fin 3 → ℕ) a + S1x128x1024.size a ≤ S4x128x1024.size a) : arg12.view.readCov (runFirst.sl.H12_8 (F := F) i arg4 f4) (Rect.unit (s := S4x128x1024) ![1, 0, 0] S1x128x1024.size inb).toLoadRect = QM (qb 1 (min ((i 2).val + 1) 15)) := by
  unfold runFirst.sl.H12_8 runFirst.sl.H12_7 runFirst.sl.H12_6
  iterate 2 refine (rc_miss _ _ _ _ _ rfl rfl (by decide)).trans ?_
  refine (rc_hit _ _ _ _ _).trans ?_
  rw [o104_eq h4]
  rfl

theorem runFirst_n4_2 (h4 : Qb arg4 f4 qb) (inb : ∀ a, (![2, 0, 0] : Fin 3 → ℕ) a + S1x128x1024.size a ≤ S4x128x1024.size a) : arg12.view.readCov (runFirst.sl.H12_8 (F := F) i arg4 f4) (Rect.unit (s := S4x128x1024) ![2, 0, 0] S1x128x1024.size inb).toLoadRect = QM (qb 2 (min ((i 2).val + 1) 15)) := by
  unfold runFirst.sl.H12_8 runFirst.sl.H12_7
  refine (rc_miss _ _ _ _ _ rfl rfl (by decide)).trans ?_
  refine (rc_hit _ _ _ _ _).trans ?_
  rw [o106_eq h4]
  rfl

theorem runFirst_n4_3 (h4 : Qb arg4 f4 qb) (inb : ∀ a, (![3, 0, 0] : Fin 3 → ℕ) a + S1x128x1024.size a ≤ S4x128x1024.size a) : arg12.view.readCov (runFirst.sl.H12_8 (F := F) i arg4 f4) (Rect.unit (s := S4x128x1024) ![3, 0, 0] S1x128x1024.size inb).toLoadRect = QM (qb 3 (min ((i 2).val + 1) 15)) := by
  unfold runFirst.sl.H12_8
  refine (rc_hit _ _ _ _ _).trans ?_
  rw [o108_eq h4]
  rfl

theorem runFirst_v221_eq (h4 : Qb arg4 f4 qb) : (runFirst.sl.v221 (F := F) i arg4 arg12 f4) = QM (qb 0 (min ((i 2).val + 1) 15)) := by
  exact runFirst_n1_0 h4 _

theorem runFirst_v288_eq (h4 : Qb arg4 f4 qb) : (runFirst.sl.v288 (F := F) i arg4 arg12 f4) = QM (qb 1 (min ((i 2).val + 1) 15)) := by
  exact runFirst_n2_1 h4 _

theorem runFirst_v355_eq (h4 : Qb arg4 f4 qb) : (runFirst.sl.v355 (F := F) i arg4 arg12 f4) = QM (qb 2 (min ((i 2).val + 1) 15)) := by
  exact runFirst_n3_2 h4 _

theorem runFirst_v422_eq (h4 : Qb arg4 f4 qb) : (runFirst.sl.v422 (F := F) i arg4 arg12 f4) = QM (qb 3 (min ((i 2).val + 1) 15)) := by
  exact runFirst_n4_3 h4 _

theorem runFirst_12 (h4 : Qb arg4 f4 qb) (hc : isFirst i) : Qs arg12 (runFirst (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.1 (fun hh => QM (qb hh (min ((i 2).val + 1) 15))) := by
  unfold runFirst
  dsimp only
  intro hh inb
  have hlt : hh < 4 := by have := inb 0; exact Nat.lt_of_succ_le this
  obtain rfl | rfl | rfl | rfl : hh = 0 ∨ hh = 1 ∨ hh = 2 ∨ hh = 3 := by omega
  · exact runFirst_n4_0 h4 inb
  · exact runFirst_n4_1 h4 inb
  · exact runFirst_n4_2 h4 inb
  · exact runFirst_n4_3 h4 inb

theorem runFirst_10 (h4 : Qb arg4 f4 qb) (h5 : Keys arg5 f5 kb) (hc : isFirst i) : Ss arg10 (runFirst (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.1 (fun hh => SC (kb hh 0) (QM (qb hh (min ((i 2).val + 1) 15)))) := by
  unfold runFirst
  dsimp only
  intro hh inb
  have hlt : hh < 4 := by have := inb 0; exact Nat.lt_of_succ_le this
  obtain rfl | rfl | rfl | rfl : hh = 0 ∨ hh = 1 ∨ hh = 2 ∨ hh = 3 := by omega
  · unfold runFirst.sl.H10_3 runFirst.sl.H10_2 runFirst.sl.H10_1
    iterate 3 refine (ra_miss _ _ _ _ _ _ rfl rfl (by decide)).trans ?_
    refine (ra_hit _ _ _ _ _ _).trans ?_
    unfold runFirst.sl.r_8
    rw [k5_0 h5, runFirst_v221_eq h4]
    rfl
  · unfold runFirst.sl.H10_3 runFirst.sl.H10_2
    iterate 2 refine (ra_miss _ _ _ _ _ _ rfl rfl (by decide)).trans ?_
    refine (ra_hit _ _ _ _ _ _).trans ?_
    rw [k5_1 h5, runFirst_v288_eq h4]
    rfl
  · unfold runFirst.sl.H10_3
    refine (ra_miss _ _ _ _ _ _ rfl rfl (by decide)).trans ?_
    refine (ra_hit _ _ _ _ _ _).trans ?_
    rw [k5_2 h5, runFirst_v355_eq h4]
    rfl
  · refine (ra_hit _ _ _ _ _ _).trans ?_
    rw [k5_3 h5, runFirst_v422_eq h4]
    rfl

end Cert.KernelIdeal.Att

end
-- ==== Proof.AttFirst7.lean ====
/- The output block after the body at the first query block of a batch, head by head. -/
module

public import proofs.«01_k».proof.Proof.AttFirst

@[expose] public section

set_option maxRecDepth 16384

noncomputable section

namespace Cert.KernelIdeal.Att

open Cert.KernelIdeal Cert.KernelIdeal.Gen Idealize.ShloMosaic Idealize.ShloMosaic.View

variable {F : FTy → Type} [FloatOps F]
variable {c : Dev nD} {i : grid0.Coords} {arg3 : Memref sig .tc .smem S1 .f32} {harg3 : arg3.IsWhole} {arg4 : Memref sig .tc .vmem S1x16x512x512 .bf16} {harg4 : arg4.IsWhole} {arg5 : Memref sig .tc .vmem S1x8192x512 .bf16} {harg5 : arg5.IsWhole} {arg6 : Memref sig .tc .vmem S1x32x512x256 .bf16} {harg6 : arg6.IsWhole} {arg7 : Memref sig .tc .vmem S1x512x512 .bf16} {harg7 : arg7.IsWhole} {arg8 : Memref sig .tc .vmem S4x1x1024 .f32} {harg8 : arg8.IsWhole} {arg9 : Memref sig .tc .vmem S4x144x1024 .f32} {harg9 : arg9.IsWhole} {arg10 : Memref sig .tc .vmem S4x256x1024 .f32} {harg10 : arg10.IsWhole} {arg11 : Memref sig .tc .vmem S4x256x1024 .f32} {harg11 : arg11.IsWhole} {arg12 : Memref sig .tc .vmem S4x128x1024 .bf16} {harg12 : arg12.IsWhole}
  {f3 : arg3.view.ty.Contents (Elt F)} {f4 : arg4.view.ty.Contents (Elt F)} {f5 : arg5.view.ty.Contents (Elt F)} {f6 : arg6.view.ty.Contents (Elt F)} {f7 : arg7.view.ty.Contents (Elt F)} {f8 : arg8.view.ty.Contents (Elt F)} {f9 : arg9.view.ty.Contents (Elt F)} {f10 : arg10.view.ty.Contents (Elt F)} {f11 : arg11.view.ty.Contents (Elt F)} {f12 : arg12.view.ty.Contents (Elt F)}
  {kb : ℕ → ℕ → Vec F S1x256x128 .bf16} {vb : ℕ → ℕ → Vec F S1x1x128x256 .bf16} {qb : ℕ → ℕ → Vec F S1x1x128x512 .bf16}

theorem runFirst_7 (h4 : Qb arg4 f4 qb) (h5 : Keys arg5 f5 kb) (h6 : Vals arg6 f6 vb) (hc : isFirst i) : Os arg7 (runFirst (F := F) c i arg3 harg3 arg4 harg4 arg5 harg5 arg6 harg6 arg7 harg7 arg8 harg8 arg9 harg9 arg10 harg10 arg11 harg11 arg12 harg12 f3 f4 f5 f6 f7 f8 f9 f10 f11 f12 hc).1 (fun hh => OH (AE (kb hh) (vb hh) ((fun hh => QM (qb hh 0)) hh) (i 2).val) (lamv arg3 f3)) := by
  unfold runFirst
  dsimp only
  intro hh inb
  have hlt : hh < 4 := by have := inb 1; have h2 : 128 * hh + 128 ≤ 512 := this; omega
  obtain rfl | rfl | rfl | rfl : hh = 0 ∨ hh = 1 ∨ hh = 2 ∨ hh = 3 := by omega
  · refine Eq.trans ?_ (congrArg (fun a => OH a (lamv arg3 f3)) (runFirst_fin0 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f11 := f11) h4 h5 h6))
    iterate 3 refine (ra_missr _ _ _ _ _ _ rfl (by decide)).trans ?_
    refine (ra_hit _ _ _ _ _ _).trans ?_
    unfold runFirst.sl.r_25 runFirst.sl.r_26 runFirst.sl.r_24 runFirst.sl.cst_482
    rfl
  · refine Eq.trans ?_ (congrArg (fun a => OH a (lamv arg3 f3)) (runFirst_fin1 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f11 := f11) h4 h5 h6))
    iterate 2 refine (ra_missr _ _ _ _ _ _ rfl (by decide)).trans ?_
    refine (ra_hit _ _ _ _ _ _).trans ?_
    unfold runFirst.sl.r_24
    rfl
  · refine Eq.trans ?_ (congrArg (fun a => OH a (lamv arg3 f3)) (runFirst_fin2 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f11 := f11) h4 h5 h6))
    refine (ra_missr _ _ _ _ _ _ rfl (by decide)).trans ?_
    refine (ra_hit _ _ _ _ _ _).trans ?_
    unfold runFirst.sl.r_24
    rfl
  · refine Eq.trans ?_ (congrArg (fun a => OH a (lamv arg3 f3)) (runFirst_fin3 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (f4 := f4) (f5 := f5) (f6 := f6) (f11 := f11) h4 h5 h6))
    refine (ra_hit _ _ _ _ _ _).trans ?_
    unfold runFirst.sl.r_27 runFirst.sl.r_28 runFirst.sl.r_24 runFirst.sl.cst_482
    rfl

end Cert.KernelIdeal.Att

end
-- ==== Proof.AttFrame.lean ====
/- The attention call's frame with the output followed: what the scratch holds between grid points (the next query block's masked
   queries and its scores against the first key block), and each grid point's output block in closed form. -/
module

public import proofs.«01_k».proof.Proof.AttNext7
public import proofs.«01_k».proof.Proof.AttFirst7
public import Idealize.ShloMosaic.Lib.Pipeline.Quiescent

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Batch `b`'s queries, keys and values by head and block, and the map's weight. -/
def QB (c : Dev nD) (b hh n : ℕ) : Vec F S1x1x128x512 .bf16 := fun j =>
  m ((c : Thread nD τ).loc main_arg1) (ix4 (⟨b % 8, Nat.mod_lt _ (by decide)⟩ : Fin 8) (⟨n % 16, Nat.mod_lt _ (by decide)⟩ : Fin 16)
    (⟨(128 * hh + (j 2).val) % 512, Nat.mod_lt _ (by decide)⟩ : Fin 512) (j 3 : Fin 512))
def KB (c : Dev nD) (b hh n : ℕ) : Vec F S1x256x128 .bf16 := fun j =>
  m ((c : Thread nD τ).loc main_arg2) (ix3 (⟨b % 8, Nat.mod_lt _ (by decide)⟩ : Fin 8)
    (⟨(256 * n + (j 1).val) % 8192, Nat.mod_lt _ (by decide)⟩ : Fin 8192) (⟨(128 * hh + (j 2).val) % 512, Nat.mod_lt _ (by decide)⟩ : Fin 512))
def VB (c : Dev nD) (b hh n : ℕ) : Vec F S1x1x128x256 .bf16 := fun j =>
  m ((c : Thread nD τ).loc main_arg3) (ix4 (⟨b % 8, Nat.mod_lt _ (by decide)⟩ : Fin 8) (⟨n % 32, Nat.mod_lt _ (by decide)⟩ : Fin 32)
    (⟨(128 * hh + (j 2).val) % 512, Nat.mod_lt _ (by decide)⟩ : Fin 512) (j 3 : Fin 256))
def LM (c : Dev nD) : F .f32 := m ((c : Thread nD τ).loc main_arg0) (ix1 (0 : Fin 1))

/-- Head `hh` of batch `b`'s output at query block `i`. -/
def OUT (c : Dev nD) (b i hh : ℕ) : Vec F S1x128x512 .bf16 :=
  OH (AE (KB m c b hh) (VB m c b hh) (QM (QB m c b hh i)) i) (LM m c)
/-- The output block of batch `b` at query block `i`. -/
def OB (c : Dev nD) (b i : ℕ) : Vec F S1x512x512 .bf16 := fun j =>
  OUT m c b i ((j 1).val / 128) (ix3 (0 : Fin 1) (⟨(j 1).val % 128, Nat.mod_lt _ (by decide)⟩ : Fin 128) (j 2 : Fin 512))

/-! ## The windows' blocks -/

/-- The windows' block indices at a point. -/
theorem idx (t : Fin cfg0.N) :
    (win0_0.index t 0 = 0)
    ∧ (win0_1.index t 0 = t.val / 16 ∧ win0_1.index t 1 = 0 ∧ win0_1.index t 2 = 0 ∧ win0_1.index t 3 = 0)
    ∧ (win0_2.index t 0 = t.val / 16 ∧ win0_2.index t 1 = 0 ∧ win0_2.index t 2 = 0)
    ∧ (win0_3.index t 0 = t.val / 16 ∧ win0_3.index t 1 = 0 ∧ win0_3.index t 2 = 0 ∧ win0_3.index t 3 = 0)
    ∧ (win0_4.index t 0 = t.val / 16 ∧ win0_4.index t 1 = 0 ∧ win0_4.index t 2 = t.val % 16)
    ∧ (grid0.coords t 2).val = t.val % 16 :=
  (by decide +kernel : ∀ t : Fin grid0.N,
    (win0_0.index t 0 = 0)
    ∧ (win0_1.index t 0 = t.val / 16 ∧ win0_1.index t 1 = 0 ∧ win0_1.index t 2 = 0 ∧ win0_1.index t 3 = 0)
    ∧ (win0_2.index t 0 = t.val / 16 ∧ win0_2.index t 1 = 0 ∧ win0_2.index t 2 = 0)
    ∧ (win0_3.index t 0 = t.val / 16 ∧ win0_3.index t 1 = 0 ∧ win0_3.index t 2 = 0 ∧ win0_3.index t 3 = 0)
    ∧ (win0_4.index t 0 = t.val / 16 ∧ win0_4.index t 1 = 0 ∧ win0_4.index t 2 = t.val % 16)
    ∧ (grid0.coords t 2).val = t.val % 16) t

theorem isFirst_iff (i : grid0.Coords) : isFirst i ↔ (i 2).val = 0 := by
  have h : (i 2).val < 16 := (i 2).isLt
  generalize hx : (i 2).val = x at h ⊢
  unfold isFirst
  rw [hx]
  exact (by decide : ∀ x : Fin 16, Scalar.cmpi .ne (Scalar.extui (Scalar.cmpi .eq (BitVec.ofNat 32 x.val) 0#32) : BitVec 32) 0#32 = 1#1 ↔ x.val = 0) ⟨x, h⟩

theorem keys_of (c : Dev nD) (t : Fin cfg0.N) {arg5 : Memref sig .tc .vmem S1x8192x512 .bf16} {X : arg5.view.ty.Contents (Elt F)}
    (h : arg5.view.read (Elt F) X = iblk m c 2 t) : Keys arg5 X (KB m c (t.val / 16)) := by
  intro hh n off0 off1 e0 e1 inb
  subst e0 e1
  have hi := idx t
  have ht : t.val < 128 := t.isLt
  have i1 : 256 * n + 256 ≤ 8192 := inb 1
  have i2 : 128 * hh + 128 ≤ 512 := inb 2
  funext j
  have j0 : (j 0).val < 1 := (j 0).isLt
  have j1 : (j 1).val < 256 := (j 1).isLt
  have j2 : (j 2).val < 128 := (j 2).isLt
  refine (congrFun h _).trans ?_
  refine congrArg (m ((c : Thread nD τ).loc main_arg2)) (funext fun a => Fin.ext ?_)
  match a with
  | ⟨0, _⟩ => show win0_2.index t 0 * 1 + 1 * (0 + 1 * (j 0).val) = t.val / 16 % 8; omega
  | ⟨1, _⟩ => show win0_2.index t 1 * 8192 + 1 * (256 * n + 1 * (j 1).val) = (256 * n + (j 1).val) % 8192; omega
  | ⟨2, _⟩ => show win0_2.index t 2 * 512 + 1 * (128 * hh + 1 * (j 2).val) = (128 * hh + (j 2).val) % 512; omega

theorem vals_of (c : Dev nD) (t : Fin cfg0.N) {arg6 : Memref sig .tc .vmem S1x32x512x256 .bf16} {X : arg6.view.ty.Contents (Elt F)}
    (h : arg6.view.read (Elt F) X = iblk m c 3 t) : Vals arg6 X (VB m c (t.val / 16)) := by
  intro hh n off0 off1 e0 e1 inb
  subst e0 e1
  have hi := idx t
  have ht : t.val < 128 := t.isLt
  have i1 : off0 + 1 ≤ 32 := inb 1
  have i2 : 128 * hh + 128 ≤ 512 := inb 2
  funext j
  have j0 : (j 0).val < 1 := (j 0).isLt
  have j1 : (j 1).val < 1 := (j 1).isLt
  have j2 : (j 2).val < 128 := (j 2).isLt
  have j3 : (j 3).val < 256 := (j 3).isLt
  refine (congrFun h _).trans ?_
  refine congrArg (m ((c : Thread nD τ).loc main_arg3)) (funext fun a => Fin.ext ?_)
  match a with
  | ⟨0, _⟩ => show win0_3.index t 0 * 1 + 1 * (0 + 1 * (j 0).val) = t.val / 16 % 8; omega
  | ⟨1, _⟩ => show win0_3.index t 1 * 32 + 1 * (off0 + 1 * (j 1).val) = off0 % 32; omega
  | ⟨2, _⟩ => show win0_3.index t 2 * 512 + 1 * (128 * hh + 1 * (j 2).val) = (128 * hh + (j 2).val) % 512; omega
  | ⟨3, _⟩ => show win0_3.index t 3 * 256 + 1 * (0 + 1 * (j 3).val) = (j 3).val; omega

theorem qb_of (c : Dev nD) (t : Fin cfg0.N) {arg4 : Memref sig .tc .vmem S1x16x512x512 .bf16} {X : arg4.view.ty.Contents (Elt F)}
    (h : arg4.view.read (Elt F) X = iblk m c 1 t) : Qb arg4 X (QB m c (t.val / 16)) := by
  intro hh n off0 off1 e0 e1 inb
  subst e0 e1
  have hi := idx t
  have ht : t.val < 128 := t.isLt
  have i1 : off0 + 1 ≤ 16 := inb 1
  have i2 : 128 * hh + 128 ≤ 512 := inb 2
  funext j
  have j0 : (j 0).val < 1 := (j 0).isLt
  have j1 : (j 1).val < 1 := (j 1).isLt
  have j2 : (j 2).val < 128 := (j 2).isLt
  have j3 : (j 3).val < 512 := (j 3).isLt
  refine (congrFun h _).trans ?_
  refine congrArg (m ((c : Thread nD τ).loc main_arg1)) (funext fun a => Fin.ext ?_)
  match a with
  | ⟨0, _⟩ => show win0_1.index t 0 * 1 + 1 * (0 + 1 * (j 0).val) = t.val / 16 % 8; omega
  | ⟨1, _⟩ => show win0_1.index t 1 * 16 + 1 * (off0 + 1 * (j 1).val) = off0 % 16; omega
  | ⟨2, _⟩ => show win0_1.index t 2 * 512 + 1 * (128 * hh + 1 * (j 2).val) = (128 * hh + (j 2).val) % 512; omega
  | ⟨3, _⟩ => show win0_1.index t 3 * 512 + 1 * (0 + 1 * (j 3).val) = (j 3).val; omega

theorem lam_of (c : Dev nD) (t : Fin cfg0.N) {arg3 : Memref sig .tc .smem S1 .f32} {X : arg3.view.ty.Contents (Elt F)}
    (h : arg3.view.read (Elt F) X = iblk m c 0 t) : lamv arg3 X = LM m c := by
  have hi := idx t
  refine (congrFun h _).trans ?_
  refine congrArg (m ((c : Thread nD τ).loc main_arg0)) (funext fun a => Fin.ext ?_)
  match a with
  | ⟨0, _⟩ => show win0_0.index t 0 * 1 + 1 * (0 + 1 * 0) = 0; omega

/-- An output block with these heads is these heads' block. -/
theorem read_of_Os (c : Dev nD) (b i : ℕ) {arg7 : Memref sig .tc .vmem S1x512x512 .bf16} {X : arg7.view.ty.Contents (Elt F)}
    (h : Os arg7 X (OUT m c b i)) : arg7.view.read (Elt F) X = OB m c b i := by
  funext j
  have j0 : (j 0).val < 1 := (j 0).isLt
  have j1 : (j 1).val < 512 := (j 1).isLt
  have j2 : (j 2).val < 512 := (j 2).isLt
  refine Eq.trans ?_ (congrFun (h ((j 1).val / 128) (fun a => ?_)) (ix3 (0 : Fin 1) (⟨(j 1).val % 128, Nat.mod_lt _ (by decide)⟩ : Fin 128) (j 2 : Fin 512)))
  · refine congrArg (fun x => arg7.view.read (Elt F) X x) (funext fun a => Fin.ext ?_)
    match a with
    | ⟨0, _⟩ => show (j 0).val = 0 + 1 * 0; omega
    | ⟨1, _⟩ => show (j 1).val = 128 * ((j 1).val / 128) + 1 * ((j 1).val % 128); omega
    | ⟨2, _⟩ => show (j 2).val = 0 + 1 * (j 2).val; omega
  · match a with
    | ⟨0, _⟩ => show 0 + 1 ≤ 1; omega
    | ⟨1, _⟩ => show 128 * ((j 1).val / 128) + 128 ≤ 512; omega
    | ⟨2, _⟩ => show 0 + 512 ≤ 512; omega

/-! ## The proof data -/

/-- What the scratch holds before point `n`, unless a batch begins there. -/
def Held (c : Dev nD) (n : ℕ) (f10 : Buf (Elt F) ((c : Thread nD τ).loc cc0_scratch2)) (f12 : Buf (Elt F) ((c : Thread nD τ).loc cc0_scratch4)) : Prop :=
  n % 16 ≠ 0 → Ss (Memref.whole cc0_scratch2) f10 (fun hh => SC (KB m c (n / 16) hh 0) (QM (QB m c (n / 16) hh (n % 16))))
    ∧ Qs (Memref.whole cc0_scratch4) f12 (fun hh => QM (QB m c (n / 16) hh (n % 16)))

/-- The scratch before point `n`. -/
def Inv (c : Dev nD) (n : ℕ) : sProp 𝕄 :=
  iprop(∃ f10 : Buf (Elt F) ((c : Thread nD τ).loc cc0_scratch2), ∃ f12 : Buf (Elt F) ((c : Thread nD τ).loc cc0_scratch4), ⌜Held m c n f10 f12⌝
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc cc0_scratch2) ↦{fullShare} f10)
    ∗ (∃ f : Buf (Elt F) ((c : Thread nD τ).loc cc0_scratch3), ((c : Thread nD τ).loc cc0_scratch3) ↦{fullShare} f)
    ∗ (((c : Thread nD τ).loc cc0_scratch4) ↦{fullShare} f12)
    ∗ (∃ r, prngReg c r))

/-- The proof data: the arrays as the region finds them, each input block left in place, the output block its closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OB m c (t.val / 16) (t.val % 16)
  Φ n := Inv m c n.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = OB m c (t.val / 16) (t.val % 16) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A scratch buffer held whole, as the body's memref on it holds it. -/
theorem whole_pt (c : Dev nD) (b : Ref sig .tc) (f : Buf (Elt F) ((c : Thread nD τ).loc b)) :
    (((c : Thread nD τ).loc b ↦{fullShare} f) : sProp 𝕄)
      = ((Memref.whole b : Memref sig .tc _ _ _).view.loc (c : Thread nD τ) ↦[(Memref.whole b : Memref sig .tc _ _ _).view.set]{fullShare} f) := by
  simp only [Memref.view_whole, View.set_whole]

/-- What is held at a point that does not begin a batch. -/
theorem held_at (c : Dev nD) (t : Fin cfg0.N) {f10 f12} (h : Held m c t.val f10 f12) (hn : (grid0.coords t 2).val ≠ 0) :
    Ss (Memref.whole cc0_scratch2) f10 (fun hh => SC (KB m c (t.val / 16) hh 0) (QM (QB m c (t.val / 16) hh (grid0.coords t 2).val)))
    ∧ Qs (Memref.whole cc0_scratch4) f12 (fun hh => QM (QB m c (t.val / 16) hh (grid0.coords t 2).val)) := by
  have hi := (idx t).2.2.2.2.2
  rw [hi] at hn ⊢
  exact h hn

theorem held_next (c : Dev nD) (t : Fin cfg0.N) {f10 f12}
    (h10 : Ss (Memref.whole cc0_scratch2) f10 (fun hh => SC (KB m c (t.val / 16) hh 0) (QM (QB m c (t.val / 16) hh (min ((grid0.coords t 2).val + 1) 15)))))
    (h12 : Qs (Memref.whole cc0_scratch4) f12 (fun hh => QM (QB m c (t.val / 16) hh (min ((grid0.coords t 2).val + 1) 15)))) : Held m c (t.val + 1) f10 f12 := by
  intro hn
  have hi := (idx t).2.2.2.2.2
  rw [hi] at h10 h12
  have e1 : (t.val + 1) / 16 = t.val / 16 := by omega
  have e2 : (t.val + 1) % 16 = min (t.val % 16 + 1) 15 := by omega
  rw [e1, e2]
  exact ⟨h10, h12⟩

/-- What the body leaves: the inputs, the output's heads, the next point's masked queries and scores. -/
theorem runVal (c : Dev nD) (i : grid0.Coords) (arg3 : Memref sig .tc .smem S1 .f32) (harg3 : arg3.IsWhole) (arg4 : Memref sig .tc .vmem S1x16x512x512 .bf16) (harg4 : arg4.IsWhole) (arg5 : Memref sig .tc .vmem S1x8192x512 .bf16) (harg5 : arg5.IsWhole) (arg6 : Memref sig .tc .vmem S1x32x512x256 .bf16) (harg6 : arg6.IsWhole) (arg7 : Memref sig .tc .vmem S1x512x512 .bf16) (harg7 : arg7.IsWhole) (arg8 : Memref sig .tc .vmem S4x1x1024 .f32) (harg8 : arg8.IsWhole) (arg9 : Memref sig .tc .vmem S4x144x1024 .f32) (harg9 : arg9.IsWhole) (arg10 : Memref sig .tc .vmem S4x256x1024 .f32) (harg10 : arg10.IsWhole) (arg11 : Memref sig .tc .vmem S4x256x1024 .f32) (harg11 : arg11.IsWhole) (arg12 : Memref sig .tc .vmem S4x128x1024 .bf16) (harg12 : arg12.IsWhole)
    (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F))
    (qb kb vb) (h4 : Qb arg4 f4 qb) (h5 : Keys arg5 f5 kb) (h6 : Vals arg6 f6 vb)
    (h10 : (i 2).val ≠ 0 → Ss arg10 f10 (fun hh => SC (kb hh 0) (QM (qb hh (i 2).val)))) (h12 : (i 2).val ≠ 0 → Qs arg12 f12 (fun hh => QM (qb hh (i 2).val))) (E : Set ℕ) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱₀ (c : Thread nD τ) none) E (cc0_attn i arg3 harg3 arg4 harg4 arg5 harg5 arg6 harg6 arg7 harg7 arg8 harg8 arg9 harg9 arg10 harg10 arg11 harg11 arg12 harg12) fun _ =>
        iprop(∃ g7 : arg7.view.ty.Contents (Elt F), ∃ g10 : arg10.view.ty.Contents (Elt F), ∃ g12 : arg12.view.ty.Contents (Elt F),
          ⌜Os arg7 g7 (fun hh => OH (AE (kb hh) (vb hh) (QM (qb hh (i 2).val)) (i 2).val) (lamv arg3 f3))
            ∧ Ss arg10 g10 (fun hh => SC (kb hh 0) (QM (qb hh (min ((i 2).val + 1) 15)))) ∧ Qs arg12 g12 (fun hh => QM (qb hh (min ((i 2).val + 1) 15)))⌝
          ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (∃ g, (arg8.view.loc (c : Thread nD τ) ↦[arg8.view.set]{fullShare} g)) ∗ (∃ g, (arg9.view.loc (c : Thread nD τ) ↦[arg9.view.set]{fullShare} g)) ∗ (arg10.view.loc (c : Thread nD τ) ↦[arg10.view.set]{fullShare} g10) ∗ (∃ g, (arg11.view.loc (c : Thread nD τ) ↦[arg11.view.set]{fullShare} g)) ∗ (arg12.view.loc (c : Thread nD τ) ↦[arg12.view.set]{fullShare} g12)) := by
  by_cases hc : isFirst i
  · have e0 := (isFirst_iff i).1 hc
    have eqF : (fun hh => OH (AE (kb hh) (vb hh) ((fun hh => QM (qb hh 0)) hh) (i 2).val) (lamv arg3 f3)) = (fun hh => OH (AE (kb hh) (vb hh) (QM (qb hh (i 2).val)) (i 2).val) (lamv arg3 f3)) := by rw [e0]
    iintro H
    iapply (wp_wand_r Idealize.ShloMosaic.frame (wpE (defs₀ (F := F)) 𝒱₀ (c : Thread nD τ) none) E)
    isplitl [H]
    · iapply ((runFirst (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.2 E)
      iexact H
    · iintro %_ ⟨H3, H4, H5, H6, H7, H8, H9, H10, H11, H12⟩
      iexists _; iexists _; iexists _
      isplitr
      · ipureintro; exact ⟨eqF ▸ runFirst_7 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 h5 h6 hc, runFirst_10 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 h5 hc, runFirst_12 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 hc⟩
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexact H10
      isplitl [H11]
      · iexists _; iexact H11
      iexact H12
  · have hn : (i 2).val ≠ 0 := fun h => hc ((isFirst_iff i).2 h)
    iintro H
    iapply (wp_wand_r Idealize.ShloMosaic.frame (wpE (defs₀ (F := F)) 𝒱₀ (c : Thread nD τ) none) E)
    isplitl [H]
    · iapply ((runNext (F := F) c i arg3 harg3 arg4 harg4 arg5 harg5 arg6 harg6 arg7 harg7 arg8 harg8 arg9 harg9 arg10 harg10 arg11 harg11 arg12 harg12 f3 f4 f5 f6 f7 f8 f9 f10 f11 f12 hc).2.2.2.2.2.2 E)
      iexact H
    · iintro %_ ⟨H3, H4, H5, H6, H7, H8, H9, H10, H11, H12⟩
      iexists _; iexists _; iexists _
      isplitr
      · ipureintro; exact ⟨runNext_7 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 h5 h6 (h10 hn) (h12 hn) hc, runNext_10 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 h5 hc, runNext_12 (c := c) (i := i) (harg3 := harg3) (harg4 := harg4) (harg5 := harg5) (harg6 := harg6) (harg7 := harg7) (harg8 := harg8) (harg9 := harg9) (harg10 := harg10) (harg11 := harg11) (harg12 := harg12) (f3 := f3) (f4 := f4) (f5 := f5) (f6 := f6) (f7 := f7) (f8 := f8) (f9 := f9) (f10 := f10) (f11 := f11) (f12 := f12) h4 hc⟩
      isplitl [H3]
      · iexact H3
      isplitl [H4]
      · iexact H4
      isplitl [H5]
      · iexact H5
      isplitl [H6]
      · iexact H6
      isplitl [H7]
      · iexact H7
      isplitl [H8]
      · iexists _; iexact H8
      isplitl [H9]
      · iexists _; iexact H9
      isplitl [H10]
      · iexact H10
      isplitl [H11]
      · iexists _; iexact H11
      iexact H12

/-- The body at a point. -/
theorem body_obligation (c : Dev nD) :
    BodyObligation (dats (F := F) m 0 c) (defs₀ (F := F)) 𝒱₀ () Set.univ := fun (t : Fin cfg0.N) => by
  have hi := idx t
  have ht : t.val < 128 := t.isLt
  rw [bigSep_W0, bigSep_W0, defs₀_row]
  simp only [before0_0, before0_1, before0_2, before0_3]
  rw [show (dats (F := F) m 0 c).Φ t.succ = Inv m c (t.val + 1) from rfl, show (dats (F := F) m 0 c).Φ t.castSucc = Inv m c t.val from rfl,
    show (dats m 0 c).owesAt () t.succ = (dats m 0 c).owesAt () t.castSucc from rfl]
  unfold Inv
  simp only [whole_pt]
  show iprop(_ ∗ _ ∗ (∃ d, owns (c : Thread nD τ) (st0_0 t) fullShare (iblk m c 0 t)) ∗ (∃ d, owns (c : Thread nD τ) (st0_1 t) fullShare (iblk m c 1 t))
      ∗ (∃ d, owns (c : Thread nD τ) (st0_2 t) fullShare (iblk m c 2 t)) ∗ (∃ d, owns (c : Thread nD τ) (st0_3 t) fullShare (iblk m c 3 t))
      ∗ (∃ d, owns (c : Thread nD τ) (st0_4 t) fullShare ((dats m 0 c).before 4 t d)))
    ⊢ wp frame (wpE (defs₀ (F := F)) 𝒱₀ (c : Thread nD τ) none) Set.univ (bodyAt0 t) fun _ =>
      iprop(_ ∗ _ ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (OB m c (t.val / 16) (t.val % 16)))
  unfold owns
  iintro ⟨⟨%f10, %f12, %hH, ⟨%f8, H8⟩, ⟨%f9, H9⟩, H10, ⟨%f11, H11⟩, H12, Hr⟩, Ho, ⟨%d0, %f3, %h3, H3⟩, ⟨%d1, %f4, %h4, H4⟩, ⟨%d2, %f5, %h5, H5⟩, ⟨%d3, %f6, %h6, H6⟩, ⟨%X, %f7, %h7, H7⟩⟩
  iapply (wp_wand_r Idealize.ShloMosaic.frame (wpE (defs₀ (F := F)) 𝒱₀ (c : Thread nD τ) none) Set.univ)
  isplitl [H3 H4 H5 H6 H7 H8 H9 H10 H11 H12]
  · iapply (runVal (F := F) c (grid0.coords t) (st0_0 t) _ (st0_1 t) _ (st0_2 t) _ (st0_3 t) _ (st0_4 t) _ (Memref.whole cc0_scratch0) _ (Memref.whole cc0_scratch1) _ (Memref.whole cc0_scratch2) _ (Memref.whole cc0_scratch3) _ (Memref.whole cc0_scratch4) _ f3 f4 f5 f6 f7 f8 f9 f10 f11 f12
      (QB m c (t.val / 16)) (KB m c (t.val / 16)) (VB m c (t.val / 16)) (qb_of m c t h4) (keys_of m c t h5) (vals_of m c t h6)
      (fun h => (held_at m c t hH h).1) (fun h => (held_at m c t hH h).2) Set.univ)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12
  · iintro %_ ⟨%g7, %g10, %g12, %hg, H3, H4, H5, H6, H7, ⟨%g8, H8⟩, ⟨%g9, H9⟩, H10, ⟨%g11, H11⟩, H12⟩
    isplitl [H8 H9 H10 H11 H12 Hr]
    · iexists g10; iexists g12
      isplitr
      · ipureintro; exact held_next m c t hg.2.1 hg.2.2
      isplitl [H8]
      · iexists g8; iexact H8
      isplitl [H9]
      · iexists g9; iexact H9
      isplitl [H10]
      · iexact H10
      isplitl [H11]
      · iexists g11; iexact H11
      isplitl [H12]
      · iexact H12
      iexact Hr
    isplitl [Ho]
    · iexact Ho
    isplitl [H3]
    · iexists f3; isplitr
      · ipureintro; exact h3
      · iexact H3
    isplitl [H4]
    · iexists f4; isplitr
      · ipureintro; exact h4
      · iexact H4
    isplitl [H5]
    · iexists f5; isplitr
      · ipureintro; exact h5
      · iexact H5
    isplitl [H6]
    · iexists f6; isplitr
      · ipureintro; exact h6
      · iexact H6
    iexists g7; isplitr
    · ipureintro
      refine read_of_Os m c _ _ ?_
      unfold OUT
      rw [← lam_of m c t h3, ← hi.2.2.2.2.2]
      exact hg.1
    · iexact H7

/-- The scratch at anything is the invariant's before the first point; the invariant after the last says it is at something. -/
theorem hin (c : Dev nD) : (ΦA spec0 c : sProp 𝕄) ⊢ (dats (F := F) m 0 c).Φ 0 := by
  rw [show (dats (F := F) m 0 c).Φ 0 = Inv m c 0 from rfl]
  unfold ΦA Inv
  rw [scopedRest0_eq]
  iintro ⟨⟨⟨%f8, H8⟩, ⟨%f9, H9⟩, ⟨%f10, H10⟩, ⟨%f11, H11⟩, ⟨%f12, H12⟩⟩, Hr⟩
  iexists f10; iexists f12
  isplitr
  · ipureintro; exact fun h => absurd rfl h
  isplitl [H8]
  · iexists f8; iexact H8
  isplitl [H9]
  · iexists f9; iexact H9
  isplitl [H10]
  · iexact H10
  isplitl [H11]
  · iexists f11; iexact H11
  isplitl [H12]
  · iexact H12
  iexact Hr

theorem hout (c : Dev nD) : (dats (F := F) m 0 c).Φ (Fin.last cfg0.N) ⊢ (ΦA spec0 c : sProp 𝕄) := by
  rw [show (dats (F := F) m 0 c).Φ (Fin.last cfg0.N) = Inv m c cfg0.N from rfl]
  unfold ΦA Inv
  rw [scopedRest0_eq]
  iintro ⟨%f10, %f12, %hH, ⟨%f8, H8⟩, ⟨%f9, H9⟩, H10, ⟨%f11, H11⟩, H12, Hr⟩
  isplitr [Hr]
  · isplitl [H8]
    · iexists f8; iexact H8
    isplitl [H9]
    · iexists f9; iexact H9
    isplitl [H10]
    · iexists f10; iexact H10
    isplitl [H11]
    · iexists f11; iexact H11
    iexists f12; iexact H12
  · iexact Hr

-- the launch theorem's implicit arguments are found by unifying its conclusion with this one, which takes unfolding plain
-- definitions in a metavariable's type
set_option backward.isDefEq.respectTransparency.types false in
/-- The run of the whole grid. -/
theorem run_main : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := hin m) (hout := hout m)

end Cert.KernelIdeal.Att

end
-- ==== Proof.AttOut.lean ====
/- The attention call's result array after the run, index by index, and its frame. -/
module

public import proofs.«01_k».proof.Proof.AttFrame

@[expose] public section

noncomputable section

namespace Cert.KernelIdeal.Att

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result array: each batch's output blocks side by side. -/
def G (c : Dev nD) : Buf (Elt F) ((c.tc : Thread nD τ).loc main_v0) := fun (j : S8x512x8192.Idx) =>
  OB m c (j 0).val ((j 2).val / 512) (ix3 (0 : Fin 1) (j 1 : Fin 512) (⟨(j 2).val % 512, Nat.mod_lt _ (by decide)⟩ : Fin 512))

theorem flushed_eq (c : Dev nD) (t : Fin cfg0.N) : (dats m 0 c).flushed 4 t = (win0_4.blk t).view.read (Elt F) (G m c) := by
  have e1 : (dats m 0 c).flushed 4 t = (cfg0.win 4).cut (grid0.coords t) (OB m c (t.val / 16) (t.val % 16)) := by
    show (cfg0.win 4).cut (grid0.coords t) ((dats m 0 c).after 4 t) = _
    rw [after0_4]
  rw [e1]
  funext y
  have h := (idx t).2.2.2.2.1
  have ht : t.val < 128 := t.isLt
  have hy : (y 2).val < 512 := (y 2).isLt
  have hy1 : (y 1).val < 512 := (y 1).isLt
  show OB m c (t.val / 16) (t.val % 16) y = G m c ((win0_4.blk t).view.emb y)
  have e : (win0_4.blk t).view.emb y = ix3 (⟨t.val / 16, by omega⟩ : Fin 8) (y 1 : Fin 512) (⟨t.val % 16 * 512 + (y 2).val, by omega⟩ : Fin 8192) := by
    funext a
    refine Fin.ext ?_
    match a with
    | ⟨0, _⟩ => show win0_4.index t 0 * 1 + 1 * (y 0).val = t.val / 16
                have : (y 0).val < 1 := (y 0).isLt
                omega
    | ⟨1, _⟩ => show win0_4.index t 1 * 512 + 1 * (y 1).val = (y 1).val; omega
    | ⟨2, _⟩ => show win0_4.index t 2 * 512 + 1 * (y 2).val = t.val % 16 * 512 + (y 2).val; omega
  rw [e]
  show _ = OB m c (t.val / 16) ((t.val % 16 * 512 + (y 2).val) / 512) (ix3 (0 : Fin 1) (y 1 : Fin 512) (⟨(t.val % 16 * 512 + (y 2).val) % 512, _⟩ : Fin 512))
  have e2 : (t.val % 16 * 512 + (y 2).val) / 512 = t.val % 16 := by omega
  rw [e2]
  refine congrArg (OB m c (t.val / 16) (t.val % 16)) (funext fun a => Fin.ext ?_)
  match a with
  | ⟨0, _⟩ => show (y 0).val = 0
              have : (y 0).val < 1 := (y 0).isLt
              omega
  | ⟨1, _⟩ => rfl
  | ⟨2, _⟩ => show (y 2).val = (t.val % 16 * 512 + (y 2).val) % 512; omega

/-- Every index of the result array is in some point's block. -/
theorem cover (i : S8x512x8192.Idx) : ∃ t : Fin cfg0.N, (cfg0.win 4).flush t = true ∧ i ∈ ((cfg0.win 4).blk t).view.set := by
  have h0 : (i 0).val < 8 := (i 0).isLt
  have h1 : (i 1).val < 512 := (i 1).isLt
  have h2 : (i 2).val < 8192 := (i 2).isLt
  have hN : cfg0.N = 128 := N_0
  let t : Fin cfg0.N := ⟨(i 0).val * 16 + (i 2).val / 512, by omega⟩
  have ht : t.val = (i 0).val * 16 + (i 2).val / 512 := rfl
  refine ⟨t, flush0_4 t, ?_⟩
  have h := (idx t).2.2.2.2.1
  show i ∈ ((View.whole main_v0).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 512 ≤ (i 1).val ∧ (i 1).val < win0_4.index t 1 * 512 + 512; omega
  | ⟨2, _⟩ => show win0_4.index t 2 * 512 ≤ (i 2).val ∧ (i 2).val < win0_4.index t 2 * 512 + 512; omega

/-- The result array after the run is `G`. -/
theorem final_o (c : Dev nD) : (dats m 0 c).arrAt 4 cfg0.N = G m c :=
  (dats m 0 c).arrAt_eq_of_cover 4 (G m c) (fun t _ => flushed_eq m c t) cover

/-- The run: the result is `G`, the arguments are as launched, and every semaphore counter ends at zero. -/
theorem run_G : θ_run defs (onTc (τ := τ) (main (F := F))) ⟨m, fun _ => 0, ρ⟩ (fun r => (∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 4).trans (final_o m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩, h.2⟩) (run_main m ρ)

end Cert.KernelIdeal.Att

end
-- ==== Proof.AttMath.lean ====
/- Softmax sums over the extended reals: the running maximum and sums of a sequence of key blocks, and the quotient they end in. -/
module

public import Idealize.ShloMosaic.Lib.Pointwise

@[expose] public section

noncomputable section

namespace Cert.AttMath

open Idealize.ShloMosaic

theorem ninf : Ideal.ofBits .f32 0xFF800000#32 = (⊥ : EReal) := by
  simp [Ideal.ofBits, Ideal.ieee]
theorem two : Ideal.ofBits .f32 0x40000000#32 = ((2 : ℝ) : EReal) := by
  simp [Ideal.ofBits, Ideal.ieee, -EReal.coe_mul]
  norm_num

/-- Comparisons of the words of two small numbers. -/
theorem sle_word {a b : ℕ} (ha : a < 2 ^ 31) (hb : b < 2 ^ 31) : IntOp.cmpi .sle (BitVec.ofNat 32 a) (BitVec.ofNat 32 b) = BitVec.ofBool (decide (a ≤ b)) := by
  have ea : (BitVec.ofNat 32 a).toInt = a := by rw [BitVec.toInt_ofNat']; simp [Int.bmod]; omega
  have eb : (BitVec.ofNat 32 b).toInt = b := by rw [BitVec.toInt_ofNat']; simp [Int.bmod]; omega
  show BitVec.ofBool (BitVec.sle _ _) = _
  unfold BitVec.sle
  rw [ea, eb]; simp
theorem slt_word {a b : ℕ} (ha : a < 2 ^ 31) (hb : b < 2 ^ 31) : IntOp.cmpi .slt (BitVec.ofNat 32 a) (BitVec.ofNat 32 b) = BitVec.ofBool (decide (a < b)) := by
  have ea : (BitVec.ofNat 32 a).toInt = a := by rw [BitVec.toInt_ofNat']; simp [Int.bmod]; omega
  have eb : (BitVec.ofNat 32 b).toInt = b := by rw [BitVec.toInt_ofNat']; simp [Int.bmod]; omega
  show BitVec.ofBool (BitVec.slt _ _) = _
  unfold BitVec.slt
  rw [ea, eb]; simp
theorem sge_word {a b : ℕ} (ha : a < 2 ^ 31) (hb : b < 2 ^ 31) : IntOp.cmpi .sge (BitVec.ofNat 32 a) (BitVec.ofNat 32 b) = BitVec.ofBool (decide (b ≤ a)) := by
  rw [← sle_word hb ha]; rfl

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The average of `u` over the first `n` keys, weighted by two to the scores. -/
def soft (s u : ℕ → ℝ) (n : ℕ) : ℝ :=
  (∑ k ∈ Finset.range n, u k * Real.rpow 2 (s k)) / ∑ k ∈ Finset.range n, Real.rpow 2 (s k)

/-- The running maximum is some real number and the running sum is taken against it; before the first key, minus infinity and zero. -/
def Inv (s u : ℕ → ℝ) (n : ℕ) (m a : EReal) : Prop :=
  (n = 0 ∧ m = ⊥ ∧ a = 0) ∨
    (0 < n ∧ ∃ c : ℝ, m = (c : EReal) ∧ a = ((∑ k ∈ Finset.range n, u k * Real.rpow 2 (s k - c) : ℝ) : EReal))

theorem fold_real {N : ℕ} (t : Fin N → EReal) (m : EReal) (hm : m ≠ ⊤) (h0 : ∃ k, t k ≠ ⊥) (h1 : ∀ k, t k ≠ ⊤) :
    ∃ c : ℝ, max m (Finset.fold max (⊥ : EReal) t Finset.univ) = (c : EReal) := by
  obtain ⟨k0, hk0⟩ := h0
  have e : Finset.fold max (⊥ : EReal) t Finset.univ = Finset.univ.sup t := rfl
  rw [e]
  have hlt : Finset.univ.sup t < ⊤ := (Finset.sup_lt_iff bot_lt_top).2 fun b _ => lt_top_iff_ne_top.2 (h1 b)
  have htop : max m (Finset.univ.sup t) ≠ ⊤ := (max_lt (lt_top_iff_ne_top.2 hm) hlt).ne
  have hbot : max m (Finset.univ.sup t) ≠ ⊥ := by
    intro h
    have : t k0 ≤ ⊥ := h ▸ (Finset.le_sup (Finset.mem_univ k0)).trans (le_max_right _ _)
    exact hk0 (le_bot_iff.1 this)
  exact ⟨_, (EReal.coe_toReal htop hbot).symm⟩

theorem sum_block {N r : ℕ} (hr : r ≤ N) (f : Fin N → EReal) (g : ℕ → ℝ) (h : ∀ k : Fin N, k.val < r → f k = (g k.val : EReal))
    (h' : ∀ k : Fin N, r ≤ k.val → f k = 0) : ∑ k : Fin N, f k = ((∑ k ∈ Finset.range r, g k : ℝ) : EReal) := by
  have e : ∀ k : Fin N, f k = (((fun k : ℕ => if k < r then g k else 0) k.val : ℝ) : EReal) := by
    intro k
    by_cases hk : k.val < r
    · simp only [hk, if_true]; exact h k hk
    · simp only [hk, if_false, EReal.coe_zero]; exact h' k (not_lt.1 hk)
  rw [Finset.sum_congr rfl fun k _ => e k, ← coe_sum, Fin.sum_univ_eq_sum_range (fun k : ℕ => if k < r then g k else 0) N]
  congr 1
  rw [← Finset.sum_subset (Finset.range_subset_range.2 hr)]
  · exact Finset.sum_congr rfl fun k hk => if_pos (Finset.mem_range.1 hk)
  · intro k _ hk
    exact if_neg fun h => hk (Finset.mem_range.2 h)

theorem pow_sub_mul (a b c : ℝ) : Real.rpow 2 (a - b) * Real.rpow 2 (c - a) = Real.rpow 2 (c - b) := by
  have h := Real.rpow_add (show (0 : ℝ) < 2 by norm_num) (a - b) (c - a)
  rw [show a - b + (c - a) = c - b by ring] at h
  exact h.symm

theorem Inv.step {s u : ℕ → ℝ} {n : ℕ} {m a : EReal} (h : Inv s u n m a) {r : ℕ} (hr : 0 < r) (hr' : r ≤ 256)
    (t ub : Fin 256 → EReal) (ht : ∀ k : Fin 256, k.val < r → t k = (s (n + k.val) : EReal)) (ht' : ∀ k : Fin 256, r ≤ k.val → t k = ⊥)
    (hu : ∀ k : Fin 256, k.val < r → ub k = (u (n + k.val) : EReal)) {m' : EReal} (hm' : m' = max m (Finset.fold max (⊥ : EReal) t Finset.univ)) :
    Inv s u (n + r) m' (Ideal.exp2 (m - m') * a + ∑ k : Fin 256, ub k * Ideal.exp2 (t k - m')) := by
  have hmt : m ≠ ⊤ := by
    rcases h with ⟨-, h, -⟩ | ⟨-, c, h, -⟩
    · rw [h]; exact bot_ne_top
    · rw [h]; exact EReal.coe_ne_top c
  obtain ⟨c', hc'⟩ := fold_real t m hmt ⟨⟨0, by norm_num⟩, by rw [ht _ hr]; exact EReal.coe_ne_bot _⟩ (fun k => by
    by_cases hk : k.val < r
    · rw [ht k hk]; exact EReal.coe_ne_top _
    · rw [ht' k (not_lt.1 hk)]; exact bot_ne_top)
  rw [← hm'] at hc'
  clear hm'
  subst hc'
  have hs : ∑ k : Fin 256, ub k * Ideal.exp2 (t k - (c' : EReal))
      = ((∑ k ∈ Finset.range r, u (n + k) * Real.rpow 2 (s (n + k) - c') : ℝ) : EReal) := by
    refine sum_block hr' _ (fun k => u (n + k) * Real.rpow 2 (s (n + k) - c')) (fun k hk => ?_) fun k hk => ?_
    · rw [ht k hk, hu k hk, ← EReal.coe_sub, Ideal.exp2_coe, ← EReal.coe_mul]
    · rw [ht' k hk, EReal.bot_sub, Ideal.exp2_bot, mul_zero]
  rw [hs]
  refine Or.inr ⟨by omega, c', rfl, ?_⟩
  rw [Finset.sum_range_add]
  rcases h with ⟨hn, hm, ha⟩ | ⟨hn, c, hm, ha⟩
  · subst hn; rw [ha, mul_zero, Finset.sum_range_zero, zero_add, zero_add]
  · rw [hm, ha, ← EReal.coe_sub, Ideal.exp2_coe, ← EReal.coe_mul, ← EReal.coe_add, Finset.mul_sum]
    congr 2
    refine Finset.sum_congr rfl fun k _ => ?_
    rw [← pow_sub_mul c c' (s k)]; ring

theorem Inv.quot {s u : ℕ → ℝ} {n : ℕ} {m a l : EReal} (h : Inv s u n m a) (h1 : Inv s (fun _ => 1) n m l) (hn : 0 < n) :
    a * Ideal.div 1 l = (soft s u n : EReal) := by
  rcases h with ⟨h, -⟩ | ⟨-, c, hm, ha⟩
  · omega
  rcases h1 with ⟨h, -⟩ | ⟨-, c', hm', hl⟩
  · omega
  have ec : c' = c := EReal.coe_injective (hm'.symm.trans hm)
  subst ec
  have hD : (0 : ℝ) < ∑ k ∈ Finset.range n, 1 * Real.rpow 2 (s k - c') :=
    Finset.sum_pos (fun k _ => by rw [one_mul]; exact Real.rpow_pos_of_pos (by norm_num) _) ⟨0, Finset.mem_range.2 hn⟩
  have hl0 : l ≠ 0 := by rw [hl]; exact fun h => hD.ne' (EReal.coe_eq_zero.1 h)
  rw [Ideal.mul_one_div hl0, hl, Ideal.div_coe hD.ne', ha, ← EReal.coe_mul]
  congr 1
  have e : ∀ k, Real.rpow 2 (s k - c') = Real.rpow 2 (0 - c') * Real.rpow 2 (s k) := fun k => by
    have := pow_sub_mul 0 c' (s k); rw [sub_zero] at this; exact this.symm
  have hc : (0 : ℝ) < Real.rpow 2 (0 - c') := Real.rpow_pos_of_pos (by norm_num) _
  unfold soft
  rw [Finset.sum_congr rfl fun k _ => congrArg (u k * ·) (e k), Finset.sum_congr rfl fun k _ => congrArg ((1 : ℝ) * ·) (e k)]
  rw [show (∑ k ∈ Finset.range n, u k * (Real.rpow 2 (0 - c') * Real.rpow 2 (s k))) = Real.rpow 2 (0 - c') * ∑ k ∈ Finset.range n, u k * Real.rpow 2 (s k) by
      rw [Finset.mul_sum]; exact Finset.sum_congr rfl fun k _ => by ring,
    show (∑ k ∈ Finset.range n, 1 * (Real.rpow 2 (0 - c') * Real.rpow 2 (s k))) = Real.rpow 2 (0 - c') * ∑ k ∈ Finset.range n, Real.rpow 2 (s k) by
      rw [Finset.mul_sum]; exact Finset.sum_congr rfl fun k _ => by ring]
  rw [mul_one_div, mul_div_mul_left _ _ hc.ne']

/-- One weight of the softmax written with the maximum subtracted. -/
theorem weight {N : ℕ} (s : ℕ → ℝ) (n : ℕ) (hn : 0 < n) (hN : n ≤ N) (t : Fin N → EReal) (ht : ∀ k : Fin N, k.val < n → t k = (s k.val : EReal))
    (ht' : ∀ k : Fin N, n ≤ k.val → t k = ⊥) (k : Fin N) :
    Ideal.div (Ideal.pow ((2 : ℝ) : EReal) (t k - Finset.fold max (⊥ : EReal) t Finset.univ))
        (∑ x : Fin N, Ideal.pow ((2 : ℝ) : EReal) (t x - Finset.fold max (⊥ : EReal) t Finset.univ))
      = (((if k.val < n then Real.rpow 2 (s k.val) / ∑ x ∈ Finset.range n, Real.rpow 2 (s x) else 0) : ℝ) : EReal) := by
  obtain ⟨c, hc⟩ := fold_real t ⊥ bot_ne_top ⟨⟨0, by omega⟩, by rw [ht _ hn]; exact EReal.coe_ne_bot _⟩ (fun k => by
    by_cases hk : k.val < n
    · rw [ht k hk]; exact EReal.coe_ne_top _
    · rw [ht' k (not_lt.1 hk)]; exact bot_ne_top)
  rw [max_eq_right bot_le] at hc
  rw [hc]
  have hp : ∀ k : Fin N, n ≤ k.val → Ideal.pow ((2 : ℝ) : EReal) (t k - (c : EReal)) = 0 := fun k hk => by
    rw [ht' k hk, EReal.bot_sub, Ideal.pow_coe_bot, if_neg (by norm_num), if_pos (by norm_num)]
  have hq : ∀ k : Fin N, k.val < n → Ideal.pow ((2 : ℝ) : EReal) (t k - (c : EReal)) = ((Real.rpow 2 (s k.val - c) : ℝ) : EReal) := fun k hk => by
    rw [ht k hk, ← EReal.coe_sub, Ideal.pow_coe_coe]
  rw [sum_block hN _ (fun k => Real.rpow 2 (s k - c)) hq hp]
  have e : ∀ k, Real.rpow 2 (s k - c) = Real.rpow 2 (0 - c) * Real.rpow 2 (s k) := fun k => by
    have := pow_sub_mul 0 c (s k); rw [sub_zero] at this; exact this.symm
  have hc0 : (0 : ℝ) < Real.rpow 2 (0 - c) := Real.rpow_pos_of_pos (by norm_num) _
  have hD : (0 : ℝ) < ∑ k ∈ Finset.range n, Real.rpow 2 (s k - c) :=
    Finset.sum_pos (fun k _ => Real.rpow_pos_of_pos (by norm_num) _) ⟨0, Finset.mem_range.2 hn⟩
  rw [Ideal.div_coe hD.ne']
  by_cases hk : k.val < n
  · rw [hq k hk, if_pos hk, ← EReal.coe_mul]
    congr 1
    rw [Finset.sum_congr rfl fun k _ => e k, ← Finset.mul_sum, e k.val, mul_one_div, mul_div_mul_left _ _ hc0.ne']
  · rw [hp k (not_lt.1 hk), if_neg hk, zero_mul, EReal.coe_zero]

/-- The difference of two softmaxes times the values. -/
theorem diff {N : ℕ} (s1 s2 v : ℕ → ℝ) (lam : ℝ) (n : ℕ) (hN : n ≤ N) (V P1 P2 : Fin N → EReal)
    (hV : ∀ k : Fin N, V k = (v k.val : EReal))
    (h1 : ∀ k : Fin N, P1 k = (((if k.val < n then Real.rpow 2 (s1 k.val) / ∑ x ∈ Finset.range n, Real.rpow 2 (s1 x) else 0) : ℝ) : EReal))
    (h2 : ∀ k : Fin N, P2 k = (((if k.val < n then Real.rpow 2 (s2 k.val) / ∑ x ∈ Finset.range n, Real.rpow 2 (s2 x) else 0) : ℝ) : EReal)) :
    ∑ k : Fin N, V k * (P1 k - (lam : EReal) * P2 k) = ((soft s1 v n : ℝ) : EReal) - (lam : EReal) * ((soft s2 v n : ℝ) : EReal) := by
  rw [sum_block hN _ (fun k => v k * (Real.rpow 2 (s1 k) / (∑ x ∈ Finset.range n, Real.rpow 2 (s1 x)) - lam * (Real.rpow 2 (s2 k) / ∑ x ∈ Finset.range n, Real.rpow 2 (s2 x))))
    (fun k hk => by rw [hV, h1, h2, if_pos hk, if_pos hk, ← EReal.coe_mul, ← EReal.coe_sub, ← EReal.coe_mul])
    (fun k hk => by rw [h1, h2, if_neg (not_lt.2 hk), if_neg (not_lt.2 hk), EReal.coe_zero, mul_zero, sub_zero, mul_zero]),
    ← EReal.coe_mul, ← EReal.coe_sub]
  congr 1
  unfold soft
  rw [Finset.sum_div, Finset.sum_div, Finset.mul_sum, ← Finset.sum_sub_distrib]
  exact Finset.sum_congr rfl fun k _ => by ring

end Cert.AttMath

end
-- ==== Proof.AttPt.lean ====
/- The block step's operations read at an index, at extended reals. -/
module

public import proofs.«01_k».proof.Proof.AttSem2
public import proofs.«01_k».proof.Proof.AttMath

@[expose] public section

noncomputable section

namespace Cert.KernelIdeal.Att

open Cert.KernelIdeal Cert.KernelIdeal.Gen Idealize.ShloMosaic Idealize.ShloMosaic.View

theorem SC_apply (kb : Vec Ideal S1x256x128 .bf16) (q : Vec Ideal S1x128x1024 .bf16) (k : Fin 256) (l : Fin 1024) :
    SC (F := Ideal) kb q (ix3 0 k l) = ∑ d : Fin 128, (kb (ix3 0 k d) : EReal) * q (ix3 0 d l) := by
  pointwise [SC, k0_pay707]
theorem MF_apply (s : Vec Ideal S1x256x1024 .f32) (m : Vec Ideal S1x1x1024 .f32) (l : Fin 1024) :
    MF (F := Ideal) s m (ix3 0 0 l) = max (m (ix3 0 0 l)) (Finset.fold max (Ideal.ofBits .f32 0xFF800000#32) (fun k : Fin 256 => s (ix3 0 k l)) Finset.univ) := by
  pointwise [MF, k0_pay715, k0_pay710, k0_pay708, k0_pay709]
theorem exp2_def (x : EReal) : FloatOps.exp2 (F := Ideal) (φ := .f32) x = Ideal.exp2 x := rfl
theorem AF_apply (s : Vec Ideal S1x256x1024 .f32) (m : Vec Ideal S1x1x1024 .f32) (vb : Vec Ideal S1x1x128x256 .bf16) (a : Vec Ideal S1x144x1024 .f32) (e : Fin 144) (l : Fin 1024) :
    AF (F := Ideal) k0_pay813 s m vb a (ix3 0 e l) = Ideal.exp2 (m (ix3 0 0 l) - MF s m (ix3 0 0 l)) * a (ix3 0 e l)
      + ∑ k : Fin 256, (if h : e.val < 128 then (vb (ix4 0 0 ⟨e.val, h⟩ k) : EReal) else 1) * Ideal.exp2 (s (ix3 0 k l) - MF s m (ix3 0 0 l)) := by
  pointwise [AF, exp2_def, MF_apply, k0_pay711, k0_pay712, k0_pay713, k0_pay714, k0_pay710, k0_pay708, k0_pay709, k0_pay813]
/-- A diagonal block's masked scores. -/
def MK (s : Vec Ideal S1x256x1024 .f32) : Vec Ideal S1x256x1024 .f32 := fun j =>
  if (j 2).val < 256 then (if (j 1).val ≤ (j 2).val then s j else ⊥) else if (j 2).val < 512 then s j
    else if (j 2).val < 768 then (if (j 1).val + 512 ≤ (j 2).val then s j else ⊥) else s j
theorem p850_apply (s : Vec Ideal S1x256x1024 .f32) (k : Fin 256) (l : Fin 1024) :
    k0_pay850 (F := Ideal) s (ix2 k l) = MK s (ix3 0 k l) := by
  pointwise [k0_pay850, k0_pay849]
  show _ = if l.val < 256 then (if k.val ≤ l.val then s (ix3 0 k l) else ⊥) else if l.val < 512 then s (ix3 0 k l)
    else if l.val < 768 then (if k.val + 512 ≤ l.val then s (ix3 0 k l) else ⊥) else s (ix3 0 k l)
  have hk := k.isLt
  have hl := l.isLt
  have hw : ∀ x : ℕ, x < 1024 → IntOp.cmpi .sle (BitVec.ofNat 32 k.val) (BitVec.ofNat 32 x) = BitVec.ofBool (decide (k.val ≤ x)) := fun x hx =>
    AttMath.sle_word (by omega) (by omega)
  have h10 : ((1 : Fin 3) = 1) := rfl
  by_cases h1 : l.val < 256
  · simp only [h1, dif_pos, if_pos, hw _ hl, Scalar.select_decide, AttMath.ninf, ↓reduceDIte, ↓reduceIte]
  · by_cases h2 : l.val < 512
    · have h2' : l.val - 256 < 256 := by omega
      simp only [h1, h2, h2', ↓reduceDIte, ↓reduceIte]
      exact congrArg s (congrArg (ix3 0 k) (Fin.ext (show 256 + (l.val - 256) = l.val by omega)))
    · have h2' : ¬ l.val - 256 < 256 := by omega
      by_cases h3 : l.val < 768
      · have h3' : l.val - 256 - 256 < 256 := by omega
        simp only [h1, h2, h2', h3, h3', ↓reduceDIte, ↓reduceIte, hw (l.val - 256 - 256) (by omega), Scalar.select_decide, AttMath.ninf]
        rw [show (⟨512 + (l.val - 256 - 256), by omega⟩ : Fin 1024) = l from Fin.ext (show 512 + (l.val - 256 - 256) = l.val by omega)]
        by_cases h4 : k.val + 512 ≤ l.val
        · rw [if_pos h4, if_pos (by omega)]
        · rw [if_neg h4, if_neg (by omega)]
      · have h3' : ¬ l.val - 256 - 256 < 256 := by omega
        simp only [h1, h2, h2', h3, h3', ↓reduceDIte, ↓reduceIte]
        exact congrArg s (congrArg (ix3 0 k) (Fin.ext (by simp only []; omega)))
theorem MD_apply (s : Vec Ideal S1x256x1024 .f32) (m : Vec Ideal S1x1x1024 .f32) (l : Fin 1024) :
    MD (F := Ideal) s m (ix3 0 0 l) = MF (MK s) m (ix3 0 0 l) := by
  pointwise [MD, MF_apply, k0_pay855, k0_pay852, p850_apply, k0_pay851]
theorem AD_apply (s : Vec Ideal S1x256x1024 .f32) (m : Vec Ideal S1x1x1024 .f32) (vb : Vec Ideal S1x1x128x256 .bf16) (a : Vec Ideal S1x144x1024 .f32) (e : Fin 144) (l : Fin 1024) :
    AD (F := Ideal) s m vb a (ix3 0 e l) = AF k0_pay813 (MK s) m vb a (ix3 0 e l) := by
  rw [AF_apply, MF_apply]
  pointwise [AD, exp2_def, k0_pay854, k0_pay853, k0_pay852, p850_apply, k0_pay851, k0_pay813]
theorem UL_apply (kb : Vec Ideal S1x256x128 .bf16) (q : Vec Ideal S1x128x256 .bf16) (k : Fin 256) (l : Fin 256) :
    UL (F := Ideal) kb q (ix3 0 k l) = ∑ d : Fin 128, (kb (ix3 0 k d) : EReal) * q (ix3 0 d l) := by
  pointwise [UL, k0_pay836, k0_pay835]
theorem p880_apply (s : Vec Ideal S1x256x256 .f32) (k l : Fin 256) :
    k0_pay880 (F := Ideal) k0_pay849 s (ix2 k l) = if k.val ≤ l.val then (s (ix3 0 k l) : EReal) else ⊥ := by
  have e : k0_pay880 (F := Ideal) k0_pay849 s (ix2 k l) = Scalar.select (IntOp.cmpi .sle (BitVec.ofNat 32 k.val) (BitVec.ofNat 32 l.val)) (s (ix3 0 k l) : EReal) (Ideal.ofBits .f32 0xFF800000#32) := by
    pointwise [k0_pay880, k0_pay849]
  rw [e, AttMath.sle_word (by omega) (by omega), Scalar.select_decide, AttMath.ninf]
/-- The masked scores of the upper half's second diagonal block. -/
def UM (s : Vec Ideal S1x256x256 .f32) (m : Vec Ideal S1x1x256 .f32) (l : Fin 256) : EReal :=
  max (m (ix3 0 0 l)) (Finset.fold max (Ideal.ofBits .f32 0xFF800000#32) (fun k : Fin 256 => if k.val ≤ l.val then (s (ix3 0 k l) : EReal) else ⊥) Finset.univ)
theorem AU_apply (s : Vec Ideal S1x256x256 .f32) (m : Vec Ideal S1x1x256 .f32) (vb : Vec Ideal S1x1x128x256 .bf16) (a : Vec Ideal S1x144x256 .f32) (e : Fin 144) (l : Fin 256) :
    AU (F := Ideal) s m vb a (ix3 0 e l) = Ideal.exp2 (m (ix3 0 0 l) - UM s m l) * a (ix3 0 e l)
      + ∑ k : Fin 256, (if h : e.val < 128 then (vb (ix4 0 0 ⟨e.val, h⟩ k) : EReal) else 1) * Ideal.exp2 ((if k.val ≤ l.val then (s (ix3 0 k l) : EReal) else ⊥) - UM s m l) := by
  unfold UM
  pointwise [AU, exp2_def, k0_pay883, k0_pay882, k0_pay881, p880_apply, k0_pay813]
theorem QM_apply (qb : Vec Ideal S1x1x128x512 .bf16) (d : Fin 128) (l : Fin 1024) :
    QM (F := Ideal) qb (ix3 0 d l) = if h : l.val < 512 then (if d.val < 64 then (qb (ix4 0 0 d ⟨l.val, h⟩) : EReal) else 0)
      else (if 64 ≤ d.val then (qb (ix4 0 0 d ⟨l.val - 512, by omega⟩) : EReal) else 0) := by
  rw [show (if h : l.val < 512 then (if d.val < 64 then (qb (ix4 0 0 d ⟨l.val, h⟩) : EReal) else 0)
      else (if 64 ≤ d.val then (qb (ix4 0 0 d ⟨l.val - 512, by omega⟩) : EReal) else 0))
    = if h : l.val < 512 then Scalar.select (IntOp.cmpi .slt (BitVec.ofNat 32 d.val) 64#32) (qb (ix4 0 0 d ⟨l.val, h⟩) : EReal) 0
      else Scalar.select (IntOp.cmpi .sge (BitVec.ofNat 32 d.val) 64#32) (qb (ix4 0 0 d ⟨l.val - 512, by omega⟩) : EReal) 0 from by
    rw [show (64#32 : BitVec 32) = BitVec.ofNat 32 64 from rfl, AttMath.slt_word (by omega) (by omega), AttMath.sge_word (by omega) (by omega)]
    simp only [Scalar.select_decide]]
  pointwise [QM, k0_pay856]
/-- The difference of the two maps' quotients. -/
def DD (a : Vec Ideal S1x144x1024 .f32) (lam : EReal) (e : Fin 128) (q : Fin 512) : EReal :=
  (a (ix3 0 (⟨e.val, by omega⟩ : Fin 144) (⟨q.val, by omega⟩ : Fin 1024)) : EReal) * Ideal.div 1 (a (ix3 0 (⟨128, by omega⟩ : Fin 144) (⟨q.val, by omega⟩ : Fin 1024)))
    - lam * ((a (ix3 0 (⟨e.val, by omega⟩ : Fin 144) (⟨512 + q.val, by omega⟩ : Fin 1024)) : EReal) * Ideal.div 1 (a (ix3 0 (⟨128, by omega⟩ : Fin 144) (⟨512 + q.val, by omega⟩ : Fin 1024))))
theorem OH_apply (a : Vec Ideal S1x144x1024 .f32) (lam : EReal) (e : Fin 128) (q : Fin 512) :
    OH (F := Ideal) a lam (ix3 0 e q) = DD a lam e q * Ideal.rsqrt (Ideal.div (∑ x : Fin 128, DD a lam x q * DD a lam x q) (Ideal.ofBits .f32 1124073472#32) + Ideal.ofBits .f32 897988541#32) := by
  unfold DD
  pointwise [OH, k0_pay923, k0_pay924, k0_pay925]

end Cert.KernelIdeal.Att

end
-- ==== Proof.AttLane.lean ====
/- One lane of the online softmax: over the key blocks a query sees, the running maximum and sums keep the invariant, and the last
   quotient is the weighted average. -/
module

public import proofs.«01_k».proof.Proof.AttPt

@[expose] public section

noncomputable section

namespace Cert.KernelIdeal.Att

open Cert.KernelIdeal Cert.KernelIdeal.Gen Idealize.ShloMosaic Idealize.ShloMosaic.View

theorem zero_bits : Ideal.ofBits .f32 0x00000000#32 = (0 : EReal) := by
  simp [Ideal.ofBits, Ideal.ieee]

/-- A value block's row: the values, or the ones under them. -/
def ub (vb : Vec Ideal S1x1x128x256 .bf16) (e : Fin 144) (k : Fin 256) : EReal :=
  if h : e.val < 128 then (vb (ix4 0 0 ⟨e.val, h⟩ k) : EReal) else 1

/-- Lane `l`'s scores are `s`. -/
def Sc (kb : ℕ → Vec Ideal S1x256x128 .bf16) (q : Vec Ideal S1x128x1024 .bf16) (l : Fin 1024) (s : ℕ → ℝ) : Prop :=
  ∀ n : ℕ, n < 32 → ∀ k : Fin 256, (SC (F := Ideal) (kb n) q (ix3 0 k l) : EReal) = ((s (256 * n + k.val) : ℝ) : EReal)
/-- Row `e`'s values are `u`. -/
def Uv (vb : ℕ → Vec Ideal S1x1x128x256 .bf16) (e : Fin 144) (u : ℕ → ℝ) : Prop :=
  ∀ n : ℕ, n < 32 → ∀ k : Fin 256, ub (vb n) e k = ((u (256 * n + k.val) : ℝ) : EReal)

variable {kb : ℕ → Vec Ideal S1x256x128 .bf16} {vb : ℕ → Vec Ideal S1x1x128x256 .bf16} {q : Vec Ideal S1x128x1024 .bf16} {l : Fin 1024}
  {s : ℕ → ℝ} {e : Fin 144} {u : ℕ → ℝ}

theorem inv_full (hs : Sc kb q l s) (hu : Uv vb e u) : ∀ n : ℕ, n ≤ 32 →
    AttMath.Inv s u (256 * n) (MM (F := Ideal) kb q n (ix3 0 0 l)) (AA (F := Ideal) k0_pay813 kb vb q n (ix3 0 e l))
  | 0, _ => Or.inl ⟨rfl, AttMath.ninf, zero_bits⟩
  | n + 1, hn => by
    rw [MM_succ, AA_succ, AF_apply]
    exact (inv_full hs hu n (by omega)).step (r := 256) (by norm_num) le_rfl (fun k => SC (F := Ideal) (kb n) q (ix3 0 k l)) (fun k => ub (vb n) e k)
      (fun k _ => hs n (by omega) k) (fun k hk => absurd k.isLt (by omega)) (fun k _ => hu n (by omega) k) (by rw [MF_apply, AttMath.ninf])

theorem MK_apply (s : Vec Ideal S1x256x1024 .f32) (k : Fin 256) (l : Fin 1024) :
    MK s (ix3 0 k l) = if l.val < 256 then (if k.val ≤ l.val then s (ix3 0 k l) else ⊥) else if l.val < 512 then s (ix3 0 k l)
    else if l.val < 768 then (if k.val + 512 ≤ l.val then s (ix3 0 k l) else ⊥) else s (ix3 0 k l) := rfl

theorem inv_diag (hs : Sc kb q l s) (hu : Uv vb e u) {i : ℕ} (hi : i < 16) {r : ℕ} (hr : r = if l.val % 512 < 256 then l.val % 512 + 1 else 256) :
    AttMath.Inv s u (256 * (2 * i) + r) (M1 (F := Ideal) kb q i (ix3 0 0 l)) (A1 (F := Ideal) kb vb q i (ix3 0 e l)) := by
  have hl := l.isLt
  unfold M1 A1
  rw [MD_apply, AD_apply, AF_apply]
  refine (inv_full hs hu (2 * i) (by omega)).step (r := r) (by subst hr; split_ifs <;> omega) (by subst hr; split_ifs <;> omega)
    (fun k => MK (SC (F := Ideal) (kb (2 * i)) q) (ix3 0 k l)) (fun k => ub (vb (2 * i)) e k)
      (fun k hk => ?_) (fun k hk => ?_) (fun k _ => hu (2 * i) (by omega) k) (by rw [MF_apply, AttMath.ninf])
  · rw [← hs (2 * i) (by omega) k]
    show MK _ (ix3 0 k l) = _
    rw [MK_apply]
    split_ifs at hr ⊢ <;> first | rfl | omega
  · have := k.isLt
    show MK _ (ix3 0 k l) = _
    rw [MK_apply]
    split_ifs at hr ⊢ <;> first | rfl | omega

/-- The maximum of one of the last 256 queries after both diagonal blocks. -/
def M2 (c : ℕ) (hc : c + 256 ≤ 1024) (kb : ℕ → Vec Ideal S1x256x128 .bf16) (q : Vec Ideal S1x128x1024 .bf16) (i : ℕ) (x : Fin 256) : EReal :=
  UM (UL (F := Ideal) (kb (2 * i + 1)) (sub (R := 128) c hc q)) (sub (R := 1) c hc (M1 (F := Ideal) kb q i)) x

theorem UL_sub (c : ℕ) (hc : c + 256 ≤ 1024) (kb : Vec Ideal S1x256x128 .bf16) (q : Vec Ideal S1x128x1024 .bf16) (k x : Fin 256) (l : Fin 1024) (hl : l.val = c + x.val) :
    UL (F := Ideal) kb (sub (R := 128) c hc q) (ix3 0 k x) = SC (F := Ideal) kb q (ix3 0 k l) := by
  have hlt : c + x.val < 1024 := by have := x.isLt; omega
  have el : l = ⟨c + x.val, hlt⟩ := Fin.ext hl
  rw [el, UL_apply, SC_apply]
  rfl

theorem inv_up (hs : Sc kb q l s) (hu : Uv vb e u) {i : ℕ} (hi : i < 16) (c : ℕ) (hc : c + 256 ≤ 1024) (x : Fin 256) (hl : l.val = c + x.val)
    (hl' : ¬ l.val % 512 < 256) :
    AttMath.Inv s u (256 * (2 * i + 1) + (x.val + 1)) (M2 c hc kb q i x) (A2 (F := Ideal) c hc kb vb q i (ix3 0 e x)) := by
  have h := inv_diag (r := 256) hs hu hi (by rw [if_neg hl'])
  have hlt : c + x.val < 1024 := by have := x.isLt; omega
  have el : l = ⟨c + x.val, hlt⟩ := Fin.ext hl
  unfold A2
  rw [AU_apply]
  refine (show AttMath.Inv s u (256 * (2 * i + 1)) (sub (R := 1) c hc (M1 (F := Ideal) kb q i) (ix3 0 0 x)) (sub (R := 144) c hc (A1 (F := Ideal) kb vb q i) (ix3 0 e x)) from by
      have e1 : (sub (R := 1) c hc (M1 (F := Ideal) kb q i) (ix3 0 0 x)) = M1 (F := Ideal) kb q i (ix3 0 0 l) := by rw [el]; rfl
      have e2 : (sub (R := 144) c hc (A1 (F := Ideal) kb vb q i) (ix3 0 e x)) = A1 (F := Ideal) kb vb q i (ix3 0 e l) := by rw [el]; rfl
      rw [e1, e2]
      exact h).step (r := x.val + 1) (by omega) (by omega)
    (fun k => if k.val ≤ x.val then (UL (F := Ideal) (kb (2 * i + 1)) (sub (R := 128) c hc q) (ix3 0 k x) : EReal) else ⊥) (fun k => ub (vb (2 * i + 1)) e k)
      (fun k hk => ?_) (fun k hk => ?_) (fun k _ => hu (2 * i + 1) (by omega) k) (by unfold M2 UM; rw [AttMath.ninf])
  · show (if _ then _ else _) = _
    rw [if_pos (by omega), UL_sub c hc _ _ k x l hl]
    exact hs (2 * i + 1) (by omega) k
  · show (if _ then _ else _) = _
    rw [if_neg (by omega)]

theorem over_miss {R : ℕ} {α : Type} (c : ℕ) (w : (⟨3, ![1, R, 256]⟩ : Shape).Idx → α) (a : (⟨3, ![1, R, 1024]⟩ : Shape).Idx → α) (e : Fin R) (l : Fin 1024)
    (h : ¬ (c ≤ l.val ∧ l.val < c + 256)) : over (R := R) c w a (ix3 0 e l) = a (ix3 0 e l) := dif_neg h
theorem over_hit {R : ℕ} {α : Type} (c : ℕ) (w : (⟨3, ![1, R, 256]⟩ : Shape).Idx → α) (a : (⟨3, ![1, R, 1024]⟩ : Shape).Idx → α) (e : Fin R) (l : Fin 1024)
    (h : c ≤ l.val ∧ l.val < c + 256) : over (R := R) c w a (ix3 0 e l) = w (ix3 0 e ⟨l.val - c, by omega⟩) := dif_pos h

/-- After every block a query sees, its lane's sums run over the keys up to itself. -/
theorem inv_end (hs : Sc kb q l s) {i : ℕ} (hi : i < 16) : ∃ mx : EReal, ∀ (e : Fin 144) (u : ℕ → ℝ), Uv vb e u →
    AttMath.Inv s u (512 * i + l.val % 512 + 1) mx (AE (F := Ideal) kb vb q i (ix3 0 e l)) := by
  have hl := l.isLt
  by_cases h1 : l.val % 512 < 256
  · refine ⟨M1 (F := Ideal) kb q i (ix3 0 0 l), fun e u hu => ?_⟩
    unfold AE
    rw [over_miss _ _ _ _ _ (by omega), over_miss _ _ _ _ _ (by omega)]
    have h := inv_diag hs hu hi (r := l.val % 512 + 1) (by rw [if_pos h1])
    rwa [show 256 * (2 * i) + (l.val % 512 + 1) = 512 * i + l.val % 512 + 1 by omega] at h
  · by_cases h2 : l.val < 512
    · refine ⟨M2 256 (by decide) kb q i ⟨l.val - 256, by omega⟩, fun e u hu => ?_⟩
      unfold AE
      rw [over_miss _ _ _ _ _ (by omega), over_hit _ _ _ _ _ (by omega)]
      have h := inv_up hs hu hi 256 (by decide) ⟨l.val - 256, by omega⟩ (by simp only []; omega) h1
      rwa [show 256 * (2 * i + 1) + (l.val - 256 + 1) = 512 * i + l.val % 512 + 1 by omega] at h
    · refine ⟨M2 768 (by decide) kb q i ⟨l.val - 768, by omega⟩, fun e u hu => ?_⟩
      unfold AE
      rw [over_hit _ _ _ _ _ (by omega)]
      have h := inv_up hs hu hi 768 (by decide) ⟨l.val - 768, by omega⟩ (by simp only []; omega) h1
      rwa [show 256 * (2 * i + 1) + (l.val - 768 + 1) = 512 * i + l.val % 512 + 1 by omega] at h

/-- A lane's quotient. -/
theorem quot_end (hs : Sc kb q l s) {i : ℕ} (hi : i < 16) (e : Fin 128) (hu : Uv vb ⟨e.val, by omega⟩ u) :
    (AE (F := Ideal) kb vb q i (ix3 0 (⟨e.val, by omega⟩ : Fin 144) l) : EReal) * Ideal.div 1 (AE (F := Ideal) kb vb q i (ix3 0 (⟨128, by omega⟩ : Fin 144) l))
      = ((AttMath.soft s u (512 * i + l.val % 512 + 1) : ℝ) : EReal) := by
  obtain ⟨mx, h⟩ := inv_end (vb := vb) hs hi
  refine (h _ u hu).quot (h ⟨128, by omega⟩ (fun _ => 1) ?_) (by omega)
  intro n hn k
  unfold ub
  rw [dif_neg (by simp only []; omega), EReal.coe_one]

theorem DD_eq {s1 s2 : ℕ → ℝ} {i : ℕ} (hi : i < 16) (x : Fin 512) (e : Fin 128) (lam : ℝ)
    (h1 : Sc kb q ⟨x.val, by omega⟩ s1) (h2 : Sc kb q ⟨512 + x.val, by omega⟩ s2) (hu : Uv vb ⟨e.val, by omega⟩ u) :
    DD (AE (F := Ideal) kb vb q i) (lam : EReal) e x
      = ((AttMath.soft s1 u (512 * i + x.val + 1) : ℝ) : EReal) - (lam : EReal) * ((AttMath.soft s2 u (512 * i + x.val + 1) : ℝ) : EReal) := by
  have hx := x.isLt
  unfold DD
  rw [quot_end h1 hi e hu, quot_end h2 hi e hu]
  simp only []
  rw [show x.val % 512 = x.val by omega, show (512 + x.val) % 512 = x.val by omega]

end Cert.KernelIdeal.Att

end
-- ==== Proof.AttRef.lean ====
/- The attention's reference, read at an index: each map's masked scores, its softmax in base 2, the weighted difference of the two
   times the values, and the rms normalisation. -/
module

public import proofs.«01_k».proof.Proof.Gen.ReferenceIdeal.Run
public import Idealize.ShloMosaic.Lib.Pointwise
public import proofs.«01_k».proof.Proof.AttMath

@[expose] public section

noncomputable section

namespace Cert.AttRef

open Cert.ReferenceIdeal Cert.ReferenceIdeal.Gen Idealize.ShloMosaic Idealize.ShloMosaic.TcCoe

variable {F : FTy → Type} [FloatOps F]

/-- The two maps' masked scores. -/
def SA (a1 : FVec F S8x16x512x512 .bf16) (a2 : FVec F S8x8192x512 .bf16) : FVec F S8x4x8192x8192 .f32 :=
  (select (broadcastInDim S8x4x8192x8192 ![2, 3] bcast_S8192x8192_S8x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S8x4x64x8192_S8x8192x4x64_S8x4x8192x8192_2_3_3_1_01_02 none (extractStridedSlice S8x4x64x8192 ![0, 0, 0, 0] (shapeCast _ (transpose S8x512x16x512 [0, 2, 1, 3] (extf .f32 a1 bitsLt_bf16_f32) transposes_S8x16x512x512_S8x512x16x512_0_2_1_3) shapeCasts_S8x512x16x512_S8x4x128x8192) slices_S8x4x128x8192_S8x4x64x8192_0_0_0_0) (extractStridedSlice S8x8192x4x64 ![0, 0, 0, 0] (shapeCast _ (extf .f32 a2 bitsLt_bf16_f32) shapeCasts_S8x8192x512_S8x8192x4x128) slices_S8x8192x4x128_S8x8192x4x64_0_0_0_0)) (broadcastInDim S8x4x8192x8192 ![] bcast_S_S8x4x8192x8192 (id (constant S_ .f32 0xFF800000#32))))
def SB (a1 : FVec F S8x16x512x512 .bf16) (a2 : FVec F S8x8192x512 .bf16) : FVec F S8x4x8192x8192 .f32 :=
  (select (broadcastInDim S8x4x8192x8192 ![2, 3] bcast_S8192x8192_S8x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S8x4x64x8192_S8x8192x4x64_S8x4x8192x8192_2_3_3_1_01_02 none (extractStridedSlice S8x4x64x8192 ![0, 0, 64, 0] (shapeCast _ (transpose S8x512x16x512 [0, 2, 1, 3] (extf .f32 a1 bitsLt_bf16_f32) transposes_S8x16x512x512_S8x512x16x512_0_2_1_3) shapeCasts_S8x512x16x512_S8x4x128x8192) slices_S8x4x128x8192_S8x4x64x8192_0_0_64_0) (extractStridedSlice S8x8192x4x64 ![0, 0, 0, 64] (shapeCast _ (extf .f32 a2 bitsLt_bf16_f32) shapeCasts_S8x8192x512_S8x8192x4x128) slices_S8x8192x4x128_S8x8192x4x64_0_0_0_64)) (broadcastInDim S8x4x8192x8192 ![] bcast_S_S8x4x8192x8192 (id (constant S_ .f32 0xFF800000#32))))
/-- A map's softmax. -/
def SMX (s : FVec F S8x4x8192x8192 .f32) : FVec F S8x4x8192x8192 .f32 :=
  (Host.divf (Host.powf (broadcastInDim S8x4x8192x8192 ![] bcast_S_S8x4x8192x8192 (constant S_ .f32 0x40000000#32)) (subf s (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduce FloatOps.maximumf s (constant S_ .f32 0xFF800000#32) reducesTo_S8x4x8192x8192_S8x4x8192_d3 h_S_))))) (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduceAdd (Host.powf (broadcastInDim S8x4x8192x8192 ![] bcast_S_S8x4x8192x8192 (constant S_ .f32 0x40000000#32)) (subf s (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduce FloatOps.maximumf s (constant S_ .f32 0xFF800000#32) reducesTo_S8x4x8192x8192_S8x4x8192_d3 h_S_))))) (constant S_ .f32 0x00000000#32) reducesTo_S8x4x8192x8192_S8x4x8192_d3 h_S_))))
/-- The difference of the maps times the values. -/
def OO (a0 : FVec F S1 .f32) (a3 : FVec F S8x32x512x256 .bf16) (p1 p2 : FVec F S8x4x8192x8192 .f32) : FVec F S8x4x128x8192 .f32 :=
  (Host.dotGeneral dot_S8x4x128x8192_S8x4x8192x8192_S8x4x128x8192_3_3_2_2_01_01 none (shapeCast _ (transpose S8x512x32x256 [0, 2, 1, 3] (extf .f32 a3 bitsLt_bf16_f32) transposes_S8x32x512x256_S8x512x32x256_0_2_1_3) shapeCasts_S8x512x32x256_S8x4x128x8192) (subf p1 (mulf (broadcastInDim S8x4x8192x8192 ![] bcast_S_S8x4x8192x8192 (shapeCast _ a0 shapeCasts_S1_S_)) p2)))
/-- The normalised output. -/
def NN (o : FVec F S8x4x128x8192 .f32) : FVec F S8x512x8192 .bf16 :=
  truncf .bf16 (shapeCast _ (mulf o (broadcastInDim S8x4x128x8192 ![0, 1, 2, 3] bcast_S8x4x1x8192_S8x4x128x8192_0_1_2_3 (Host.rsqrt (addf (Host.divf (broadcastInDim S8x4x1x8192 ![0, 1, 3] bcast_S8x4x8192_S8x4x1x8192_0_1_3 (Host.reduceAdd (mulf o o) (constant S_ .f32 0x00000000#32) reducesTo_S8x4x128x8192_S8x4x8192_d2 h_S_)) (broadcastInDim S8x4x1x8192 ![] bcast_S_S8x4x1x8192 (constant S_ .f32 0x43000000#32))) (broadcastInDim S8x4x1x8192 ![] bcast_S_S8x4x1x8192 (constant S_ .f32 0x358637BD#32)))))) shapeCasts_S8x4x128x8192_S8x512x8192) bitsLt_bf16_f32

theorem res_eq (m : (ℓ : Loc nD τ sig) → Buf (Elt F) ℓ) (c : Dev nD) :
    Value.res_main_v64 m c = NN (OO (m ((c.tc : Thread nD τ).loc main_arg0)) (m ((c.tc : Thread nD τ).loc main_arg3))
      (SMX (SA (m ((c.tc : Thread nD τ).loc main_arg1)) (m ((c.tc : Thread nD τ).loc main_arg2))))
      (SMX (SB (m ((c.tc : Thread nD τ).loc main_arg1)) (m ((c.tc : Thread nD τ).loc main_arg2))))) := rfl

set_option maxHeartbeats 1000000 in
theorem SA_apply (a1 : FVec Ideal S8x16x512x512 .bf16) (a2 : FVec Ideal S8x8192x512 .bf16) (b : Fin 8) (h : Fin 4) (q k : Fin 8192) :
    SA (F := Ideal) a1 a2 (ix4 b h q k) = if k.val ≤ q.val then ∑ x : Fin 64, (a1 (ix4 b (⟨q.val / 512, by omega⟩ : Fin 16) (⟨h.val * 128 + x.val, by omega⟩ : Fin 512) (⟨q.val % 512, by omega⟩ : Fin 512)) : EReal) * a2 (ix3 b k (⟨h.val * 128 + x.val, by omega⟩ : Fin 512)) else ⊥ := by
  have e : SA (F := Ideal) a1 a2 (ix4 b h q k) = Scalar.select (IntOp.cmpi .sle (BitVec.ofNat 32 k.val) (BitVec.ofNat 32 q.val)) (∑ x : Fin 64, (a1 (ix4 b (⟨q.val / 512, by omega⟩ : Fin 16) (⟨h.val * 128 + x.val, by omega⟩ : Fin 512) (⟨q.val % 512, by omega⟩ : Fin 512)) : EReal) * a2 (ix3 b k (⟨h.val * 128 + x.val, by omega⟩ : Fin 512))) (Ideal.ofBits .f32 0xFF800000#32) := by
    pointwise [SA]
    rfl
  rw [e, AttMath.sle_word (by omega) (by omega), Scalar.select_decide, AttMath.ninf]

set_option maxHeartbeats 1000000 in
theorem SB_apply (a1 : FVec Ideal S8x16x512x512 .bf16) (a2 : FVec Ideal S8x8192x512 .bf16) (b : Fin 8) (h : Fin 4) (q k : Fin 8192) :
    SB (F := Ideal) a1 a2 (ix4 b h q k) = if k.val ≤ q.val then ∑ x : Fin 64, (a1 (ix4 b (⟨q.val / 512, by omega⟩ : Fin 16) (⟨h.val * 128 + (64 + x.val), by omega⟩ : Fin 512) (⟨q.val % 512, by omega⟩ : Fin 512)) : EReal) * a2 (ix3 b k (⟨h.val * 128 + (64 + x.val), by omega⟩ : Fin 512)) else ⊥ := by
  have e : SB (F := Ideal) a1 a2 (ix4 b h q k) = Scalar.select (IntOp.cmpi .sle (BitVec.ofNat 32 k.val) (BitVec.ofNat 32 q.val)) (∑ x : Fin 64, (a1 (ix4 b (⟨q.val / 512, by omega⟩ : Fin 16) (⟨h.val * 128 + (64 + x.val), by omega⟩ : Fin 512) (⟨q.val % 512, by omega⟩ : Fin 512)) : EReal) * a2 (ix3 b k (⟨h.val * 128 + (64 + x.val), by omega⟩ : Fin 512))) (Ideal.ofBits .f32 0xFF800000#32) := by
    pointwise [SB]
    rfl
  rw [e, AttMath.sle_word (by omega) (by omega), Scalar.select_decide, AttMath.ninf]

set_option maxHeartbeats 1000000 in
theorem SMX_apply (s : FVec Ideal S8x4x8192x8192 .f32) (b : Fin 8) (h : Fin 4) (q k : Fin 8192) :
    SMX (F := Ideal) s (ix4 b h q k) = Ideal.div (Ideal.pow ((2 : ℝ) : EReal) ((s (ix4 b h q k) : EReal) - Finset.fold max (⊥ : EReal) (fun x : Fin 8192 => (s (ix4 b h q x) : EReal)) Finset.univ))
      (∑ y : Fin 8192, Ideal.pow ((2 : ℝ) : EReal) ((s (ix4 b h q y) : EReal) - Finset.fold max (⊥ : EReal) (fun x : Fin 8192 => (s (ix4 b h q x) : EReal)) Finset.univ)) := by
  rw [← AttMath.two, ← AttMath.ninf]
  pointwise [SMX]
set_option maxHeartbeats 1000000 in
theorem OO_apply (a0 : FVec Ideal S1 .f32) (a3 : FVec Ideal S8x32x512x256 .bf16) (p1 p2 : FVec Ideal S8x4x8192x8192 .f32) (b : Fin 8) (h : Fin 4) (e : Fin 128) (q : Fin 8192) :
    OO (F := Ideal) a0 a3 p1 p2 (ix4 b h e q) = ∑ x : Fin 8192, (a3 (ix4 b (⟨x.val / 256, by omega⟩ : Fin 32) (⟨h.val * 128 + e.val, by omega⟩ : Fin 512) (⟨x.val % 256, by omega⟩ : Fin 256)) : EReal)
      * ((p1 (ix4 b h q x) : EReal) - a0 (ix1 (0 : Fin 1)) * p2 (ix4 b h q x)) := by
  pointwise [OO]
set_option maxHeartbeats 1000000 in
theorem NN_apply (o : FVec Ideal S8x4x128x8192 .f32) (b : Fin 8) (r : Fin 512) (q : Fin 8192) :
    NN (F := Ideal) o (ix3 b r q) = (o (ix4 b (⟨r.val / 128, by omega⟩ : Fin 4) (⟨r.val % 128, by omega⟩ : Fin 128) q) : EReal)
      * Ideal.rsqrt (Ideal.div (∑ x : Fin 128, (o (ix4 b (⟨r.val / 128, by omega⟩ : Fin 4) x q) : EReal) * o (ix4 b (⟨r.val / 128, by omega⟩ : Fin 4) x q)) (Ideal.ofBits .f32 1124073472#32) + Ideal.ofBits .f32 897988541#32) := by
  pointwise [NN]

end Cert.AttRef

end
-- ==== Proof.AttVal.lean ====
/- The attention call's result is its reference's, at real arguments. -/
module

public import proofs.«01_k».proof.Proof.AttOut
public import proofs.«01_k».proof.Proof.AttLane
public import proofs.«01_k».proof.Proof.AttRef

@[expose] public section

set_option maxRecDepth 16384

noncomputable section

namespace Cert.KernelIdeal.Att

open Cert.KernelIdeal Cert.KernelIdeal.Gen Idealize.ShloMosaic Idealize.ShloMosaic.TcCoe

/-- A number below infinity in absolute value is real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  induction x using EReal.rec with
  | bot => simp [Ideal.cmp] at h
  | coe r => exact ⟨r, rfl⟩
  | top => simp [Ideal.cmp] at h

section

variable (m : (ℓ : Loc nD τ sig) → Buf (Elt Ideal) ℓ) (c : Dev nD)
  (lam : ℝ) (A1 : S8x16x512x512.Idx → ℝ) (A2 : S8x8192x512.Idx → ℝ) (A3 : S8x32x512x256.Idx → ℝ)

/-- A map's score of a key against a query, in real numbers. -/
def sR (b : Fin 8) (h : Fin 4) (o : ℕ) (ho : o ≤ 64) (q : Fin 8192) (k : ℕ) : ℝ :=
  ∑ x : Fin 64, A1 (ix4 b (⟨q.val / 512, by omega⟩ : Fin 16) (⟨h.val * 128 + (o + x.val), by omega⟩ : Fin 512) (⟨q.val % 512, by omega⟩ : Fin 512))
    * A2 (ix3 b (⟨k % 8192, Nat.mod_lt _ (by decide)⟩ : Fin 8192) (⟨h.val * 128 + (o + x.val), by omega⟩ : Fin 512))
/-- A key's value. -/
def vR (b : Fin 8) (h : Fin 4) (e : Fin 128) (k : ℕ) : ℝ :=
  A3 (ix4 b (⟨k / 256 % 32, Nat.mod_lt _ (by decide)⟩ : Fin 32) (⟨h.val * 128 + e.val, by omega⟩ : Fin 512) (⟨k % 256, Nat.mod_lt _ (by decide)⟩ : Fin 256))

variable (h1 : ∀ j : S8x16x512x512.Idx, (m ((c : Thread nD τ).loc main_arg1) j : EReal) = (A1 j : EReal))
  (h2 : ∀ j : S8x8192x512.Idx, (m ((c : Thread nD τ).loc main_arg2) j : EReal) = (A2 j : EReal))
  (h3 : ∀ j : S8x32x512x256.Idx, (m ((c : Thread nD τ).loc main_arg3) j : EReal) = (A3 j : EReal))
  (h0 : (m ((c : Thread nD τ).loc main_arg0) (ix1 (0 : Fin 1)) : EReal) = (lam : EReal))

theorem ix3_congr {n0 n1 n2 : ℕ} {a a' : Fin n0} {b b' : Fin n1} {d d' : Fin n2} (ha : a.val = a'.val) (hb : b.val = b'.val) (hd : d.val = d'.val) :
    ix3 a b d = ix3 a' b' d' := by rw [Fin.ext ha, Fin.ext hb, Fin.ext hd]
theorem ix4_congr {n0 n1 n2 n3 : ℕ} {a a' : Fin n0} {b b' : Fin n1} {d d' : Fin n2} {f f' : Fin n3} (ha : a.val = a'.val) (hb : b.val = b'.val) (hd : d.val = d'.val)
    (hf : f.val = f'.val) : ix4 a b d f = ix4 a' b' d' f' := by rw [Fin.ext ha, Fin.ext hb, Fin.ext hd, Fin.ext hf]

include h2 in
theorem KB_apply (b : Fin 8) (h : Fin 4) (n : ℕ) (hn : n < 32) (k : Fin 256) (d : Fin 128) :
    (KB (F := Ideal) m c b.val h.val n (ix3 0 k d) : EReal) = ((A2 (ix3 b (⟨(256 * n + k.val) % 8192, Nat.mod_lt _ (by decide)⟩ : Fin 8192) (⟨h.val * 128 + d.val, by omega⟩ : Fin 512)) : ℝ) : EReal) := by
  rw [← h2]
  exact congrArg (m ((c : Thread nD τ).loc main_arg2)) (ix3_congr (show b.val % 8 = b.val by omega) rfl (show (128 * h.val + d.val) % 512 = h.val * 128 + d.val by omega))
include h1 in
theorem QB_apply (b : Fin 8) (h : Fin 4) (q : Fin 8192) (d : Fin 128) (x : Fin 512) (hx : x.val = q.val % 512) :
    (QB (F := Ideal) m c b.val h.val (q.val / 512) (ix4 0 0 d x) : EReal) = ((A1 (ix4 b (⟨q.val / 512, by omega⟩ : Fin 16) (⟨h.val * 128 + d.val, by omega⟩ : Fin 512) (⟨q.val % 512, by omega⟩ : Fin 512)) : ℝ) : EReal) := by
  rw [← h1]
  exact congrArg (m ((c : Thread nD τ).loc main_arg1)) (ix4_congr (show b.val % 8 = b.val by omega) (show q.val / 512 % 16 = q.val / 512 by omega) (show (128 * h.val + d.val) % 512 = h.val * 128 + d.val by omega) hx)
include h3 in
theorem Uv_VB (b : Fin 8) (h : Fin 4) (e : Fin 128) : Uv (VB (F := Ideal) m c b.val h.val) ⟨e.val, by omega⟩ (vR A3 b h e) := by
  intro n hn k
  unfold ub vR
  rw [dif_pos e.isLt, ← h3]
  exact congrArg (m ((c : Thread nD τ).loc main_arg3)) (ix4_congr (show b.val % 8 = b.val by omega) (show n % 32 = (256 * n + k.val) / 256 % 32 by omega)
    (show (128 * h.val + e.val) % 512 = h.val * 128 + e.val by omega) (show k.val = (256 * n + k.val) % 256 by omega))

theorem split128 (f : Fin 128 → EReal) : ∑ d : Fin 128, f d = (∑ x : Fin 64, f ⟨x.val, by omega⟩) + ∑ x : Fin 64, f ⟨64 + x.val, by omega⟩ :=
  Fin.sum_univ_add (a := 64) (b := 64) f

include h1 h2 in
theorem Sc0 (b : Fin 8) (h : Fin 4) (q : Fin 8192) :
    Sc (KB (F := Ideal) m c b.val h.val) (QM (F := Ideal) (QB m c b.val h.val (q.val / 512))) ⟨q.val % 512, by omega⟩ (sR A1 A2 b h 0 (by decide) q) := by
  intro n hn k
  have hq : q.val % 512 < 512 := Nat.mod_lt _ (by decide)
  rw [SC_apply, split128]
  unfold sR
  rw [AttMath.coe_sum]
  have e2 : (∑ x : Fin 64, (KB (F := Ideal) m c b.val h.val n (ix3 0 k (⟨64 + x.val, by omega⟩ : Fin 128)) : EReal)
      * QM (F := Ideal) (QB m c b.val h.val (q.val / 512)) (ix3 0 (⟨64 + x.val, by omega⟩ : Fin 128) (⟨q.val % 512, by omega⟩ : Fin 1024))) = 0 :=
    Finset.sum_eq_zero fun x _ => by
      rw [QM_apply, dif_pos hq, if_neg (by simp only []; omega), mul_zero]
  rw [e2, add_zero]
  refine Finset.sum_congr rfl fun x _ => ?_
  rw [QM_apply, dif_pos hq, if_pos (by simp only []; omega), KB_apply m c A2 h2 b h n hn, QB_apply m c A1 h1 b h q _ _ rfl, EReal.coe_mul, mul_comm]
  simp only [Nat.zero_add]

include h1 h2 in
theorem Sc1 (b : Fin 8) (h : Fin 4) (q : Fin 8192) :
    Sc (KB (F := Ideal) m c b.val h.val) (QM (F := Ideal) (QB m c b.val h.val (q.val / 512))) ⟨512 + q.val % 512, by omega⟩ (sR A1 A2 b h 64 (by decide) q) := by
  intro n hn k
  have hq : ¬ 512 + q.val % 512 < 512 := by omega
  rw [SC_apply, split128]
  unfold sR
  rw [AttMath.coe_sum]
  have e2 : (∑ x : Fin 64, (KB (F := Ideal) m c b.val h.val n (ix3 0 k (⟨x.val, by omega⟩ : Fin 128)) : EReal)
      * QM (F := Ideal) (QB m c b.val h.val (q.val / 512)) (ix3 0 (⟨x.val, by omega⟩ : Fin 128) (⟨512 + q.val % 512, by omega⟩ : Fin 1024))) = 0 :=
    Finset.sum_eq_zero fun x _ => by
      rw [QM_apply, dif_neg hq, if_neg (by simp only []; omega), mul_zero]
  rw [e2, zero_add]
  refine Finset.sum_congr rfl fun x _ => ?_
  rw [QM_apply, dif_neg hq, if_pos (by simp only []; omega), KB_apply m c A2 h2 b h n hn, QB_apply m c A1 h1 b h q _ _ (by simp only []; omega), EReal.coe_mul, mul_comm]

/-- The reference's masked scores of one query. -/
theorem row0 (b : Fin 8) (h : Fin 4) (q k : Fin 8192) (a1 : FVec Ideal S8x16x512x512 .bf16) (a2 : FVec Ideal S8x8192x512 .bf16)
    (h1 : ∀ j, (a1 j : EReal) = (A1 j : EReal)) (h2 : ∀ j, (a2 j : EReal) = (A2 j : EReal)) :
    (AttRef.SA (F := Ideal) a1 a2 (ix4 b h q k) : EReal) = if k.val ≤ q.val then ((sR A1 A2 b h 0 (by decide) q k.val : ℝ) : EReal) else ⊥ := by
  rw [AttRef.SA_apply]
  refine if_congr Iff.rfl ?_ rfl
  unfold sR
  rw [AttMath.coe_sum]
  refine Finset.sum_congr rfl fun x _ => ?_
  rw [h1, h2, ← EReal.coe_mul]
  congr 1
  rw [show (⟨k.val % 8192, Nat.mod_lt _ (by decide)⟩ : Fin 8192) = k from Fin.ext (Nat.mod_eq_of_lt k.isLt)]
  simp only [Nat.zero_add]
theorem row1 (b : Fin 8) (h : Fin 4) (q k : Fin 8192) (a1 : FVec Ideal S8x16x512x512 .bf16) (a2 : FVec Ideal S8x8192x512 .bf16)
    (h1 : ∀ j, (a1 j : EReal) = (A1 j : EReal)) (h2 : ∀ j, (a2 j : EReal) = (A2 j : EReal)) :
    (AttRef.SB (F := Ideal) a1 a2 (ix4 b h q k) : EReal) = if k.val ≤ q.val then ((sR A1 A2 b h 64 (by decide) q k.val : ℝ) : EReal) else ⊥ := by
  rw [AttRef.SB_apply]
  refine if_congr Iff.rfl ?_ rfl
  unfold sR
  rw [AttMath.coe_sum]
  refine Finset.sum_congr rfl fun x _ => ?_
  rw [h1, h2, ← EReal.coe_mul]
  congr 1
  rw [show (⟨k.val % 8192, Nat.mod_lt _ (by decide)⟩ : Fin 8192) = k from Fin.ext (Nat.mod_eq_of_lt k.isLt)]

/-- A softmax row of the reference, at a query whose masked scores are real up to itself. -/
theorem smx (s : FVec Ideal Cert.ReferenceIdeal.S8x4x8192x8192 .f32) (b : Fin 8) (h : Fin 4) (q k : Fin 8192) (f : ℕ → ℝ)
    (hs : ∀ k : Fin 8192, (s (ix4 b h q k) : EReal) = if k.val ≤ q.val then ((f k.val : ℝ) : EReal) else ⊥) :
    (AttRef.SMX (F := Ideal) s (ix4 b h q k) : EReal)
      = (((if k.val < q.val + 1 then Real.rpow 2 (f k.val) / ∑ x ∈ Finset.range (q.val + 1), Real.rpow 2 (f x) else 0) : ℝ) : EReal) := by
  rw [AttRef.SMX_apply]
  exact AttMath.weight f (q.val + 1) (by omega) (by omega) (fun x : Fin 8192 => (s (ix4 b h q x) : EReal))
    (fun k hk => by rw [hs, if_pos (by omega)]) (fun k hk => by rw [hs, if_neg (by omega)]) k

include h1 h2 h3 h0 in
/-- The two maps' difference, kernel and reference. -/
theorem DD_OO (b : Fin 8) (h : Fin 4) (e : Fin 128) (q : Fin 8192) :
    DD (AE (F := Ideal) (KB m c b.val h.val) (VB m c b.val h.val) (QM (F := Ideal) (QB m c b.val h.val (q.val / 512))) (q.val / 512)) (LM (F := Ideal) m c) e (⟨q.val % 512, by omega⟩ : Fin 512)
      = AttRef.OO (F := Ideal) (m ((c : Thread nD τ).loc main_arg0)) (m ((c : Thread nD τ).loc main_arg3))
        (AttRef.SMX (AttRef.SA (m ((c : Thread nD τ).loc main_arg1)) (m ((c : Thread nD τ).loc main_arg2))))
        (AttRef.SMX (AttRef.SB (m ((c : Thread nD τ).loc main_arg1)) (m ((c : Thread nD τ).loc main_arg2)))) (ix4 b h e q) := by
  rw [AttRef.OO_apply, show LM (F := Ideal) m c = (lam : EReal) from h0, h0,
    DD_eq (u := vR A3 b h e) (by omega) (⟨q.val % 512, by omega⟩ : Fin 512) e lam (Sc0 m c A1 A2 h1 h2 b h q) (Sc1 m c A1 A2 h1 h2 b h q) (Uv_VB m c A3 h3 b h e)]
  rw [AttMath.diff (sR A1 A2 b h 0 (by decide) q) (sR A1 A2 b h 64 (by decide) q) (vR A3 b h e) lam (q.val + 1) (by omega) _ _ _
    (fun k => by
      rw [h3]
      unfold vR
      exact congrArg (fun j => ((A3 j : ℝ) : EReal)) (ix4_congr rfl (show k.val / 256 = k.val / 256 % 32 by omega) rfl rfl))
    (fun k => smx _ b h q k _ fun k => row0 A1 A2 b h q k _ _ h1 h2) (fun k => smx _ b h q k _ fun k => row1 A1 A2 b h q k _ _ h1 h2)]
  rw [show 512 * (q.val / 512) + (⟨q.val % 512, by omega⟩ : Fin 512).val + 1 = q.val + 1 from by simp only []; omega]

include h1 h2 h3 h0 in
theorem G_eq_real : G (F := Ideal) m c
      = AttRef.NN (AttRef.OO (F := Ideal) (m ((c : Thread nD τ).loc main_arg0)) (m ((c : Thread nD τ).loc main_arg3))
        (AttRef.SMX (AttRef.SA (m ((c : Thread nD τ).loc main_arg1)) (m ((c : Thread nD τ).loc main_arg2))))
        (AttRef.SMX (AttRef.SB (m ((c : Thread nD τ).loc main_arg1)) (m ((c : Thread nD τ).loc main_arg2))))) := by
  funext y
  have e : y = ix3 (y 0 : Fin 8) (y 1 : Fin 512) (y 2 : Fin 8192) := by
    funext a
    match a with
    | ⟨0, _⟩ => rfl
    | ⟨1, _⟩ => rfl
    | ⟨2, _⟩ => rfl
  obtain ⟨b, r, q, rfl⟩ : ∃ (b : Fin 8) (r : Fin 512) (q : Fin 8192), y = ix3 b r q := ⟨y 0, y 1, y 2, e⟩
  clear e
  refine Eq.trans ?_ (AttRef.NN_apply _ b r q).symm
  show OH (F := Ideal) (AE (KB m c b.val (r.val / 128)) (VB m c b.val (r.val / 128)) (QM (QB m c b.val (r.val / 128) (q.val / 512))) (q.val / 512)) (LM m c)
    (ix3 (0 : Fin 1) (⟨r.val % 128, _⟩ : Fin 128) (⟨q.val % 512, _⟩ : Fin 512)) = _
  rw [OH_apply]
  have h := fun e => DD_OO m c lam A1 A2 A3 h1 h2 h3 h0 b (⟨r.val / 128, by omega⟩ : Fin 4) e q
  simp only [] at h
  simp only [h]

end

end Cert.KernelIdeal.Att

end
-- ==== Proof.OutPay.lean ====
/- The output projection, chunk by chunk: each of the four row chunks' stored payload, read at an index, is ONE row function
   (`rowOut`) of the loaded blocks' rows; the four payloads are cut differently by the printer and are the same function. -/
module

public import proofs.«01_k».proof.Proof.Gen.Kernel2Ideal.Skeleton
public import Idealize.ShloMosaic.Lib.Pointwise

@[expose] public section

noncomputable section

namespace Cert.OutRow

open Idealize.ShloMosaic

/-- The 0.8 factor and the epsilon, as the words the programs write. -/
abbrev cLam : EReal := Ideal.ofBits .f32 0x3F4CCCCD#32
abbrev cN : EReal := Ideal.ofBits .f32 0x44800000#32
abbrev cEps : EReal := Ideal.ofBits .f32 0x358637BD#32

/-- The gated sum of the two mixers' projections, before the last product: one row. -/
def mid (oa ob sdg gain : Fin 512 → EReal) (gma gmb : Fin 1024 → EReal) (wa wb : Fin 512 → Fin 1024 → EReal) (d : Fin 1024) : EReal :=
  gma d * (∑ k : Fin 512, oa k * wa k d) + gmb d * (∑ k : Fin 512, ob k * (gain k * cLam) * sdg k * wb k d)

/-- The row of the last product. -/
def yRow (M : Fin 1024 → EReal) (wo : Fin 1024 → Fin 1024 → EReal) (n : Fin 1024) : EReal := ∑ d : Fin 1024, M d * wo d n

/-- The row's residual output: the gated rms-normalised row added to `x`. -/
def resRow (y gp x gate : Fin 1024 → EReal) (n : Fin 1024) : EReal :=
  x n + gate n * (y n * Ideal.rsqrt (Ideal.div (∑ l : Fin 1024, y l * y l) cN + cEps) * gp n)

end Cert.OutRow

namespace Cert.OutPay

open Cert.Kernel2Ideal Cert.Kernel2Ideal.Gen Cert.OutRow Idealize.ShloMosaic

variable (x0 : FVec Ideal S1x256x512 .bf16) (wa wb : FVec Ideal S512x1024 .bf16) (x1 : FVec Ideal S1x512x256 .bf16) (g : FVec Ideal S1x512 .f32)
  (x2 : FVec Ideal S1x256x512 .bf16) (ga gb : FVec Ideal S1x256x1024 .bf16) (wo : FVec Ideal S1024x1024 .bf16)
  (gp : FVec Ideal S1x1024 .f32) (x : FVec Ideal S1x256x1024 .f32) (md : FVec Ideal S1x1x1024 .f32)

/-- The chunk's row function, of the loaded pieces. -/
def rowOf (r : Fin 256) (n : Fin 1024) : EReal :=
  resRow (yRow (mid (fun k => x0 (ix3 0 r k)) (fun k => x1 (ix3 0 k r)) (fun k => x2 (ix3 0 r k)) (fun k => g (ix2 0 k))
      (fun d => ga (ix3 0 r d)) (fun d => gb (ix3 0 r d)) (fun k d => wa (ix2 k d)) (fun k d => wb (ix2 k d)))
    (fun d n => wo (ix2 d n))) (fun n => gp (ix2 0 n)) (fun n => x (ix3 0 r n)) (fun n => md (ix3 0 0 n)) n

/-- Chunk 0 (rows 0–255). -/
theorem pay0 (r : Fin 256) (n : Fin 1024) :
    k0_pay5 (F := Ideal) (k0_pay3 (k0_pay2 x0 wa x1 g x2 wb ga gb) wo (constant S256x1024 .f32 0x00000000#32)) gp x md (ix3 0 r n)
      = rowOf x0 wa wb x1 g x2 ga gb wo gp x md r n := by
  pointwise [k0_pay5, k0_pay3, k0_pay2, rowOf, resRow, yRow, mid]

/-- Chunk 1 (rows 256–511). -/
theorem pay1 (r : Fin 256) (n : Fin 1024) :
    k0_pay12 (F := Ideal) (k0_pay10 (k0_pay4 x0 wa x1 g x2 wb ga gb wo) gp) (k0_pay11 x) md (ix3 0 r n)
      = rowOf x0 wa wb x1 g x2 ga gb wo gp x md r n := by
  pointwise [k0_pay12, k0_pay10, k0_pay11, k0_pay4, rowOf, resRow, yRow, mid]

/-- Chunk 2 (rows 512–767). -/
theorem pay2 (r : Fin 256) (n : Fin 1024) :
    k0_pay16 (F := Ideal) (k0_pay9 (k0_pay6 x0 wa) (k0_pay7 x1) g (k0_pay8 (F := Ideal)) x2 wb ga gb wo) gp x md (ix3 0 r n)
      = rowOf x0 wa wb x1 g x2 ga gb wo gp x md r n := by
  pointwise [k0_pay16, k0_pay9, k0_pay6, k0_pay7, k0_pay8, rowOf, resRow, yRow, mid]

/-- Chunk 3 (rows 768–1023). -/
theorem pay3 (r : Fin 256) (n : Fin 1024) :
    k0_pay1 (F := Ideal) (k0_pay15 (k0_pay13 x1 g x2 wb) (k0_pay14 x0 wa ga) gb wo)
        (k0_pay17 (k0_pay13 x1 g x2 wb) (k0_pay14 x0 wa ga) gb wo) (Scalar.ofBits .f32 0x358637BD#32) gp x md (ix3 0 r n)
      = rowOf x0 wa wb x1 g x2 ga gb wo gp x md r n := by
  pointwise [k0_pay1, k0_pay15, k0_pay17, k0_pay13, k0_pay14, rowOf, resRow, yRow, mid]

end Cert.OutPay
-- ==== Proof.OutBlock.lean ====
/- The output projection's block: the four chunks' stores tile the (1024, 1024) block, each row of it the row function of
   the windows' rows; then the array after the run, block by block, is the same row function of the argument arrays. -/
module

public import proofs.«01_k».proof.Proof.OutPay
public import proofs.«01_k».proof.Proof.Gen.Kernel2Ideal.Value
public import Idealize.ShloMosaic.Lib.Pipeline.ValueKit

@[expose] public section

noncomputable section

namespace Cert.OutBlock

open Cert.Kernel2Ideal Cert.Kernel2Ideal.Gen Cert.OutRow Cert.OutPay Idealize.ShloMosaic Idealize.ShloMosaic.TcCoe Idealize.SL.Sem
open Idealize.ShloMosaic.Pipeline (Dat)

section Block
variable (x0 : Vec Ideal S1x1024x512 .bf16) (x1 : Vec Ideal S1x512x1024 .bf16) (x2 : Vec Ideal S1x1024x512 .bf16) (x3 : Vec Ideal S1x512 .f32)
  (x4 x5 : Vec Ideal S1x1024x1024 .bf16) (x6 : Vec Ideal S1x1024x1024 .f32) (x7 : Vec Ideal S1x3x1024 .f32) (x8 : Vec Ideal S1x1024 .f32)
  (x9 x10 : Vec Ideal S512x1024 .bf16) (x11 : Vec Ideal S1024x1024 .bf16)

/-- The block's element at row `s`, column `n`, of the windows' blocks. -/
def at_ (s : Fin 1024) (n : Fin 1024) : EReal :=
  resRow (yRow (mid (fun k => x0 (ix3 0 s k)) (fun k => x1 (ix3 0 k s)) (fun k => x2 (ix3 0 s k)) (fun k => x3 (ix2 0 k))
      (fun d => x4 (ix3 0 s d)) (fun d => x5 (ix3 0 s d)) (fun k d => x9 (ix2 k d)) (fun k d => x10 (ix2 k d)))
    (fun d n => x11 (ix2 d n))) (fun n => x8 (ix2 0 n)) (fun n => x6 (ix3 0 s n)) (fun n => x7 (ix3 0 2 n)) n

/-- Loads of a chunk of rows read the block's row. -/
theorem rowOf_ld (o : Nat) (h0 : ∀ a, ![0, o, 0] a + S1x256x512.size a ≤ S1x1024x512.size a)
    (h1 : ∀ a, ![0, 0, o] a + S1x512x256.size a ≤ S1x512x1024.size a)
    (h4 : ∀ a, ![0, o, 0] a + S1x256x1024.size a ≤ S1x1024x1024.size a) (r : Fin 256) (n : Fin 1024) (s : Fin 1024) (hs : s.val = o + r.val) :
    rowOf (View.ld x0 (Rect.unit (s := S1x1024x512) ![0, o, 0] S1x256x512.size h0)) (View.ld x9 r0_1) (View.ld x10 r0_1)
      (View.ld x1 (Rect.unit (s := S1x512x1024) ![0, 0, o] S1x512x256.size h1)) (View.ld x3 r0_3)
      (View.ld x2 (Rect.unit (s := S1x1024x512) ![0, o, 0] S1x256x512.size h0))
      (View.ld x4 (Rect.unit (s := S1x1024x1024) ![0, o, 0] S1x256x1024.size h4))
      (View.ld x5 (Rect.unit (s := S1x1024x1024) ![0, o, 0] S1x256x1024.size h4)) (View.ld x11 r0_5) (View.ld x8 r0_9)
      (View.ld x6 (Rect.unit (s := S1x1024x1024) ![0, o, 0] S1x256x1024.size h4)) (View.ld x7 r0_10) r n
      = at_ x0 x1 x2 x3 x4 x5 x6 x7 x8 x9 x10 x11 s n := by
  have e9 : View.ld x9 r0_1 = x9 := View.ld_unit_lit _ _ (by decide)
  have e10 : View.ld x10 r0_1 = x10 := View.ld_unit_lit _ _ (by decide)
  have e3 : View.ld x3 r0_3 = x3 := View.ld_unit_lit _ _ (by decide)
  have e11 : View.ld x11 r0_5 = x11 := View.ld_unit_lit _ _ (by decide)
  have e8 : View.ld x8 r0_9 = x8 := View.ld_unit_lit _ _ (by decide)
  have e0 (k : Fin 512) (x : Vec Ideal S1x1024x512 .bf16) : View.ld x (Rect.unit (s := S1x1024x512) ![0, o, 0] ![1, 256, 512] h0) (ix3 0 r k) = x (ix3 0 s k) :=
    View.ld_unit_apply_of _ _ _ _ _ _ fun a => by
      match a with
      | ⟨0, _⟩ => rfl
      | ⟨1, _⟩ => exact hs
      | ⟨2, _⟩ => exact (Nat.zero_add _).symm
  have e1 (k : Fin 512) : View.ld x1 (Rect.unit (s := S1x512x1024) ![0, 0, o] ![1, 512, 256] h1) (ix3 0 k r) = x1 (ix3 0 k s) :=
    View.ld_unit_apply_of _ _ _ _ _ _ fun a => by
      match a with
      | ⟨0, _⟩ => rfl
      | ⟨1, _⟩ => exact (Nat.zero_add _).symm
      | ⟨2, _⟩ => exact hs
  have e4 (k : Fin 1024) (x : Vec Ideal S1x1024x1024 .bf16) : View.ld x (Rect.unit (s := S1x1024x1024) ![0, o, 0] ![1, 256, 1024] h4) (ix3 0 r k) = x (ix3 0 s k) :=
    View.ld_unit_apply_of _ _ _ _ _ _ fun a => by
      match a with
      | ⟨0, _⟩ => rfl
      | ⟨1, _⟩ => exact hs
      | ⟨2, _⟩ => exact (Nat.zero_add _).symm
  have e6 (k : Fin 1024) (x : Vec Ideal S1x1024x1024 .f32) : View.ld x (Rect.unit (s := S1x1024x1024) ![0, o, 0] ![1, 256, 1024] h4) (ix3 0 r k) = x (ix3 0 s k) :=
    View.ld_unit_apply_of _ _ _ _ _ _ fun a => by
      match a with
      | ⟨0, _⟩ => rfl
      | ⟨1, _⟩ => exact hs
      | ⟨2, _⟩ => exact (Nat.zero_add _).symm
  have e7 (k : Fin 1024) : View.ld x7 r0_10 (ix3 0 0 k) = x7 (ix3 0 2 k) :=
    View.ld_unit_apply_of _ _ _ _ _ _ fun a => by
      match a with
      | ⟨0, _⟩ => rfl
      | ⟨1, _⟩ => rfl
      | ⟨2, _⟩ => exact (Nat.zero_add _).symm
  unfold rowOf at_
  rw [e9, e10, e3, e11, e8]
  have e00 := fun k => e0 k x0
  have e02 := fun k => e0 k x2
  have e44 := fun k => e4 k x4
  have e45 := fun k => e4 k x5
  have e66 := fun k => e6 k x6
  simp only [e00, e02, e1, e44, e45, e66, e7]

/-- The block's contents, as a function of the block index. -/
def blkF : Vec Ideal S1x1024x1024 .f32 := fun y => at_ x0 x1 x2 x3 x4 x5 x6 x7 x8 x9 x10 x11 (y 1) (y 2)

omit x0 x1 x2 x3 x4 x5 x6 x7 x8 x9 x10 x11 in
theorem idx3 {n1 n2 : Nat} (x : (⟨3, ![1, n1, n2]⟩ : Shape).Idx) : x = ix3 0 (x 1) (x 2) := by
  funext a
  match a with
  | ⟨0, _⟩ => exact Subsingleton.elim (α := Fin 1) _ _
  | ⟨1, _⟩ => rfl
  | ⟨2, _⟩ => rfl

/-- A stored chunk of rows is the block's function read through its rectangle. -/
theorem piece {x0 x1 x2 x3 x4 x5 x6 x7 x8 x9 x10 x11} (o : Nat) (ho : o + 256 ≤ 1024) (h4 : ∀ a, ![0, o, 0] a + S1x256x1024.size a ≤ S1x1024x1024.size a)
    (w : FVec Ideal S1x256x1024 .f32)
    (hw : ∀ (r : Fin 256) (n : Fin 1024), w (ix3 0 r n) = at_ x0 x1 x2 x3 x4 x5 x6 x7 x8 x9 x10 x11 ⟨o + r.val, by omega⟩ n)
    (x : S1x256x1024.Idx) :
    w x = blkF x0 x1 x2 x3 x4 x5 x6 x7 x8 x9 x10 x11 ((Rect.unit (s := S1x1024x1024) ![0, o, 0] S1x256x1024.size h4).emb x) := by
  refine (congrArg w (idx3 x)).trans ((hw (x 1) (x 2)).trans ?_)
  refine congrArg₂ (at_ x0 x1 x2 x3 x4 x5 x6 x7 x8 x9 x10 x11) (Fin.ext ?_) (Fin.ext ?_)
  · show o + (x 1).val = o + 1 * (x 1).val
    omega
  · show (x 2).val = 0 + 1 * (x 2).val
    omega

/-- The block after the body, element by element. -/
theorem out_eq (y : S1x1024x1024.Idx) : out0_12 (F := Ideal) x0 x1 x2 x3 x4 x5 x6 x7 x8 x9 x10 x11 y = blkF x0 x1 x2 x3 x4 x5 x6 x7 x8 x9 x10 x11 y := by
  unfold out0_12 k0_pay18 k0_pay19
  refine View.canon_apply_of_pieces (blkF x0 x1 x2 x3 x4 x5 x6 x7 x8 x9 x10 x11) _ ?_ y (cover0_12 _ _ _ _ y)
  intro p hp x
  simp only [List.mem_cons, List.not_mem_nil, or_false] at hp
  rcases hp with rfl | rfl | rfl | rfl
  · exact piece 768 (by omega) inb_S1x1024x1024_S1x256x1024_0_768_0 _ (fun r n => (pay3 _ _ _ _ _ _ _ _ _ _ _ _ r n).trans
      (rowOf_ld x0 x1 x2 x3 x4 x5 x6 x7 x8 x9 x10 x11 768 _ _ _ r n ⟨768 + r.val, by omega⟩ rfl)) x
  · exact piece 512 (by omega) inb_S1x1024x1024_S1x256x1024_0_512_0 _ (fun r n => (pay2 _ _ _ _ _ _ _ _ _ _ _ _ r n).trans
      (rowOf_ld x0 x1 x2 x3 x4 x5 x6 x7 x8 x9 x10 x11 512 _ _ _ r n ⟨512 + r.val, by omega⟩ rfl)) x
  · exact piece 256 (by omega) inb_S1x1024x1024_S1x256x1024_0_256_0 _ (fun r n => (pay1 _ _ _ _ _ _ _ _ _ _ _ _ r n).trans
      (rowOf_ld x0 x1 x2 x3 x4 x5 x6 x7 x8 x9 x10 x11 256 _ _ _ r n ⟨256 + r.val, by omega⟩ rfl)) x
  · exact piece 0 (by omega) inb_S1x1024x1024_S1x256x1024_0_0_0 _ (fun r n => (pay0 _ _ _ _ _ _ _ _ _ _ _ _ r n).trans
      (rowOf_ld x0 x1 x2 x3 x4 x5 x6 x7 x8 x9 x10 x11 0 _ _ _ r n ⟨0 + r.val, by omega⟩ rfl)) x

end Block

/-! ## The array after the run -/

variable (m : (ℓ : Loc nD τ sig) → Buf (Elt Ideal) ℓ) (c : Dev nD)

/-- The result array as one function of the argument arrays. -/
def G : Vec Ideal S8x8192x1024 .f32 := fun y =>
  let b : Fin 8 := y 0
  let s : Fin 8192 := y 1
  resRow (yRow (mid (fun k => m ((c : Thread nD τ).loc main_arg0) (ix3 b s k)) (fun k => m ((c : Thread nD τ).loc main_arg1) (ix3 b k s))
      (fun k => m ((c : Thread nD τ).loc main_arg2) (ix3 b s k)) (fun k => m ((c : Thread nD τ).loc main_arg3) (ix2 0 k))
      (fun d => m ((c : Thread nD τ).loc main_arg4) (ix3 b s d)) (fun d => m ((c : Thread nD τ).loc main_arg5) (ix3 b s d))
      (fun k d => m ((c : Thread nD τ).loc main_arg9) (ix2 k d)) (fun k d => m ((c : Thread nD τ).loc main_arg10) (ix2 k d)))
    (fun d n => m ((c : Thread nD τ).loc main_arg11) (ix2 d n))) (fun n => m ((c : Thread nD τ).loc main_arg8) (ix2 0 n))
    (fun n => m ((c : Thread nD τ).loc main_arg6) (ix3 b s n)) (fun n => m ((c : Thread nD τ).loc main_arg7) (ix3 b 2 n)) (y 2)

/-- The index maps at a point: the batch `t / 8`, the row block `t % 8`. -/
def Ix (t : Fin cfg0.N) : Prop :=
    (win0_0.index t 0 = t.val / 8 ∧ win0_0.index t 1 = t.val % 8 ∧ win0_0.index t 2 = 0)
    ∧ (win0_1.index t 0 = t.val / 8 ∧ win0_1.index t 1 = 0 ∧ win0_1.index t 2 = t.val % 8)
    ∧ (win0_2.index t 0 = t.val / 8 ∧ win0_2.index t 1 = t.val % 8 ∧ win0_2.index t 2 = 0)
    ∧ (win0_3.index t 0 = 0 ∧ win0_3.index t 1 = 0)
    ∧ (win0_4.index t 0 = t.val / 8 ∧ win0_4.index t 1 = t.val % 8 ∧ win0_4.index t 2 = 0)
    ∧ (win0_5.index t 0 = t.val / 8 ∧ win0_5.index t 1 = t.val % 8 ∧ win0_5.index t 2 = 0)
    ∧ (win0_6.index t 0 = t.val / 8 ∧ win0_6.index t 1 = t.val % 8 ∧ win0_6.index t 2 = 0)
    ∧ (win0_7.index t 0 = t.val / 8 ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val / 8 ∧ win0_12.index t 1 = t.val % 8 ∧ win0_12.index t 2 = 0)

theorem idx (t : Fin cfg0.N) : Ix t := (by unfold Ix; decide +kernel : ∀ t : Fin grid0.N, Ix t) t

/-! A window's block read at an index: the array at the block's offset. -/

theorem rd0 (t : Fin cfg0.N) (b : Fin 8) (s : Fin 8192) (r : Fin 1024) (hb : b.val = t.val / 8) (hs : s.val = t.val % 8 * 1024 + r.val) (k : Fin 512) :
    iblk m c 0 t (ix3 0 r k) = m ((c : Thread nD τ).loc main_arg0) (ix3 b s k) := by
  have h := idx t; unfold Ix at h
  refine congrArg (m ((c : Thread nD τ).loc main_arg0)) (funext fun a => Fin.ext ?_)
  match a with
  | ⟨0, _⟩ => show win0_0.index t 0 * 1 + 1 * 0 = b.val; omega
  | ⟨1, _⟩ => show win0_0.index t 1 * 1024 + 1 * r.val = s.val; omega
  | ⟨2, _⟩ => show win0_0.index t 2 * 512 + 1 * k.val = k.val; omega

theorem rd1 (t : Fin cfg0.N) (b : Fin 8) (s : Fin 8192) (r : Fin 1024) (hb : b.val = t.val / 8) (hs : s.val = t.val % 8 * 1024 + r.val) (k : Fin 512) :
    iblk m c 1 t (ix3 0 k r) = m ((c : Thread nD τ).loc main_arg1) (ix3 b k s) := by
  have h := idx t; unfold Ix at h
  refine congrArg (m ((c : Thread nD τ).loc main_arg1)) (funext fun a => Fin.ext ?_)
  match a with
  | ⟨0, _⟩ => show win0_1.index t 0 * 1 + 1 * 0 = b.val; omega
  | ⟨1, _⟩ => show win0_1.index t 1 * 512 + 1 * k.val = k.val; omega
  | ⟨2, _⟩ => show win0_1.index t 2 * 1024 + 1 * r.val = s.val; omega

theorem rd2 (t : Fin cfg0.N) (b : Fin 8) (s : Fin 8192) (r : Fin 1024) (hb : b.val = t.val / 8) (hs : s.val = t.val % 8 * 1024 + r.val) (k : Fin 512) :
    iblk m c 2 t (ix3 0 r k) = m ((c : Thread nD τ).loc main_arg2) (ix3 b s k) := by
  have h := idx t; unfold Ix at h
  refine congrArg (m ((c : Thread nD τ).loc main_arg2)) (funext fun a => Fin.ext ?_)
  match a with
  | ⟨0, _⟩ => show win0_2.index t 0 * 1 + 1 * 0 = b.val; omega
  | ⟨1, _⟩ => show win0_2.index t 1 * 1024 + 1 * r.val = s.val; omega
  | ⟨2, _⟩ => show win0_2.index t 2 * 512 + 1 * k.val = k.val; omega

theorem rd3 (t : Fin cfg0.N) (k : Fin 512) :
    iblk m c 3 t (ix2 0 k) = m ((c : Thread nD τ).loc main_arg3) (ix2 0 k) := by
  have h := idx t; unfold Ix at h
  refine congrArg (m ((c : Thread nD τ).loc main_arg3)) (funext fun a => Fin.ext ?_)
  match a with
  | ⟨0, _⟩ => show win0_3.index t 0 * 1 + 1 * 0 = 0; omega
  | ⟨1, _⟩ => show win0_3.index t 1 * 512 + 1 * k.val = k.val; omega

theorem rd4 (t : Fin cfg0.N) (b : Fin 8) (s : Fin 8192) (r : Fin 1024) (hb : b.val = t.val / 8) (hs : s.val = t.val % 8 * 1024 + r.val) (k : Fin 1024) :
    iblk m c 4 t (ix3 0 r k) = m ((c : Thread nD τ).loc main_arg4) (ix3 b s k) := by
  have h := idx t; unfold Ix at h
  refine congrArg (m ((c : Thread nD τ).loc main_arg4)) (funext fun a => Fin.ext ?_)
  match a with
  | ⟨0, _⟩ => show win0_4.index t 0 * 1 + 1 * 0 = b.val; omega
  | ⟨1, _⟩ => show win0_4.index t 1 * 1024 + 1 * r.val = s.val; omega
  | ⟨2, _⟩ => show win0_4.index t 2 * 1024 + 1 * k.val = k.val; omega

theorem rd5 (t : Fin cfg0.N) (b : Fin 8) (s : Fin 8192) (r : Fin 1024) (hb : b.val = t.val / 8) (hs : s.val = t.val % 8 * 1024 + r.val) (k : Fin 1024) :
    iblk m c 5 t (ix3 0 r k) = m ((c : Thread nD τ).loc main_arg5) (ix3 b s k) := by
  have h := idx t; unfold Ix at h
  refine congrArg (m ((c : Thread nD τ).loc main_arg5)) (funext fun a => Fin.ext ?_)
  match a with
  | ⟨0, _⟩ => show win0_5.index t 0 * 1 + 1 * 0 = b.val; omega
  | ⟨1, _⟩ => show win0_5.index t 1 * 1024 + 1 * r.val = s.val; omega
  | ⟨2, _⟩ => show win0_5.index t 2 * 1024 + 1 * k.val = k.val; omega

theorem rd6 (t : Fin cfg0.N) (b : Fin 8) (s : Fin 8192) (r : Fin 1024) (hb : b.val = t.val / 8) (hs : s.val = t.val % 8 * 1024 + r.val) (k : Fin 1024) :
    iblk m c 6 t (ix3 0 r k) = m ((c : Thread nD τ).loc main_arg6) (ix3 b s k) := by
  have h := idx t; unfold Ix at h
  refine congrArg (m ((c : Thread nD τ).loc main_arg6)) (funext fun a => Fin.ext ?_)
  match a with
  | ⟨0, _⟩ => show win0_6.index t 0 * 1 + 1 * 0 = b.val; omega
  | ⟨1, _⟩ => show win0_6.index t 1 * 1024 + 1 * r.val = s.val; omega
  | ⟨2, _⟩ => show win0_6.index t 2 * 1024 + 1 * k.val = k.val; omega

theorem rd7 (t : Fin cfg0.N) (b : Fin 8) (hb : b.val = t.val / 8) (j : Fin 3) (k : Fin 1024) :
    iblk m c 7 t (ix3 0 j k) = m ((c : Thread nD τ).loc main_arg7) (ix3 b j k) := by
  have h := idx t; unfold Ix at h
  refine congrArg (m ((c : Thread nD τ).loc main_arg7)) (funext fun a => Fin.ext ?_)
  match a with
  | ⟨0, _⟩ => show win0_7.index t 0 * 1 + 1 * 0 = b.val; omega
  | ⟨1, _⟩ => show win0_7.index t 1 * 3 + 1 * j.val = j.val; omega
  | ⟨2, _⟩ => show win0_7.index t 2 * 1024 + 1 * k.val = k.val; omega

theorem rd8 (t : Fin cfg0.N) (k : Fin 1024) :
    iblk m c 8 t (ix2 0 k) = m ((c : Thread nD τ).loc main_arg8) (ix2 0 k) := by
  have h := idx t; unfold Ix at h
  refine congrArg (m ((c : Thread nD τ).loc main_arg8)) (funext fun a => Fin.ext ?_)
  match a with
  | ⟨0, _⟩ => show win0_8.index t 0 * 1 + 1 * 0 = 0; omega
  | ⟨1, _⟩ => show win0_8.index t 1 * 1024 + 1 * k.val = k.val; omega

theorem rd9 (t : Fin cfg0.N) (k : Fin 512) (d : Fin 1024) :
    iblk m c 9 t (ix2 k d) = m ((c : Thread nD τ).loc main_arg9) (ix2 k d) := by
  have h := idx t; unfold Ix at h
  refine congrArg (m ((c : Thread nD τ).loc main_arg9)) (funext fun a => Fin.ext ?_)
  match a with
  | ⟨0, _⟩ => show win0_9.index t 0 * 512 + 1 * k.val = k.val; omega
  | ⟨1, _⟩ => show win0_9.index t 1 * 1024 + 1 * d.val = d.val; omega

theorem rd10 (t : Fin cfg0.N) (k : Fin 512) (d : Fin 1024) :
    iblk m c 10 t (ix2 k d) = m ((c : Thread nD τ).loc main_arg10) (ix2 k d) := by
  have h := idx t; unfold Ix at h
  refine congrArg (m ((c : Thread nD τ).loc main_arg10)) (funext fun a => Fin.ext ?_)
  match a with
  | ⟨0, _⟩ => show win0_10.index t 0 * 512 + 1 * k.val = k.val; omega
  | ⟨1, _⟩ => show win0_10.index t 1 * 1024 + 1 * d.val = d.val; omega

theorem rd11 (t : Fin cfg0.N) (k : Fin 1024) (d : Fin 1024) :
    iblk m c 11 t (ix2 k d) = m ((c : Thread nD τ).loc main_arg11) (ix2 k d) := by
  have h := idx t; unfold Ix at h
  refine congrArg (m ((c : Thread nD τ).loc main_arg11)) (funext fun a => Fin.ext ?_)
  match a with
  | ⟨0, _⟩ => show win0_11.index t 0 * 1024 + 1 * k.val = k.val; omega
  | ⟨1, _⟩ => show win0_11.index t 1 * 1024 + 1 * d.val = d.val; omega

/-- What point `t` writes back is block `t` of `G`. -/
theorem flushed_eq (t : Fin cfg0.N) : (dats m 0 c).flushed 12 t = (win0_12.blk t).view.read (Elt Ideal) (G m c) := by
  rw [Value.flushed12 m c t]
  funext y
  have h := idx t; unfold Ix at h
  have ht : t.val < 64 := t.isLt
  have hy : (y 1).val < 1024 := (y 1).isLt
  show out0_12 (F := Ideal) _ _ _ _ _ _ _ _ _ _ _ _ y = G m c ((win0_12.blk t).view.emb y)
  rw [out_eq]
  have e : (win0_12.blk t).view.emb y = ix3 (⟨t.val / 8, by omega⟩ : Fin 8) (⟨t.val % 8 * 1024 + (y 1).val, by omega⟩ : Fin 8192) ((y 2 : Fin 1024)) := by
    funext a
    refine Fin.ext ?_
    match a with
    | ⟨0, _⟩ => show win0_12.index t 0 * 1 + 1 * (y 0).val = t.val / 8
                have : (y 0).val < 1 := (y 0).isLt
                omega
    | ⟨1, _⟩ => show win0_12.index t 1 * 1024 + 1 * (y 1).val = t.val % 8 * 1024 + (y 1).val; omega
    | ⟨2, _⟩ => show win0_12.index t 2 * 1024 + 1 * (y 2).val = (y 2).val; omega
  rw [e]
  show at_ _ _ _ _ _ _ _ _ _ _ _ _ (y 1) (y 2) = _
  have e0 := rd0 m c t ⟨t.val / 8, by omega⟩ ⟨t.val % 8 * 1024 + (y 1).val, by omega⟩ (y 1) rfl rfl
  have e1 := rd1 m c t ⟨t.val / 8, by omega⟩ ⟨t.val % 8 * 1024 + (y 1).val, by omega⟩ (y 1) rfl rfl
  have e2 := rd2 m c t ⟨t.val / 8, by omega⟩ ⟨t.val % 8 * 1024 + (y 1).val, by omega⟩ (y 1) rfl rfl
  have e4 := rd4 m c t ⟨t.val / 8, by omega⟩ ⟨t.val % 8 * 1024 + (y 1).val, by omega⟩ (y 1) rfl rfl
  have e5 := rd5 m c t ⟨t.val / 8, by omega⟩ ⟨t.val % 8 * 1024 + (y 1).val, by omega⟩ (y 1) rfl rfl
  have e6 := rd6 m c t ⟨t.val / 8, by omega⟩ ⟨t.val % 8 * 1024 + (y 1).val, by omega⟩ (y 1) rfl rfl
  have e7 := rd7 m c t ⟨t.val / 8, by omega⟩ rfl 2
  have e3 := rd3 m c t
  have e8 := rd8 m c t
  have e9 := rd9 m c t
  have e10 := rd10 m c t
  have e11 := rd11 m c t
  unfold at_ G
  exact congr (congrArg₂ _ (congrArg₂ _ (congr (congr (congr (congr (congr (congrArg₂ _ (funext e0) (funext e1)) (funext e2)) (funext e3)) (funext e4)) (funext e5)) (funext₂ e9) |> fun h => congr h (funext₂ e10)) (funext₂ e11)) (funext e8)) (funext e6) |> fun h => congrFun (congr h (funext e7)) (y 2)

/-- Every index of the result array is in some point's block. -/
theorem cover (i : S8x8192x1024.Idx) : ∃ t : Fin cfg0.N, (cfg0.win 12).flush t = true ∧ i ∈ ((cfg0.win 12).blk t).view.set := by
  have h0 : (i 0).val < 8 := (i 0).isLt
  have h1 : (i 1).val < 8192 := (i 1).isLt
  have h2 : (i 2).val < 1024 := (i 2).isLt
  have hN : cfg0.N = 64 := N_0
  let t : Fin cfg0.N := ⟨(i 0).val * 8 + (i 1).val / 1024, by omega⟩
  have ht : t.val = (i 0).val * 8 + (i 1).val / 1024 := rfl
  refine ⟨t, flush0_12 t, ?_⟩
  have h := idx t; unfold Ix at h
  show i ∈ ((View.whole main_v0).slice (win0_12.rect t)).set
  rw [View.set_slice_whole, Rect.mem_set_unit]
  intro a
  match a with
  | ⟨0, _⟩ => show win0_12.index t 0 * 1 ≤ (i 0).val ∧ (i 0).val < win0_12.index t 0 * 1 + 1; omega
  | ⟨1, _⟩ => show win0_12.index t 1 * 1024 ≤ (i 1).val ∧ (i 1).val < win0_12.index t 1 * 1024 + 1024; omega
  | ⟨2, _⟩ => show win0_12.index t 2 * 1024 ≤ (i 2).val ∧ (i 2).val < win0_12.index t 2 * 1024 + 1024; omega

/-- The result array after the run is `G`. -/
theorem final_o : (dats m 0 c).arrAt 12 cfg0.N = G m c :=
  (dats m 0 c).arrAt_eq_of_cover 12 (G m c) (fun t _ => flushed_eq m c t) cover

end Cert.OutBlock

end
-- ==== Proof.OutRef.lean ====
/- The output projection's reference, read at an index: the same row function of the argument arrays. -/
module

public import proofs.«01_k».proof.Proof.OutPay
public import proofs.«01_k».proof.Proof.Gen.Reference2Ideal.Run
public import Idealize.ShloMosaic.Lib.Pointwise

@[expose] public section

noncomputable section

namespace Cert.OutRef

open Cert.Reference2Ideal Cert.Reference2Ideal.Gen Cert.OutRow Idealize.ShloMosaic Idealize.ShloMosaic.TcCoe

variable (m : (ℓ : Loc nD τ sig) → Buf (Elt Ideal) ℓ) (c : Dev nD)

set_option maxHeartbeats 1000000 in
theorem res_apply (b : Fin 8) (s : Fin 8192) (n : Fin 1024) :
    Value.res_main_v41 (F := Ideal) m c (ix3 b s n) =
  resRow (yRow (mid (fun k => m ((c : Thread nD τ).loc main_arg0) (ix3 b s k)) (fun k => m ((c : Thread nD τ).loc main_arg1) (ix3 b k s))
      (fun k => m ((c : Thread nD τ).loc main_arg2) (ix3 b s k)) (fun k => m ((c : Thread nD τ).loc main_arg3) (ix2 0 k))
      (fun d => m ((c : Thread nD τ).loc main_arg4) (ix3 b s d)) (fun d => m ((c : Thread nD τ).loc main_arg5) (ix3 b s d))
      (fun k d => m ((c : Thread nD τ).loc main_arg9) (ix2 k d)) (fun k d => m ((c : Thread nD τ).loc main_arg10) (ix2 k d)))
    (fun d n => m ((c : Thread nD τ).loc main_arg11) (ix2 d n))) (fun n => m ((c : Thread nD τ).loc main_arg8) (ix2 0 n))
    (fun n => m ((c : Thread nD τ).loc main_arg6) (ix3 b s n)) (fun n => m ((c : Thread nD τ).loc main_arg7) (ix3 b 2 n)) n := by
  unfold Value.res_main_v41
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5
  generalize m ((c : Thread nD τ).loc main_arg6) = a6
  generalize m ((c : Thread nD τ).loc main_arg7) = a7
  generalize m ((c : Thread nD τ).loc main_arg8) = a8
  generalize m ((c : Thread nD τ).loc main_arg9) = a9
  generalize m ((c : Thread nD τ).loc main_arg10) = a10
  generalize m ((c : Thread nD τ).loc main_arg11) = a11
  pointwise [resRow, yRow, mid]
  simp only [mul_assoc]

end Cert.OutRef

end
-- ==== Proof.PrepPay.lean ====
/- The preparation call's three payloads and the reference's three results, each read at an index. -/
module

public import proofs.«01_k».proof.Proof.Gen.Kernel3Ideal.Value
public import proofs.«01_k».proof.Proof.Gen.Reference3Ideal.Run
public import Idealize.ShloMosaic.Lib.Pointwise

@[expose] public section

noncomputable section

namespace Cert.PrepRow

open Idealize.ShloMosaic

/-- One element of the modulation: the silu of the conditioning row times a column, plus the bias. -/
def modRow (c w : Fin 1024 → EReal) (b : EReal) : EReal := ∑ k : Fin 1024, c k * Ideal.logistic (c k) * w k + b

/-- One column's softmax over the layers, at a layer's value `z`. -/
def lbCol (v : Fin 2 → EReal) (z : EReal) : EReal :=
  Ideal.div (Ideal.exp (z - Finset.univ.fold max (Ideal.ofBits .f32 0xFF800000#32) v))
    (∑ x : Fin 2, Ideal.exp (v x - Finset.univ.fold max (Ideal.ofBits .f32 0xFF800000#32) v))

/-- The lambda of the four head vectors. -/
def lamOf (a b d e : Fin 64 → EReal) : EReal :=
  Ideal.exp (∑ k : Fin 64, a k * b k) - Ideal.exp (∑ k : Fin 64, d k * e k) + Ideal.ofBits .f32 0x3E4CCCCD#32

theorem max_fold (v : Fin 2 → EReal) (b : EReal) : max b (Finset.univ.fold max b v) = Finset.univ.fold max b v :=
  max_eq_right ((Finset.le_fold_max b).mpr (Or.inl le_rfl))

end Cert.PrepRow

namespace Cert.PrepPay

open Cert.PrepRow Idealize.ShloMosaic Idealize.ShloMosaic.TcCoe
open Cert.Kernel3Ideal (S8x1024 S1024x1024 S1x1024 S2x512 S1x64 S1x128 S1x1)
open Cert.Kernel3Ideal.Gen (k0_pay1 k0_pay2 k0_pay3 k0_pay4 k0_pay5)

theorem pay2 (v0 : Vec Ideal S8x1024 .f32) (v3 : Vec Ideal S1024x1024 .f32) (v5 : Vec Ideal S1x1024 .f32) (r : Fin 8) (n : Fin 1024) :
    k0_pay2 (F := Ideal) v0 v3 v5 (ix2 r n) = modRow (fun k => v0 (ix2 r k)) (fun k => v3 (ix2 k n)) (v5 (ix2 0 n)) := by
  pointwise [k0_pay2, modRow]

theorem pay3 (v : Vec Ideal S2x512 .f32) (r : Fin 2) (n : Fin 512) :
    k0_pay3 (F := Ideal) v (ix2 r n) = lbCol (fun x => v (ix2 x n)) (v (ix2 r n)) := by
  pointwise [k0_pay3, lbCol]

theorem pay1 (a b d e : Vec Ideal S1x64 .f32) (n : Fin 128) :
    k0_pay1 (F := Ideal) (k0_pay4 a b) (k0_pay5 d e) (ix2 0 n) =
      lamOf (fun k => a (ix2 0 k)) (fun k => b (ix2 0 k)) (fun k => d (ix2 0 k)) (fun k => e (ix2 0 k)) := by
  pointwise [k0_pay1, k0_pay4, k0_pay5, lamOf]

end Cert.PrepPay

namespace Cert.PrepRef
open Cert.PrepRow Idealize.ShloMosaic Idealize.ShloMosaic.TcCoe Cert.Reference3Ideal Cert.Reference3Ideal.Gen

theorem ref0 (a0 : Vec Ideal S8x1024 .f32) (a1 : Vec Ideal S1024x3072 .f32) (a2 : Vec Ideal S1x3072 .f32) (r : Fin 8) (n : Fin 3072) :
    (addf (Host.dotGeneral dot_S8x1024_S1024x3072_S8x3072_1_0_0_1_n_n none (φ₁ := .f32) (φ₂ := .f32) (mulf (a0) (Host.divf (broadcastInDim S8x1024 ![] bcast_S_S8x1024 (constant S_ .f32 0x3F800000#32)) (addf (broadcastInDim S8x1024 ![] bcast_S_S8x1024 (constant S_ .f32 0x3F800000#32)) (Host.exp (Host.negf (a0)))))) (a1)) (broadcastInDim S8x3072 ![0, 1] bcast_S1x3072_S8x3072_0_1 (broadcastInDim S1x3072 ![1] bcast_S3072_S1x3072_1 (shapeCast _ (a2) shapeCasts_S1x3072_S3072))) : FVec Ideal S8x3072 .f32) (ix2 r n)
      = modRow (fun k => a0 (ix2 r k)) (fun k => a1 (ix2 k n)) (a2 (ix2 0 n)) := by
  pointwise [modRow]
  rfl

theorem ref1 (a3 : Vec Ideal S2x512 .f32) (r : Fin 2) (n : Fin 512) :
    (Host.divf (Host.exp (subf (a3) (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf (a3) (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf (a3) (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf (a3) (constant S_ .f32 0xFF800000#32) reducesTo_S2x512_S512_d0 h_S_)))))) (constant S_ .f32 0x00000000#32) reducesTo_S2x512_S512_d0 h_S_))) : FVec Ideal S2x512 .f32) (ix2 r n)
      = lbCol (fun x => a3 (ix2 x n)) (a3 (ix2 r n)) := by
  pointwise [lbCol]
  simp only [max_fold]

theorem ref2 (a4 a5 a6 a7 : Vec Ideal S1x64 .f32) (n : Fin 128) :
    (broadcastInDim S1x128 ![] bcast_S_S1x128 (addf (subf (Host.exp (Host.reduceAdd (mulf (shapeCast _ (a4) shapeCasts_S1x64_S64) (shapeCast _ (a5) shapeCasts_S1x64_S64)) (constant S_ .f32 0x00000000#32) reducesTo_S64_S_d0 h_S_)) (Host.exp (Host.reduceAdd (mulf (shapeCast _ (a6) shapeCasts_S1x64_S64) (shapeCast _ (a7) shapeCasts_S1x64_S64)) (constant S_ .f32 0x00000000#32) reducesTo_S64_S_d0 h_S_))) (constant S_ .f32 0x3E4CCCCD#32)) : FVec Ideal S1x128 .f32) (ix2 0 n)
      = lamOf (fun k => a4 (ix2 0 k)) (fun k => a5 (ix2 0 k)) (fun k => a6 (ix2 0 k)) (fun k => a7 (ix2 0 k)) := by
  pointwise [lamOf]

end Cert.PrepRef

end
-- ==== Proof.PrepBlock.lean ====
/- The preparation call's three arrays after the run: the modulation block by block, the bounds' softmax and lambda written
   back once, each the same function of the argument arrays. -/
module

public import proofs.«01_k».proof.Proof.PrepPay
public import Idealize.ShloMosaic.Lib.Pipeline.ValueKit

@[expose] public section

noncomputable section

namespace Cert.PrepBlock

open Cert.Kernel3Ideal Cert.Kernel3Ideal.Gen Cert.PrepRow Cert.PrepPay Idealize.ShloMosaic Idealize.ShloMosaic.TcCoe Idealize.SL.Sem
open Idealize.ShloMosaic.Pipeline (Dat)

section Block
variable (x0 : Vec Ideal S8x1024 .f32) (x1 : Vec Ideal S1024x1024 .f32) (x2 : Vec Ideal S1x1024 .f32) (x3 : Vec Ideal S2x512 .f32)
  (x4 x5 x6 x7 : Vec Ideal S1x64 .f32)

theorem whole {n0 n1 : Nat} {ty : EltTy} (x : Vec Ideal ⟨2, ![n0, n1]⟩ ty) (h : ∀ a, ![0, 0] a + ![n0, n1] a ≤ ![n0, n1] a) :
    View.ld x (Rect.unit (s := ⟨2, ![n0, n1]⟩) ![0, 0] ![n0, n1] h) = x := by
  funext y
  refine congrArg x (funext fun a => Fin.ext ?_)
  match a with
  | ⟨0, _⟩ => show 0 + 1 * (y 0).val = (y 0).val; omega
  | ⟨1, _⟩ => show 0 + 1 * (y 1).val = (y 1).val; omega

theorem emb_whole {n0 n1 : Nat} (h : ∀ a, ![0, 0] a + ![n0, n1] a ≤ ![n0, n1] a) (y : (⟨2, ![n0, n1]⟩ : Shape).Idx) :
    (Rect.unit (s := ⟨2, ![n0, n1]⟩) ![0, 0] ![n0, n1] h).emb y = y := by
  refine (funext fun a => Fin.ext ?_)
  match a with
  | ⟨0, _⟩ => show 0 + 1 * (y 0).val = (y 0).val; omega
  | ⟨1, _⟩ => show 0 + 1 * (y 1).val = (y 1).val; omega

theorem idx2 {n0 n1 : Nat} (y : (⟨2, ![n0, n1]⟩ : Shape).Idx) : y = ix2 (y 0 : Fin n0) (y 1 : Fin n1) := by
  funext a
  match a with
  | ⟨0, _⟩ => rfl
  | ⟨1, _⟩ => rfl

theorem out8 (r : Fin 8) (n : Fin 1024) : out0_8 (F := Ideal) x0 x1 x2 x3 x4 x5 x6 x7 (ix2 r n) =
    modRow (fun k => x0 (ix2 r k)) (fun k => x1 (ix2 k n)) (x2 (ix2 0 n)) := by
  unfold out0_8
  rw [whole x0, whole x1, whole x2]
  refine (View.canon_apply_of_pieces (k0_pay2 (F := Ideal) x0 x1 x2) _ ?_ _ (cover0_8 _ _)).trans (pay2 _ _ _ r n)
  intro p hp x
  simp only [List.mem_cons, List.not_mem_nil, or_false] at hp
  subst hp
  exact congrArg (k0_pay2 (F := Ideal) x0 x1 x2) (emb_whole inb_S8x1024_S8x1024_0_0 x).symm

theorem out9 (r : Fin 2) (n : Fin 512) : out0_9 (F := Ideal) x0 x1 x2 x3 x4 x5 x6 x7 (ix2 r n) =
    lbCol (fun x => x3 (ix2 x n)) (x3 (ix2 r n)) := by
  unfold out0_9
  rw [whole x3]
  refine (View.canon_apply_of_pieces (k0_pay3 (F := Ideal) x3) _ ?_ _ (cover0_9 _ _)).trans (pay3 _ r n)
  intro p hp x
  simp only [List.mem_cons, List.not_mem_nil, or_false] at hp
  subst hp
  exact congrArg (k0_pay3 (F := Ideal) x3) (emb_whole inb_S2x512_S2x512_0_0 x).symm

theorem out10 (n : Fin 128) : out0_10 (F := Ideal) x0 x1 x2 x3 x4 x5 x6 x7 (ix2 0 n) =
    lamOf (fun k => x4 (ix2 0 k)) (fun k => x5 (ix2 0 k)) (fun k => x6 (ix2 0 k)) (fun k => x7 (ix2 0 k)) := by
  unfold out0_10
  rw [whole x4, whole x5, whole x6, whole x7]
  refine (View.canon_apply_of_pieces (k0_pay1 (F := Ideal) (k0_pay4 x4 x5) (k0_pay5 x6 x7)) _ ?_ _ (cover0_10 _ _)).trans (pay1 _ _ _ _ n)
  intro p hp x
  simp only [List.mem_cons, List.not_mem_nil, or_false] at hp
  subst hp
  exact congrArg (k0_pay1 (F := Ideal) (k0_pay4 x4 x5) (k0_pay5 x6 x7)) (emb_whole inb_S1x128_S1x128_0_0 x).symm

end Block

/-! ## The arrays after the run -/

variable (m : (ℓ : Loc nD τ sig) → Buf (Elt Ideal) ℓ) (c : Dev nD)

/-- The modulation as one function of the argument arrays. -/
def G8 : Vec Ideal S8x3072 .f32 := fun y =>
  let r : Fin 8 := y 0
  let n : Fin 3072 := y 1
  modRow (fun k => m ((c : Thread nD τ).loc main_arg0) (ix2 r k)) (fun k => m ((c : Thread nD τ).loc main_arg1) (ix2 k n))
    (m ((c : Thread nD τ).loc main_arg2) (ix2 0 n))

/-- The bounds' softmax over the layers. -/
def G9 : Vec Ideal S2x512 .f32 := fun y =>
  let r : Fin 2 := y 0
  let n : Fin 512 := y 1
  lbCol (fun x => m ((c : Thread nD τ).loc main_arg3) (ix2 x n)) (m ((c : Thread nD τ).loc main_arg3) (ix2 r n))

/-- Lambda, on every lane. -/
def G10 : Vec Ideal S1x128 .f32 := fun _ =>
  lamOf (fun k => m ((c : Thread nD τ).loc main_arg4) (ix2 0 k)) (fun k => m ((c : Thread nD τ).loc main_arg5) (ix2 0 k))
    (fun k => m ((c : Thread nD τ).loc main_arg6) (ix2 0 k)) (fun k => m ((c : Thread nD τ).loc main_arg7) (ix2 0 k))

/-- The index maps at a point: the column tile `t`, the first block elsewhere. -/
def Ix (t : Fin cfg0.N) : Prop :=
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = t.val) ∧ (win0_9.index t 0 = 0 ∧ win0_9.index t 1 = 0)
    ∧ (win0_10.index t 0 = 0 ∧ win0_10.index t 1 = 0)

theorem idx (t : Fin cfg0.N) : Ix t := (by unfold Ix; decide +kernel : ∀ t : Fin grid0.N, Ix t) t

/-! A window's block read at an index: the array at the block's offset. -/

theorem rd0 (t : Fin cfg0.N) (r : Fin 8) (k : Fin 1024) : iblk m c 0 t (ix2 r k) = m ((c : Thread nD τ).loc main_arg0) (ix2 r k) := by
  have h := idx t; unfold Ix at h
  refine congrArg (m ((c : Thread nD τ).loc main_arg0)) (funext fun a => Fin.ext ?_)
  match a with
  | ⟨0, _⟩ => show win0_0.index t 0 * 8 + 1 * r.val = r.val; omega
  | ⟨1, _⟩ => show win0_0.index t 1 * 1024 + 1 * k.val = k.val; omega

theorem rd1 (t : Fin cfg0.N) (k : Fin 1024) (n : Fin 1024) (n' : Fin 3072) (hn : n'.val = t.val * 1024 + n.val) :
    iblk m c 1 t (ix2 k n) = m ((c : Thread nD τ).loc main_arg1) (ix2 k n') := by
  have h := idx t; unfold Ix at h
  refine congrArg (m ((c : Thread nD τ).loc main_arg1)) (funext fun a => Fin.ext ?_)
  match a with
  | ⟨0, _⟩ => show win0_1.index t 0 * 1024 + 1 * k.val = k.val; omega
  | ⟨1, _⟩ => show win0_1.index t 1 * 1024 + 1 * n.val = n'.val; omega

theorem rd2 (t : Fin cfg0.N) (n : Fin 1024) (n' : Fin 3072) (hn : n'.val = t.val * 1024 + n.val) :
    iblk m c 2 t (ix2 0 n) = m ((c : Thread nD τ).loc main_arg2) (ix2 0 n') := by
  have h := idx t; unfold Ix at h
  refine congrArg (m ((c : Thread nD τ).loc main_arg2)) (funext fun a => Fin.ext ?_)
  match a with
  | ⟨0, _⟩ => show win0_2.index t 0 * 1 + 1 * 0 = 0; omega
  | ⟨1, _⟩ => show win0_2.index t 1 * 1024 + 1 * n.val = n'.val; omega

theorem rd3 (t : Fin cfg0.N) (r : Fin 2) (n : Fin 512) : iblk m c 3 t (ix2 r n) = m ((c : Thread nD τ).loc main_arg3) (ix2 r n) := by
  have h := idx t; unfold Ix at h
  refine congrArg (m ((c : Thread nD τ).loc main_arg3)) (funext fun a => Fin.ext ?_)
  match a with
  | ⟨0, _⟩ => show win0_3.index t 0 * 2 + 1 * r.val = r.val; omega
  | ⟨1, _⟩ => show win0_3.index t 1 * 512 + 1 * n.val = n.val; omega

theorem rd4 (t : Fin cfg0.N) (k : Fin 64) : iblk m c 4 t (ix2 0 k) = m ((c : Thread nD τ).loc main_arg4) (ix2 0 k) := by
  have h := idx t; unfold Ix at h
  refine congrArg (m ((c : Thread nD τ).loc main_arg4)) (funext fun a => Fin.ext ?_)
  match a with
  | ⟨0, _⟩ => show win0_4.index t 0 * 1 + 1 * 0 = 0; omega
  | ⟨1, _⟩ => show win0_4.index t 1 * 64 + 1 * k.val = k.val; omega

theorem rd5 (t : Fin cfg0.N) (k : Fin 64) : iblk m c 5 t (ix2 0 k) = m ((c : Thread nD τ).loc main_arg5) (ix2 0 k) := by
  have h := idx t; unfold Ix at h
  refine congrArg (m ((c : Thread nD τ).loc main_arg5)) (funext fun a => Fin.ext ?_)
  match a with
  | ⟨0, _⟩ => show win0_5.index t 0 * 1 + 1 * 0 = 0; omega
  | ⟨1, _⟩ => show win0_5.index t 1 * 64 + 1 * k.val = k.val; omega

theorem rd6 (t : Fin cfg0.N) (k : Fin 64) : iblk m c 6 t (ix2 0 k) = m ((c : Thread nD τ).loc main_arg6) (ix2 0 k) := by
  have h := idx t; unfold Ix at h
  refine congrArg (m ((c : Thread nD τ).loc main_arg6)) (funext fun a => Fin.ext ?_)
  match a with
  | ⟨0, _⟩ => show win0_6.index t 0 * 1 + 1 * 0 = 0; omega
  | ⟨1, _⟩ => show win0_6.index t 1 * 64 + 1 * k.val = k.val; omega

theorem rd7 (t : Fin cfg0.N) (k : Fin 64) : iblk m c 7 t (ix2 0 k) = m ((c : Thread nD τ).loc main_arg7) (ix2 0 k) := by
  have h := idx t; unfold Ix at h
  refine congrArg (m ((c : Thread nD τ).loc main_arg7)) (funext fun a => Fin.ext ?_)
  match a with
  | ⟨0, _⟩ => show win0_7.index t 0 * 1 + 1 * 0 = 0; omega
  | ⟨1, _⟩ => show win0_7.index t 1 * 64 + 1 * k.val = k.val; omega

/-- What point `t` writes back of the modulation is block `t` of `G8`. -/
theorem flushed8_eq (t : Fin cfg0.N) : (dats m 0 c).flushed 8 t = (win0_8.blk t).view.read (Elt Ideal) (G8 m c) := by
  rw [Value.flushed8 m c t]
  funext y
  have h := idx t; unfold Ix at h
  have ht : t.val < 3 := t.isLt
  have hy : (y 1).val < 1024 := (y 1).isLt
  show out0_8 (F := Ideal) _ _ _ _ _ _ _ _ y = G8 m c ((win0_8.blk t).view.emb y)
  have e : (win0_8.blk t).view.emb y = ix2 (y 0 : Fin 8) (⟨t.val * 1024 + (y 1).val, by omega⟩ : Fin 3072) := by
    funext a
    refine Fin.ext ?_
    match a with
    | ⟨0, _⟩ => show win0_8.index t 0 * 8 + 1 * (y 0).val = (y 0).val; omega
    | ⟨1, _⟩ => show win0_8.index t 1 * 1024 + 1 * (y 1).val = t.val * 1024 + (y 1).val; omega
  rw [e]
  refine (congrArg _ (idx2 (n0 := 8) (n1 := 1024) y)).trans ((out8 _ _ _ _ _ _ _ _ (y 0) (y 1)).trans ?_)
  have e0 := rd0 m c t (y 0)
  have e1 := fun k => rd1 m c t k (y 1) ⟨t.val * 1024 + (y 1).val, by omega⟩ rfl
  have e2 := rd2 m c t (y 1) ⟨t.val * 1024 + (y 1).val, by omega⟩ rfl
  exact congr (congrArg₂ modRow (funext e0) (funext e1)) e2

theorem flushed9_eq (t : Fin cfg0.N) : (dats m 0 c).flushed 9 t = (win0_9.blk t).view.read (Elt Ideal) (G9 m c) := by
  rw [Value.flushed9 m c t]
  funext y
  have h := idx t; unfold Ix at h
  show out0_9 (F := Ideal) _ _ _ _ _ _ _ _ y = G9 m c ((win0_9.blk t).view.emb y)
  have e : (win0_9.blk t).view.emb y = ix2 (y 0 : Fin 2) (y 1 : Fin 512) := by
    funext a
    refine Fin.ext ?_
    match a with
    | ⟨0, _⟩ => show win0_9.index t 0 * 2 + 1 * (y 0).val = (y 0).val; omega
    | ⟨1, _⟩ => show win0_9.index t 1 * 512 + 1 * (y 1).val = (y 1).val; omega
  rw [e]
  refine (congrArg _ (idx2 (n0 := 2) (n1 := 512) y)).trans ((out9 _ _ _ _ _ _ _ _ (y 0) (y 1)).trans ?_)
  exact congrArg₂ lbCol (funext fun x => rd3 m c t x (y 1)) (rd3 m c t (y 0) (y 1))

theorem flushed10_eq (t : Fin cfg0.N) : (dats m 0 c).flushed 10 t = (win0_10.blk t).view.read (Elt Ideal) (G10 m c) := by
  rw [Value.flushed10 m c t]
  funext y
  show out0_10 (F := Ideal) _ _ _ _ _ _ _ _ y = G10 m c ((win0_10.blk t).view.emb y)
  have e : y = ix2 (0 : Fin 1) (y 1 : Fin 128) := by
    funext a
    match a with
    | ⟨0, _⟩ => exact Fin.ext (by have : (y 0).val < 1 := (y 0).isLt; show (y 0).val = 0; omega)
    | ⟨1, _⟩ => rfl
  refine (congrArg _ e).trans ((out10 _ _ _ _ _ _ _ _ (y 1)).trans ?_)
  exact congr (congr (congrArg₂ lamOf (funext (rd4 m c t)) (funext (rd5 m c t))) (funext (rd6 m c t))) (funext (rd7 m c t))

/-! Every index of each array is in a written block. -/

theorem cover8 (i : S8x3072.Idx) : ∃ t : Fin cfg0.N, (cfg0.win 8).flush t = true ∧ i ∈ ((cfg0.win 8).blk t).view.set := by
  have h0 : (i 0).val < 8 := (i 0).isLt
  have h1 : (i 1).val < 3072 := (i 1).isLt
  have hN : cfg0.N = 3 := N_0
  let t : Fin cfg0.N := ⟨(i 1).val / 1024, by omega⟩
  have ht : t.val = (i 1).val / 1024 := rfl
  refine ⟨t, flush0_8 t, ?_⟩
  have h := idx t; unfold Ix at h
  show i ∈ ((View.whole main_v0_0).slice (win0_8.rect t)).set
  rw [View.set_slice_whole, Rect.mem_set_unit]
  intro a
  match a with
  | ⟨0, _⟩ => show win0_8.index t 0 * 8 ≤ (i 0).val ∧ (i 0).val < win0_8.index t 0 * 8 + 8; omega
  | ⟨1, _⟩ => show win0_8.index t 1 * 1024 ≤ (i 1).val ∧ (i 1).val < win0_8.index t 1 * 1024 + 1024; omega

theorem cover9 (i : S2x512.Idx) : ∃ t : Fin cfg0.N, (cfg0.win 9).flush t = true ∧ i ∈ ((cfg0.win 9).blk t).view.set := by
  have h0 : (i 0).val < 2 := (i 0).isLt
  have h1 : (i 1).val < 512 := (i 1).isLt
  have hN : cfg0.N = 3 := N_0
  let t : Fin cfg0.N := ⟨2, by omega⟩
  refine ⟨t, (flush0_9 t).mpr rfl, ?_⟩
  have h := idx t; unfold Ix at h
  show i ∈ ((View.whole main_v0_1).slice (win0_9.rect t)).set
  rw [View.set_slice_whole, Rect.mem_set_unit]
  intro a
  match a with
  | ⟨0, _⟩ => show win0_9.index t 0 * 2 ≤ (i 0).val ∧ (i 0).val < win0_9.index t 0 * 2 + 2; omega
  | ⟨1, _⟩ => show win0_9.index t 1 * 512 ≤ (i 1).val ∧ (i 1).val < win0_9.index t 1 * 512 + 512; omega

theorem cover10 (i : S1x128.Idx) : ∃ t : Fin cfg0.N, (cfg0.win 10).flush t = true ∧ i ∈ ((cfg0.win 10).blk t).view.set := by
  have h0 : (i 0).val < 1 := (i 0).isLt
  have h1 : (i 1).val < 128 := (i 1).isLt
  have hN : cfg0.N = 3 := N_0
  let t : Fin cfg0.N := ⟨2, by omega⟩
  refine ⟨t, (flush0_10 t).mpr rfl, ?_⟩
  have h := idx t; unfold Ix at h
  show i ∈ ((View.whole main_v0_2).slice (win0_10.rect t)).set
  rw [View.set_slice_whole, Rect.mem_set_unit]
  intro a
  match a with
  | ⟨0, _⟩ => show win0_10.index t 0 * 1 ≤ (i 0).val ∧ (i 0).val < win0_10.index t 0 * 1 + 1; omega
  | ⟨1, _⟩ => show win0_10.index t 1 * 128 ≤ (i 1).val ∧ (i 1).val < win0_10.index t 1 * 128 + 128; omega

/-! The arrays after the run. -/

theorem final8 : (dats m 0 c).arrAt 8 cfg0.N = G8 m c := (dats m 0 c).arrAt_eq_of_cover 8 (G8 m c) (fun t _ => flushed8_eq m c t) cover8
theorem final9 : (dats m 0 c).arrAt 9 cfg0.N = G9 m c := (dats m 0 c).arrAt_eq_of_cover 9 (G9 m c) (fun t _ => flushed9_eq m c t) cover9
theorem final10 : (dats m 0 c).arrAt 10 cfg0.N = G10 m c := (dats m 0 c).arrAt_eq_of_cover 10 (G10 m c) (fun t _ => flushed10_eq m c t) cover10

end Cert.PrepBlock

end
-- ==== Proof.InPay.lean ====
/- The projection call's payloads besides the recurrence's, and the reference's six results, each read at an index. -/
module

public import proofs.«01_k».proof.Proof.Gen.Kernel4Ideal.Skeleton
public import proofs.«01_k».proof.Proof.Gen.Reference4Ideal
public import Idealize.ShloMosaic.Lib.Pointwise

@[expose] public section

noncomputable section

namespace Cert.InRow
open Idealize.ShloMosaic

/-- One element of the normed and modulated row: `x` the row, `g` the gain, `sh` and `sc` the shift and the scale. -/
def hRow (x g sh sc : Fin 1024 → EReal) (k : Fin 1024) : EReal :=
  x k * Ideal.rsqrt (Ideal.div (∑ j : Fin 1024, x j * x j) (Ideal.ofBits .f32 0x44800000#32) + Ideal.ofBits .f32 0x358637BD#32)
    * g k * (Ideal.ofBits .f32 0x3F800000#32 + sc k) + sh k

/-- Row `s` of batch `b`, normed and modulated, with column `n` of the weights. -/
def proj (a0 : Vec Ideal ⟨3, ![8, 8192, 1024]⟩ .f32) (a1 : Vec Ideal ⟨3, ![8, 3, 1024]⟩ .f32) (a2 : Vec Ideal ⟨2, ![1, 1024]⟩ .f32)
    (a4 : Vec Ideal ⟨2, ![1024, 6144]⟩ .bf16) (b s n : ℕ) : EReal :=
  ∑ k : Fin 1024, hRow (fun k => a0 (ix3 (Fin.ofNat 8 b) (Fin.ofNat 8192 s) k)) (fun k => a2 (ix2 0 k)) (fun k => a1 (ix3 (Fin.ofNat 8 b) 0 k))
    (fun k => a1 (ix3 (Fin.ofNat 8 b) 1 k)) k * a4 (ix2 k (Fin.ofNat 6144 n))

end Cert.InRow

namespace Cert.InPay
open Cert.InRow Idealize.ShloMosaic Idealize.ShloMosaic.TcCoe Cert.Kernel4Ideal Cert.Kernel4Ideal.Gen

theorem pay3 (v3 : Vec Ideal S1x512x1024 .f32) (v15 : Vec Ideal S1x1024 .f32) (v18 v24 : Vec Ideal S1x1x1024 .f32) (r : Fin 512) (k : Fin 1024) :
    k0_pay3 (F := Ideal) v3 v15 v18 v24 (ix2 r k) =
      hRow (fun k => v3 (ix3 0 r k)) (fun k => v15 (ix2 0 k)) (fun k => v24 (ix3 0 0 k)) (fun k => v18 (ix3 0 0 k)) k := by
  pointwise [k0_pay3, hRow]

variable (h : FVec Ideal S512x1024 .bf16) (w : Vec Ideal S1024x512 .bf16) (r n : Fin 512)

/-- One element of the projection: row `r` of `h` with column `n` of `w`. -/
def dotp : EReal := ∑ k : Fin 1024, h (ix2 r k) * w (ix2 k n)

theorem q : k0_pay102 (F := Ideal) (k0_pay79 h w) (ix4 0 0 n r) = dotp h w r n * Ideal.ofBits .f32 0x3E38AA3B#32 := by
  pointwise [k0_pay102, k0_pay79, dotp]
theorem kk : k0_pay184 (F := Ideal) (k0_pay161 h w) (ix3 0 r n) = dotp h w r n := by pointwise [k0_pay184, k0_pay161, dotp]
theorem va (r : Fin 256) : k0_pay276 (F := Ideal) (k0_pay275 (k0_pay250 h w)) (ix4 0 0 n r) = dotp h w ⟨r.val, by omega⟩ n := by
  pointwise [k0_pay276, k0_pay275, k0_pay274, k0_pay250, dotp]
theorem vb (r : Fin 256) : k0_pay277 (F := Ideal) (k0_pay274 (k0_pay250 h w)) (ix4 0 0 n r) = dotp h w ⟨256 + r.val, by omega⟩ n := by
  pointwise [k0_pay277, k0_pay274, k0_pay250, dotp]
theorem g : k0_pay369 (F := Ideal) (k0_pay346 h w) (ix3 0 r n) = dotp h w r n * Ideal.logistic (dotp h w r n) := by
  pointwise [k0_pay369, k0_pay346, dotp]
theorem ma : k0_pay456 (F := Ideal) (k0_pay433 h w) (ix3 0 r n) = Ideal.logistic (dotp h w r n) := by pointwise [k0_pay456, k0_pay433, dotp]
theorem mb : k0_pay544 (F := Ideal) (k0_pay521 h w) (ix3 0 r n) = Ideal.logistic (dotp h w r n) := by pointwise [k0_pay544, k0_pay521, dotp]
theorem mc : k0_pay635 (F := Ideal) (k0_pay634 (k0_pay610 h w)) (ix3 0 r n) = Ideal.logistic (dotp h w r n) := by
  pointwise [k0_pay635, k0_pay634, k0_pay610, dotp]
theorem md : k0_pay724 (F := Ideal) (k0_pay701 h w) (ix3 0 r n) = Ideal.logistic (dotp h w r n) := by pointwise [k0_pay724, k0_pay701, dotp]

end Cert.InPay

namespace Cert.InRef
open Cert.InRow Idealize.ShloMosaic Idealize.ShloMosaic.TcCoe Cert.Reference4Ideal Cert.Reference4Ideal.Gen

variable (a0 : Vec Ideal S8x8192x1024 .f32) (a1 : Vec Ideal S8x3x1024 .f32) (a2 : Vec Ideal S1x1024 .f32) (a4 : Vec Ideal S1024x6144 .bf16)

/-- The reference's normed and modulated rows. -/
def hR : FVec Ideal S8x8192x1024 .f32 :=
  addf (mulf (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ a2 shapeCasts_S1x1024_S1024)))) (broadcastInDim S8x8192x1024 ![0, 1, 2] bcast_S8x1x1024_S8x8192x1024_0_1_2 (addf (broadcastInDim S8x1x1024 ![] bcast_S_S8x1x1024 (constant S_ .f32 0x3F800000#32)) (extractStridedSlice S8x1x1024 ![0, 1, 0] a1 slices_S8x3x1024_S8x1x1024_0_1_0)))) (broadcastInDim S8x8192x1024 ![0, 1, 2] bcast_S8x1x1024_S8x8192x1024_0_1_2 (extractStridedSlice S8x1x1024 ![0, 0, 0] a1 slices_S8x3x1024_S8x1x1024_0_0_0))

theorem hR_apply (b : Fin 8) (s : Fin 8192) (k : Fin 1024) : hR a0 a1 a2 (ix3 b s k) =
    hRow (fun k => a0 (ix3 b s k)) (fun k => a2 (ix2 0 k)) (fun k => a1 (ix3 b 0 k)) (fun k => a1 (ix3 b 1 k)) k := by
  pointwise [hR, hRow]

theorem dotR (b : Fin 8) (s : Fin 8192) (n : Fin 6144) {S N : ℕ} (hs : S = s.val) (hn : N = n.val) :
    ∑ k : Fin 1024, hR a0 a1 a2 (ix3 b s k) * a4 (ix2 k n) = proj a0 a1 a2 a4 b.val S N := by
  subst hs hn
  unfold proj
  rw [show Fin.ofNat 8 b.val = b from Fin.ext (Nat.mod_eq_of_lt b.isLt), show Fin.ofNat 8192 s.val = s from Fin.ext (Nat.mod_eq_of_lt s.isLt),
    show Fin.ofNat 6144 n.val = n from Fin.ext (Nat.mod_eq_of_lt n.isLt)]
  exact Finset.sum_congr rfl fun k _ => congrArg (· * _) (hR_apply a0 a1 a2 b s k)

theorem ref9 (b : Fin 8) (t : Fin 16) (n r : Fin 512) : (truncf .bf16 (transpose S8x16x512x512 [0, 1, 3, 2] (shapeCast _ (mulf (Host.dotGeneral dot_S8x8192x1024_S1024x512_S8x8192x512_2_0_01_1_n_n none (φ₁ := .f32) (φ₂ := .f32) (hR a0 a1 a2) (extractStridedSlice S1024x512 ![0, 2048] (extf .f32 a4 bitsLt_bf16_f32) slices_S1024x6144_S1024x512_0_2048)) (broadcastInDim S8x8192x512 ![] bcast_S_S8x8192x512 (constant S_ .f32 0x3E38AA3B#32))) shapeCasts_S8x8192x512_S8x16x512x512) transposes_S8x16x512x512_S8x16x512x512_0_1_3_2) bitsLt_bf16_f32 : FVec Ideal S8x16x512x512 .bf16) (ix4 b t n r) = proj a0 a1 a2 a4 b.val (t.val * 512 + r.val) (2048 + n.val) * Ideal.ofBits .f32 0x3E38AA3B#32 := by
  pointwise
  exact congrArg (· * _) (dotR a0 a1 a2 a4 b _ _ rfl rfl)
theorem ref10 (b : Fin 8) (s : Fin 8192) (n : Fin 512) : (truncf .bf16 (Host.dotGeneral dot_S8x8192x1024_S1024x512_S8x8192x512_2_0_01_1_n_n none (φ₁ := .f32) (φ₂ := .f32) (hR a0 a1 a2) (extractStridedSlice S1024x512 ![0, 2560] (extf .f32 a4 bitsLt_bf16_f32) slices_S1024x6144_S1024x512_0_2560)) bitsLt_bf16_f32 : FVec Ideal S8x8192x512 .bf16) (ix3 b s n) = proj a0 a1 a2 a4 b.val s.val (2560 + n.val) := by
  pointwise
  exact dotR a0 a1 a2 a4 b _ _ rfl rfl
theorem ref11 (b : Fin 8) (t : Fin 32) (n : Fin 512) (r : Fin 256) : (truncf .bf16 (transpose S8x32x512x256 [0, 1, 3, 2] (shapeCast _ (Host.dotGeneral dot_S8x8192x1024_S1024x512_S8x8192x512_2_0_01_1_n_n none (φ₁ := .f32) (φ₂ := .f32) (hR a0 a1 a2) (extractStridedSlice S1024x512 ![0, 3072] (extf .f32 a4 bitsLt_bf16_f32) slices_S1024x6144_S1024x512_0_3072)) shapeCasts_S8x8192x512_S8x32x256x512) transposes_S8x32x256x512_S8x32x512x256_0_1_3_2) bitsLt_bf16_f32 : FVec Ideal S8x32x512x256 .bf16) (ix4 b t n r) = proj a0 a1 a2 a4 b.val (t.val * 256 + r.val) (3072 + n.val) := by
  pointwise
  exact dotR a0 a1 a2 a4 b _ _ rfl rfl
theorem ref12 (b : Fin 8) (s : Fin 8192) (n : Fin 512) : (truncf .bf16 (mulf (Host.dotGeneral dot_S8x8192x1024_S1024x512_S8x8192x512_2_0_01_1_n_n none (φ₁ := .f32) (φ₂ := .f32) (hR a0 a1 a2) (extractStridedSlice S1024x512 ![0, 3584] (extf .f32 a4 bitsLt_bf16_f32) slices_S1024x6144_S1024x512_0_3584)) (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf (Host.dotGeneral dot_S8x8192x1024_S1024x512_S8x8192x512_2_0_01_1_n_n none (φ₁ := .f32) (φ₂ := .f32) (hR a0 a1 a2) (extractStridedSlice S1024x512 ![0, 3584] (extf .f32 a4 bitsLt_bf16_f32) slices_S1024x6144_S1024x512_0_3584))))))) bitsLt_bf16_f32 : FVec Ideal S8x8192x512 .bf16) (ix3 b s n) = proj a0 a1 a2 a4 b.val s.val (3584 + n.val) * Ideal.logistic (proj a0 a1 a2 a4 b.val s.val (3584 + n.val)) := by
  pointwise
  exact congrArg (fun z => z * Ideal.logistic z) (dotR a0 a1 a2 a4 b _ _ rfl rfl)
theorem ref13 (b : Fin 8) (s : Fin 8192) (n : Fin 1024) : (truncf .bf16 (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (Host.dotGeneral dot_S8x8192x1024_S1024x1024_S8x8192x1024_2_0_01_1_n_n none (φ₁ := .f32) (φ₂ := .f32) (hR a0 a1 a2) (extractStridedSlice S1024x1024 ![0, 4096] (extf .f32 a4 bitsLt_bf16_f32) slices_S1024x6144_S1024x1024_0_4096)))))) bitsLt_bf16_f32 : FVec Ideal S8x8192x1024 .bf16) (ix3 b s n) = Ideal.logistic (proj a0 a1 a2 a4 b.val s.val (4096 + n.val)) := by
  pointwise
  exact congrArg Ideal.logistic (dotR a0 a1 a2 a4 b _ _ rfl rfl)
theorem ref14 (b : Fin 8) (s : Fin 8192) (n : Fin 1024) : (truncf .bf16 (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (Host.dotGeneral dot_S8x8192x1024_S1024x1024_S8x8192x1024_2_0_01_1_n_n none (φ₁ := .f32) (φ₂ := .f32) (hR a0 a1 a2) (extractStridedSlice S1024x1024 ![0, 5120] (extf .f32 a4 bitsLt_bf16_f32) slices_S1024x6144_S1024x1024_0_5120)))))) bitsLt_bf16_f32 : FVec Ideal S8x8192x1024 .bf16) (ix3 b s n) = Ideal.logistic (proj a0 a1 a2 a4 b.val s.val (5120 + n.val)) := by
  pointwise
  exact congrArg Ideal.logistic (dotR a0 a1 a2 a4 b _ _ rfl rfl)

end Cert.InRef

end
-- ==== Proof.InBlock.lean ====
/- The projection call's arrays after the run, besides the recurrence's: each point's block written back, at the first point of
   a batch and at the others alike, is the same function of the argument arrays. -/
module

public import proofs.«01_k».proof.Proof.InPay
public import proofs.«01_k».proof.Proof.Gen.Kernel4Ideal.Value
public import Idealize.ShloMosaic.Lib.Pipeline.ValueKit

@[expose] public section

noncomputable section

namespace Cert.InBlock

open Cert.Kernel4Ideal Cert.Kernel4Ideal.Gen Cert.InRow Cert.InPay Idealize.ShloMosaic Idealize.ShloMosaic.TcCoe Idealize.SL.Sem
open Idealize.ShloMosaic.Pipeline (Dat)

/-- The index maps at point `t`: batch `t / 16`, token tile `t % 16`. -/
def Ix (t : Fin cfg0.N) : Prop :=
  (win0_0.index t 0 = t.val / 16 ∧ win0_0.index t 1 = t.val % 16 ∧ win0_0.index t 2 = 0) ∧ (win0_1.index t 0 = t.val / 16 ∧ win0_1.index t 1 =
    0 ∧ win0_1.index t 2 = 0) ∧ (win0_2.index t 0 = 0 ∧ win0_2.index t 1 = 0) ∧ (win0_4.index t 0 = 0 ∧ win0_4.index t 1 = 0) ∧ (win0_9.index t
    0 = t.val / 16 ∧ win0_9.index t 1 = t.val % 16 ∧ win0_9.index t 2 = 0 ∧ win0_9.index t 3 = 0) ∧ (win0_10.index t 0 = t.val / 16 ∧
    win0_10.index t 1 = t.val % 16 ∧ win0_10.index t 2 = 0) ∧ (win0_11.index t 0 = t.val / 16 ∧ win0_11.index t 1 = t.val % 16 ∧ win0_11.index t
    2 = 0 ∧ win0_11.index t 3 = 0) ∧ (win0_12.index t 0 = t.val / 16 ∧ win0_12.index t 1 = t.val % 16 ∧ win0_12.index t 2 = 0) ∧ (win0_13.index
    t 0 = t.val / 16 ∧ win0_13.index t 1 = t.val % 16 ∧ win0_13.index t 2 = 0) ∧ (win0_14.index t 0 = t.val / 16 ∧ win0_14.index t 1 = t.val %
    16 ∧ win0_14.index t 2 = 0)

theorem idx (t : Fin cfg0.N) : Ix t := (by unfold Ix; decide +kernel : ∀ t : Fin grid0.N, Ix t) t

variable (m : (ℓ : Loc nD τ sig) → Buf (Elt Ideal) ℓ) (c : Dev nD)

/-- The projection of the argument arrays. -/
def Q (b s n : ℕ) : EReal := proj (m ((c : Thread nD τ).loc main_arg0)) (m ((c : Thread nD τ).loc main_arg1))
  (m ((c : Thread nD τ).loc main_arg2)) (m ((c : Thread nD τ).loc main_arg4)) b s n

theorem ld {s : Shape} {e : EltTy} {M : Memref sig .tc .vmem s e} (h : M.IsWhole) (x : Vec Ideal s e) (R : Rect s) (y : R.shape.Idx) :
    M.view.readAt (Elt Ideal) R.toLoadRect (h.unread x) y = x (R.emb y) := by
  rw [View.readAt_apply, h.read_unread]
  rfl

section Row
variable (t : Fin cfg0.N) {M0 : Memref sig .tc .vmem S1x512x1024 .f32} (h0 : M0.IsWhole) {M1 : Memref sig .tc .vmem S1x3x1024 .f32} (h1 : M1.IsWhole)
  {M2 : Memref sig .tc .vmem S1x1024 .f32} (h2 : M2.IsWhole) {M4 : Memref sig .tc .vmem S1024x6144 .bf16} (h4 : M4.IsWhole)

/-- The normed and modulated tile of a point, from its loads. -/
abbrev hB : FVec Ideal S512x1024 .bf16 :=
  k0_pay3 (F := Ideal) (M0.view.readAt (Elt Ideal) (Rect.unit (s := S1x512x1024) ![0, 0, 0] S1x512x1024.size inb_S1x512x1024_S1x512x1024_0_0_0).toLoadRect (h0.unread (iblk m c 0 t)))
    (M2.view.readAt (Elt Ideal) (Rect.unit (s := S1x1024) ![0, 0] S1x1024.size inb_S1x1024_S1x1024_0_0).toLoadRect (h2.unread (iblk m c 2 t)))
    (M1.view.readAt (Elt Ideal) (Rect.unit (s := S1x3x1024) ![0, 1, 0] S1x1x1024.size inb_S1x3x1024_S1x1x1024_0_1_0).toLoadRect (h1.unread (iblk m c 1 t)))
    (M1.view.readAt (Elt Ideal) (Rect.unit (s := S1x3x1024) ![0, 0, 0] S1x1x1024.size inb_S1x3x1024_S1x1x1024_0_0_0).toLoadRect (h1.unread (iblk m c 1 t)))

/-- A load of 512 columns of the weights. -/
abbrev wB (o : ℕ) (ho : ∀ a, ![0, o] a + S1024x512.size a ≤ S1024x6144.size a) : Vec Ideal S1024x512 .bf16 :=
  M4.view.readAt (Elt Ideal) (Rect.unit (s := S1024x6144) ![0, o] S1024x512.size ho).toLoadRect (h4.unread (iblk m c 4 t))

theorem ev (o : ℕ) (ho : ∀ a, ![0, o] a + S1024x512.size a ≤ S1024x6144.size a) (r n : Fin 512) {b s n' : ℕ} (hb : b = t.val / 16)
    (hs : s = t.val % 16 * 512 + r.val) (hn : n' = o + n.val) :
    dotp (hB m c t h0 h1 h2) (wB m c t h4 o ho) r n = Q m c b s n' := by
  have h := idx t
  unfold Ix at h
  have ht : t.val < 128 := t.isLt
  have hr := r.isLt
  have hn1 := n.isLt
  have ho1 : o + 512 ≤ 6144 := ho 1
  unfold dotp Q proj
  refine Finset.sum_congr rfl fun k _ => congrArg₂ (· * ·) ?_ ?_
  · rw [hB, pay3]
    refine congrFun (congr (congr (congrArg₂ hRow (funext fun k => ?_) (funext fun k => ?_)) (funext fun k => ?_)) (funext fun k => ?_)) k
    · refine (ld h0 _ _ _).trans (congrArg (m ((c : Thread nD τ).loc main_arg0)) (funext fun a => Fin.ext ?_))
      match a with
      | ⟨0, _⟩ => show win0_0.index t 0 * 1 + 1 * (0 + 1 * 0) = b % 8; omega
      | ⟨1, _⟩ => show win0_0.index t 1 * 512 + 1 * (0 + 1 * r.val) = s % 8192; omega
      | ⟨2, _⟩ => show win0_0.index t 2 * 1024 + 1 * (0 + 1 * k.val) = k.val; omega
    · refine (ld h2 _ _ _).trans (congrArg (m ((c : Thread nD τ).loc main_arg2)) (funext fun a => Fin.ext ?_))
      match a with
      | ⟨0, _⟩ => show win0_2.index t 0 * 1 + 1 * (0 + 1 * 0) = 0; omega
      | ⟨1, _⟩ => show win0_2.index t 1 * 1024 + 1 * (0 + 1 * k.val) = k.val; omega
    · refine (ld h1 _ _ _).trans (congrArg (m ((c : Thread nD τ).loc main_arg1)) (funext fun a => Fin.ext ?_))
      match a with
      | ⟨0, _⟩ => show win0_1.index t 0 * 1 + 1 * (0 + 1 * 0) = b % 8; omega
      | ⟨1, _⟩ => show win0_1.index t 1 * 3 + 1 * (0 + 1 * 0) = 0; omega
      | ⟨2, _⟩ => show win0_1.index t 2 * 1024 + 1 * (0 + 1 * k.val) = k.val; omega
    · refine (ld h1 _ _ _).trans (congrArg (m ((c : Thread nD τ).loc main_arg1)) (funext fun a => Fin.ext ?_))
      match a with
      | ⟨0, _⟩ => show win0_1.index t 0 * 1 + 1 * (0 + 1 * 0) = b % 8; omega
      | ⟨1, _⟩ => show win0_1.index t 1 * 3 + 1 * (1 + 1 * 0) = 1; omega
      | ⟨2, _⟩ => show win0_1.index t 2 * 1024 + 1 * (0 + 1 * k.val) = k.val; omega
  · refine (ld h4 _ _ _).trans (congrArg (m ((c : Thread nD τ).loc main_arg4)) (funext fun a => Fin.ext ?_))
    match a with
    | ⟨0, _⟩ => show win0_4.index t 0 * 1024 + 1 * (0 + 1 * k.val) = k.val; omega
    | ⟨1, _⟩ => show win0_4.index t 1 * 6144 + 1 * (o + 1 * n.val) = n' % 6144; omega

end Row

/-! The arrays. -/

def G9 : Vec Ideal S8x16x512x512 .bf16 := fun y => Q m c (y 0).val ((y 1).val * 512 + (y 3).val) (2048 + (y 2).val) * Ideal.ofBits .f32 0x3E38AA3B#32
def G10 : Vec Ideal S8x8192x512 .bf16 := fun y => Q m c (y 0).val (y 1).val (2560 + (y 2).val)
def G11 : Vec Ideal S8x32x512x256 .bf16 := fun y => Q m c (y 0).val ((y 1).val * 256 + (y 3).val) (3072 + (y 2).val)
def G12 : Vec Ideal S8x8192x512 .bf16 := fun y =>
  Q m c (y 0).val (y 1).val (3584 + (y 2).val) * Ideal.logistic (Q m c (y 0).val (y 1).val (3584 + (y 2).val))
def G13 : Vec Ideal S8x8192x1024 .bf16 := fun y => Ideal.logistic (Q m c (y 0).val (y 1).val (4096 + (y 2).val))
def G14 : Vec Ideal S8x8192x1024 .bf16 := fun y => Ideal.logistic (Q m c (y 0).val (y 1).val (5120 + (y 2).val))

theorem i3 {n2 n3 : ℕ} (x : (⟨3, ![1, n2, n3]⟩ : Shape).Idx) : x = ix3 0 (x 1) (x 2) := by
  funext a
  match a with
  | ⟨0, _⟩ => exact Fin.ext (by have : (x 0).val < 1 := (x 0).isLt; show (x 0).val = 0; omega)
  | ⟨1, _⟩ => rfl
  | ⟨2, _⟩ => rfl

theorem i4 {n2 n3 : ℕ} (x : (⟨4, ![1, 1, n2, n3]⟩ : Shape).Idx) : x = ix4 0 0 (x 2) (x 3) := by
  funext a
  match a with
  | ⟨0, _⟩ => exact Fin.ext (by have : (x 0).val < 1 := (x 0).isLt; show (x 0).val = 0; omega)
  | ⟨1, _⟩ => exact Fin.ext (by have : (x 1).val < 1 := (x 1).isLt; show (x 1).val = 0; omega)
  | ⟨2, _⟩ => rfl
  | ⟨3, _⟩ => rfl

theorem flushed9_eq (t : Fin cfg0.N) : (dats m 0 c).flushed 9 t = (win0_9.blk t).view.read (Elt Ideal) (G9 m c) := by
  have h := idx t
  unfold Ix at h
  by_cases h0 : t.val % 16 = 0
  all_goals
    first
      | (rw [Value.flushed9_A m c t h0]
         funext y
         refine View.read_writes_apply_of_pieces (v := VO0_9) (f := VO0_9.junk) (G := fun y => G9 m c ((win0_9.blk t).view.emb y)) _ ?_ y (by apply cover0_A_9))
      | (rw [Value.flushed9_B m c t h0]
         funext y
         refine View.read_writes_apply_of_pieces (v := VO0_9) (f := VO0_9.junk) (G := fun y => G9 m c ((win0_9.blk t).view.emb y)) _ ?_ y (by apply cover0_B_9))
    intro p hp x
    obtain rfl := List.mem_singleton.mp (show p ∈ [_] from hp)
    refine (congrArg _ (i4 x)).trans ((q _ _ _ _).trans (congrArg (· * _) (ev m c t _ _ _ _ _ _ _ _ ?_ ?_ ?_)))
    · show win0_9.index t 0 * 1 + 1 * (0 + 1 * (x 0).val) = _; have : (x 0).val < 1 := (x 0).isLt; omega
    · show (win0_9.index t 1 * 1 + 1 * (0 + 1 * (x 1).val)) * 512 + (win0_9.index t 3 * 512 + 1 * (0 + 1 * (x 3).val)) = _ + (x 3).val; have : (x 1).val < 1 := (x 1).isLt; omega
    · show 2048 + (win0_9.index t 2 * 512 + 1 * (0 + 1 * (x 2).val)) = 2048 + (x 2).val; omega

theorem flushed10_eq (t : Fin cfg0.N) : (dats m 0 c).flushed 10 t = (win0_10.blk t).view.read (Elt Ideal) (G10 m c) := by
  have h := idx t
  unfold Ix at h
  by_cases h0 : t.val % 16 = 0
  all_goals
    first
      | (rw [Value.flushed10_A m c t h0]
         funext y
         refine View.read_writes_apply_of_pieces (v := VO0_10) (f := VO0_10.junk) (G := fun y => G10 m c ((win0_10.blk t).view.emb y)) _ ?_ y (by apply cover0_A_10))
      | (rw [Value.flushed10_B m c t h0]
         funext y
         refine View.read_writes_apply_of_pieces (v := VO0_10) (f := VO0_10.junk) (G := fun y => G10 m c ((win0_10.blk t).view.emb y)) _ ?_ y (by apply cover0_B_10))
    intro p hp x
    obtain rfl := List.mem_singleton.mp (show p ∈ [_] from hp)
    refine (congrArg _ (i3 x)).trans ((kk _ _ _ _).trans (ev m c t _ _ _ _ _ _ _ _ ?_ ?_ ?_))
    · show win0_10.index t 0 * 1 + 1 * (0 + 1 * (x 0).val) = _; have : (x 0).val < 1 := (x 0).isLt; omega
    · show win0_10.index t 1 * 512 + 1 * (0 + 1 * (x 1).val) = _ + (x 1).val; omega
    · show 2560 + (win0_10.index t 2 * 512 + 1 * (0 + 1 * (x 2).val)) = 2560 + (x 2).val; omega

theorem flushed11_eq (t : Fin cfg0.N) : (dats m 0 c).flushed 11 t = (win0_11.blk t).view.read (Elt Ideal) (G11 m c) := by
  have h := idx t
  unfold Ix at h
  by_cases h0 : t.val % 16 = 0
  all_goals
    first
      | (rw [Value.flushed11_A m c t h0]
         funext y
         refine View.read_writes_apply_of_pieces (v := VO0_11) (f := VO0_11.junk) (G := fun y => G11 m c ((win0_11.blk t).view.emb y)) _ ?_ y (by apply cover0_A_11))
      | (rw [Value.flushed11_B m c t h0]
         funext y
         refine View.read_writes_apply_of_pieces (v := VO0_11) (f := VO0_11.junk) (G := fun y => G11 m c ((win0_11.blk t).view.emb y)) _ ?_ y (by apply cover0_B_11))
    intro p hp x
    obtain rfl | hp := List.mem_cons.mp (show p ∈ [_, _] from hp)
    · refine (congrArg _ (i4 x)).trans ((vb _ _ _ _).trans (ev m c t _ _ _ _ _ _ _ _ ?_ ?_ ?_))
      · show win0_11.index t 0 * 1 + 1 * (0 + 1 * (x 0).val) = _; have : (x 0).val < 1 := (x 0).isLt; omega
      · show (win0_11.index t 1 * 2 + 1 * (1 + 1 * (x 1).val)) * 256 + (win0_11.index t 3 * 256 + 1 * (0 + 1 * (x 3).val)) = _ + (256 + (x 3).val); have : (x 1).val < 1 := (x 1).isLt; omega
      · show 3072 + (win0_11.index t 2 * 512 + 1 * (0 + 1 * (x 2).val)) = 3072 + (x 2).val; omega
    · obtain rfl := List.mem_singleton.mp hp
      refine (congrArg _ (i4 x)).trans ((va _ _ _ _).trans (ev m c t _ _ _ _ _ _ _ _ ?_ ?_ ?_))
      · show win0_11.index t 0 * 1 + 1 * (0 + 1 * (x 0).val) = _; have : (x 0).val < 1 := (x 0).isLt; omega
      · show (win0_11.index t 1 * 2 + 1 * (0 + 1 * (x 1).val)) * 256 + (win0_11.index t 3 * 256 + 1 * (0 + 1 * (x 3).val)) = _ + (x 3).val; have : (x 1).val < 1 := (x 1).isLt; omega
      · show 3072 + (win0_11.index t 2 * 512 + 1 * (0 + 1 * (x 2).val)) = 3072 + (x 2).val; omega

theorem flushed12_eq (t : Fin cfg0.N) : (dats m 0 c).flushed 12 t = (win0_12.blk t).view.read (Elt Ideal) (G12 m c) := by
  have h := idx t
  unfold Ix at h
  by_cases h0 : t.val % 16 = 0
  all_goals
    first
      | (rw [Value.flushed12_A m c t h0]
         funext y
         refine View.read_writes_apply_of_pieces (v := VO0_12) (f := VO0_12.junk) (G := fun y => G12 m c ((win0_12.blk t).view.emb y)) _ ?_ y (by apply cover0_A_12))
      | (rw [Value.flushed12_B m c t h0]
         funext y
         refine View.read_writes_apply_of_pieces (v := VO0_12) (f := VO0_12.junk) (G := fun y => G12 m c ((win0_12.blk t).view.emb y)) _ ?_ y (by apply cover0_B_12))
    intro p hp x
    obtain rfl := List.mem_singleton.mp (show p ∈ [_] from hp)
    refine (congrArg _ (i3 x)).trans ((g _ _ _ _).trans (congrArg (fun z => z * Ideal.logistic z) (ev m c t _ _ _ _ _ _ _ _ ?_ ?_ ?_)))
    · show win0_12.index t 0 * 1 + 1 * (0 + 1 * (x 0).val) = _; have : (x 0).val < 1 := (x 0).isLt; omega
    · show win0_12.index t 1 * 512 + 1 * (0 + 1 * (x 1).val) = _ + (x 1).val; omega
    · show 3584 + (win0_12.index t 2 * 512 + 1 * (0 + 1 * (x 2).val)) = 3584 + (x 2).val; omega

theorem flushed13_eq (t : Fin cfg0.N) : (dats m 0 c).flushed 13 t = (win0_13.blk t).view.read (Elt Ideal) (G13 m c) := by
  have h := idx t
  unfold Ix at h
  by_cases h0 : t.val % 16 = 0
  all_goals
    first
      | (rw [Value.flushed13_A m c t h0]
         funext y
         refine View.read_writes_apply_of_pieces (v := VO0_13) (f := VO0_13.junk) (G := fun y => G13 m c ((win0_13.blk t).view.emb y)) _ ?_ y (by apply cover0_A_13))
      | (rw [Value.flushed13_B m c t h0]
         funext y
         refine View.read_writes_apply_of_pieces (v := VO0_13) (f := VO0_13.junk) (G := fun y => G13 m c ((win0_13.blk t).view.emb y)) _ ?_ y (by apply cover0_B_13))
    intro p hp x
    obtain rfl | hp := List.mem_cons.mp (show p ∈ [_, _] from hp)
    · refine (congrArg _ (i3 x)).trans ((mb _ _ _ _).trans (congrArg Ideal.logistic (ev m c t _ _ _ _ _ _ _ _ ?_ ?_ ?_)))
      · show win0_13.index t 0 * 1 + 1 * (0 + 1 * (x 0).val) = _; have : (x 0).val < 1 := (x 0).isLt; omega
      · show win0_13.index t 1 * 512 + 1 * (0 + 1 * (x 1).val) = _ + (x 1).val; omega
      · show 4096 + (win0_13.index t 2 * 1024 + 1 * (512 + 1 * (x 2).val)) = 4608 + (x 2).val; omega
    · obtain rfl := List.mem_singleton.mp hp
      refine (congrArg _ (i3 x)).trans ((ma _ _ _ _).trans (congrArg Ideal.logistic (ev m c t _ _ _ _ _ _ _ _ ?_ ?_ ?_)))
      · show win0_13.index t 0 * 1 + 1 * (0 + 1 * (x 0).val) = _; have : (x 0).val < 1 := (x 0).isLt; omega
      · show win0_13.index t 1 * 512 + 1 * (0 + 1 * (x 1).val) = _ + (x 1).val; omega
      · show 4096 + (win0_13.index t 2 * 1024 + 1 * (0 + 1 * (x 2).val)) = 4096 + (x 2).val; omega

theorem flushed14_eq (t : Fin cfg0.N) : (dats m 0 c).flushed 14 t = (win0_14.blk t).view.read (Elt Ideal) (G14 m c) := by
  have h := idx t
  unfold Ix at h
  by_cases h0 : t.val % 16 = 0
  all_goals
    first
      | (rw [Value.flushed14_A m c t h0]
         funext y
         refine View.read_writes_apply_of_pieces (v := VO0_14) (f := VO0_14.junk) (G := fun y => G14 m c ((win0_14.blk t).view.emb y)) _ ?_ y (by apply cover0_A_14))
      | (rw [Value.flushed14_B m c t h0]
         funext y
         refine View.read_writes_apply_of_pieces (v := VO0_14) (f := VO0_14.junk) (G := fun y => G14 m c ((win0_14.blk t).view.emb y)) _ ?_ y (by apply cover0_B_14))
    intro p hp x
    obtain rfl | hp := List.mem_cons.mp (show p ∈ [_, _] from hp)
    · refine (congrArg _ (i3 x)).trans ((md _ _ _ _).trans (congrArg Ideal.logistic (ev m c t _ _ _ _ _ _ _ _ ?_ ?_ ?_)))
      · show win0_14.index t 0 * 1 + 1 * (0 + 1 * (x 0).val) = _; have : (x 0).val < 1 := (x 0).isLt; omega
      · show win0_14.index t 1 * 512 + 1 * (0 + 1 * (x 1).val) = _ + (x 1).val; omega
      · show 5120 + (win0_14.index t 2 * 1024 + 1 * (512 + 1 * (x 2).val)) = 5632 + (x 2).val; omega
    · obtain rfl := List.mem_singleton.mp hp
      refine (congrArg _ (i3 x)).trans ((mc _ _ _ _).trans (congrArg Ideal.logistic (ev m c t _ _ _ _ _ _ _ _ ?_ ?_ ?_)))
      · show win0_14.index t 0 * 1 + 1 * (0 + 1 * (x 0).val) = _; have : (x 0).val < 1 := (x 0).isLt; omega
      · show win0_14.index t 1 * 512 + 1 * (0 + 1 * (x 1).val) = _ + (x 1).val; omega
      · show 5120 + (win0_14.index t 2 * 1024 + 1 * (0 + 1 * (x 2).val)) = 5120 + (x 2).val; omega

/-! Every index of each array is in a written block. -/

theorem cover9 (i : S8x16x512x512.Idx) : ∃ t : Fin cfg0.N, (cfg0.win 9).flush t = true ∧ i ∈ ((cfg0.win 9).blk t).view.set := by
  have h0 : (i 0).val < 8 := (i 0).isLt
  have h1 : (i 1).val < 16 := (i 1).isLt
  have h2 : (i 2).val < 512 := (i 2).isLt
  have h3 : (i 3).val < 512 := (i 3).isLt
  have hN : cfg0.N = 128 := N_0
  let t : Fin cfg0.N := ⟨(i 0).val * 16 + (i 1).val, by omega⟩
  have ht : t.val = (i 0).val * 16 + (i 1).val := rfl
  have h := idx t
  unfold Ix at h
  refine ⟨t, flush0_9 t, ?_⟩
  show i ∈ ((View.whole main_v0_1).slice (win0_9.rect t)).set
  rw [View.set_slice_whole, Rect.mem_set_unit]
  intro a
  match a with
  | ⟨0, _⟩ => show win0_9.index t 0 * 1 ≤ (i 0).val ∧ (i 0).val < win0_9.index t 0 * 1 + 1; omega
  | ⟨1, _⟩ => show win0_9.index t 1 * 1 ≤ (i 1).val ∧ (i 1).val < win0_9.index t 1 * 1 + 1; omega
  | ⟨2, _⟩ => show win0_9.index t 2 * 512 ≤ (i 2).val ∧ (i 2).val < win0_9.index t 2 * 512 + 512; omega
  | ⟨3, _⟩ => show win0_9.index t 3 * 512 ≤ (i 3).val ∧ (i 3).val < win0_9.index t 3 * 512 + 512; omega

theorem cover10 (i : S8x8192x512.Idx) : ∃ t : Fin cfg0.N, (cfg0.win 10).flush t = true ∧ i ∈ ((cfg0.win 10).blk t).view.set := by
  have h0 : (i 0).val < 8 := (i 0).isLt
  have h1 : (i 1).val < 8192 := (i 1).isLt
  have h2 : (i 2).val < 512 := (i 2).isLt
  have hN : cfg0.N = 128 := N_0
  let t : Fin cfg0.N := ⟨(i 0).val * 16 + (i 1).val / 512, by omega⟩
  have ht : t.val = (i 0).val * 16 + (i 1).val / 512 := rfl
  have h := idx t
  unfold Ix at h
  refine ⟨t, flush0_10 t, ?_⟩
  show i ∈ ((View.whole main_v0_2).slice (win0_10.rect t)).set
  rw [View.set_slice_whole, Rect.mem_set_unit]
  intro a
  match a with
  | ⟨0, _⟩ => show win0_10.index t 0 * 1 ≤ (i 0).val ∧ (i 0).val < win0_10.index t 0 * 1 + 1; omega
  | ⟨1, _⟩ => show win0_10.index t 1 * 512 ≤ (i 1).val ∧ (i 1).val < win0_10.index t 1 * 512 + 512; omega
  | ⟨2, _⟩ => show win0_10.index t 2 * 512 ≤ (i 2).val ∧ (i 2).val < win0_10.index t 2 * 512 + 512; omega

theorem cover11 (i : S8x32x512x256.Idx) : ∃ t : Fin cfg0.N, (cfg0.win 11).flush t = true ∧ i ∈ ((cfg0.win 11).blk t).view.set := by
  have h0 : (i 0).val < 8 := (i 0).isLt
  have h1 : (i 1).val < 32 := (i 1).isLt
  have h2 : (i 2).val < 512 := (i 2).isLt
  have h3 : (i 3).val < 256 := (i 3).isLt
  have hN : cfg0.N = 128 := N_0
  let t : Fin cfg0.N := ⟨(i 0).val * 16 + (i 1).val / 2, by omega⟩
  have ht : t.val = (i 0).val * 16 + (i 1).val / 2 := rfl
  have h := idx t
  unfold Ix at h
  refine ⟨t, flush0_11 t, ?_⟩
  show i ∈ ((View.whole main_v0_3).slice (win0_11.rect t)).set
  rw [View.set_slice_whole, Rect.mem_set_unit]
  intro a
  match a with
  | ⟨0, _⟩ => show win0_11.index t 0 * 1 ≤ (i 0).val ∧ (i 0).val < win0_11.index t 0 * 1 + 1; omega
  | ⟨1, _⟩ => show win0_11.index t 1 * 2 ≤ (i 1).val ∧ (i 1).val < win0_11.index t 1 * 2 + 2; omega
  | ⟨2, _⟩ => show win0_11.index t 2 * 512 ≤ (i 2).val ∧ (i 2).val < win0_11.index t 2 * 512 + 512; omega
  | ⟨3, _⟩ => show win0_11.index t 3 * 256 ≤ (i 3).val ∧ (i 3).val < win0_11.index t 3 * 256 + 256; omega

theorem cover12 (i : S8x8192x512.Idx) : ∃ t : Fin cfg0.N, (cfg0.win 12).flush t = true ∧ i ∈ ((cfg0.win 12).blk t).view.set := by
  have h0 : (i 0).val < 8 := (i 0).isLt
  have h1 : (i 1).val < 8192 := (i 1).isLt
  have h2 : (i 2).val < 512 := (i 2).isLt
  have hN : cfg0.N = 128 := N_0
  let t : Fin cfg0.N := ⟨(i 0).val * 16 + (i 1).val / 512, by omega⟩
  have ht : t.val = (i 0).val * 16 + (i 1).val / 512 := rfl
  have h := idx t
  unfold Ix at h
  refine ⟨t, flush0_12 t, ?_⟩
  show i ∈ ((View.whole main_v0_4).slice (win0_12.rect t)).set
  rw [View.set_slice_whole, Rect.mem_set_unit]
  intro a
  match a with
  | ⟨0, _⟩ => show win0_12.index t 0 * 1 ≤ (i 0).val ∧ (i 0).val < win0_12.index t 0 * 1 + 1; omega
  | ⟨1, _⟩ => show win0_12.index t 1 * 512 ≤ (i 1).val ∧ (i 1).val < win0_12.index t 1 * 512 + 512; omega
  | ⟨2, _⟩ => show win0_12.index t 2 * 512 ≤ (i 2).val ∧ (i 2).val < win0_12.index t 2 * 512 + 512; omega

theorem cover13 (i : S8x8192x1024.Idx) : ∃ t : Fin cfg0.N, (cfg0.win 13).flush t = true ∧ i ∈ ((cfg0.win 13).blk t).view.set := by
  have h0 : (i 0).val < 8 := (i 0).isLt
  have h1 : (i 1).val < 8192 := (i 1).isLt
  have h2 : (i 2).val < 1024 := (i 2).isLt
  have hN : cfg0.N = 128 := N_0
  let t : Fin cfg0.N := ⟨(i 0).val * 16 + (i 1).val / 512, by omega⟩
  have ht : t.val = (i 0).val * 16 + (i 1).val / 512 := rfl
  have h := idx t
  unfold Ix at h
  refine ⟨t, flush0_13 t, ?_⟩
  show i ∈ ((View.whole main_v0_5).slice (win0_13.rect t)).set
  rw [View.set_slice_whole, Rect.mem_set_unit]
  intro a
  match a with
  | ⟨0, _⟩ => show win0_13.index t 0 * 1 ≤ (i 0).val ∧ (i 0).val < win0_13.index t 0 * 1 + 1; omega
  | ⟨1, _⟩ => show win0_13.index t 1 * 512 ≤ (i 1).val ∧ (i 1).val < win0_13.index t 1 * 512 + 512; omega
  | ⟨2, _⟩ => show win0_13.index t 2 * 1024 ≤ (i 2).val ∧ (i 2).val < win0_13.index t 2 * 1024 + 1024; omega

theorem cover14 (i : S8x8192x1024.Idx) : ∃ t : Fin cfg0.N, (cfg0.win 14).flush t = true ∧ i ∈ ((cfg0.win 14).blk t).view.set := by
  have h0 : (i 0).val < 8 := (i 0).isLt
  have h1 : (i 1).val < 8192 := (i 1).isLt
  have h2 : (i 2).val < 1024 := (i 2).isLt
  have hN : cfg0.N = 128 := N_0
  let t : Fin cfg0.N := ⟨(i 0).val * 16 + (i 1).val / 512, by omega⟩
  have ht : t.val = (i 0).val * 16 + (i 1).val / 512 := rfl
  have h := idx t
  unfold Ix at h
  refine ⟨t, flush0_14 t, ?_⟩
  show i ∈ ((View.whole main_v0_6).slice (win0_14.rect t)).set
  rw [View.set_slice_whole, Rect.mem_set_unit]
  intro a
  match a with
  | ⟨0, _⟩ => show win0_14.index t 0 * 1 ≤ (i 0).val ∧ (i 0).val < win0_14.index t 0 * 1 + 1; omega
  | ⟨1, _⟩ => show win0_14.index t 1 * 512 ≤ (i 1).val ∧ (i 1).val < win0_14.index t 1 * 512 + 512; omega
  | ⟨2, _⟩ => show win0_14.index t 2 * 1024 ≤ (i 2).val ∧ (i 2).val < win0_14.index t 2 * 1024 + 1024; omega

theorem final9 : (dats m 0 c).arrAt 9 cfg0.N = G9 m c := (dats m 0 c).arrAt_eq_of_cover 9 (G9 m c) (fun t _ => flushed9_eq m c t) cover9
theorem final10 : (dats m 0 c).arrAt 10 cfg0.N = G10 m c := (dats m 0 c).arrAt_eq_of_cover 10 (G10 m c) (fun t _ => flushed10_eq m c t) cover10
theorem final11 : (dats m 0 c).arrAt 11 cfg0.N = G11 m c := (dats m 0 c).arrAt_eq_of_cover 11 (G11 m c) (fun t _ => flushed11_eq m c t) cover11
theorem final12 : (dats m 0 c).arrAt 12 cfg0.N = G12 m c := (dats m 0 c).arrAt_eq_of_cover 12 (G12 m c) (fun t _ => flushed12_eq m c t) cover12
theorem final13 : (dats m 0 c).arrAt 13 cfg0.N = G13 m c := (dats m 0 c).arrAt_eq_of_cover 13 (G13 m c) (fun t _ => flushed13_eq m c t) cover13
theorem final14 : (dats m 0 c).arrAt 14 cfg0.N = G14 m c := (dats m 0 c).arrAt_eq_of_cover 14 (G14 m c) (fun t _ => flushed14_eq m c t) cover14

end Cert.InBlock

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameKernel
public import proofs.«01_k».proof.Proof.AttVal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.OutBlock
public import proofs.«01_k».proof.Proof.OutRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.PrepBlock
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.InBlock
public import Idealize.ShloMosaic.Adequacy
public import Idealize.ShloMosaic.Init

@[expose] public section

noncomputable section

namespace Cert.Proof

open Idealize.ShloMosaic Idealize.SL.Sem Cert.Kernel2

/-- The two frames of the output projection, generated. -/
theorem frame_k2 : Cert.quiescent_Kernel2 := fun m ρ _ => Cert.Kernel2.Gen.frame m ρ
theorem frame_k2i : Cert.quiescent_Kernel2Ideal := fun m ρ _ => Cert.Kernel2Ideal.Gen.frame m ρ
/-- The reference's run read at the arguments; it declares no semaphore. -/
theorem frame_r2i : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The reference's result is the kernel's function of arguments that agree. -/
theorem out_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)

    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Reference2Ideal.Value.res_main_v41 (F := Ideal) m' c = Cert.OutBlock.G m c := by
  funext y
  have e : y = ix3 (y 0 : Fin 8) (y 1 : Fin 8192) (y 2 : Fin 1024) := by
    funext a
    match a with
    | ⟨0, _⟩ => rfl
    | ⟨1, _⟩ => rfl
    | ⟨2, _⟩ => rfl
  refine (congrArg _ e).trans ((Cert.OutRef.res_apply m' c (y 0) (y 1) (y 2)).trans ?_)
  rw [h0, h1, h2, h3, h4, h5, h6, h7, h8, h9, h10, h11]
  rfl

/-- The output projection computes its reference. -/
theorem alg2 : Cert.algebraic_Kernel2Ideal_Reference2Ideal := by
  intro m ρ m' ρ' _ hagree
  refine ⟨fun c => Cert.OutBlock.G m c, ?_, ?_⟩
  · exact (θ_run Cert.Kernel2Ideal.defs _ _).mono (fun _ h c => ⟨(h c).1.trans (Cert.OutBlock.final_o m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7, h8, h9, h10, h11⟩ := hagree c
    exact out_agree m m' c h0 h1 h2 h3 h4 h5 h6 h7 h8 h9 h10 h11

/-! ## The differential attention -/

/-- The precondition's shape facts. -/
theorem pre_facts : Cert.Pre_finite_args.Facts where
  bcast_S_S1 := by decide
  bitsLt_bf16_f32 := by decide
  bcast_S_S8x16x512x512 := by decide
  bcast_S_S8x8192x512 := by decide
  bcast_S_S8x32x512x256 := by decide

theorem frame_k : Cert.quiescent_Kernel := fun m ρ _ => Cert.Kernel.Att.frame m ρ
theorem frame_ki : Cert.quiescent_KernelIdeal := fun m ρ _ =>
  (θ_run Cert.KernelIdeal.defs _ _).mono (fun _ h => And.intro (fun c => (h.1 c).2) h.2) (Cert.KernelIdeal.Att.run_G (F := Ideal) m ρ)
theorem frame_ki_pre : Cert.quiescent_KernelIdeal_pre_finite_args (hPre_finite_args := pre_facts) := fun m ρ _ =>
  (θ_run Cert.KernelIdeal.defs _ _).mono (fun _ h => And.intro (fun c => (h.1 c).2) h.2) (Cert.KernelIdeal.Att.run_G (F := Ideal) m ρ)
theorem frame_ri : Cert.quiescent_ReferenceIdeal := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)
theorem frame_ri_pre : Cert.quiescent_ReferenceIdeal_pre_finite_args (hPre_finite_args := pre_facts) := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- At finite arguments the attention computes its reference. -/
theorem alg1 : Cert.algebraic_KernelIdeal_ReferenceIdeal_pre_finite_args (hPre_finite_args := pre_facts) := by
  intro m ρ m' ρ' hpre hagree
  refine ⟨fun c => Cert.KernelIdeal.Att.G (F := Ideal) m c, ?_, ?_⟩
  · exact (θ_run Cert.KernelIdeal.defs _ _).mono (fun _ h c => h.1 c) (Cert.KernelIdeal.Att.run_G (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hagree c
    obtain ⟨f0, f1, f2, f3⟩ := hpre c
    have r0 := Cert.KernelIdeal.Att.real_of_lt _ (congrFun f0 (ix1 (0 : Fin 1)))
    have r1 := fun j => Cert.KernelIdeal.Att.real_of_lt _ (congrFun f1 j)
    have r2 := fun j => Cert.KernelIdeal.Att.real_of_lt _ (congrFun f2 j)
    have r3 := fun j => Cert.KernelIdeal.Att.real_of_lt _ (congrFun f3 j)
    obtain ⟨lam, hl⟩ := r0
    choose A1 hA1 using r1
    choose A2 hA2 using r2
    choose A3 hA3 using r3
    refine Eq.trans ?_ (Cert.KernelIdeal.Att.G_eq_real m c lam A1 A2 A3 hA1 hA2 hA3 hl).symm
    refine (Cert.AttRef.res_eq m' c).trans ?_
    rw [h0, h1, h2, h3]

/-! ## The preparation call -/

theorem frame_k3 : Cert.quiescent_Kernel3 := fun m ρ _ => Cert.Kernel3.Gen.frame m ρ
theorem frame_k3i : Cert.quiescent_Kernel3Ideal := fun m ρ _ => Cert.Kernel3Ideal.Gen.frame m ρ
theorem frame_r3i : Cert.quiescent_Reference3Ideal := fun m ρ _ =>
  (θ_run Cert.Reference3Ideal.defs _ _).mono (fun r h => And.intro (fun c => (h c).2.2.2)
      (Idealize.ShloMosaic.sem_eq_zero_of_no_sems (by decide) r.2))
    (Cert.Reference3Ideal.Value.run (F := Ideal) m ρ)

/-- The preparation call computes its reference. -/
theorem alg3 : Cert.algebraic_Kernel3Ideal_Reference3Ideal := by
  intro m ρ m' ρ' _ hagree
  refine ⟨fun c => Cert.PrepBlock.G8 m c, fun c => Cert.PrepBlock.G9 m c, fun c => Cert.PrepBlock.G10 m c, ?_, ?_⟩
  · exact (θ_run Cert.Kernel3Ideal.defs _ _).mono (fun _ h c => ⟨(h c).1.trans (Cert.PrepBlock.final8 m c), (h c).2.1.trans (Cert.PrepBlock.final9 m c),
        (h c).2.2.1.trans (Cert.PrepBlock.final10 m c), (h c).2.2.2⟩)
      (Cert.Kernel3Ideal.Value.run_blocks (F := Ideal) m ρ)
  · refine (θ_run Cert.Reference3Ideal.defs _ _).mono (fun _ h c => ⟨(h c).1.trans ?_, (h c).2.1.trans ?_, (h c).2.2.1.trans ?_, (h c).2.2.2⟩)
      (Cert.Reference3Ideal.Value.run (F := Ideal) m' ρ')
    all_goals obtain ⟨h0, h1, h2, h3, h4, h5, h6, h7⟩ := hagree c
    · rw [h0, h1, h2]
      funext y
      exact (congrArg _ (Cert.PrepBlock.idx2 (n0 := 8) (n1 := 3072) y)).trans (Cert.PrepRef.ref0 _ _ _ (y 0) (y 1))
    · rw [h3]
      funext y
      exact (congrArg _ (Cert.PrepBlock.idx2 (n0 := 2) (n1 := 512) y)).trans (Cert.PrepRef.ref1 _ (y 0) (y 1))
    · rw [h4, h5, h6, h7]
      funext y
      have e : y = ix2 (0 : Fin 1) (y 1 : Fin 128) := by
        funext a
        match a with
        | ⟨0, _⟩ => exact Fin.ext (by have : (y 0).val < 1 := (y 0).isLt; show (y 0).val = 0; omega)
        | ⟨1, _⟩ => rfl
      exact (congrArg _ e).trans (Cert.PrepRef.ref2 _ _ _ _ (y 1))

/-! ## The projection call -/

theorem frame_k4 : Cert.quiescent_Kernel4 := fun m ρ _ => Cert.Kernel4.Gen.frame m ρ
theorem frame_k4i : Cert.quiescent_Kernel4Ideal := fun m ρ _ => Cert.Kernel4Ideal.Gen.frame m ρ
theorem frame_r4i : Cert.quiescent_Reference4Ideal := fun m ρ _ =>
  (θ_run Cert.Reference4Ideal.defs _ _).mono (fun r h => And.intro (fun c => (h c).2.2.2.2.2.2)
      (Idealize.ShloMosaic.sem_eq_zero_of_no_sems (by decide) r.2))
    (Cert.Reference4Ideal.Value.run (F := Ideal) m ρ)

theorem idx3 {n0 n1 n2 : Nat} (y : (⟨3, ![n0, n1, n2]⟩ : Shape).Idx) : y = ix3 (y 0) (y 1) (y 2) := by
  funext a
  match a with
  | ⟨0, _⟩ => rfl
  | ⟨1, _⟩ => rfl
  | ⟨2, _⟩ => rfl

theorem idx4 {n0 n1 n2 n3 : Nat} (y : (⟨4, ![n0, n1, n2, n3]⟩ : Shape).Idx) : y = ix4 (y 0) (y 1) (y 2) (y 3) := by
  funext a
  match a with
  | ⟨0, _⟩ => rfl
  | ⟨1, _⟩ => rfl
  | ⟨2, _⟩ => rfl
  | ⟨3, _⟩ => rfl

/-- The projection call computes its reference. -/
theorem alg4 : Cert.algebraic_Kernel4Ideal_Reference4Ideal := by
  intro m ρ m' ρ' _ hagree
  refine ⟨fun c => Cert.InBlock.G9 m c, fun c => Cert.InBlock.G10 m c, fun c => Cert.InBlock.G11 m c, fun c => Cert.InBlock.G12 m c,
    fun c => Cert.InBlock.G13 m c, fun c => Cert.InBlock.G14 m c, ?_, ?_⟩
  · exact (θ_run Cert.Kernel4Ideal.defs _ _).mono (fun _ h c => ⟨(h c).2.1.trans (Cert.InBlock.final9 m c), (h c).2.2.1.trans (Cert.InBlock.final10 m c),
        (h c).2.2.2.1.trans (Cert.InBlock.final11 m c), (h c).2.2.2.2.1.trans (Cert.InBlock.final12 m c),
        (h c).2.2.2.2.2.1.trans (Cert.InBlock.final13 m c), (h c).2.2.2.2.2.2.1.trans (Cert.InBlock.final14 m c), (h c).2.2.2.2.2.2.2⟩)
      (Cert.Kernel4Ideal.Value.run_blocks (F := Ideal) m ρ)
  · refine (θ_run Cert.Reference4Ideal.defs _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.Reference4Ideal.Value.run (F := Ideal) m' ρ')
    all_goals
      obtain ⟨h0, h1, h2, h3, h4, h5⟩ := hagree c
      rw [h0, h1, h2, h4]
      funext y
    · exact (congrArg _ (idx4 y)).trans (Cert.InRef.ref9 _ _ _ _ (y 0) (y 1) (y 2) (y 3))
    · exact (congrArg _ (idx3 y)).trans (Cert.InRef.ref10 _ _ _ _ (y 0) (y 1) (y 2))
    · exact (congrArg _ (idx4 y)).trans (Cert.InRef.ref11 _ _ _ _ (y 0) (y 1) (y 2) (y 3))
    · exact (congrArg _ (idx3 y)).trans (Cert.InRef.ref12 _ _ _ _ (y 0) (y 1) (y 2))
    · exact (congrArg _ (idx3 y)).trans (Cert.InRef.ref13 _ _ _ _ (y 0) (y 1) (y 2))
    · exact (congrArg _ (idx3 y)).trans (Cert.InRef.ref14 _ _ _ _ (y 0) (y 1) (y 2))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, pre_facts,
  frame_k, frame_ki, frame_ki_pre, frame_ri, frame_ri_pre, frame_k2, frame_k2i, frame_r2i, frame_k3, frame_k3i, frame_r3i,
  frame_k4, frame_k4i, frame_r4i, trivial, alg1, trivial, alg2, trivial, alg3, trivial, alg4⟩

end Cert.Proof

end
